-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_BwdOutKernel (m : (ℓ : Loc Cert.BwdOutKernel.nD Cert.BwdOutKernel.τ Cert.BwdOutKernel.sig) → Buf (Elt Bits) ℓ) : Prop :=
  True

def Pre_BwdOutKernelIdeal (m : (ℓ : Loc Cert.BwdOutKernelIdeal.nD Cert.BwdOutKernelIdeal.τ Cert.BwdOutKernelIdeal.sig) → Buf (Elt Ideal) ℓ) : Prop :=
  True

def Pre_BwdOutKernelIdeal_finite [hPre_finite : Cert.Pre_finite.Facts] (m : (ℓ : Loc Cert.BwdOutKernelIdeal.nD Cert.BwdOutKernelIdeal.τ Cert.BwdOutKernelIdeal.sig) → Buf (Elt Ideal) ℓ) : Prop :=
  ∀ c : Dev Cert.BwdOutKernelIdeal.nD,
    (Cert.Pre_finite.fn (F := Ideal) (m ((c.tc : Thread Cert.BwdOutKernelIdeal.nD Cert.BwdOutKernelIdeal.τ).loc Cert.BwdOutKernelIdeal.main_arg0)) (m ((c.tc : Thread Cert.BwdOutKernelIdeal.nD Cert.BwdOutKernelIdeal.τ).loc Cert.BwdOutKernelIdeal.main_arg1)) (m ((c.tc : Thread Cert.BwdOutKernelIdeal.nD Cert.BwdOutKernelIdeal.τ).loc Cert.BwdOutKernelIdeal.main_arg2)) (m ((c.tc : Thread Cert.BwdOutKernelIdeal.nD Cert.BwdOutKernelIdeal.τ).loc Cert.BwdOutKernelIdeal.main_arg3))).1 = (fun _ => 1#1)
    ∧ (Cert.Pre_finite.fn (F := Ideal) (m ((c.tc : Thread Cert.BwdOutKernelIdeal.nD Cert.BwdOutKernelIdeal.τ).loc Cert.BwdOutKernelIdeal.main_arg0)) (m ((c.tc : Thread Cert.BwdOutKernelIdeal.nD Cert.BwdOutKernelIdeal.τ).loc Cert.BwdOutKernelIdeal.main_arg1)) (m ((c.tc : Thread Cert.BwdOutKernelIdeal.nD Cert.BwdOutKernelIdeal.τ).loc Cert.BwdOutKernelIdeal.main_arg2)) (m ((c.tc : Thread Cert.BwdOutKernelIdeal.nD Cert.BwdOutKernelIdeal.τ).loc Cert.BwdOutKernelIdeal.main_arg3))).2.1 = (fun _ => 1#1)
    ∧ (Cert.Pre_finite.fn (F := Ideal) (m ((c.tc : Thread Cert.BwdOutKernelIdeal.nD Cert.BwdOutKernelIdeal.τ).loc Cert.BwdOutKernelIdeal.main_arg0)) (m ((c.tc : Thread Cert.BwdOutKernelIdeal.nD Cert.BwdOutKernelIdeal.τ).loc Cert.BwdOutKernelIdeal.main_arg1)) (m ((c.tc : Thread Cert.BwdOutKernelIdeal.nD Cert.BwdOutKernelIdeal.τ).loc Cert.BwdOutKernelIdeal.main_arg2)) (m ((c.tc : Thread Cert.BwdOutKernelIdeal.nD Cert.BwdOutKernelIdeal.τ).loc Cert.BwdOutKernelIdeal.main_arg3))).2.2.1 = (fun _ => 1#1)
    ∧ (Cert.Pre_finite.fn (F := Ideal) (m ((c.tc : Thread Cert.BwdOutKernelIdeal.nD Cert.BwdOutKernelIdeal.τ).loc Cert.BwdOutKernelIdeal.main_arg0)) (m ((c.tc : Thread Cert.BwdOutKernelIdeal.nD Cert.BwdOutKernelIdeal.τ).loc Cert.BwdOutKernelIdeal.main_arg1)) (m ((c.tc : Thread Cert.BwdOutKernelIdeal.nD Cert.BwdOutKernelIdeal.τ).loc Cert.BwdOutKernelIdeal.main_arg2)) (m ((c.tc : Thread Cert.BwdOutKernelIdeal.nD Cert.BwdOutKernelIdeal.τ).loc Cert.BwdOutKernelIdeal.main_arg3))).2.2.2 = (fun _ => 1#1)

def Pre_BwdOutReferenceIdeal (m : (ℓ : Loc Cert.BwdOutReferenceIdeal.nD Cert.BwdOutReferenceIdeal.τ Cert.BwdOutReferenceIdeal.sig) → Buf (Elt Ideal) ℓ) : Prop :=
  True

def Pre_BwdOutReferenceIdeal_finite [hPre_finite : Cert.Pre_finite.Facts] (m : (ℓ : Loc Cert.BwdOutReferenceIdeal.nD Cert.BwdOutReferenceIdeal.τ Cert.BwdOutReferenceIdeal.sig) → Buf (Elt Ideal) ℓ) : Prop :=
  ∀ c : Dev Cert.BwdOutReferenceIdeal.nD,
    (Cert.Pre_finite.fn (F := Ideal) (m ((c.tc : Thread Cert.BwdOutReferenceIdeal.nD Cert.BwdOutReferenceIdeal.τ).loc Cert.BwdOutReferenceIdeal.main_arg0)) (m ((c.tc : Thread Cert.BwdOutReferenceIdeal.nD Cert.BwdOutReferenceIdeal.τ).loc Cert.BwdOutReferenceIdeal.main_arg1)) (m ((c.tc : Thread Cert.BwdOutReferenceIdeal.nD Cert.BwdOutReferenceIdeal.τ).loc Cert.BwdOutReferenceIdeal.main_arg2)) (m ((c.tc : Thread Cert.BwdOutReferenceIdeal.nD Cert.BwdOutReferenceIdeal.τ).loc Cert.BwdOutReferenceIdeal.main_arg3))).1 = (fun _ => 1#1)
    ∧ (Cert.Pre_finite.fn (F := Ideal) (m ((c.tc : Thread Cert.BwdOutReferenceIdeal.nD Cert.BwdOutReferenceIdeal.τ).loc Cert.BwdOutReferenceIdeal.main_arg0)) (m ((c.tc : Thread Cert.BwdOutReferenceIdeal.nD Cert.BwdOutReferenceIdeal.τ).loc Cert.BwdOutReferenceIdeal.main_arg1)) (m ((c.tc : Thread Cert.BwdOutReferenceIdeal.nD Cert.BwdOutReferenceIdeal.τ).loc Cert.BwdOutReferenceIdeal.main_arg2)) (m ((c.tc : Thread Cert.BwdOutReferenceIdeal.nD Cert.BwdOutReferenceIdeal.τ).loc Cert.BwdOutReferenceIdeal.main_arg3))).2.1 = (fun _ => 1#1)
    ∧ (Cert.Pre_finite.fn (F := Ideal) (m ((c.tc : Thread Cert.BwdOutReferenceIdeal.nD Cert.BwdOutReferenceIdeal.τ).loc Cert.BwdOutReferenceIdeal.main_arg0)) (m ((c.tc : Thread Cert.BwdOutReferenceIdeal.nD Cert.BwdOutReferenceIdeal.τ).loc Cert.BwdOutReferenceIdeal.main_arg1)) (m ((c.tc : Thread Cert.BwdOutReferenceIdeal.nD Cert.BwdOutReferenceIdeal.τ).loc Cert.BwdOutReferenceIdeal.main_arg2)) (m ((c.tc : Thread Cert.BwdOutReferenceIdeal.nD Cert.BwdOutReferenceIdeal.τ).loc Cert.BwdOutReferenceIdeal.main_arg3))).2.2.1 = (fun _ => 1#1)
    ∧ (Cert.Pre_finite.fn (F := Ideal) (m ((c.tc : Thread Cert.BwdOutReferenceIdeal.nD Cert.BwdOutReferenceIdeal.τ).loc Cert.BwdOutReferenceIdeal.main_arg0)) (m ((c.tc : Thread Cert.BwdOutReferenceIdeal.nD Cert.BwdOutReferenceIdeal.τ).loc Cert.BwdOutReferenceIdeal.main_arg1)) (m ((c.tc : Thread Cert.BwdOutReferenceIdeal.nD Cert.BwdOutReferenceIdeal.τ).loc Cert.BwdOutReferenceIdeal.main_arg2)) (m ((c.tc : Thread Cert.BwdOutReferenceIdeal.nD Cert.BwdOutReferenceIdeal.τ).loc Cert.BwdOutReferenceIdeal.main_arg3))).2.2.2 = (fun _ => 1#1)

def Pre_BwdInKernel (m : (ℓ : Loc Cert.BwdInKernel.nD Cert.BwdInKernel.τ Cert.BwdInKernel.sig) → Buf (Elt Bits) ℓ) : Prop :=
  True

def Pre_BwdInKernelIdeal (m : (ℓ : Loc Cert.BwdInKernelIdeal.nD Cert.BwdInKernelIdeal.τ Cert.BwdInKernelIdeal.sig) → Buf (Elt Ideal) ℓ) : Prop :=
  True

def Pre_BwdInReferenceIdeal (m : (ℓ : Loc Cert.BwdInReferenceIdeal.nD Cert.BwdInReferenceIdeal.τ Cert.BwdInReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwInKernel (m : (ℓ : Loc Cert.DwInKernel.nD Cert.DwInKernel.τ Cert.DwInKernel.sig) → Buf (Elt Bits) ℓ) : Prop :=
  True

def Pre_DwInKernelIdeal (m : (ℓ : Loc Cert.DwInKernelIdeal.nD Cert.DwInKernelIdeal.τ Cert.DwInKernelIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_ConvInKernel (m : (ℓ : Loc Cert.ConvInKernel.nD Cert.ConvInKernel.τ Cert.ConvInKernel.sig) → Buf (Elt Bits) ℓ) : Prop :=
  True

def Pre_ConvInKernelIdeal (m : (ℓ : Loc Cert.ConvInKernelIdeal.nD Cert.ConvInKernelIdeal.τ Cert.ConvInKernelIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_QgInKernel (m : (ℓ : Loc Cert.QgInKernel.nD Cert.QgInKernel.τ Cert.QgInKernel.sig) → Buf (Elt Bits) ℓ) : Prop :=
  True

def Pre_QgInKernelIdeal (m : (ℓ : Loc Cert.QgInKernelIdeal.nD Cert.QgInKernelIdeal.τ Cert.QgInKernelIdeal.sig) → Buf (Elt Ideal) ℓ) : Prop :=
  True

def Pre_QgInReferenceIdeal (m : (ℓ : Loc Cert.QgInReferenceIdeal.nD Cert.QgInReferenceIdeal.τ Cert.QgInReferenceIdeal.sig) → Buf (Elt Ideal) ℓ) : Prop :=
  True

def Pre_KvInKernel (m : (ℓ : Loc Cert.KvInKernel.nD Cert.KvInKernel.τ Cert.KvInKernel.sig) → Buf (Elt Bits) ℓ) : Prop :=
  True

def Pre_KvInKernelIdeal (m : (ℓ : Loc Cert.KvInKernelIdeal.nD Cert.KvInKernelIdeal.τ Cert.KvInKernelIdeal.sig) → Buf (Elt Ideal) ℓ) : Prop :=
  True

def Pre_KvInReferenceIdeal (m : (ℓ : Loc Cert.KvInReferenceIdeal.nD Cert.KvInReferenceIdeal.τ Cert.KvInReferenceIdeal.sig) → Buf (Elt Ideal) ℓ) : Prop :=
  True

def Pre_ConvBwdInKernel (m : (ℓ : Loc Cert.ConvBwdInKernel.nD Cert.ConvBwdInKernel.τ Cert.ConvBwdInKernel.sig) → Buf (Elt Bits) ℓ) : Prop :=
  True

def Pre_ConvBwdInKernelIdeal (m : (ℓ : Loc Cert.ConvBwdInKernelIdeal.nD Cert.ConvBwdInKernelIdeal.τ Cert.ConvBwdInKernelIdeal.sig) → Buf (Elt Ideal) ℓ) : Prop :=
  True

def Pre_ConvBwdInReferenceIdeal (m : (ℓ : Loc Cert.ConvBwdInReferenceIdeal.nD Cert.ConvBwdInReferenceIdeal.τ Cert.ConvBwdInReferenceIdeal.sig) → Buf (Elt Ideal) ℓ) : Prop :=
  True

def Pre_QgBwdInKernel (m : (ℓ : Loc Cert.QgBwdInKernel.nD Cert.QgBwdInKernel.τ Cert.QgBwdInKernel.sig) → Buf (Elt Bits) ℓ) : Prop :=
  True

def Pre_QgBwdInKernelIdeal (m : (ℓ : Loc Cert.QgBwdInKernelIdeal.nD Cert.QgBwdInKernelIdeal.τ Cert.QgBwdInKernelIdeal.sig) → Buf (Elt Ideal) ℓ) : Prop :=
  True

def Pre_QgBwdInReferenceIdeal (m : (ℓ : Loc Cert.QgBwdInReferenceIdeal.nD Cert.QgBwdInReferenceIdeal.τ Cert.QgBwdInReferenceIdeal.sig) → Buf (Elt Ideal) ℓ) : Prop :=
  True

def Pre_KvBwdInKernel (m : (ℓ : Loc Cert.KvBwdInKernel.nD Cert.KvBwdInKernel.τ Cert.KvBwdInKernel.sig) → Buf (Elt Bits) ℓ) : Prop :=
  True

def Pre_KvBwdInKernelIdeal (m : (ℓ : Loc Cert.KvBwdInKernelIdeal.nD Cert.KvBwdInKernelIdeal.τ Cert.KvBwdInKernelIdeal.sig) → Buf (Elt Ideal) ℓ) : Prop :=
  True

def Pre_KvBwdInReferenceIdeal (m : (ℓ : Loc Cert.KvBwdInReferenceIdeal.nD Cert.KvBwdInReferenceIdeal.τ Cert.KvBwdInReferenceIdeal.sig) → Buf (Elt Ideal) ℓ) : Prop :=
  True

def Pre_ConvDwKernel (m : (ℓ : Loc Cert.ConvDwKernel.nD Cert.ConvDwKernel.τ Cert.ConvDwKernel.sig) → Buf (Elt Bits) ℓ) : Prop :=
  True

def Pre_ConvDwKernelIdeal (m : (ℓ : Loc Cert.ConvDwKernelIdeal.nD Cert.ConvDwKernelIdeal.τ Cert.ConvDwKernelIdeal.sig) → Buf (Elt Ideal) ℓ) : Prop :=
  True

def Pre_ConvDwReferenceIdeal (m : (ℓ : Loc Cert.ConvDwReferenceIdeal.nD Cert.ConvDwReferenceIdeal.τ Cert.ConvDwReferenceIdeal.sig) → Buf (Elt Ideal) ℓ) : Prop :=
  True

def Pre_QgDwKernel (m : (ℓ : Loc Cert.QgDwKernel.nD Cert.QgDwKernel.τ Cert.QgDwKernel.sig) → Buf (Elt Bits) ℓ) : Prop :=
  True

def Pre_QgDwKernelIdeal (m : (ℓ : Loc Cert.QgDwKernelIdeal.nD Cert.QgDwKernelIdeal.τ Cert.QgDwKernelIdeal.sig) → Buf (Elt Ideal) ℓ) : Prop :=
  True

def Pre_QgDwReferenceIdeal (m : (ℓ : Loc Cert.QgDwReferenceIdeal.nD Cert.QgDwReferenceIdeal.τ Cert.QgDwReferenceIdeal.sig) → Buf (Elt Ideal) ℓ) : Prop :=
  True

def Pre_MixBwdKernel (m : (ℓ : Loc Cert.MixBwdKernel.nD Cert.MixBwdKernel.τ Cert.MixBwdKernel.sig) → Buf (Elt Bits) ℓ) : Prop :=
  True

def Pre_MixBwdKernelIdeal (m : (ℓ : Loc Cert.MixBwdKernelIdeal.nD Cert.MixBwdKernelIdeal.τ Cert.MixBwdKernelIdeal.sig) → Buf (Elt Ideal) ℓ) : Prop :=
  True

def Pre_MixBwdReferenceIdeal (m : (ℓ : Loc Cert.MixBwdReferenceIdeal.nD Cert.MixBwdReferenceIdeal.τ Cert.MixBwdReferenceIdeal.sig) → Buf (Elt Ideal) ℓ) : Prop :=
  True

def Pre_MixDwKernel (m : (ℓ : Loc Cert.MixDwKernel.nD Cert.MixDwKernel.τ Cert.MixDwKernel.sig) → Buf (Elt Bits) ℓ) : Prop :=
  True

def Pre_MixDwKernelIdeal (m : (ℓ : Loc Cert.MixDwKernelIdeal.nD Cert.MixDwKernelIdeal.τ Cert.MixDwKernelIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_GateOutKernel (m : (ℓ : Loc Cert.GateOutKernel.nD Cert.GateOutKernel.τ Cert.GateOutKernel.sig) → Buf (Elt Bits) ℓ) : Prop :=
  True

def Pre_GateOutKernelIdeal (m : (ℓ : Loc Cert.GateOutKernelIdeal.nD Cert.GateOutKernelIdeal.τ Cert.GateOutKernelIdeal.sig) → Buf (Elt Ideal) ℓ) : Prop :=
  True

def Pre_GateOutReferenceIdeal (m : (ℓ : Loc Cert.GateOutReferenceIdeal.nD Cert.GateOutReferenceIdeal.τ Cert.GateOutReferenceIdeal.sig) → Buf (Elt Ideal) ℓ) : Prop :=
  True

def Pre_ConvOutKernel (m : (ℓ : Loc Cert.ConvOutKernel.nD Cert.ConvOutKernel.τ Cert.ConvOutKernel.sig) → Buf (Elt Bits) ℓ) : Prop :=
  True

def Pre_ConvOutKernelIdeal (m : (ℓ : Loc Cert.ConvOutKernelIdeal.nD Cert.ConvOutKernelIdeal.τ Cert.ConvOutKernelIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_LossOutKernel (m : (ℓ : Loc Cert.LossOutKernel.nD Cert.LossOutKernel.τ Cert.LossOutKernel.sig) → Buf (Elt Bits) ℓ) : Prop :=
  True

def Pre_LossOutKernelIdeal (m : (ℓ : Loc Cert.LossOutKernelIdeal.nD Cert.LossOutKernelIdeal.τ Cert.LossOutKernelIdeal.sig) → Buf (Elt Ideal) ℓ) : Prop :=
  True

def Pre_LossOutReferenceIdeal (m : (ℓ : Loc Cert.LossOutReferenceIdeal.nD Cert.LossOutReferenceIdeal.τ Cert.LossOutReferenceIdeal.sig) → Buf (Elt Ideal) ℓ) : Prop :=
  True

def Pre_AdamOwKernel [hPre_placed_ow : Cert.Pre_placed_ow.Facts] (m : (ℓ : Loc Cert.AdamOwKernel.nD Cert.AdamOwKernel.τ Cert.AdamOwKernel.sig) → Buf (Elt Bits) ℓ) : Prop :=
  ∀ c : Dev Cert.AdamOwKernel.nD,
    (Cert.Pre_placed_ow.fn (F := Bits) (m ((c.tc : Thread Cert.AdamOwKernel.nD Cert.AdamOwKernel.τ).loc Cert.AdamOwKernel.main_arg0)) (m ((c.tc : Thread Cert.AdamOwKernel.nD Cert.AdamOwKernel.τ).loc Cert.AdamOwKernel.main_arg1)) (m ((c.tc : Thread Cert.AdamOwKernel.nD Cert.AdamOwKernel.τ).loc Cert.AdamOwKernel.main_arg2)) (m ((c.tc : Thread Cert.AdamOwKernel.nD Cert.AdamOwKernel.τ).loc Cert.AdamOwKernel.main_arg3)) (m ((c.tc : Thread Cert.AdamOwKernel.nD Cert.AdamOwKernel.τ).loc Cert.AdamOwKernel.main_arg4)) (m ((c.tc : Thread Cert.AdamOwKernel.nD Cert.AdamOwKernel.τ).loc Cert.AdamOwKernel.main_arg5))) = (fun _ => 1#1)

def Pre_AdamOwKernelIdeal [hPre_placed_ow : Cert.Pre_placed_ow.Facts] (m : (ℓ : Loc Cert.AdamOwKernelIdeal.nD Cert.AdamOwKernelIdeal.τ Cert.AdamOwKernelIdeal.sig) → Buf (Elt Ideal) ℓ) : Prop :=
  ∀ c : Dev Cert.AdamOwKernelIdeal.nD,
    (Cert.Pre_placed_ow.fn (F := Ideal) (m ((c.tc : Thread Cert.AdamOwKernelIdeal.nD Cert.AdamOwKernelIdeal.τ).loc Cert.AdamOwKernelIdeal.main_arg0)) (m ((c.tc : Thread Cert.AdamOwKernelIdeal.nD Cert.AdamOwKernelIdeal.τ).loc Cert.AdamOwKernelIdeal.main_arg1)) (m ((c.tc : Thread Cert.AdamOwKernelIdeal.nD Cert.AdamOwKernelIdeal.τ).loc Cert.AdamOwKernelIdeal.main_arg2)) (m ((c.tc : Thread Cert.AdamOwKernelIdeal.nD Cert.AdamOwKernelIdeal.τ).loc Cert.AdamOwKernelIdeal.main_arg3)) (m ((c.tc : Thread Cert.AdamOwKernelIdeal.nD Cert.AdamOwKernelIdeal.τ).loc Cert.AdamOwKernelIdeal.main_arg4)) (m ((c.tc : Thread Cert.AdamOwKernelIdeal.nD Cert.AdamOwKernelIdeal.τ).loc Cert.AdamOwKernelIdeal.main_arg5))) = (fun _ => 1#1)

def Pre_AdamOwReferenceIdeal (m : (ℓ : Loc Cert.AdamOwReferenceIdeal.nD Cert.AdamOwReferenceIdeal.τ Cert.AdamOwReferenceIdeal.sig) → Buf (Elt Ideal) ℓ) : Prop :=
  True

def Pre_AdamOwReferenceIdeal_placed_ow [hPre_placed_ow : Cert.Pre_placed_ow.Facts] (m : (ℓ : Loc Cert.AdamOwReferenceIdeal.nD Cert.AdamOwReferenceIdeal.τ Cert.AdamOwReferenceIdeal.sig) → Buf (Elt Ideal) ℓ) : Prop :=
  ∀ c : Dev Cert.AdamOwReferenceIdeal.nD,
    (Cert.Pre_placed_ow.fn (F := Ideal) (m ((c.tc : Thread Cert.AdamOwReferenceIdeal.nD Cert.AdamOwReferenceIdeal.τ).loc Cert.AdamOwReferenceIdeal.main_arg0)) (m ((c.tc : Thread Cert.AdamOwReferenceIdeal.nD Cert.AdamOwReferenceIdeal.τ).loc Cert.AdamOwReferenceIdeal.main_arg1)) (m ((c.tc : Thread Cert.AdamOwReferenceIdeal.nD Cert.AdamOwReferenceIdeal.τ).loc Cert.AdamOwReferenceIdeal.main_arg2)) (m ((c.tc : Thread Cert.AdamOwReferenceIdeal.nD Cert.AdamOwReferenceIdeal.τ).loc Cert.AdamOwReferenceIdeal.main_arg3)) (m ((c.tc : Thread Cert.AdamOwReferenceIdeal.nD Cert.AdamOwReferenceIdeal.τ).loc Cert.AdamOwReferenceIdeal.main_arg4)) (m ((c.tc : Thread Cert.AdamOwReferenceIdeal.nD Cert.AdamOwReferenceIdeal.τ).loc Cert.AdamOwReferenceIdeal.main_arg5))) = (fun _ => 1#1)

def Pre_AdamCiKernel [hPre_placed_ci : Cert.Pre_placed_ci.Facts] (m : (ℓ : Loc Cert.AdamCiKernel.nD Cert.AdamCiKernel.τ Cert.AdamCiKernel.sig) → Buf (Elt Bits) ℓ) : Prop :=
  ∀ c : Dev Cert.AdamCiKernel.nD,
    (Cert.Pre_placed_ci.fn (F := Bits) (m ((c.tc : Thread Cert.AdamCiKernel.nD Cert.AdamCiKernel.τ).loc Cert.AdamCiKernel.main_arg0)) (m ((c.tc : Thread Cert.AdamCiKernel.nD Cert.AdamCiKernel.τ).loc Cert.AdamCiKernel.main_arg1)) (m ((c.tc : Thread Cert.AdamCiKernel.nD Cert.AdamCiKernel.τ).loc Cert.AdamCiKernel.main_arg2)) (m ((c.tc : Thread Cert.AdamCiKernel.nD Cert.AdamCiKernel.τ).loc Cert.AdamCiKernel.main_arg3)) (m ((c.tc : Thread Cert.AdamCiKernel.nD Cert.AdamCiKernel.τ).loc Cert.AdamCiKernel.main_arg4)) (m ((c.tc : Thread Cert.AdamCiKernel.nD Cert.AdamCiKernel.τ).loc Cert.AdamCiKernel.main_arg5))) = (fun _ => 1#1)

def Pre_AdamCiKernelIdeal [hPre_placed_ci : Cert.Pre_placed_ci.Facts] (m : (ℓ : Loc Cert.AdamCiKernelIdeal.nD Cert.AdamCiKernelIdeal.τ Cert.AdamCiKernelIdeal.sig) → Buf (Elt Ideal) ℓ) : Prop :=
  ∀ c : Dev Cert.AdamCiKernelIdeal.nD,
    (Cert.Pre_placed_ci.fn (F := Ideal) (m ((c.tc : Thread Cert.AdamCiKernelIdeal.nD Cert.AdamCiKernelIdeal.τ).loc Cert.AdamCiKernelIdeal.main_arg0)) (m ((c.tc : Thread Cert.AdamCiKernelIdeal.nD Cert.AdamCiKernelIdeal.τ).loc Cert.AdamCiKernelIdeal.main_arg1)) (m ((c.tc : Thread Cert.AdamCiKernelIdeal.nD Cert.AdamCiKernelIdeal.τ).loc Cert.AdamCiKernelIdeal.main_arg2)) (m ((c.tc : Thread Cert.AdamCiKernelIdeal.nD Cert.AdamCiKernelIdeal.τ).loc Cert.AdamCiKernelIdeal.main_arg3)) (m ((c.tc : Thread Cert.AdamCiKernelIdeal.nD Cert.AdamCiKernelIdeal.τ).loc Cert.AdamCiKernelIdeal.main_arg4)) (m ((c.tc : Thread Cert.AdamCiKernelIdeal.nD Cert.AdamCiKernelIdeal.τ).loc Cert.AdamCiKernelIdeal.main_arg5))) = (fun _ => 1#1)

def Pre_AdamCiReferenceIdeal (m : (ℓ : Loc Cert.AdamCiReferenceIdeal.nD Cert.AdamCiReferenceIdeal.τ Cert.AdamCiReferenceIdeal.sig) → Buf (Elt Ideal) ℓ) : Prop :=
  True

def Pre_AdamCiReferenceIdeal_placed_ci [hPre_placed_ci : Cert.Pre_placed_ci.Facts] (m : (ℓ : Loc Cert.AdamCiReferenceIdeal.nD Cert.AdamCiReferenceIdeal.τ Cert.AdamCiReferenceIdeal.sig) → Buf (Elt Ideal) ℓ) : Prop :=
  ∀ c : Dev Cert.AdamCiReferenceIdeal.nD,
    (Cert.Pre_placed_ci.fn (F := Ideal) (m ((c.tc : Thread Cert.AdamCiReferenceIdeal.nD Cert.AdamCiReferenceIdeal.τ).loc Cert.AdamCiReferenceIdeal.main_arg0)) (m ((c.tc : Thread Cert.AdamCiReferenceIdeal.nD Cert.AdamCiReferenceIdeal.τ).loc Cert.AdamCiReferenceIdeal.main_arg1)) (m ((c.tc : Thread Cert.AdamCiReferenceIdeal.nD Cert.AdamCiReferenceIdeal.τ).loc Cert.AdamCiReferenceIdeal.main_arg2)) (m ((c.tc : Thread Cert.AdamCiReferenceIdeal.nD Cert.AdamCiReferenceIdeal.τ).loc Cert.AdamCiReferenceIdeal.main_arg3)) (m ((c.tc : Thread Cert.AdamCiReferenceIdeal.nD Cert.AdamCiReferenceIdeal.τ).loc Cert.AdamCiReferenceIdeal.main_arg4)) (m ((c.tc : Thread Cert.AdamCiReferenceIdeal.nD Cert.AdamCiReferenceIdeal.τ).loc Cert.AdamCiReferenceIdeal.main_arg5))) = (fun _ => 1#1)

def Pre_AdamQgKernel [hPre_placed_qg : Cert.Pre_placed_qg.Facts] (m : (ℓ : Loc Cert.AdamQgKernel.nD Cert.AdamQgKernel.τ Cert.AdamQgKernel.sig) → Buf (Elt Bits) ℓ) : Prop :=
  ∀ c : Dev Cert.AdamQgKernel.nD,
    (Cert.Pre_placed_qg.fn (F := Bits) (m ((c.tc : Thread Cert.AdamQgKernel.nD Cert.AdamQgKernel.τ).loc Cert.AdamQgKernel.main_arg0)) (m ((c.tc : Thread Cert.AdamQgKernel.nD Cert.AdamQgKernel.τ).loc Cert.AdamQgKernel.main_arg1)) (m ((c.tc : Thread Cert.AdamQgKernel.nD Cert.AdamQgKernel.τ).loc Cert.AdamQgKernel.main_arg2)) (m ((c.tc : Thread Cert.AdamQgKernel.nD Cert.AdamQgKernel.τ).loc Cert.AdamQgKernel.main_arg3)) (m ((c.tc : Thread Cert.AdamQgKernel.nD Cert.AdamQgKernel.τ).loc Cert.AdamQgKernel.main_arg4)) (m ((c.tc : Thread Cert.AdamQgKernel.nD Cert.AdamQgKernel.τ).loc Cert.AdamQgKernel.main_arg5))) = (fun _ => 1#1)

def Pre_AdamQgKernelIdeal [hPre_placed_qg : Cert.Pre_placed_qg.Facts] (m : (ℓ : Loc Cert.AdamQgKernelIdeal.nD Cert.AdamQgKernelIdeal.τ Cert.AdamQgKernelIdeal.sig) → Buf (Elt Ideal) ℓ) : Prop :=
  ∀ c : Dev Cert.AdamQgKernelIdeal.nD,
    (Cert.Pre_placed_qg.fn (F := Ideal) (m ((c.tc : Thread Cert.AdamQgKernelIdeal.nD Cert.AdamQgKernelIdeal.τ).loc Cert.AdamQgKernelIdeal.main_arg0)) (m ((c.tc : Thread Cert.AdamQgKernelIdeal.nD Cert.AdamQgKernelIdeal.τ).loc Cert.AdamQgKernelIdeal.main_arg1)) (m ((c.tc : Thread Cert.AdamQgKernelIdeal.nD Cert.AdamQgKernelIdeal.τ).loc Cert.AdamQgKernelIdeal.main_arg2)) (m ((c.tc : Thread Cert.AdamQgKernelIdeal.nD Cert.AdamQgKernelIdeal.τ).loc Cert.AdamQgKernelIdeal.main_arg3)) (m ((c.tc : Thread Cert.AdamQgKernelIdeal.nD Cert.AdamQgKernelIdeal.τ).loc Cert.AdamQgKernelIdeal.main_arg4)) (m ((c.tc : Thread Cert.AdamQgKernelIdeal.nD Cert.AdamQgKernelIdeal.τ).loc Cert.AdamQgKernelIdeal.main_arg5))) = (fun _ => 1#1)

def Pre_AdamQgReferenceIdeal (m : (ℓ : Loc Cert.AdamQgReferenceIdeal.nD Cert.AdamQgReferenceIdeal.τ Cert.AdamQgReferenceIdeal.sig) → Buf (Elt Ideal) ℓ) : Prop :=
  True

def Pre_AdamQgReferenceIdeal_placed_qg [hPre_placed_qg : Cert.Pre_placed_qg.Facts] (m : (ℓ : Loc Cert.AdamQgReferenceIdeal.nD Cert.AdamQgReferenceIdeal.τ Cert.AdamQgReferenceIdeal.sig) → Buf (Elt Ideal) ℓ) : Prop :=
  ∀ c : Dev Cert.AdamQgReferenceIdeal.nD,
    (Cert.Pre_placed_qg.fn (F := Ideal) (m ((c.tc : Thread Cert.AdamQgReferenceIdeal.nD Cert.AdamQgReferenceIdeal.τ).loc Cert.AdamQgReferenceIdeal.main_arg0)) (m ((c.tc : Thread Cert.AdamQgReferenceIdeal.nD Cert.AdamQgReferenceIdeal.τ).loc Cert.AdamQgReferenceIdeal.main_arg1)) (m ((c.tc : Thread Cert.AdamQgReferenceIdeal.nD Cert.AdamQgReferenceIdeal.τ).loc Cert.AdamQgReferenceIdeal.main_arg2)) (m ((c.tc : Thread Cert.AdamQgReferenceIdeal.nD Cert.AdamQgReferenceIdeal.τ).loc Cert.AdamQgReferenceIdeal.main_arg3)) (m ((c.tc : Thread Cert.AdamQgReferenceIdeal.nD Cert.AdamQgReferenceIdeal.τ).loc Cert.AdamQgReferenceIdeal.main_arg4)) (m ((c.tc : Thread Cert.AdamQgReferenceIdeal.nD Cert.AdamQgReferenceIdeal.τ).loc Cert.AdamQgReferenceIdeal.main_arg5))) = (fun _ => 1#1)

def Pre_AdamKvKernel [hPre_placed_kv : Cert.Pre_placed_kv.Facts] (m : (ℓ : Loc Cert.AdamKvKernel.nD Cert.AdamKvKernel.τ Cert.AdamKvKernel.sig) → Buf (Elt Bits) ℓ) : Prop :=
  ∀ c : Dev Cert.AdamKvKernel.nD,
    (Cert.Pre_placed_kv.fn (F := Bits) (m ((c.tc : Thread Cert.AdamKvKernel.nD Cert.AdamKvKernel.τ).loc Cert.AdamKvKernel.main_arg0)) (m ((c.tc : Thread Cert.AdamKvKernel.nD Cert.AdamKvKernel.τ).loc Cert.AdamKvKernel.main_arg1)) (m ((c.tc : Thread Cert.AdamKvKernel.nD Cert.AdamKvKernel.τ).loc Cert.AdamKvKernel.main_arg2)) (m ((c.tc : Thread Cert.AdamKvKernel.nD Cert.AdamKvKernel.τ).loc Cert.AdamKvKernel.main_arg3)) (m ((c.tc : Thread Cert.AdamKvKernel.nD Cert.AdamKvKernel.τ).loc Cert.AdamKvKernel.main_arg4)) (m ((c.tc : Thread Cert.AdamKvKernel.nD Cert.AdamKvKernel.τ).loc Cert.AdamKvKernel.main_arg5))) = (fun _ => 1#1)

def Pre_AdamKvKernelIdeal [hPre_placed_kv : Cert.Pre_placed_kv.Facts] (m : (ℓ : Loc Cert.AdamKvKernelIdeal.nD Cert.AdamKvKernelIdeal.τ Cert.AdamKvKernelIdeal.sig) → Buf (Elt Ideal) ℓ) : Prop :=
  ∀ c : Dev Cert.AdamKvKernelIdeal.nD,
    (Cert.Pre_placed_kv.fn (F := Ideal) (m ((c.tc : Thread Cert.AdamKvKernelIdeal.nD Cert.AdamKvKernelIdeal.τ).loc Cert.AdamKvKernelIdeal.main_arg0)) (m ((c.tc : Thread Cert.AdamKvKernelIdeal.nD Cert.AdamKvKernelIdeal.τ).loc Cert.AdamKvKernelIdeal.main_arg1)) (m ((c.tc : Thread Cert.AdamKvKernelIdeal.nD Cert.AdamKvKernelIdeal.τ).loc Cert.AdamKvKernelIdeal.main_arg2)) (m ((c.tc : Thread Cert.AdamKvKernelIdeal.nD Cert.AdamKvKernelIdeal.τ).loc Cert.AdamKvKernelIdeal.main_arg3)) (m ((c.tc : Thread Cert.AdamKvKernelIdeal.nD Cert.AdamKvKernelIdeal.τ).loc Cert.AdamKvKernelIdeal.main_arg4)) (m ((c.tc : Thread Cert.AdamKvKernelIdeal.nD Cert.AdamKvKernelIdeal.τ).loc Cert.AdamKvKernelIdeal.main_arg5))) = (fun _ => 1#1)

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamKvReferenceIdeal_placed_kv [hPre_placed_kv : Cert.Pre_placed_kv.Facts] (m : (ℓ : Loc Cert.AdamKvReferenceIdeal.nD Cert.AdamKvReferenceIdeal.τ Cert.AdamKvReferenceIdeal.sig) → Buf (Elt Ideal) ℓ) : Prop :=
  ∀ c : Dev Cert.AdamKvReferenceIdeal.nD,
    (Cert.Pre_placed_kv.fn (F := Ideal) (m ((c.tc : Thread Cert.AdamKvReferenceIdeal.nD Cert.AdamKvReferenceIdeal.τ).loc Cert.AdamKvReferenceIdeal.main_arg0)) (m ((c.tc : Thread Cert.AdamKvReferenceIdeal.nD Cert.AdamKvReferenceIdeal.τ).loc Cert.AdamKvReferenceIdeal.main_arg1)) (m ((c.tc : Thread Cert.AdamKvReferenceIdeal.nD Cert.AdamKvReferenceIdeal.τ).loc Cert.AdamKvReferenceIdeal.main_arg2)) (m ((c.tc : Thread Cert.AdamKvReferenceIdeal.nD Cert.AdamKvReferenceIdeal.τ).loc Cert.AdamKvReferenceIdeal.main_arg3)) (m ((c.tc : Thread Cert.AdamKvReferenceIdeal.nD Cert.AdamKvReferenceIdeal.τ).loc Cert.AdamKvReferenceIdeal.main_arg4)) (m ((c.tc : Thread Cert.AdamKvReferenceIdeal.nD Cert.AdamKvReferenceIdeal.τ).loc Cert.AdamKvReferenceIdeal.main_arg5))) = (fun _ => 1#1)

def Pre_AdamFoKernel [hPre_placed_fo : Cert.Pre_placed_fo.Facts] (m : (ℓ : Loc Cert.AdamFoKernel.nD Cert.AdamFoKernel.τ Cert.AdamFoKernel.sig) → Buf (Elt Bits) ℓ) : Prop :=
  ∀ c : Dev Cert.AdamFoKernel.nD,
    (Cert.Pre_placed_fo.fn (F := Bits) (m ((c.tc : Thread Cert.AdamFoKernel.nD Cert.AdamFoKernel.τ).loc Cert.AdamFoKernel.main_arg0)) (m ((c.tc : Thread Cert.AdamFoKernel.nD Cert.AdamFoKernel.τ).loc Cert.AdamFoKernel.main_arg1)) (m ((c.tc : Thread Cert.AdamFoKernel.nD Cert.AdamFoKernel.τ).loc Cert.AdamFoKernel.main_arg2)) (m ((c.tc : Thread Cert.AdamFoKernel.nD Cert.AdamFoKernel.τ).loc Cert.AdamFoKernel.main_arg3)) (m ((c.tc : Thread Cert.AdamFoKernel.nD Cert.AdamFoKernel.τ).loc Cert.AdamFoKernel.main_arg4)) (m ((c.tc : Thread Cert.AdamFoKernel.nD Cert.AdamFoKernel.τ).loc Cert.AdamFoKernel.main_arg5)) (m ((c.tc : Thread Cert.AdamFoKernel.nD Cert.AdamFoKernel.τ).loc Cert.AdamFoKernel.main_arg6)) (m ((c.tc : Thread Cert.AdamFoKernel.nD Cert.AdamFoKernel.τ).loc Cert.AdamFoKernel.main_arg7))) = (fun _ => 1#1)

def Pre_AdamFoKernelIdeal [hPre_placed_fo : Cert.Pre_placed_fo.Facts] (m : (ℓ : Loc Cert.AdamFoKernelIdeal.nD Cert.AdamFoKernelIdeal.τ Cert.AdamFoKernelIdeal.sig) → Buf (Elt Ideal) ℓ) : Prop :=
  ∀ c : Dev Cert.AdamFoKernelIdeal.nD,
    (Cert.Pre_placed_fo.fn (F := Ideal) (m ((c.tc : Thread Cert.AdamFoKernelIdeal.nD Cert.AdamFoKernelIdeal.τ).loc Cert.AdamFoKernelIdeal.main_arg0)) (m ((c.tc : Thread Cert.AdamFoKernelIdeal.nD Cert.AdamFoKernelIdeal.τ).loc Cert.AdamFoKernelIdeal.main_arg1)) (m ((c.tc : Thread Cert.AdamFoKernelIdeal.nD Cert.AdamFoKernelIdeal.τ).loc Cert.AdamFoKernelIdeal.main_arg2)) (m ((c.tc : Thread Cert.AdamFoKernelIdeal.nD Cert.AdamFoKernelIdeal.τ).loc Cert.AdamFoKernelIdeal.main_arg3)) (m ((c.tc : Thread Cert.AdamFoKernelIdeal.nD Cert.AdamFoKernelIdeal.τ).loc Cert.AdamFoKernelIdeal.main_arg4)) (m ((c.tc : Thread Cert.AdamFoKernelIdeal.nD Cert.AdamFoKernelIdeal.τ).loc Cert.AdamFoKernelIdeal.main_arg5)) (m ((c.tc : Thread Cert.AdamFoKernelIdeal.nD Cert.AdamFoKernelIdeal.τ).loc Cert.AdamFoKernelIdeal.main_arg6)) (m ((c.tc : Thread Cert.AdamFoKernelIdeal.nD Cert.AdamFoKernelIdeal.τ).loc Cert.AdamFoKernelIdeal.main_arg7))) = (fun _ => 1#1)

def Pre_AdamFoReferenceIdeal (m : (ℓ : Loc Cert.AdamFoReferenceIdeal.nD Cert.AdamFoReferenceIdeal.τ Cert.AdamFoReferenceIdeal.sig) → Buf (Elt Ideal) ℓ) : Prop :=
  True

def Pre_AdamFoReferenceIdeal_placed_fo [hPre_placed_fo : Cert.Pre_placed_fo.Facts] (m : (ℓ : Loc Cert.AdamFoReferenceIdeal.nD Cert.AdamFoReferenceIdeal.τ Cert.AdamFoReferenceIdeal.sig) → Buf (Elt Ideal) ℓ) : Prop :=
  ∀ c : Dev Cert.AdamFoReferenceIdeal.nD,
    (Cert.Pre_placed_fo.fn (F := Ideal) (m ((c.tc : Thread Cert.AdamFoReferenceIdeal.nD Cert.AdamFoReferenceIdeal.τ).loc Cert.AdamFoReferenceIdeal.main_arg0)) (m ((c.tc : Thread Cert.AdamFoReferenceIdeal.nD Cert.AdamFoReferenceIdeal.τ).loc Cert.AdamFoReferenceIdeal.main_arg1)) (m ((c.tc : Thread Cert.AdamFoReferenceIdeal.nD Cert.AdamFoReferenceIdeal.τ).loc Cert.AdamFoReferenceIdeal.main_arg2)) (m ((c.tc : Thread Cert.AdamFoReferenceIdeal.nD Cert.AdamFoReferenceIdeal.τ).loc Cert.AdamFoReferenceIdeal.main_arg3)) (m ((c.tc : Thread Cert.AdamFoReferenceIdeal.nD Cert.AdamFoReferenceIdeal.τ).loc Cert.AdamFoReferenceIdeal.main_arg4)) (m ((c.tc : Thread Cert.AdamFoReferenceIdeal.nD Cert.AdamFoReferenceIdeal.τ).loc Cert.AdamFoReferenceIdeal.main_arg5)) (m ((c.tc : Thread Cert.AdamFoReferenceIdeal.nD Cert.AdamFoReferenceIdeal.τ).loc Cert.AdamFoReferenceIdeal.main_arg6)) (m ((c.tc : Thread Cert.AdamFoReferenceIdeal.nD Cert.AdamFoReferenceIdeal.τ).loc Cert.AdamFoReferenceIdeal.main_arg7))) = (fun _ => 1#1)

def Pre_AdamFiKernel [hPre_placed_fi : Cert.Pre_placed_fi.Facts] (m : (ℓ : Loc Cert.AdamFiKernel.nD Cert.AdamFiKernel.τ Cert.AdamFiKernel.sig) → Buf (Elt Bits) ℓ) : Prop :=
  ∀ c : Dev Cert.AdamFiKernel.nD,
    (Cert.Pre_placed_fi.fn (F := Bits) (m ((c.tc : Thread Cert.AdamFiKernel.nD Cert.AdamFiKernel.τ).loc Cert.AdamFiKernel.main_arg0)) (m ((c.tc : Thread Cert.AdamFiKernel.nD Cert.AdamFiKernel.τ).loc Cert.AdamFiKernel.main_arg1)) (m ((c.tc : Thread Cert.AdamFiKernel.nD Cert.AdamFiKernel.τ).loc Cert.AdamFiKernel.main_arg2)) (m ((c.tc : Thread Cert.AdamFiKernel.nD Cert.AdamFiKernel.τ).loc Cert.AdamFiKernel.main_arg3)) (m ((c.tc : Thread Cert.AdamFiKernel.nD Cert.AdamFiKernel.τ).loc Cert.AdamFiKernel.main_arg4)) (m ((c.tc : Thread Cert.AdamFiKernel.nD Cert.AdamFiKernel.τ).loc Cert.AdamFiKernel.main_arg5)) (m ((c.tc : Thread Cert.AdamFiKernel.nD Cert.AdamFiKernel.τ).loc Cert.AdamFiKernel.main_arg6)) (m ((c.tc : Thread Cert.AdamFiKernel.nD Cert.AdamFiKernel.τ).loc Cert.AdamFiKernel.main_arg7))) = (fun _ => 1#1)

def Pre_AdamFiKernelIdeal [hPre_placed_fi : Cert.Pre_placed_fi.Facts] (m : (ℓ : Loc Cert.AdamFiKernelIdeal.nD Cert.AdamFiKernelIdeal.τ Cert.AdamFiKernelIdeal.sig) → Buf (Elt Ideal) ℓ) : Prop :=
  ∀ c : Dev Cert.AdamFiKernelIdeal.nD,
    (Cert.Pre_placed_fi.fn (F := Ideal) (m ((c.tc : Thread Cert.AdamFiKernelIdeal.nD Cert.AdamFiKernelIdeal.τ).loc Cert.AdamFiKernelIdeal.main_arg0)) (m ((c.tc : Thread Cert.AdamFiKernelIdeal.nD Cert.AdamFiKernelIdeal.τ).loc Cert.AdamFiKernelIdeal.main_arg1)) (m ((c.tc : Thread Cert.AdamFiKernelIdeal.nD Cert.AdamFiKernelIdeal.τ).loc Cert.AdamFiKernelIdeal.main_arg2)) (m ((c.tc : Thread Cert.AdamFiKernelIdeal.nD Cert.AdamFiKernelIdeal.τ).loc Cert.AdamFiKernelIdeal.main_arg3)) (m ((c.tc : Thread Cert.AdamFiKernelIdeal.nD Cert.AdamFiKernelIdeal.τ).loc Cert.AdamFiKernelIdeal.main_arg4)) (m ((c.tc : Thread Cert.AdamFiKernelIdeal.nD Cert.AdamFiKernelIdeal.τ).loc Cert.AdamFiKernelIdeal.main_arg5)) (m ((c.tc : Thread Cert.AdamFiKernelIdeal.nD Cert.AdamFiKernelIdeal.τ).loc Cert.AdamFiKernelIdeal.main_arg6)) (m ((c.tc : Thread Cert.AdamFiKernelIdeal.nD Cert.AdamFiKernelIdeal.τ).loc Cert.AdamFiKernelIdeal.main_arg7))) = (fun _ => 1#1)

def Pre_AdamFiReferenceIdeal (m : (ℓ : Loc Cert.AdamFiReferenceIdeal.nD Cert.AdamFiReferenceIdeal.τ Cert.AdamFiReferenceIdeal.sig) → Buf (Elt Ideal) ℓ) : Prop :=
  True

def Pre_AdamFiReferenceIdeal_placed_fi [hPre_placed_fi : Cert.Pre_placed_fi.Facts] (m : (ℓ : Loc Cert.AdamFiReferenceIdeal.nD Cert.AdamFiReferenceIdeal.τ Cert.AdamFiReferenceIdeal.sig) → Buf (Elt Ideal) ℓ) : Prop :=
  ∀ c : Dev Cert.AdamFiReferenceIdeal.nD,
    (Cert.Pre_placed_fi.fn (F := Ideal) (m ((c.tc : Thread Cert.AdamFiReferenceIdeal.nD Cert.AdamFiReferenceIdeal.τ).loc Cert.AdamFiReferenceIdeal.main_arg0)) (m ((c.tc : Thread Cert.AdamFiReferenceIdeal.nD Cert.AdamFiReferenceIdeal.τ).loc Cert.AdamFiReferenceIdeal.main_arg1)) (m ((c.tc : Thread Cert.AdamFiReferenceIdeal.nD Cert.AdamFiReferenceIdeal.τ).loc Cert.AdamFiReferenceIdeal.main_arg2)) (m ((c.tc : Thread Cert.AdamFiReferenceIdeal.nD Cert.AdamFiReferenceIdeal.τ).loc Cert.AdamFiReferenceIdeal.main_arg3)) (m ((c.tc : Thread Cert.AdamFiReferenceIdeal.nD Cert.AdamFiReferenceIdeal.τ).loc Cert.AdamFiReferenceIdeal.main_arg4)) (m ((c.tc : Thread Cert.AdamFiReferenceIdeal.nD Cert.AdamFiReferenceIdeal.τ).loc Cert.AdamFiReferenceIdeal.main_arg5)) (m ((c.tc : Thread Cert.AdamFiReferenceIdeal.nD Cert.AdamFiReferenceIdeal.τ).loc Cert.AdamFiReferenceIdeal.main_arg6)) (m ((c.tc : Thread Cert.AdamFiReferenceIdeal.nD Cert.AdamFiReferenceIdeal.τ).loc Cert.AdamFiReferenceIdeal.main_arg7))) = (fun _ => 1#1)

def Pre_ForgetDwKernel (m : (ℓ : Loc Cert.ForgetDwKernel.nD Cert.ForgetDwKernel.τ Cert.ForgetDwKernel.sig) → Buf (Elt Bits) ℓ) : Prop :=
  True

def Pre_ForgetDwKernelIdeal (m : (ℓ : Loc Cert.ForgetDwKernelIdeal.nD Cert.ForgetDwKernelIdeal.τ Cert.ForgetDwKernelIdeal.sig) → Buf (Elt Ideal) ℓ) : Prop :=
  True

def Pre_ForgetDwReferenceIdeal (m : (ℓ : Loc Cert.ForgetDwReferenceIdeal.nD Cert.ForgetDwReferenceIdeal.τ Cert.ForgetDwReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_BwdOutKernel [hBwdOutKernel : Cert.BwdOutKernel.Facts] : Prop :=
  ∀ (m : (ℓ : Loc Cert.BwdOutKernel.nD Cert.BwdOutKernel.τ Cert.BwdOutKernel.sig) → Buf (Elt Bits) ℓ) (g : Dev Cert.BwdOutKernel.nD → PrngReg), Pre_BwdOutKernel m →
    θ_run (Cert.BwdOutKernel.defs (F := Bits)) (onTc (τ := Cert.BwdOutKernel.τ) (Cert.BwdOutKernel.main (F := Bits))) ⟨m, fun _ => 0, g⟩ (fun r => (∀ c : Dev Cert.BwdOutKernel.nD,
      r.2.mem ((c.tc : Thread Cert.BwdOutKernel.nD Cert.BwdOutKernel.τ).loc Cert.BwdOutKernel.main_arg0) = m ((c.tc : Thread Cert.BwdOutKernel.nD Cert.BwdOutKernel.τ).loc Cert.BwdOutKernel.main_arg0)
      ∧ r.2.mem ((c.tc : Thread Cert.BwdOutKernel.nD Cert.BwdOutKernel.τ).loc Cert.BwdOutKernel.main_arg1) = m ((c.tc : Thread Cert.BwdOutKernel.nD Cert.BwdOutKernel.τ).loc Cert.BwdOutKernel.main_arg1)
      ∧ r.2.mem ((c.tc : Thread Cert.BwdOutKernel.nD Cert.BwdOutKernel.τ).loc Cert.BwdOutKernel.main_arg2) = m ((c.tc : Thread Cert.BwdOutKernel.nD Cert.BwdOutKernel.τ).loc Cert.BwdOutKernel.main_arg2)
      ∧ r.2.mem ((c.tc : Thread Cert.BwdOutKernel.nD Cert.BwdOutKernel.τ).loc Cert.BwdOutKernel.main_arg3) = m ((c.tc : Thread Cert.BwdOutKernel.nD Cert.BwdOutKernel.τ).loc Cert.BwdOutKernel.main_arg3))
      ∧ r.2.sem = fun _ => 0)

def quiescent_BwdOutKernelIdeal [hBwdOutKernelIdeal : Cert.BwdOutKernelIdeal.Facts] : Prop :=
  ∀ (m : (ℓ : Loc Cert.BwdOutKernelIdeal.nD Cert.BwdOutKernelIdeal.τ Cert.BwdOutKernelIdeal.sig) → Buf (Elt Ideal) ℓ) (g : Dev Cert.BwdOutKernelIdeal.nD → PrngReg), Pre_BwdOutKernelIdeal m →
    θ_run (Cert.BwdOutKernelIdeal.defs (F := Ideal)) (onTc (τ := Cert.BwdOutKernelIdeal.τ) (Cert.BwdOutKernelIdeal.main (F := Ideal))) ⟨m, fun _ => 0, g⟩ (fun r => (∀ c : Dev Cert.BwdOutKernelIdeal.nD,
      r.2.mem ((c.tc : Thread Cert.BwdOutKernelIdeal.nD Cert.BwdOutKernelIdeal.τ).loc Cert.BwdOutKernelIdeal.main_arg0) = m ((c.tc : Thread Cert.BwdOutKernelIdeal.nD Cert.BwdOutKernelIdeal.τ).loc Cert.BwdOutKernelIdeal.main_arg0)
      ∧ r.2.mem ((c.tc : Thread Cert.BwdOutKernelIdeal.nD Cert.BwdOutKernelIdeal.τ).loc Cert.BwdOutKernelIdeal.main_arg1) = m ((c.tc : Thread Cert.BwdOutKernelIdeal.nD Cert.BwdOutKernelIdeal.τ).loc Cert.BwdOutKernelIdeal.main_arg1)
      ∧ r.2.mem ((c.tc : Thread Cert.BwdOutKernelIdeal.nD Cert.BwdOutKernelIdeal.τ).loc Cert.BwdOutKernelIdeal.main_arg2) = m ((c.tc : Thread Cert.BwdOutKernelIdeal.nD Cert.BwdOutKernelIdeal.τ).loc Cert.BwdOutKernelIdeal.main_arg2)
      ∧ r.2.mem ((c.tc : Thread Cert.BwdOutKernelIdeal.nD Cert.BwdOutKernelIdeal.τ).loc Cert.BwdOutKernelIdeal.main_arg3) = m ((c.tc : Thread Cert.BwdOutKernelIdeal.nD Cert.BwdOutKernelIdeal.τ).loc Cert.BwdOutKernelIdeal.main_arg3))
      ∧ r.2.sem = fun _ => 0)

def quiescent_BwdOutKernelIdeal_pre_finite [hBwdOutKernelIdeal : Cert.BwdOutKernelIdeal.Facts] [hPre_finite : Cert.Pre_finite.Facts] : Prop :=
  ∀ (m : (ℓ : Loc Cert.BwdOutKernelIdeal.nD Cert.BwdOutKernelIdeal.τ Cert.BwdOutKernelIdeal.sig) → Buf (Elt Ideal) ℓ) (g : Dev Cert.BwdOutKernelIdeal.nD → PrngReg), Pre_BwdOutKernelIdeal_finite m →
    θ_run (Cert.BwdOutKernelIdeal.defs (F := Ideal)) (onTc (τ := Cert.BwdOutKernelIdeal.τ) (Cert.BwdOutKernelIdeal.main (F := Ideal))) ⟨m, fun _ => 0, g⟩ (fun r => (∀ c : Dev Cert.BwdOutKernelIdeal.nD,
      r.2.mem ((c.tc : Thread Cert.BwdOutKernelIdeal.nD Cert.BwdOutKernelIdeal.τ).loc Cert.BwdOutKernelIdeal.main_arg0) = m ((c.tc : Thread Cert.BwdOutKernelIdeal.nD Cert.BwdOutKernelIdeal.τ).loc Cert.BwdOutKernelIdeal.main_arg0)
      ∧ r.2.mem ((c.tc : Thread Cert.BwdOutKernelIdeal.nD Cert.BwdOutKernelIdeal.τ).loc Cert.BwdOutKernelIdeal.main_arg1) = m ((c.tc : Thread Cert.BwdOutKernelIdeal.nD Cert.BwdOutKernelIdeal.τ).loc Cert.BwdOutKernelIdeal.main_arg1)
      ∧ r.2.mem ((c.tc : Thread Cert.BwdOutKernelIdeal.nD Cert.BwdOutKernelIdeal.τ).loc Cert.BwdOutKernelIdeal.main_arg2) = m ((c.tc : Thread Cert.BwdOutKernelIdeal.nD Cert.BwdOutKernelIdeal.τ).loc Cert.BwdOutKernelIdeal.main_arg2)
      ∧ r.2.mem ((c.tc : Thread Cert.BwdOutKernelIdeal.nD Cert.BwdOutKernelIdeal.τ).loc Cert.BwdOutKernelIdeal.main_arg3) = m ((c.tc : Thread Cert.BwdOutKernelIdeal.nD Cert.BwdOutKernelIdeal.τ).loc Cert.BwdOutKernelIdeal.main_arg3))
      ∧ r.2.sem = fun _ => 0)

def quiescent_BwdOutReferenceIdeal [hBwdOutReferenceIdeal : Cert.BwdOutReferenceIdeal.Facts] : Prop :=
  ∀ (m : (ℓ : Loc Cert.BwdOutReferenceIdeal.nD Cert.BwdOutReferenceIdeal.τ Cert.BwdOutReferenceIdeal.sig) → Buf (Elt Ideal) ℓ) (g : Dev Cert.BwdOutReferenceIdeal.nD → PrngReg), Pre_BwdOutReferenceIdeal m →
    θ_run (Cert.BwdOutReferenceIdeal.defs (F := Ideal)) (onTc (τ := Cert.BwdOutReferenceIdeal.τ) (Cert.BwdOutReferenceIdeal.main (F := Ideal))) ⟨m, fun _ => 0, g⟩ (fun r => (∀ c : Dev Cert.BwdOutReferenceIdeal.nD,
      r.2.mem ((c.tc : Thread Cert.BwdOutReferenceIdeal.nD Cert.BwdOutReferenceIdeal.τ).loc Cert.BwdOutReferenceIdeal.main_arg0) = m ((c.tc : Thread Cert.BwdOutReferenceIdeal.nD Cert.BwdOutReferenceIdeal.τ).loc Cert.BwdOutReferenceIdeal.main_arg0)
      ∧ r.2.mem ((c.tc : Thread Cert.BwdOutReferenceIdeal.nD Cert.BwdOutReferenceIdeal.τ).loc Cert.BwdOutReferenceIdeal.main_arg1) = m ((c.tc : Thread Cert.BwdOutReferenceIdeal.nD Cert.BwdOutReferenceIdeal.τ).loc Cert.BwdOutReferenceIdeal.main_arg1)
      ∧ r.2.mem ((c.tc : Thread Cert.BwdOutReferenceIdeal.nD Cert.BwdOutReferenceIdeal.τ).loc Cert.BwdOutReferenceIdeal.main_arg2) = m ((c.tc : Thread Cert.BwdOutReferenceIdeal.nD Cert.BwdOutReferenceIdeal.τ).loc Cert.BwdOutReferenceIdeal.main_arg2)
      ∧ r.2.mem ((c.tc : Thread Cert.BwdOutReferenceIdeal.nD Cert.BwdOutReferenceIdeal.τ).loc Cert.BwdOutReferenceIdeal.main_arg3) = m ((c.tc : Thread Cert.BwdOutReferenceIdeal.nD Cert.BwdOutReferenceIdeal.τ).loc Cert.BwdOutReferenceIdeal.main_arg3))
      ∧ r.2.sem = fun _ => 0)

def quiescent_BwdOutReferenceIdeal_pre_finite [hBwdOutReferenceIdeal : Cert.BwdOutReferenceIdeal.Facts] [hPre_finite : Cert.Pre_finite.Facts] : Prop :=
  ∀ (m : (ℓ : Loc Cert.BwdOutReferenceIdeal.nD Cert.BwdOutReferenceIdeal.τ Cert.BwdOutReferenceIdeal.sig) → Buf (Elt Ideal) ℓ) (g : Dev Cert.BwdOutReferenceIdeal.nD → PrngReg), Pre_BwdOutReferenceIdeal_finite m →
    θ_run (Cert.BwdOutReferenceIdeal.defs (F := Ideal)) (onTc (τ := Cert.BwdOutReferenceIdeal.τ) (Cert.BwdOutReferenceIdeal.main (F := Ideal))) ⟨m, fun _ => 0, g⟩ (fun r => (∀ c : Dev Cert.BwdOutReferenceIdeal.nD,
      r.2.mem ((c.tc : Thread Cert.BwdOutReferenceIdeal.nD Cert.BwdOutReferenceIdeal.τ).loc Cert.BwdOutReferenceIdeal.main_arg0) = m ((c.tc : Thread Cert.BwdOutReferenceIdeal.nD Cert.BwdOutReferenceIdeal.τ).loc Cert.BwdOutReferenceIdeal.main_arg0)
      ∧ r.2.mem ((c.tc : Thread Cert.BwdOutReferenceIdeal.nD Cert.BwdOutReferenceIdeal.τ).loc Cert.BwdOutReferenceIdeal.main_arg1) = m ((c.tc : Thread Cert.BwdOutReferenceIdeal.nD Cert.BwdOutReferenceIdeal.τ).loc Cert.BwdOutReferenceIdeal.main_arg1)
      ∧ r.2.mem ((c.tc : Thread Cert.BwdOutReferenceIdeal.nD Cert.BwdOutReferenceIdeal.τ).loc Cert.BwdOutReferenceIdeal.main_arg2) = m ((c.tc : Thread Cert.BwdOutReferenceIdeal.nD Cert.BwdOutReferenceIdeal.τ).loc Cert.BwdOutReferenceIdeal.main_arg2)
      ∧ r.2.mem ((c.tc : Thread Cert.BwdOutReferenceIdeal.nD Cert.BwdOutReferenceIdeal.τ).loc Cert.BwdOutReferenceIdeal.main_arg3) = m ((c.tc : Thread Cert.BwdOutReferenceIdeal.nD Cert.BwdOutReferenceIdeal.τ).loc Cert.BwdOutReferenceIdeal.main_arg3))
      ∧ r.2.sem = fun _ => 0)

def quiescent_BwdInKernel [hBwdInKernel : Cert.BwdInKernel.Facts] : Prop :=
  ∀ (m : (ℓ : Loc Cert.BwdInKernel.nD Cert.BwdInKernel.τ Cert.BwdInKernel.sig) → Buf (Elt Bits) ℓ) (g : Dev Cert.BwdInKernel.nD → PrngReg), Pre_BwdInKernel m →
    θ_run (Cert.BwdInKernel.defs (F := Bits)) (onTc (τ := Cert.BwdInKernel.τ) (Cert.BwdInKernel.main (F := Bits))) ⟨m, fun _ => 0, g⟩ (fun r => (∀ c : Dev Cert.BwdInKernel.nD,
      r.2.mem ((c.tc : Thread Cert.BwdInKernel.nD Cert.BwdInKernel.τ).loc Cert.BwdInKernel.main_arg0) = m ((c.tc : Thread Cert.BwdInKernel.nD Cert.BwdInKernel.τ).loc Cert.BwdInKernel.main_arg0)
      ∧ r.2.mem ((c.tc : Thread Cert.BwdInKernel.nD Cert.BwdInKernel.τ).loc Cert.BwdInKernel.main_arg1) = m ((c.tc : Thread Cert.BwdInKernel.nD Cert.BwdInKernel.τ).loc Cert.BwdInKernel.main_arg1)
      ∧ r.2.mem ((c.tc : Thread Cert.BwdInKernel.nD Cert.BwdInKernel.τ).loc Cert.BwdInKernel.main_arg2) = m ((c.tc : Thread Cert.BwdInKernel.nD Cert.BwdInKernel.τ).loc Cert.BwdInKernel.main_arg2)
      ∧ r.2.mem ((c.tc : Thread Cert.BwdInKernel.nD Cert.BwdInKernel.τ).loc Cert.BwdInKernel.main_arg3) = m ((c.tc : Thread Cert.BwdInKernel.nD Cert.BwdInKernel.τ).loc Cert.BwdInKernel.main_arg3)
      ∧ r.2.mem ((c.tc : Thread Cert.BwdInKernel.nD Cert.BwdInKernel.τ).loc Cert.BwdInKernel.main_arg4) = m ((c.tc : Thread Cert.BwdInKernel.nD Cert.BwdInKernel.τ).loc Cert.BwdInKernel.main_arg4))
      ∧ r.2.sem = fun _ => 0)

def quiescent_BwdInKernelIdeal [hBwdInKernelIdeal : Cert.BwdInKernelIdeal.Facts] : Prop :=
  ∀ (m : (ℓ : Loc Cert.BwdInKernelIdeal.nD Cert.BwdInKernelIdeal.τ Cert.BwdInKernelIdeal.sig) → Buf (Elt Ideal) ℓ) (g : Dev Cert.BwdInKernelIdeal.nD → PrngReg), Pre_BwdInKernelIdeal m →
    θ_run (Cert.BwdInKernelIdeal.defs (F := Ideal)) (onTc (τ := Cert.BwdInKernelIdeal.τ) (Cert.BwdInKernelIdeal.main (F := Ideal))) ⟨m, fun _ => 0, g⟩ (fun r => (∀ c : Dev Cert.BwdInKernelIdeal.nD,
      r.2.mem ((c.tc : Thread Cert.BwdInKernelIdeal.nD Cert.BwdInKernelIdeal.τ).loc Cert.BwdInKernelIdeal.main_arg0) = m ((c.tc : Thread Cert.BwdInKernelIdeal.nD Cert.BwdInKernelIdeal.τ).loc Cert.BwdInKernelIdeal.main_arg0)
      ∧ r.2.mem ((c.tc : Thread Cert.BwdInKernelIdeal.nD Cert.BwdInKernelIdeal.τ).loc Cert.BwdInKernelIdeal.main_arg1) = m ((c.tc : Thread Cert.BwdInKernelIdeal.nD Cert.BwdInKernelIdeal.τ).loc Cert.BwdInKernelIdeal.main_arg1)
      ∧ r.2.mem ((c.tc : Thread Cert.BwdInKernelIdeal.nD Cert.BwdInKernelIdeal.τ).loc Cert.BwdInKernelIdeal.main_arg2) = m ((c.tc : Thread Cert.BwdInKernelIdeal.nD Cert.BwdInKernelIdeal.τ).loc Cert.BwdInKernelIdeal.main_arg2)
      ∧ r.2.mem ((c.tc : Thread Cert.BwdInKernelIdeal.nD Cert.BwdInKernelIdeal.τ).loc Cert.BwdInKernelIdeal.main_arg3) = m ((c.tc : Thread Cert.BwdInKernelIdeal.nD Cert.BwdInKernelIdeal.τ).loc Cert.BwdInKernelIdeal.main_arg3)
      ∧ r.2.mem ((c.tc : Thread Cert.BwdInKernelIdeal.nD Cert.BwdInKernelIdeal.τ).loc Cert.BwdInKernelIdeal.main_arg4) = m ((c.tc : Thread Cert.BwdInKernelIdeal.nD Cert.BwdInKernelIdeal.τ).loc Cert.BwdInKernelIdeal.main_arg4))
      ∧ r.2.sem = fun _ => 0)

def quiescent_BwdInReferenceIdeal [hBwdInReferenceIdeal : Cert.BwdInReferenceIdeal.Facts] : Prop :=
  ∀ (m : (ℓ : Loc Cert.BwdInReferenceIdeal.nD Cert.BwdInReferenceIdeal.τ Cert.BwdInReferenceIdeal.sig) → Buf (Elt Ideal) ℓ) (g : Dev Cert.BwdInReferenceIdeal.nD → PrngReg), Pre_BwdInReferenceIdeal m →
    θ_run (Cert.BwdInReferenceIdeal.defs (F := Ideal)) (onTc (τ := Cert.BwdInReferenceIdeal.τ) (Cert.BwdInReferenceIdeal.main (F := Ideal))) ⟨m, fun _ => 0, g⟩ (fun r => (∀ c : Dev Cert.BwdInReferenceIdeal.nD,
      r.2.mem ((c.tc : Thread Cert.BwdInReferenceIdeal.nD Cert.BwdInReferenceIdeal.τ).loc Cert.BwdInReferenceIdeal.main_arg0) = m ((c.tc : Thread Cert.BwdInReferenceIdeal.nD Cert.BwdInReferenceIdeal.τ).loc Cert.BwdInReferenceIdeal.main_arg0)
      ∧ r.2.mem ((c.tc : Thread Cert.BwdInReferenceIdeal.nD Cert.BwdInReferenceIdeal.τ).loc Cert.BwdInReferenceIdeal.main_arg1) = m ((c.tc : Thread Cert.BwdInReferenceIdeal.nD Cert.BwdInReferenceIdeal.τ).loc Cert.BwdInReferenceIdeal.main_arg1)
      ∧ r.2.mem ((c.tc : Thread Cert.BwdInReferenceIdeal.nD Cert.BwdInReferenceIdeal.τ).loc Cert.BwdInReferenceIdeal.main_arg2) = m ((c.tc : Thread Cert.BwdInReferenceIdeal.nD Cert.BwdInReferenceIdeal.τ).loc Cert.BwdInReferenceIdeal.main_arg2)
      ∧ r.2.mem ((c.tc : Thread Cert.BwdInReferenceIdeal.nD Cert.BwdInReferenceIdeal.τ).loc Cert.BwdInReferenceIdeal.main_arg3) = m ((c.tc : Thread Cert.BwdInReferenceIdeal.nD Cert.BwdInReferenceIdeal.τ).loc Cert.BwdInReferenceIdeal.main_arg3)
      ∧ r.2.mem ((c.tc : Thread Cert.BwdInReferenceIdeal.nD Cert.BwdInReferenceIdeal.τ).loc Cert.BwdInReferenceIdeal.main_arg4) = m ((c.tc : Thread Cert.BwdInReferenceIdeal.nD Cert.BwdInReferenceIdeal.τ).loc Cert.BwdInReferenceIdeal.main_arg4))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwInKernel [hDwInKernel : Cert.DwInKernel.Facts] : Prop :=
  ∀ (m : (ℓ : Loc Cert.DwInKernel.nD Cert.DwInKernel.τ Cert.DwInKernel.sig) → Buf (Elt Bits) ℓ) (g : Dev Cert.DwInKernel.nD → PrngReg), Pre_DwInKernel m →
    θ_run (Cert.DwInKernel.defs (F := Bits)) (onTc (τ := Cert.DwInKernel.τ) (Cert.DwInKernel.main (F := Bits))) ⟨m, fun _ => 0, g⟩ (fun r => (∀ c : Dev Cert.DwInKernel.nD,
      r.2.mem ((c.tc : Thread Cert.DwInKernel.nD Cert.DwInKernel.τ).loc Cert.DwInKernel.main_arg0) = m ((c.tc : Thread Cert.DwInKernel.nD Cert.DwInKernel.τ).loc Cert.DwInKernel.main_arg0)
      ∧ r.2.mem ((c.tc : Thread Cert.DwInKernel.nD Cert.DwInKernel.τ).loc Cert.DwInKernel.main_arg1) = m ((c.tc : Thread Cert.DwInKernel.nD Cert.DwInKernel.τ).loc Cert.DwInKernel.main_arg1)
      ∧ r.2.mem ((c.tc : Thread Cert.DwInKernel.nD Cert.DwInKernel.τ).loc Cert.DwInKernel.main_arg2) = m ((c.tc : Thread Cert.DwInKernel.nD Cert.DwInKernel.τ).loc Cert.DwInKernel.main_arg2))
      ∧ r.2.sem = fun _ => 0)

def quiescent_DwInKernelIdeal [hDwInKernelIdeal : Cert.DwInKernelIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg), Pre_DwInKernelIdeal m →
    θ_run (Cert.DwInKernelIdeal.defs (F := Ideal)) (onTc (τ := Cert.DwInKernelIdeal.τ) (Cert.DwInKernelIdeal.main (F := Ideal))) ⟨m, fun _ => 0, g⟩ (fun r => (∀ c : Dev Cert.DwInKernelIdeal.nD,
      r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
      ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1)
      ∧ r.2.mem ((c.tc : Thread Cert.DwInKernelIdeal.nD Cert.DwInKernelIdeal.τ).loc Cert.DwInKernelIdeal.main_arg2) = m ((c.tc : Thread Cert.DwInKernelIdeal.nD Cert.DwInKernelIdeal.τ).loc Cert.DwInKernelIdeal.main_arg2))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2))
      ∧ r.2.sem = fun _ => 0)

def quiescent_ConvInKernel [hConvInKernel : Cert.ConvInKernel.Facts] : Prop :=
  ∀ (m : (ℓ : Loc Cert.ConvInKernel.nD Cert.ConvInKernel.τ Cert.ConvInKernel.sig) → Buf (Elt Bits) ℓ) (g : Dev Cert.ConvInKernel.nD → PrngReg), Pre_ConvInKernel m →
    θ_run (Cert.ConvInKernel.defs (F := Bits)) (onTc (τ := Cert.ConvInKernel.τ) (Cert.ConvInKernel.main (F := Bits))) ⟨m, fun _ => 0, g⟩ (fun r => (∀ c : Dev Cert.ConvInKernel.nD,
      r.2.mem ((c.tc : Thread Cert.ConvInKernel.nD Cert.ConvInKernel.τ).loc Cert.ConvInKernel.main_arg0) = m ((c.tc : Thread Cert.ConvInKernel.nD Cert.ConvInKernel.τ).loc Cert.ConvInKernel.main_arg0)
      ∧ r.2.mem ((c.tc : Thread Cert.ConvInKernel.nD Cert.ConvInKernel.τ).loc Cert.ConvInKernel.main_arg1) = m ((c.tc : Thread Cert.ConvInKernel.nD Cert.ConvInKernel.τ).loc Cert.ConvInKernel.main_arg1)
      ∧ r.2.mem ((c.tc : Thread Cert.ConvInKernel.nD Cert.ConvInKernel.τ).loc Cert.ConvInKernel.main_arg2) = m ((c.tc : Thread Cert.ConvInKernel.nD Cert.ConvInKernel.τ).loc Cert.ConvInKernel.main_arg2))
      ∧ r.2.sem = fun _ => 0)

def quiescent_ConvInKernelIdeal [hConvInKernelIdeal : Cert.ConvInKernelIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg), Pre_ConvInKernelIdeal m →
    θ_run (Cert.ConvInKernelIdeal.defs (F := Ideal)) (onTc (τ := Cert.ConvInKernelIdeal.τ) (Cert.ConvInKernelIdeal.main (F := Ideal))) ⟨m, fun _ => 0, g⟩ (fun r => (∀ c : Dev Cert.ConvInKernelIdeal.nD,
      r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
      ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1)
      ∧ r.2.mem ((c.tc : Thread Cert.ConvInKernelIdeal.nD Cert.ConvInKernelIdeal.τ).loc Cert.ConvInKernelIdeal.main_arg2) = m ((c.tc : Thread Cert.ConvInKernelIdeal.nD Cert.ConvInKernelIdeal.τ).loc Cert.ConvInKernelIdeal.main_arg2))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2))
      ∧ r.2.sem = fun _ => 0)

def quiescent_QgInKernel [hQgInKernel : Cert.QgInKernel.Facts] : Prop :=
  ∀ (m : (ℓ : Loc Cert.QgInKernel.nD Cert.QgInKernel.τ Cert.QgInKernel.sig) → Buf (Elt Bits) ℓ) (g : Dev Cert.QgInKernel.nD → PrngReg), Pre_QgInKernel m →
    θ_run (Cert.QgInKernel.defs (F := Bits)) (onTc (τ := Cert.QgInKernel.τ) (Cert.QgInKernel.main (F := Bits))) ⟨m, fun _ => 0, g⟩ (fun r => (∀ c : Dev Cert.QgInKernel.nD,
      r.2.mem ((c.tc : Thread Cert.QgInKernel.nD Cert.QgInKernel.τ).loc Cert.QgInKernel.main_arg0) = m ((c.tc : Thread Cert.QgInKernel.nD Cert.QgInKernel.τ).loc Cert.QgInKernel.main_arg0)
      ∧ r.2.mem ((c.tc : Thread Cert.QgInKernel.nD Cert.QgInKernel.τ).loc Cert.QgInKernel.main_arg1) = m ((c.tc : Thread Cert.QgInKernel.nD Cert.QgInKernel.τ).loc Cert.QgInKernel.main_arg1)
      ∧ r.2.mem ((c.tc : Thread Cert.QgInKernel.nD Cert.QgInKernel.τ).loc Cert.QgInKernel.main_arg2) = m ((c.tc : Thread Cert.QgInKernel.nD Cert.QgInKernel.τ).loc Cert.QgInKernel.main_arg2))
      ∧ r.2.sem = fun _ => 0)

def quiescent_QgInKernelIdeal [hQgInKernelIdeal : Cert.QgInKernelIdeal.Facts] : Prop :=
  ∀ (m : (ℓ : Loc Cert.QgInKernelIdeal.nD Cert.QgInKernelIdeal.τ Cert.QgInKernelIdeal.sig) → Buf (Elt Ideal) ℓ) (g : Dev Cert.QgInKernelIdeal.nD → PrngReg), Pre_QgInKernelIdeal m →
    θ_run (Cert.QgInKernelIdeal.defs (F := Ideal)) (onTc (τ := Cert.QgInKernelIdeal.τ) (Cert.QgInKernelIdeal.main (F := Ideal))) ⟨m, fun _ => 0, g⟩ (fun r => (∀ c : Dev Cert.QgInKernelIdeal.nD,
      r.2.mem ((c.tc : Thread Cert.QgInKernelIdeal.nD Cert.QgInKernelIdeal.τ).loc Cert.QgInKernelIdeal.main_arg0) = m ((c.tc : Thread Cert.QgInKernelIdeal.nD Cert.QgInKernelIdeal.τ).loc Cert.QgInKernelIdeal.main_arg0)
      ∧ r.2.mem ((c.tc : Thread Cert.QgInKernelIdeal.nD Cert.QgInKernelIdeal.τ).loc Cert.QgInKernelIdeal.main_arg1) = m ((c.tc : Thread Cert.QgInKernelIdeal.nD Cert.QgInKernelIdeal.τ).loc Cert.QgInKernelIdeal.main_arg1)
      ∧ r.2.mem ((c.tc : Thread Cert.QgInKernelIdeal.nD Cert.QgInKernelIdeal.τ).loc Cert.QgInKernelIdeal.main_arg2) = m ((c.tc : Thread Cert.QgInKernelIdeal.nD Cert.QgInKernelIdeal.τ).loc Cert.QgInKernelIdeal.main_arg2))
      ∧ r.2.sem = fun _ => 0)

def quiescent_QgInReferenceIdeal [hQgInReferenceIdeal : Cert.QgInReferenceIdeal.Facts] : Prop :=
  ∀ (m : (ℓ : Loc Cert.QgInReferenceIdeal.nD Cert.QgInReferenceIdeal.τ Cert.QgInReferenceIdeal.sig) → Buf (Elt Ideal) ℓ) (g : Dev Cert.QgInReferenceIdeal.nD → PrngReg), Pre_QgInReferenceIdeal m →
    θ_run (Cert.QgInReferenceIdeal.defs (F := Ideal)) (onTc (τ := Cert.QgInReferenceIdeal.τ) (Cert.QgInReferenceIdeal.main (F := Ideal))) ⟨m, fun _ => 0, g⟩ (fun r => (∀ c : Dev Cert.QgInReferenceIdeal.nD,
      r.2.mem ((c.tc : Thread Cert.QgInReferenceIdeal.nD Cert.QgInReferenceIdeal.τ).loc Cert.QgInReferenceIdeal.main_arg0) = m ((c.tc : Thread Cert.QgInReferenceIdeal.nD Cert.QgInReferenceIdeal.τ).loc Cert.QgInReferenceIdeal.main_arg0)
      ∧ r.2.mem ((c.tc : Thread Cert.QgInReferenceIdeal.nD Cert.QgInReferenceIdeal.τ).loc Cert.QgInReferenceIdeal.main_arg1) = m ((c.tc : Thread Cert.QgInReferenceIdeal.nD Cert.QgInReferenceIdeal.τ).loc Cert.QgInReferenceIdeal.main_arg1)
      ∧ r.2.mem ((c.tc : Thread Cert.QgInReferenceIdeal.nD Cert.QgInReferenceIdeal.τ).loc Cert.QgInReferenceIdeal.main_arg2) = m ((c.tc : Thread Cert.QgInReferenceIdeal.nD Cert.QgInReferenceIdeal.τ).loc Cert.QgInReferenceIdeal.main_arg2))
      ∧ r.2.sem = fun _ => 0)

def quiescent_KvInKernel [hKvInKernel : Cert.KvInKernel.Facts] : Prop :=
  ∀ (m : (ℓ : Loc Cert.KvInKernel.nD Cert.KvInKernel.τ Cert.KvInKernel.sig) → Buf (Elt Bits) ℓ) (g : Dev Cert.KvInKernel.nD → PrngReg), Pre_KvInKernel m →
    θ_run (Cert.KvInKernel.defs (F := Bits)) (onTc (τ := Cert.KvInKernel.τ) (Cert.KvInKernel.main (F := Bits))) ⟨m, fun _ => 0, g⟩ (fun r => (∀ c : Dev Cert.KvInKernel.nD,
      r.2.mem ((c.tc : Thread Cert.KvInKernel.nD Cert.KvInKernel.τ).loc Cert.KvInKernel.main_arg0) = m ((c.tc : Thread Cert.KvInKernel.nD Cert.KvInKernel.τ).loc Cert.KvInKernel.main_arg0)
      ∧ r.2.mem ((c.tc : Thread Cert.KvInKernel.nD Cert.KvInKernel.τ).loc Cert.KvInKernel.main_arg1) = m ((c.tc : Thread Cert.KvInKernel.nD Cert.KvInKernel.τ).loc Cert.KvInKernel.main_arg1)
      ∧ r.2.mem ((c.tc : Thread Cert.KvInKernel.nD Cert.KvInKernel.τ).loc Cert.KvInKernel.main_arg2) = m ((c.tc : Thread Cert.KvInKernel.nD Cert.KvInKernel.τ).loc Cert.KvInKernel.main_arg2))
      ∧ r.2.sem = fun _ => 0)

def quiescent_KvInKernelIdeal [hKvInKernelIdeal : Cert.KvInKernelIdeal.Facts] : Prop :=
  ∀ (m : (ℓ : Loc Cert.KvInKernelIdeal.nD Cert.KvInKernelIdeal.τ Cert.KvInKernelIdeal.sig) → Buf (Elt Ideal) ℓ) (g : Dev Cert.KvInKernelIdeal.nD → PrngReg), Pre_KvInKernelIdeal m →
    θ_run (Cert.KvInKernelIdeal.defs (F := Ideal)) (onTc (τ := Cert.KvInKernelIdeal.τ) (Cert.KvInKernelIdeal.main (F := Ideal))) ⟨m, fun _ => 0, g⟩ (fun r => (∀ c : Dev Cert.KvInKernelIdeal.nD,
      r.2.mem ((c.tc : Thread Cert.KvInKernelIdeal.nD Cert.KvInKernelIdeal.τ).loc Cert.KvInKernelIdeal.main_arg0) = m ((c.tc : Thread Cert.KvInKernelIdeal.nD Cert.KvInKernelIdeal.τ).loc Cert.KvInKernelIdeal.main_arg0)
      ∧ r.2.mem ((c.tc : Thread Cert.KvInKernelIdeal.nD Cert.KvInKernelIdeal.τ).loc Cert.KvInKernelIdeal.main_arg1) = m ((c.tc : Thread Cert.KvInKernelIdeal.nD Cert.KvInKernelIdeal.τ).loc Cert.KvInKernelIdeal.main_arg1)
      ∧ r.2.mem ((c.tc : Thread Cert.KvInKernelIdeal.nD Cert.KvInKernelIdeal.τ).loc Cert.KvInKernelIdeal.main_arg2) = m ((c.tc : Thread Cert.KvInKernelIdeal.nD Cert.KvInKernelIdeal.τ).loc Cert.KvInKernelIdeal.main_arg2))
      ∧ r.2.sem = fun _ => 0)

def quiescent_KvInReferenceIdeal [hKvInReferenceIdeal : Cert.KvInReferenceIdeal.Facts] : Prop :=
  ∀ (m : (ℓ : Loc Cert.KvInReferenceIdeal.nD Cert.KvInReferenceIdeal.τ Cert.KvInReferenceIdeal.sig) → Buf (Elt Ideal) ℓ) (g : Dev Cert.KvInReferenceIdeal.nD → PrngReg), Pre_KvInReferenceIdeal m →
    θ_run (Cert.KvInReferenceIdeal.defs (F := Ideal)) (onTc (τ := Cert.KvInReferenceIdeal.τ) (Cert.KvInReferenceIdeal.main (F := Ideal))) ⟨m, fun _ => 0, g⟩ (fun r => (∀ c : Dev Cert.KvInReferenceIdeal.nD,
      r.2.mem ((c.tc : Thread Cert.KvInReferenceIdeal.nD Cert.KvInReferenceIdeal.τ).loc Cert.KvInReferenceIdeal.main_arg0) = m ((c.tc : Thread Cert.KvInReferenceIdeal.nD Cert.KvInReferenceIdeal.τ).loc Cert.KvInReferenceIdeal.main_arg0)
      ∧ r.2.mem ((c.tc : Thread Cert.KvInReferenceIdeal.nD Cert.KvInReferenceIdeal.τ).loc Cert.KvInReferenceIdeal.main_arg1) = m ((c.tc : Thread Cert.KvInReferenceIdeal.nD Cert.KvInReferenceIdeal.τ).loc Cert.KvInReferenceIdeal.main_arg1)
      ∧ r.2.mem ((c.tc : Thread Cert.KvInReferenceIdeal.nD Cert.KvInReferenceIdeal.τ).loc Cert.KvInReferenceIdeal.main_arg2) = m ((c.tc : Thread Cert.KvInReferenceIdeal.nD Cert.KvInReferenceIdeal.τ).loc Cert.KvInReferenceIdeal.main_arg2))
      ∧ r.2.sem = fun _ => 0)

def quiescent_ConvBwdInKernel [hConvBwdInKernel : Cert.ConvBwdInKernel.Facts] : Prop :=
  ∀ (m : (ℓ : Loc Cert.ConvBwdInKernel.nD Cert.ConvBwdInKernel.τ Cert.ConvBwdInKernel.sig) → Buf (Elt Bits) ℓ) (g : Dev Cert.ConvBwdInKernel.nD → PrngReg), Pre_ConvBwdInKernel m →
    θ_run (Cert.ConvBwdInKernel.defs (F := Bits)) (onTc (τ := Cert.ConvBwdInKernel.τ) (Cert.ConvBwdInKernel.main (F := Bits))) ⟨m, fun _ => 0, g⟩ (fun r => (∀ c : Dev Cert.ConvBwdInKernel.nD,
      r.2.mem ((c.tc : Thread Cert.ConvBwdInKernel.nD Cert.ConvBwdInKernel.τ).loc Cert.ConvBwdInKernel.main_arg0) = m ((c.tc : Thread Cert.ConvBwdInKernel.nD Cert.ConvBwdInKernel.τ).loc Cert.ConvBwdInKernel.main_arg0)
      ∧ r.2.mem ((c.tc : Thread Cert.ConvBwdInKernel.nD Cert.ConvBwdInKernel.τ).loc Cert.ConvBwdInKernel.main_arg1) = m ((c.tc : Thread Cert.ConvBwdInKernel.nD Cert.ConvBwdInKernel.τ).loc Cert.ConvBwdInKernel.main_arg1)
      ∧ r.2.mem ((c.tc : Thread Cert.ConvBwdInKernel.nD Cert.ConvBwdInKernel.τ).loc Cert.ConvBwdInKernel.main_arg2) = m ((c.tc : Thread Cert.ConvBwdInKernel.nD Cert.ConvBwdInKernel.τ).loc Cert.ConvBwdInKernel.main_arg2)
      ∧ r.2.mem ((c.tc : Thread Cert.ConvBwdInKernel.nD Cert.ConvBwdInKernel.τ).loc Cert.ConvBwdInKernel.main_arg3) = m ((c.tc : Thread Cert.ConvBwdInKernel.nD Cert.ConvBwdInKernel.τ).loc Cert.ConvBwdInKernel.main_arg3)
      ∧ r.2.mem ((c.tc : Thread Cert.ConvBwdInKernel.nD Cert.ConvBwdInKernel.τ).loc Cert.ConvBwdInKernel.main_arg4) = m ((c.tc : Thread Cert.ConvBwdInKernel.nD Cert.ConvBwdInKernel.τ).loc Cert.ConvBwdInKernel.main_arg4))
      ∧ r.2.sem = fun _ => 0)

def quiescent_ConvBwdInKernelIdeal [hConvBwdInKernelIdeal : Cert.ConvBwdInKernelIdeal.Facts] : Prop :=
  ∀ (m : (ℓ : Loc Cert.ConvBwdInKernelIdeal.nD Cert.ConvBwdInKernelIdeal.τ Cert.ConvBwdInKernelIdeal.sig) → Buf (Elt Ideal) ℓ) (g : Dev Cert.ConvBwdInKernelIdeal.nD → PrngReg), Pre_ConvBwdInKernelIdeal m →
    θ_run (Cert.ConvBwdInKernelIdeal.defs (F := Ideal)) (onTc (τ := Cert.ConvBwdInKernelIdeal.τ) (Cert.ConvBwdInKernelIdeal.main (F := Ideal))) ⟨m, fun _ => 0, g⟩ (fun r => (∀ c : Dev Cert.ConvBwdInKernelIdeal.nD,
      r.2.mem ((c.tc : Thread Cert.ConvBwdInKernelIdeal.nD Cert.ConvBwdInKernelIdeal.τ).loc Cert.ConvBwdInKernelIdeal.main_arg0) = m ((c.tc : Thread Cert.ConvBwdInKernelIdeal.nD Cert.ConvBwdInKernelIdeal.τ).loc Cert.ConvBwdInKernelIdeal.main_arg0)
      ∧ r.2.mem ((c.tc : Thread Cert.ConvBwdInKernelIdeal.nD Cert.ConvBwdInKernelIdeal.τ).loc Cert.ConvBwdInKernelIdeal.main_arg1) = m ((c.tc : Thread Cert.ConvBwdInKernelIdeal.nD Cert.ConvBwdInKernelIdeal.τ).loc Cert.ConvBwdInKernelIdeal.main_arg1)
      ∧ r.2.mem ((c.tc : Thread Cert.ConvBwdInKernelIdeal.nD Cert.ConvBwdInKernelIdeal.τ).loc Cert.ConvBwdInKernelIdeal.main_arg2) = m ((c.tc : Thread Cert.ConvBwdInKernelIdeal.nD Cert.ConvBwdInKernelIdeal.τ).loc Cert.ConvBwdInKernelIdeal.main_arg2)
      ∧ r.2.mem ((c.tc : Thread Cert.ConvBwdInKernelIdeal.nD Cert.ConvBwdInKernelIdeal.τ).loc Cert.ConvBwdInKernelIdeal.main_arg3) = m ((c.tc : Thread Cert.ConvBwdInKernelIdeal.nD Cert.ConvBwdInKernelIdeal.τ).loc Cert.ConvBwdInKernelIdeal.main_arg3)
      ∧ r.2.mem ((c.tc : Thread Cert.ConvBwdInKernelIdeal.nD Cert.ConvBwdInKernelIdeal.τ).loc Cert.ConvBwdInKernelIdeal.main_arg4) = m ((c.tc : Thread Cert.ConvBwdInKernelIdeal.nD Cert.ConvBwdInKernelIdeal.τ).loc Cert.ConvBwdInKernelIdeal.main_arg4))
      ∧ r.2.sem = fun _ => 0)

def quiescent_ConvBwdInReferenceIdeal [hConvBwdInReferenceIdeal : Cert.ConvBwdInReferenceIdeal.Facts] : Prop :=
  ∀ (m : (ℓ : Loc Cert.ConvBwdInReferenceIdeal.nD Cert.ConvBwdInReferenceIdeal.τ Cert.ConvBwdInReferenceIdeal.sig) → Buf (Elt Ideal) ℓ) (g : Dev Cert.ConvBwdInReferenceIdeal.nD → PrngReg), Pre_ConvBwdInReferenceIdeal m →
    θ_run (Cert.ConvBwdInReferenceIdeal.defs (F := Ideal)) (onTc (τ := Cert.ConvBwdInReferenceIdeal.τ) (Cert.ConvBwdInReferenceIdeal.main (F := Ideal))) ⟨m, fun _ => 0, g⟩ (fun r => (∀ c : Dev Cert.ConvBwdInReferenceIdeal.nD,
      r.2.mem ((c.tc : Thread Cert.ConvBwdInReferenceIdeal.nD Cert.ConvBwdInReferenceIdeal.τ).loc Cert.ConvBwdInReferenceIdeal.main_arg0) = m ((c.tc : Thread Cert.ConvBwdInReferenceIdeal.nD Cert.ConvBwdInReferenceIdeal.τ).loc Cert.ConvBwdInReferenceIdeal.main_arg0)
      ∧ r.2.mem ((c.tc : Thread Cert.ConvBwdInReferenceIdeal.nD Cert.ConvBwdInReferenceIdeal.τ).loc Cert.ConvBwdInReferenceIdeal.main_arg1) = m ((c.tc : Thread Cert.ConvBwdInReferenceIdeal.nD Cert.ConvBwdInReferenceIdeal.τ).loc Cert.ConvBwdInReferenceIdeal.main_arg1)
      ∧ r.2.mem ((c.tc : Thread Cert.ConvBwdInReferenceIdeal.nD Cert.ConvBwdInReferenceIdeal.τ).loc Cert.ConvBwdInReferenceIdeal.main_arg2) = m ((c.tc : Thread Cert.ConvBwdInReferenceIdeal.nD Cert.ConvBwdInReferenceIdeal.τ).loc Cert.ConvBwdInReferenceIdeal.main_arg2)
      ∧ r.2.mem ((c.tc : Thread Cert.ConvBwdInReferenceIdeal.nD Cert.ConvBwdInReferenceIdeal.τ).loc Cert.ConvBwdInReferenceIdeal.main_arg3) = m ((c.tc : Thread Cert.ConvBwdInReferenceIdeal.nD Cert.ConvBwdInReferenceIdeal.τ).loc Cert.ConvBwdInReferenceIdeal.main_arg3)
      ∧ r.2.mem ((c.tc : Thread Cert.ConvBwdInReferenceIdeal.nD Cert.ConvBwdInReferenceIdeal.τ).loc Cert.ConvBwdInReferenceIdeal.main_arg4) = m ((c.tc : Thread Cert.ConvBwdInReferenceIdeal.nD Cert.ConvBwdInReferenceIdeal.τ).loc Cert.ConvBwdInReferenceIdeal.main_arg4))
      ∧ r.2.sem = fun _ => 0)

def quiescent_QgBwdInKernel [hQgBwdInKernel : Cert.QgBwdInKernel.Facts] : Prop :=
  ∀ (m : (ℓ : Loc Cert.QgBwdInKernel.nD Cert.QgBwdInKernel.τ Cert.QgBwdInKernel.sig) → Buf (Elt Bits) ℓ) (g : Dev Cert.QgBwdInKernel.nD → PrngReg), Pre_QgBwdInKernel m →
    θ_run (Cert.QgBwdInKernel.defs (F := Bits)) (onTc (τ := Cert.QgBwdInKernel.τ) (Cert.QgBwdInKernel.main (F := Bits))) ⟨m, fun _ => 0, g⟩ (fun r => (∀ c : Dev Cert.QgBwdInKernel.nD,
      r.2.mem ((c.tc : Thread Cert.QgBwdInKernel.nD Cert.QgBwdInKernel.τ).loc Cert.QgBwdInKernel.main_arg0) = m ((c.tc : Thread Cert.QgBwdInKernel.nD Cert.QgBwdInKernel.τ).loc Cert.QgBwdInKernel.main_arg0)
      ∧ r.2.mem ((c.tc : Thread Cert.QgBwdInKernel.nD Cert.QgBwdInKernel.τ).loc Cert.QgBwdInKernel.main_arg1) = m ((c.tc : Thread Cert.QgBwdInKernel.nD Cert.QgBwdInKernel.τ).loc Cert.QgBwdInKernel.main_arg1)
      ∧ r.2.mem ((c.tc : Thread Cert.QgBwdInKernel.nD Cert.QgBwdInKernel.τ).loc Cert.QgBwdInKernel.main_arg2) = m ((c.tc : Thread Cert.QgBwdInKernel.nD Cert.QgBwdInKernel.τ).loc Cert.QgBwdInKernel.main_arg2)
      ∧ r.2.mem ((c.tc : Thread Cert.QgBwdInKernel.nD Cert.QgBwdInKernel.τ).loc Cert.QgBwdInKernel.main_arg3) = m ((c.tc : Thread Cert.QgBwdInKernel.nD Cert.QgBwdInKernel.τ).loc Cert.QgBwdInKernel.main_arg3)
      ∧ r.2.mem ((c.tc : Thread Cert.QgBwdInKernel.nD Cert.QgBwdInKernel.τ).loc Cert.QgBwdInKernel.main_arg4) = m ((c.tc : Thread Cert.QgBwdInKernel.nD Cert.QgBwdInKernel.τ).loc Cert.QgBwdInKernel.main_arg4)
      ∧ r.2.mem ((c.tc : Thread Cert.QgBwdInKernel.nD Cert.QgBwdInKernel.τ).loc Cert.QgBwdInKernel.main_arg5) = m ((c.tc : Thread Cert.QgBwdInKernel.nD Cert.QgBwdInKernel.τ).loc Cert.QgBwdInKernel.main_arg5))
      ∧ r.2.sem = fun _ => 0)

def quiescent_QgBwdInKernelIdeal [hQgBwdInKernelIdeal : Cert.QgBwdInKernelIdeal.Facts] : Prop :=
  ∀ (m : (ℓ : Loc Cert.QgBwdInKernelIdeal.nD Cert.QgBwdInKernelIdeal.τ Cert.QgBwdInKernelIdeal.sig) → Buf (Elt Ideal) ℓ) (g : Dev Cert.QgBwdInKernelIdeal.nD → PrngReg), Pre_QgBwdInKernelIdeal m →
    θ_run (Cert.QgBwdInKernelIdeal.defs (F := Ideal)) (onTc (τ := Cert.QgBwdInKernelIdeal.τ) (Cert.QgBwdInKernelIdeal.main (F := Ideal))) ⟨m, fun _ => 0, g⟩ (fun r => (∀ c : Dev Cert.QgBwdInKernelIdeal.nD,
      r.2.mem ((c.tc : Thread Cert.QgBwdInKernelIdeal.nD Cert.QgBwdInKernelIdeal.τ).loc Cert.QgBwdInKernelIdeal.main_arg0) = m ((c.tc : Thread Cert.QgBwdInKernelIdeal.nD Cert.QgBwdInKernelIdeal.τ).loc Cert.QgBwdInKernelIdeal.main_arg0)
      ∧ r.2.mem ((c.tc : Thread Cert.QgBwdInKernelIdeal.nD Cert.QgBwdInKernelIdeal.τ).loc Cert.QgBwdInKernelIdeal.main_arg1) = m ((c.tc : Thread Cert.QgBwdInKernelIdeal.nD Cert.QgBwdInKernelIdeal.τ).loc Cert.QgBwdInKernelIdeal.main_arg1)
      ∧ r.2.mem ((c.tc : Thread Cert.QgBwdInKernelIdeal.nD Cert.QgBwdInKernelIdeal.τ).loc Cert.QgBwdInKernelIdeal.main_arg2) = m ((c.tc : Thread Cert.QgBwdInKernelIdeal.nD Cert.QgBwdInKernelIdeal.τ).loc Cert.QgBwdInKernelIdeal.main_arg2)
      ∧ r.2.mem ((c.tc : Thread Cert.QgBwdInKernelIdeal.nD Cert.QgBwdInKernelIdeal.τ).loc Cert.QgBwdInKernelIdeal.main_arg3) = m ((c.tc : Thread Cert.QgBwdInKernelIdeal.nD Cert.QgBwdInKernelIdeal.τ).loc Cert.QgBwdInKernelIdeal.main_arg3)
      ∧ r.2.mem ((c.tc : Thread Cert.QgBwdInKernelIdeal.nD Cert.QgBwdInKernelIdeal.τ).loc Cert.QgBwdInKernelIdeal.main_arg4) = m ((c.tc : Thread Cert.QgBwdInKernelIdeal.nD Cert.QgBwdInKernelIdeal.τ).loc Cert.QgBwdInKernelIdeal.main_arg4)
      ∧ r.2.mem ((c.tc : Thread Cert.QgBwdInKernelIdeal.nD Cert.QgBwdInKernelIdeal.τ).loc Cert.QgBwdInKernelIdeal.main_arg5) = m ((c.tc : Thread Cert.QgBwdInKernelIdeal.nD Cert.QgBwdInKernelIdeal.τ).loc Cert.QgBwdInKernelIdeal.main_arg5))
      ∧ r.2.sem = fun _ => 0)

def quiescent_QgBwdInReferenceIdeal [hQgBwdInReferenceIdeal : Cert.QgBwdInReferenceIdeal.Facts] : Prop :=
  ∀ (m : (ℓ : Loc Cert.QgBwdInReferenceIdeal.nD Cert.QgBwdInReferenceIdeal.τ Cert.QgBwdInReferenceIdeal.sig) → Buf (Elt Ideal) ℓ) (g : Dev Cert.QgBwdInReferenceIdeal.nD → PrngReg), Pre_QgBwdInReferenceIdeal m →
    θ_run (Cert.QgBwdInReferenceIdeal.defs (F := Ideal)) (onTc (τ := Cert.QgBwdInReferenceIdeal.τ) (Cert.QgBwdInReferenceIdeal.main (F := Ideal))) ⟨m, fun _ => 0, g⟩ (fun r => (∀ c : Dev Cert.QgBwdInReferenceIdeal.nD,
      r.2.mem ((c.tc : Thread Cert.QgBwdInReferenceIdeal.nD Cert.QgBwdInReferenceIdeal.τ).loc Cert.QgBwdInReferenceIdeal.main_arg0) = m ((c.tc : Thread Cert.QgBwdInReferenceIdeal.nD Cert.QgBwdInReferenceIdeal.τ).loc Cert.QgBwdInReferenceIdeal.main_arg0)
      ∧ r.2.mem ((c.tc : Thread Cert.QgBwdInReferenceIdeal.nD Cert.QgBwdInReferenceIdeal.τ).loc Cert.QgBwdInReferenceIdeal.main_arg1) = m ((c.tc : Thread Cert.QgBwdInReferenceIdeal.nD Cert.QgBwdInReferenceIdeal.τ).loc Cert.QgBwdInReferenceIdeal.main_arg1)
      ∧ r.2.mem ((c.tc : Thread Cert.QgBwdInReferenceIdeal.nD Cert.QgBwdInReferenceIdeal.τ).loc Cert.QgBwdInReferenceIdeal.main_arg2) = m ((c.tc : Thread Cert.QgBwdInReferenceIdeal.nD Cert.QgBwdInReferenceIdeal.τ).loc Cert.QgBwdInReferenceIdeal.main_arg2)
      ∧ r.2.mem ((c.tc : Thread Cert.QgBwdInReferenceIdeal.nD Cert.QgBwdInReferenceIdeal.τ).loc Cert.QgBwdInReferenceIdeal.main_arg3) = m ((c.tc : Thread Cert.QgBwdInReferenceIdeal.nD Cert.QgBwdInReferenceIdeal.τ).loc Cert.QgBwdInReferenceIdeal.main_arg3)
      ∧ r.2.mem ((c.tc : Thread Cert.QgBwdInReferenceIdeal.nD Cert.QgBwdInReferenceIdeal.τ).loc Cert.QgBwdInReferenceIdeal.main_arg4) = m ((c.tc : Thread Cert.QgBwdInReferenceIdeal.nD Cert.QgBwdInReferenceIdeal.τ).loc Cert.QgBwdInReferenceIdeal.main_arg4)
      ∧ r.2.mem ((c.tc : Thread Cert.QgBwdInReferenceIdeal.nD Cert.QgBwdInReferenceIdeal.τ).loc Cert.QgBwdInReferenceIdeal.main_arg5) = m ((c.tc : Thread Cert.QgBwdInReferenceIdeal.nD Cert.QgBwdInReferenceIdeal.τ).loc Cert.QgBwdInReferenceIdeal.main_arg5))
      ∧ r.2.sem = fun _ => 0)

def quiescent_KvBwdInKernel [hKvBwdInKernel : Cert.KvBwdInKernel.Facts] : Prop :=
  ∀ (m : (ℓ : Loc Cert.KvBwdInKernel.nD Cert.KvBwdInKernel.τ Cert.KvBwdInKernel.sig) → Buf (Elt Bits) ℓ) (g : Dev Cert.KvBwdInKernel.nD → PrngReg), Pre_KvBwdInKernel m →
    θ_run (Cert.KvBwdInKernel.defs (F := Bits)) (onTc (τ := Cert.KvBwdInKernel.τ) (Cert.KvBwdInKernel.main (F := Bits))) ⟨m, fun _ => 0, g⟩ (fun r => (∀ c : Dev Cert.KvBwdInKernel.nD,
      r.2.mem ((c.tc : Thread Cert.KvBwdInKernel.nD Cert.KvBwdInKernel.τ).loc Cert.KvBwdInKernel.main_arg0) = m ((c.tc : Thread Cert.KvBwdInKernel.nD Cert.KvBwdInKernel.τ).loc Cert.KvBwdInKernel.main_arg0)
      ∧ r.2.mem ((c.tc : Thread Cert.KvBwdInKernel.nD Cert.KvBwdInKernel.τ).loc Cert.KvBwdInKernel.main_arg1) = m ((c.tc : Thread Cert.KvBwdInKernel.nD Cert.KvBwdInKernel.τ).loc Cert.KvBwdInKernel.main_arg1)
      ∧ r.2.mem ((c.tc : Thread Cert.KvBwdInKernel.nD Cert.KvBwdInKernel.τ).loc Cert.KvBwdInKernel.main_arg2) = m ((c.tc : Thread Cert.KvBwdInKernel.nD Cert.KvBwdInKernel.τ).loc Cert.KvBwdInKernel.main_arg2)
      ∧ r.2.mem ((c.tc : Thread Cert.KvBwdInKernel.nD Cert.KvBwdInKernel.τ).loc Cert.KvBwdInKernel.main_arg3) = m ((c.tc : Thread Cert.KvBwdInKernel.nD Cert.KvBwdInKernel.τ).loc Cert.KvBwdInKernel.main_arg3)
      ∧ r.2.mem ((c.tc : Thread Cert.KvBwdInKernel.nD Cert.KvBwdInKernel.τ).loc Cert.KvBwdInKernel.main_arg4) = m ((c.tc : Thread Cert.KvBwdInKernel.nD Cert.KvBwdInKernel.τ).loc Cert.KvBwdInKernel.main_arg4)
      ∧ r.2.mem ((c.tc : Thread Cert.KvBwdInKernel.nD Cert.KvBwdInKernel.τ).loc Cert.KvBwdInKernel.main_arg5) = m ((c.tc : Thread Cert.KvBwdInKernel.nD Cert.KvBwdInKernel.τ).loc Cert.KvBwdInKernel.main_arg5)
      ∧ r.2.mem ((c.tc : Thread Cert.KvBwdInKernel.nD Cert.KvBwdInKernel.τ).loc Cert.KvBwdInKernel.main_arg6) = m ((c.tc : Thread Cert.KvBwdInKernel.nD Cert.KvBwdInKernel.τ).loc Cert.KvBwdInKernel.main_arg6))
      ∧ r.2.sem = fun _ => 0)

def quiescent_KvBwdInKernelIdeal [hKvBwdInKernelIdeal : Cert.KvBwdInKernelIdeal.Facts] : Prop :=
  ∀ (m : (ℓ : Loc Cert.KvBwdInKernelIdeal.nD Cert.KvBwdInKernelIdeal.τ Cert.KvBwdInKernelIdeal.sig) → Buf (Elt Ideal) ℓ) (g : Dev Cert.KvBwdInKernelIdeal.nD → PrngReg), Pre_KvBwdInKernelIdeal m →
    θ_run (Cert.KvBwdInKernelIdeal.defs (F := Ideal)) (onTc (τ := Cert.KvBwdInKernelIdeal.τ) (Cert.KvBwdInKernelIdeal.main (F := Ideal))) ⟨m, fun _ => 0, g⟩ (fun r => (∀ c : Dev Cert.KvBwdInKernelIdeal.nD,
      r.2.mem ((c.tc : Thread Cert.KvBwdInKernelIdeal.nD Cert.KvBwdInKernelIdeal.τ).loc Cert.KvBwdInKernelIdeal.main_arg0) = m ((c.tc : Thread Cert.KvBwdInKernelIdeal.nD Cert.KvBwdInKernelIdeal.τ).loc Cert.KvBwdInKernelIdeal.main_arg0)
      ∧ r.2.mem ((c.tc : Thread Cert.KvBwdInKernelIdeal.nD Cert.KvBwdInKernelIdeal.τ).loc Cert.KvBwdInKernelIdeal.main_arg1) = m ((c.tc : Thread Cert.KvBwdInKernelIdeal.nD Cert.KvBwdInKernelIdeal.τ).loc Cert.KvBwdInKernelIdeal.main_arg1)
      ∧ r.2.mem ((c.tc : Thread Cert.KvBwdInKernelIdeal.nD Cert.KvBwdInKernelIdeal.τ).loc Cert.KvBwdInKernelIdeal.main_arg2) = m ((c.tc : Thread Cert.KvBwdInKernelIdeal.nD Cert.KvBwdInKernelIdeal.τ).loc Cert.KvBwdInKernelIdeal.main_arg2)
      ∧ r.2.mem ((c.tc : Thread Cert.KvBwdInKernelIdeal.nD Cert.KvBwdInKernelIdeal.τ).loc Cert.KvBwdInKernelIdeal.main_arg3) = m ((c.tc : Thread Cert.KvBwdInKernelIdeal.nD Cert.KvBwdInKernelIdeal.τ).loc Cert.KvBwdInKernelIdeal.main_arg3)
      ∧ r.2.mem ((c.tc : Thread Cert.KvBwdInKernelIdeal.nD Cert.KvBwdInKernelIdeal.τ).loc Cert.KvBwdInKernelIdeal.main_arg4) = m ((c.tc : Thread Cert.KvBwdInKernelIdeal.nD Cert.KvBwdInKernelIdeal.τ).loc Cert.KvBwdInKernelIdeal.main_arg4)
      ∧ r.2.mem ((c.tc : Thread Cert.KvBwdInKernelIdeal.nD Cert.KvBwdInKernelIdeal.τ).loc Cert.KvBwdInKernelIdeal.main_arg5) = m ((c.tc : Thread Cert.KvBwdInKernelIdeal.nD Cert.KvBwdInKernelIdeal.τ).loc Cert.KvBwdInKernelIdeal.main_arg5)
      ∧ r.2.mem ((c.tc : Thread Cert.KvBwdInKernelIdeal.nD Cert.KvBwdInKernelIdeal.τ).loc Cert.KvBwdInKernelIdeal.main_arg6) = m ((c.tc : Thread Cert.KvBwdInKernelIdeal.nD Cert.KvBwdInKernelIdeal.τ).loc Cert.KvBwdInKernelIdeal.main_arg6))
      ∧ r.2.sem = fun _ => 0)

def quiescent_KvBwdInReferenceIdeal [hKvBwdInReferenceIdeal : Cert.KvBwdInReferenceIdeal.Facts] : Prop :=
  ∀ (m : (ℓ : Loc Cert.KvBwdInReferenceIdeal.nD Cert.KvBwdInReferenceIdeal.τ Cert.KvBwdInReferenceIdeal.sig) → Buf (Elt Ideal) ℓ) (g : Dev Cert.KvBwdInReferenceIdeal.nD → PrngReg), Pre_KvBwdInReferenceIdeal m →
    θ_run (Cert.KvBwdInReferenceIdeal.defs (F := Ideal)) (onTc (τ := Cert.KvBwdInReferenceIdeal.τ) (Cert.KvBwdInReferenceIdeal.main (F := Ideal))) ⟨m, fun _ => 0, g⟩ (fun r => (∀ c : Dev Cert.KvBwdInReferenceIdeal.nD,
      r.2.mem ((c.tc : Thread Cert.KvBwdInReferenceIdeal.nD Cert.KvBwdInReferenceIdeal.τ).loc Cert.KvBwdInReferenceIdeal.main_arg0) = m ((c.tc : Thread Cert.KvBwdInReferenceIdeal.nD Cert.KvBwdInReferenceIdeal.τ).loc Cert.KvBwdInReferenceIdeal.main_arg0)
      ∧ r.2.mem ((c.tc : Thread Cert.KvBwdInReferenceIdeal.nD Cert.KvBwdInReferenceIdeal.τ).loc Cert.KvBwdInReferenceIdeal.main_arg1) = m ((c.tc : Thread Cert.KvBwdInReferenceIdeal.nD Cert.KvBwdInReferenceIdeal.τ).loc Cert.KvBwdInReferenceIdeal.main_arg1)
      ∧ r.2.mem ((c.tc : Thread Cert.KvBwdInReferenceIdeal.nD Cert.KvBwdInReferenceIdeal.τ).loc Cert.KvBwdInReferenceIdeal.main_arg2) = m ((c.tc : Thread Cert.KvBwdInReferenceIdeal.nD Cert.KvBwdInReferenceIdeal.τ).loc Cert.KvBwdInReferenceIdeal.main_arg2)
      ∧ r.2.mem ((c.tc : Thread Cert.KvBwdInReferenceIdeal.nD Cert.KvBwdInReferenceIdeal.τ).loc Cert.KvBwdInReferenceIdeal.main_arg3) = m ((c.tc : Thread Cert.KvBwdInReferenceIdeal.nD Cert.KvBwdInReferenceIdeal.τ).loc Cert.KvBwdInReferenceIdeal.main_arg3)
      ∧ r.2.mem ((c.tc : Thread Cert.KvBwdInReferenceIdeal.nD Cert.KvBwdInReferenceIdeal.τ).loc Cert.KvBwdInReferenceIdeal.main_arg4) = m ((c.tc : Thread Cert.KvBwdInReferenceIdeal.nD Cert.KvBwdInReferenceIdeal.τ).loc Cert.KvBwdInReferenceIdeal.main_arg4)
      ∧ r.2.mem ((c.tc : Thread Cert.KvBwdInReferenceIdeal.nD Cert.KvBwdInReferenceIdeal.τ).loc Cert.KvBwdInReferenceIdeal.main_arg5) = m ((c.tc : Thread Cert.KvBwdInReferenceIdeal.nD Cert.KvBwdInReferenceIdeal.τ).loc Cert.KvBwdInReferenceIdeal.main_arg5)
      ∧ r.2.mem ((c.tc : Thread Cert.KvBwdInReferenceIdeal.nD Cert.KvBwdInReferenceIdeal.τ).loc Cert.KvBwdInReferenceIdeal.main_arg6) = m ((c.tc : Thread Cert.KvBwdInReferenceIdeal.nD Cert.KvBwdInReferenceIdeal.τ).loc Cert.KvBwdInReferenceIdeal.main_arg6))
      ∧ r.2.sem = fun _ => 0)

def quiescent_ConvDwKernel [hConvDwKernel : Cert.ConvDwKernel.Facts] : Prop :=
  ∀ (m : (ℓ : Loc Cert.ConvDwKernel.nD Cert.ConvDwKernel.τ Cert.ConvDwKernel.sig) → Buf (Elt Bits) ℓ) (g : Dev Cert.ConvDwKernel.nD → PrngReg), Pre_ConvDwKernel m →
    θ_run (Cert.ConvDwKernel.defs (F := Bits)) (onTc (τ := Cert.ConvDwKernel.τ) (Cert.ConvDwKernel.main (F := Bits))) ⟨m, fun _ => 0, g⟩ (fun r => (∀ c : Dev Cert.ConvDwKernel.nD,
      r.2.mem ((c.tc : Thread Cert.ConvDwKernel.nD Cert.ConvDwKernel.τ).loc Cert.ConvDwKernel.main_arg0) = m ((c.tc : Thread Cert.ConvDwKernel.nD Cert.ConvDwKernel.τ).loc Cert.ConvDwKernel.main_arg0)
      ∧ r.2.mem ((c.tc : Thread Cert.ConvDwKernel.nD Cert.ConvDwKernel.τ).loc Cert.ConvDwKernel.main_arg1) = m ((c.tc : Thread Cert.ConvDwKernel.nD Cert.ConvDwKernel.τ).loc Cert.ConvDwKernel.main_arg1)
      ∧ r.2.mem ((c.tc : Thread Cert.ConvDwKernel.nD Cert.ConvDwKernel.τ).loc Cert.ConvDwKernel.main_arg2) = m ((c.tc : Thread Cert.ConvDwKernel.nD Cert.ConvDwKernel.τ).loc Cert.ConvDwKernel.main_arg2))
      ∧ r.2.sem = fun _ => 0)

def quiescent_ConvDwKernelIdeal [hConvDwKernelIdeal : Cert.ConvDwKernelIdeal.Facts] : Prop :=
  ∀ (m : (ℓ : Loc Cert.ConvDwKernelIdeal.nD Cert.ConvDwKernelIdeal.τ Cert.ConvDwKernelIdeal.sig) → Buf (Elt Ideal) ℓ) (g : Dev Cert.ConvDwKernelIdeal.nD → PrngReg), Pre_ConvDwKernelIdeal m →
    θ_run (Cert.ConvDwKernelIdeal.defs (F := Ideal)) (onTc (τ := Cert.ConvDwKernelIdeal.τ) (Cert.ConvDwKernelIdeal.main (F := Ideal))) ⟨m, fun _ => 0, g⟩ (fun r => (∀ c : Dev Cert.ConvDwKernelIdeal.nD,
      r.2.mem ((c.tc : Thread Cert.ConvDwKernelIdeal.nD Cert.ConvDwKernelIdeal.τ).loc Cert.ConvDwKernelIdeal.main_arg0) = m ((c.tc : Thread Cert.ConvDwKernelIdeal.nD Cert.ConvDwKernelIdeal.τ).loc Cert.ConvDwKernelIdeal.main_arg0)
      ∧ r.2.mem ((c.tc : Thread Cert.ConvDwKernelIdeal.nD Cert.ConvDwKernelIdeal.τ).loc Cert.ConvDwKernelIdeal.main_arg1) = m ((c.tc : Thread Cert.ConvDwKernelIdeal.nD Cert.ConvDwKernelIdeal.τ).loc Cert.ConvDwKernelIdeal.main_arg1)
      ∧ r.2.mem ((c.tc : Thread Cert.ConvDwKernelIdeal.nD Cert.ConvDwKernelIdeal.τ).loc Cert.ConvDwKernelIdeal.main_arg2) = m ((c.tc : Thread Cert.ConvDwKernelIdeal.nD Cert.ConvDwKernelIdeal.τ).loc Cert.ConvDwKernelIdeal.main_arg2))
      ∧ r.2.sem = fun _ => 0)

def quiescent_ConvDwReferenceIdeal [hConvDwReferenceIdeal : Cert.ConvDwReferenceIdeal.Facts] : Prop :=
  ∀ (m : (ℓ : Loc Cert.ConvDwReferenceIdeal.nD Cert.ConvDwReferenceIdeal.τ Cert.ConvDwReferenceIdeal.sig) → Buf (Elt Ideal) ℓ) (g : Dev Cert.ConvDwReferenceIdeal.nD → PrngReg), Pre_ConvDwReferenceIdeal m →
    θ_run (Cert.ConvDwReferenceIdeal.defs (F := Ideal)) (onTc (τ := Cert.ConvDwReferenceIdeal.τ) (Cert.ConvDwReferenceIdeal.main (F := Ideal))) ⟨m, fun _ => 0, g⟩ (fun r => (∀ c : Dev Cert.ConvDwReferenceIdeal.nD,
      r.2.mem ((c.tc : Thread Cert.ConvDwReferenceIdeal.nD Cert.ConvDwReferenceIdeal.τ).loc Cert.ConvDwReferenceIdeal.main_arg0) = m ((c.tc : Thread Cert.ConvDwReferenceIdeal.nD Cert.ConvDwReferenceIdeal.τ).loc Cert.ConvDwReferenceIdeal.main_arg0)
      ∧ r.2.mem ((c.tc : Thread Cert.ConvDwReferenceIdeal.nD Cert.ConvDwReferenceIdeal.τ).loc Cert.ConvDwReferenceIdeal.main_arg1) = m ((c.tc : Thread Cert.ConvDwReferenceIdeal.nD Cert.ConvDwReferenceIdeal.τ).loc Cert.ConvDwReferenceIdeal.main_arg1)
      ∧ r.2.mem ((c.tc : Thread Cert.ConvDwReferenceIdeal.nD Cert.ConvDwReferenceIdeal.τ).loc Cert.ConvDwReferenceIdeal.main_arg2) = m ((c.tc : Thread Cert.ConvDwReferenceIdeal.nD Cert.ConvDwReferenceIdeal.τ).loc Cert.ConvDwReferenceIdeal.main_arg2))
      ∧ r.2.sem = fun _ => 0)

def quiescent_QgDwKernel [hQgDwKernel : Cert.QgDwKernel.Facts] : Prop :=
  ∀ (m : (ℓ : Loc Cert.QgDwKernel.nD Cert.QgDwKernel.τ Cert.QgDwKernel.sig) → Buf (Elt Bits) ℓ) (g : Dev Cert.QgDwKernel.nD → PrngReg), Pre_QgDwKernel m →
    θ_run (Cert.QgDwKernel.defs (F := Bits)) (onTc (τ := Cert.QgDwKernel.τ) (Cert.QgDwKernel.main (F := Bits))) ⟨m, fun _ => 0, g⟩ (fun r => (∀ c : Dev Cert.QgDwKernel.nD,
      r.2.mem ((c.tc : Thread Cert.QgDwKernel.nD Cert.QgDwKernel.τ).loc Cert.QgDwKernel.main_arg0) = m ((c.tc : Thread Cert.QgDwKernel.nD Cert.QgDwKernel.τ).loc Cert.QgDwKernel.main_arg0)
      ∧ r.2.mem ((c.tc : Thread Cert.QgDwKernel.nD Cert.QgDwKernel.τ).loc Cert.QgDwKernel.main_arg1) = m ((c.tc : Thread Cert.QgDwKernel.nD Cert.QgDwKernel.τ).loc Cert.QgDwKernel.main_arg1)
      ∧ r.2.mem ((c.tc : Thread Cert.QgDwKernel.nD Cert.QgDwKernel.τ).loc Cert.QgDwKernel.main_arg2) = m ((c.tc : Thread Cert.QgDwKernel.nD Cert.QgDwKernel.τ).loc Cert.QgDwKernel.main_arg2)
      ∧ r.2.mem ((c.tc : Thread Cert.QgDwKernel.nD Cert.QgDwKernel.τ).loc Cert.QgDwKernel.main_arg3) = m ((c.tc : Thread Cert.QgDwKernel.nD Cert.QgDwKernel.τ).loc Cert.QgDwKernel.main_arg3))
      ∧ r.2.sem = fun _ => 0)

def quiescent_QgDwKernelIdeal [hQgDwKernelIdeal : Cert.QgDwKernelIdeal.Facts] : Prop :=
  ∀ (m : (ℓ : Loc Cert.QgDwKernelIdeal.nD Cert.QgDwKernelIdeal.τ Cert.QgDwKernelIdeal.sig) → Buf (Elt Ideal) ℓ) (g : Dev Cert.QgDwKernelIdeal.nD → PrngReg), Pre_QgDwKernelIdeal m →
    θ_run (Cert.QgDwKernelIdeal.defs (F := Ideal)) (onTc (τ := Cert.QgDwKernelIdeal.τ) (Cert.QgDwKernelIdeal.main (F := Ideal))) ⟨m, fun _ => 0, g⟩ (fun r => (∀ c : Dev Cert.QgDwKernelIdeal.nD,
      r.2.mem ((c.tc : Thread Cert.QgDwKernelIdeal.nD Cert.QgDwKernelIdeal.τ).loc Cert.QgDwKernelIdeal.main_arg0) = m ((c.tc : Thread Cert.QgDwKernelIdeal.nD Cert.QgDwKernelIdeal.τ).loc Cert.QgDwKernelIdeal.main_arg0)
      ∧ r.2.mem ((c.tc : Thread Cert.QgDwKernelIdeal.nD Cert.QgDwKernelIdeal.τ).loc Cert.QgDwKernelIdeal.main_arg1) = m ((c.tc : Thread Cert.QgDwKernelIdeal.nD Cert.QgDwKernelIdeal.τ).loc Cert.QgDwKernelIdeal.main_arg1)
      ∧ r.2.mem ((c.tc : Thread Cert.QgDwKernelIdeal.nD Cert.QgDwKernelIdeal.τ).loc Cert.QgDwKernelIdeal.main_arg2) = m ((c.tc : Thread Cert.QgDwKernelIdeal.nD Cert.QgDwKernelIdeal.τ).loc Cert.QgDwKernelIdeal.main_arg2)
      ∧ r.2.mem ((c.tc : Thread Cert.QgDwKernelIdeal.nD Cert.QgDwKernelIdeal.τ).loc Cert.QgDwKernelIdeal.main_arg3) = m ((c.tc : Thread Cert.QgDwKernelIdeal.nD Cert.QgDwKernelIdeal.τ).loc Cert.QgDwKernelIdeal.main_arg3))
      ∧ r.2.sem = fun _ => 0)

def quiescent_QgDwReferenceIdeal [hQgDwReferenceIdeal : Cert.QgDwReferenceIdeal.Facts] : Prop :=
  ∀ (m : (ℓ : Loc Cert.QgDwReferenceIdeal.nD Cert.QgDwReferenceIdeal.τ Cert.QgDwReferenceIdeal.sig) → Buf (Elt Ideal) ℓ) (g : Dev Cert.QgDwReferenceIdeal.nD → PrngReg), Pre_QgDwReferenceIdeal m →
    θ_run (Cert.QgDwReferenceIdeal.defs (F := Ideal)) (onTc (τ := Cert.QgDwReferenceIdeal.τ) (Cert.QgDwReferenceIdeal.main (F := Ideal))) ⟨m, fun _ => 0, g⟩ (fun r => (∀ c : Dev Cert.QgDwReferenceIdeal.nD,
      r.2.mem ((c.tc : Thread Cert.QgDwReferenceIdeal.nD Cert.QgDwReferenceIdeal.τ).loc Cert.QgDwReferenceIdeal.main_arg0) = m ((c.tc : Thread Cert.QgDwReferenceIdeal.nD Cert.QgDwReferenceIdeal.τ).loc Cert.QgDwReferenceIdeal.main_arg0)
      ∧ r.2.mem ((c.tc : Thread Cert.QgDwReferenceIdeal.nD Cert.QgDwReferenceIdeal.τ).loc Cert.QgDwReferenceIdeal.main_arg1) = m ((c.tc : Thread Cert.QgDwReferenceIdeal.nD Cert.QgDwReferenceIdeal.τ).loc Cert.QgDwReferenceIdeal.main_arg1)
      ∧ r.2.mem ((c.tc : Thread Cert.QgDwReferenceIdeal.nD Cert.QgDwReferenceIdeal.τ).loc Cert.QgDwReferenceIdeal.main_arg2) = m ((c.tc : Thread Cert.QgDwReferenceIdeal.nD Cert.QgDwReferenceIdeal.τ).loc Cert.QgDwReferenceIdeal.main_arg2)
      ∧ r.2.mem ((c.tc : Thread Cert.QgDwReferenceIdeal.nD Cert.QgDwReferenceIdeal.τ).loc Cert.QgDwReferenceIdeal.main_arg3) = m ((c.tc : Thread Cert.QgDwReferenceIdeal.nD Cert.QgDwReferenceIdeal.τ).loc Cert.QgDwReferenceIdeal.main_arg3))
      ∧ r.2.sem = fun _ => 0)

def quiescent_MixBwdKernel [hMixBwdKernel : Cert.MixBwdKernel.Facts] : Prop :=
  ∀ (m : (ℓ : Loc Cert.MixBwdKernel.nD Cert.MixBwdKernel.τ Cert.MixBwdKernel.sig) → Buf (Elt Bits) ℓ) (g : Dev Cert.MixBwdKernel.nD → PrngReg), Pre_MixBwdKernel m →
    θ_run (Cert.MixBwdKernel.defs (F := Bits)) (onTc (τ := Cert.MixBwdKernel.τ) (Cert.MixBwdKernel.main (F := Bits))) ⟨m, fun _ => 0, g⟩ (fun r => (∀ c : Dev Cert.MixBwdKernel.nD,
      r.2.mem ((c.tc : Thread Cert.MixBwdKernel.nD Cert.MixBwdKernel.τ).loc Cert.MixBwdKernel.main_arg0) = m ((c.tc : Thread Cert.MixBwdKernel.nD Cert.MixBwdKernel.τ).loc Cert.MixBwdKernel.main_arg0)
      ∧ r.2.mem ((c.tc : Thread Cert.MixBwdKernel.nD Cert.MixBwdKernel.τ).loc Cert.MixBwdKernel.main_arg1) = m ((c.tc : Thread Cert.MixBwdKernel.nD Cert.MixBwdKernel.τ).loc Cert.MixBwdKernel.main_arg1)
      ∧ r.2.mem ((c.tc : Thread Cert.MixBwdKernel.nD Cert.MixBwdKernel.τ).loc Cert.MixBwdKernel.main_arg2) = m ((c.tc : Thread Cert.MixBwdKernel.nD Cert.MixBwdKernel.τ).loc Cert.MixBwdKernel.main_arg2)
      ∧ r.2.mem ((c.tc : Thread Cert.MixBwdKernel.nD Cert.MixBwdKernel.τ).loc Cert.MixBwdKernel.main_arg3) = m ((c.tc : Thread Cert.MixBwdKernel.nD Cert.MixBwdKernel.τ).loc Cert.MixBwdKernel.main_arg3))
      ∧ r.2.sem = fun _ => 0)

def quiescent_MixBwdKernelIdeal [hMixBwdKernelIdeal : Cert.MixBwdKernelIdeal.Facts] : Prop :=
  ∀ (m : (ℓ : Loc Cert.MixBwdKernelIdeal.nD Cert.MixBwdKernelIdeal.τ Cert.MixBwdKernelIdeal.sig) → Buf (Elt Ideal) ℓ) (g : Dev Cert.MixBwdKernelIdeal.nD → PrngReg), Pre_MixBwdKernelIdeal m →
    θ_run (Cert.MixBwdKernelIdeal.defs (F := Ideal)) (onTc (τ := Cert.MixBwdKernelIdeal.τ) (Cert.MixBwdKernelIdeal.main (F := Ideal))) ⟨m, fun _ => 0, g⟩ (fun r => (∀ c : Dev Cert.MixBwdKernelIdeal.nD,
      r.2.mem ((c.tc : Thread Cert.MixBwdKernelIdeal.nD Cert.MixBwdKernelIdeal.τ).loc Cert.MixBwdKernelIdeal.main_arg0) = m ((c.tc : Thread Cert.MixBwdKernelIdeal.nD Cert.MixBwdKernelIdeal.τ).loc Cert.MixBwdKernelIdeal.main_arg0)
      ∧ r.2.mem ((c.tc : Thread Cert.MixBwdKernelIdeal.nD Cert.MixBwdKernelIdeal.τ).loc Cert.MixBwdKernelIdeal.main_arg1) = m ((c.tc : Thread Cert.MixBwdKernelIdeal.nD Cert.MixBwdKernelIdeal.τ).loc Cert.MixBwdKernelIdeal.main_arg1)
      ∧ r.2.mem ((c.tc : Thread Cert.MixBwdKernelIdeal.nD Cert.MixBwdKernelIdeal.τ).loc Cert.MixBwdKernelIdeal.main_arg2) = m ((c.tc : Thread Cert.MixBwdKernelIdeal.nD Cert.MixBwdKernelIdeal.τ).loc Cert.MixBwdKernelIdeal.main_arg2)
      ∧ r.2.mem ((c.tc : Thread Cert.MixBwdKernelIdeal.nD Cert.MixBwdKernelIdeal.τ).loc Cert.MixBwdKernelIdeal.main_arg3) = m ((c.tc : Thread Cert.MixBwdKernelIdeal.nD Cert.MixBwdKernelIdeal.τ).loc Cert.MixBwdKernelIdeal.main_arg3))
      ∧ r.2.sem = fun _ => 0)

def quiescent_MixBwdReferenceIdeal [hMixBwdReferenceIdeal : Cert.MixBwdReferenceIdeal.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3))
      ∧ r.2.sem = fun _ => 0)

def quiescent_MixDwKernel [hMixDwKernel : Cert.MixDwKernel.Facts] : Prop :=
  ∀ (m : (ℓ : Loc Cert.MixDwKernel.nD Cert.MixDwKernel.τ Cert.MixDwKernel.sig) → Buf (Elt Bits) ℓ) (g : Dev Cert.MixDwKernel.nD → PrngReg), Pre_MixDwKernel m →
    θ_run (Cert.MixDwKernel.defs (F := Bits)) (onTc (τ := Cert.MixDwKernel.τ) (Cert.MixDwKernel.main (F := Bits))) ⟨m, fun _ => 0, g⟩ (fun r => (∀ c : Dev Cert.MixDwKernel.nD,
      r.2.mem ((c.tc : Thread Cert.MixDwKernel.nD Cert.MixDwKernel.τ).loc Cert.MixDwKernel.main_arg0) = m ((c.tc : Thread Cert.MixDwKernel.nD Cert.MixDwKernel.τ).loc Cert.MixDwKernel.main_arg0)
      ∧ r.2.mem ((c.tc : Thread Cert.MixDwKernel.nD Cert.MixDwKernel.τ).loc Cert.MixDwKernel.main_arg1) = m ((c.tc : Thread Cert.MixDwKernel.nD Cert.MixDwKernel.τ).loc Cert.MixDwKernel.main_arg1))
      ∧ r.2.sem = fun _ => 0)

def quiescent_MixDwKernelIdeal [hMixDwKernelIdeal : Cert.MixDwKernelIdeal.Facts] : Prop :=
  ∀ (m : (ℓ : Loc Cert.MixDwKernelIdeal.nD Cert.MixDwKernelIdeal.τ Cert.MixDwKernelIdeal.sig) → Buf (Elt Ideal) ℓ) (g : Dev Cert.MixDwKernelIdeal.nD → PrngReg), Pre_MixDwKernelIdeal m →
    θ_run (Cert.MixDwKernelIdeal.defs (F := Ideal)) (onTc (τ := Cert.MixDwKernelIdeal.τ) (Cert.MixDwKernelIdeal.main (F := Ideal))) ⟨m, fun _ => 0, g⟩ (fun r => (∀ c : Dev Cert.MixDwKernelIdeal.nD,
      r.2.mem ((c.tc : Thread Cert.MixDwKernelIdeal.nD Cert.MixDwKernelIdeal.τ).loc Cert.MixDwKernelIdeal.main_arg0) = m ((c.tc : Thread Cert.MixDwKernelIdeal.nD Cert.MixDwKernelIdeal.τ).loc Cert.MixDwKernelIdeal.main_arg0)
      ∧ r.2.mem ((c.tc : Thread Cert.MixDwKernelIdeal.nD Cert.MixDwKernelIdeal.τ).loc Cert.MixDwKernelIdeal.main_arg1) = m ((c.tc : Thread Cert.MixDwKernelIdeal.nD Cert.MixDwKernelIdeal.τ).loc Cert.MixDwKernelIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_GateOutKernel [hGateOutKernel : Cert.GateOutKernel.Facts] : Prop :=
  ∀ (m : (ℓ : Loc Cert.GateOutKernel.nD Cert.GateOutKernel.τ Cert.GateOutKernel.sig) → Buf (Elt Bits) ℓ) (g : Dev Cert.GateOutKernel.nD → PrngReg), Pre_GateOutKernel m →
    θ_run (Cert.GateOutKernel.defs (F := Bits)) (onTc (τ := Cert.GateOutKernel.τ) (Cert.GateOutKernel.main (F := Bits))) ⟨m, fun _ => 0, g⟩ (fun r => (∀ c : Dev Cert.GateOutKernel.nD,
      r.2.mem ((c.tc : Thread Cert.GateOutKernel.nD Cert.GateOutKernel.τ).loc Cert.GateOutKernel.main_arg0) = m ((c.tc : Thread Cert.GateOutKernel.nD Cert.GateOutKernel.τ).loc Cert.GateOutKernel.main_arg0)
      ∧ r.2.mem ((c.tc : Thread Cert.GateOutKernel.nD Cert.GateOutKernel.τ).loc Cert.GateOutKernel.main_arg1) = m ((c.tc : Thread Cert.GateOutKernel.nD Cert.GateOutKernel.τ).loc Cert.GateOutKernel.main_arg1)
      ∧ r.2.mem ((c.tc : Thread Cert.GateOutKernel.nD Cert.GateOutKernel.τ).loc Cert.GateOutKernel.main_arg2) = m ((c.tc : Thread Cert.GateOutKernel.nD Cert.GateOutKernel.τ).loc Cert.GateOutKernel.main_arg2)
      ∧ r.2.mem ((c.tc : Thread Cert.GateOutKernel.nD Cert.GateOutKernel.τ).loc Cert.GateOutKernel.main_arg3) = m ((c.tc : Thread Cert.GateOutKernel.nD Cert.GateOutKernel.τ).loc Cert.GateOutKernel.main_arg3)
      ∧ r.2.mem ((c.tc : Thread Cert.GateOutKernel.nD Cert.GateOutKernel.τ).loc Cert.GateOutKernel.main_arg4) = m ((c.tc : Thread Cert.GateOutKernel.nD Cert.GateOutKernel.τ).loc Cert.GateOutKernel.main_arg4))
      ∧ r.2.sem = fun _ => 0)

def quiescent_GateOutKernelIdeal [hGateOutKernelIdeal : Cert.GateOutKernelIdeal.Facts] : Prop :=
  ∀ (m : (ℓ : Loc Cert.GateOutKernelIdeal.nD Cert.GateOutKernelIdeal.τ Cert.GateOutKernelIdeal.sig) → Buf (Elt Ideal) ℓ) (g : Dev Cert.GateOutKernelIdeal.nD → PrngReg), Pre_GateOutKernelIdeal m →
    θ_run (Cert.GateOutKernelIdeal.defs (F := Ideal)) (onTc (τ := Cert.GateOutKernelIdeal.τ) (Cert.GateOutKernelIdeal.main (F := Ideal))) ⟨m, fun _ => 0, g⟩ (fun r => (∀ c : Dev Cert.GateOutKernelIdeal.nD,
      r.2.mem ((c.tc : Thread Cert.GateOutKernelIdeal.nD Cert.GateOutKernelIdeal.τ).loc Cert.GateOutKernelIdeal.main_arg0) = m ((c.tc : Thread Cert.GateOutKernelIdeal.nD Cert.GateOutKernelIdeal.τ).loc Cert.GateOutKernelIdeal.main_arg0)
      ∧ r.2.mem ((c.tc : Thread Cert.GateOutKernelIdeal.nD Cert.GateOutKernelIdeal.τ).loc Cert.GateOutKernelIdeal.main_arg1) = m ((c.tc : Thread Cert.GateOutKernelIdeal.nD Cert.GateOutKernelIdeal.τ).loc Cert.GateOutKernelIdeal.main_arg1)
      ∧ r.2.mem ((c.tc : Thread Cert.GateOutKernelIdeal.nD Cert.GateOutKernelIdeal.τ).loc Cert.GateOutKernelIdeal.main_arg2) = m ((c.tc : Thread Cert.GateOutKernelIdeal.nD Cert.GateOutKernelIdeal.τ).loc Cert.GateOutKernelIdeal.main_arg2)
      ∧ r.2.mem ((c.tc : Thread Cert.GateOutKernelIdeal.nD Cert.GateOutKernelIdeal.τ).loc Cert.GateOutKernelIdeal.main_arg3) = m ((c.tc : Thread Cert.GateOutKernelIdeal.nD Cert.GateOutKernelIdeal.τ).loc Cert.GateOutKernelIdeal.main_arg3)
      ∧ r.2.mem ((c.tc : Thread Cert.GateOutKernelIdeal.nD Cert.GateOutKernelIdeal.τ).loc Cert.GateOutKernelIdeal.main_arg4) = m ((c.tc : Thread Cert.GateOutKernelIdeal.nD Cert.GateOutKernelIdeal.τ).loc Cert.GateOutKernelIdeal.main_arg4))
      ∧ r.2.sem = fun _ => 0)

def quiescent_GateOutReferenceIdeal [hGateOutReferenceIdeal : Cert.GateOutReferenceIdeal.Facts] : Prop :=
  ∀ (m : (ℓ : Loc Cert.GateOutReferenceIdeal.nD Cert.GateOutReferenceIdeal.τ Cert.GateOutReferenceIdeal.sig) → Buf (Elt Ideal) ℓ) (g : Dev Cert.GateOutReferenceIdeal.nD → PrngReg), Pre_GateOutReferenceIdeal m →
    θ_run (Cert.GateOutReferenceIdeal.defs (F := Ideal)) (onTc (τ := Cert.GateOutReferenceIdeal.τ) (Cert.GateOutReferenceIdeal.main (F := Ideal))) ⟨m, fun _ => 0, g⟩ (fun r => (∀ c : Dev Cert.GateOutReferenceIdeal.nD,
      r.2.mem ((c.tc : Thread Cert.GateOutReferenceIdeal.nD Cert.GateOutReferenceIdeal.τ).loc Cert.GateOutReferenceIdeal.main_arg0) = m ((c.tc : Thread Cert.GateOutReferenceIdeal.nD Cert.GateOutReferenceIdeal.τ).loc Cert.GateOutReferenceIdeal.main_arg0)
      ∧ r.2.mem ((c.tc : Thread Cert.GateOutReferenceIdeal.nD Cert.GateOutReferenceIdeal.τ).loc Cert.GateOutReferenceIdeal.main_arg1) = m ((c.tc : Thread Cert.GateOutReferenceIdeal.nD Cert.GateOutReferenceIdeal.τ).loc Cert.GateOutReferenceIdeal.main_arg1)
      ∧ r.2.mem ((c.tc : Thread Cert.GateOutReferenceIdeal.nD Cert.GateOutReferenceIdeal.τ).loc Cert.GateOutReferenceIdeal.main_arg2) = m ((c.tc : Thread Cert.GateOutReferenceIdeal.nD Cert.GateOutReferenceIdeal.τ).loc Cert.GateOutReferenceIdeal.main_arg2)
      ∧ r.2.mem ((c.tc : Thread Cert.GateOutReferenceIdeal.nD Cert.GateOutReferenceIdeal.τ).loc Cert.GateOutReferenceIdeal.main_arg3) = m ((c.tc : Thread Cert.GateOutReferenceIdeal.nD Cert.GateOutReferenceIdeal.τ).loc Cert.GateOutReferenceIdeal.main_arg3)
      ∧ r.2.mem ((c.tc : Thread Cert.GateOutReferenceIdeal.nD Cert.GateOutReferenceIdeal.τ).loc Cert.GateOutReferenceIdeal.main_arg4) = m ((c.tc : Thread Cert.GateOutReferenceIdeal.nD Cert.GateOutReferenceIdeal.τ).loc Cert.GateOutReferenceIdeal.main_arg4))
      ∧ r.2.sem = fun _ => 0)

def quiescent_ConvOutKernel [hConvOutKernel : Cert.ConvOutKernel.Facts] : Prop :=
  ∀ (m : (ℓ : Loc Cert.ConvOutKernel.nD Cert.ConvOutKernel.τ Cert.ConvOutKernel.sig) → Buf (Elt Bits) ℓ) (g : Dev Cert.ConvOutKernel.nD → PrngReg), Pre_ConvOutKernel m →
    θ_run (Cert.ConvOutKernel.defs (F := Bits)) (onTc (τ := Cert.ConvOutKernel.τ) (Cert.ConvOutKernel.main (F := Bits))) ⟨m, fun _ => 0, g⟩ (fun r => (∀ c : Dev Cert.ConvOutKernel.nD,
      r.2.mem ((c.tc : Thread Cert.ConvOutKernel.nD Cert.ConvOutKernel.τ).loc Cert.ConvOutKernel.main_arg0) = m ((c.tc : Thread Cert.ConvOutKernel.nD Cert.ConvOutKernel.τ).loc Cert.ConvOutKernel.main_arg0)
      ∧ r.2.mem ((c.tc : Thread Cert.ConvOutKernel.nD Cert.ConvOutKernel.τ).loc Cert.ConvOutKernel.main_arg1) = m ((c.tc : Thread Cert.ConvOutKernel.nD Cert.ConvOutKernel.τ).loc Cert.ConvOutKernel.main_arg1)
      ∧ r.2.mem ((c.tc : Thread Cert.ConvOutKernel.nD Cert.ConvOutKernel.τ).loc Cert.ConvOutKernel.main_arg2) = m ((c.tc : Thread Cert.ConvOutKernel.nD Cert.ConvOutKernel.τ).loc Cert.ConvOutKernel.main_arg2)
      ∧ r.2.mem ((c.tc : Thread Cert.ConvOutKernel.nD Cert.ConvOutKernel.τ).loc Cert.ConvOutKernel.main_arg3) = m ((c.tc : Thread Cert.ConvOutKernel.nD Cert.ConvOutKernel.τ).loc Cert.ConvOutKernel.main_arg3)
      ∧ r.2.mem ((c.tc : Thread Cert.ConvOutKernel.nD Cert.ConvOutKernel.τ).loc Cert.ConvOutKernel.main_arg4) = m ((c.tc : Thread Cert.ConvOutKernel.nD Cert.ConvOutKernel.τ).loc Cert.ConvOutKernel.main_arg4))
      ∧ r.2.sem = fun _ => 0)

def quiescent_ConvOutKernelIdeal [hConvOutKernelIdeal : Cert.ConvOutKernelIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg), Pre_ConvOutKernelIdeal m →
    θ_run (Cert.ConvOutKernelIdeal.defs (F := Ideal)) (onTc (τ := Cert.ConvOutKernelIdeal.τ) (Cert.ConvOutKernelIdeal.main (F := Ideal))) ⟨m, fun _ => 0, g⟩ (fun r => (∀ c : Dev Cert.ConvOutKernelIdeal.nD,
      r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
      ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
      ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2)
      ∧ r.2.mem ((c.tc : Thread Cert.ConvOutKernelIdeal.nD Cert.ConvOutKernelIdeal.τ).loc Cert.ConvOutKernelIdeal.main_arg3) = m ((c.tc : Thread Cert.ConvOutKernelIdeal.nD Cert.ConvOutKernelIdeal.τ).loc Cert.ConvOutKernelIdeal.main_arg3)
      ∧ r.2.mem ((c.tc : Thread Cert.ConvOutKernelIdeal.nD Cert.ConvOutKernelIdeal.τ).loc Cert.ConvOutKernelIdeal.main_arg4) = m ((c.tc : Thread Cert.ConvOutKernelIdeal.nD Cert.ConvOutKernelIdeal.τ).loc Cert.ConvOutKernelIdeal.main_arg4))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1)
      ∧ r.2.mem ((c.tc : Thread Cert.ConvOutReferenceIdeal.nD Cert.ConvOutReferenceIdeal.τ).loc Cert.ConvOutReferenceIdeal.main_arg2) = m ((c.tc : Thread Cert.ConvOutReferenceIdeal.nD Cert.ConvOutReferenceIdeal.τ).loc Cert.ConvOutReferenceIdeal.main_arg2)
      ∧ r.2.mem ((c.tc : Thread Cert.ConvOutReferenceIdeal.nD Cert.ConvOutReferenceIdeal.τ).loc Cert.ConvOutReferenceIdeal.main_arg3) = m ((c.tc : Thread Cert.ConvOutReferenceIdeal.nD Cert.ConvOutReferenceIdeal.τ).loc Cert.ConvOutReferenceIdeal.main_arg3)
      ∧ r.2.mem ((c.tc : Thread Cert.ConvOutReferenceIdeal.nD Cert.ConvOutReferenceIdeal.τ).loc Cert.ConvOutReferenceIdeal.main_arg4) = m ((c.tc : Thread Cert.ConvOutReferenceIdeal.nD Cert.ConvOutReferenceIdeal.τ).loc Cert.ConvOutReferenceIdeal.main_arg4))
      ∧ r.2.sem = fun _ => 0)

def quiescent_LossOutKernel [hLossOutKernel : Cert.LossOutKernel.Facts] : Prop :=
  ∀ (m : (ℓ : Loc Cert.LossOutKernel.nD Cert.LossOutKernel.τ Cert.LossOutKernel.sig) → Buf (Elt Bits) ℓ) (g : Dev Cert.LossOutKernel.nD → PrngReg), Pre_LossOutKernel m →
    θ_run (Cert.LossOutKernel.defs (F := Bits)) (onTc (τ := Cert.LossOutKernel.τ) (Cert.LossOutKernel.main (F := Bits))) ⟨m, fun _ => 0, g⟩ (fun r => (∀ c : Dev Cert.LossOutKernel.nD,
      r.2.mem ((c.tc : Thread Cert.LossOutKernel.nD Cert.LossOutKernel.τ).loc Cert.LossOutKernel.main_arg0) = m ((c.tc : Thread Cert.LossOutKernel.nD Cert.LossOutKernel.τ).loc Cert.LossOutKernel.main_arg0)
      ∧ r.2.mem ((c.tc : Thread Cert.LossOutKernel.nD Cert.LossOutKernel.τ).loc Cert.LossOutKernel.main_arg1) = m ((c.tc : Thread Cert.LossOutKernel.nD Cert.LossOutKernel.τ).loc Cert.LossOutKernel.main_arg1)
      ∧ r.2.mem ((c.tc : Thread Cert.LossOutKernel.nD Cert.LossOutKernel.τ).loc Cert.LossOutKernel.main_arg2) = m ((c.tc : Thread Cert.LossOutKernel.nD Cert.LossOutKernel.τ).loc Cert.LossOutKernel.main_arg2)
      ∧ r.2.mem ((c.tc : Thread Cert.LossOutKernel.nD Cert.LossOutKernel.τ).loc Cert.LossOutKernel.main_arg3) = m ((c.tc : Thread Cert.LossOutKernel.nD Cert.LossOutKernel.τ).loc Cert.LossOutKernel.main_arg3)
      ∧ r.2.mem ((c.tc : Thread Cert.LossOutKernel.nD Cert.LossOutKernel.τ).loc Cert.LossOutKernel.main_arg4) = m ((c.tc : Thread Cert.LossOutKernel.nD Cert.LossOutKernel.τ).loc Cert.LossOutKernel.main_arg4))
      ∧ r.2.sem = fun _ => 0)

def quiescent_LossOutKernelIdeal [hLossOutKernelIdeal : Cert.LossOutKernelIdeal.Facts] : Prop :=
  ∀ (m : (ℓ : Loc Cert.LossOutKernelIdeal.nD Cert.LossOutKernelIdeal.τ Cert.LossOutKernelIdeal.sig) → Buf (Elt Ideal) ℓ) (g : Dev Cert.LossOutKernelIdeal.nD → PrngReg), Pre_LossOutKernelIdeal m →
    θ_run (Cert.LossOutKernelIdeal.defs (F := Ideal)) (onTc (τ := Cert.LossOutKernelIdeal.τ) (Cert.LossOutKernelIdeal.main (F := Ideal))) ⟨m, fun _ => 0, g⟩ (fun r => (∀ c : Dev Cert.LossOutKernelIdeal.nD,
      r.2.mem ((c.tc : Thread Cert.LossOutKernelIdeal.nD Cert.LossOutKernelIdeal.τ).loc Cert.LossOutKernelIdeal.main_arg0) = m ((c.tc : Thread Cert.LossOutKernelIdeal.nD Cert.LossOutKernelIdeal.τ).loc Cert.LossOutKernelIdeal.main_arg0)
      ∧ r.2.mem ((c.tc : Thread Cert.LossOutKernelIdeal.nD Cert.LossOutKernelIdeal.τ).loc Cert.LossOutKernelIdeal.main_arg1) = m ((c.tc : Thread Cert.LossOutKernelIdeal.nD Cert.LossOutKernelIdeal.τ).loc Cert.LossOutKernelIdeal.main_arg1)
      ∧ r.2.mem ((c.tc : Thread Cert.LossOutKernelIdeal.nD Cert.LossOutKernelIdeal.τ).loc Cert.LossOutKernelIdeal.main_arg2) = m ((c.tc : Thread Cert.LossOutKernelIdeal.nD Cert.LossOutKernelIdeal.τ).loc Cert.LossOutKernelIdeal.main_arg2)
      ∧ r.2.mem ((c.tc : Thread Cert.LossOutKernelIdeal.nD Cert.LossOutKernelIdeal.τ).loc Cert.LossOutKernelIdeal.main_arg3) = m ((c.tc : Thread Cert.LossOutKernelIdeal.nD Cert.LossOutKernelIdeal.τ).loc Cert.LossOutKernelIdeal.main_arg3)
      ∧ r.2.mem ((c.tc : Thread Cert.LossOutKernelIdeal.nD Cert.LossOutKernelIdeal.τ).loc Cert.LossOutKernelIdeal.main_arg4) = m ((c.tc : Thread Cert.LossOutKernelIdeal.nD Cert.LossOutKernelIdeal.τ).loc Cert.LossOutKernelIdeal.main_arg4))
      ∧ r.2.sem = fun _ => 0)

def quiescent_LossOutReferenceIdeal [hLossOutReferenceIdeal : Cert.LossOutReferenceIdeal.Facts] : Prop :=
  ∀ (m : (ℓ : Loc Cert.LossOutReferenceIdeal.nD Cert.LossOutReferenceIdeal.τ Cert.LossOutReferenceIdeal.sig) → Buf (Elt Ideal) ℓ) (g : Dev Cert.LossOutReferenceIdeal.nD → PrngReg), Pre_LossOutReferenceIdeal m →
    θ_run (Cert.LossOutReferenceIdeal.defs (F := Ideal)) (onTc (τ := Cert.LossOutReferenceIdeal.τ) (Cert.LossOutReferenceIdeal.main (F := Ideal))) ⟨m, fun _ => 0, g⟩ (fun r => (∀ c : Dev Cert.LossOutReferenceIdeal.nD,
      r.2.mem ((c.tc : Thread Cert.LossOutReferenceIdeal.nD Cert.LossOutReferenceIdeal.τ).loc Cert.LossOutReferenceIdeal.main_arg0) = m ((c.tc : Thread Cert.LossOutReferenceIdeal.nD Cert.LossOutReferenceIdeal.τ).loc Cert.LossOutReferenceIdeal.main_arg0)
      ∧ r.2.mem ((c.tc : Thread Cert.LossOutReferenceIdeal.nD Cert.LossOutReferenceIdeal.τ).loc Cert.LossOutReferenceIdeal.main_arg1) = m ((c.tc : Thread Cert.LossOutReferenceIdeal.nD Cert.LossOutReferenceIdeal.τ).loc Cert.LossOutReferenceIdeal.main_arg1)
      ∧ r.2.mem ((c.tc : Thread Cert.LossOutReferenceIdeal.nD Cert.LossOutReferenceIdeal.τ).loc Cert.LossOutReferenceIdeal.main_arg2) = m ((c.tc : Thread Cert.LossOutReferenceIdeal.nD Cert.LossOutReferenceIdeal.τ).loc Cert.LossOutReferenceIdeal.main_arg2)
      ∧ r.2.mem ((c.tc : Thread Cert.LossOutReferenceIdeal.nD Cert.LossOutReferenceIdeal.τ).loc Cert.LossOutReferenceIdeal.main_arg3) = m ((c.tc : Thread Cert.LossOutReferenceIdeal.nD Cert.LossOutReferenceIdeal.τ).loc Cert.LossOutReferenceIdeal.main_arg3)
      ∧ r.2.mem ((c.tc : Thread Cert.LossOutReferenceIdeal.nD Cert.LossOutReferenceIdeal.τ).loc Cert.LossOutReferenceIdeal.main_arg4) = m ((c.tc : Thread Cert.LossOutReferenceIdeal.nD Cert.LossOutReferenceIdeal.τ).loc Cert.LossOutReferenceIdeal.main_arg4))
      ∧ r.2.sem = fun _ => 0)

def quiescent_AdamOwKernel [hAdamOwKernel : Cert.AdamOwKernel.Facts] [hPre_placed_ow : Cert.Pre_placed_ow.Facts] : Prop :=
  ∀ (m : (ℓ : Loc Cert.AdamOwKernel.nD Cert.AdamOwKernel.τ Cert.AdamOwKernel.sig) → Buf (Elt Bits) ℓ) (g : Dev Cert.AdamOwKernel.nD → PrngReg), Pre_AdamOwKernel m →
    θ_run (Cert.AdamOwKernel.defs (F := Bits)) (onTc (τ := Cert.AdamOwKernel.τ) (Cert.AdamOwKernel.main (F := Bits))) ⟨m, fun _ => 0, g⟩ (fun r => (∀ c : Dev Cert.AdamOwKernel.nD,
      r.2.mem ((c.tc : Thread Cert.AdamOwKernel.nD Cert.AdamOwKernel.τ).loc Cert.AdamOwKernel.main_arg0) = m ((c.tc : Thread Cert.AdamOwKernel.nD Cert.AdamOwKernel.τ).loc Cert.AdamOwKernel.main_arg0)
      ∧ r.2.mem ((c.tc : Thread Cert.AdamOwKernel.nD Cert.AdamOwKernel.τ).loc Cert.AdamOwKernel.main_arg1) = m ((c.tc : Thread Cert.AdamOwKernel.nD Cert.AdamOwKernel.τ).loc Cert.AdamOwKernel.main_arg1)
      ∧ r.2.mem ((c.tc : Thread Cert.AdamOwKernel.nD Cert.AdamOwKernel.τ).loc Cert.AdamOwKernel.main_arg2) = m ((c.tc : Thread Cert.AdamOwKernel.nD Cert.AdamOwKernel.τ).loc Cert.AdamOwKernel.main_arg2)
      ∧ r.2.mem ((c.tc : Thread Cert.AdamOwKernel.nD Cert.AdamOwKernel.τ).loc Cert.AdamOwKernel.main_arg3) = m ((c.tc : Thread Cert.AdamOwKernel.nD Cert.AdamOwKernel.τ).loc Cert.AdamOwKernel.main_arg3)
      ∧ r.2.mem ((c.tc : Thread Cert.AdamOwKernel.nD Cert.AdamOwKernel.τ).loc Cert.AdamOwKernel.main_arg4) = m ((c.tc : Thread Cert.AdamOwKernel.nD Cert.AdamOwKernel.τ).loc Cert.AdamOwKernel.main_arg4)
      ∧ r.2.mem ((c.tc : Thread Cert.AdamOwKernel.nD Cert.AdamOwKernel.τ).loc Cert.AdamOwKernel.main_arg5) = m ((c.tc : Thread Cert.AdamOwKernel.nD Cert.AdamOwKernel.τ).loc Cert.AdamOwKernel.main_arg5))
      ∧ r.2.sem = fun _ => 0)

def quiescent_AdamOwKernelIdeal [hAdamOwKernelIdeal : Cert.AdamOwKernelIdeal.Facts] [hPre_placed_ow : Cert.Pre_placed_ow.Facts] : Prop :=
  ∀ (m : (ℓ : Loc Cert.AdamOwKernelIdeal.nD Cert.AdamOwKernelIdeal.τ Cert.AdamOwKernelIdeal.sig) → Buf (Elt Ideal) ℓ) (g : Dev Cert.AdamOwKernelIdeal.nD → PrngReg), Pre_AdamOwKernelIdeal m →
    θ_run (Cert.AdamOwKernelIdeal.defs (F := Ideal)) (onTc (τ := Cert.AdamOwKernelIdeal.τ) (Cert.AdamOwKernelIdeal.main (F := Ideal))) ⟨m, fun _ => 0, g⟩ (fun r => (∀ c : Dev Cert.AdamOwKernelIdeal.nD,
      r.2.mem ((c.tc : Thread Cert.AdamOwKernelIdeal.nD Cert.AdamOwKernelIdeal.τ).loc Cert.AdamOwKernelIdeal.main_arg0) = m ((c.tc : Thread Cert.AdamOwKernelIdeal.nD Cert.AdamOwKernelIdeal.τ).loc Cert.AdamOwKernelIdeal.main_arg0)
      ∧ r.2.mem ((c.tc : Thread Cert.AdamOwKernelIdeal.nD Cert.AdamOwKernelIdeal.τ).loc Cert.AdamOwKernelIdeal.main_arg1) = m ((c.tc : Thread Cert.AdamOwKernelIdeal.nD Cert.AdamOwKernelIdeal.τ).loc Cert.AdamOwKernelIdeal.main_arg1)
      ∧ r.2.mem ((c.tc : Thread Cert.AdamOwKernelIdeal.nD Cert.AdamOwKernelIdeal.τ).loc Cert.AdamOwKernelIdeal.main_arg2) = m ((c.tc : Thread Cert.AdamOwKernelIdeal.nD Cert.AdamOwKernelIdeal.τ).loc Cert.AdamOwKernelIdeal.main_arg2)
      ∧ r.2.mem ((c.tc : Thread Cert.AdamOwKernelIdeal.nD Cert.AdamOwKernelIdeal.τ).loc Cert.AdamOwKernelIdeal.main_arg3) = m ((c.tc : Thread Cert.AdamOwKernelIdeal.nD Cert.AdamOwKernelIdeal.τ).loc Cert.AdamOwKernelIdeal.main_arg3)
      ∧ r.2.mem ((c.tc : Thread Cert.AdamOwKernelIdeal.nD Cert.AdamOwKernelIdeal.τ).loc Cert.AdamOwKernelIdeal.main_arg4) = m ((c.tc : Thread Cert.AdamOwKernelIdeal.nD Cert.AdamOwKernelIdeal.τ).loc Cert.AdamOwKernelIdeal.main_arg4)
      ∧ r.2.mem ((c.tc : Thread Cert.AdamOwKernelIdeal.nD Cert.AdamOwKernelIdeal.τ).loc Cert.AdamOwKernelIdeal.main_arg5) = m ((c.tc : Thread Cert.AdamOwKernelIdeal.nD Cert.AdamOwKernelIdeal.τ).loc Cert.AdamOwKernelIdeal.main_arg5))
      ∧ r.2.sem = fun _ => 0)

def quiescent_AdamOwReferenceIdeal [hAdamOwReferenceIdeal : Cert.AdamOwReferenceIdeal.Facts] : Prop :=
  ∀ (m : (ℓ : Loc Cert.AdamOwReferenceIdeal.nD Cert.AdamOwReferenceIdeal.τ Cert.AdamOwReferenceIdeal.sig) → Buf (Elt Ideal) ℓ) (g : Dev Cert.AdamOwReferenceIdeal.nD → PrngReg), Pre_AdamOwReferenceIdeal m →
    θ_run (Cert.AdamOwReferenceIdeal.defs (F := Ideal)) (onTc (τ := Cert.AdamOwReferenceIdeal.τ) (Cert.AdamOwReferenceIdeal.main (F := Ideal))) ⟨m, fun _ => 0, g⟩ (fun r => (∀ c : Dev Cert.AdamOwReferenceIdeal.nD,
      r.2.mem ((c.tc : Thread Cert.AdamOwReferenceIdeal.nD Cert.AdamOwReferenceIdeal.τ).loc Cert.AdamOwReferenceIdeal.main_arg0) = m ((c.tc : Thread Cert.AdamOwReferenceIdeal.nD Cert.AdamOwReferenceIdeal.τ).loc Cert.AdamOwReferenceIdeal.main_arg0)
      ∧ r.2.mem ((c.tc : Thread Cert.AdamOwReferenceIdeal.nD Cert.AdamOwReferenceIdeal.τ).loc Cert.AdamOwReferenceIdeal.main_arg1) = m ((c.tc : Thread Cert.AdamOwReferenceIdeal.nD Cert.AdamOwReferenceIdeal.τ).loc Cert.AdamOwReferenceIdeal.main_arg1)
      ∧ r.2.mem ((c.tc : Thread Cert.AdamOwReferenceIdeal.nD Cert.AdamOwReferenceIdeal.τ).loc Cert.AdamOwReferenceIdeal.main_arg2) = m ((c.tc : Thread Cert.AdamOwReferenceIdeal.nD Cert.AdamOwReferenceIdeal.τ).loc Cert.AdamOwReferenceIdeal.main_arg2)
      ∧ r.2.mem ((c.tc : Thread Cert.AdamOwReferenceIdeal.nD Cert.AdamOwReferenceIdeal.τ).loc Cert.AdamOwReferenceIdeal.main_arg3) = m ((c.tc : Thread Cert.AdamOwReferenceIdeal.nD Cert.AdamOwReferenceIdeal.τ).loc Cert.AdamOwReferenceIdeal.main_arg3)
      ∧ r.2.mem ((c.tc : Thread Cert.AdamOwReferenceIdeal.nD Cert.AdamOwReferenceIdeal.τ).loc Cert.AdamOwReferenceIdeal.main_arg4) = m ((c.tc : Thread Cert.AdamOwReferenceIdeal.nD Cert.AdamOwReferenceIdeal.τ).loc Cert.AdamOwReferenceIdeal.main_arg4)
      ∧ r.2.mem ((c.tc : Thread Cert.AdamOwReferenceIdeal.nD Cert.AdamOwReferenceIdeal.τ).loc Cert.AdamOwReferenceIdeal.main_arg5) = m ((c.tc : Thread Cert.AdamOwReferenceIdeal.nD Cert.AdamOwReferenceIdeal.τ).loc Cert.AdamOwReferenceIdeal.main_arg5))
      ∧ r.2.sem = fun _ => 0)

def quiescent_AdamOwReferenceIdeal_pre_placed_ow [hAdamOwReferenceIdeal : Cert.AdamOwReferenceIdeal.Facts] [hPre_placed_ow : Cert.Pre_placed_ow.Facts] : Prop :=
  ∀ (m : (ℓ : Loc Cert.AdamOwReferenceIdeal.nD Cert.AdamOwReferenceIdeal.τ Cert.AdamOwReferenceIdeal.sig) → Buf (Elt Ideal) ℓ) (g : Dev Cert.AdamOwReferenceIdeal.nD → PrngReg), Pre_AdamOwReferenceIdeal_placed_ow m →
    θ_run (Cert.AdamOwReferenceIdeal.defs (F := Ideal)) (onTc (τ := Cert.AdamOwReferenceIdeal.τ) (Cert.AdamOwReferenceIdeal.main (F := Ideal))) ⟨m, fun _ => 0, g⟩ (fun r => (∀ c : Dev Cert.AdamOwReferenceIdeal.nD,
      r.2.mem ((c.tc : Thread Cert.AdamOwReferenceIdeal.nD Cert.AdamOwReferenceIdeal.τ).loc Cert.AdamOwReferenceIdeal.main_arg0) = m ((c.tc : Thread Cert.AdamOwReferenceIdeal.nD Cert.AdamOwReferenceIdeal.τ).loc Cert.AdamOwReferenceIdeal.main_arg0)
      ∧ r.2.mem ((c.tc : Thread Cert.AdamOwReferenceIdeal.nD Cert.AdamOwReferenceIdeal.τ).loc Cert.AdamOwReferenceIdeal.main_arg1) = m ((c.tc : Thread Cert.AdamOwReferenceIdeal.nD Cert.AdamOwReferenceIdeal.τ).loc Cert.AdamOwReferenceIdeal.main_arg1)
      ∧ r.2.mem ((c.tc : Thread Cert.AdamOwReferenceIdeal.nD Cert.AdamOwReferenceIdeal.τ).loc Cert.AdamOwReferenceIdeal.main_arg2) = m ((c.tc : Thread Cert.AdamOwReferenceIdeal.nD Cert.AdamOwReferenceIdeal.τ).loc Cert.AdamOwReferenceIdeal.main_arg2)
      ∧ r.2.mem ((c.tc : Thread Cert.AdamOwReferenceIdeal.nD Cert.AdamOwReferenceIdeal.τ).loc Cert.AdamOwReferenceIdeal.main_arg3) = m ((c.tc : Thread Cert.AdamOwReferenceIdeal.nD Cert.AdamOwReferenceIdeal.τ).loc Cert.AdamOwReferenceIdeal.main_arg3)
      ∧ r.2.mem ((c.tc : Thread Cert.AdamOwReferenceIdeal.nD Cert.AdamOwReferenceIdeal.τ).loc Cert.AdamOwReferenceIdeal.main_arg4) = m ((c.tc : Thread Cert.AdamOwReferenceIdeal.nD Cert.AdamOwReferenceIdeal.τ).loc Cert.AdamOwReferenceIdeal.main_arg4)
      ∧ r.2.mem ((c.tc : Thread Cert.AdamOwReferenceIdeal.nD Cert.AdamOwReferenceIdeal.τ).loc Cert.AdamOwReferenceIdeal.main_arg5) = m ((c.tc : Thread Cert.AdamOwReferenceIdeal.nD Cert.AdamOwReferenceIdeal.τ).loc Cert.AdamOwReferenceIdeal.main_arg5))
      ∧ r.2.sem = fun _ => 0)

def quiescent_AdamCiKernel [hAdamCiKernel : Cert.AdamCiKernel.Facts] [hPre_placed_ci : Cert.Pre_placed_ci.Facts] : Prop :=
  ∀ (m : (ℓ : Loc Cert.AdamCiKernel.nD Cert.AdamCiKernel.τ Cert.AdamCiKernel.sig) → Buf (Elt Bits) ℓ) (g : Dev Cert.AdamCiKernel.nD → PrngReg), Pre_AdamCiKernel m →
    θ_run (Cert.AdamCiKernel.defs (F := Bits)) (onTc (τ := Cert.AdamCiKernel.τ) (Cert.AdamCiKernel.main (F := Bits))) ⟨m, fun _ => 0, g⟩ (fun r => (∀ c : Dev Cert.AdamCiKernel.nD,
      r.2.mem ((c.tc : Thread Cert.AdamCiKernel.nD Cert.AdamCiKernel.τ).loc Cert.AdamCiKernel.main_arg0) = m ((c.tc : Thread Cert.AdamCiKernel.nD Cert.AdamCiKernel.τ).loc Cert.AdamCiKernel.main_arg0)
      ∧ r.2.mem ((c.tc : Thread Cert.AdamCiKernel.nD Cert.AdamCiKernel.τ).loc Cert.AdamCiKernel.main_arg1) = m ((c.tc : Thread Cert.AdamCiKernel.nD Cert.AdamCiKernel.τ).loc Cert.AdamCiKernel.main_arg1)
      ∧ r.2.mem ((c.tc : Thread Cert.AdamCiKernel.nD Cert.AdamCiKernel.τ).loc Cert.AdamCiKernel.main_arg2) = m ((c.tc : Thread Cert.AdamCiKernel.nD Cert.AdamCiKernel.τ).loc Cert.AdamCiKernel.main_arg2)
      ∧ r.2.mem ((c.tc : Thread Cert.AdamCiKernel.nD Cert.AdamCiKernel.τ).loc Cert.AdamCiKernel.main_arg3) = m ((c.tc : Thread Cert.AdamCiKernel.nD Cert.AdamCiKernel.τ).loc Cert.AdamCiKernel.main_arg3)
      ∧ r.2.mem ((c.tc : Thread Cert.AdamCiKernel.nD Cert.AdamCiKernel.τ).loc Cert.AdamCiKernel.main_arg4) = m ((c.tc : Thread Cert.AdamCiKernel.nD Cert.AdamCiKernel.τ).loc Cert.AdamCiKernel.main_arg4)
      ∧ r.2.mem ((c.tc : Thread Cert.AdamCiKernel.nD Cert.AdamCiKernel.τ).loc Cert.AdamCiKernel.main_arg5) = m ((c.tc : Thread Cert.AdamCiKernel.nD Cert.AdamCiKernel.τ).loc Cert.AdamCiKernel.main_arg5))
      ∧ r.2.sem = fun _ => 0)

def quiescent_AdamCiKernelIdeal [hAdamCiKernelIdeal : Cert.AdamCiKernelIdeal.Facts] [hPre_placed_ci : Cert.Pre_placed_ci.Facts] : Prop :=
  ∀ (m : (ℓ : Loc Cert.AdamCiKernelIdeal.nD Cert.AdamCiKernelIdeal.τ Cert.AdamCiKernelIdeal.sig) → Buf (Elt Ideal) ℓ) (g : Dev Cert.AdamCiKernelIdeal.nD → PrngReg), Pre_AdamCiKernelIdeal m →
    θ_run (Cert.AdamCiKernelIdeal.defs (F := Ideal)) (onTc (τ := Cert.AdamCiKernelIdeal.τ) (Cert.AdamCiKernelIdeal.main (F := Ideal))) ⟨m, fun _ => 0, g⟩ (fun r => (∀ c : Dev Cert.AdamCiKernelIdeal.nD,
      r.2.mem ((c.tc : Thread Cert.AdamCiKernelIdeal.nD Cert.AdamCiKernelIdeal.τ).loc Cert.AdamCiKernelIdeal.main_arg0) = m ((c.tc : Thread Cert.AdamCiKernelIdeal.nD Cert.AdamCiKernelIdeal.τ).loc Cert.AdamCiKernelIdeal.main_arg0)
      ∧ r.2.mem ((c.tc : Thread Cert.AdamCiKernelIdeal.nD Cert.AdamCiKernelIdeal.τ).loc Cert.AdamCiKernelIdeal.main_arg1) = m ((c.tc : Thread Cert.AdamCiKernelIdeal.nD Cert.AdamCiKernelIdeal.τ).loc Cert.AdamCiKernelIdeal.main_arg1)
      ∧ r.2.mem ((c.tc : Thread Cert.AdamCiKernelIdeal.nD Cert.AdamCiKernelIdeal.τ).loc Cert.AdamCiKernelIdeal.main_arg2) = m ((c.tc : Thread Cert.AdamCiKernelIdeal.nD Cert.AdamCiKernelIdeal.τ).loc Cert.AdamCiKernelIdeal.main_arg2)
      ∧ r.2.mem ((c.tc : Thread Cert.AdamCiKernelIdeal.nD Cert.AdamCiKernelIdeal.τ).loc Cert.AdamCiKernelIdeal.main_arg3) = m ((c.tc : Thread Cert.AdamCiKernelIdeal.nD Cert.AdamCiKernelIdeal.τ).loc Cert.AdamCiKernelIdeal.main_arg3)
      ∧ r.2.mem ((c.tc : Thread Cert.AdamCiKernelIdeal.nD Cert.AdamCiKernelIdeal.τ).loc Cert.AdamCiKernelIdeal.main_arg4) = m ((c.tc : Thread Cert.AdamCiKernelIdeal.nD Cert.AdamCiKernelIdeal.τ).loc Cert.AdamCiKernelIdeal.main_arg4)
      ∧ r.2.mem ((c.tc : Thread Cert.AdamCiKernelIdeal.nD Cert.AdamCiKernelIdeal.τ).loc Cert.AdamCiKernelIdeal.main_arg5) = m ((c.tc : Thread Cert.AdamCiKernelIdeal.nD Cert.AdamCiKernelIdeal.τ).loc Cert.AdamCiKernelIdeal.main_arg5))
      ∧ r.2.sem = fun _ => 0)

def quiescent_AdamCiReferenceIdeal [hAdamCiReferenceIdeal : Cert.AdamCiReferenceIdeal.Facts] : Prop :=
  ∀ (m : (ℓ : Loc Cert.AdamCiReferenceIdeal.nD Cert.AdamCiReferenceIdeal.τ Cert.AdamCiReferenceIdeal.sig) → Buf (Elt Ideal) ℓ) (g : Dev Cert.AdamCiReferenceIdeal.nD → PrngReg), Pre_AdamCiReferenceIdeal m →
    θ_run (Cert.AdamCiReferenceIdeal.defs (F := Ideal)) (onTc (τ := Cert.AdamCiReferenceIdeal.τ) (Cert.AdamCiReferenceIdeal.main (F := Ideal))) ⟨m, fun _ => 0, g⟩ (fun r => (∀ c : Dev Cert.AdamCiReferenceIdeal.nD,
      r.2.mem ((c.tc : Thread Cert.AdamCiReferenceIdeal.nD Cert.AdamCiReferenceIdeal.τ).loc Cert.AdamCiReferenceIdeal.main_arg0) = m ((c.tc : Thread Cert.AdamCiReferenceIdeal.nD Cert.AdamCiReferenceIdeal.τ).loc Cert.AdamCiReferenceIdeal.main_arg0)
      ∧ r.2.mem ((c.tc : Thread Cert.AdamCiReferenceIdeal.nD Cert.AdamCiReferenceIdeal.τ).loc Cert.AdamCiReferenceIdeal.main_arg1) = m ((c.tc : Thread Cert.AdamCiReferenceIdeal.nD Cert.AdamCiReferenceIdeal.τ).loc Cert.AdamCiReferenceIdeal.main_arg1)
      ∧ r.2.mem ((c.tc : Thread Cert.AdamCiReferenceIdeal.nD Cert.AdamCiReferenceIdeal.τ).loc Cert.AdamCiReferenceIdeal.main_arg2) = m ((c.tc : Thread Cert.AdamCiReferenceIdeal.nD Cert.AdamCiReferenceIdeal.τ).loc Cert.AdamCiReferenceIdeal.main_arg2)
      ∧ r.2.mem ((c.tc : Thread Cert.AdamCiReferenceIdeal.nD Cert.AdamCiReferenceIdeal.τ).loc Cert.AdamCiReferenceIdeal.main_arg3) = m ((c.tc : Thread Cert.AdamCiReferenceIdeal.nD Cert.AdamCiReferenceIdeal.τ).loc Cert.AdamCiReferenceIdeal.main_arg3)
      ∧ r.2.mem ((c.tc : Thread Cert.AdamCiReferenceIdeal.nD Cert.AdamCiReferenceIdeal.τ).loc Cert.AdamCiReferenceIdeal.main_arg4) = m ((c.tc : Thread Cert.AdamCiReferenceIdeal.nD Cert.AdamCiReferenceIdeal.τ).loc Cert.AdamCiReferenceIdeal.main_arg4)
      ∧ r.2.mem ((c.tc : Thread Cert.AdamCiReferenceIdeal.nD Cert.AdamCiReferenceIdeal.τ).loc Cert.AdamCiReferenceIdeal.main_arg5) = m ((c.tc : Thread Cert.AdamCiReferenceIdeal.nD Cert.AdamCiReferenceIdeal.τ).loc Cert.AdamCiReferenceIdeal.main_arg5))
      ∧ r.2.sem = fun _ => 0)

def quiescent_AdamCiReferenceIdeal_pre_placed_ci [hAdamCiReferenceIdeal : Cert.AdamCiReferenceIdeal.Facts] [hPre_placed_ci : Cert.Pre_placed_ci.Facts] : Prop :=
  ∀ (m : (ℓ : Loc Cert.AdamCiReferenceIdeal.nD Cert.AdamCiReferenceIdeal.τ Cert.AdamCiReferenceIdeal.sig) → Buf (Elt Ideal) ℓ) (g : Dev Cert.AdamCiReferenceIdeal.nD → PrngReg), Pre_AdamCiReferenceIdeal_placed_ci m →
    θ_run (Cert.AdamCiReferenceIdeal.defs (F := Ideal)) (onTc (τ := Cert.AdamCiReferenceIdeal.τ) (Cert.AdamCiReferenceIdeal.main (F := Ideal))) ⟨m, fun _ => 0, g⟩ (fun r => (∀ c : Dev Cert.AdamCiReferenceIdeal.nD,
      r.2.mem ((c.tc : Thread Cert.AdamCiReferenceIdeal.nD Cert.AdamCiReferenceIdeal.τ).loc Cert.AdamCiReferenceIdeal.main_arg0) = m ((c.tc : Thread Cert.AdamCiReferenceIdeal.nD Cert.AdamCiReferenceIdeal.τ).loc Cert.AdamCiReferenceIdeal.main_arg0)
      ∧ r.2.mem ((c.tc : Thread Cert.AdamCiReferenceIdeal.nD Cert.AdamCiReferenceIdeal.τ).loc Cert.AdamCiReferenceIdeal.main_arg1) = m ((c.tc : Thread Cert.AdamCiReferenceIdeal.nD Cert.AdamCiReferenceIdeal.τ).loc Cert.AdamCiReferenceIdeal.main_arg1)
      ∧ r.2.mem ((c.tc : Thread Cert.AdamCiReferenceIdeal.nD Cert.AdamCiReferenceIdeal.τ).loc Cert.AdamCiReferenceIdeal.main_arg2) = m ((c.tc : Thread Cert.AdamCiReferenceIdeal.nD Cert.AdamCiReferenceIdeal.τ).loc Cert.AdamCiReferenceIdeal.main_arg2)
      ∧ r.2.mem ((c.tc : Thread Cert.AdamCiReferenceIdeal.nD Cert.AdamCiReferenceIdeal.τ).loc Cert.AdamCiReferenceIdeal.main_arg3) = m ((c.tc : Thread Cert.AdamCiReferenceIdeal.nD Cert.AdamCiReferenceIdeal.τ).loc Cert.AdamCiReferenceIdeal.main_arg3)
      ∧ r.2.mem ((c.tc : Thread Cert.AdamCiReferenceIdeal.nD Cert.AdamCiReferenceIdeal.τ).loc Cert.AdamCiReferenceIdeal.main_arg4) = m ((c.tc : Thread Cert.AdamCiReferenceIdeal.nD Cert.AdamCiReferenceIdeal.τ).loc Cert.AdamCiReferenceIdeal.main_arg4)
      ∧ r.2.mem ((c.tc : Thread Cert.AdamCiReferenceIdeal.nD Cert.AdamCiReferenceIdeal.τ).loc Cert.AdamCiReferenceIdeal.main_arg5) = m ((c.tc : Thread Cert.AdamCiReferenceIdeal.nD Cert.AdamCiReferenceIdeal.τ).loc Cert.AdamCiReferenceIdeal.main_arg5))
      ∧ r.2.sem = fun _ => 0)

def quiescent_AdamQgKernel [hAdamQgKernel : Cert.AdamQgKernel.Facts] [hPre_placed_qg : Cert.Pre_placed_qg.Facts] : Prop :=
  ∀ (m : (ℓ : Loc Cert.AdamQgKernel.nD Cert.AdamQgKernel.τ Cert.AdamQgKernel.sig) → Buf (Elt Bits) ℓ) (g : Dev Cert.AdamQgKernel.nD → PrngReg), Pre_AdamQgKernel m →
    θ_run (Cert.AdamQgKernel.defs (F := Bits)) (onTc (τ := Cert.AdamQgKernel.τ) (Cert.AdamQgKernel.main (F := Bits))) ⟨m, fun _ => 0, g⟩ (fun r => (∀ c : Dev Cert.AdamQgKernel.nD,
      r.2.mem ((c.tc : Thread Cert.AdamQgKernel.nD Cert.AdamQgKernel.τ).loc Cert.AdamQgKernel.main_arg0) = m ((c.tc : Thread Cert.AdamQgKernel.nD Cert.AdamQgKernel.τ).loc Cert.AdamQgKernel.main_arg0)
      ∧ r.2.mem ((c.tc : Thread Cert.AdamQgKernel.nD Cert.AdamQgKernel.τ).loc Cert.AdamQgKernel.main_arg1) = m ((c.tc : Thread Cert.AdamQgKernel.nD Cert.AdamQgKernel.τ).loc Cert.AdamQgKernel.main_arg1)
      ∧ r.2.mem ((c.tc : Thread Cert.AdamQgKernel.nD Cert.AdamQgKernel.τ).loc Cert.AdamQgKernel.main_arg2) = m ((c.tc : Thread Cert.AdamQgKernel.nD Cert.AdamQgKernel.τ).loc Cert.AdamQgKernel.main_arg2)
      ∧ r.2.mem ((c.tc : Thread Cert.AdamQgKernel.nD Cert.AdamQgKernel.τ).loc Cert.AdamQgKernel.main_arg3) = m ((c.tc : Thread Cert.AdamQgKernel.nD Cert.AdamQgKernel.τ).loc Cert.AdamQgKernel.main_arg3)
      ∧ r.2.mem ((c.tc : Thread Cert.AdamQgKernel.nD Cert.AdamQgKernel.τ).loc Cert.AdamQgKernel.main_arg4) = m ((c.tc : Thread Cert.AdamQgKernel.nD Cert.AdamQgKernel.τ).loc Cert.AdamQgKernel.main_arg4)
      ∧ r.2.mem ((c.tc : Thread Cert.AdamQgKernel.nD Cert.AdamQgKernel.τ).loc Cert.AdamQgKernel.main_arg5) = m ((c.tc : Thread Cert.AdamQgKernel.nD Cert.AdamQgKernel.τ).loc Cert.AdamQgKernel.main_arg5))
      ∧ r.2.sem = fun _ => 0)

def quiescent_AdamQgKernelIdeal [hAdamQgKernelIdeal : Cert.AdamQgKernelIdeal.Facts] [hPre_placed_qg : Cert.Pre_placed_qg.Facts] : Prop :=
  ∀ (m : (ℓ : Loc Cert.AdamQgKernelIdeal.nD Cert.AdamQgKernelIdeal.τ Cert.AdamQgKernelIdeal.sig) → Buf (Elt Ideal) ℓ) (g : Dev Cert.AdamQgKernelIdeal.nD → PrngReg), Pre_AdamQgKernelIdeal m →
    θ_run (Cert.AdamQgKernelIdeal.defs (F := Ideal)) (onTc (τ := Cert.AdamQgKernelIdeal.τ) (Cert.AdamQgKernelIdeal.main (F := Ideal))) ⟨m, fun _ => 0, g⟩ (fun r => (∀ c : Dev Cert.AdamQgKernelIdeal.nD,
      r.2.mem ((c.tc : Thread Cert.AdamQgKernelIdeal.nD Cert.AdamQgKernelIdeal.τ).loc Cert.AdamQgKernelIdeal.main_arg0) = m ((c.tc : Thread Cert.AdamQgKernelIdeal.nD Cert.AdamQgKernelIdeal.τ).loc Cert.AdamQgKernelIdeal.main_arg0)
      ∧ r.2.mem ((c.tc : Thread Cert.AdamQgKernelIdeal.nD Cert.AdamQgKernelIdeal.τ).loc Cert.AdamQgKernelIdeal.main_arg1) = m ((c.tc : Thread Cert.AdamQgKernelIdeal.nD Cert.AdamQgKernelIdeal.τ).loc Cert.AdamQgKernelIdeal.main_arg1)
      ∧ r.2.mem ((c.tc : Thread Cert.AdamQgKernelIdeal.nD Cert.AdamQgKernelIdeal.τ).loc Cert.AdamQgKernelIdeal.main_arg2) = m ((c.tc : Thread Cert.AdamQgKernelIdeal.nD Cert.AdamQgKernelIdeal.τ).loc Cert.AdamQgKernelIdeal.main_arg2)
      ∧ r.2.mem ((c.tc : Thread Cert.AdamQgKernelIdeal.nD Cert.AdamQgKernelIdeal.τ).loc Cert.AdamQgKernelIdeal.main_arg3) = m ((c.tc : Thread Cert.AdamQgKernelIdeal.nD Cert.AdamQgKernelIdeal.τ).loc Cert.AdamQgKernelIdeal.main_arg3)
      ∧ r.2.mem ((c.tc : Thread Cert.AdamQgKernelIdeal.nD Cert.AdamQgKernelIdeal.τ).loc Cert.AdamQgKernelIdeal.main_arg4) = m ((c.tc : Thread Cert.AdamQgKernelIdeal.nD Cert.AdamQgKernelIdeal.τ).loc Cert.AdamQgKernelIdeal.main_arg4)
      ∧ r.2.mem ((c.tc : Thread Cert.AdamQgKernelIdeal.nD Cert.AdamQgKernelIdeal.τ).loc Cert.AdamQgKernelIdeal.main_arg5) = m ((c.tc : Thread Cert.AdamQgKernelIdeal.nD Cert.AdamQgKernelIdeal.τ).loc Cert.AdamQgKernelIdeal.main_arg5))
      ∧ r.2.sem = fun _ => 0)

def quiescent_AdamQgReferenceIdeal [hAdamQgReferenceIdeal : Cert.AdamQgReferenceIdeal.Facts] : Prop :=
  ∀ (m : (ℓ : Loc Cert.AdamQgReferenceIdeal.nD Cert.AdamQgReferenceIdeal.τ Cert.AdamQgReferenceIdeal.sig) → Buf (Elt Ideal) ℓ) (g : Dev Cert.AdamQgReferenceIdeal.nD → PrngReg), Pre_AdamQgReferenceIdeal m →
    θ_run (Cert.AdamQgReferenceIdeal.defs (F := Ideal)) (onTc (τ := Cert.AdamQgReferenceIdeal.τ) (Cert.AdamQgReferenceIdeal.main (F := Ideal))) ⟨m, fun _ => 0, g⟩ (fun r => (∀ c : Dev Cert.AdamQgReferenceIdeal.nD,
      r.2.mem ((c.tc : Thread Cert.AdamQgReferenceIdeal.nD Cert.AdamQgReferenceIdeal.τ).loc Cert.AdamQgReferenceIdeal.main_arg0) = m ((c.tc : Thread Cert.AdamQgReferenceIdeal.nD Cert.AdamQgReferenceIdeal.τ).loc Cert.AdamQgReferenceIdeal.main_arg0)
      ∧ r.2.mem ((c.tc : Thread Cert.AdamQgReferenceIdeal.nD Cert.AdamQgReferenceIdeal.τ).loc Cert.AdamQgReferenceIdeal.main_arg1) = m ((c.tc : Thread Cert.AdamQgReferenceIdeal.nD Cert.AdamQgReferenceIdeal.τ).loc Cert.AdamQgReferenceIdeal.main_arg1)
      ∧ r.2.mem ((c.tc : Thread Cert.AdamQgReferenceIdeal.nD Cert.AdamQgReferenceIdeal.τ).loc Cert.AdamQgReferenceIdeal.main_arg2) = m ((c.tc : Thread Cert.AdamQgReferenceIdeal.nD Cert.AdamQgReferenceIdeal.τ).loc Cert.AdamQgReferenceIdeal.main_arg2)
      ∧ r.2.mem ((c.tc : Thread Cert.AdamQgReferenceIdeal.nD Cert.AdamQgReferenceIdeal.τ).loc Cert.AdamQgReferenceIdeal.main_arg3) = m ((c.tc : Thread Cert.AdamQgReferenceIdeal.nD Cert.AdamQgReferenceIdeal.τ).loc Cert.AdamQgReferenceIdeal.main_arg3)
      ∧ r.2.mem ((c.tc : Thread Cert.AdamQgReferenceIdeal.nD Cert.AdamQgReferenceIdeal.τ).loc Cert.AdamQgReferenceIdeal.main_arg4) = m ((c.tc : Thread Cert.AdamQgReferenceIdeal.nD Cert.AdamQgReferenceIdeal.τ).loc Cert.AdamQgReferenceIdeal.main_arg4)
      ∧ r.2.mem ((c.tc : Thread Cert.AdamQgReferenceIdeal.nD Cert.AdamQgReferenceIdeal.τ).loc Cert.AdamQgReferenceIdeal.main_arg5) = m ((c.tc : Thread Cert.AdamQgReferenceIdeal.nD Cert.AdamQgReferenceIdeal.τ).loc Cert.AdamQgReferenceIdeal.main_arg5))
      ∧ r.2.sem = fun _ => 0)

def quiescent_AdamQgReferenceIdeal_pre_placed_qg [hAdamQgReferenceIdeal : Cert.AdamQgReferenceIdeal.Facts] [hPre_placed_qg : Cert.Pre_placed_qg.Facts] : Prop :=
  ∀ (m : (ℓ : Loc Cert.AdamQgReferenceIdeal.nD Cert.AdamQgReferenceIdeal.τ Cert.AdamQgReferenceIdeal.sig) → Buf (Elt Ideal) ℓ) (g : Dev Cert.AdamQgReferenceIdeal.nD → PrngReg), Pre_AdamQgReferenceIdeal_placed_qg m →
    θ_run (Cert.AdamQgReferenceIdeal.defs (F := Ideal)) (onTc (τ := Cert.AdamQgReferenceIdeal.τ) (Cert.AdamQgReferenceIdeal.main (F := Ideal))) ⟨m, fun _ => 0, g⟩ (fun r => (∀ c : Dev Cert.AdamQgReferenceIdeal.nD,
      r.2.mem ((c.tc : Thread Cert.AdamQgReferenceIdeal.nD Cert.AdamQgReferenceIdeal.τ).loc Cert.AdamQgReferenceIdeal.main_arg0) = m ((c.tc : Thread Cert.AdamQgReferenceIdeal.nD Cert.AdamQgReferenceIdeal.τ).loc Cert.AdamQgReferenceIdeal.main_arg0)
      ∧ r.2.mem ((c.tc : Thread Cert.AdamQgReferenceIdeal.nD Cert.AdamQgReferenceIdeal.τ).loc Cert.AdamQgReferenceIdeal.main_arg1) = m ((c.tc : Thread Cert.AdamQgReferenceIdeal.nD Cert.AdamQgReferenceIdeal.τ).loc Cert.AdamQgReferenceIdeal.main_arg1)
      ∧ r.2.mem ((c.tc : Thread Cert.AdamQgReferenceIdeal.nD Cert.AdamQgReferenceIdeal.τ).loc Cert.AdamQgReferenceIdeal.main_arg2) = m ((c.tc : Thread Cert.AdamQgReferenceIdeal.nD Cert.AdamQgReferenceIdeal.τ).loc Cert.AdamQgReferenceIdeal.main_arg2)
      ∧ r.2.mem ((c.tc : Thread Cert.AdamQgReferenceIdeal.nD Cert.AdamQgReferenceIdeal.τ).loc Cert.AdamQgReferenceIdeal.main_arg3) = m ((c.tc : Thread Cert.AdamQgReferenceIdeal.nD Cert.AdamQgReferenceIdeal.τ).loc Cert.AdamQgReferenceIdeal.main_arg3)
      ∧ r.2.mem ((c.tc : Thread Cert.AdamQgReferenceIdeal.nD Cert.AdamQgReferenceIdeal.τ).loc Cert.AdamQgReferenceIdeal.main_arg4) = m ((c.tc : Thread Cert.AdamQgReferenceIdeal.nD Cert.AdamQgReferenceIdeal.τ).loc Cert.AdamQgReferenceIdeal.main_arg4)
      ∧ r.2.mem ((c.tc : Thread Cert.AdamQgReferenceIdeal.nD Cert.AdamQgReferenceIdeal.τ).loc Cert.AdamQgReferenceIdeal.main_arg5) = m ((c.tc : Thread Cert.AdamQgReferenceIdeal.nD Cert.AdamQgReferenceIdeal.τ).loc Cert.AdamQgReferenceIdeal.main_arg5))
      ∧ r.2.sem = fun _ => 0)

def quiescent_AdamKvKernel [hAdamKvKernel : Cert.AdamKvKernel.Facts] [hPre_placed_kv : Cert.Pre_placed_kv.Facts] : Prop :=
  ∀ (m : (ℓ : Loc Cert.AdamKvKernel.nD Cert.AdamKvKernel.τ Cert.AdamKvKernel.sig) → Buf (Elt Bits) ℓ) (g : Dev Cert.AdamKvKernel.nD → PrngReg), Pre_AdamKvKernel m →
    θ_run (Cert.AdamKvKernel.defs (F := Bits)) (onTc (τ := Cert.AdamKvKernel.τ) (Cert.AdamKvKernel.main (F := Bits))) ⟨m, fun _ => 0, g⟩ (fun r => (∀ c : Dev Cert.AdamKvKernel.nD,
      r.2.mem ((c.tc : Thread Cert.AdamKvKernel.nD Cert.AdamKvKernel.τ).loc Cert.AdamKvKernel.main_arg0) = m ((c.tc : Thread Cert.AdamKvKernel.nD Cert.AdamKvKernel.τ).loc Cert.AdamKvKernel.main_arg0)
      ∧ r.2.mem ((c.tc : Thread Cert.AdamKvKernel.nD Cert.AdamKvKernel.τ).loc Cert.AdamKvKernel.main_arg1) = m ((c.tc : Thread Cert.AdamKvKernel.nD Cert.AdamKvKernel.τ).loc Cert.AdamKvKernel.main_arg1)
      ∧ r.2.mem ((c.tc : Thread Cert.AdamKvKernel.nD Cert.AdamKvKernel.τ).loc Cert.AdamKvKernel.main_arg2) = m ((c.tc : Thread Cert.AdamKvKernel.nD Cert.AdamKvKernel.τ).loc Cert.AdamKvKernel.main_arg2)
      ∧ r.2.mem ((c.tc : Thread Cert.AdamKvKernel.nD Cert.AdamKvKernel.τ).loc Cert.AdamKvKernel.main_arg3) = m ((c.tc : Thread Cert.AdamKvKernel.nD Cert.AdamKvKernel.τ).loc Cert.AdamKvKernel.main_arg3)
      ∧ r.2.mem ((c.tc : Thread Cert.AdamKvKernel.nD Cert.AdamKvKernel.τ).loc Cert.AdamKvKernel.main_arg4) = m ((c.tc : Thread Cert.AdamKvKernel.nD Cert.AdamKvKernel.τ).loc Cert.AdamKvKernel.main_arg4)
      ∧ r.2.mem ((c.tc : Thread Cert.AdamKvKernel.nD Cert.AdamKvKernel.τ).loc Cert.AdamKvKernel.main_arg5) = m ((c.tc : Thread Cert.AdamKvKernel.nD Cert.AdamKvKernel.τ).loc Cert.AdamKvKernel.main_arg5))
      ∧ r.2.sem = fun _ => 0)

def quiescent_AdamKvKernelIdeal [hAdamKvKernelIdeal : Cert.AdamKvKernelIdeal.Facts] [hPre_placed_kv : Cert.Pre_placed_kv.Facts] : Prop :=
  ∀ (m : (ℓ : Loc Cert.AdamKvKernelIdeal.nD Cert.AdamKvKernelIdeal.τ Cert.AdamKvKernelIdeal.sig) → Buf (Elt Ideal) ℓ) (g : Dev Cert.AdamKvKernelIdeal.nD → PrngReg), Pre_AdamKvKernelIdeal m →
    θ_run (Cert.AdamKvKernelIdeal.defs (F := Ideal)) (onTc (τ := Cert.AdamKvKernelIdeal.τ) (Cert.AdamKvKernelIdeal.main (F := Ideal))) ⟨m, fun _ => 0, g⟩ (fun r => (∀ c : Dev Cert.AdamKvKernelIdeal.nD,
      r.2.mem ((c.tc : Thread Cert.AdamKvKernelIdeal.nD Cert.AdamKvKernelIdeal.τ).loc Cert.AdamKvKernelIdeal.main_arg0) = m ((c.tc : Thread Cert.AdamKvKernelIdeal.nD Cert.AdamKvKernelIdeal.τ).loc Cert.AdamKvKernelIdeal.main_arg0)
      ∧ r.2.mem ((c.tc : Thread Cert.AdamKvKernelIdeal.nD Cert.AdamKvKernelIdeal.τ).loc Cert.AdamKvKernelIdeal.main_arg1) = m ((c.tc : Thread Cert.AdamKvKernelIdeal.nD Cert.AdamKvKernelIdeal.τ).loc Cert.AdamKvKernelIdeal.main_arg1)
      ∧ r.2.mem ((c.tc : Thread Cert.AdamKvKernelIdeal.nD Cert.AdamKvKernelIdeal.τ).loc Cert.AdamKvKernelIdeal.main_arg2) = m ((c.tc : Thread Cert.AdamKvKernelIdeal.nD Cert.AdamKvKernelIdeal.τ).loc Cert.AdamKvKernelIdeal.main_arg2)
      ∧ r.2.mem ((c.tc : Thread Cert.AdamKvKernelIdeal.nD Cert.AdamKvKernelIdeal.τ).loc Cert.AdamKvKernelIdeal.main_arg3) = m ((c.tc : Thread Cert.AdamKvKernelIdeal.nD Cert.AdamKvKernelIdeal.τ).loc Cert.AdamKvKernelIdeal.main_arg3)
      ∧ r.2.mem ((c.tc : Thread Cert.AdamKvKernelIdeal.nD Cert.AdamKvKernelIdeal.τ).loc Cert.AdamKvKernelIdeal.main_arg4) = m ((c.tc : Thread Cert.AdamKvKernelIdeal.nD Cert.AdamKvKernelIdeal.τ).loc Cert.AdamKvKernelIdeal.main_arg4)
      ∧ r.2.mem ((c.tc : Thread Cert.AdamKvKernelIdeal.nD Cert.AdamKvKernelIdeal.τ).loc Cert.AdamKvKernelIdeal.main_arg5) = m ((c.tc : Thread Cert.AdamKvKernelIdeal.nD Cert.AdamKvKernelIdeal.τ).loc Cert.AdamKvKernelIdeal.main_arg5))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3)
      ∧ r.2.mem ((c.tc : Thread Cert.AdamKvReferenceIdeal.nD Cert.AdamKvReferenceIdeal.τ).loc Cert.AdamKvReferenceIdeal.main_arg4) = m ((c.tc : Thread Cert.AdamKvReferenceIdeal.nD Cert.AdamKvReferenceIdeal.τ).loc Cert.AdamKvReferenceIdeal.main_arg4)
      ∧ r.2.mem ((c.tc : Thread Cert.AdamKvReferenceIdeal.nD Cert.AdamKvReferenceIdeal.τ).loc Cert.AdamKvReferenceIdeal.main_arg5) = m ((c.tc : Thread Cert.AdamKvReferenceIdeal.nD Cert.AdamKvReferenceIdeal.τ).loc Cert.AdamKvReferenceIdeal.main_arg5))
      ∧ r.2.sem = fun _ => 0)

def quiescent_AdamKvReferenceIdeal_pre_placed_kv [hAdamKvReferenceIdeal : Cert.AdamKvReferenceIdeal.Facts] [hPre_placed_kv : Cert.Pre_placed_kv.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal_placed_kv m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3)
      ∧ r.2.mem ((c.tc : Thread Cert.AdamKvReferenceIdeal.nD Cert.AdamKvReferenceIdeal.τ).loc Cert.AdamKvReferenceIdeal.main_arg4) = m ((c.tc : Thread Cert.AdamKvReferenceIdeal.nD Cert.AdamKvReferenceIdeal.τ).loc Cert.AdamKvReferenceIdeal.main_arg4)
      ∧ r.2.mem ((c.tc : Thread Cert.AdamKvReferenceIdeal.nD Cert.AdamKvReferenceIdeal.τ).loc Cert.AdamKvReferenceIdeal.main_arg5) = m ((c.tc : Thread Cert.AdamKvReferenceIdeal.nD Cert.AdamKvReferenceIdeal.τ).loc Cert.AdamKvReferenceIdeal.main_arg5))
      ∧ r.2.sem = fun _ => 0)

def quiescent_AdamFoKernel [hAdamFoKernel : Cert.AdamFoKernel.Facts] [hPre_placed_fo : Cert.Pre_placed_fo.Facts] : Prop :=
  ∀ (m : (ℓ : Loc Cert.AdamFoKernel.nD Cert.AdamFoKernel.τ Cert.AdamFoKernel.sig) → Buf (Elt Bits) ℓ) (g : Dev Cert.AdamFoKernel.nD → PrngReg), Pre_AdamFoKernel m →
    θ_run (Cert.AdamFoKernel.defs (F := Bits)) (onTc (τ := Cert.AdamFoKernel.τ) (Cert.AdamFoKernel.main (F := Bits))) ⟨m, fun _ => 0, g⟩ (fun r => (∀ c : Dev Cert.AdamFoKernel.nD,
      r.2.mem ((c.tc : Thread Cert.AdamFoKernel.nD Cert.AdamFoKernel.τ).loc Cert.AdamFoKernel.main_arg0) = m ((c.tc : Thread Cert.AdamFoKernel.nD Cert.AdamFoKernel.τ).loc Cert.AdamFoKernel.main_arg0)
      ∧ r.2.mem ((c.tc : Thread Cert.AdamFoKernel.nD Cert.AdamFoKernel.τ).loc Cert.AdamFoKernel.main_arg1) = m ((c.tc : Thread Cert.AdamFoKernel.nD Cert.AdamFoKernel.τ).loc Cert.AdamFoKernel.main_arg1)
      ∧ r.2.mem ((c.tc : Thread Cert.AdamFoKernel.nD Cert.AdamFoKernel.τ).loc Cert.AdamFoKernel.main_arg2) = m ((c.tc : Thread Cert.AdamFoKernel.nD Cert.AdamFoKernel.τ).loc Cert.AdamFoKernel.main_arg2)
      ∧ r.2.mem ((c.tc : Thread Cert.AdamFoKernel.nD Cert.AdamFoKernel.τ).loc Cert.AdamFoKernel.main_arg3) = m ((c.tc : Thread Cert.AdamFoKernel.nD Cert.AdamFoKernel.τ).loc Cert.AdamFoKernel.main_arg3)
      ∧ r.2.mem ((c.tc : Thread Cert.AdamFoKernel.nD Cert.AdamFoKernel.τ).loc Cert.AdamFoKernel.main_arg4) = m ((c.tc : Thread Cert.AdamFoKernel.nD Cert.AdamFoKernel.τ).loc Cert.AdamFoKernel.main_arg4)
      ∧ r.2.mem ((c.tc : Thread Cert.AdamFoKernel.nD Cert.AdamFoKernel.τ).loc Cert.AdamFoKernel.main_arg5) = m ((c.tc : Thread Cert.AdamFoKernel.nD Cert.AdamFoKernel.τ).loc Cert.AdamFoKernel.main_arg5)
      ∧ r.2.mem ((c.tc : Thread Cert.AdamFoKernel.nD Cert.AdamFoKernel.τ).loc Cert.AdamFoKernel.main_arg6) = m ((c.tc : Thread Cert.AdamFoKernel.nD Cert.AdamFoKernel.τ).loc Cert.AdamFoKernel.main_arg6)
      ∧ r.2.mem ((c.tc : Thread Cert.AdamFoKernel.nD Cert.AdamFoKernel.τ).loc Cert.AdamFoKernel.main_arg7) = m ((c.tc : Thread Cert.AdamFoKernel.nD Cert.AdamFoKernel.τ).loc Cert.AdamFoKernel.main_arg7))
      ∧ r.2.sem = fun _ => 0)

def quiescent_AdamFoKernelIdeal [hAdamFoKernelIdeal : Cert.AdamFoKernelIdeal.Facts] [hPre_placed_fo : Cert.Pre_placed_fo.Facts] : Prop :=
  ∀ (m : (ℓ : Loc Cert.AdamFoKernelIdeal.nD Cert.AdamFoKernelIdeal.τ Cert.AdamFoKernelIdeal.sig) → Buf (Elt Ideal) ℓ) (g : Dev Cert.AdamFoKernelIdeal.nD → PrngReg), Pre_AdamFoKernelIdeal m →
    θ_run (Cert.AdamFoKernelIdeal.defs (F := Ideal)) (onTc (τ := Cert.AdamFoKernelIdeal.τ) (Cert.AdamFoKernelIdeal.main (F := Ideal))) ⟨m, fun _ => 0, g⟩ (fun r => (∀ c : Dev Cert.AdamFoKernelIdeal.nD,
      r.2.mem ((c.tc : Thread Cert.AdamFoKernelIdeal.nD Cert.AdamFoKernelIdeal.τ).loc Cert.AdamFoKernelIdeal.main_arg0) = m ((c.tc : Thread Cert.AdamFoKernelIdeal.nD Cert.AdamFoKernelIdeal.τ).loc Cert.AdamFoKernelIdeal.main_arg0)
      ∧ r.2.mem ((c.tc : Thread Cert.AdamFoKernelIdeal.nD Cert.AdamFoKernelIdeal.τ).loc Cert.AdamFoKernelIdeal.main_arg1) = m ((c.tc : Thread Cert.AdamFoKernelIdeal.nD Cert.AdamFoKernelIdeal.τ).loc Cert.AdamFoKernelIdeal.main_arg1)
      ∧ r.2.mem ((c.tc : Thread Cert.AdamFoKernelIdeal.nD Cert.AdamFoKernelIdeal.τ).loc Cert.AdamFoKernelIdeal.main_arg2) = m ((c.tc : Thread Cert.AdamFoKernelIdeal.nD Cert.AdamFoKernelIdeal.τ).loc Cert.AdamFoKernelIdeal.main_arg2)
      ∧ r.2.mem ((c.tc : Thread Cert.AdamFoKernelIdeal.nD Cert.AdamFoKernelIdeal.τ).loc Cert.AdamFoKernelIdeal.main_arg3) = m ((c.tc : Thread Cert.AdamFoKernelIdeal.nD Cert.AdamFoKernelIdeal.τ).loc Cert.AdamFoKernelIdeal.main_arg3)
      ∧ r.2.mem ((c.tc : Thread Cert.AdamFoKernelIdeal.nD Cert.AdamFoKernelIdeal.τ).loc Cert.AdamFoKernelIdeal.main_arg4) = m ((c.tc : Thread Cert.AdamFoKernelIdeal.nD Cert.AdamFoKernelIdeal.τ).loc Cert.AdamFoKernelIdeal.main_arg4)
      ∧ r.2.mem ((c.tc : Thread Cert.AdamFoKernelIdeal.nD Cert.AdamFoKernelIdeal.τ).loc Cert.AdamFoKernelIdeal.main_arg5) = m ((c.tc : Thread Cert.AdamFoKernelIdeal.nD Cert.AdamFoKernelIdeal.τ).loc Cert.AdamFoKernelIdeal.main_arg5)
      ∧ r.2.mem ((c.tc : Thread Cert.AdamFoKernelIdeal.nD Cert.AdamFoKernelIdeal.τ).loc Cert.AdamFoKernelIdeal.main_arg6) = m ((c.tc : Thread Cert.AdamFoKernelIdeal.nD Cert.AdamFoKernelIdeal.τ).loc Cert.AdamFoKernelIdeal.main_arg6)
      ∧ r.2.mem ((c.tc : Thread Cert.AdamFoKernelIdeal.nD Cert.AdamFoKernelIdeal.τ).loc Cert.AdamFoKernelIdeal.main_arg7) = m ((c.tc : Thread Cert.AdamFoKernelIdeal.nD Cert.AdamFoKernelIdeal.τ).loc Cert.AdamFoKernelIdeal.main_arg7))
      ∧ r.2.sem = fun _ => 0)

def quiescent_AdamFoReferenceIdeal [hAdamFoReferenceIdeal : Cert.AdamFoReferenceIdeal.Facts] : Prop :=
  ∀ (m : (ℓ : Loc Cert.AdamFoReferenceIdeal.nD Cert.AdamFoReferenceIdeal.τ Cert.AdamFoReferenceIdeal.sig) → Buf (Elt Ideal) ℓ) (g : Dev Cert.AdamFoReferenceIdeal.nD → PrngReg), Pre_AdamFoReferenceIdeal m →
    θ_run (Cert.AdamFoReferenceIdeal.defs (F := Ideal)) (onTc (τ := Cert.AdamFoReferenceIdeal.τ) (Cert.AdamFoReferenceIdeal.main (F := Ideal))) ⟨m, fun _ => 0, g⟩ (fun r => (∀ c : Dev Cert.AdamFoReferenceIdeal.nD,
      r.2.mem ((c.tc : Thread Cert.AdamFoReferenceIdeal.nD Cert.AdamFoReferenceIdeal.τ).loc Cert.AdamFoReferenceIdeal.main_arg0) = m ((c.tc : Thread Cert.AdamFoReferenceIdeal.nD Cert.AdamFoReferenceIdeal.τ).loc Cert.AdamFoReferenceIdeal.main_arg0)
      ∧ r.2.mem ((c.tc : Thread Cert.AdamFoReferenceIdeal.nD Cert.AdamFoReferenceIdeal.τ).loc Cert.AdamFoReferenceIdeal.main_arg1) = m ((c.tc : Thread Cert.AdamFoReferenceIdeal.nD Cert.AdamFoReferenceIdeal.τ).loc Cert.AdamFoReferenceIdeal.main_arg1)
      ∧ r.2.mem ((c.tc : Thread Cert.AdamFoReferenceIdeal.nD Cert.AdamFoReferenceIdeal.τ).loc Cert.AdamFoReferenceIdeal.main_arg2) = m ((c.tc : Thread Cert.AdamFoReferenceIdeal.nD Cert.AdamFoReferenceIdeal.τ).loc Cert.AdamFoReferenceIdeal.main_arg2)
      ∧ r.2.mem ((c.tc : Thread Cert.AdamFoReferenceIdeal.nD Cert.AdamFoReferenceIdeal.τ).loc Cert.AdamFoReferenceIdeal.main_arg3) = m ((c.tc : Thread Cert.AdamFoReferenceIdeal.nD Cert.AdamFoReferenceIdeal.τ).loc Cert.AdamFoReferenceIdeal.main_arg3)
      ∧ r.2.mem ((c.tc : Thread Cert.AdamFoReferenceIdeal.nD Cert.AdamFoReferenceIdeal.τ).loc Cert.AdamFoReferenceIdeal.main_arg4) = m ((c.tc : Thread Cert.AdamFoReferenceIdeal.nD Cert.AdamFoReferenceIdeal.τ).loc Cert.AdamFoReferenceIdeal.main_arg4)
      ∧ r.2.mem ((c.tc : Thread Cert.AdamFoReferenceIdeal.nD Cert.AdamFoReferenceIdeal.τ).loc Cert.AdamFoReferenceIdeal.main_arg5) = m ((c.tc : Thread Cert.AdamFoReferenceIdeal.nD Cert.AdamFoReferenceIdeal.τ).loc Cert.AdamFoReferenceIdeal.main_arg5)
      ∧ r.2.mem ((c.tc : Thread Cert.AdamFoReferenceIdeal.nD Cert.AdamFoReferenceIdeal.τ).loc Cert.AdamFoReferenceIdeal.main_arg6) = m ((c.tc : Thread Cert.AdamFoReferenceIdeal.nD Cert.AdamFoReferenceIdeal.τ).loc Cert.AdamFoReferenceIdeal.main_arg6)
      ∧ r.2.mem ((c.tc : Thread Cert.AdamFoReferenceIdeal.nD Cert.AdamFoReferenceIdeal.τ).loc Cert.AdamFoReferenceIdeal.main_arg7) = m ((c.tc : Thread Cert.AdamFoReferenceIdeal.nD Cert.AdamFoReferenceIdeal.τ).loc Cert.AdamFoReferenceIdeal.main_arg7))
      ∧ r.2.sem = fun _ => 0)

def quiescent_AdamFoReferenceIdeal_pre_placed_fo [hAdamFoReferenceIdeal : Cert.AdamFoReferenceIdeal.Facts] [hPre_placed_fo : Cert.Pre_placed_fo.Facts] : Prop :=
  ∀ (m : (ℓ : Loc Cert.AdamFoReferenceIdeal.nD Cert.AdamFoReferenceIdeal.τ Cert.AdamFoReferenceIdeal.sig) → Buf (Elt Ideal) ℓ) (g : Dev Cert.AdamFoReferenceIdeal.nD → PrngReg), Pre_AdamFoReferenceIdeal_placed_fo m →
    θ_run (Cert.AdamFoReferenceIdeal.defs (F := Ideal)) (onTc (τ := Cert.AdamFoReferenceIdeal.τ) (Cert.AdamFoReferenceIdeal.main (F := Ideal))) ⟨m, fun _ => 0, g⟩ (fun r => (∀ c : Dev Cert.AdamFoReferenceIdeal.nD,
      r.2.mem ((c.tc : Thread Cert.AdamFoReferenceIdeal.nD Cert.AdamFoReferenceIdeal.τ).loc Cert.AdamFoReferenceIdeal.main_arg0) = m ((c.tc : Thread Cert.AdamFoReferenceIdeal.nD Cert.AdamFoReferenceIdeal.τ).loc Cert.AdamFoReferenceIdeal.main_arg0)
      ∧ r.2.mem ((c.tc : Thread Cert.AdamFoReferenceIdeal.nD Cert.AdamFoReferenceIdeal.τ).loc Cert.AdamFoReferenceIdeal.main_arg1) = m ((c.tc : Thread Cert.AdamFoReferenceIdeal.nD Cert.AdamFoReferenceIdeal.τ).loc Cert.AdamFoReferenceIdeal.main_arg1)
      ∧ r.2.mem ((c.tc : Thread Cert.AdamFoReferenceIdeal.nD Cert.AdamFoReferenceIdeal.τ).loc Cert.AdamFoReferenceIdeal.main_arg2) = m ((c.tc : Thread Cert.AdamFoReferenceIdeal.nD Cert.AdamFoReferenceIdeal.τ).loc Cert.AdamFoReferenceIdeal.main_arg2)
      ∧ r.2.mem ((c.tc : Thread Cert.AdamFoReferenceIdeal.nD Cert.AdamFoReferenceIdeal.τ).loc Cert.AdamFoReferenceIdeal.main_arg3) = m ((c.tc : Thread Cert.AdamFoReferenceIdeal.nD Cert.AdamFoReferenceIdeal.τ).loc Cert.AdamFoReferenceIdeal.main_arg3)
      ∧ r.2.mem ((c.tc : Thread Cert.AdamFoReferenceIdeal.nD Cert.AdamFoReferenceIdeal.τ).loc Cert.AdamFoReferenceIdeal.main_arg4) = m ((c.tc : Thread Cert.AdamFoReferenceIdeal.nD Cert.AdamFoReferenceIdeal.τ).loc Cert.AdamFoReferenceIdeal.main_arg4)
      ∧ r.2.mem ((c.tc : Thread Cert.AdamFoReferenceIdeal.nD Cert.AdamFoReferenceIdeal.τ).loc Cert.AdamFoReferenceIdeal.main_arg5) = m ((c.tc : Thread Cert.AdamFoReferenceIdeal.nD Cert.AdamFoReferenceIdeal.τ).loc Cert.AdamFoReferenceIdeal.main_arg5)
      ∧ r.2.mem ((c.tc : Thread Cert.AdamFoReferenceIdeal.nD Cert.AdamFoReferenceIdeal.τ).loc Cert.AdamFoReferenceIdeal.main_arg6) = m ((c.tc : Thread Cert.AdamFoReferenceIdeal.nD Cert.AdamFoReferenceIdeal.τ).loc Cert.AdamFoReferenceIdeal.main_arg6)
      ∧ r.2.mem ((c.tc : Thread Cert.AdamFoReferenceIdeal.nD Cert.AdamFoReferenceIdeal.τ).loc Cert.AdamFoReferenceIdeal.main_arg7) = m ((c.tc : Thread Cert.AdamFoReferenceIdeal.nD Cert.AdamFoReferenceIdeal.τ).loc Cert.AdamFoReferenceIdeal.main_arg7))
      ∧ r.2.sem = fun _ => 0)

def quiescent_AdamFiKernel [hAdamFiKernel : Cert.AdamFiKernel.Facts] [hPre_placed_fi : Cert.Pre_placed_fi.Facts] : Prop :=
  ∀ (m : (ℓ : Loc Cert.AdamFiKernel.nD Cert.AdamFiKernel.τ Cert.AdamFiKernel.sig) → Buf (Elt Bits) ℓ) (g : Dev Cert.AdamFiKernel.nD → PrngReg), Pre_AdamFiKernel m →
    θ_run (Cert.AdamFiKernel.defs (F := Bits)) (onTc (τ := Cert.AdamFiKernel.τ) (Cert.AdamFiKernel.main (F := Bits))) ⟨m, fun _ => 0, g⟩ (fun r => (∀ c : Dev Cert.AdamFiKernel.nD,
      r.2.mem ((c.tc : Thread Cert.AdamFiKernel.nD Cert.AdamFiKernel.τ).loc Cert.AdamFiKernel.main_arg0) = m ((c.tc : Thread Cert.AdamFiKernel.nD Cert.AdamFiKernel.τ).loc Cert.AdamFiKernel.main_arg0)
      ∧ r.2.mem ((c.tc : Thread Cert.AdamFiKernel.nD Cert.AdamFiKernel.τ).loc Cert.AdamFiKernel.main_arg1) = m ((c.tc : Thread Cert.AdamFiKernel.nD Cert.AdamFiKernel.τ).loc Cert.AdamFiKernel.main_arg1)
      ∧ r.2.mem ((c.tc : Thread Cert.AdamFiKernel.nD Cert.AdamFiKernel.τ).loc Cert.AdamFiKernel.main_arg2) = m ((c.tc : Thread Cert.AdamFiKernel.nD Cert.AdamFiKernel.τ).loc Cert.AdamFiKernel.main_arg2)
      ∧ r.2.mem ((c.tc : Thread Cert.AdamFiKernel.nD Cert.AdamFiKernel.τ).loc Cert.AdamFiKernel.main_arg3) = m ((c.tc : Thread Cert.AdamFiKernel.nD Cert.AdamFiKernel.τ).loc Cert.AdamFiKernel.main_arg3)
      ∧ r.2.mem ((c.tc : Thread Cert.AdamFiKernel.nD Cert.AdamFiKernel.τ).loc Cert.AdamFiKernel.main_arg4) = m ((c.tc : Thread Cert.AdamFiKernel.nD Cert.AdamFiKernel.τ).loc Cert.AdamFiKernel.main_arg4)
      ∧ r.2.mem ((c.tc : Thread Cert.AdamFiKernel.nD Cert.AdamFiKernel.τ).loc Cert.AdamFiKernel.main_arg5) = m ((c.tc : Thread Cert.AdamFiKernel.nD Cert.AdamFiKernel.τ).loc Cert.AdamFiKernel.main_arg5)
      ∧ r.2.mem ((c.tc : Thread Cert.AdamFiKernel.nD Cert.AdamFiKernel.τ).loc Cert.AdamFiKernel.main_arg6) = m ((c.tc : Thread Cert.AdamFiKernel.nD Cert.AdamFiKernel.τ).loc Cert.AdamFiKernel.main_arg6)
      ∧ r.2.mem ((c.tc : Thread Cert.AdamFiKernel.nD Cert.AdamFiKernel.τ).loc Cert.AdamFiKernel.main_arg7) = m ((c.tc : Thread Cert.AdamFiKernel.nD Cert.AdamFiKernel.τ).loc Cert.AdamFiKernel.main_arg7))
      ∧ r.2.sem = fun _ => 0)

def quiescent_AdamFiKernelIdeal [hAdamFiKernelIdeal : Cert.AdamFiKernelIdeal.Facts] [hPre_placed_fi : Cert.Pre_placed_fi.Facts] : Prop :=
  ∀ (m : (ℓ : Loc Cert.AdamFiKernelIdeal.nD Cert.AdamFiKernelIdeal.τ Cert.AdamFiKernelIdeal.sig) → Buf (Elt Ideal) ℓ) (g : Dev Cert.AdamFiKernelIdeal.nD → PrngReg), Pre_AdamFiKernelIdeal m →
    θ_run (Cert.AdamFiKernelIdeal.defs (F := Ideal)) (onTc (τ := Cert.AdamFiKernelIdeal.τ) (Cert.AdamFiKernelIdeal.main (F := Ideal))) ⟨m, fun _ => 0, g⟩ (fun r => (∀ c : Dev Cert.AdamFiKernelIdeal.nD,
      r.2.mem ((c.tc : Thread Cert.AdamFiKernelIdeal.nD Cert.AdamFiKernelIdeal.τ).loc Cert.AdamFiKernelIdeal.main_arg0) = m ((c.tc : Thread Cert.AdamFiKernelIdeal.nD Cert.AdamFiKernelIdeal.τ).loc Cert.AdamFiKernelIdeal.main_arg0)
      ∧ r.2.mem ((c.tc : Thread Cert.AdamFiKernelIdeal.nD Cert.AdamFiKernelIdeal.τ).loc Cert.AdamFiKernelIdeal.main_arg1) = m ((c.tc : Thread Cert.AdamFiKernelIdeal.nD Cert.AdamFiKernelIdeal.τ).loc Cert.AdamFiKernelIdeal.main_arg1)
      ∧ r.2.mem ((c.tc : Thread Cert.AdamFiKernelIdeal.nD Cert.AdamFiKernelIdeal.τ).loc Cert.AdamFiKernelIdeal.main_arg2) = m ((c.tc : Thread Cert.AdamFiKernelIdeal.nD Cert.AdamFiKernelIdeal.τ).loc Cert.AdamFiKernelIdeal.main_arg2)
      ∧ r.2.mem ((c.tc : Thread Cert.AdamFiKernelIdeal.nD Cert.AdamFiKernelIdeal.τ).loc Cert.AdamFiKernelIdeal.main_arg3) = m ((c.tc : Thread Cert.AdamFiKernelIdeal.nD Cert.AdamFiKernelIdeal.τ).loc Cert.AdamFiKernelIdeal.main_arg3)
      ∧ r.2.mem ((c.tc : Thread Cert.AdamFiKernelIdeal.nD Cert.AdamFiKernelIdeal.τ).loc Cert.AdamFiKernelIdeal.main_arg4) = m ((c.tc : Thread Cert.AdamFiKernelIdeal.nD Cert.AdamFiKernelIdeal.τ).loc Cert.AdamFiKernelIdeal.main_arg4)
      ∧ r.2.mem ((c.tc : Thread Cert.AdamFiKernelIdeal.nD Cert.AdamFiKernelIdeal.τ).loc Cert.AdamFiKernelIdeal.main_arg5) = m ((c.tc : Thread Cert.AdamFiKernelIdeal.nD Cert.AdamFiKernelIdeal.τ).loc Cert.AdamFiKernelIdeal.main_arg5)
      ∧ r.2.mem ((c.tc : Thread Cert.AdamFiKernelIdeal.nD Cert.AdamFiKernelIdeal.τ).loc Cert.AdamFiKernelIdeal.main_arg6) = m ((c.tc : Thread Cert.AdamFiKernelIdeal.nD Cert.AdamFiKernelIdeal.τ).loc Cert.AdamFiKernelIdeal.main_arg6)
      ∧ r.2.mem ((c.tc : Thread Cert.AdamFiKernelIdeal.nD Cert.AdamFiKernelIdeal.τ).loc Cert.AdamFiKernelIdeal.main_arg7) = m ((c.tc : Thread Cert.AdamFiKernelIdeal.nD Cert.AdamFiKernelIdeal.τ).loc Cert.AdamFiKernelIdeal.main_arg7))
      ∧ r.2.sem = fun _ => 0)

def quiescent_AdamFiReferenceIdeal [hAdamFiReferenceIdeal : Cert.AdamFiReferenceIdeal.Facts] : Prop :=
  ∀ (m : (ℓ : Loc Cert.AdamFiReferenceIdeal.nD Cert.AdamFiReferenceIdeal.τ Cert.AdamFiReferenceIdeal.sig) → Buf (Elt Ideal) ℓ) (g : Dev Cert.AdamFiReferenceIdeal.nD → PrngReg), Pre_AdamFiReferenceIdeal m →
    θ_run (Cert.AdamFiReferenceIdeal.defs (F := Ideal)) (onTc (τ := Cert.AdamFiReferenceIdeal.τ) (Cert.AdamFiReferenceIdeal.main (F := Ideal))) ⟨m, fun _ => 0, g⟩ (fun r => (∀ c : Dev Cert.AdamFiReferenceIdeal.nD,
      r.2.mem ((c.tc : Thread Cert.AdamFiReferenceIdeal.nD Cert.AdamFiReferenceIdeal.τ).loc Cert.AdamFiReferenceIdeal.main_arg0) = m ((c.tc : Thread Cert.AdamFiReferenceIdeal.nD Cert.AdamFiReferenceIdeal.τ).loc Cert.AdamFiReferenceIdeal.main_arg0)
      ∧ r.2.mem ((c.tc : Thread Cert.AdamFiReferenceIdeal.nD Cert.AdamFiReferenceIdeal.τ).loc Cert.AdamFiReferenceIdeal.main_arg1) = m ((c.tc : Thread Cert.AdamFiReferenceIdeal.nD Cert.AdamFiReferenceIdeal.τ).loc Cert.AdamFiReferenceIdeal.main_arg1)
      ∧ r.2.mem ((c.tc : Thread Cert.AdamFiReferenceIdeal.nD Cert.AdamFiReferenceIdeal.τ).loc Cert.AdamFiReferenceIdeal.main_arg2) = m ((c.tc : Thread Cert.AdamFiReferenceIdeal.nD Cert.AdamFiReferenceIdeal.τ).loc Cert.AdamFiReferenceIdeal.main_arg2)
      ∧ r.2.mem ((c.tc : Thread Cert.AdamFiReferenceIdeal.nD Cert.AdamFiReferenceIdeal.τ).loc Cert.AdamFiReferenceIdeal.main_arg3) = m ((c.tc : Thread Cert.AdamFiReferenceIdeal.nD Cert.AdamFiReferenceIdeal.τ).loc Cert.AdamFiReferenceIdeal.main_arg3)
      ∧ r.2.mem ((c.tc : Thread Cert.AdamFiReferenceIdeal.nD Cert.AdamFiReferenceIdeal.τ).loc Cert.AdamFiReferenceIdeal.main_arg4) = m ((c.tc : Thread Cert.AdamFiReferenceIdeal.nD Cert.AdamFiReferenceIdeal.τ).loc Cert.AdamFiReferenceIdeal.main_arg4)
      ∧ r.2.mem ((c.tc : Thread Cert.AdamFiReferenceIdeal.nD Cert.AdamFiReferenceIdeal.τ).loc Cert.AdamFiReferenceIdeal.main_arg5) = m ((c.tc : Thread Cert.AdamFiReferenceIdeal.nD Cert.AdamFiReferenceIdeal.τ).loc Cert.AdamFiReferenceIdeal.main_arg5)
      ∧ r.2.mem ((c.tc : Thread Cert.AdamFiReferenceIdeal.nD Cert.AdamFiReferenceIdeal.τ).loc Cert.AdamFiReferenceIdeal.main_arg6) = m ((c.tc : Thread Cert.AdamFiReferenceIdeal.nD Cert.AdamFiReferenceIdeal.τ).loc Cert.AdamFiReferenceIdeal.main_arg6)
      ∧ r.2.mem ((c.tc : Thread Cert.AdamFiReferenceIdeal.nD Cert.AdamFiReferenceIdeal.τ).loc Cert.AdamFiReferenceIdeal.main_arg7) = m ((c.tc : Thread Cert.AdamFiReferenceIdeal.nD Cert.AdamFiReferenceIdeal.τ).loc Cert.AdamFiReferenceIdeal.main_arg7))
      ∧ r.2.sem = fun _ => 0)

def quiescent_AdamFiReferenceIdeal_pre_placed_fi [hAdamFiReferenceIdeal : Cert.AdamFiReferenceIdeal.Facts] [hPre_placed_fi : Cert.Pre_placed_fi.Facts] : Prop :=
  ∀ (m : (ℓ : Loc Cert.AdamFiReferenceIdeal.nD Cert.AdamFiReferenceIdeal.τ Cert.AdamFiReferenceIdeal.sig) → Buf (Elt Ideal) ℓ) (g : Dev Cert.AdamFiReferenceIdeal.nD → PrngReg), Pre_AdamFiReferenceIdeal_placed_fi m →
    θ_run (Cert.AdamFiReferenceIdeal.defs (F := Ideal)) (onTc (τ := Cert.AdamFiReferenceIdeal.τ) (Cert.AdamFiReferenceIdeal.main (F := Ideal))) ⟨m, fun _ => 0, g⟩ (fun r => (∀ c : Dev Cert.AdamFiReferenceIdeal.nD,
      r.2.mem ((c.tc : Thread Cert.AdamFiReferenceIdeal.nD Cert.AdamFiReferenceIdeal.τ).loc Cert.AdamFiReferenceIdeal.main_arg0) = m ((c.tc : Thread Cert.AdamFiReferenceIdeal.nD Cert.AdamFiReferenceIdeal.τ).loc Cert.AdamFiReferenceIdeal.main_arg0)
      ∧ r.2.mem ((c.tc : Thread Cert.AdamFiReferenceIdeal.nD Cert.AdamFiReferenceIdeal.τ).loc Cert.AdamFiReferenceIdeal.main_arg1) = m ((c.tc : Thread Cert.AdamFiReferenceIdeal.nD Cert.AdamFiReferenceIdeal.τ).loc Cert.AdamFiReferenceIdeal.main_arg1)
      ∧ r.2.mem ((c.tc : Thread Cert.AdamFiReferenceIdeal.nD Cert.AdamFiReferenceIdeal.τ).loc Cert.AdamFiReferenceIdeal.main_arg2) = m ((c.tc : Thread Cert.AdamFiReferenceIdeal.nD Cert.AdamFiReferenceIdeal.τ).loc Cert.AdamFiReferenceIdeal.main_arg2)
      ∧ r.2.mem ((c.tc : Thread Cert.AdamFiReferenceIdeal.nD Cert.AdamFiReferenceIdeal.τ).loc Cert.AdamFiReferenceIdeal.main_arg3) = m ((c.tc : Thread Cert.AdamFiReferenceIdeal.nD Cert.AdamFiReferenceIdeal.τ).loc Cert.AdamFiReferenceIdeal.main_arg3)
      ∧ r.2.mem ((c.tc : Thread Cert.AdamFiReferenceIdeal.nD Cert.AdamFiReferenceIdeal.τ).loc Cert.AdamFiReferenceIdeal.main_arg4) = m ((c.tc : Thread Cert.AdamFiReferenceIdeal.nD Cert.AdamFiReferenceIdeal.τ).loc Cert.AdamFiReferenceIdeal.main_arg4)
      ∧ r.2.mem ((c.tc : Thread Cert.AdamFiReferenceIdeal.nD Cert.AdamFiReferenceIdeal.τ).loc Cert.AdamFiReferenceIdeal.main_arg5) = m ((c.tc : Thread Cert.AdamFiReferenceIdeal.nD Cert.AdamFiReferenceIdeal.τ).loc Cert.AdamFiReferenceIdeal.main_arg5)
      ∧ r.2.mem ((c.tc : Thread Cert.AdamFiReferenceIdeal.nD Cert.AdamFiReferenceIdeal.τ).loc Cert.AdamFiReferenceIdeal.main_arg6) = m ((c.tc : Thread Cert.AdamFiReferenceIdeal.nD Cert.AdamFiReferenceIdeal.τ).loc Cert.AdamFiReferenceIdeal.main_arg6)
      ∧ r.2.mem ((c.tc : Thread Cert.AdamFiReferenceIdeal.nD Cert.AdamFiReferenceIdeal.τ).loc Cert.AdamFiReferenceIdeal.main_arg7) = m ((c.tc : Thread Cert.AdamFiReferenceIdeal.nD Cert.AdamFiReferenceIdeal.τ).loc Cert.AdamFiReferenceIdeal.main_arg7))
      ∧ r.2.sem = fun _ => 0)

def quiescent_ForgetDwKernel [hForgetDwKernel : Cert.ForgetDwKernel.Facts] : Prop :=
  ∀ (m : (ℓ : Loc Cert.ForgetDwKernel.nD Cert.ForgetDwKernel.τ Cert.ForgetDwKernel.sig) → Buf (Elt Bits) ℓ) (g : Dev Cert.ForgetDwKernel.nD → PrngReg), Pre_ForgetDwKernel m →
    θ_run (Cert.ForgetDwKernel.defs (F := Bits)) (onTc (τ := Cert.ForgetDwKernel.τ) (Cert.ForgetDwKernel.main (F := Bits))) ⟨m, fun _ => 0, g⟩ (fun r => (∀ c : Dev Cert.ForgetDwKernel.nD,
      r.2.mem ((c.tc : Thread Cert.ForgetDwKernel.nD Cert.ForgetDwKernel.τ).loc Cert.ForgetDwKernel.main_arg0) = m ((c.tc : Thread Cert.ForgetDwKernel.nD Cert.ForgetDwKernel.τ).loc Cert.ForgetDwKernel.main_arg0)
      ∧ r.2.mem ((c.tc : Thread Cert.ForgetDwKernel.nD Cert.ForgetDwKernel.τ).loc Cert.ForgetDwKernel.main_arg1) = m ((c.tc : Thread Cert.ForgetDwKernel.nD Cert.ForgetDwKernel.τ).loc Cert.ForgetDwKernel.main_arg1)
      ∧ r.2.mem ((c.tc : Thread Cert.ForgetDwKernel.nD Cert.ForgetDwKernel.τ).loc Cert.ForgetDwKernel.main_arg2) = m ((c.tc : Thread Cert.ForgetDwKernel.nD Cert.ForgetDwKernel.τ).loc Cert.ForgetDwKernel.main_arg2))
      ∧ r.2.sem = fun _ => 0)

def quiescent_ForgetDwKernelIdeal [hForgetDwKernelIdeal : Cert.ForgetDwKernelIdeal.Facts] : Prop :=
  ∀ (m : (ℓ : Loc Cert.ForgetDwKernelIdeal.nD Cert.ForgetDwKernelIdeal.τ Cert.ForgetDwKernelIdeal.sig) → Buf (Elt Ideal) ℓ) (g : Dev Cert.ForgetDwKernelIdeal.nD → PrngReg), Pre_ForgetDwKernelIdeal m →
    θ_run (Cert.ForgetDwKernelIdeal.defs (F := Ideal)) (onTc (τ := Cert.ForgetDwKernelIdeal.τ) (Cert.ForgetDwKernelIdeal.main (F := Ideal))) ⟨m, fun _ => 0, g⟩ (fun r => (∀ c : Dev Cert.ForgetDwKernelIdeal.nD,
      r.2.mem ((c.tc : Thread Cert.ForgetDwKernelIdeal.nD Cert.ForgetDwKernelIdeal.τ).loc Cert.ForgetDwKernelIdeal.main_arg0) = m ((c.tc : Thread Cert.ForgetDwKernelIdeal.nD Cert.ForgetDwKernelIdeal.τ).loc Cert.ForgetDwKernelIdeal.main_arg0)
      ∧ r.2.mem ((c.tc : Thread Cert.ForgetDwKernelIdeal.nD Cert.ForgetDwKernelIdeal.τ).loc Cert.ForgetDwKernelIdeal.main_arg1) = m ((c.tc : Thread Cert.ForgetDwKernelIdeal.nD Cert.ForgetDwKernelIdeal.τ).loc Cert.ForgetDwKernelIdeal.main_arg1)
      ∧ r.2.mem ((c.tc : Thread Cert.ForgetDwKernelIdeal.nD Cert.ForgetDwKernelIdeal.τ).loc Cert.ForgetDwKernelIdeal.main_arg2) = m ((c.tc : Thread Cert.ForgetDwKernelIdeal.nD Cert.ForgetDwKernelIdeal.τ).loc Cert.ForgetDwKernelIdeal.main_arg2))
      ∧ r.2.sem = fun _ => 0)

def quiescent_ForgetDwReferenceIdeal [hForgetDwReferenceIdeal : Cert.ForgetDwReferenceIdeal.Facts] : Prop :=
  ∀ (m : (ℓ : Loc Cert.ForgetDwReferenceIdeal.nD Cert.ForgetDwReferenceIdeal.τ Cert.ForgetDwReferenceIdeal.sig) → Buf (Elt Ideal) ℓ) (g : Dev Cert.ForgetDwReferenceIdeal.nD → PrngReg), Pre_ForgetDwReferenceIdeal m →
    θ_run (Cert.ForgetDwReferenceIdeal.defs (F := Ideal)) (onTc (τ := Cert.ForgetDwReferenceIdeal.τ) (Cert.ForgetDwReferenceIdeal.main (F := Ideal))) ⟨m, fun _ => 0, g⟩ (fun r => (∀ c : Dev Cert.ForgetDwReferenceIdeal.nD,
      r.2.mem ((c.tc : Thread Cert.ForgetDwReferenceIdeal.nD Cert.ForgetDwReferenceIdeal.τ).loc Cert.ForgetDwReferenceIdeal.main_arg0) = m ((c.tc : Thread Cert.ForgetDwReferenceIdeal.nD Cert.ForgetDwReferenceIdeal.τ).loc Cert.ForgetDwReferenceIdeal.main_arg0)
      ∧ r.2.mem ((c.tc : Thread Cert.ForgetDwReferenceIdeal.nD Cert.ForgetDwReferenceIdeal.τ).loc Cert.ForgetDwReferenceIdeal.main_arg1) = m ((c.tc : Thread Cert.ForgetDwReferenceIdeal.nD Cert.ForgetDwReferenceIdeal.τ).loc Cert.ForgetDwReferenceIdeal.main_arg1)
      ∧ r.2.mem ((c.tc : Thread Cert.ForgetDwReferenceIdeal.nD Cert.ForgetDwReferenceIdeal.τ).loc Cert.ForgetDwReferenceIdeal.main_arg2) = m ((c.tc : Thread Cert.ForgetDwReferenceIdeal.nD Cert.ForgetDwReferenceIdeal.τ).loc Cert.ForgetDwReferenceIdeal.main_arg2))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v84) = v0 c
          ∧ r.2.mem ((c.tc : Thread Cert.ConvReferenceIdeal.nD Cert.ConvReferenceIdeal.τ).loc Cert.ConvReferenceIdeal.main_v76) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v4_0)) (v1 : (c : Dev Cert.InKernelIdeal.nD) → Buf (Elt Ideal) ((c.tc : Thread Cert.InKernelIdeal.nD Cert.InKernelIdeal.τ).loc Cert.InKernelIdeal.main_v4_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4_0) = v0 c
          ∧ r.2.mem ((c.tc : Thread Cert.InKernelIdeal.nD Cert.InKernelIdeal.τ).loc Cert.InKernelIdeal.main_v4_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v13) = v0 c
          ∧ r.2.mem ((c.tc : Thread Cert.InReferenceIdeal.nD Cert.InReferenceIdeal.τ).loc Cert.InReferenceIdeal.main_v20) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)) (v2 : (c : Dev Cert.OutKernelIdeal.nD) → Buf (Elt Ideal) ((c.tc : Thread Cert.OutKernelIdeal.nD Cert.OutKernelIdeal.τ).loc Cert.OutKernelIdeal.main_v3_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_v3_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v9) = v0 c
          ∧ r.2.mem ((c.tc : Thread Cert.OutReferenceIdeal.nD Cert.OutReferenceIdeal.τ).loc Cert.OutReferenceIdeal.main_v7) = v1 c
          ∧ r.2.mem ((c.tc : Thread Cert.OutReferenceIdeal.nD Cert.OutReferenceIdeal.τ).loc Cert.OutReferenceIdeal.main_v25) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_BwdOutKernel_BwdOutKernelIdeal : Prop :=
  True

def algebraic_BwdOutKernelIdeal_BwdOutReferenceIdeal_pre_finite [hBwdOutKernelIdeal : Cert.BwdOutKernelIdeal.Facts] [hBwdOutReferenceIdeal : Cert.BwdOutReferenceIdeal.Facts] [hPre_finite : Cert.Pre_finite.Facts] : Prop :=
  ∀ (m : (ℓ : Loc Cert.BwdOutKernelIdeal.nD Cert.BwdOutKernelIdeal.τ Cert.BwdOutKernelIdeal.sig) → Buf (Elt Ideal) ℓ) (g : Dev Cert.BwdOutKernelIdeal.nD → PrngReg)
    (m' : (ℓ : Loc Cert.BwdOutReferenceIdeal.nD Cert.BwdOutReferenceIdeal.τ Cert.BwdOutReferenceIdeal.sig) → Buf (Elt Ideal) ℓ) (g' : Dev Cert.BwdOutReferenceIdeal.nD → PrngReg), Pre_BwdOutKernelIdeal_finite m →
    (∀ c : Dev Cert.BwdOutKernelIdeal.nD,
      m' ((c.tc : Thread Cert.BwdOutReferenceIdeal.nD Cert.BwdOutReferenceIdeal.τ).loc Cert.BwdOutReferenceIdeal.main_arg0) = m ((c.tc : Thread Cert.BwdOutKernelIdeal.nD Cert.BwdOutKernelIdeal.τ).loc Cert.BwdOutKernelIdeal.main_arg0)
      ∧ m' ((c.tc : Thread Cert.BwdOutReferenceIdeal.nD Cert.BwdOutReferenceIdeal.τ).loc Cert.BwdOutReferenceIdeal.main_arg1) = m ((c.tc : Thread Cert.BwdOutKernelIdeal.nD Cert.BwdOutKernelIdeal.τ).loc Cert.BwdOutKernelIdeal.main_arg1)
      ∧ m' ((c.tc : Thread Cert.BwdOutReferenceIdeal.nD Cert.BwdOutReferenceIdeal.τ).loc Cert.BwdOutReferenceIdeal.main_arg2) = m ((c.tc : Thread Cert.BwdOutKernelIdeal.nD Cert.BwdOutKernelIdeal.τ).loc Cert.BwdOutKernelIdeal.main_arg2)
      ∧ m' ((c.tc : Thread Cert.BwdOutReferenceIdeal.nD Cert.BwdOutReferenceIdeal.τ).loc Cert.BwdOutReferenceIdeal.main_arg3) = m ((c.tc : Thread Cert.BwdOutKernelIdeal.nD Cert.BwdOutKernelIdeal.τ).loc Cert.BwdOutKernelIdeal.main_arg3)) →
    ∃ (v0 : (c : Dev Cert.BwdOutKernelIdeal.nD) → Buf (Elt Ideal) ((c.tc : Thread Cert.BwdOutKernelIdeal.nD Cert.BwdOutKernelIdeal.τ).loc Cert.BwdOutKernelIdeal.main_v11_0)) (v1 : (c : Dev Cert.BwdOutKernelIdeal.nD) → Buf (Elt Ideal) ((c.tc : Thread Cert.BwdOutKernelIdeal.nD Cert.BwdOutKernelIdeal.τ).loc Cert.BwdOutKernelIdeal.main_v11_1)) (v2 : (c : Dev Cert.BwdOutKernelIdeal.nD) → Buf (Elt Ideal) ((c.tc : Thread Cert.BwdOutKernelIdeal.nD Cert.BwdOutKernelIdeal.τ).loc Cert.BwdOutKernelIdeal.main_v11_2)),
      θ_run (Cert.BwdOutKernelIdeal.defs (F := Ideal)) (onTc (τ := Cert.BwdOutKernelIdeal.τ) (Cert.BwdOutKernelIdeal.main (F := Ideal))) ⟨m, fun _ => 0, g⟩ (fun r => ∀ c : Dev Cert.BwdOutKernelIdeal.nD,
          r.2.mem ((c.tc : Thread Cert.BwdOutKernelIdeal.nD Cert.BwdOutKernelIdeal.τ).loc Cert.BwdOutKernelIdeal.main_v11_0) = v0 c
          ∧ r.2.mem ((c.tc : Thread Cert.BwdOutKernelIdeal.nD Cert.BwdOutKernelIdeal.τ).loc Cert.BwdOutKernelIdeal.main_v11_1) = v1 c
          ∧ r.2.mem ((c.tc : Thread Cert.BwdOutKernelIdeal.nD Cert.BwdOutKernelIdeal.τ).loc Cert.BwdOutKernelIdeal.main_v11_2) = v2 c
          ∧ r.2.mem ((c.tc : Thread Cert.BwdOutKernelIdeal.nD Cert.BwdOutKernelIdeal.τ).loc Cert.BwdOutKernelIdeal.main_arg0) = m ((c.tc : Thread Cert.BwdOutKernelIdeal.nD Cert.BwdOutKernelIdeal.τ).loc Cert.BwdOutKernelIdeal.main_arg0)
          ∧ r.2.mem ((c.tc : Thread Cert.BwdOutKernelIdeal.nD Cert.BwdOutKernelIdeal.τ).loc Cert.BwdOutKernelIdeal.main_arg1) = m ((c.tc : Thread Cert.BwdOutKernelIdeal.nD Cert.BwdOutKernelIdeal.τ).loc Cert.BwdOutKernelIdeal.main_arg1)
          ∧ r.2.mem ((c.tc : Thread Cert.BwdOutKernelIdeal.nD Cert.BwdOutKernelIdeal.τ).loc Cert.BwdOutKernelIdeal.main_arg2) = m ((c.tc : Thread Cert.BwdOutKernelIdeal.nD Cert.BwdOutKernelIdeal.τ).loc Cert.BwdOutKernelIdeal.main_arg2)
          ∧ r.2.mem ((c.tc : Thread Cert.BwdOutKernelIdeal.nD Cert.BwdOutKernelIdeal.τ).loc Cert.BwdOutKernelIdeal.main_arg3) = m ((c.tc : Thread Cert.BwdOutKernelIdeal.nD Cert.BwdOutKernelIdeal.τ).loc Cert.BwdOutKernelIdeal.main_arg3))
      ∧ θ_run (Cert.BwdOutReferenceIdeal.defs (F := Ideal)) (onTc (τ := Cert.BwdOutReferenceIdeal.τ) (Cert.BwdOutReferenceIdeal.main (F := Ideal))) ⟨m', fun _ => 0, g'⟩ (fun r => ∀ c : Dev Cert.BwdOutReferenceIdeal.nD,
          r.2.mem ((c.tc : Thread Cert.BwdOutReferenceIdeal.nD Cert.BwdOutReferenceIdeal.τ).loc Cert.BwdOutReferenceIdeal.main_v52) = v0 c
          ∧ r.2.mem ((c.tc : Thread Cert.BwdOutReferenceIdeal.nD Cert.BwdOutReferenceIdeal.τ).loc Cert.BwdOutReferenceIdeal.main_v53) = v1 c
          ∧ r.2.mem ((c.tc : Thread Cert.BwdOutReferenceIdeal.nD Cert.BwdOutReferenceIdeal.τ).loc Cert.BwdOutReferenceIdeal.main_v57) = v2 c
          ∧ r.2.mem ((c.tc : Thread Cert.BwdOutReferenceIdeal.nD Cert.BwdOutReferenceIdeal.τ).loc Cert.BwdOutReferenceIdeal.main_arg0) = m' ((c.tc : Thread Cert.BwdOutReferenceIdeal.nD Cert.BwdOutReferenceIdeal.τ).loc Cert.BwdOutReferenceIdeal.main_arg0)
          ∧ r.2.mem ((c.tc : Thread Cert.BwdOutReferenceIdeal.nD Cert.BwdOutReferenceIdeal.τ).loc Cert.BwdOutReferenceIdeal.main_arg1) = m' ((c.tc : Thread Cert.BwdOutReferenceIdeal.nD Cert.BwdOutReferenceIdeal.τ).loc Cert.BwdOutReferenceIdeal.main_arg1)
          ∧ r.2.mem ((c.tc : Thread Cert.BwdOutReferenceIdeal.nD Cert.BwdOutReferenceIdeal.τ).loc Cert.BwdOutReferenceIdeal.main_arg2) = m' ((c.tc : Thread Cert.BwdOutReferenceIdeal.nD Cert.BwdOutReferenceIdeal.τ).loc Cert.BwdOutReferenceIdeal.main_arg2)
          ∧ r.2.mem ((c.tc : Thread Cert.BwdOutReferenceIdeal.nD Cert.BwdOutReferenceIdeal.τ).loc Cert.BwdOutReferenceIdeal.main_arg3) = m' ((c.tc : Thread Cert.BwdOutReferenceIdeal.nD Cert.BwdOutReferenceIdeal.τ).loc Cert.BwdOutReferenceIdeal.main_arg3))

def preserves_BwdInKernel_BwdInKernelIdeal : Prop :=
  True

def algebraic_BwdInKernelIdeal_BwdInReferenceIdeal [hBwdInKernelIdeal : Cert.BwdInKernelIdeal.Facts] [hBwdInReferenceIdeal : Cert.BwdInReferenceIdeal.Facts] : Prop :=
  ∀ (m : (ℓ : Loc Cert.BwdInKernelIdeal.nD Cert.BwdInKernelIdeal.τ Cert.BwdInKernelIdeal.sig) → Buf (Elt Ideal) ℓ) (g : Dev Cert.BwdInKernelIdeal.nD → PrngReg)
    (m' : (ℓ : Loc Cert.BwdInReferenceIdeal.nD Cert.BwdInReferenceIdeal.τ Cert.BwdInReferenceIdeal.sig) → Buf (Elt Ideal) ℓ) (g' : Dev Cert.BwdInReferenceIdeal.nD → PrngReg), Pre_BwdInKernelIdeal m →
    (∀ c : Dev Cert.BwdInKernelIdeal.nD,
      m' ((c.tc : Thread Cert.BwdInReferenceIdeal.nD Cert.BwdInReferenceIdeal.τ).loc Cert.BwdInReferenceIdeal.main_arg0) = m ((c.tc : Thread Cert.BwdInKernelIdeal.nD Cert.BwdInKernelIdeal.τ).loc Cert.BwdInKernelIdeal.main_arg0)
      ∧ m' ((c.tc : Thread Cert.BwdInReferenceIdeal.nD Cert.BwdInReferenceIdeal.τ).loc Cert.BwdInReferenceIdeal.main_arg1) = m ((c.tc : Thread Cert.BwdInKernelIdeal.nD Cert.BwdInKernelIdeal.τ).loc Cert.BwdInKernelIdeal.main_arg1)
      ∧ m' ((c.tc : Thread Cert.BwdInReferenceIdeal.nD Cert.BwdInReferenceIdeal.τ).loc Cert.BwdInReferenceIdeal.main_arg2) = m ((c.tc : Thread Cert.BwdInKernelIdeal.nD Cert.BwdInKernelIdeal.τ).loc Cert.BwdInKernelIdeal.main_arg2)
      ∧ m' ((c.tc : Thread Cert.BwdInReferenceIdeal.nD Cert.BwdInReferenceIdeal.τ).loc Cert.BwdInReferenceIdeal.main_arg3) = m ((c.tc : Thread Cert.BwdInKernelIdeal.nD Cert.BwdInKernelIdeal.τ).loc Cert.BwdInKernelIdeal.main_arg3)
      ∧ m' ((c.tc : Thread Cert.BwdInReferenceIdeal.nD Cert.BwdInReferenceIdeal.τ).loc Cert.BwdInReferenceIdeal.main_arg4) = m ((c.tc : Thread Cert.BwdInKernelIdeal.nD Cert.BwdInKernelIdeal.τ).loc Cert.BwdInKernelIdeal.main_arg4)) →
    ∃ (v0 : (c : Dev Cert.BwdInKernelIdeal.nD) → Buf (Elt Ideal) ((c.tc : Thread Cert.BwdInKernelIdeal.nD Cert.BwdInKernelIdeal.τ).loc Cert.BwdInKernelIdeal.main_v4_0)) (v1 : (c : Dev Cert.BwdInKernelIdeal.nD) → Buf (Elt Ideal) ((c.tc : Thread Cert.BwdInKernelIdeal.nD Cert.BwdInKernelIdeal.τ).loc Cert.BwdInKernelIdeal.main_v4_1)),
      θ_run (Cert.BwdInKernelIdeal.defs (F := Ideal)) (onTc (τ := Cert.BwdInKernelIdeal.τ) (Cert.BwdInKernelIdeal.main (F := Ideal))) ⟨m, fun _ => 0, g⟩ (fun r => ∀ c : Dev Cert.BwdInKernelIdeal.nD,
          r.2.mem ((c.tc : Thread Cert.BwdInKernelIdeal.nD Cert.BwdInKernelIdeal.τ).loc Cert.BwdInKernelIdeal.main_v4_0) = v0 c
          ∧ r.2.mem ((c.tc : Thread Cert.BwdInKernelIdeal.nD Cert.BwdInKernelIdeal.τ).loc Cert.BwdInKernelIdeal.main_v4_1) = v1 c
          ∧ r.2.mem ((c.tc : Thread Cert.BwdInKernelIdeal.nD Cert.BwdInKernelIdeal.τ).loc Cert.BwdInKernelIdeal.main_arg0) = m ((c.tc : Thread Cert.BwdInKernelIdeal.nD Cert.BwdInKernelIdeal.τ).loc Cert.BwdInKernelIdeal.main_arg0)
          ∧ r.2.mem ((c.tc : Thread Cert.BwdInKernelIdeal.nD Cert.BwdInKernelIdeal.τ).loc Cert.BwdInKernelIdeal.main_arg1) = m ((c.tc : Thread Cert.BwdInKernelIdeal.nD Cert.BwdInKernelIdeal.τ).loc Cert.BwdInKernelIdeal.main_arg1)
          ∧ r.2.mem ((c.tc : Thread Cert.BwdInKernelIdeal.nD Cert.BwdInKernelIdeal.τ).loc Cert.BwdInKernelIdeal.main_arg2) = m ((c.tc : Thread Cert.BwdInKernelIdeal.nD Cert.BwdInKernelIdeal.τ).loc Cert.BwdInKernelIdeal.main_arg2)
          ∧ r.2.mem ((c.tc : Thread Cert.BwdInKernelIdeal.nD Cert.BwdInKernelIdeal.τ).loc Cert.BwdInKernelIdeal.main_arg3) = m ((c.tc : Thread Cert.BwdInKernelIdeal.nD Cert.BwdInKernelIdeal.τ).loc Cert.BwdInKernelIdeal.main_arg3)
          ∧ r.2.mem ((c.tc : Thread Cert.BwdInKernelIdeal.nD Cert.BwdInKernelIdeal.τ).loc Cert.BwdInKernelIdeal.main_arg4) = m ((c.tc : Thread Cert.BwdInKernelIdeal.nD Cert.BwdInKernelIdeal.τ).loc Cert.BwdInKernelIdeal.main_arg4))
      ∧ θ_run (Cert.BwdInReferenceIdeal.defs (F := Ideal)) (onTc (τ := Cert.BwdInReferenceIdeal.τ) (Cert.BwdInReferenceIdeal.main (F := Ideal))) ⟨m', fun _ => 0, g'⟩ (fun r => ∀ c : Dev Cert.BwdInReferenceIdeal.nD,
          r.2.mem ((c.tc : Thread Cert.BwdInReferenceIdeal.nD Cert.BwdInReferenceIdeal.τ).loc Cert.BwdInReferenceIdeal.main_v46) = v0 c
          ∧ r.2.mem ((c.tc : Thread Cert.BwdInReferenceIdeal.nD Cert.BwdInReferenceIdeal.τ).loc Cert.BwdInReferenceIdeal.main_v47) = v1 c
          ∧ r.2.mem ((c.tc : Thread Cert.BwdInReferenceIdeal.nD Cert.BwdInReferenceIdeal.τ).loc Cert.BwdInReferenceIdeal.main_arg0) = m' ((c.tc : Thread Cert.BwdInReferenceIdeal.nD Cert.BwdInReferenceIdeal.τ).loc Cert.BwdInReferenceIdeal.main_arg0)
          ∧ r.2.mem ((c.tc : Thread Cert.BwdInReferenceIdeal.nD Cert.BwdInReferenceIdeal.τ).loc Cert.BwdInReferenceIdeal.main_arg1) = m' ((c.tc : Thread Cert.BwdInReferenceIdeal.nD Cert.BwdInReferenceIdeal.τ).loc Cert.BwdInReferenceIdeal.main_arg1)
          ∧ r.2.mem ((c.tc : Thread Cert.BwdInReferenceIdeal.nD Cert.BwdInReferenceIdeal.τ).loc Cert.BwdInReferenceIdeal.main_arg2) = m' ((c.tc : Thread Cert.BwdInReferenceIdeal.nD Cert.BwdInReferenceIdeal.τ).loc Cert.BwdInReferenceIdeal.main_arg2)
          ∧ r.2.mem ((c.tc : Thread Cert.BwdInReferenceIdeal.nD Cert.BwdInReferenceIdeal.τ).loc Cert.BwdInReferenceIdeal.main_arg3) = m' ((c.tc : Thread Cert.BwdInReferenceIdeal.nD Cert.BwdInReferenceIdeal.τ).loc Cert.BwdInReferenceIdeal.main_arg3)
          ∧ r.2.mem ((c.tc : Thread Cert.BwdInReferenceIdeal.nD Cert.BwdInReferenceIdeal.τ).loc Cert.BwdInReferenceIdeal.main_arg4) = m' ((c.tc : Thread Cert.BwdInReferenceIdeal.nD Cert.BwdInReferenceIdeal.τ).loc Cert.BwdInReferenceIdeal.main_arg4))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v10)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v10) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v13) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwInKernel_DwInKernelIdeal : Prop :=
  True

def algebraic_DwInKernelIdeal_DwInReferenceIdeal [hDwInKernelIdeal : Cert.DwInKernelIdeal.Facts] [hDwInReferenceIdeal : Cert.DwInReferenceIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInKernelIdeal m →
    (∀ c : Dev Cert.DwInKernelIdeal.nD,
      m' ((c.tc : Thread Cert.DwInReferenceIdeal.nD Cert.DwInReferenceIdeal.τ).loc Cert.DwInReferenceIdeal.main_arg0) = m ((c.tc : Thread Cert.DwInKernelIdeal.nD Cert.DwInKernelIdeal.τ).loc Cert.DwInKernelIdeal.main_arg0)
      ∧ m' ((c.tc : Thread Cert.DwInReferenceIdeal.nD Cert.DwInReferenceIdeal.τ).loc Cert.DwInReferenceIdeal.main_arg1) = m ((c.tc : Thread Cert.DwInKernelIdeal.nD Cert.DwInKernelIdeal.τ).loc Cert.DwInKernelIdeal.main_arg1)
      ∧ m' ((c.tc : Thread Cert.DwInReferenceIdeal.nD Cert.DwInReferenceIdeal.τ).loc Cert.DwInReferenceIdeal.main_arg2) = m ((c.tc : Thread Cert.DwInKernelIdeal.nD Cert.DwInKernelIdeal.τ).loc Cert.DwInKernelIdeal.main_arg2)) →
    ∃ (v0 : (c : Dev Cert.DwInKernelIdeal.nD) → Buf (Elt Ideal) ((c.tc : Thread Cert.DwInKernelIdeal.nD Cert.DwInKernelIdeal.τ).loc Cert.DwInKernelIdeal.main_v15)),
      θ_run (Cert.DwInKernelIdeal.defs (F := Ideal)) (onTc (τ := Cert.DwInKernelIdeal.τ) (Cert.DwInKernelIdeal.main (F := Ideal))) ⟨m, fun _ => 0, g⟩ (fun r => ∀ c : Dev Cert.DwInKernelIdeal.nD,
          r.2.mem ((c.tc : Thread Cert.DwInKernelIdeal.nD Cert.DwInKernelIdeal.τ).loc Cert.DwInKernelIdeal.main_v15) = v0 c
          ∧ r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
          ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1)
          ∧ r.2.mem ((c.tc : Thread Cert.DwInKernelIdeal.nD Cert.DwInKernelIdeal.τ).loc Cert.DwInKernelIdeal.main_arg2) = m ((c.tc : Thread Cert.DwInKernelIdeal.nD Cert.DwInKernelIdeal.τ).loc Cert.DwInKernelIdeal.main_arg2))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v25) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2))

def preserves_ConvInKernel_ConvInKernelIdeal : Prop :=
  True

def algebraic_ConvInKernelIdeal_ConvInReferenceIdeal [hConvInKernelIdeal : Cert.ConvInKernelIdeal.Facts] [hConvInReferenceIdeal : Cert.ConvInReferenceIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInKernelIdeal m →
    (∀ c : Dev Cert.ConvInKernelIdeal.nD,
      m' ((c.tc : Thread Cert.ConvInReferenceIdeal.nD Cert.ConvInReferenceIdeal.τ).loc Cert.ConvInReferenceIdeal.main_arg0) = m ((c.tc : Thread Cert.ConvInKernelIdeal.nD Cert.ConvInKernelIdeal.τ).loc Cert.ConvInKernelIdeal.main_arg0)
      ∧ m' ((c.tc : Thread Cert.ConvInReferenceIdeal.nD Cert.ConvInReferenceIdeal.τ).loc Cert.ConvInReferenceIdeal.main_arg1) = m ((c.tc : Thread Cert.ConvInKernelIdeal.nD Cert.ConvInKernelIdeal.τ).loc Cert.ConvInKernelIdeal.main_arg1)
      ∧ m' ((c.tc : Thread Cert.ConvInReferenceIdeal.nD Cert.ConvInReferenceIdeal.τ).loc Cert.ConvInReferenceIdeal.main_arg2) = m ((c.tc : Thread Cert.ConvInKernelIdeal.nD Cert.ConvInKernelIdeal.τ).loc Cert.ConvInKernelIdeal.main_arg2)) →
    ∃ (v0 : (c : Dev Cert.ConvInKernelIdeal.nD) → Buf (Elt Ideal) ((c.tc : Thread Cert.ConvInKernelIdeal.nD Cert.ConvInKernelIdeal.τ).loc Cert.ConvInKernelIdeal.main_v5_0)) (v1 : (c : Dev Cert.ConvInKernelIdeal.nD) → Buf (Elt Ideal) ((c.tc : Thread Cert.ConvInKernelIdeal.nD Cert.ConvInKernelIdeal.τ).loc Cert.ConvInKernelIdeal.main_v5_1)),
      θ_run (Cert.ConvInKernelIdeal.defs (F := Ideal)) (onTc (τ := Cert.ConvInKernelIdeal.τ) (Cert.ConvInKernelIdeal.main (F := Ideal))) ⟨m, fun _ => 0, g⟩ (fun r => ∀ c : Dev Cert.ConvInKernelIdeal.nD,
          r.2.mem ((c.tc : Thread Cert.ConvInKernelIdeal.nD Cert.ConvInKernelIdeal.τ).loc Cert.ConvInKernelIdeal.main_v5_0) = v0 c
          ∧ r.2.mem ((c.tc : Thread Cert.ConvInKernelIdeal.nD Cert.ConvInKernelIdeal.τ).loc Cert.ConvInKernelIdeal.main_v5_1) = v1 c
          ∧ r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
          ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1)
          ∧ r.2.mem ((c.tc : Thread Cert.ConvInKernelIdeal.nD Cert.ConvInKernelIdeal.τ).loc Cert.ConvInKernelIdeal.main_arg2) = m ((c.tc : Thread Cert.ConvInKernelIdeal.nD Cert.ConvInKernelIdeal.τ).loc Cert.ConvInKernelIdeal.main_arg2))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v13) = v0 c
          ∧ r.2.mem ((c.tc : Thread Cert.ConvInReferenceIdeal.nD Cert.ConvInReferenceIdeal.τ).loc Cert.ConvInReferenceIdeal.main_v22) = v1 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2))

def preserves_QgInKernel_QgInKernelIdeal : Prop :=
  True

def algebraic_QgInKernelIdeal_QgInReferenceIdeal [hQgInKernelIdeal : Cert.QgInKernelIdeal.Facts] [hQgInReferenceIdeal : Cert.QgInReferenceIdeal.Facts] : Prop :=
  ∀ (m : (ℓ : Loc Cert.QgInKernelIdeal.nD Cert.QgInKernelIdeal.τ Cert.QgInKernelIdeal.sig) → Buf (Elt Ideal) ℓ) (g : Dev Cert.QgInKernelIdeal.nD → PrngReg)
    (m' : (ℓ : Loc Cert.QgInReferenceIdeal.nD Cert.QgInReferenceIdeal.τ Cert.QgInReferenceIdeal.sig) → Buf (Elt Ideal) ℓ) (g' : Dev Cert.QgInReferenceIdeal.nD → PrngReg), Pre_QgInKernelIdeal m →
    (∀ c : Dev Cert.QgInKernelIdeal.nD,
      m' ((c.tc : Thread Cert.QgInReferenceIdeal.nD Cert.QgInReferenceIdeal.τ).loc Cert.QgInReferenceIdeal.main_arg0) = m ((c.tc : Thread Cert.QgInKernelIdeal.nD Cert.QgInKernelIdeal.τ).loc Cert.QgInKernelIdeal.main_arg0)
      ∧ m' ((c.tc : Thread Cert.QgInReferenceIdeal.nD Cert.QgInReferenceIdeal.τ).loc Cert.QgInReferenceIdeal.main_arg1) = m ((c.tc : Thread Cert.QgInKernelIdeal.nD Cert.QgInKernelIdeal.τ).loc Cert.QgInKernelIdeal.main_arg1)
      ∧ m' ((c.tc : Thread Cert.QgInReferenceIdeal.nD Cert.QgInReferenceIdeal.τ).loc Cert.QgInReferenceIdeal.main_arg2) = m ((c.tc : Thread Cert.QgInKernelIdeal.nD Cert.QgInKernelIdeal.τ).loc Cert.QgInKernelIdeal.main_arg2)) →
    ∃ (v0 : (c : Dev Cert.QgInKernelIdeal.nD) → Buf (Elt Ideal) ((c.tc : Thread Cert.QgInKernelIdeal.nD Cert.QgInKernelIdeal.τ).loc Cert.QgInKernelIdeal.main_v5_0)) (v1 : (c : Dev Cert.QgInKernelIdeal.nD) → Buf (Elt Ideal) ((c.tc : Thread Cert.QgInKernelIdeal.nD Cert.QgInKernelIdeal.τ).loc Cert.QgInKernelIdeal.main_v5_1)),
      θ_run (Cert.QgInKernelIdeal.defs (F := Ideal)) (onTc (τ := Cert.QgInKernelIdeal.τ) (Cert.QgInKernelIdeal.main (F := Ideal))) ⟨m, fun _ => 0, g⟩ (fun r => ∀ c : Dev Cert.QgInKernelIdeal.nD,
          r.2.mem ((c.tc : Thread Cert.QgInKernelIdeal.nD Cert.QgInKernelIdeal.τ).loc Cert.QgInKernelIdeal.main_v5_0) = v0 c
          ∧ r.2.mem ((c.tc : Thread Cert.QgInKernelIdeal.nD Cert.QgInKernelIdeal.τ).loc Cert.QgInKernelIdeal.main_v5_1) = v1 c
          ∧ r.2.mem ((c.tc : Thread Cert.QgInKernelIdeal.nD Cert.QgInKernelIdeal.τ).loc Cert.QgInKernelIdeal.main_arg0) = m ((c.tc : Thread Cert.QgInKernelIdeal.nD Cert.QgInKernelIdeal.τ).loc Cert.QgInKernelIdeal.main_arg0)
          ∧ r.2.mem ((c.tc : Thread Cert.QgInKernelIdeal.nD Cert.QgInKernelIdeal.τ).loc Cert.QgInKernelIdeal.main_arg1) = m ((c.tc : Thread Cert.QgInKernelIdeal.nD Cert.QgInKernelIdeal.τ).loc Cert.QgInKernelIdeal.main_arg1)
          ∧ r.2.mem ((c.tc : Thread Cert.QgInKernelIdeal.nD Cert.QgInKernelIdeal.τ).loc Cert.QgInKernelIdeal.main_arg2) = m ((c.tc : Thread Cert.QgInKernelIdeal.nD Cert.QgInKernelIdeal.τ).loc Cert.QgInKernelIdeal.main_arg2))
      ∧ θ_run (Cert.QgInReferenceIdeal.defs (F := Ideal)) (onTc (τ := Cert.QgInReferenceIdeal.τ) (Cert.QgInReferenceIdeal.main (F := Ideal))) ⟨m', fun _ => 0, g'⟩ (fun r => ∀ c : Dev Cert.QgInReferenceIdeal.nD,
          r.2.mem ((c.tc : Thread Cert.QgInReferenceIdeal.nD Cert.QgInReferenceIdeal.τ).loc Cert.QgInReferenceIdeal.main_v13) = v0 c
          ∧ r.2.mem ((c.tc : Thread Cert.QgInReferenceIdeal.nD Cert.QgInReferenceIdeal.τ).loc Cert.QgInReferenceIdeal.main_v20) = v1 c
          ∧ r.2.mem ((c.tc : Thread Cert.QgInReferenceIdeal.nD Cert.QgInReferenceIdeal.τ).loc Cert.QgInReferenceIdeal.main_arg0) = m' ((c.tc : Thread Cert.QgInReferenceIdeal.nD Cert.QgInReferenceIdeal.τ).loc Cert.QgInReferenceIdeal.main_arg0)
          ∧ r.2.mem ((c.tc : Thread Cert.QgInReferenceIdeal.nD Cert.QgInReferenceIdeal.τ).loc Cert.QgInReferenceIdeal.main_arg1) = m' ((c.tc : Thread Cert.QgInReferenceIdeal.nD Cert.QgInReferenceIdeal.τ).loc Cert.QgInReferenceIdeal.main_arg1)
          ∧ r.2.mem ((c.tc : Thread Cert.QgInReferenceIdeal.nD Cert.QgInReferenceIdeal.τ).loc Cert.QgInReferenceIdeal.main_arg2) = m' ((c.tc : Thread Cert.QgInReferenceIdeal.nD Cert.QgInReferenceIdeal.τ).loc Cert.QgInReferenceIdeal.main_arg2))

def preserves_KvInKernel_KvInKernelIdeal : Prop :=
  True

def algebraic_KvInKernelIdeal_KvInReferenceIdeal [hKvInKernelIdeal : Cert.KvInKernelIdeal.Facts] [hKvInReferenceIdeal : Cert.KvInReferenceIdeal.Facts] : Prop :=
  ∀ (m : (ℓ : Loc Cert.KvInKernelIdeal.nD Cert.KvInKernelIdeal.τ Cert.KvInKernelIdeal.sig) → Buf (Elt Ideal) ℓ) (g : Dev Cert.KvInKernelIdeal.nD → PrngReg)
    (m' : (ℓ : Loc Cert.KvInReferenceIdeal.nD Cert.KvInReferenceIdeal.τ Cert.KvInReferenceIdeal.sig) → Buf (Elt Ideal) ℓ) (g' : Dev Cert.KvInReferenceIdeal.nD → PrngReg), Pre_KvInKernelIdeal m →
    (∀ c : Dev Cert.KvInKernelIdeal.nD,
      m' ((c.tc : Thread Cert.KvInReferenceIdeal.nD Cert.KvInReferenceIdeal.τ).loc Cert.KvInReferenceIdeal.main_arg0) = m ((c.tc : Thread Cert.KvInKernelIdeal.nD Cert.KvInKernelIdeal.τ).loc Cert.KvInKernelIdeal.main_arg0)
      ∧ m' ((c.tc : Thread Cert.KvInReferenceIdeal.nD Cert.KvInReferenceIdeal.τ).loc Cert.KvInReferenceIdeal.main_arg1) = m ((c.tc : Thread Cert.KvInKernelIdeal.nD Cert.KvInKernelIdeal.τ).loc Cert.KvInKernelIdeal.main_arg1)
      ∧ m' ((c.tc : Thread Cert.KvInReferenceIdeal.nD Cert.KvInReferenceIdeal.τ).loc Cert.KvInReferenceIdeal.main_arg2) = m ((c.tc : Thread Cert.KvInKernelIdeal.nD Cert.KvInKernelIdeal.τ).loc Cert.KvInKernelIdeal.main_arg2)) →
    ∃ (v0 : (c : Dev Cert.KvInKernelIdeal.nD) → Buf (Elt Ideal) ((c.tc : Thread Cert.KvInKernelIdeal.nD Cert.KvInKernelIdeal.τ).loc Cert.KvInKernelIdeal.main_v10_0)) (v1 : (c : Dev Cert.KvInKernelIdeal.nD) → Buf (Elt Ideal) ((c.tc : Thread Cert.KvInKernelIdeal.nD Cert.KvInKernelIdeal.τ).loc Cert.KvInKernelIdeal.main_v10_1)) (v2 : (c : Dev Cert.KvInKernelIdeal.nD) → Buf (Elt Ideal) ((c.tc : Thread Cert.KvInKernelIdeal.nD Cert.KvInKernelIdeal.τ).loc Cert.KvInKernelIdeal.main_v10_2)),
      θ_run (Cert.KvInKernelIdeal.defs (F := Ideal)) (onTc (τ := Cert.KvInKernelIdeal.τ) (Cert.KvInKernelIdeal.main (F := Ideal))) ⟨m, fun _ => 0, g⟩ (fun r => ∀ c : Dev Cert.KvInKernelIdeal.nD,
          r.2.mem ((c.tc : Thread Cert.KvInKernelIdeal.nD Cert.KvInKernelIdeal.τ).loc Cert.KvInKernelIdeal.main_v10_0) = v0 c
          ∧ r.2.mem ((c.tc : Thread Cert.KvInKernelIdeal.nD Cert.KvInKernelIdeal.τ).loc Cert.KvInKernelIdeal.main_v10_1) = v1 c
          ∧ r.2.mem ((c.tc : Thread Cert.KvInKernelIdeal.nD Cert.KvInKernelIdeal.τ).loc Cert.KvInKernelIdeal.main_v10_2) = v2 c
          ∧ r.2.mem ((c.tc : Thread Cert.KvInKernelIdeal.nD Cert.KvInKernelIdeal.τ).loc Cert.KvInKernelIdeal.main_arg0) = m ((c.tc : Thread Cert.KvInKernelIdeal.nD Cert.KvInKernelIdeal.τ).loc Cert.KvInKernelIdeal.main_arg0)
          ∧ r.2.mem ((c.tc : Thread Cert.KvInKernelIdeal.nD Cert.KvInKernelIdeal.τ).loc Cert.KvInKernelIdeal.main_arg1) = m ((c.tc : Thread Cert.KvInKernelIdeal.nD Cert.KvInKernelIdeal.τ).loc Cert.KvInKernelIdeal.main_arg1)
          ∧ r.2.mem ((c.tc : Thread Cert.KvInKernelIdeal.nD Cert.KvInKernelIdeal.τ).loc Cert.KvInKernelIdeal.main_arg2) = m ((c.tc : Thread Cert.KvInKernelIdeal.nD Cert.KvInKernelIdeal.τ).loc Cert.KvInKernelIdeal.main_arg2))
      ∧ θ_run (Cert.KvInReferenceIdeal.defs (F := Ideal)) (onTc (τ := Cert.KvInReferenceIdeal.τ) (Cert.KvInReferenceIdeal.main (F := Ideal))) ⟨m', fun _ => 0, g'⟩ (fun r => ∀ c : Dev Cert.KvInReferenceIdeal.nD,
          r.2.mem ((c.tc : Thread Cert.KvInReferenceIdeal.nD Cert.KvInReferenceIdeal.τ).loc Cert.KvInReferenceIdeal.main_v17) = v0 c
          ∧ r.2.mem ((c.tc : Thread Cert.KvInReferenceIdeal.nD Cert.KvInReferenceIdeal.τ).loc Cert.KvInReferenceIdeal.main_v21) = v1 c
          ∧ r.2.mem ((c.tc : Thread Cert.KvInReferenceIdeal.nD Cert.KvInReferenceIdeal.τ).loc Cert.KvInReferenceIdeal.main_v23) = v2 c
          ∧ r.2.mem ((c.tc : Thread Cert.KvInReferenceIdeal.nD Cert.KvInReferenceIdeal.τ).loc Cert.KvInReferenceIdeal.main_arg0) = m' ((c.tc : Thread Cert.KvInReferenceIdeal.nD Cert.KvInReferenceIdeal.τ).loc Cert.KvInReferenceIdeal.main_arg0)
          ∧ r.2.mem ((c.tc : Thread Cert.KvInReferenceIdeal.nD Cert.KvInReferenceIdeal.τ).loc Cert.KvInReferenceIdeal.main_arg1) = m' ((c.tc : Thread Cert.KvInReferenceIdeal.nD Cert.KvInReferenceIdeal.τ).loc Cert.KvInReferenceIdeal.main_arg1)
          ∧ r.2.mem ((c.tc : Thread Cert.KvInReferenceIdeal.nD Cert.KvInReferenceIdeal.τ).loc Cert.KvInReferenceIdeal.main_arg2) = m' ((c.tc : Thread Cert.KvInReferenceIdeal.nD Cert.KvInReferenceIdeal.τ).loc Cert.KvInReferenceIdeal.main_arg2))

def preserves_ConvBwdInKernel_ConvBwdInKernelIdeal : Prop :=
  True

def algebraic_ConvBwdInKernelIdeal_ConvBwdInReferenceIdeal [hConvBwdInKernelIdeal : Cert.ConvBwdInKernelIdeal.Facts] [hConvBwdInReferenceIdeal : Cert.ConvBwdInReferenceIdeal.Facts] : Prop :=
  ∀ (m : (ℓ : Loc Cert.ConvBwdInKernelIdeal.nD Cert.ConvBwdInKernelIdeal.τ Cert.ConvBwdInKernelIdeal.sig) → Buf (Elt Ideal) ℓ) (g : Dev Cert.ConvBwdInKernelIdeal.nD → PrngReg)
    (m' : (ℓ : Loc Cert.ConvBwdInReferenceIdeal.nD Cert.ConvBwdInReferenceIdeal.τ Cert.ConvBwdInReferenceIdeal.sig) → Buf (Elt Ideal) ℓ) (g' : Dev Cert.ConvBwdInReferenceIdeal.nD → PrngReg), Pre_ConvBwdInKernelIdeal m →
    (∀ c : Dev Cert.ConvBwdInKernelIdeal.nD,
      m' ((c.tc : Thread Cert.ConvBwdInReferenceIdeal.nD Cert.ConvBwdInReferenceIdeal.τ).loc Cert.ConvBwdInReferenceIdeal.main_arg0) = m ((c.tc : Thread Cert.ConvBwdInKernelIdeal.nD Cert.ConvBwdInKernelIdeal.τ).loc Cert.ConvBwdInKernelIdeal.main_arg0)
      ∧ m' ((c.tc : Thread Cert.ConvBwdInReferenceIdeal.nD Cert.ConvBwdInReferenceIdeal.τ).loc Cert.ConvBwdInReferenceIdeal.main_arg1) = m ((c.tc : Thread Cert.ConvBwdInKernelIdeal.nD Cert.ConvBwdInKernelIdeal.τ).loc Cert.ConvBwdInKernelIdeal.main_arg1)
      ∧ m' ((c.tc : Thread Cert.ConvBwdInReferenceIdeal.nD Cert.ConvBwdInReferenceIdeal.τ).loc Cert.ConvBwdInReferenceIdeal.main_arg2) = m ((c.tc : Thread Cert.ConvBwdInKernelIdeal.nD Cert.ConvBwdInKernelIdeal.τ).loc Cert.ConvBwdInKernelIdeal.main_arg2)
      ∧ m' ((c.tc : Thread Cert.ConvBwdInReferenceIdeal.nD Cert.ConvBwdInReferenceIdeal.τ).loc Cert.ConvBwdInReferenceIdeal.main_arg3) = m ((c.tc : Thread Cert.ConvBwdInKernelIdeal.nD Cert.ConvBwdInKernelIdeal.τ).loc Cert.ConvBwdInKernelIdeal.main_arg3)
      ∧ m' ((c.tc : Thread Cert.ConvBwdInReferenceIdeal.nD Cert.ConvBwdInReferenceIdeal.τ).loc Cert.ConvBwdInReferenceIdeal.main_arg4) = m ((c.tc : Thread Cert.ConvBwdInKernelIdeal.nD Cert.ConvBwdInKernelIdeal.τ).loc Cert.ConvBwdInKernelIdeal.main_arg4)) →
    ∃ (v0 : (c : Dev Cert.ConvBwdInKernelIdeal.nD) → Buf (Elt Ideal) ((c.tc : Thread Cert.ConvBwdInKernelIdeal.nD Cert.ConvBwdInKernelIdeal.τ).loc Cert.ConvBwdInKernelIdeal.main_v5_0)) (v1 : (c : Dev Cert.ConvBwdInKernelIdeal.nD) → Buf (Elt Ideal) ((c.tc : Thread Cert.ConvBwdInKernelIdeal.nD Cert.ConvBwdInKernelIdeal.τ).loc Cert.ConvBwdInKernelIdeal.main_v5_1)),
      θ_run (Cert.ConvBwdInKernelIdeal.defs (F := Ideal)) (onTc (τ := Cert.ConvBwdInKernelIdeal.τ) (Cert.ConvBwdInKernelIdeal.main (F := Ideal))) ⟨m, fun _ => 0, g⟩ (fun r => ∀ c : Dev Cert.ConvBwdInKernelIdeal.nD,
          r.2.mem ((c.tc : Thread Cert.ConvBwdInKernelIdeal.nD Cert.ConvBwdInKernelIdeal.τ).loc Cert.ConvBwdInKernelIdeal.main_v5_0) = v0 c
          ∧ r.2.mem ((c.tc : Thread Cert.ConvBwdInKernelIdeal.nD Cert.ConvBwdInKernelIdeal.τ).loc Cert.ConvBwdInKernelIdeal.main_v5_1) = v1 c
          ∧ r.2.mem ((c.tc : Thread Cert.ConvBwdInKernelIdeal.nD Cert.ConvBwdInKernelIdeal.τ).loc Cert.ConvBwdInKernelIdeal.main_arg0) = m ((c.tc : Thread Cert.ConvBwdInKernelIdeal.nD Cert.ConvBwdInKernelIdeal.τ).loc Cert.ConvBwdInKernelIdeal.main_arg0)
          ∧ r.2.mem ((c.tc : Thread Cert.ConvBwdInKernelIdeal.nD Cert.ConvBwdInKernelIdeal.τ).loc Cert.ConvBwdInKernelIdeal.main_arg1) = m ((c.tc : Thread Cert.ConvBwdInKernelIdeal.nD Cert.ConvBwdInKernelIdeal.τ).loc Cert.ConvBwdInKernelIdeal.main_arg1)
          ∧ r.2.mem ((c.tc : Thread Cert.ConvBwdInKernelIdeal.nD Cert.ConvBwdInKernelIdeal.τ).loc Cert.ConvBwdInKernelIdeal.main_arg2) = m ((c.tc : Thread Cert.ConvBwdInKernelIdeal.nD Cert.ConvBwdInKernelIdeal.τ).loc Cert.ConvBwdInKernelIdeal.main_arg2)
          ∧ r.2.mem ((c.tc : Thread Cert.ConvBwdInKernelIdeal.nD Cert.ConvBwdInKernelIdeal.τ).loc Cert.ConvBwdInKernelIdeal.main_arg3) = m ((c.tc : Thread Cert.ConvBwdInKernelIdeal.nD Cert.ConvBwdInKernelIdeal.τ).loc Cert.ConvBwdInKernelIdeal.main_arg3)
          ∧ r.2.mem ((c.tc : Thread Cert.ConvBwdInKernelIdeal.nD Cert.ConvBwdInKernelIdeal.τ).loc Cert.ConvBwdInKernelIdeal.main_arg4) = m ((c.tc : Thread Cert.ConvBwdInKernelIdeal.nD Cert.ConvBwdInKernelIdeal.τ).loc Cert.ConvBwdInKernelIdeal.main_arg4))
      ∧ θ_run (Cert.ConvBwdInReferenceIdeal.defs (F := Ideal)) (onTc (τ := Cert.ConvBwdInReferenceIdeal.τ) (Cert.ConvBwdInReferenceIdeal.main (F := Ideal))) ⟨m', fun _ => 0, g'⟩ (fun r => ∀ c : Dev Cert.ConvBwdInReferenceIdeal.nD,
          r.2.mem ((c.tc : Thread Cert.ConvBwdInReferenceIdeal.nD Cert.ConvBwdInReferenceIdeal.τ).loc Cert.ConvBwdInReferenceIdeal.main_v49) = v0 c
          ∧ r.2.mem ((c.tc : Thread Cert.ConvBwdInReferenceIdeal.nD Cert.ConvBwdInReferenceIdeal.τ).loc Cert.ConvBwdInReferenceIdeal.main_v50) = v1 c
          ∧ r.2.mem ((c.tc : Thread Cert.ConvBwdInReferenceIdeal.nD Cert.ConvBwdInReferenceIdeal.τ).loc Cert.ConvBwdInReferenceIdeal.main_arg0) = m' ((c.tc : Thread Cert.ConvBwdInReferenceIdeal.nD Cert.ConvBwdInReferenceIdeal.τ).loc Cert.ConvBwdInReferenceIdeal.main_arg0)
          ∧ r.2.mem ((c.tc : Thread Cert.ConvBwdInReferenceIdeal.nD Cert.ConvBwdInReferenceIdeal.τ).loc Cert.ConvBwdInReferenceIdeal.main_arg1) = m' ((c.tc : Thread Cert.ConvBwdInReferenceIdeal.nD Cert.ConvBwdInReferenceIdeal.τ).loc Cert.ConvBwdInReferenceIdeal.main_arg1)
          ∧ r.2.mem ((c.tc : Thread Cert.ConvBwdInReferenceIdeal.nD Cert.ConvBwdInReferenceIdeal.τ).loc Cert.ConvBwdInReferenceIdeal.main_arg2) = m' ((c.tc : Thread Cert.ConvBwdInReferenceIdeal.nD Cert.ConvBwdInReferenceIdeal.τ).loc Cert.ConvBwdInReferenceIdeal.main_arg2)
          ∧ r.2.mem ((c.tc : Thread Cert.ConvBwdInReferenceIdeal.nD Cert.ConvBwdInReferenceIdeal.τ).loc Cert.ConvBwdInReferenceIdeal.main_arg3) = m' ((c.tc : Thread Cert.ConvBwdInReferenceIdeal.nD Cert.ConvBwdInReferenceIdeal.τ).loc Cert.ConvBwdInReferenceIdeal.main_arg3)
          ∧ r.2.mem ((c.tc : Thread Cert.ConvBwdInReferenceIdeal.nD Cert.ConvBwdInReferenceIdeal.τ).loc Cert.ConvBwdInReferenceIdeal.main_arg4) = m' ((c.tc : Thread Cert.ConvBwdInReferenceIdeal.nD Cert.ConvBwdInReferenceIdeal.τ).loc Cert.ConvBwdInReferenceIdeal.main_arg4))

def preserves_QgBwdInKernel_QgBwdInKernelIdeal : Prop :=
  True

def algebraic_QgBwdInKernelIdeal_QgBwdInReferenceIdeal [hQgBwdInKernelIdeal : Cert.QgBwdInKernelIdeal.Facts] [hQgBwdInReferenceIdeal : Cert.QgBwdInReferenceIdeal.Facts] : Prop :=
  ∀ (m : (ℓ : Loc Cert.QgBwdInKernelIdeal.nD Cert.QgBwdInKernelIdeal.τ Cert.QgBwdInKernelIdeal.sig) → Buf (Elt Ideal) ℓ) (g : Dev Cert.QgBwdInKernelIdeal.nD → PrngReg)
    (m' : (ℓ : Loc Cert.QgBwdInReferenceIdeal.nD Cert.QgBwdInReferenceIdeal.τ Cert.QgBwdInReferenceIdeal.sig) → Buf (Elt Ideal) ℓ) (g' : Dev Cert.QgBwdInReferenceIdeal.nD → PrngReg), Pre_QgBwdInKernelIdeal m →
    (∀ c : Dev Cert.QgBwdInKernelIdeal.nD,
      m' ((c.tc : Thread Cert.QgBwdInReferenceIdeal.nD Cert.QgBwdInReferenceIdeal.τ).loc Cert.QgBwdInReferenceIdeal.main_arg0) = m ((c.tc : Thread Cert.QgBwdInKernelIdeal.nD Cert.QgBwdInKernelIdeal.τ).loc Cert.QgBwdInKernelIdeal.main_arg0)
      ∧ m' ((c.tc : Thread Cert.QgBwdInReferenceIdeal.nD Cert.QgBwdInReferenceIdeal.τ).loc Cert.QgBwdInReferenceIdeal.main_arg1) = m ((c.tc : Thread Cert.QgBwdInKernelIdeal.nD Cert.QgBwdInKernelIdeal.τ).loc Cert.QgBwdInKernelIdeal.main_arg1)
      ∧ m' ((c.tc : Thread Cert.QgBwdInReferenceIdeal.nD Cert.QgBwdInReferenceIdeal.τ).loc Cert.QgBwdInReferenceIdeal.main_arg2) = m ((c.tc : Thread Cert.QgBwdInKernelIdeal.nD Cert.QgBwdInKernelIdeal.τ).loc Cert.QgBwdInKernelIdeal.main_arg2)
      ∧ m' ((c.tc : Thread Cert.QgBwdInReferenceIdeal.nD Cert.QgBwdInReferenceIdeal.τ).loc Cert.QgBwdInReferenceIdeal.main_arg3) = m ((c.tc : Thread Cert.QgBwdInKernelIdeal.nD Cert.QgBwdInKernelIdeal.τ).loc Cert.QgBwdInKernelIdeal.main_arg3)
      ∧ m' ((c.tc : Thread Cert.QgBwdInReferenceIdeal.nD Cert.QgBwdInReferenceIdeal.τ).loc Cert.QgBwdInReferenceIdeal.main_arg4) = m ((c.tc : Thread Cert.QgBwdInKernelIdeal.nD Cert.QgBwdInKernelIdeal.τ).loc Cert.QgBwdInKernelIdeal.main_arg4)
      ∧ m' ((c.tc : Thread Cert.QgBwdInReferenceIdeal.nD Cert.QgBwdInReferenceIdeal.τ).loc Cert.QgBwdInReferenceIdeal.main_arg5) = m ((c.tc : Thread Cert.QgBwdInKernelIdeal.nD Cert.QgBwdInKernelIdeal.τ).loc Cert.QgBwdInKernelIdeal.main_arg5)) →
    ∃ (v0 : (c : Dev Cert.QgBwdInKernelIdeal.nD) → Buf (Elt Ideal) ((c.tc : Thread Cert.QgBwdInKernelIdeal.nD Cert.QgBwdInKernelIdeal.τ).loc Cert.QgBwdInKernelIdeal.main_v5_0)) (v1 : (c : Dev Cert.QgBwdInKernelIdeal.nD) → Buf (Elt Ideal) ((c.tc : Thread Cert.QgBwdInKernelIdeal.nD Cert.QgBwdInKernelIdeal.τ).loc Cert.QgBwdInKernelIdeal.main_v5_1)),
      θ_run (Cert.QgBwdInKernelIdeal.defs (F := Ideal)) (onTc (τ := Cert.QgBwdInKernelIdeal.τ) (Cert.QgBwdInKernelIdeal.main (F := Ideal))) ⟨m, fun _ => 0, g⟩ (fun r => ∀ c : Dev Cert.QgBwdInKernelIdeal.nD,
          r.2.mem ((c.tc : Thread Cert.QgBwdInKernelIdeal.nD Cert.QgBwdInKernelIdeal.τ).loc Cert.QgBwdInKernelIdeal.main_v5_0) = v0 c
          ∧ r.2.mem ((c.tc : Thread Cert.QgBwdInKernelIdeal.nD Cert.QgBwdInKernelIdeal.τ).loc Cert.QgBwdInKernelIdeal.main_v5_1) = v1 c
          ∧ r.2.mem ((c.tc : Thread Cert.QgBwdInKernelIdeal.nD Cert.QgBwdInKernelIdeal.τ).loc Cert.QgBwdInKernelIdeal.main_arg0) = m ((c.tc : Thread Cert.QgBwdInKernelIdeal.nD Cert.QgBwdInKernelIdeal.τ).loc Cert.QgBwdInKernelIdeal.main_arg0)
          ∧ r.2.mem ((c.tc : Thread Cert.QgBwdInKernelIdeal.nD Cert.QgBwdInKernelIdeal.τ).loc Cert.QgBwdInKernelIdeal.main_arg1) = m ((c.tc : Thread Cert.QgBwdInKernelIdeal.nD Cert.QgBwdInKernelIdeal.τ).loc Cert.QgBwdInKernelIdeal.main_arg1)
          ∧ r.2.mem ((c.tc : Thread Cert.QgBwdInKernelIdeal.nD Cert.QgBwdInKernelIdeal.τ).loc Cert.QgBwdInKernelIdeal.main_arg2) = m ((c.tc : Thread Cert.QgBwdInKernelIdeal.nD Cert.QgBwdInKernelIdeal.τ).loc Cert.QgBwdInKernelIdeal.main_arg2)
          ∧ r.2.mem ((c.tc : Thread Cert.QgBwdInKernelIdeal.nD Cert.QgBwdInKernelIdeal.τ).loc Cert.QgBwdInKernelIdeal.main_arg3) = m ((c.tc : Thread Cert.QgBwdInKernelIdeal.nD Cert.QgBwdInKernelIdeal.τ).loc Cert.QgBwdInKernelIdeal.main_arg3)
          ∧ r.2.mem ((c.tc : Thread Cert.QgBwdInKernelIdeal.nD Cert.QgBwdInKernelIdeal.τ).loc Cert.QgBwdInKernelIdeal.main_arg4) = m ((c.tc : Thread Cert.QgBwdInKernelIdeal.nD Cert.QgBwdInKernelIdeal.τ).loc Cert.QgBwdInKernelIdeal.main_arg4)
          ∧ r.2.mem ((c.tc : Thread Cert.QgBwdInKernelIdeal.nD Cert.QgBwdInKernelIdeal.τ).loc Cert.QgBwdInKernelIdeal.main_arg5) = m ((c.tc : Thread Cert.QgBwdInKernelIdeal.nD Cert.QgBwdInKernelIdeal.τ).loc Cert.QgBwdInKernelIdeal.main_arg5))
      ∧ θ_run (Cert.QgBwdInReferenceIdeal.defs (F := Ideal)) (onTc (τ := Cert.QgBwdInReferenceIdeal.τ) (Cert.QgBwdInReferenceIdeal.main (F := Ideal))) ⟨m', fun _ => 0, g'⟩ (fun r => ∀ c : Dev Cert.QgBwdInReferenceIdeal.nD,
          r.2.mem ((c.tc : Thread Cert.QgBwdInReferenceIdeal.nD Cert.QgBwdInReferenceIdeal.τ).loc Cert.QgBwdInReferenceIdeal.main_v45) = v0 c
          ∧ r.2.mem ((c.tc : Thread Cert.QgBwdInReferenceIdeal.nD Cert.QgBwdInReferenceIdeal.τ).loc Cert.QgBwdInReferenceIdeal.main_v46) = v1 c
          ∧ r.2.mem ((c.tc : Thread Cert.QgBwdInReferenceIdeal.nD Cert.QgBwdInReferenceIdeal.τ).loc Cert.QgBwdInReferenceIdeal.main_arg0) = m' ((c.tc : Thread Cert.QgBwdInReferenceIdeal.nD Cert.QgBwdInReferenceIdeal.τ).loc Cert.QgBwdInReferenceIdeal.main_arg0)
          ∧ r.2.mem ((c.tc : Thread Cert.QgBwdInReferenceIdeal.nD Cert.QgBwdInReferenceIdeal.τ).loc Cert.QgBwdInReferenceIdeal.main_arg1) = m' ((c.tc : Thread Cert.QgBwdInReferenceIdeal.nD Cert.QgBwdInReferenceIdeal.τ).loc Cert.QgBwdInReferenceIdeal.main_arg1)
          ∧ r.2.mem ((c.tc : Thread Cert.QgBwdInReferenceIdeal.nD Cert.QgBwdInReferenceIdeal.τ).loc Cert.QgBwdInReferenceIdeal.main_arg2) = m' ((c.tc : Thread Cert.QgBwdInReferenceIdeal.nD Cert.QgBwdInReferenceIdeal.τ).loc Cert.QgBwdInReferenceIdeal.main_arg2)
          ∧ r.2.mem ((c.tc : Thread Cert.QgBwdInReferenceIdeal.nD Cert.QgBwdInReferenceIdeal.τ).loc Cert.QgBwdInReferenceIdeal.main_arg3) = m' ((c.tc : Thread Cert.QgBwdInReferenceIdeal.nD Cert.QgBwdInReferenceIdeal.τ).loc Cert.QgBwdInReferenceIdeal.main_arg3)
          ∧ r.2.mem ((c.tc : Thread Cert.QgBwdInReferenceIdeal.nD Cert.QgBwdInReferenceIdeal.τ).loc Cert.QgBwdInReferenceIdeal.main_arg4) = m' ((c.tc : Thread Cert.QgBwdInReferenceIdeal.nD Cert.QgBwdInReferenceIdeal.τ).loc Cert.QgBwdInReferenceIdeal.main_arg4)
          ∧ r.2.mem ((c.tc : Thread Cert.QgBwdInReferenceIdeal.nD Cert.QgBwdInReferenceIdeal.τ).loc Cert.QgBwdInReferenceIdeal.main_arg5) = m' ((c.tc : Thread Cert.QgBwdInReferenceIdeal.nD Cert.QgBwdInReferenceIdeal.τ).loc Cert.QgBwdInReferenceIdeal.main_arg5))

def preserves_KvBwdInKernel_KvBwdInKernelIdeal : Prop :=
  True

def algebraic_KvBwdInKernelIdeal_KvBwdInReferenceIdeal [hKvBwdInKernelIdeal : Cert.KvBwdInKernelIdeal.Facts] [hKvBwdInReferenceIdeal : Cert.KvBwdInReferenceIdeal.Facts] : Prop :=
  ∀ (m : (ℓ : Loc Cert.KvBwdInKernelIdeal.nD Cert.KvBwdInKernelIdeal.τ Cert.KvBwdInKernelIdeal.sig) → Buf (Elt Ideal) ℓ) (g : Dev Cert.KvBwdInKernelIdeal.nD → PrngReg)
    (m' : (ℓ : Loc Cert.KvBwdInReferenceIdeal.nD Cert.KvBwdInReferenceIdeal.τ Cert.KvBwdInReferenceIdeal.sig) → Buf (Elt Ideal) ℓ) (g' : Dev Cert.KvBwdInReferenceIdeal.nD → PrngReg), Pre_KvBwdInKernelIdeal m →
    (∀ c : Dev Cert.KvBwdInKernelIdeal.nD,
      m' ((c.tc : Thread Cert.KvBwdInReferenceIdeal.nD Cert.KvBwdInReferenceIdeal.τ).loc Cert.KvBwdInReferenceIdeal.main_arg0) = m ((c.tc : Thread Cert.KvBwdInKernelIdeal.nD Cert.KvBwdInKernelIdeal.τ).loc Cert.KvBwdInKernelIdeal.main_arg0)
      ∧ m' ((c.tc : Thread Cert.KvBwdInReferenceIdeal.nD Cert.KvBwdInReferenceIdeal.τ).loc Cert.KvBwdInReferenceIdeal.main_arg1) = m ((c.tc : Thread Cert.KvBwdInKernelIdeal.nD Cert.KvBwdInKernelIdeal.τ).loc Cert.KvBwdInKernelIdeal.main_arg1)
      ∧ m' ((c.tc : Thread Cert.KvBwdInReferenceIdeal.nD Cert.KvBwdInReferenceIdeal.τ).loc Cert.KvBwdInReferenceIdeal.main_arg2) = m ((c.tc : Thread Cert.KvBwdInKernelIdeal.nD Cert.KvBwdInKernelIdeal.τ).loc Cert.KvBwdInKernelIdeal.main_arg2)
      ∧ m' ((c.tc : Thread Cert.KvBwdInReferenceIdeal.nD Cert.KvBwdInReferenceIdeal.τ).loc Cert.KvBwdInReferenceIdeal.main_arg3) = m ((c.tc : Thread Cert.KvBwdInKernelIdeal.nD Cert.KvBwdInKernelIdeal.τ).loc Cert.KvBwdInKernelIdeal.main_arg3)
      ∧ m' ((c.tc : Thread Cert.KvBwdInReferenceIdeal.nD Cert.KvBwdInReferenceIdeal.τ).loc Cert.KvBwdInReferenceIdeal.main_arg4) = m ((c.tc : Thread Cert.KvBwdInKernelIdeal.nD Cert.KvBwdInKernelIdeal.τ).loc Cert.KvBwdInKernelIdeal.main_arg4)
      ∧ m' ((c.tc : Thread Cert.KvBwdInReferenceIdeal.nD Cert.KvBwdInReferenceIdeal.τ).loc Cert.KvBwdInReferenceIdeal.main_arg5) = m ((c.tc : Thread Cert.KvBwdInKernelIdeal.nD Cert.KvBwdInKernelIdeal.τ).loc Cert.KvBwdInKernelIdeal.main_arg5)
      ∧ m' ((c.tc : Thread Cert.KvBwdInReferenceIdeal.nD Cert.KvBwdInReferenceIdeal.τ).loc Cert.KvBwdInReferenceIdeal.main_arg6) = m ((c.tc : Thread Cert.KvBwdInKernelIdeal.nD Cert.KvBwdInKernelIdeal.τ).loc Cert.KvBwdInKernelIdeal.main_arg6)) →
    ∃ (v0 : (c : Dev Cert.KvBwdInKernelIdeal.nD) → Buf (Elt Ideal) ((c.tc : Thread Cert.KvBwdInKernelIdeal.nD Cert.KvBwdInKernelIdeal.τ).loc Cert.KvBwdInKernelIdeal.main_v10_0)) (v1 : (c : Dev Cert.KvBwdInKernelIdeal.nD) → Buf (Elt Ideal) ((c.tc : Thread Cert.KvBwdInKernelIdeal.nD Cert.KvBwdInKernelIdeal.τ).loc Cert.KvBwdInKernelIdeal.main_v10_1)),
      θ_run (Cert.KvBwdInKernelIdeal.defs (F := Ideal)) (onTc (τ := Cert.KvBwdInKernelIdeal.τ) (Cert.KvBwdInKernelIdeal.main (F := Ideal))) ⟨m, fun _ => 0, g⟩ (fun r => ∀ c : Dev Cert.KvBwdInKernelIdeal.nD,
          r.2.mem ((c.tc : Thread Cert.KvBwdInKernelIdeal.nD Cert.KvBwdInKernelIdeal.τ).loc Cert.KvBwdInKernelIdeal.main_v10_0) = v0 c
          ∧ r.2.mem ((c.tc : Thread Cert.KvBwdInKernelIdeal.nD Cert.KvBwdInKernelIdeal.τ).loc Cert.KvBwdInKernelIdeal.main_v10_1) = v1 c
          ∧ r.2.mem ((c.tc : Thread Cert.KvBwdInKernelIdeal.nD Cert.KvBwdInKernelIdeal.τ).loc Cert.KvBwdInKernelIdeal.main_arg0) = m ((c.tc : Thread Cert.KvBwdInKernelIdeal.nD Cert.KvBwdInKernelIdeal.τ).loc Cert.KvBwdInKernelIdeal.main_arg0)
          ∧ r.2.mem ((c.tc : Thread Cert.KvBwdInKernelIdeal.nD Cert.KvBwdInKernelIdeal.τ).loc Cert.KvBwdInKernelIdeal.main_arg1) = m ((c.tc : Thread Cert.KvBwdInKernelIdeal.nD Cert.KvBwdInKernelIdeal.τ).loc Cert.KvBwdInKernelIdeal.main_arg1)
          ∧ r.2.mem ((c.tc : Thread Cert.KvBwdInKernelIdeal.nD Cert.KvBwdInKernelIdeal.τ).loc Cert.KvBwdInKernelIdeal.main_arg2) = m ((c.tc : Thread Cert.KvBwdInKernelIdeal.nD Cert.KvBwdInKernelIdeal.τ).loc Cert.KvBwdInKernelIdeal.main_arg2)
          ∧ r.2.mem ((c.tc : Thread Cert.KvBwdInKernelIdeal.nD Cert.KvBwdInKernelIdeal.τ).loc Cert.KvBwdInKernelIdeal.main_arg3) = m ((c.tc : Thread Cert.KvBwdInKernelIdeal.nD Cert.KvBwdInKernelIdeal.τ).loc Cert.KvBwdInKernelIdeal.main_arg3)
          ∧ r.2.mem ((c.tc : Thread Cert.KvBwdInKernelIdeal.nD Cert.KvBwdInKernelIdeal.τ).loc Cert.KvBwdInKernelIdeal.main_arg4) = m ((c.tc : Thread Cert.KvBwdInKernelIdeal.nD Cert.KvBwdInKernelIdeal.τ).loc Cert.KvBwdInKernelIdeal.main_arg4)
          ∧ r.2.mem ((c.tc : Thread Cert.KvBwdInKernelIdeal.nD Cert.KvBwdInKernelIdeal.τ).loc Cert.KvBwdInKernelIdeal.main_arg5) = m ((c.tc : Thread Cert.KvBwdInKernelIdeal.nD Cert.KvBwdInKernelIdeal.τ).loc Cert.KvBwdInKernelIdeal.main_arg5)
          ∧ r.2.mem ((c.tc : Thread Cert.KvBwdInKernelIdeal.nD Cert.KvBwdInKernelIdeal.τ).loc Cert.KvBwdInKernelIdeal.main_arg6) = m ((c.tc : Thread Cert.KvBwdInKernelIdeal.nD Cert.KvBwdInKernelIdeal.τ).loc Cert.KvBwdInKernelIdeal.main_arg6))
      ∧ θ_run (Cert.KvBwdInReferenceIdeal.defs (F := Ideal)) (onTc (τ := Cert.KvBwdInReferenceIdeal.τ) (Cert.KvBwdInReferenceIdeal.main (F := Ideal))) ⟨m', fun _ => 0, g'⟩ (fun r => ∀ c : Dev Cert.KvBwdInReferenceIdeal.nD,
          r.2.mem ((c.tc : Thread Cert.KvBwdInReferenceIdeal.nD Cert.KvBwdInReferenceIdeal.τ).loc Cert.KvBwdInReferenceIdeal.main_v52) = v0 c
          ∧ r.2.mem ((c.tc : Thread Cert.KvBwdInReferenceIdeal.nD Cert.KvBwdInReferenceIdeal.τ).loc Cert.KvBwdInReferenceIdeal.main_v53) = v1 c
          ∧ r.2.mem ((c.tc : Thread Cert.KvBwdInReferenceIdeal.nD Cert.KvBwdInReferenceIdeal.τ).loc Cert.KvBwdInReferenceIdeal.main_arg0) = m' ((c.tc : Thread Cert.KvBwdInReferenceIdeal.nD Cert.KvBwdInReferenceIdeal.τ).loc Cert.KvBwdInReferenceIdeal.main_arg0)
          ∧ r.2.mem ((c.tc : Thread Cert.KvBwdInReferenceIdeal.nD Cert.KvBwdInReferenceIdeal.τ).loc Cert.KvBwdInReferenceIdeal.main_arg1) = m' ((c.tc : Thread Cert.KvBwdInReferenceIdeal.nD Cert.KvBwdInReferenceIdeal.τ).loc Cert.KvBwdInReferenceIdeal.main_arg1)
          ∧ r.2.mem ((c.tc : Thread Cert.KvBwdInReferenceIdeal.nD Cert.KvBwdInReferenceIdeal.τ).loc Cert.KvBwdInReferenceIdeal.main_arg2) = m' ((c.tc : Thread Cert.KvBwdInReferenceIdeal.nD Cert.KvBwdInReferenceIdeal.τ).loc Cert.KvBwdInReferenceIdeal.main_arg2)
          ∧ r.2.mem ((c.tc : Thread Cert.KvBwdInReferenceIdeal.nD Cert.KvBwdInReferenceIdeal.τ).loc Cert.KvBwdInReferenceIdeal.main_arg3) = m' ((c.tc : Thread Cert.KvBwdInReferenceIdeal.nD Cert.KvBwdInReferenceIdeal.τ).loc Cert.KvBwdInReferenceIdeal.main_arg3)
          ∧ r.2.mem ((c.tc : Thread Cert.KvBwdInReferenceIdeal.nD Cert.KvBwdInReferenceIdeal.τ).loc Cert.KvBwdInReferenceIdeal.main_arg4) = m' ((c.tc : Thread Cert.KvBwdInReferenceIdeal.nD Cert.KvBwdInReferenceIdeal.τ).loc Cert.KvBwdInReferenceIdeal.main_arg4)
          ∧ r.2.mem ((c.tc : Thread Cert.KvBwdInReferenceIdeal.nD Cert.KvBwdInReferenceIdeal.τ).loc Cert.KvBwdInReferenceIdeal.main_arg5) = m' ((c.tc : Thread Cert.KvBwdInReferenceIdeal.nD Cert.KvBwdInReferenceIdeal.τ).loc Cert.KvBwdInReferenceIdeal.main_arg5)
          ∧ r.2.mem ((c.tc : Thread Cert.KvBwdInReferenceIdeal.nD Cert.KvBwdInReferenceIdeal.τ).loc Cert.KvBwdInReferenceIdeal.main_arg6) = m' ((c.tc : Thread Cert.KvBwdInReferenceIdeal.nD Cert.KvBwdInReferenceIdeal.τ).loc Cert.KvBwdInReferenceIdeal.main_arg6))

def preserves_ConvDwKernel_ConvDwKernelIdeal : Prop :=
  True

def algebraic_ConvDwKernelIdeal_ConvDwReferenceIdeal [hConvDwKernelIdeal : Cert.ConvDwKernelIdeal.Facts] [hConvDwReferenceIdeal : Cert.ConvDwReferenceIdeal.Facts] : Prop :=
  ∀ (m : (ℓ : Loc Cert.ConvDwKernelIdeal.nD Cert.ConvDwKernelIdeal.τ Cert.ConvDwKernelIdeal.sig) → Buf (Elt Ideal) ℓ) (g : Dev Cert.ConvDwKernelIdeal.nD → PrngReg)
    (m' : (ℓ : Loc Cert.ConvDwReferenceIdeal.nD Cert.ConvDwReferenceIdeal.τ Cert.ConvDwReferenceIdeal.sig) → Buf (Elt Ideal) ℓ) (g' : Dev Cert.ConvDwReferenceIdeal.nD → PrngReg), Pre_ConvDwKernelIdeal m →
    (∀ c : Dev Cert.ConvDwKernelIdeal.nD,
      m' ((c.tc : Thread Cert.ConvDwReferenceIdeal.nD Cert.ConvDwReferenceIdeal.τ).loc Cert.ConvDwReferenceIdeal.main_arg0) = m ((c.tc : Thread Cert.ConvDwKernelIdeal.nD Cert.ConvDwKernelIdeal.τ).loc Cert.ConvDwKernelIdeal.main_arg0)
      ∧ m' ((c.tc : Thread Cert.ConvDwReferenceIdeal.nD Cert.ConvDwReferenceIdeal.τ).loc Cert.ConvDwReferenceIdeal.main_arg1) = m ((c.tc : Thread Cert.ConvDwKernelIdeal.nD Cert.ConvDwKernelIdeal.τ).loc Cert.ConvDwKernelIdeal.main_arg1)
      ∧ m' ((c.tc : Thread Cert.ConvDwReferenceIdeal.nD Cert.ConvDwReferenceIdeal.τ).loc Cert.ConvDwReferenceIdeal.main_arg2) = m ((c.tc : Thread Cert.ConvDwKernelIdeal.nD Cert.ConvDwKernelIdeal.τ).loc Cert.ConvDwKernelIdeal.main_arg2)) →
    ∃ (v0 : (c : Dev Cert.ConvDwKernelIdeal.nD) → Buf (Elt Ideal) ((c.tc : Thread Cert.ConvDwKernelIdeal.nD Cert.ConvDwKernelIdeal.τ).loc Cert.ConvDwKernelIdeal.main_v15)),
      θ_run (Cert.ConvDwKernelIdeal.defs (F := Ideal)) (onTc (τ := Cert.ConvDwKernelIdeal.τ) (Cert.ConvDwKernelIdeal.main (F := Ideal))) ⟨m, fun _ => 0, g⟩ (fun r => ∀ c : Dev Cert.ConvDwKernelIdeal.nD,
          r.2.mem ((c.tc : Thread Cert.ConvDwKernelIdeal.nD Cert.ConvDwKernelIdeal.τ).loc Cert.ConvDwKernelIdeal.main_v15) = v0 c
          ∧ r.2.mem ((c.tc : Thread Cert.ConvDwKernelIdeal.nD Cert.ConvDwKernelIdeal.τ).loc Cert.ConvDwKernelIdeal.main_arg0) = m ((c.tc : Thread Cert.ConvDwKernelIdeal.nD Cert.ConvDwKernelIdeal.τ).loc Cert.ConvDwKernelIdeal.main_arg0)
          ∧ r.2.mem ((c.tc : Thread Cert.ConvDwKernelIdeal.nD Cert.ConvDwKernelIdeal.τ).loc Cert.ConvDwKernelIdeal.main_arg1) = m ((c.tc : Thread Cert.ConvDwKernelIdeal.nD Cert.ConvDwKernelIdeal.τ).loc Cert.ConvDwKernelIdeal.main_arg1)
          ∧ r.2.mem ((c.tc : Thread Cert.ConvDwKernelIdeal.nD Cert.ConvDwKernelIdeal.τ).loc Cert.ConvDwKernelIdeal.main_arg2) = m ((c.tc : Thread Cert.ConvDwKernelIdeal.nD Cert.ConvDwKernelIdeal.τ).loc Cert.ConvDwKernelIdeal.main_arg2))
      ∧ θ_run (Cert.ConvDwReferenceIdeal.defs (F := Ideal)) (onTc (τ := Cert.ConvDwReferenceIdeal.τ) (Cert.ConvDwReferenceIdeal.main (F := Ideal))) ⟨m', fun _ => 0, g'⟩ (fun r => ∀ c : Dev Cert.ConvDwReferenceIdeal.nD,
          r.2.mem ((c.tc : Thread Cert.ConvDwReferenceIdeal.nD Cert.ConvDwReferenceIdeal.τ).loc Cert.ConvDwReferenceIdeal.main_v33) = v0 c
          ∧ r.2.mem ((c.tc : Thread Cert.ConvDwReferenceIdeal.nD Cert.ConvDwReferenceIdeal.τ).loc Cert.ConvDwReferenceIdeal.main_arg0) = m' ((c.tc : Thread Cert.ConvDwReferenceIdeal.nD Cert.ConvDwReferenceIdeal.τ).loc Cert.ConvDwReferenceIdeal.main_arg0)
          ∧ r.2.mem ((c.tc : Thread Cert.ConvDwReferenceIdeal.nD Cert.ConvDwReferenceIdeal.τ).loc Cert.ConvDwReferenceIdeal.main_arg1) = m' ((c.tc : Thread Cert.ConvDwReferenceIdeal.nD Cert.ConvDwReferenceIdeal.τ).loc Cert.ConvDwReferenceIdeal.main_arg1)
          ∧ r.2.mem ((c.tc : Thread Cert.ConvDwReferenceIdeal.nD Cert.ConvDwReferenceIdeal.τ).loc Cert.ConvDwReferenceIdeal.main_arg2) = m' ((c.tc : Thread Cert.ConvDwReferenceIdeal.nD Cert.ConvDwReferenceIdeal.τ).loc Cert.ConvDwReferenceIdeal.main_arg2))

def preserves_QgDwKernel_QgDwKernelIdeal : Prop :=
  True

def algebraic_QgDwKernelIdeal_QgDwReferenceIdeal [hQgDwKernelIdeal : Cert.QgDwKernelIdeal.Facts] [hQgDwReferenceIdeal : Cert.QgDwReferenceIdeal.Facts] : Prop :=
  ∀ (m : (ℓ : Loc Cert.QgDwKernelIdeal.nD Cert.QgDwKernelIdeal.τ Cert.QgDwKernelIdeal.sig) → Buf (Elt Ideal) ℓ) (g : Dev Cert.QgDwKernelIdeal.nD → PrngReg)
    (m' : (ℓ : Loc Cert.QgDwReferenceIdeal.nD Cert.QgDwReferenceIdeal.τ Cert.QgDwReferenceIdeal.sig) → Buf (Elt Ideal) ℓ) (g' : Dev Cert.QgDwReferenceIdeal.nD → PrngReg), Pre_QgDwKernelIdeal m →
    (∀ c : Dev Cert.QgDwKernelIdeal.nD,
      m' ((c.tc : Thread Cert.QgDwReferenceIdeal.nD Cert.QgDwReferenceIdeal.τ).loc Cert.QgDwReferenceIdeal.main_arg0) = m ((c.tc : Thread Cert.QgDwKernelIdeal.nD Cert.QgDwKernelIdeal.τ).loc Cert.QgDwKernelIdeal.main_arg0)
      ∧ m' ((c.tc : Thread Cert.QgDwReferenceIdeal.nD Cert.QgDwReferenceIdeal.τ).loc Cert.QgDwReferenceIdeal.main_arg1) = m ((c.tc : Thread Cert.QgDwKernelIdeal.nD Cert.QgDwKernelIdeal.τ).loc Cert.QgDwKernelIdeal.main_arg1)
      ∧ m' ((c.tc : Thread Cert.QgDwReferenceIdeal.nD Cert.QgDwReferenceIdeal.τ).loc Cert.QgDwReferenceIdeal.main_arg2) = m ((c.tc : Thread Cert.QgDwKernelIdeal.nD Cert.QgDwKernelIdeal.τ).loc Cert.QgDwKernelIdeal.main_arg2)
      ∧ m' ((c.tc : Thread Cert.QgDwReferenceIdeal.nD Cert.QgDwReferenceIdeal.τ).loc Cert.QgDwReferenceIdeal.main_arg3) = m ((c.tc : Thread Cert.QgDwKernelIdeal.nD Cert.QgDwKernelIdeal.τ).loc Cert.QgDwKernelIdeal.main_arg3)) →
    ∃ (v0 : (c : Dev Cert.QgDwKernelIdeal.nD) → Buf (Elt Ideal) ((c.tc : Thread Cert.QgDwKernelIdeal.nD Cert.QgDwKernelIdeal.τ).loc Cert.QgDwKernelIdeal.main_v15)),
      θ_run (Cert.QgDwKernelIdeal.defs (F := Ideal)) (onTc (τ := Cert.QgDwKernelIdeal.τ) (Cert.QgDwKernelIdeal.main (F := Ideal))) ⟨m, fun _ => 0, g⟩ (fun r => ∀ c : Dev Cert.QgDwKernelIdeal.nD,
          r.2.mem ((c.tc : Thread Cert.QgDwKernelIdeal.nD Cert.QgDwKernelIdeal.τ).loc Cert.QgDwKernelIdeal.main_v15) = v0 c
          ∧ r.2.mem ((c.tc : Thread Cert.QgDwKernelIdeal.nD Cert.QgDwKernelIdeal.τ).loc Cert.QgDwKernelIdeal.main_arg0) = m ((c.tc : Thread Cert.QgDwKernelIdeal.nD Cert.QgDwKernelIdeal.τ).loc Cert.QgDwKernelIdeal.main_arg0)
          ∧ r.2.mem ((c.tc : Thread Cert.QgDwKernelIdeal.nD Cert.QgDwKernelIdeal.τ).loc Cert.QgDwKernelIdeal.main_arg1) = m ((c.tc : Thread Cert.QgDwKernelIdeal.nD Cert.QgDwKernelIdeal.τ).loc Cert.QgDwKernelIdeal.main_arg1)
          ∧ r.2.mem ((c.tc : Thread Cert.QgDwKernelIdeal.nD Cert.QgDwKernelIdeal.τ).loc Cert.QgDwKernelIdeal.main_arg2) = m ((c.tc : Thread Cert.QgDwKernelIdeal.nD Cert.QgDwKernelIdeal.τ).loc Cert.QgDwKernelIdeal.main_arg2)
          ∧ r.2.mem ((c.tc : Thread Cert.QgDwKernelIdeal.nD Cert.QgDwKernelIdeal.τ).loc Cert.QgDwKernelIdeal.main_arg3) = m ((c.tc : Thread Cert.QgDwKernelIdeal.nD Cert.QgDwKernelIdeal.τ).loc Cert.QgDwKernelIdeal.main_arg3))
      ∧ θ_run (Cert.QgDwReferenceIdeal.defs (F := Ideal)) (onTc (τ := Cert.QgDwReferenceIdeal.τ) (Cert.QgDwReferenceIdeal.main (F := Ideal))) ⟨m', fun _ => 0, g'⟩ (fun r => ∀ c : Dev Cert.QgDwReferenceIdeal.nD,
          r.2.mem ((c.tc : Thread Cert.QgDwReferenceIdeal.nD Cert.QgDwReferenceIdeal.τ).loc Cert.QgDwReferenceIdeal.main_v28) = v0 c
          ∧ r.2.mem ((c.tc : Thread Cert.QgDwReferenceIdeal.nD Cert.QgDwReferenceIdeal.τ).loc Cert.QgDwReferenceIdeal.main_arg0) = m' ((c.tc : Thread Cert.QgDwReferenceIdeal.nD Cert.QgDwReferenceIdeal.τ).loc Cert.QgDwReferenceIdeal.main_arg0)
          ∧ r.2.mem ((c.tc : Thread Cert.QgDwReferenceIdeal.nD Cert.QgDwReferenceIdeal.τ).loc Cert.QgDwReferenceIdeal.main_arg1) = m' ((c.tc : Thread Cert.QgDwReferenceIdeal.nD Cert.QgDwReferenceIdeal.τ).loc Cert.QgDwReferenceIdeal.main_arg1)
          ∧ r.2.mem ((c.tc : Thread Cert.QgDwReferenceIdeal.nD Cert.QgDwReferenceIdeal.τ).loc Cert.QgDwReferenceIdeal.main_arg2) = m' ((c.tc : Thread Cert.QgDwReferenceIdeal.nD Cert.QgDwReferenceIdeal.τ).loc Cert.QgDwReferenceIdeal.main_arg2)
          ∧ r.2.mem ((c.tc : Thread Cert.QgDwReferenceIdeal.nD Cert.QgDwReferenceIdeal.τ).loc Cert.QgDwReferenceIdeal.main_arg3) = m' ((c.tc : Thread Cert.QgDwReferenceIdeal.nD Cert.QgDwReferenceIdeal.τ).loc Cert.QgDwReferenceIdeal.main_arg3))

def preserves_MixBwdKernel_MixBwdKernelIdeal : Prop :=
  True

def algebraic_MixBwdKernelIdeal_MixBwdReferenceIdeal [hMixBwdKernelIdeal : Cert.MixBwdKernelIdeal.Facts] [hMixBwdReferenceIdeal : Cert.MixBwdReferenceIdeal.Facts] : Prop :=
  ∀ (m : (ℓ : Loc Cert.MixBwdKernelIdeal.nD Cert.MixBwdKernelIdeal.τ Cert.MixBwdKernelIdeal.sig) → Buf (Elt Ideal) ℓ) (g : Dev Cert.MixBwdKernelIdeal.nD → PrngReg)
    (m' : (ℓ : Loc Cert.MixBwdReferenceIdeal.nD Cert.MixBwdReferenceIdeal.τ Cert.MixBwdReferenceIdeal.sig) → Buf (Elt Ideal) ℓ) (g' : Dev Cert.MixBwdReferenceIdeal.nD → PrngReg), Pre_MixBwdKernelIdeal m →
    (∀ c : Dev Cert.MixBwdKernelIdeal.nD,
      m' ((c.tc : Thread Cert.MixBwdReferenceIdeal.nD Cert.MixBwdReferenceIdeal.τ).loc Cert.MixBwdReferenceIdeal.main_arg0) = m ((c.tc : Thread Cert.MixBwdKernelIdeal.nD Cert.MixBwdKernelIdeal.τ).loc Cert.MixBwdKernelIdeal.main_arg0)
      ∧ m' ((c.tc : Thread Cert.MixBwdReferenceIdeal.nD Cert.MixBwdReferenceIdeal.τ).loc Cert.MixBwdReferenceIdeal.main_arg1) = m ((c.tc : Thread Cert.MixBwdKernelIdeal.nD Cert.MixBwdKernelIdeal.τ).loc Cert.MixBwdKernelIdeal.main_arg1)
      ∧ m' ((c.tc : Thread Cert.MixBwdReferenceIdeal.nD Cert.MixBwdReferenceIdeal.τ).loc Cert.MixBwdReferenceIdeal.main_arg2) = m ((c.tc : Thread Cert.MixBwdKernelIdeal.nD Cert.MixBwdKernelIdeal.τ).loc Cert.MixBwdKernelIdeal.main_arg2)
      ∧ m' ((c.tc : Thread Cert.MixBwdReferenceIdeal.nD Cert.MixBwdReferenceIdeal.τ).loc Cert.MixBwdReferenceIdeal.main_arg3) = m ((c.tc : Thread Cert.MixBwdKernelIdeal.nD Cert.MixBwdKernelIdeal.τ).loc Cert.MixBwdKernelIdeal.main_arg3)) →
    ∃ (v0 : (c : Dev Cert.MixBwdKernelIdeal.nD) → Buf (Elt Ideal) ((c.tc : Thread Cert.MixBwdKernelIdeal.nD Cert.MixBwdKernelIdeal.τ).loc Cert.MixBwdKernelIdeal.main_v6_0)) (v1 : (c : Dev Cert.MixBwdKernelIdeal.nD) → Buf (Elt Ideal) ((c.tc : Thread Cert.MixBwdKernelIdeal.nD Cert.MixBwdKernelIdeal.τ).loc Cert.MixBwdKernelIdeal.main_v6_1)) (v2 : (c : Dev Cert.MixBwdKernelIdeal.nD) → Buf (Elt Ideal) ((c.tc : Thread Cert.MixBwdKernelIdeal.nD Cert.MixBwdKernelIdeal.τ).loc Cert.MixBwdKernelIdeal.main_v6_2)),
      θ_run (Cert.MixBwdKernelIdeal.defs (F := Ideal)) (onTc (τ := Cert.MixBwdKernelIdeal.τ) (Cert.MixBwdKernelIdeal.main (F := Ideal))) ⟨m, fun _ => 0, g⟩ (fun r => ∀ c : Dev Cert.MixBwdKernelIdeal.nD,
          r.2.mem ((c.tc : Thread Cert.MixBwdKernelIdeal.nD Cert.MixBwdKernelIdeal.τ).loc Cert.MixBwdKernelIdeal.main_v6_0) = v0 c
          ∧ r.2.mem ((c.tc : Thread Cert.MixBwdKernelIdeal.nD Cert.MixBwdKernelIdeal.τ).loc Cert.MixBwdKernelIdeal.main_v6_1) = v1 c
          ∧ r.2.mem ((c.tc : Thread Cert.MixBwdKernelIdeal.nD Cert.MixBwdKernelIdeal.τ).loc Cert.MixBwdKernelIdeal.main_v6_2) = v2 c
          ∧ r.2.mem ((c.tc : Thread Cert.MixBwdKernelIdeal.nD Cert.MixBwdKernelIdeal.τ).loc Cert.MixBwdKernelIdeal.main_arg0) = m ((c.tc : Thread Cert.MixBwdKernelIdeal.nD Cert.MixBwdKernelIdeal.τ).loc Cert.MixBwdKernelIdeal.main_arg0)
          ∧ r.2.mem ((c.tc : Thread Cert.MixBwdKernelIdeal.nD Cert.MixBwdKernelIdeal.τ).loc Cert.MixBwdKernelIdeal.main_arg1) = m ((c.tc : Thread Cert.MixBwdKernelIdeal.nD Cert.MixBwdKernelIdeal.τ).loc Cert.MixBwdKernelIdeal.main_arg1)
          ∧ r.2.mem ((c.tc : Thread Cert.MixBwdKernelIdeal.nD Cert.MixBwdKernelIdeal.τ).loc Cert.MixBwdKernelIdeal.main_arg2) = m ((c.tc : Thread Cert.MixBwdKernelIdeal.nD Cert.MixBwdKernelIdeal.τ).loc Cert.MixBwdKernelIdeal.main_arg2)
          ∧ r.2.mem ((c.tc : Thread Cert.MixBwdKernelIdeal.nD Cert.MixBwdKernelIdeal.τ).loc Cert.MixBwdKernelIdeal.main_arg3) = m ((c.tc : Thread Cert.MixBwdKernelIdeal.nD Cert.MixBwdKernelIdeal.τ).loc Cert.MixBwdKernelIdeal.main_arg3))
      ∧ θ_run (Cert.MixBwdReferenceIdeal.defs (F := Ideal)) (onTc (τ := Cert.MixBwdReferenceIdeal.τ) (Cert.MixBwdReferenceIdeal.main (F := Ideal))) ⟨m', fun _ => 0, g'⟩ (fun r => ∀ c : Dev Cert.MixBwdReferenceIdeal.nD,
          r.2.mem ((c.tc : Thread Cert.MixBwdReferenceIdeal.nD Cert.MixBwdReferenceIdeal.τ).loc Cert.MixBwdReferenceIdeal.main_v39) = v0 c
          ∧ r.2.mem ((c.tc : Thread Cert.MixBwdReferenceIdeal.nD Cert.MixBwdReferenceIdeal.τ).loc Cert.MixBwdReferenceIdeal.main_v40) = v1 c
          ∧ r.2.mem ((c.tc : Thread Cert.MixBwdReferenceIdeal.nD Cert.MixBwdReferenceIdeal.τ).loc Cert.MixBwdReferenceIdeal.main_v43) = v2 c
          ∧ r.2.mem ((c.tc : Thread Cert.MixBwdReferenceIdeal.nD Cert.MixBwdReferenceIdeal.τ).loc Cert.MixBwdReferenceIdeal.main_arg0) = m' ((c.tc : Thread Cert.MixBwdReferenceIdeal.nD Cert.MixBwdReferenceIdeal.τ).loc Cert.MixBwdReferenceIdeal.main_arg0)
          ∧ r.2.mem ((c.tc : Thread Cert.MixBwdReferenceIdeal.nD Cert.MixBwdReferenceIdeal.τ).loc Cert.MixBwdReferenceIdeal.main_arg1) = m' ((c.tc : Thread Cert.MixBwdReferenceIdeal.nD Cert.MixBwdReferenceIdeal.τ).loc Cert.MixBwdReferenceIdeal.main_arg1)
          ∧ r.2.mem ((c.tc : Thread Cert.MixBwdReferenceIdeal.nD Cert.MixBwdReferenceIdeal.τ).loc Cert.MixBwdReferenceIdeal.main_arg2) = m' ((c.tc : Thread Cert.MixBwdReferenceIdeal.nD Cert.MixBwdReferenceIdeal.τ).loc Cert.MixBwdReferenceIdeal.main_arg2)
          ∧ r.2.mem ((c.tc : Thread Cert.MixBwdReferenceIdeal.nD Cert.MixBwdReferenceIdeal.τ).loc Cert.MixBwdReferenceIdeal.main_arg3) = m' ((c.tc : Thread Cert.MixBwdReferenceIdeal.nD Cert.MixBwdReferenceIdeal.τ).loc Cert.MixBwdReferenceIdeal.main_arg3))

def preserves_MixDwKernel_MixDwKernelIdeal : Prop :=
  True

def algebraic_MixDwKernelIdeal_MixDwReferenceIdeal [hMixDwKernelIdeal : Cert.MixDwKernelIdeal.Facts] [hMixDwReferenceIdeal : Cert.MixDwReferenceIdeal.Facts] : Prop :=
  ∀ (m : (ℓ : Loc Cert.MixDwKernelIdeal.nD Cert.MixDwKernelIdeal.τ Cert.MixDwKernelIdeal.sig) → Buf (Elt Ideal) ℓ) (g : Dev Cert.MixDwKernelIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwKernelIdeal m →
    (∀ c : Dev Cert.MixDwKernelIdeal.nD,
      m' ((c.tc : Thread Cert.MixDwReferenceIdeal.nD Cert.MixDwReferenceIdeal.τ).loc Cert.MixDwReferenceIdeal.main_arg0) = m ((c.tc : Thread Cert.MixDwKernelIdeal.nD Cert.MixDwKernelIdeal.τ).loc Cert.MixDwKernelIdeal.main_arg0)
      ∧ m' ((c.tc : Thread Cert.MixDwReferenceIdeal.nD Cert.MixDwReferenceIdeal.τ).loc Cert.MixDwReferenceIdeal.main_arg1) = m ((c.tc : Thread Cert.MixDwKernelIdeal.nD Cert.MixDwKernelIdeal.τ).loc Cert.MixDwKernelIdeal.main_arg1)) →
    ∃ (v0 : (c : Dev Cert.MixDwKernelIdeal.nD) → Buf (Elt Ideal) ((c.tc : Thread Cert.MixDwKernelIdeal.nD Cert.MixDwKernelIdeal.τ).loc Cert.MixDwKernelIdeal.main_v1)),
      θ_run (Cert.MixDwKernelIdeal.defs (F := Ideal)) (onTc (τ := Cert.MixDwKernelIdeal.τ) (Cert.MixDwKernelIdeal.main (F := Ideal))) ⟨m, fun _ => 0, g⟩ (fun r => ∀ c : Dev Cert.MixDwKernelIdeal.nD,
          r.2.mem ((c.tc : Thread Cert.MixDwKernelIdeal.nD Cert.MixDwKernelIdeal.τ).loc Cert.MixDwKernelIdeal.main_v1) = v0 c
          ∧ r.2.mem ((c.tc : Thread Cert.MixDwKernelIdeal.nD Cert.MixDwKernelIdeal.τ).loc Cert.MixDwKernelIdeal.main_arg0) = m ((c.tc : Thread Cert.MixDwKernelIdeal.nD Cert.MixDwKernelIdeal.τ).loc Cert.MixDwKernelIdeal.main_arg0)
          ∧ r.2.mem ((c.tc : Thread Cert.MixDwKernelIdeal.nD Cert.MixDwKernelIdeal.τ).loc Cert.MixDwKernelIdeal.main_arg1) = m ((c.tc : Thread Cert.MixDwKernelIdeal.nD Cert.MixDwKernelIdeal.τ).loc Cert.MixDwKernelIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v8) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_GateOutKernel_GateOutKernelIdeal : Prop :=
  True

def algebraic_GateOutKernelIdeal_GateOutReferenceIdeal [hGateOutKernelIdeal : Cert.GateOutKernelIdeal.Facts] [hGateOutReferenceIdeal : Cert.GateOutReferenceIdeal.Facts] : Prop :=
  ∀ (m : (ℓ : Loc Cert.GateOutKernelIdeal.nD Cert.GateOutKernelIdeal.τ Cert.GateOutKernelIdeal.sig) → Buf (Elt Ideal) ℓ) (g : Dev Cert.GateOutKernelIdeal.nD → PrngReg)
    (m' : (ℓ : Loc Cert.GateOutReferenceIdeal.nD Cert.GateOutReferenceIdeal.τ Cert.GateOutReferenceIdeal.sig) → Buf (Elt Ideal) ℓ) (g' : Dev Cert.GateOutReferenceIdeal.nD → PrngReg), Pre_GateOutKernelIdeal m →
    (∀ c : Dev Cert.GateOutKernelIdeal.nD,
      m' ((c.tc : Thread Cert.GateOutReferenceIdeal.nD Cert.GateOutReferenceIdeal.τ).loc Cert.GateOutReferenceIdeal.main_arg0) = m ((c.tc : Thread Cert.GateOutKernelIdeal.nD Cert.GateOutKernelIdeal.τ).loc Cert.GateOutKernelIdeal.main_arg0)
      ∧ m' ((c.tc : Thread Cert.GateOutReferenceIdeal.nD Cert.GateOutReferenceIdeal.τ).loc Cert.GateOutReferenceIdeal.main_arg1) = m ((c.tc : Thread Cert.GateOutKernelIdeal.nD Cert.GateOutKernelIdeal.τ).loc Cert.GateOutKernelIdeal.main_arg1)
      ∧ m' ((c.tc : Thread Cert.GateOutReferenceIdeal.nD Cert.GateOutReferenceIdeal.τ).loc Cert.GateOutReferenceIdeal.main_arg2) = m ((c.tc : Thread Cert.GateOutKernelIdeal.nD Cert.GateOutKernelIdeal.τ).loc Cert.GateOutKernelIdeal.main_arg2)
      ∧ m' ((c.tc : Thread Cert.GateOutReferenceIdeal.nD Cert.GateOutReferenceIdeal.τ).loc Cert.GateOutReferenceIdeal.main_arg3) = m ((c.tc : Thread Cert.GateOutKernelIdeal.nD Cert.GateOutKernelIdeal.τ).loc Cert.GateOutKernelIdeal.main_arg3)
      ∧ m' ((c.tc : Thread Cert.GateOutReferenceIdeal.nD Cert.GateOutReferenceIdeal.τ).loc Cert.GateOutReferenceIdeal.main_arg4) = m ((c.tc : Thread Cert.GateOutKernelIdeal.nD Cert.GateOutKernelIdeal.τ).loc Cert.GateOutKernelIdeal.main_arg4)) →
    ∃ (v0 : (c : Dev Cert.GateOutKernelIdeal.nD) → Buf (Elt Ideal) ((c.tc : Thread Cert.GateOutKernelIdeal.nD Cert.GateOutKernelIdeal.τ).loc Cert.GateOutKernelIdeal.main_v3_0)) (v1 : (c : Dev Cert.GateOutKernelIdeal.nD) → Buf (Elt Ideal) ((c.tc : Thread Cert.GateOutKernelIdeal.nD Cert.GateOutKernelIdeal.τ).loc Cert.GateOutKernelIdeal.main_v3_1)) (v2 : (c : Dev Cert.GateOutKernelIdeal.nD) → Buf (Elt Ideal) ((c.tc : Thread Cert.GateOutKernelIdeal.nD Cert.GateOutKernelIdeal.τ).loc Cert.GateOutKernelIdeal.main_v3_2)),
      θ_run (Cert.GateOutKernelIdeal.defs (F := Ideal)) (onTc (τ := Cert.GateOutKernelIdeal.τ) (Cert.GateOutKernelIdeal.main (F := Ideal))) ⟨m, fun _ => 0, g⟩ (fun r => ∀ c : Dev Cert.GateOutKernelIdeal.nD,
          r.2.mem ((c.tc : Thread Cert.GateOutKernelIdeal.nD Cert.GateOutKernelIdeal.τ).loc Cert.GateOutKernelIdeal.main_v3_0) = v0 c
          ∧ r.2.mem ((c.tc : Thread Cert.GateOutKernelIdeal.nD Cert.GateOutKernelIdeal.τ).loc Cert.GateOutKernelIdeal.main_v3_1) = v1 c
          ∧ r.2.mem ((c.tc : Thread Cert.GateOutKernelIdeal.nD Cert.GateOutKernelIdeal.τ).loc Cert.GateOutKernelIdeal.main_v3_2) = v2 c
          ∧ r.2.mem ((c.tc : Thread Cert.GateOutKernelIdeal.nD Cert.GateOutKernelIdeal.τ).loc Cert.GateOutKernelIdeal.main_arg0) = m ((c.tc : Thread Cert.GateOutKernelIdeal.nD Cert.GateOutKernelIdeal.τ).loc Cert.GateOutKernelIdeal.main_arg0)
          ∧ r.2.mem ((c.tc : Thread Cert.GateOutKernelIdeal.nD Cert.GateOutKernelIdeal.τ).loc Cert.GateOutKernelIdeal.main_arg1) = m ((c.tc : Thread Cert.GateOutKernelIdeal.nD Cert.GateOutKernelIdeal.τ).loc Cert.GateOutKernelIdeal.main_arg1)
          ∧ r.2.mem ((c.tc : Thread Cert.GateOutKernelIdeal.nD Cert.GateOutKernelIdeal.τ).loc Cert.GateOutKernelIdeal.main_arg2) = m ((c.tc : Thread Cert.GateOutKernelIdeal.nD Cert.GateOutKernelIdeal.τ).loc Cert.GateOutKernelIdeal.main_arg2)
          ∧ r.2.mem ((c.tc : Thread Cert.GateOutKernelIdeal.nD Cert.GateOutKernelIdeal.τ).loc Cert.GateOutKernelIdeal.main_arg3) = m ((c.tc : Thread Cert.GateOutKernelIdeal.nD Cert.GateOutKernelIdeal.τ).loc Cert.GateOutKernelIdeal.main_arg3)
          ∧ r.2.mem ((c.tc : Thread Cert.GateOutKernelIdeal.nD Cert.GateOutKernelIdeal.τ).loc Cert.GateOutKernelIdeal.main_arg4) = m ((c.tc : Thread Cert.GateOutKernelIdeal.nD Cert.GateOutKernelIdeal.τ).loc Cert.GateOutKernelIdeal.main_arg4))
      ∧ θ_run (Cert.GateOutReferenceIdeal.defs (F := Ideal)) (onTc (τ := Cert.GateOutReferenceIdeal.τ) (Cert.GateOutReferenceIdeal.main (F := Ideal))) ⟨m', fun _ => 0, g'⟩ (fun r => ∀ c : Dev Cert.GateOutReferenceIdeal.nD,
          r.2.mem ((c.tc : Thread Cert.GateOutReferenceIdeal.nD Cert.GateOutReferenceIdeal.τ).loc Cert.GateOutReferenceIdeal.main_v12) = v0 c
          ∧ r.2.mem ((c.tc : Thread Cert.GateOutReferenceIdeal.nD Cert.GateOutReferenceIdeal.τ).loc Cert.GateOutReferenceIdeal.main_v10) = v1 c
          ∧ r.2.mem ((c.tc : Thread Cert.GateOutReferenceIdeal.nD Cert.GateOutReferenceIdeal.τ).loc Cert.GateOutReferenceIdeal.main_v26) = v2 c
          ∧ r.2.mem ((c.tc : Thread Cert.GateOutReferenceIdeal.nD Cert.GateOutReferenceIdeal.τ).loc Cert.GateOutReferenceIdeal.main_arg0) = m' ((c.tc : Thread Cert.GateOutReferenceIdeal.nD Cert.GateOutReferenceIdeal.τ).loc Cert.GateOutReferenceIdeal.main_arg0)
          ∧ r.2.mem ((c.tc : Thread Cert.GateOutReferenceIdeal.nD Cert.GateOutReferenceIdeal.τ).loc Cert.GateOutReferenceIdeal.main_arg1) = m' ((c.tc : Thread Cert.GateOutReferenceIdeal.nD Cert.GateOutReferenceIdeal.τ).loc Cert.GateOutReferenceIdeal.main_arg1)
          ∧ r.2.mem ((c.tc : Thread Cert.GateOutReferenceIdeal.nD Cert.GateOutReferenceIdeal.τ).loc Cert.GateOutReferenceIdeal.main_arg2) = m' ((c.tc : Thread Cert.GateOutReferenceIdeal.nD Cert.GateOutReferenceIdeal.τ).loc Cert.GateOutReferenceIdeal.main_arg2)
          ∧ r.2.mem ((c.tc : Thread Cert.GateOutReferenceIdeal.nD Cert.GateOutReferenceIdeal.τ).loc Cert.GateOutReferenceIdeal.main_arg3) = m' ((c.tc : Thread Cert.GateOutReferenceIdeal.nD Cert.GateOutReferenceIdeal.τ).loc Cert.GateOutReferenceIdeal.main_arg3)
          ∧ r.2.mem ((c.tc : Thread Cert.GateOutReferenceIdeal.nD Cert.GateOutReferenceIdeal.τ).loc Cert.GateOutReferenceIdeal.main_arg4) = m' ((c.tc : Thread Cert.GateOutReferenceIdeal.nD Cert.GateOutReferenceIdeal.τ).loc Cert.GateOutReferenceIdeal.main_arg4))

def preserves_ConvOutKernel_ConvOutKernelIdeal : Prop :=
  True

def algebraic_ConvOutKernelIdeal_ConvOutReferenceIdeal [hConvOutKernelIdeal : Cert.ConvOutKernelIdeal.Facts] [hConvOutReferenceIdeal : Cert.ConvOutReferenceIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutKernelIdeal m →
    (∀ c : Dev Cert.ConvOutKernelIdeal.nD,
      m' ((c.tc : Thread Cert.ConvOutReferenceIdeal.nD Cert.ConvOutReferenceIdeal.τ).loc Cert.ConvOutReferenceIdeal.main_arg0) = m ((c.tc : Thread Cert.ConvOutKernelIdeal.nD Cert.ConvOutKernelIdeal.τ).loc Cert.ConvOutKernelIdeal.main_arg0)
      ∧ m' ((c.tc : Thread Cert.ConvOutReferenceIdeal.nD Cert.ConvOutReferenceIdeal.τ).loc Cert.ConvOutReferenceIdeal.main_arg1) = m ((c.tc : Thread Cert.ConvOutKernelIdeal.nD Cert.ConvOutKernelIdeal.τ).loc Cert.ConvOutKernelIdeal.main_arg1)
      ∧ m' ((c.tc : Thread Cert.ConvOutReferenceIdeal.nD Cert.ConvOutReferenceIdeal.τ).loc Cert.ConvOutReferenceIdeal.main_arg2) = m ((c.tc : Thread Cert.ConvOutKernelIdeal.nD Cert.ConvOutKernelIdeal.τ).loc Cert.ConvOutKernelIdeal.main_arg2)
      ∧ m' ((c.tc : Thread Cert.ConvOutReferenceIdeal.nD Cert.ConvOutReferenceIdeal.τ).loc Cert.ConvOutReferenceIdeal.main_arg3) = m ((c.tc : Thread Cert.ConvOutKernelIdeal.nD Cert.ConvOutKernelIdeal.τ).loc Cert.ConvOutKernelIdeal.main_arg3)
      ∧ m' ((c.tc : Thread Cert.ConvOutReferenceIdeal.nD Cert.ConvOutReferenceIdeal.τ).loc Cert.ConvOutReferenceIdeal.main_arg4) = m ((c.tc : Thread Cert.ConvOutKernelIdeal.nD Cert.ConvOutKernelIdeal.τ).loc Cert.ConvOutKernelIdeal.main_arg4)) →
    ∃ (v0 : (c : Dev Cert.ConvOutKernelIdeal.nD) → Buf (Elt Ideal) ((c.tc : Thread Cert.ConvOutKernelIdeal.nD Cert.ConvOutKernelIdeal.τ).loc Cert.ConvOutKernelIdeal.main_v3_0)) (v1 : (c : Dev Cert.ConvOutKernelIdeal.nD) → Buf (Elt Ideal) ((c.tc : Thread Cert.ConvOutKernelIdeal.nD Cert.ConvOutKernelIdeal.τ).loc Cert.ConvOutKernelIdeal.main_v3_1)) (v2 : (c : Dev Cert.ConvOutKernelIdeal.nD) → Buf (Elt Ideal) ((c.tc : Thread Cert.ConvOutKernelIdeal.nD Cert.ConvOutKernelIdeal.τ).loc Cert.ConvOutKernelIdeal.main_v3_2)),
      θ_run (Cert.ConvOutKernelIdeal.defs (F := Ideal)) (onTc (τ := Cert.ConvOutKernelIdeal.τ) (Cert.ConvOutKernelIdeal.main (F := Ideal))) ⟨m, fun _ => 0, g⟩ (fun r => ∀ c : Dev Cert.ConvOutKernelIdeal.nD,
          r.2.mem ((c.tc : Thread Cert.ConvOutKernelIdeal.nD Cert.ConvOutKernelIdeal.τ).loc Cert.ConvOutKernelIdeal.main_v3_0) = v0 c
          ∧ r.2.mem ((c.tc : Thread Cert.ConvOutKernelIdeal.nD Cert.ConvOutKernelIdeal.τ).loc Cert.ConvOutKernelIdeal.main_v3_1) = v1 c
          ∧ r.2.mem ((c.tc : Thread Cert.ConvOutKernelIdeal.nD Cert.ConvOutKernelIdeal.τ).loc Cert.ConvOutKernelIdeal.main_v3_2) = v2 c
          ∧ r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
          ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
          ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2)
          ∧ r.2.mem ((c.tc : Thread Cert.ConvOutKernelIdeal.nD Cert.ConvOutKernelIdeal.τ).loc Cert.ConvOutKernelIdeal.main_arg3) = m ((c.tc : Thread Cert.ConvOutKernelIdeal.nD Cert.ConvOutKernelIdeal.τ).loc Cert.ConvOutKernelIdeal.main_arg3)
          ∧ r.2.mem ((c.tc : Thread Cert.ConvOutKernelIdeal.nD Cert.ConvOutKernelIdeal.τ).loc Cert.ConvOutKernelIdeal.main_arg4) = m ((c.tc : Thread Cert.ConvOutKernelIdeal.nD Cert.ConvOutKernelIdeal.τ).loc Cert.ConvOutKernelIdeal.main_arg4))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v40) = v0 c
          ∧ r.2.mem ((c.tc : Thread Cert.ConvOutReferenceIdeal.nD Cert.ConvOutReferenceIdeal.τ).loc Cert.ConvOutReferenceIdeal.main_v38) = v1 c
          ∧ r.2.mem ((c.tc : Thread Cert.ConvOutReferenceIdeal.nD Cert.ConvOutReferenceIdeal.τ).loc Cert.ConvOutReferenceIdeal.main_v54) = v2 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1)
          ∧ r.2.mem ((c.tc : Thread Cert.ConvOutReferenceIdeal.nD Cert.ConvOutReferenceIdeal.τ).loc Cert.ConvOutReferenceIdeal.main_arg2) = m' ((c.tc : Thread Cert.ConvOutReferenceIdeal.nD Cert.ConvOutReferenceIdeal.τ).loc Cert.ConvOutReferenceIdeal.main_arg2)
          ∧ r.2.mem ((c.tc : Thread Cert.ConvOutReferenceIdeal.nD Cert.ConvOutReferenceIdeal.τ).loc Cert.ConvOutReferenceIdeal.main_arg3) = m' ((c.tc : Thread Cert.ConvOutReferenceIdeal.nD Cert.ConvOutReferenceIdeal.τ).loc Cert.ConvOutReferenceIdeal.main_arg3)
          ∧ r.2.mem ((c.tc : Thread Cert.ConvOutReferenceIdeal.nD Cert.ConvOutReferenceIdeal.τ).loc Cert.ConvOutReferenceIdeal.main_arg4) = m' ((c.tc : Thread Cert.ConvOutReferenceIdeal.nD Cert.ConvOutReferenceIdeal.τ).loc Cert.ConvOutReferenceIdeal.main_arg4))

def preserves_LossOutKernel_LossOutKernelIdeal : Prop :=
  True

def algebraic_LossOutKernelIdeal_LossOutReferenceIdeal [hLossOutKernelIdeal : Cert.LossOutKernelIdeal.Facts] [hLossOutReferenceIdeal : Cert.LossOutReferenceIdeal.Facts] : Prop :=
  ∀ (m : (ℓ : Loc Cert.LossOutKernelIdeal.nD Cert.LossOutKernelIdeal.τ Cert.LossOutKernelIdeal.sig) → Buf (Elt Ideal) ℓ) (g : Dev Cert.LossOutKernelIdeal.nD → PrngReg)
    (m' : (ℓ : Loc Cert.LossOutReferenceIdeal.nD Cert.LossOutReferenceIdeal.τ Cert.LossOutReferenceIdeal.sig) → Buf (Elt Ideal) ℓ) (g' : Dev Cert.LossOutReferenceIdeal.nD → PrngReg), Pre_LossOutKernelIdeal m →
    (∀ c : Dev Cert.LossOutKernelIdeal.nD,
      m' ((c.tc : Thread Cert.LossOutReferenceIdeal.nD Cert.LossOutReferenceIdeal.τ).loc Cert.LossOutReferenceIdeal.main_arg0) = m ((c.tc : Thread Cert.LossOutKernelIdeal.nD Cert.LossOutKernelIdeal.τ).loc Cert.LossOutKernelIdeal.main_arg0)
      ∧ m' ((c.tc : Thread Cert.LossOutReferenceIdeal.nD Cert.LossOutReferenceIdeal.τ).loc Cert.LossOutReferenceIdeal.main_arg1) = m ((c.tc : Thread Cert.LossOutKernelIdeal.nD Cert.LossOutKernelIdeal.τ).loc Cert.LossOutKernelIdeal.main_arg1)
      ∧ m' ((c.tc : Thread Cert.LossOutReferenceIdeal.nD Cert.LossOutReferenceIdeal.τ).loc Cert.LossOutReferenceIdeal.main_arg2) = m ((c.tc : Thread Cert.LossOutKernelIdeal.nD Cert.LossOutKernelIdeal.τ).loc Cert.LossOutKernelIdeal.main_arg2)
      ∧ m' ((c.tc : Thread Cert.LossOutReferenceIdeal.nD Cert.LossOutReferenceIdeal.τ).loc Cert.LossOutReferenceIdeal.main_arg3) = m ((c.tc : Thread Cert.LossOutKernelIdeal.nD Cert.LossOutKernelIdeal.τ).loc Cert.LossOutKernelIdeal.main_arg3)
      ∧ m' ((c.tc : Thread Cert.LossOutReferenceIdeal.nD Cert.LossOutReferenceIdeal.τ).loc Cert.LossOutReferenceIdeal.main_arg4) = m ((c.tc : Thread Cert.LossOutKernelIdeal.nD Cert.LossOutKernelIdeal.τ).loc Cert.LossOutKernelIdeal.main_arg4)) →
    ∃ (v0 : (c : Dev Cert.LossOutKernelIdeal.nD) → Buf (Elt Ideal) ((c.tc : Thread Cert.LossOutKernelIdeal.nD Cert.LossOutKernelIdeal.τ).loc Cert.LossOutKernelIdeal.main_v3_0)) (v1 : (c : Dev Cert.LossOutKernelIdeal.nD) → Buf (Elt Ideal) ((c.tc : Thread Cert.LossOutKernelIdeal.nD Cert.LossOutKernelIdeal.τ).loc Cert.LossOutKernelIdeal.main_v3_1)) (v2 : (c : Dev Cert.LossOutKernelIdeal.nD) → Buf (Elt Ideal) ((c.tc : Thread Cert.LossOutKernelIdeal.nD Cert.LossOutKernelIdeal.τ).loc Cert.LossOutKernelIdeal.main_v3_2)) (v3 : (c : Dev Cert.LossOutKernelIdeal.nD) → Buf (Elt Ideal) ((c.tc : Thread Cert.LossOutKernelIdeal.nD Cert.LossOutKernelIdeal.τ).loc Cert.LossOutKernelIdeal.main_v3_3)),
      θ_run (Cert.LossOutKernelIdeal.defs (F := Ideal)) (onTc (τ := Cert.LossOutKernelIdeal.τ) (Cert.LossOutKernelIdeal.main (F := Ideal))) ⟨m, fun _ => 0, g⟩ (fun r => ∀ c : Dev Cert.LossOutKernelIdeal.nD,
          r.2.mem ((c.tc : Thread Cert.LossOutKernelIdeal.nD Cert.LossOutKernelIdeal.τ).loc Cert.LossOutKernelIdeal.main_v3_0) = v0 c
          ∧ r.2.mem ((c.tc : Thread Cert.LossOutKernelIdeal.nD Cert.LossOutKernelIdeal.τ).loc Cert.LossOutKernelIdeal.main_v3_1) = v1 c
          ∧ r.2.mem ((c.tc : Thread Cert.LossOutKernelIdeal.nD Cert.LossOutKernelIdeal.τ).loc Cert.LossOutKernelIdeal.main_v3_2) = v2 c
          ∧ r.2.mem ((c.tc : Thread Cert.LossOutKernelIdeal.nD Cert.LossOutKernelIdeal.τ).loc Cert.LossOutKernelIdeal.main_v3_3) = v3 c
          ∧ r.2.mem ((c.tc : Thread Cert.LossOutKernelIdeal.nD Cert.LossOutKernelIdeal.τ).loc Cert.LossOutKernelIdeal.main_arg0) = m ((c.tc : Thread Cert.LossOutKernelIdeal.nD Cert.LossOutKernelIdeal.τ).loc Cert.LossOutKernelIdeal.main_arg0)
          ∧ r.2.mem ((c.tc : Thread Cert.LossOutKernelIdeal.nD Cert.LossOutKernelIdeal.τ).loc Cert.LossOutKernelIdeal.main_arg1) = m ((c.tc : Thread Cert.LossOutKernelIdeal.nD Cert.LossOutKernelIdeal.τ).loc Cert.LossOutKernelIdeal.main_arg1)
          ∧ r.2.mem ((c.tc : Thread Cert.LossOutKernelIdeal.nD Cert.LossOutKernelIdeal.τ).loc Cert.LossOutKernelIdeal.main_arg2) = m ((c.tc : Thread Cert.LossOutKernelIdeal.nD Cert.LossOutKernelIdeal.τ).loc Cert.LossOutKernelIdeal.main_arg2)
          ∧ r.2.mem ((c.tc : Thread Cert.LossOutKernelIdeal.nD Cert.LossOutKernelIdeal.τ).loc Cert.LossOutKernelIdeal.main_arg3) = m ((c.tc : Thread Cert.LossOutKernelIdeal.nD Cert.LossOutKernelIdeal.τ).loc Cert.LossOutKernelIdeal.main_arg3)
          ∧ r.2.mem ((c.tc : Thread Cert.LossOutKernelIdeal.nD Cert.LossOutKernelIdeal.τ).loc Cert.LossOutKernelIdeal.main_arg4) = m ((c.tc : Thread Cert.LossOutKernelIdeal.nD Cert.LossOutKernelIdeal.τ).loc Cert.LossOutKernelIdeal.main_arg4))
      ∧ θ_run (Cert.LossOutReferenceIdeal.defs (F := Ideal)) (onTc (τ := Cert.LossOutReferenceIdeal.τ) (Cert.LossOutReferenceIdeal.main (F := Ideal))) ⟨m', fun _ => 0, g'⟩ (fun r => ∀ c : Dev Cert.LossOutReferenceIdeal.nD,
          r.2.mem ((c.tc : Thread Cert.LossOutReferenceIdeal.nD Cert.LossOutReferenceIdeal.τ).loc Cert.LossOutReferenceIdeal.main_v40) = v0 c
          ∧ r.2.mem ((c.tc : Thread Cert.LossOutReferenceIdeal.nD Cert.LossOutReferenceIdeal.τ).loc Cert.LossOutReferenceIdeal.main_v7) = v1 c
          ∧ r.2.mem ((c.tc : Thread Cert.LossOutReferenceIdeal.nD Cert.LossOutReferenceIdeal.τ).loc Cert.LossOutReferenceIdeal.main_v38) = v2 c
          ∧ r.2.mem ((c.tc : Thread Cert.LossOutReferenceIdeal.nD Cert.LossOutReferenceIdeal.τ).loc Cert.LossOutReferenceIdeal.main_v41) = v3 c
          ∧ r.2.mem ((c.tc : Thread Cert.LossOutReferenceIdeal.nD Cert.LossOutReferenceIdeal.τ).loc Cert.LossOutReferenceIdeal.main_arg0) = m' ((c.tc : Thread Cert.LossOutReferenceIdeal.nD Cert.LossOutReferenceIdeal.τ).loc Cert.LossOutReferenceIdeal.main_arg0)
          ∧ r.2.mem ((c.tc : Thread Cert.LossOutReferenceIdeal.nD Cert.LossOutReferenceIdeal.τ).loc Cert.LossOutReferenceIdeal.main_arg1) = m' ((c.tc : Thread Cert.LossOutReferenceIdeal.nD Cert.LossOutReferenceIdeal.τ).loc Cert.LossOutReferenceIdeal.main_arg1)
          ∧ r.2.mem ((c.tc : Thread Cert.LossOutReferenceIdeal.nD Cert.LossOutReferenceIdeal.τ).loc Cert.LossOutReferenceIdeal.main_arg2) = m' ((c.tc : Thread Cert.LossOutReferenceIdeal.nD Cert.LossOutReferenceIdeal.τ).loc Cert.LossOutReferenceIdeal.main_arg2)
          ∧ r.2.mem ((c.tc : Thread Cert.LossOutReferenceIdeal.nD Cert.LossOutReferenceIdeal.τ).loc Cert.LossOutReferenceIdeal.main_arg3) = m' ((c.tc : Thread Cert.LossOutReferenceIdeal.nD Cert.LossOutReferenceIdeal.τ).loc Cert.LossOutReferenceIdeal.main_arg3)
          ∧ r.2.mem ((c.tc : Thread Cert.LossOutReferenceIdeal.nD Cert.LossOutReferenceIdeal.τ).loc Cert.LossOutReferenceIdeal.main_arg4) = m' ((c.tc : Thread Cert.LossOutReferenceIdeal.nD Cert.LossOutReferenceIdeal.τ).loc Cert.LossOutReferenceIdeal.main_arg4))

def preserves_AdamOwKernel_AdamOwKernelIdeal : Prop :=
  True

def algebraic_AdamOwKernelIdeal_AdamOwReferenceIdeal [hAdamOwKernelIdeal : Cert.AdamOwKernelIdeal.Facts] [hAdamOwReferenceIdeal : Cert.AdamOwReferenceIdeal.Facts] [hPre_placed_ow : Cert.Pre_placed_ow.Facts] : Prop :=
  ∀ (m : (ℓ : Loc Cert.AdamOwKernelIdeal.nD Cert.AdamOwKernelIdeal.τ Cert.AdamOwKernelIdeal.sig) → Buf (Elt Ideal) ℓ) (g : Dev Cert.AdamOwKernelIdeal.nD → PrngReg)
    (m' : (ℓ : Loc Cert.AdamOwReferenceIdeal.nD Cert.AdamOwReferenceIdeal.τ Cert.AdamOwReferenceIdeal.sig) → Buf (Elt Ideal) ℓ) (g' : Dev Cert.AdamOwReferenceIdeal.nD → PrngReg), Pre_AdamOwKernelIdeal m →
    (∀ c : Dev Cert.AdamOwKernelIdeal.nD,
      m' ((c.tc : Thread Cert.AdamOwReferenceIdeal.nD Cert.AdamOwReferenceIdeal.τ).loc Cert.AdamOwReferenceIdeal.main_arg0) = m ((c.tc : Thread Cert.AdamOwKernelIdeal.nD Cert.AdamOwKernelIdeal.τ).loc Cert.AdamOwKernelIdeal.main_arg0)
      ∧ m' ((c.tc : Thread Cert.AdamOwReferenceIdeal.nD Cert.AdamOwReferenceIdeal.τ).loc Cert.AdamOwReferenceIdeal.main_arg1) = m ((c.tc : Thread Cert.AdamOwKernelIdeal.nD Cert.AdamOwKernelIdeal.τ).loc Cert.AdamOwKernelIdeal.main_arg1)
      ∧ m' ((c.tc : Thread Cert.AdamOwReferenceIdeal.nD Cert.AdamOwReferenceIdeal.τ).loc Cert.AdamOwReferenceIdeal.main_arg2) = m ((c.tc : Thread Cert.AdamOwKernelIdeal.nD Cert.AdamOwKernelIdeal.τ).loc Cert.AdamOwKernelIdeal.main_arg2)
      ∧ m' ((c.tc : Thread Cert.AdamOwReferenceIdeal.nD Cert.AdamOwReferenceIdeal.τ).loc Cert.AdamOwReferenceIdeal.main_arg3) = m ((c.tc : Thread Cert.AdamOwKernelIdeal.nD Cert.AdamOwKernelIdeal.τ).loc Cert.AdamOwKernelIdeal.main_arg3)
      ∧ m' ((c.tc : Thread Cert.AdamOwReferenceIdeal.nD Cert.AdamOwReferenceIdeal.τ).loc Cert.AdamOwReferenceIdeal.main_arg4) = m ((c.tc : Thread Cert.AdamOwKernelIdeal.nD Cert.AdamOwKernelIdeal.τ).loc Cert.AdamOwKernelIdeal.main_arg4)
      ∧ m' ((c.tc : Thread Cert.AdamOwReferenceIdeal.nD Cert.AdamOwReferenceIdeal.τ).loc Cert.AdamOwReferenceIdeal.main_arg5) = m ((c.tc : Thread Cert.AdamOwKernelIdeal.nD Cert.AdamOwKernelIdeal.τ).loc Cert.AdamOwKernelIdeal.main_arg5)) →
    ∃ (v0 : (c : Dev Cert.AdamOwKernelIdeal.nD) → Buf (Elt Ideal) ((c.tc : Thread Cert.AdamOwKernelIdeal.nD Cert.AdamOwKernelIdeal.τ).loc Cert.AdamOwKernelIdeal.main_v0_0)) (v1 : (c : Dev Cert.AdamOwKernelIdeal.nD) → Buf (Elt Ideal) ((c.tc : Thread Cert.AdamOwKernelIdeal.nD Cert.AdamOwKernelIdeal.τ).loc Cert.AdamOwKernelIdeal.main_v0_1)) (v2 : (c : Dev Cert.AdamOwKernelIdeal.nD) → Buf (Elt Ideal) ((c.tc : Thread Cert.AdamOwKernelIdeal.nD Cert.AdamOwKernelIdeal.τ).loc Cert.AdamOwKernelIdeal.main_v0_2)) (v3 : (c : Dev Cert.AdamOwKernelIdeal.nD) → Buf (Elt Ideal) ((c.tc : Thread Cert.AdamOwKernelIdeal.nD Cert.AdamOwKernelIdeal.τ).loc Cert.AdamOwKernelIdeal.main_v0_3)),
      θ_run (Cert.AdamOwKernelIdeal.defs (F := Ideal)) (onTc (τ := Cert.AdamOwKernelIdeal.τ) (Cert.AdamOwKernelIdeal.main (F := Ideal))) ⟨m, fun _ => 0, g⟩ (fun r => ∀ c : Dev Cert.AdamOwKernelIdeal.nD,
          r.2.mem ((c.tc : Thread Cert.AdamOwKernelIdeal.nD Cert.AdamOwKernelIdeal.τ).loc Cert.AdamOwKernelIdeal.main_v0_0) = v0 c
          ∧ r.2.mem ((c.tc : Thread Cert.AdamOwKernelIdeal.nD Cert.AdamOwKernelIdeal.τ).loc Cert.AdamOwKernelIdeal.main_v0_1) = v1 c
          ∧ r.2.mem ((c.tc : Thread Cert.AdamOwKernelIdeal.nD Cert.AdamOwKernelIdeal.τ).loc Cert.AdamOwKernelIdeal.main_v0_2) = v2 c
          ∧ r.2.mem ((c.tc : Thread Cert.AdamOwKernelIdeal.nD Cert.AdamOwKernelIdeal.τ).loc Cert.AdamOwKernelIdeal.main_v0_3) = v3 c
          ∧ r.2.mem ((c.tc : Thread Cert.AdamOwKernelIdeal.nD Cert.AdamOwKernelIdeal.τ).loc Cert.AdamOwKernelIdeal.main_arg0) = m ((c.tc : Thread Cert.AdamOwKernelIdeal.nD Cert.AdamOwKernelIdeal.τ).loc Cert.AdamOwKernelIdeal.main_arg0)
          ∧ r.2.mem ((c.tc : Thread Cert.AdamOwKernelIdeal.nD Cert.AdamOwKernelIdeal.τ).loc Cert.AdamOwKernelIdeal.main_arg1) = m ((c.tc : Thread Cert.AdamOwKernelIdeal.nD Cert.AdamOwKernelIdeal.τ).loc Cert.AdamOwKernelIdeal.main_arg1)
          ∧ r.2.mem ((c.tc : Thread Cert.AdamOwKernelIdeal.nD Cert.AdamOwKernelIdeal.τ).loc Cert.AdamOwKernelIdeal.main_arg2) = m ((c.tc : Thread Cert.AdamOwKernelIdeal.nD Cert.AdamOwKernelIdeal.τ).loc Cert.AdamOwKernelIdeal.main_arg2)
          ∧ r.2.mem ((c.tc : Thread Cert.AdamOwKernelIdeal.nD Cert.AdamOwKernelIdeal.τ).loc Cert.AdamOwKernelIdeal.main_arg3) = m ((c.tc : Thread Cert.AdamOwKernelIdeal.nD Cert.AdamOwKernelIdeal.τ).loc Cert.AdamOwKernelIdeal.main_arg3)
          ∧ r.2.mem ((c.tc : Thread Cert.AdamOwKernelIdeal.nD Cert.AdamOwKernelIdeal.τ).loc Cert.AdamOwKernelIdeal.main_arg4) = m ((c.tc : Thread Cert.AdamOwKernelIdeal.nD Cert.AdamOwKernelIdeal.τ).loc Cert.AdamOwKernelIdeal.main_arg4)
          ∧ r.2.mem ((c.tc : Thread Cert.AdamOwKernelIdeal.nD Cert.AdamOwKernelIdeal.τ).loc Cert.AdamOwKernelIdeal.main_arg5) = m ((c.tc : Thread Cert.AdamOwKernelIdeal.nD Cert.AdamOwKernelIdeal.τ).loc Cert.AdamOwKernelIdeal.main_arg5))
      ∧ θ_run (Cert.AdamOwReferenceIdeal.defs (F := Ideal)) (onTc (τ := Cert.AdamOwReferenceIdeal.τ) (Cert.AdamOwReferenceIdeal.main (F := Ideal))) ⟨m', fun _ => 0, g'⟩ (fun r => ∀ c : Dev Cert.AdamOwReferenceIdeal.nD,
          r.2.mem ((c.tc : Thread Cert.AdamOwReferenceIdeal.nD Cert.AdamOwReferenceIdeal.τ).loc Cert.AdamOwReferenceIdeal.main_v10) = v0 c
          ∧ r.2.mem ((c.tc : Thread Cert.AdamOwReferenceIdeal.nD Cert.AdamOwReferenceIdeal.τ).loc Cert.AdamOwReferenceIdeal.main_v34) = v1 c
          ∧ r.2.mem ((c.tc : Thread Cert.AdamOwReferenceIdeal.nD Cert.AdamOwReferenceIdeal.τ).loc Cert.AdamOwReferenceIdeal.main_v15) = v2 c
          ∧ r.2.mem ((c.tc : Thread Cert.AdamOwReferenceIdeal.nD Cert.AdamOwReferenceIdeal.τ).loc Cert.AdamOwReferenceIdeal.main_v21) = v3 c
          ∧ r.2.mem ((c.tc : Thread Cert.AdamOwReferenceIdeal.nD Cert.AdamOwReferenceIdeal.τ).loc Cert.AdamOwReferenceIdeal.main_arg0) = m' ((c.tc : Thread Cert.AdamOwReferenceIdeal.nD Cert.AdamOwReferenceIdeal.τ).loc Cert.AdamOwReferenceIdeal.main_arg0)
          ∧ r.2.mem ((c.tc : Thread Cert.AdamOwReferenceIdeal.nD Cert.AdamOwReferenceIdeal.τ).loc Cert.AdamOwReferenceIdeal.main_arg1) = m' ((c.tc : Thread Cert.AdamOwReferenceIdeal.nD Cert.AdamOwReferenceIdeal.τ).loc Cert.AdamOwReferenceIdeal.main_arg1)
          ∧ r.2.mem ((c.tc : Thread Cert.AdamOwReferenceIdeal.nD Cert.AdamOwReferenceIdeal.τ).loc Cert.AdamOwReferenceIdeal.main_arg2) = m' ((c.tc : Thread Cert.AdamOwReferenceIdeal.nD Cert.AdamOwReferenceIdeal.τ).loc Cert.AdamOwReferenceIdeal.main_arg2)
          ∧ r.2.mem ((c.tc : Thread Cert.AdamOwReferenceIdeal.nD Cert.AdamOwReferenceIdeal.τ).loc Cert.AdamOwReferenceIdeal.main_arg3) = m' ((c.tc : Thread Cert.AdamOwReferenceIdeal.nD Cert.AdamOwReferenceIdeal.τ).loc Cert.AdamOwReferenceIdeal.main_arg3)
          ∧ r.2.mem ((c.tc : Thread Cert.AdamOwReferenceIdeal.nD Cert.AdamOwReferenceIdeal.τ).loc Cert.AdamOwReferenceIdeal.main_arg4) = m' ((c.tc : Thread Cert.AdamOwReferenceIdeal.nD Cert.AdamOwReferenceIdeal.τ).loc Cert.AdamOwReferenceIdeal.main_arg4)
          ∧ r.2.mem ((c.tc : Thread Cert.AdamOwReferenceIdeal.nD Cert.AdamOwReferenceIdeal.τ).loc Cert.AdamOwReferenceIdeal.main_arg5) = m' ((c.tc : Thread Cert.AdamOwReferenceIdeal.nD Cert.AdamOwReferenceIdeal.τ).loc Cert.AdamOwReferenceIdeal.main_arg5))

def preserves_AdamCiKernel_AdamCiKernelIdeal : Prop :=
  True

def algebraic_AdamCiKernelIdeal_AdamCiReferenceIdeal [hAdamCiKernelIdeal : Cert.AdamCiKernelIdeal.Facts] [hAdamCiReferenceIdeal : Cert.AdamCiReferenceIdeal.Facts] [hPre_placed_ci : Cert.Pre_placed_ci.Facts] : Prop :=
  ∀ (m : (ℓ : Loc Cert.AdamCiKernelIdeal.nD Cert.AdamCiKernelIdeal.τ Cert.AdamCiKernelIdeal.sig) → Buf (Elt Ideal) ℓ) (g : Dev Cert.AdamCiKernelIdeal.nD → PrngReg)
    (m' : (ℓ : Loc Cert.AdamCiReferenceIdeal.nD Cert.AdamCiReferenceIdeal.τ Cert.AdamCiReferenceIdeal.sig) → Buf (Elt Ideal) ℓ) (g' : Dev Cert.AdamCiReferenceIdeal.nD → PrngReg), Pre_AdamCiKernelIdeal m →
    (∀ c : Dev Cert.AdamCiKernelIdeal.nD,
      m' ((c.tc : Thread Cert.AdamCiReferenceIdeal.nD Cert.AdamCiReferenceIdeal.τ).loc Cert.AdamCiReferenceIdeal.main_arg0) = m ((c.tc : Thread Cert.AdamCiKernelIdeal.nD Cert.AdamCiKernelIdeal.τ).loc Cert.AdamCiKernelIdeal.main_arg0)
      ∧ m' ((c.tc : Thread Cert.AdamCiReferenceIdeal.nD Cert.AdamCiReferenceIdeal.τ).loc Cert.AdamCiReferenceIdeal.main_arg1) = m ((c.tc : Thread Cert.AdamCiKernelIdeal.nD Cert.AdamCiKernelIdeal.τ).loc Cert.AdamCiKernelIdeal.main_arg1)
      ∧ m' ((c.tc : Thread Cert.AdamCiReferenceIdeal.nD Cert.AdamCiReferenceIdeal.τ).loc Cert.AdamCiReferenceIdeal.main_arg2) = m ((c.tc : Thread Cert.AdamCiKernelIdeal.nD Cert.AdamCiKernelIdeal.τ).loc Cert.AdamCiKernelIdeal.main_arg2)
      ∧ m' ((c.tc : Thread Cert.AdamCiReferenceIdeal.nD Cert.AdamCiReferenceIdeal.τ).loc Cert.AdamCiReferenceIdeal.main_arg3) = m ((c.tc : Thread Cert.AdamCiKernelIdeal.nD Cert.AdamCiKernelIdeal.τ).loc Cert.AdamCiKernelIdeal.main_arg3)
      ∧ m' ((c.tc : Thread Cert.AdamCiReferenceIdeal.nD Cert.AdamCiReferenceIdeal.τ).loc Cert.AdamCiReferenceIdeal.main_arg4) = m ((c.tc : Thread Cert.AdamCiKernelIdeal.nD Cert.AdamCiKernelIdeal.τ).loc Cert.AdamCiKernelIdeal.main_arg4)
      ∧ m' ((c.tc : Thread Cert.AdamCiReferenceIdeal.nD Cert.AdamCiReferenceIdeal.τ).loc Cert.AdamCiReferenceIdeal.main_arg5) = m ((c.tc : Thread Cert.AdamCiKernelIdeal.nD Cert.AdamCiKernelIdeal.τ).loc Cert.AdamCiKernelIdeal.main_arg5)) →
    ∃ (v0 : (c : Dev Cert.AdamCiKernelIdeal.nD) → Buf (Elt Ideal) ((c.tc : Thread Cert.AdamCiKernelIdeal.nD Cert.AdamCiKernelIdeal.τ).loc Cert.AdamCiKernelIdeal.main_v0_0)) (v1 : (c : Dev Cert.AdamCiKernelIdeal.nD) → Buf (Elt Ideal) ((c.tc : Thread Cert.AdamCiKernelIdeal.nD Cert.AdamCiKernelIdeal.τ).loc Cert.AdamCiKernelIdeal.main_v0_1)) (v2 : (c : Dev Cert.AdamCiKernelIdeal.nD) → Buf (Elt Ideal) ((c.tc : Thread Cert.AdamCiKernelIdeal.nD Cert.AdamCiKernelIdeal.τ).loc Cert.AdamCiKernelIdeal.main_v0_2)) (v3 : (c : Dev Cert.AdamCiKernelIdeal.nD) → Buf (Elt Ideal) ((c.tc : Thread Cert.AdamCiKernelIdeal.nD Cert.AdamCiKernelIdeal.τ).loc Cert.AdamCiKernelIdeal.main_v0_3)),
      θ_run (Cert.AdamCiKernelIdeal.defs (F := Ideal)) (onTc (τ := Cert.AdamCiKernelIdeal.τ) (Cert.AdamCiKernelIdeal.main (F := Ideal))) ⟨m, fun _ => 0, g⟩ (fun r => ∀ c : Dev Cert.AdamCiKernelIdeal.nD,
          r.2.mem ((c.tc : Thread Cert.AdamCiKernelIdeal.nD Cert.AdamCiKernelIdeal.τ).loc Cert.AdamCiKernelIdeal.main_v0_0) = v0 c
          ∧ r.2.mem ((c.tc : Thread Cert.AdamCiKernelIdeal.nD Cert.AdamCiKernelIdeal.τ).loc Cert.AdamCiKernelIdeal.main_v0_1) = v1 c
          ∧ r.2.mem ((c.tc : Thread Cert.AdamCiKernelIdeal.nD Cert.AdamCiKernelIdeal.τ).loc Cert.AdamCiKernelIdeal.main_v0_2) = v2 c
          ∧ r.2.mem ((c.tc : Thread Cert.AdamCiKernelIdeal.nD Cert.AdamCiKernelIdeal.τ).loc Cert.AdamCiKernelIdeal.main_v0_3) = v3 c
          ∧ r.2.mem ((c.tc : Thread Cert.AdamCiKernelIdeal.nD Cert.AdamCiKernelIdeal.τ).loc Cert.AdamCiKernelIdeal.main_arg0) = m ((c.tc : Thread Cert.AdamCiKernelIdeal.nD Cert.AdamCiKernelIdeal.τ).loc Cert.AdamCiKernelIdeal.main_arg0)
          ∧ r.2.mem ((c.tc : Thread Cert.AdamCiKernelIdeal.nD Cert.AdamCiKernelIdeal.τ).loc Cert.AdamCiKernelIdeal.main_arg1) = m ((c.tc : Thread Cert.AdamCiKernelIdeal.nD Cert.AdamCiKernelIdeal.τ).loc Cert.AdamCiKernelIdeal.main_arg1)
          ∧ r.2.mem ((c.tc : Thread Cert.AdamCiKernelIdeal.nD Cert.AdamCiKernelIdeal.τ).loc Cert.AdamCiKernelIdeal.main_arg2) = m ((c.tc : Thread Cert.AdamCiKernelIdeal.nD Cert.AdamCiKernelIdeal.τ).loc Cert.AdamCiKernelIdeal.main_arg2)
          ∧ r.2.mem ((c.tc : Thread Cert.AdamCiKernelIdeal.nD Cert.AdamCiKernelIdeal.τ).loc Cert.AdamCiKernelIdeal.main_arg3) = m ((c.tc : Thread Cert.AdamCiKernelIdeal.nD Cert.AdamCiKernelIdeal.τ).loc Cert.AdamCiKernelIdeal.main_arg3)
          ∧ r.2.mem ((c.tc : Thread Cert.AdamCiKernelIdeal.nD Cert.AdamCiKernelIdeal.τ).loc Cert.AdamCiKernelIdeal.main_arg4) = m ((c.tc : Thread Cert.AdamCiKernelIdeal.nD Cert.AdamCiKernelIdeal.τ).loc Cert.AdamCiKernelIdeal.main_arg4)
          ∧ r.2.mem ((c.tc : Thread Cert.AdamCiKernelIdeal.nD Cert.AdamCiKernelIdeal.τ).loc Cert.AdamCiKernelIdeal.main_arg5) = m ((c.tc : Thread Cert.AdamCiKernelIdeal.nD Cert.AdamCiKernelIdeal.τ).loc Cert.AdamCiKernelIdeal.main_arg5))
      ∧ θ_run (Cert.AdamCiReferenceIdeal.defs (F := Ideal)) (onTc (τ := Cert.AdamCiReferenceIdeal.τ) (Cert.AdamCiReferenceIdeal.main (F := Ideal))) ⟨m', fun _ => 0, g'⟩ (fun r => ∀ c : Dev Cert.AdamCiReferenceIdeal.nD,
          r.2.mem ((c.tc : Thread Cert.AdamCiReferenceIdeal.nD Cert.AdamCiReferenceIdeal.τ).loc Cert.AdamCiReferenceIdeal.main_v10) = v0 c
          ∧ r.2.mem ((c.tc : Thread Cert.AdamCiReferenceIdeal.nD Cert.AdamCiReferenceIdeal.τ).loc Cert.AdamCiReferenceIdeal.main_v34) = v1 c
          ∧ r.2.mem ((c.tc : Thread Cert.AdamCiReferenceIdeal.nD Cert.AdamCiReferenceIdeal.τ).loc Cert.AdamCiReferenceIdeal.main_v15) = v2 c
          ∧ r.2.mem ((c.tc : Thread Cert.AdamCiReferenceIdeal.nD Cert.AdamCiReferenceIdeal.τ).loc Cert.AdamCiReferenceIdeal.main_v21) = v3 c
          ∧ r.2.mem ((c.tc : Thread Cert.AdamCiReferenceIdeal.nD Cert.AdamCiReferenceIdeal.τ).loc Cert.AdamCiReferenceIdeal.main_arg0) = m' ((c.tc : Thread Cert.AdamCiReferenceIdeal.nD Cert.AdamCiReferenceIdeal.τ).loc Cert.AdamCiReferenceIdeal.main_arg0)
          ∧ r.2.mem ((c.tc : Thread Cert.AdamCiReferenceIdeal.nD Cert.AdamCiReferenceIdeal.τ).loc Cert.AdamCiReferenceIdeal.main_arg1) = m' ((c.tc : Thread Cert.AdamCiReferenceIdeal.nD Cert.AdamCiReferenceIdeal.τ).loc Cert.AdamCiReferenceIdeal.main_arg1)
          ∧ r.2.mem ((c.tc : Thread Cert.AdamCiReferenceIdeal.nD Cert.AdamCiReferenceIdeal.τ).loc Cert.AdamCiReferenceIdeal.main_arg2) = m' ((c.tc : Thread Cert.AdamCiReferenceIdeal.nD Cert.AdamCiReferenceIdeal.τ).loc Cert.AdamCiReferenceIdeal.main_arg2)
          ∧ r.2.mem ((c.tc : Thread Cert.AdamCiReferenceIdeal.nD Cert.AdamCiReferenceIdeal.τ).loc Cert.AdamCiReferenceIdeal.main_arg3) = m' ((c.tc : Thread Cert.AdamCiReferenceIdeal.nD Cert.AdamCiReferenceIdeal.τ).loc Cert.AdamCiReferenceIdeal.main_arg3)
          ∧ r.2.mem ((c.tc : Thread Cert.AdamCiReferenceIdeal.nD Cert.AdamCiReferenceIdeal.τ).loc Cert.AdamCiReferenceIdeal.main_arg4) = m' ((c.tc : Thread Cert.AdamCiReferenceIdeal.nD Cert.AdamCiReferenceIdeal.τ).loc Cert.AdamCiReferenceIdeal.main_arg4)
          ∧ r.2.mem ((c.tc : Thread Cert.AdamCiReferenceIdeal.nD Cert.AdamCiReferenceIdeal.τ).loc Cert.AdamCiReferenceIdeal.main_arg5) = m' ((c.tc : Thread Cert.AdamCiReferenceIdeal.nD Cert.AdamCiReferenceIdeal.τ).loc Cert.AdamCiReferenceIdeal.main_arg5))

def preserves_AdamQgKernel_AdamQgKernelIdeal : Prop :=
  True

def algebraic_AdamQgKernelIdeal_AdamQgReferenceIdeal [hAdamQgKernelIdeal : Cert.AdamQgKernelIdeal.Facts] [hAdamQgReferenceIdeal : Cert.AdamQgReferenceIdeal.Facts] [hPre_placed_qg : Cert.Pre_placed_qg.Facts] : Prop :=
  ∀ (m : (ℓ : Loc Cert.AdamQgKernelIdeal.nD Cert.AdamQgKernelIdeal.τ Cert.AdamQgKernelIdeal.sig) → Buf (Elt Ideal) ℓ) (g : Dev Cert.AdamQgKernelIdeal.nD → PrngReg)
    (m' : (ℓ : Loc Cert.AdamQgReferenceIdeal.nD Cert.AdamQgReferenceIdeal.τ Cert.AdamQgReferenceIdeal.sig) → Buf (Elt Ideal) ℓ) (g' : Dev Cert.AdamQgReferenceIdeal.nD → PrngReg), Pre_AdamQgKernelIdeal m →
    (∀ c : Dev Cert.AdamQgKernelIdeal.nD,
      m' ((c.tc : Thread Cert.AdamQgReferenceIdeal.nD Cert.AdamQgReferenceIdeal.τ).loc Cert.AdamQgReferenceIdeal.main_arg0) = m ((c.tc : Thread Cert.AdamQgKernelIdeal.nD Cert.AdamQgKernelIdeal.τ).loc Cert.AdamQgKernelIdeal.main_arg0)
      ∧ m' ((c.tc : Thread Cert.AdamQgReferenceIdeal.nD Cert.AdamQgReferenceIdeal.τ).loc Cert.AdamQgReferenceIdeal.main_arg1) = m ((c.tc : Thread Cert.AdamQgKernelIdeal.nD Cert.AdamQgKernelIdeal.τ).loc Cert.AdamQgKernelIdeal.main_arg1)
      ∧ m' ((c.tc : Thread Cert.AdamQgReferenceIdeal.nD Cert.AdamQgReferenceIdeal.τ).loc Cert.AdamQgReferenceIdeal.main_arg2) = m ((c.tc : Thread Cert.AdamQgKernelIdeal.nD Cert.AdamQgKernelIdeal.τ).loc Cert.AdamQgKernelIdeal.main_arg2)
      ∧ m' ((c.tc : Thread Cert.AdamQgReferenceIdeal.nD Cert.AdamQgReferenceIdeal.τ).loc Cert.AdamQgReferenceIdeal.main_arg3) = m ((c.tc : Thread Cert.AdamQgKernelIdeal.nD Cert.AdamQgKernelIdeal.τ).loc Cert.AdamQgKernelIdeal.main_arg3)
      ∧ m' ((c.tc : Thread Cert.AdamQgReferenceIdeal.nD Cert.AdamQgReferenceIdeal.τ).loc Cert.AdamQgReferenceIdeal.main_arg4) = m ((c.tc : Thread Cert.AdamQgKernelIdeal.nD Cert.AdamQgKernelIdeal.τ).loc Cert.AdamQgKernelIdeal.main_arg4)
      ∧ m' ((c.tc : Thread Cert.AdamQgReferenceIdeal.nD Cert.AdamQgReferenceIdeal.τ).loc Cert.AdamQgReferenceIdeal.main_arg5) = m ((c.tc : Thread Cert.AdamQgKernelIdeal.nD Cert.AdamQgKernelIdeal.τ).loc Cert.AdamQgKernelIdeal.main_arg5)) →
    ∃ (v0 : (c : Dev Cert.AdamQgKernelIdeal.nD) → Buf (Elt Ideal) ((c.tc : Thread Cert.AdamQgKernelIdeal.nD Cert.AdamQgKernelIdeal.τ).loc Cert.AdamQgKernelIdeal.main_v0_0)) (v1 : (c : Dev Cert.AdamQgKernelIdeal.nD) → Buf (Elt Ideal) ((c.tc : Thread Cert.AdamQgKernelIdeal.nD Cert.AdamQgKernelIdeal.τ).loc Cert.AdamQgKernelIdeal.main_v0_1)) (v2 : (c : Dev Cert.AdamQgKernelIdeal.nD) → Buf (Elt Ideal) ((c.tc : Thread Cert.AdamQgKernelIdeal.nD Cert.AdamQgKernelIdeal.τ).loc Cert.AdamQgKernelIdeal.main_v0_2)) (v3 : (c : Dev Cert.AdamQgKernelIdeal.nD) → Buf (Elt Ideal) ((c.tc : Thread Cert.AdamQgKernelIdeal.nD Cert.AdamQgKernelIdeal.τ).loc Cert.AdamQgKernelIdeal.main_v0_3)),
      θ_run (Cert.AdamQgKernelIdeal.defs (F := Ideal)) (onTc (τ := Cert.AdamQgKernelIdeal.τ) (Cert.AdamQgKernelIdeal.main (F := Ideal))) ⟨m, fun _ => 0, g⟩ (fun r => ∀ c : Dev Cert.AdamQgKernelIdeal.nD,
          r.2.mem ((c.tc : Thread Cert.AdamQgKernelIdeal.nD Cert.AdamQgKernelIdeal.τ).loc Cert.AdamQgKernelIdeal.main_v0_0) = v0 c
          ∧ r.2.mem ((c.tc : Thread Cert.AdamQgKernelIdeal.nD Cert.AdamQgKernelIdeal.τ).loc Cert.AdamQgKernelIdeal.main_v0_1) = v1 c
          ∧ r.2.mem ((c.tc : Thread Cert.AdamQgKernelIdeal.nD Cert.AdamQgKernelIdeal.τ).loc Cert.AdamQgKernelIdeal.main_v0_2) = v2 c
          ∧ r.2.mem ((c.tc : Thread Cert.AdamQgKernelIdeal.nD Cert.AdamQgKernelIdeal.τ).loc Cert.AdamQgKernelIdeal.main_v0_3) = v3 c
          ∧ r.2.mem ((c.tc : Thread Cert.AdamQgKernelIdeal.nD Cert.AdamQgKernelIdeal.τ).loc Cert.AdamQgKernelIdeal.main_arg0) = m ((c.tc : Thread Cert.AdamQgKernelIdeal.nD Cert.AdamQgKernelIdeal.τ).loc Cert.AdamQgKernelIdeal.main_arg0)
          ∧ r.2.mem ((c.tc : Thread Cert.AdamQgKernelIdeal.nD Cert.AdamQgKernelIdeal.τ).loc Cert.AdamQgKernelIdeal.main_arg1) = m ((c.tc : Thread Cert.AdamQgKernelIdeal.nD Cert.AdamQgKernelIdeal.τ).loc Cert.AdamQgKernelIdeal.main_arg1)
          ∧ r.2.mem ((c.tc : Thread Cert.AdamQgKernelIdeal.nD Cert.AdamQgKernelIdeal.τ).loc Cert.AdamQgKernelIdeal.main_arg2) = m ((c.tc : Thread Cert.AdamQgKernelIdeal.nD Cert.AdamQgKernelIdeal.τ).loc Cert.AdamQgKernelIdeal.main_arg2)
          ∧ r.2.mem ((c.tc : Thread Cert.AdamQgKernelIdeal.nD Cert.AdamQgKernelIdeal.τ).loc Cert.AdamQgKernelIdeal.main_arg3) = m ((c.tc : Thread Cert.AdamQgKernelIdeal.nD Cert.AdamQgKernelIdeal.τ).loc Cert.AdamQgKernelIdeal.main_arg3)
          ∧ r.2.mem ((c.tc : Thread Cert.AdamQgKernelIdeal.nD Cert.AdamQgKernelIdeal.τ).loc Cert.AdamQgKernelIdeal.main_arg4) = m ((c.tc : Thread Cert.AdamQgKernelIdeal.nD Cert.AdamQgKernelIdeal.τ).loc Cert.AdamQgKernelIdeal.main_arg4)
          ∧ r.2.mem ((c.tc : Thread Cert.AdamQgKernelIdeal.nD Cert.AdamQgKernelIdeal.τ).loc Cert.AdamQgKernelIdeal.main_arg5) = m ((c.tc : Thread Cert.AdamQgKernelIdeal.nD Cert.AdamQgKernelIdeal.τ).loc Cert.AdamQgKernelIdeal.main_arg5))
      ∧ θ_run (Cert.AdamQgReferenceIdeal.defs (F := Ideal)) (onTc (τ := Cert.AdamQgReferenceIdeal.τ) (Cert.AdamQgReferenceIdeal.main (F := Ideal))) ⟨m', fun _ => 0, g'⟩ (fun r => ∀ c : Dev Cert.AdamQgReferenceIdeal.nD,
          r.2.mem ((c.tc : Thread Cert.AdamQgReferenceIdeal.nD Cert.AdamQgReferenceIdeal.τ).loc Cert.AdamQgReferenceIdeal.main_v10) = v0 c
          ∧ r.2.mem ((c.tc : Thread Cert.AdamQgReferenceIdeal.nD Cert.AdamQgReferenceIdeal.τ).loc Cert.AdamQgReferenceIdeal.main_v34) = v1 c
          ∧ r.2.mem ((c.tc : Thread Cert.AdamQgReferenceIdeal.nD Cert.AdamQgReferenceIdeal.τ).loc Cert.AdamQgReferenceIdeal.main_v15) = v2 c
          ∧ r.2.mem ((c.tc : Thread Cert.AdamQgReferenceIdeal.nD Cert.AdamQgReferenceIdeal.τ).loc Cert.AdamQgReferenceIdeal.main_v21) = v3 c
          ∧ r.2.mem ((c.tc : Thread Cert.AdamQgReferenceIdeal.nD Cert.AdamQgReferenceIdeal.τ).loc Cert.AdamQgReferenceIdeal.main_arg0) = m' ((c.tc : Thread Cert.AdamQgReferenceIdeal.nD Cert.AdamQgReferenceIdeal.τ).loc Cert.AdamQgReferenceIdeal.main_arg0)
          ∧ r.2.mem ((c.tc : Thread Cert.AdamQgReferenceIdeal.nD Cert.AdamQgReferenceIdeal.τ).loc Cert.AdamQgReferenceIdeal.main_arg1) = m' ((c.tc : Thread Cert.AdamQgReferenceIdeal.nD Cert.AdamQgReferenceIdeal.τ).loc Cert.AdamQgReferenceIdeal.main_arg1)
          ∧ r.2.mem ((c.tc : Thread Cert.AdamQgReferenceIdeal.nD Cert.AdamQgReferenceIdeal.τ).loc Cert.AdamQgReferenceIdeal.main_arg2) = m' ((c.tc : Thread Cert.AdamQgReferenceIdeal.nD Cert.AdamQgReferenceIdeal.τ).loc Cert.AdamQgReferenceIdeal.main_arg2)
          ∧ r.2.mem ((c.tc : Thread Cert.AdamQgReferenceIdeal.nD Cert.AdamQgReferenceIdeal.τ).loc Cert.AdamQgReferenceIdeal.main_arg3) = m' ((c.tc : Thread Cert.AdamQgReferenceIdeal.nD Cert.AdamQgReferenceIdeal.τ).loc Cert.AdamQgReferenceIdeal.main_arg3)
          ∧ r.2.mem ((c.tc : Thread Cert.AdamQgReferenceIdeal.nD Cert.AdamQgReferenceIdeal.τ).loc Cert.AdamQgReferenceIdeal.main_arg4) = m' ((c.tc : Thread Cert.AdamQgReferenceIdeal.nD Cert.AdamQgReferenceIdeal.τ).loc Cert.AdamQgReferenceIdeal.main_arg4)
          ∧ r.2.mem ((c.tc : Thread Cert.AdamQgReferenceIdeal.nD Cert.AdamQgReferenceIdeal.τ).loc Cert.AdamQgReferenceIdeal.main_arg5) = m' ((c.tc : Thread Cert.AdamQgReferenceIdeal.nD Cert.AdamQgReferenceIdeal.τ).loc Cert.AdamQgReferenceIdeal.main_arg5))

def preserves_AdamKvKernel_AdamKvKernelIdeal : Prop :=
  True

def algebraic_AdamKvKernelIdeal_AdamKvReferenceIdeal [hAdamKvKernelIdeal : Cert.AdamKvKernelIdeal.Facts] [hAdamKvReferenceIdeal : Cert.AdamKvReferenceIdeal.Facts] [hPre_placed_kv : Cert.Pre_placed_kv.Facts] : Prop :=
  ∀ (m : (ℓ : Loc Cert.AdamKvKernelIdeal.nD Cert.AdamKvKernelIdeal.τ Cert.AdamKvKernelIdeal.sig) → Buf (Elt Ideal) ℓ) (g : Dev Cert.AdamKvKernelIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvKernelIdeal m →
    (∀ c : Dev Cert.AdamKvKernelIdeal.nD,
      m' ((c.tc : Thread Cert.AdamKvReferenceIdeal.nD Cert.AdamKvReferenceIdeal.τ).loc Cert.AdamKvReferenceIdeal.main_arg0) = m ((c.tc : Thread Cert.AdamKvKernelIdeal.nD Cert.AdamKvKernelIdeal.τ).loc Cert.AdamKvKernelIdeal.main_arg0)
      ∧ m' ((c.tc : Thread Cert.AdamKvReferenceIdeal.nD Cert.AdamKvReferenceIdeal.τ).loc Cert.AdamKvReferenceIdeal.main_arg1) = m ((c.tc : Thread Cert.AdamKvKernelIdeal.nD Cert.AdamKvKernelIdeal.τ).loc Cert.AdamKvKernelIdeal.main_arg1)
      ∧ m' ((c.tc : Thread Cert.AdamKvReferenceIdeal.nD Cert.AdamKvReferenceIdeal.τ).loc Cert.AdamKvReferenceIdeal.main_arg2) = m ((c.tc : Thread Cert.AdamKvKernelIdeal.nD Cert.AdamKvKernelIdeal.τ).loc Cert.AdamKvKernelIdeal.main_arg2)
      ∧ m' ((c.tc : Thread Cert.AdamKvReferenceIdeal.nD Cert.AdamKvReferenceIdeal.τ).loc Cert.AdamKvReferenceIdeal.main_arg3) = m ((c.tc : Thread Cert.AdamKvKernelIdeal.nD Cert.AdamKvKernelIdeal.τ).loc Cert.AdamKvKernelIdeal.main_arg3)
      ∧ m' ((c.tc : Thread Cert.AdamKvReferenceIdeal.nD Cert.AdamKvReferenceIdeal.τ).loc Cert.AdamKvReferenceIdeal.main_arg4) = m ((c.tc : Thread Cert.AdamKvKernelIdeal.nD Cert.AdamKvKernelIdeal.τ).loc Cert.AdamKvKernelIdeal.main_arg4)
      ∧ m' ((c.tc : Thread Cert.AdamKvReferenceIdeal.nD Cert.AdamKvReferenceIdeal.τ).loc Cert.AdamKvReferenceIdeal.main_arg5) = m ((c.tc : Thread Cert.AdamKvKernelIdeal.nD Cert.AdamKvKernelIdeal.τ).loc Cert.AdamKvKernelIdeal.main_arg5)) →
    ∃ (v0 : (c : Dev Cert.AdamKvKernelIdeal.nD) → Buf (Elt Ideal) ((c.tc : Thread Cert.AdamKvKernelIdeal.nD Cert.AdamKvKernelIdeal.τ).loc Cert.AdamKvKernelIdeal.main_v0_0)) (v1 : (c : Dev Cert.AdamKvKernelIdeal.nD) → Buf (Elt Ideal) ((c.tc : Thread Cert.AdamKvKernelIdeal.nD Cert.AdamKvKernelIdeal.τ).loc Cert.AdamKvKernelIdeal.main_v0_1)) (v2 : (c : Dev Cert.AdamKvKernelIdeal.nD) → Buf (Elt Ideal) ((c.tc : Thread Cert.AdamKvKernelIdeal.nD Cert.AdamKvKernelIdeal.τ).loc Cert.AdamKvKernelIdeal.main_v0_2)) (v3 : (c : Dev Cert.AdamKvKernelIdeal.nD) → Buf (Elt Ideal) ((c.tc : Thread Cert.AdamKvKernelIdeal.nD Cert.AdamKvKernelIdeal.τ).loc Cert.AdamKvKernelIdeal.main_v0_3)),
      θ_run (Cert.AdamKvKernelIdeal.defs (F := Ideal)) (onTc (τ := Cert.AdamKvKernelIdeal.τ) (Cert.AdamKvKernelIdeal.main (F := Ideal))) ⟨m, fun _ => 0, g⟩ (fun r => ∀ c : Dev Cert.AdamKvKernelIdeal.nD,
          r.2.mem ((c.tc : Thread Cert.AdamKvKernelIdeal.nD Cert.AdamKvKernelIdeal.τ).loc Cert.AdamKvKernelIdeal.main_v0_0) = v0 c
          ∧ r.2.mem ((c.tc : Thread Cert.AdamKvKernelIdeal.nD Cert.AdamKvKernelIdeal.τ).loc Cert.AdamKvKernelIdeal.main_v0_1) = v1 c
          ∧ r.2.mem ((c.tc : Thread Cert.AdamKvKernelIdeal.nD Cert.AdamKvKernelIdeal.τ).loc Cert.AdamKvKernelIdeal.main_v0_2) = v2 c
          ∧ r.2.mem ((c.tc : Thread Cert.AdamKvKernelIdeal.nD Cert.AdamKvKernelIdeal.τ).loc Cert.AdamKvKernelIdeal.main_v0_3) = v3 c
          ∧ r.2.mem ((c.tc : Thread Cert.AdamKvKernelIdeal.nD Cert.AdamKvKernelIdeal.τ).loc Cert.AdamKvKernelIdeal.main_arg0) = m ((c.tc : Thread Cert.AdamKvKernelIdeal.nD Cert.AdamKvKernelIdeal.τ).loc Cert.AdamKvKernelIdeal.main_arg0)
          ∧ r.2.mem ((c.tc : Thread Cert.AdamKvKernelIdeal.nD Cert.AdamKvKernelIdeal.τ).loc Cert.AdamKvKernelIdeal.main_arg1) = m ((c.tc : Thread Cert.AdamKvKernelIdeal.nD Cert.AdamKvKernelIdeal.τ).loc Cert.AdamKvKernelIdeal.main_arg1)
          ∧ r.2.mem ((c.tc : Thread Cert.AdamKvKernelIdeal.nD Cert.AdamKvKernelIdeal.τ).loc Cert.AdamKvKernelIdeal.main_arg2) = m ((c.tc : Thread Cert.AdamKvKernelIdeal.nD Cert.AdamKvKernelIdeal.τ).loc Cert.AdamKvKernelIdeal.main_arg2)
          ∧ r.2.mem ((c.tc : Thread Cert.AdamKvKernelIdeal.nD Cert.AdamKvKernelIdeal.τ).loc Cert.AdamKvKernelIdeal.main_arg3) = m ((c.tc : Thread Cert.AdamKvKernelIdeal.nD Cert.AdamKvKernelIdeal.τ).loc Cert.AdamKvKernelIdeal.main_arg3)
          ∧ r.2.mem ((c.tc : Thread Cert.AdamKvKernelIdeal.nD Cert.AdamKvKernelIdeal.τ).loc Cert.AdamKvKernelIdeal.main_arg4) = m ((c.tc : Thread Cert.AdamKvKernelIdeal.nD Cert.AdamKvKernelIdeal.τ).loc Cert.AdamKvKernelIdeal.main_arg4)
          ∧ r.2.mem ((c.tc : Thread Cert.AdamKvKernelIdeal.nD Cert.AdamKvKernelIdeal.τ).loc Cert.AdamKvKernelIdeal.main_arg5) = m ((c.tc : Thread Cert.AdamKvKernelIdeal.nD Cert.AdamKvKernelIdeal.τ).loc Cert.AdamKvKernelIdeal.main_arg5))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v10) = v0 c
          ∧ r.2.mem ((c.tc : Thread Cert.AdamKvReferenceIdeal.nD Cert.AdamKvReferenceIdeal.τ).loc Cert.AdamKvReferenceIdeal.main_v34) = v1 c
          ∧ r.2.mem ((c.tc : Thread Cert.AdamKvReferenceIdeal.nD Cert.AdamKvReferenceIdeal.τ).loc Cert.AdamKvReferenceIdeal.main_v15) = v2 c
          ∧ r.2.mem ((c.tc : Thread Cert.AdamKvReferenceIdeal.nD Cert.AdamKvReferenceIdeal.τ).loc Cert.AdamKvReferenceIdeal.main_v21) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3)
          ∧ r.2.mem ((c.tc : Thread Cert.AdamKvReferenceIdeal.nD Cert.AdamKvReferenceIdeal.τ).loc Cert.AdamKvReferenceIdeal.main_arg4) = m' ((c.tc : Thread Cert.AdamKvReferenceIdeal.nD Cert.AdamKvReferenceIdeal.τ).loc Cert.AdamKvReferenceIdeal.main_arg4)
          ∧ r.2.mem ((c.tc : Thread Cert.AdamKvReferenceIdeal.nD Cert.AdamKvReferenceIdeal.τ).loc Cert.AdamKvReferenceIdeal.main_arg5) = m' ((c.tc : Thread Cert.AdamKvReferenceIdeal.nD Cert.AdamKvReferenceIdeal.τ).loc Cert.AdamKvReferenceIdeal.main_arg5))

def preserves_AdamFoKernel_AdamFoKernelIdeal : Prop :=
  True

def algebraic_AdamFoKernelIdeal_AdamFoReferenceIdeal [hAdamFoKernelIdeal : Cert.AdamFoKernelIdeal.Facts] [hAdamFoReferenceIdeal : Cert.AdamFoReferenceIdeal.Facts] [hPre_placed_fo : Cert.Pre_placed_fo.Facts] : Prop :=
  ∀ (m : (ℓ : Loc Cert.AdamFoKernelIdeal.nD Cert.AdamFoKernelIdeal.τ Cert.AdamFoKernelIdeal.sig) → Buf (Elt Ideal) ℓ) (g : Dev Cert.AdamFoKernelIdeal.nD → PrngReg)
    (m' : (ℓ : Loc Cert.AdamFoReferenceIdeal.nD Cert.AdamFoReferenceIdeal.τ Cert.AdamFoReferenceIdeal.sig) → Buf (Elt Ideal) ℓ) (g' : Dev Cert.AdamFoReferenceIdeal.nD → PrngReg), Pre_AdamFoKernelIdeal m →
    (∀ c : Dev Cert.AdamFoKernelIdeal.nD,
      m' ((c.tc : Thread Cert.AdamFoReferenceIdeal.nD Cert.AdamFoReferenceIdeal.τ).loc Cert.AdamFoReferenceIdeal.main_arg0) = m ((c.tc : Thread Cert.AdamFoKernelIdeal.nD Cert.AdamFoKernelIdeal.τ).loc Cert.AdamFoKernelIdeal.main_arg0)
      ∧ m' ((c.tc : Thread Cert.AdamFoReferenceIdeal.nD Cert.AdamFoReferenceIdeal.τ).loc Cert.AdamFoReferenceIdeal.main_arg1) = m ((c.tc : Thread Cert.AdamFoKernelIdeal.nD Cert.AdamFoKernelIdeal.τ).loc Cert.AdamFoKernelIdeal.main_arg1)
      ∧ m' ((c.tc : Thread Cert.AdamFoReferenceIdeal.nD Cert.AdamFoReferenceIdeal.τ).loc Cert.AdamFoReferenceIdeal.main_arg2) = m ((c.tc : Thread Cert.AdamFoKernelIdeal.nD Cert.AdamFoKernelIdeal.τ).loc Cert.AdamFoKernelIdeal.main_arg2)
      ∧ m' ((c.tc : Thread Cert.AdamFoReferenceIdeal.nD Cert.AdamFoReferenceIdeal.τ).loc Cert.AdamFoReferenceIdeal.main_arg3) = m ((c.tc : Thread Cert.AdamFoKernelIdeal.nD Cert.AdamFoKernelIdeal.τ).loc Cert.AdamFoKernelIdeal.main_arg3)
      ∧ m' ((c.tc : Thread Cert.AdamFoReferenceIdeal.nD Cert.AdamFoReferenceIdeal.τ).loc Cert.AdamFoReferenceIdeal.main_arg4) = m ((c.tc : Thread Cert.AdamFoKernelIdeal.nD Cert.AdamFoKernelIdeal.τ).loc Cert.AdamFoKernelIdeal.main_arg4)
      ∧ m' ((c.tc : Thread Cert.AdamFoReferenceIdeal.nD Cert.AdamFoReferenceIdeal.τ).loc Cert.AdamFoReferenceIdeal.main_arg5) = m ((c.tc : Thread Cert.AdamFoKernelIdeal.nD Cert.AdamFoKernelIdeal.τ).loc Cert.AdamFoKernelIdeal.main_arg5)
      ∧ m' ((c.tc : Thread Cert.AdamFoReferenceIdeal.nD Cert.AdamFoReferenceIdeal.τ).loc Cert.AdamFoReferenceIdeal.main_arg6) = m ((c.tc : Thread Cert.AdamFoKernelIdeal.nD Cert.AdamFoKernelIdeal.τ).loc Cert.AdamFoKernelIdeal.main_arg6)
      ∧ m' ((c.tc : Thread Cert.AdamFoReferenceIdeal.nD Cert.AdamFoReferenceIdeal.τ).loc Cert.AdamFoReferenceIdeal.main_arg7) = m ((c.tc : Thread Cert.AdamFoKernelIdeal.nD Cert.AdamFoKernelIdeal.τ).loc Cert.AdamFoKernelIdeal.main_arg7)) →
    ∃ (v0 : (c : Dev Cert.AdamFoKernelIdeal.nD) → Buf (Elt Ideal) ((c.tc : Thread Cert.AdamFoKernelIdeal.nD Cert.AdamFoKernelIdeal.τ).loc Cert.AdamFoKernelIdeal.main_v0_0)) (v1 : (c : Dev Cert.AdamFoKernelIdeal.nD) → Buf (Elt Ideal) ((c.tc : Thread Cert.AdamFoKernelIdeal.nD Cert.AdamFoKernelIdeal.τ).loc Cert.AdamFoKernelIdeal.main_v0_1)) (v2 : (c : Dev Cert.AdamFoKernelIdeal.nD) → Buf (Elt Ideal) ((c.tc : Thread Cert.AdamFoKernelIdeal.nD Cert.AdamFoKernelIdeal.τ).loc Cert.AdamFoKernelIdeal.main_v0_2)) (v3 : (c : Dev Cert.AdamFoKernelIdeal.nD) → Buf (Elt Ideal) ((c.tc : Thread Cert.AdamFoKernelIdeal.nD Cert.AdamFoKernelIdeal.τ).loc Cert.AdamFoKernelIdeal.main_v0_3)),
      θ_run (Cert.AdamFoKernelIdeal.defs (F := Ideal)) (onTc (τ := Cert.AdamFoKernelIdeal.τ) (Cert.AdamFoKernelIdeal.main (F := Ideal))) ⟨m, fun _ => 0, g⟩ (fun r => ∀ c : Dev Cert.AdamFoKernelIdeal.nD,
          r.2.mem ((c.tc : Thread Cert.AdamFoKernelIdeal.nD Cert.AdamFoKernelIdeal.τ).loc Cert.AdamFoKernelIdeal.main_v0_0) = v0 c
          ∧ r.2.mem ((c.tc : Thread Cert.AdamFoKernelIdeal.nD Cert.AdamFoKernelIdeal.τ).loc Cert.AdamFoKernelIdeal.main_v0_1) = v1 c
          ∧ r.2.mem ((c.tc : Thread Cert.AdamFoKernelIdeal.nD Cert.AdamFoKernelIdeal.τ).loc Cert.AdamFoKernelIdeal.main_v0_2) = v2 c
          ∧ r.2.mem ((c.tc : Thread Cert.AdamFoKernelIdeal.nD Cert.AdamFoKernelIdeal.τ).loc Cert.AdamFoKernelIdeal.main_v0_3) = v3 c
          ∧ r.2.mem ((c.tc : Thread Cert.AdamFoKernelIdeal.nD Cert.AdamFoKernelIdeal.τ).loc Cert.AdamFoKernelIdeal.main_arg0) = m ((c.tc : Thread Cert.AdamFoKernelIdeal.nD Cert.AdamFoKernelIdeal.τ).loc Cert.AdamFoKernelIdeal.main_arg0)
          ∧ r.2.mem ((c.tc : Thread Cert.AdamFoKernelIdeal.nD Cert.AdamFoKernelIdeal.τ).loc Cert.AdamFoKernelIdeal.main_arg1) = m ((c.tc : Thread Cert.AdamFoKernelIdeal.nD Cert.AdamFoKernelIdeal.τ).loc Cert.AdamFoKernelIdeal.main_arg1)
          ∧ r.2.mem ((c.tc : Thread Cert.AdamFoKernelIdeal.nD Cert.AdamFoKernelIdeal.τ).loc Cert.AdamFoKernelIdeal.main_arg2) = m ((c.tc : Thread Cert.AdamFoKernelIdeal.nD Cert.AdamFoKernelIdeal.τ).loc Cert.AdamFoKernelIdeal.main_arg2)
          ∧ r.2.mem ((c.tc : Thread Cert.AdamFoKernelIdeal.nD Cert.AdamFoKernelIdeal.τ).loc Cert.AdamFoKernelIdeal.main_arg3) = m ((c.tc : Thread Cert.AdamFoKernelIdeal.nD Cert.AdamFoKernelIdeal.τ).loc Cert.AdamFoKernelIdeal.main_arg3)
          ∧ r.2.mem ((c.tc : Thread Cert.AdamFoKernelIdeal.nD Cert.AdamFoKernelIdeal.τ).loc Cert.AdamFoKernelIdeal.main_arg4) = m ((c.tc : Thread Cert.AdamFoKernelIdeal.nD Cert.AdamFoKernelIdeal.τ).loc Cert.AdamFoKernelIdeal.main_arg4)
          ∧ r.2.mem ((c.tc : Thread Cert.AdamFoKernelIdeal.nD Cert.AdamFoKernelIdeal.τ).loc Cert.AdamFoKernelIdeal.main_arg5) = m ((c.tc : Thread Cert.AdamFoKernelIdeal.nD Cert.AdamFoKernelIdeal.τ).loc Cert.AdamFoKernelIdeal.main_arg5)
          ∧ r.2.mem ((c.tc : Thread Cert.AdamFoKernelIdeal.nD Cert.AdamFoKernelIdeal.τ).loc Cert.AdamFoKernelIdeal.main_arg6) = m ((c.tc : Thread Cert.AdamFoKernelIdeal.nD Cert.AdamFoKernelIdeal.τ).loc Cert.AdamFoKernelIdeal.main_arg6)
          ∧ r.2.mem ((c.tc : Thread Cert.AdamFoKernelIdeal.nD Cert.AdamFoKernelIdeal.τ).loc Cert.AdamFoKernelIdeal.main_arg7) = m ((c.tc : Thread Cert.AdamFoKernelIdeal.nD Cert.AdamFoKernelIdeal.τ).loc Cert.AdamFoKernelIdeal.main_arg7))
      ∧ θ_run (Cert.AdamFoReferenceIdeal.defs (F := Ideal)) (onTc (τ := Cert.AdamFoReferenceIdeal.τ) (Cert.AdamFoReferenceIdeal.main (F := Ideal))) ⟨m', fun _ => 0, g'⟩ (fun r => ∀ c : Dev Cert.AdamFoReferenceIdeal.nD,
          r.2.mem ((c.tc : Thread Cert.AdamFoReferenceIdeal.nD Cert.AdamFoReferenceIdeal.τ).loc Cert.AdamFoReferenceIdeal.main_v22) = v0 c
          ∧ r.2.mem ((c.tc : Thread Cert.AdamFoReferenceIdeal.nD Cert.AdamFoReferenceIdeal.τ).loc Cert.AdamFoReferenceIdeal.main_v46) = v1 c
          ∧ r.2.mem ((c.tc : Thread Cert.AdamFoReferenceIdeal.nD Cert.AdamFoReferenceIdeal.τ).loc Cert.AdamFoReferenceIdeal.main_v27) = v2 c
          ∧ r.2.mem ((c.tc : Thread Cert.AdamFoReferenceIdeal.nD Cert.AdamFoReferenceIdeal.τ).loc Cert.AdamFoReferenceIdeal.main_v33) = v3 c
          ∧ r.2.mem ((c.tc : Thread Cert.AdamFoReferenceIdeal.nD Cert.AdamFoReferenceIdeal.τ).loc Cert.AdamFoReferenceIdeal.main_arg0) = m' ((c.tc : Thread Cert.AdamFoReferenceIdeal.nD Cert.AdamFoReferenceIdeal.τ).loc Cert.AdamFoReferenceIdeal.main_arg0)
          ∧ r.2.mem ((c.tc : Thread Cert.AdamFoReferenceIdeal.nD Cert.AdamFoReferenceIdeal.τ).loc Cert.AdamFoReferenceIdeal.main_arg1) = m' ((c.tc : Thread Cert.AdamFoReferenceIdeal.nD Cert.AdamFoReferenceIdeal.τ).loc Cert.AdamFoReferenceIdeal.main_arg1)
          ∧ r.2.mem ((c.tc : Thread Cert.AdamFoReferenceIdeal.nD Cert.AdamFoReferenceIdeal.τ).loc Cert.AdamFoReferenceIdeal.main_arg2) = m' ((c.tc : Thread Cert.AdamFoReferenceIdeal.nD Cert.AdamFoReferenceIdeal.τ).loc Cert.AdamFoReferenceIdeal.main_arg2)
          ∧ r.2.mem ((c.tc : Thread Cert.AdamFoReferenceIdeal.nD Cert.AdamFoReferenceIdeal.τ).loc Cert.AdamFoReferenceIdeal.main_arg3) = m' ((c.tc : Thread Cert.AdamFoReferenceIdeal.nD Cert.AdamFoReferenceIdeal.τ).loc Cert.AdamFoReferenceIdeal.main_arg3)
          ∧ r.2.mem ((c.tc : Thread Cert.AdamFoReferenceIdeal.nD Cert.AdamFoReferenceIdeal.τ).loc Cert.AdamFoReferenceIdeal.main_arg4) = m' ((c.tc : Thread Cert.AdamFoReferenceIdeal.nD Cert.AdamFoReferenceIdeal.τ).loc Cert.AdamFoReferenceIdeal.main_arg4)
          ∧ r.2.mem ((c.tc : Thread Cert.AdamFoReferenceIdeal.nD Cert.AdamFoReferenceIdeal.τ).loc Cert.AdamFoReferenceIdeal.main_arg5) = m' ((c.tc : Thread Cert.AdamFoReferenceIdeal.nD Cert.AdamFoReferenceIdeal.τ).loc Cert.AdamFoReferenceIdeal.main_arg5)
          ∧ r.2.mem ((c.tc : Thread Cert.AdamFoReferenceIdeal.nD Cert.AdamFoReferenceIdeal.τ).loc Cert.AdamFoReferenceIdeal.main_arg6) = m' ((c.tc : Thread Cert.AdamFoReferenceIdeal.nD Cert.AdamFoReferenceIdeal.τ).loc Cert.AdamFoReferenceIdeal.main_arg6)
          ∧ r.2.mem ((c.tc : Thread Cert.AdamFoReferenceIdeal.nD Cert.AdamFoReferenceIdeal.τ).loc Cert.AdamFoReferenceIdeal.main_arg7) = m' ((c.tc : Thread Cert.AdamFoReferenceIdeal.nD Cert.AdamFoReferenceIdeal.τ).loc Cert.AdamFoReferenceIdeal.main_arg7))

def preserves_AdamFiKernel_AdamFiKernelIdeal : Prop :=
  True

def algebraic_AdamFiKernelIdeal_AdamFiReferenceIdeal [hAdamFiKernelIdeal : Cert.AdamFiKernelIdeal.Facts] [hAdamFiReferenceIdeal : Cert.AdamFiReferenceIdeal.Facts] [hPre_placed_fi : Cert.Pre_placed_fi.Facts] : Prop :=
  ∀ (m : (ℓ : Loc Cert.AdamFiKernelIdeal.nD Cert.AdamFiKernelIdeal.τ Cert.AdamFiKernelIdeal.sig) → Buf (Elt Ideal) ℓ) (g : Dev Cert.AdamFiKernelIdeal.nD → PrngReg)
    (m' : (ℓ : Loc Cert.AdamFiReferenceIdeal.nD Cert.AdamFiReferenceIdeal.τ Cert.AdamFiReferenceIdeal.sig) → Buf (Elt Ideal) ℓ) (g' : Dev Cert.AdamFiReferenceIdeal.nD → PrngReg), Pre_AdamFiKernelIdeal m →
    (∀ c : Dev Cert.AdamFiKernelIdeal.nD,
      m' ((c.tc : Thread Cert.AdamFiReferenceIdeal.nD Cert.AdamFiReferenceIdeal.τ).loc Cert.AdamFiReferenceIdeal.main_arg0) = m ((c.tc : Thread Cert.AdamFiKernelIdeal.nD Cert.AdamFiKernelIdeal.τ).loc Cert.AdamFiKernelIdeal.main_arg0)
      ∧ m' ((c.tc : Thread Cert.AdamFiReferenceIdeal.nD Cert.AdamFiReferenceIdeal.τ).loc Cert.AdamFiReferenceIdeal.main_arg1) = m ((c.tc : Thread Cert.AdamFiKernelIdeal.nD Cert.AdamFiKernelIdeal.τ).loc Cert.AdamFiKernelIdeal.main_arg1)
      ∧ m' ((c.tc : Thread Cert.AdamFiReferenceIdeal.nD Cert.AdamFiReferenceIdeal.τ).loc Cert.AdamFiReferenceIdeal.main_arg2) = m ((c.tc : Thread Cert.AdamFiKernelIdeal.nD Cert.AdamFiKernelIdeal.τ).loc Cert.AdamFiKernelIdeal.main_arg2)
      ∧ m' ((c.tc : Thread Cert.AdamFiReferenceIdeal.nD Cert.AdamFiReferenceIdeal.τ).loc Cert.AdamFiReferenceIdeal.main_arg3) = m ((c.tc : Thread Cert.AdamFiKernelIdeal.nD Cert.AdamFiKernelIdeal.τ).loc Cert.AdamFiKernelIdeal.main_arg3)
      ∧ m' ((c.tc : Thread Cert.AdamFiReferenceIdeal.nD Cert.AdamFiReferenceIdeal.τ).loc Cert.AdamFiReferenceIdeal.main_arg4) = m ((c.tc : Thread Cert.AdamFiKernelIdeal.nD Cert.AdamFiKernelIdeal.τ).loc Cert.AdamFiKernelIdeal.main_arg4)
      ∧ m' ((c.tc : Thread Cert.AdamFiReferenceIdeal.nD Cert.AdamFiReferenceIdeal.τ).loc Cert.AdamFiReferenceIdeal.main_arg5) = m ((c.tc : Thread Cert.AdamFiKernelIdeal.nD Cert.AdamFiKernelIdeal.τ).loc Cert.AdamFiKernelIdeal.main_arg5)
      ∧ m' ((c.tc : Thread Cert.AdamFiReferenceIdeal.nD Cert.AdamFiReferenceIdeal.τ).loc Cert.AdamFiReferenceIdeal.main_arg6) = m ((c.tc : Thread Cert.AdamFiKernelIdeal.nD Cert.AdamFiKernelIdeal.τ).loc Cert.AdamFiKernelIdeal.main_arg6)
      ∧ m' ((c.tc : Thread Cert.AdamFiReferenceIdeal.nD Cert.AdamFiReferenceIdeal.τ).loc Cert.AdamFiReferenceIdeal.main_arg7) = m ((c.tc : Thread Cert.AdamFiKernelIdeal.nD Cert.AdamFiKernelIdeal.τ).loc Cert.AdamFiKernelIdeal.main_arg7)) →
    ∃ (v0 : (c : Dev Cert.AdamFiKernelIdeal.nD) → Buf (Elt Ideal) ((c.tc : Thread Cert.AdamFiKernelIdeal.nD Cert.AdamFiKernelIdeal.τ).loc Cert.AdamFiKernelIdeal.main_v0_0)) (v1 : (c : Dev Cert.AdamFiKernelIdeal.nD) → Buf (Elt Ideal) ((c.tc : Thread Cert.AdamFiKernelIdeal.nD Cert.AdamFiKernelIdeal.τ).loc Cert.AdamFiKernelIdeal.main_v0_1)) (v2 : (c : Dev Cert.AdamFiKernelIdeal.nD) → Buf (Elt Ideal) ((c.tc : Thread Cert.AdamFiKernelIdeal.nD Cert.AdamFiKernelIdeal.τ).loc Cert.AdamFiKernelIdeal.main_v0_2)) (v3 : (c : Dev Cert.AdamFiKernelIdeal.nD) → Buf (Elt Ideal) ((c.tc : Thread Cert.AdamFiKernelIdeal.nD Cert.AdamFiKernelIdeal.τ).loc Cert.AdamFiKernelIdeal.main_v0_3)),
      θ_run (Cert.AdamFiKernelIdeal.defs (F := Ideal)) (onTc (τ := Cert.AdamFiKernelIdeal.τ) (Cert.AdamFiKernelIdeal.main (F := Ideal))) ⟨m, fun _ => 0, g⟩ (fun r => ∀ c : Dev Cert.AdamFiKernelIdeal.nD,
          r.2.mem ((c.tc : Thread Cert.AdamFiKernelIdeal.nD Cert.AdamFiKernelIdeal.τ).loc Cert.AdamFiKernelIdeal.main_v0_0) = v0 c
          ∧ r.2.mem ((c.tc : Thread Cert.AdamFiKernelIdeal.nD Cert.AdamFiKernelIdeal.τ).loc Cert.AdamFiKernelIdeal.main_v0_1) = v1 c
          ∧ r.2.mem ((c.tc : Thread Cert.AdamFiKernelIdeal.nD Cert.AdamFiKernelIdeal.τ).loc Cert.AdamFiKernelIdeal.main_v0_2) = v2 c
          ∧ r.2.mem ((c.tc : Thread Cert.AdamFiKernelIdeal.nD Cert.AdamFiKernelIdeal.τ).loc Cert.AdamFiKernelIdeal.main_v0_3) = v3 c
          ∧ r.2.mem ((c.tc : Thread Cert.AdamFiKernelIdeal.nD Cert.AdamFiKernelIdeal.τ).loc Cert.AdamFiKernelIdeal.main_arg0) = m ((c.tc : Thread Cert.AdamFiKernelIdeal.nD Cert.AdamFiKernelIdeal.τ).loc Cert.AdamFiKernelIdeal.main_arg0)
          ∧ r.2.mem ((c.tc : Thread Cert.AdamFiKernelIdeal.nD Cert.AdamFiKernelIdeal.τ).loc Cert.AdamFiKernelIdeal.main_arg1) = m ((c.tc : Thread Cert.AdamFiKernelIdeal.nD Cert.AdamFiKernelIdeal.τ).loc Cert.AdamFiKernelIdeal.main_arg1)
          ∧ r.2.mem ((c.tc : Thread Cert.AdamFiKernelIdeal.nD Cert.AdamFiKernelIdeal.τ).loc Cert.AdamFiKernelIdeal.main_arg2) = m ((c.tc : Thread Cert.AdamFiKernelIdeal.nD Cert.AdamFiKernelIdeal.τ).loc Cert.AdamFiKernelIdeal.main_arg2)
          ∧ r.2.mem ((c.tc : Thread Cert.AdamFiKernelIdeal.nD Cert.AdamFiKernelIdeal.τ).loc Cert.AdamFiKernelIdeal.main_arg3) = m ((c.tc : Thread Cert.AdamFiKernelIdeal.nD Cert.AdamFiKernelIdeal.τ).loc Cert.AdamFiKernelIdeal.main_arg3)
          ∧ r.2.mem ((c.tc : Thread Cert.AdamFiKernelIdeal.nD Cert.AdamFiKernelIdeal.τ).loc Cert.AdamFiKernelIdeal.main_arg4) = m ((c.tc : Thread Cert.AdamFiKernelIdeal.nD Cert.AdamFiKernelIdeal.τ).loc Cert.AdamFiKernelIdeal.main_arg4)
          ∧ r.2.mem ((c.tc : Thread Cert.AdamFiKernelIdeal.nD Cert.AdamFiKernelIdeal.τ).loc Cert.AdamFiKernelIdeal.main_arg5) = m ((c.tc : Thread Cert.AdamFiKernelIdeal.nD Cert.AdamFiKernelIdeal.τ).loc Cert.AdamFiKernelIdeal.main_arg5)
          ∧ r.2.mem ((c.tc : Thread Cert.AdamFiKernelIdeal.nD Cert.AdamFiKernelIdeal.τ).loc Cert.AdamFiKernelIdeal.main_arg6) = m ((c.tc : Thread Cert.AdamFiKernelIdeal.nD Cert.AdamFiKernelIdeal.τ).loc Cert.AdamFiKernelIdeal.main_arg6)
          ∧ r.2.mem ((c.tc : Thread Cert.AdamFiKernelIdeal.nD Cert.AdamFiKernelIdeal.τ).loc Cert.AdamFiKernelIdeal.main_arg7) = m ((c.tc : Thread Cert.AdamFiKernelIdeal.nD Cert.AdamFiKernelIdeal.τ).loc Cert.AdamFiKernelIdeal.main_arg7))
      ∧ θ_run (Cert.AdamFiReferenceIdeal.defs (F := Ideal)) (onTc (τ := Cert.AdamFiReferenceIdeal.τ) (Cert.AdamFiReferenceIdeal.main (F := Ideal))) ⟨m', fun _ => 0, g'⟩ (fun r => ∀ c : Dev Cert.AdamFiReferenceIdeal.nD,
          r.2.mem ((c.tc : Thread Cert.AdamFiReferenceIdeal.nD Cert.AdamFiReferenceIdeal.τ).loc Cert.AdamFiReferenceIdeal.main_v22) = v0 c
          ∧ r.2.mem ((c.tc : Thread Cert.AdamFiReferenceIdeal.nD Cert.AdamFiReferenceIdeal.τ).loc Cert.AdamFiReferenceIdeal.main_v46) = v1 c
          ∧ r.2.mem ((c.tc : Thread Cert.AdamFiReferenceIdeal.nD Cert.AdamFiReferenceIdeal.τ).loc Cert.AdamFiReferenceIdeal.main_v27) = v2 c
          ∧ r.2.mem ((c.tc : Thread Cert.AdamFiReferenceIdeal.nD Cert.AdamFiReferenceIdeal.τ).loc Cert.AdamFiReferenceIdeal.main_v33) = v3 c
          ∧ r.2.mem ((c.tc : Thread Cert.AdamFiReferenceIdeal.nD Cert.AdamFiReferenceIdeal.τ).loc Cert.AdamFiReferenceIdeal.main_arg0) = m' ((c.tc : Thread Cert.AdamFiReferenceIdeal.nD Cert.AdamFiReferenceIdeal.τ).loc Cert.AdamFiReferenceIdeal.main_arg0)
          ∧ r.2.mem ((c.tc : Thread Cert.AdamFiReferenceIdeal.nD Cert.AdamFiReferenceIdeal.τ).loc Cert.AdamFiReferenceIdeal.main_arg1) = m' ((c.tc : Thread Cert.AdamFiReferenceIdeal.nD Cert.AdamFiReferenceIdeal.τ).loc Cert.AdamFiReferenceIdeal.main_arg1)
          ∧ r.2.mem ((c.tc : Thread Cert.AdamFiReferenceIdeal.nD Cert.AdamFiReferenceIdeal.τ).loc Cert.AdamFiReferenceIdeal.main_arg2) = m' ((c.tc : Thread Cert.AdamFiReferenceIdeal.nD Cert.AdamFiReferenceIdeal.τ).loc Cert.AdamFiReferenceIdeal.main_arg2)
          ∧ r.2.mem ((c.tc : Thread Cert.AdamFiReferenceIdeal.nD Cert.AdamFiReferenceIdeal.τ).loc Cert.AdamFiReferenceIdeal.main_arg3) = m' ((c.tc : Thread Cert.AdamFiReferenceIdeal.nD Cert.AdamFiReferenceIdeal.τ).loc Cert.AdamFiReferenceIdeal.main_arg3)
          ∧ r.2.mem ((c.tc : Thread Cert.AdamFiReferenceIdeal.nD Cert.AdamFiReferenceIdeal.τ).loc Cert.AdamFiReferenceIdeal.main_arg4) = m' ((c.tc : Thread Cert.AdamFiReferenceIdeal.nD Cert.AdamFiReferenceIdeal.τ).loc Cert.AdamFiReferenceIdeal.main_arg4)
          ∧ r.2.mem ((c.tc : Thread Cert.AdamFiReferenceIdeal.nD Cert.AdamFiReferenceIdeal.τ).loc Cert.AdamFiReferenceIdeal.main_arg5) = m' ((c.tc : Thread Cert.AdamFiReferenceIdeal.nD Cert.AdamFiReferenceIdeal.τ).loc Cert.AdamFiReferenceIdeal.main_arg5)
          ∧ r.2.mem ((c.tc : Thread Cert.AdamFiReferenceIdeal.nD Cert.AdamFiReferenceIdeal.τ).loc Cert.AdamFiReferenceIdeal.main_arg6) = m' ((c.tc : Thread Cert.AdamFiReferenceIdeal.nD Cert.AdamFiReferenceIdeal.τ).loc Cert.AdamFiReferenceIdeal.main_arg6)
          ∧ r.2.mem ((c.tc : Thread Cert.AdamFiReferenceIdeal.nD Cert.AdamFiReferenceIdeal.τ).loc Cert.AdamFiReferenceIdeal.main_arg7) = m' ((c.tc : Thread Cert.AdamFiReferenceIdeal.nD Cert.AdamFiReferenceIdeal.τ).loc Cert.AdamFiReferenceIdeal.main_arg7))

def preserves_ForgetDwKernel_ForgetDwKernelIdeal : Prop :=
  True

def algebraic_ForgetDwKernelIdeal_ForgetDwReferenceIdeal [hForgetDwKernelIdeal : Cert.ForgetDwKernelIdeal.Facts] [hForgetDwReferenceIdeal : Cert.ForgetDwReferenceIdeal.Facts] : Prop :=
  ∀ (m : (ℓ : Loc Cert.ForgetDwKernelIdeal.nD Cert.ForgetDwKernelIdeal.τ Cert.ForgetDwKernelIdeal.sig) → Buf (Elt Ideal) ℓ) (g : Dev Cert.ForgetDwKernelIdeal.nD → PrngReg)
    (m' : (ℓ : Loc Cert.ForgetDwReferenceIdeal.nD Cert.ForgetDwReferenceIdeal.τ Cert.ForgetDwReferenceIdeal.sig) → Buf (Elt Ideal) ℓ) (g' : Dev Cert.ForgetDwReferenceIdeal.nD → PrngReg), Pre_ForgetDwKernelIdeal m →
    (∀ c : Dev Cert.ForgetDwKernelIdeal.nD,
      m' ((c.tc : Thread Cert.ForgetDwReferenceIdeal.nD Cert.ForgetDwReferenceIdeal.τ).loc Cert.ForgetDwReferenceIdeal.main_arg0) = m ((c.tc : Thread Cert.ForgetDwKernelIdeal.nD Cert.ForgetDwKernelIdeal.τ).loc Cert.ForgetDwKernelIdeal.main_arg0)
      ∧ m' ((c.tc : Thread Cert.ForgetDwReferenceIdeal.nD Cert.ForgetDwReferenceIdeal.τ).loc Cert.ForgetDwReferenceIdeal.main_arg1) = m ((c.tc : Thread Cert.ForgetDwKernelIdeal.nD Cert.ForgetDwKernelIdeal.τ).loc Cert.ForgetDwKernelIdeal.main_arg1)
      ∧ m' ((c.tc : Thread Cert.ForgetDwReferenceIdeal.nD Cert.ForgetDwReferenceIdeal.τ).loc Cert.ForgetDwReferenceIdeal.main_arg2) = m ((c.tc : Thread Cert.ForgetDwKernelIdeal.nD Cert.ForgetDwKernelIdeal.τ).loc Cert.ForgetDwKernelIdeal.main_arg2)) →
    ∃ (v0 : (c : Dev Cert.ForgetDwKernelIdeal.nD) → Buf (Elt Ideal) ((c.tc : Thread Cert.ForgetDwKernelIdeal.nD Cert.ForgetDwKernelIdeal.τ).loc Cert.ForgetDwKernelIdeal.main_v16)),
      θ_run (Cert.ForgetDwKernelIdeal.defs (F := Ideal)) (onTc (τ := Cert.ForgetDwKernelIdeal.τ) (Cert.ForgetDwKernelIdeal.main (F := Ideal))) ⟨m, fun _ => 0, g⟩ (fun r => ∀ c : Dev Cert.ForgetDwKernelIdeal.nD,
          r.2.mem ((c.tc : Thread Cert.ForgetDwKernelIdeal.nD Cert.ForgetDwKernelIdeal.τ).loc Cert.ForgetDwKernelIdeal.main_v16) = v0 c
          ∧ r.2.mem ((c.tc : Thread Cert.ForgetDwKernelIdeal.nD Cert.ForgetDwKernelIdeal.τ).loc Cert.ForgetDwKernelIdeal.main_arg0) = m ((c.tc : Thread Cert.ForgetDwKernelIdeal.nD Cert.ForgetDwKernelIdeal.τ).loc Cert.ForgetDwKernelIdeal.main_arg0)
          ∧ r.2.mem ((c.tc : Thread Cert.ForgetDwKernelIdeal.nD Cert.ForgetDwKernelIdeal.τ).loc Cert.ForgetDwKernelIdeal.main_arg1) = m ((c.tc : Thread Cert.ForgetDwKernelIdeal.nD Cert.ForgetDwKernelIdeal.τ).loc Cert.ForgetDwKernelIdeal.main_arg1)
          ∧ r.2.mem ((c.tc : Thread Cert.ForgetDwKernelIdeal.nD Cert.ForgetDwKernelIdeal.τ).loc Cert.ForgetDwKernelIdeal.main_arg2) = m ((c.tc : Thread Cert.ForgetDwKernelIdeal.nD Cert.ForgetDwKernelIdeal.τ).loc Cert.ForgetDwKernelIdeal.main_arg2))
      ∧ θ_run (Cert.ForgetDwReferenceIdeal.defs (F := Ideal)) (onTc (τ := Cert.ForgetDwReferenceIdeal.τ) (Cert.ForgetDwReferenceIdeal.main (F := Ideal))) ⟨m', fun _ => 0, g'⟩ (fun r => ∀ c : Dev Cert.ForgetDwReferenceIdeal.nD,
          r.2.mem ((c.tc : Thread Cert.ForgetDwReferenceIdeal.nD Cert.ForgetDwReferenceIdeal.τ).loc Cert.ForgetDwReferenceIdeal.main_v19) = v0 c
          ∧ r.2.mem ((c.tc : Thread Cert.ForgetDwReferenceIdeal.nD Cert.ForgetDwReferenceIdeal.τ).loc Cert.ForgetDwReferenceIdeal.main_arg0) = m' ((c.tc : Thread Cert.ForgetDwReferenceIdeal.nD Cert.ForgetDwReferenceIdeal.τ).loc Cert.ForgetDwReferenceIdeal.main_arg0)
          ∧ r.2.mem ((c.tc : Thread Cert.ForgetDwReferenceIdeal.nD Cert.ForgetDwReferenceIdeal.τ).loc Cert.ForgetDwReferenceIdeal.main_arg1) = m' ((c.tc : Thread Cert.ForgetDwReferenceIdeal.nD Cert.ForgetDwReferenceIdeal.τ).loc Cert.ForgetDwReferenceIdeal.main_arg1)
          ∧ r.2.mem ((c.tc : Thread Cert.ForgetDwReferenceIdeal.nD Cert.ForgetDwReferenceIdeal.τ).loc Cert.ForgetDwReferenceIdeal.main_arg2) = m' ((c.tc : Thread Cert.ForgetDwReferenceIdeal.nD Cert.ForgetDwReferenceIdeal.τ).loc Cert.ForgetDwReferenceIdeal.main_arg2))

def Claim : Prop :=
  ∃ (hConvKernel : Cert.ConvKernel.Facts) (hConvKernelIdeal : Cert.ConvKernelIdeal.Facts) (hConvReferenceIdeal : Cert.ConvReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hBwdOutKernel : Cert.BwdOutKernel.Facts) (hBwdOutKernelIdeal : Cert.BwdOutKernelIdeal.Facts) (hBwdOutReferenceIdeal : Cert.BwdOutReferenceIdeal.Facts) (hBwdInKernel : Cert.BwdInKernel.Facts) (hBwdInKernelIdeal : Cert.BwdInKernelIdeal.Facts) (hBwdInReferenceIdeal : Cert.BwdInReferenceIdeal.Facts) (hDwOutKernel : Cert.DwOutKernel.Facts) (hDwOutKernelIdeal : Cert.DwOutKernelIdeal.Facts) (hDwOutReferenceIdeal : Cert.DwOutReferenceIdeal.Facts) (hDwInKernel : Cert.DwInKernel.Facts) (hDwInKernelIdeal : Cert.DwInKernelIdeal.Facts) (hDwInReferenceIdeal : Cert.DwInReferenceIdeal.Facts) (hConvInKernel : Cert.ConvInKernel.Facts) (hConvInKernelIdeal : Cert.ConvInKernelIdeal.Facts) (hConvInReferenceIdeal : Cert.ConvInReferenceIdeal.Facts) (hQgInKernel : Cert.QgInKernel.Facts) (hQgInKernelIdeal : Cert.QgInKernelIdeal.Facts) (hQgInReferenceIdeal : Cert.QgInReferenceIdeal.Facts) (hKvInKernel : Cert.KvInKernel.Facts) (hKvInKernelIdeal : Cert.KvInKernelIdeal.Facts) (hKvInReferenceIdeal : Cert.KvInReferenceIdeal.Facts) (hConvBwdInKernel : Cert.ConvBwdInKernel.Facts) (hConvBwdInKernelIdeal : Cert.ConvBwdInKernelIdeal.Facts) (hConvBwdInReferenceIdeal : Cert.ConvBwdInReferenceIdeal.Facts) (hQgBwdInKernel : Cert.QgBwdInKernel.Facts) (hQgBwdInKernelIdeal : Cert.QgBwdInKernelIdeal.Facts) (hQgBwdInReferenceIdeal : Cert.QgBwdInReferenceIdeal.Facts) (hKvBwdInKernel : Cert.KvBwdInKernel.Facts) (hKvBwdInKernelIdeal : Cert.KvBwdInKernelIdeal.Facts) (hKvBwdInReferenceIdeal : Cert.KvBwdInReferenceIdeal.Facts) (hConvDwKernel : Cert.ConvDwKernel.Facts) (hConvDwKernelIdeal : Cert.ConvDwKernelIdeal.Facts) (hConvDwReferenceIdeal : Cert.ConvDwReferenceIdeal.Facts) (hQgDwKernel : Cert.QgDwKernel.Facts) (hQgDwKernelIdeal : Cert.QgDwKernelIdeal.Facts) (hQgDwReferenceIdeal : Cert.QgDwReferenceIdeal.Facts) (hMixBwdKernel : Cert.MixBwdKernel.Facts) (hMixBwdKernelIdeal : Cert.MixBwdKernelIdeal.Facts) (hMixBwdReferenceIdeal : Cert.MixBwdReferenceIdeal.Facts) (hMixDwKernel : Cert.MixDwKernel.Facts) (hMixDwKernelIdeal : Cert.MixDwKernelIdeal.Facts) (hMixDwReferenceIdeal : Cert.MixDwReferenceIdeal.Facts) (hGateOutKernel : Cert.GateOutKernel.Facts) (hGateOutKernelIdeal : Cert.GateOutKernelIdeal.Facts) (hGateOutReferenceIdeal : Cert.GateOutReferenceIdeal.Facts) (hConvOutKernel : Cert.ConvOutKernel.Facts) (hConvOutKernelIdeal : Cert.ConvOutKernelIdeal.Facts) (hConvOutReferenceIdeal : Cert.ConvOutReferenceIdeal.Facts) (hLossOutKernel : Cert.LossOutKernel.Facts) (hLossOutKernelIdeal : Cert.LossOutKernelIdeal.Facts) (hLossOutReferenceIdeal : Cert.LossOutReferenceIdeal.Facts) (hAdamOwKernel : Cert.AdamOwKernel.Facts) (hAdamOwKernelIdeal : Cert.AdamOwKernelIdeal.Facts) (hAdamOwReferenceIdeal : Cert.AdamOwReferenceIdeal.Facts) (hAdamCiKernel : Cert.AdamCiKernel.Facts) (hAdamCiKernelIdeal : Cert.AdamCiKernelIdeal.Facts) (hAdamCiReferenceIdeal : Cert.AdamCiReferenceIdeal.Facts) (hAdamQgKernel : Cert.AdamQgKernel.Facts) (hAdamQgKernelIdeal : Cert.AdamQgKernelIdeal.Facts) (hAdamQgReferenceIdeal : Cert.AdamQgReferenceIdeal.Facts) (hAdamKvKernel : Cert.AdamKvKernel.Facts) (hAdamKvKernelIdeal : Cert.AdamKvKernelIdeal.Facts) (hAdamKvReferenceIdeal : Cert.AdamKvReferenceIdeal.Facts) (hAdamFoKernel : Cert.AdamFoKernel.Facts) (hAdamFoKernelIdeal : Cert.AdamFoKernelIdeal.Facts) (hAdamFoReferenceIdeal : Cert.AdamFoReferenceIdeal.Facts) (hAdamFiKernel : Cert.AdamFiKernel.Facts) (hAdamFiKernelIdeal : Cert.AdamFiKernelIdeal.Facts) (hAdamFiReferenceIdeal : Cert.AdamFiReferenceIdeal.Facts) (hForgetDwKernel : Cert.ForgetDwKernel.Facts) (hForgetDwKernelIdeal : Cert.ForgetDwKernelIdeal.Facts) (hForgetDwReferenceIdeal : Cert.ForgetDwReferenceIdeal.Facts) (hPre_finite : Cert.Pre_finite.Facts) (hPre_placed_ow : Cert.Pre_placed_ow.Facts) (hPre_placed_ci : Cert.Pre_placed_ci.Facts) (hPre_placed_qg : Cert.Pre_placed_qg.Facts) (hPre_placed_kv : Cert.Pre_placed_kv.Facts) (hPre_placed_fo : Cert.Pre_placed_fo.Facts) (hPre_placed_fi : Cert.Pre_placed_fi.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_BwdOutKernel (hBwdOutKernel := hBwdOutKernel)
    ∧ quiescent_BwdOutKernelIdeal (hBwdOutKernelIdeal := hBwdOutKernelIdeal)
    ∧ quiescent_BwdOutKernelIdeal_pre_finite (hBwdOutKernelIdeal := hBwdOutKernelIdeal) (hPre_finite := hPre_finite)
    ∧ quiescent_BwdOutReferenceIdeal (hBwdOutReferenceIdeal := hBwdOutReferenceIdeal)
    ∧ quiescent_BwdOutReferenceIdeal_pre_finite (hBwdOutReferenceIdeal := hBwdOutReferenceIdeal) (hPre_finite := hPre_finite)
    ∧ quiescent_BwdInKernel (hBwdInKernel := hBwdInKernel)
    ∧ quiescent_BwdInKernelIdeal (hBwdInKernelIdeal := hBwdInKernelIdeal)
    ∧ quiescent_BwdInReferenceIdeal (hBwdInReferenceIdeal := hBwdInReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_DwInKernel (hDwInKernel := hDwInKernel)
    ∧ quiescent_DwInKernelIdeal (hDwInKernelIdeal := hDwInKernelIdeal)
    ∧ quiescent_DwInReferenceIdeal (hDwInReferenceIdeal := hDwInReferenceIdeal)
    ∧ quiescent_ConvInKernel (hConvInKernel := hConvInKernel)
    ∧ quiescent_ConvInKernelIdeal (hConvInKernelIdeal := hConvInKernelIdeal)
    ∧ quiescent_ConvInReferenceIdeal (hConvInReferenceIdeal := hConvInReferenceIdeal)
    ∧ quiescent_QgInKernel (hQgInKernel := hQgInKernel)
    ∧ quiescent_QgInKernelIdeal (hQgInKernelIdeal := hQgInKernelIdeal)
    ∧ quiescent_QgInReferenceIdeal (hQgInReferenceIdeal := hQgInReferenceIdeal)
    ∧ quiescent_KvInKernel (hKvInKernel := hKvInKernel)
    ∧ quiescent_KvInKernelIdeal (hKvInKernelIdeal := hKvInKernelIdeal)
    ∧ quiescent_KvInReferenceIdeal (hKvInReferenceIdeal := hKvInReferenceIdeal)
    ∧ quiescent_ConvBwdInKernel (hConvBwdInKernel := hConvBwdInKernel)
    ∧ quiescent_ConvBwdInKernelIdeal (hConvBwdInKernelIdeal := hConvBwdInKernelIdeal)
    ∧ quiescent_ConvBwdInReferenceIdeal (hConvBwdInReferenceIdeal := hConvBwdInReferenceIdeal)
    ∧ quiescent_QgBwdInKernel (hQgBwdInKernel := hQgBwdInKernel)
    ∧ quiescent_QgBwdInKernelIdeal (hQgBwdInKernelIdeal := hQgBwdInKernelIdeal)
    ∧ quiescent_QgBwdInReferenceIdeal (hQgBwdInReferenceIdeal := hQgBwdInReferenceIdeal)
    ∧ quiescent_KvBwdInKernel (hKvBwdInKernel := hKvBwdInKernel)
    ∧ quiescent_KvBwdInKernelIdeal (hKvBwdInKernelIdeal := hKvBwdInKernelIdeal)
    ∧ quiescent_KvBwdInReferenceIdeal (hKvBwdInReferenceIdeal := hKvBwdInReferenceIdeal)
    ∧ quiescent_ConvDwKernel (hConvDwKernel := hConvDwKernel)
    ∧ quiescent_ConvDwKernelIdeal (hConvDwKernelIdeal := hConvDwKernelIdeal)
    ∧ quiescent_ConvDwReferenceIdeal (hConvDwReferenceIdeal := hConvDwReferenceIdeal)
    ∧ quiescent_QgDwKernel (hQgDwKernel := hQgDwKernel)
    ∧ quiescent_QgDwKernelIdeal (hQgDwKernelIdeal := hQgDwKernelIdeal)
    ∧ quiescent_QgDwReferenceIdeal (hQgDwReferenceIdeal := hQgDwReferenceIdeal)
    ∧ quiescent_MixBwdKernel (hMixBwdKernel := hMixBwdKernel)
    ∧ quiescent_MixBwdKernelIdeal (hMixBwdKernelIdeal := hMixBwdKernelIdeal)
    ∧ quiescent_MixBwdReferenceIdeal (hMixBwdReferenceIdeal := hMixBwdReferenceIdeal)
    ∧ quiescent_MixDwKernel (hMixDwKernel := hMixDwKernel)
    ∧ quiescent_MixDwKernelIdeal (hMixDwKernelIdeal := hMixDwKernelIdeal)
    ∧ quiescent_MixDwReferenceIdeal (hMixDwReferenceIdeal := hMixDwReferenceIdeal)
    ∧ quiescent_GateOutKernel (hGateOutKernel := hGateOutKernel)
    ∧ quiescent_GateOutKernelIdeal (hGateOutKernelIdeal := hGateOutKernelIdeal)
    ∧ quiescent_GateOutReferenceIdeal (hGateOutReferenceIdeal := hGateOutReferenceIdeal)
    ∧ quiescent_ConvOutKernel (hConvOutKernel := hConvOutKernel)
    ∧ quiescent_ConvOutKernelIdeal (hConvOutKernelIdeal := hConvOutKernelIdeal)
    ∧ quiescent_ConvOutReferenceIdeal (hConvOutReferenceIdeal := hConvOutReferenceIdeal)
    ∧ quiescent_LossOutKernel (hLossOutKernel := hLossOutKernel)
    ∧ quiescent_LossOutKernelIdeal (hLossOutKernelIdeal := hLossOutKernelIdeal)
    ∧ quiescent_LossOutReferenceIdeal (hLossOutReferenceIdeal := hLossOutReferenceIdeal)
    ∧ quiescent_AdamOwKernel (hAdamOwKernel := hAdamOwKernel) (hPre_placed_ow := hPre_placed_ow)
    ∧ quiescent_AdamOwKernelIdeal (hAdamOwKernelIdeal := hAdamOwKernelIdeal) (hPre_placed_ow := hPre_placed_ow)
    ∧ quiescent_AdamOwReferenceIdeal (hAdamOwReferenceIdeal := hAdamOwReferenceIdeal)
    ∧ quiescent_AdamOwReferenceIdeal_pre_placed_ow (hAdamOwReferenceIdeal := hAdamOwReferenceIdeal) (hPre_placed_ow := hPre_placed_ow)
    ∧ quiescent_AdamCiKernel (hAdamCiKernel := hAdamCiKernel) (hPre_placed_ci := hPre_placed_ci)
    ∧ quiescent_AdamCiKernelIdeal (hAdamCiKernelIdeal := hAdamCiKernelIdeal) (hPre_placed_ci := hPre_placed_ci)
    ∧ quiescent_AdamCiReferenceIdeal (hAdamCiReferenceIdeal := hAdamCiReferenceIdeal)
    ∧ quiescent_AdamCiReferenceIdeal_pre_placed_ci (hAdamCiReferenceIdeal := hAdamCiReferenceIdeal) (hPre_placed_ci := hPre_placed_ci)
    ∧ quiescent_AdamQgKernel (hAdamQgKernel := hAdamQgKernel) (hPre_placed_qg := hPre_placed_qg)
    ∧ quiescent_AdamQgKernelIdeal (hAdamQgKernelIdeal := hAdamQgKernelIdeal) (hPre_placed_qg := hPre_placed_qg)
    ∧ quiescent_AdamQgReferenceIdeal (hAdamQgReferenceIdeal := hAdamQgReferenceIdeal)
    ∧ quiescent_AdamQgReferenceIdeal_pre_placed_qg (hAdamQgReferenceIdeal := hAdamQgReferenceIdeal) (hPre_placed_qg := hPre_placed_qg)
    ∧ quiescent_AdamKvKernel (hAdamKvKernel := hAdamKvKernel) (hPre_placed_kv := hPre_placed_kv)
    ∧ quiescent_AdamKvKernelIdeal (hAdamKvKernelIdeal := hAdamKvKernelIdeal) (hPre_placed_kv := hPre_placed_kv)
    ∧ quiescent_AdamKvReferenceIdeal (hAdamKvReferenceIdeal := hAdamKvReferenceIdeal)
    ∧ quiescent_AdamKvReferenceIdeal_pre_placed_kv (hAdamKvReferenceIdeal := hAdamKvReferenceIdeal) (hPre_placed_kv := hPre_placed_kv)
    ∧ quiescent_AdamFoKernel (hAdamFoKernel := hAdamFoKernel) (hPre_placed_fo := hPre_placed_fo)
    ∧ quiescent_AdamFoKernelIdeal (hAdamFoKernelIdeal := hAdamFoKernelIdeal) (hPre_placed_fo := hPre_placed_fo)
    ∧ quiescent_AdamFoReferenceIdeal (hAdamFoReferenceIdeal := hAdamFoReferenceIdeal)
    ∧ quiescent_AdamFoReferenceIdeal_pre_placed_fo (hAdamFoReferenceIdeal := hAdamFoReferenceIdeal) (hPre_placed_fo := hPre_placed_fo)
    ∧ quiescent_AdamFiKernel (hAdamFiKernel := hAdamFiKernel) (hPre_placed_fi := hPre_placed_fi)
    ∧ quiescent_AdamFiKernelIdeal (hAdamFiKernelIdeal := hAdamFiKernelIdeal) (hPre_placed_fi := hPre_placed_fi)
    ∧ quiescent_AdamFiReferenceIdeal (hAdamFiReferenceIdeal := hAdamFiReferenceIdeal)
    ∧ quiescent_AdamFiReferenceIdeal_pre_placed_fi (hAdamFiReferenceIdeal := hAdamFiReferenceIdeal) (hPre_placed_fi := hPre_placed_fi)
    ∧ quiescent_ForgetDwKernel (hForgetDwKernel := hForgetDwKernel)
    ∧ quiescent_ForgetDwKernelIdeal (hForgetDwKernelIdeal := hForgetDwKernelIdeal)
    ∧ quiescent_ForgetDwReferenceIdeal (hForgetDwReferenceIdeal := hForgetDwReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_BwdOutKernel_BwdOutKernelIdeal
    ∧ algebraic_BwdOutKernelIdeal_BwdOutReferenceIdeal_pre_finite (hBwdOutKernelIdeal := hBwdOutKernelIdeal) (hBwdOutReferenceIdeal := hBwdOutReferenceIdeal) (hPre_finite := hPre_finite)
    ∧ preserves_BwdInKernel_BwdInKernelIdeal
    ∧ algebraic_BwdInKernelIdeal_BwdInReferenceIdeal (hBwdInKernelIdeal := hBwdInKernelIdeal) (hBwdInReferenceIdeal := hBwdInReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_DwInKernel_DwInKernelIdeal
    ∧ algebraic_DwInKernelIdeal_DwInReferenceIdeal (hDwInKernelIdeal := hDwInKernelIdeal) (hDwInReferenceIdeal := hDwInReferenceIdeal)
    ∧ preserves_ConvInKernel_ConvInKernelIdeal
    ∧ algebraic_ConvInKernelIdeal_ConvInReferenceIdeal (hConvInKernelIdeal := hConvInKernelIdeal) (hConvInReferenceIdeal := hConvInReferenceIdeal)
    ∧ preserves_QgInKernel_QgInKernelIdeal
    ∧ algebraic_QgInKernelIdeal_QgInReferenceIdeal (hQgInKernelIdeal := hQgInKernelIdeal) (hQgInReferenceIdeal := hQgInReferenceIdeal)
    ∧ preserves_KvInKernel_KvInKernelIdeal
    ∧ algebraic_KvInKernelIdeal_KvInReferenceIdeal (hKvInKernelIdeal := hKvInKernelIdeal) (hKvInReferenceIdeal := hKvInReferenceIdeal)
    ∧ preserves_ConvBwdInKernel_ConvBwdInKernelIdeal
    ∧ algebraic_ConvBwdInKernelIdeal_ConvBwdInReferenceIdeal (hConvBwdInKernelIdeal := hConvBwdInKernelIdeal) (hConvBwdInReferenceIdeal := hConvBwdInReferenceIdeal)
    ∧ preserves_QgBwdInKernel_QgBwdInKernelIdeal
    ∧ algebraic_QgBwdInKernelIdeal_QgBwdInReferenceIdeal (hQgBwdInKernelIdeal := hQgBwdInKernelIdeal) (hQgBwdInReferenceIdeal := hQgBwdInReferenceIdeal)
    ∧ preserves_KvBwdInKernel_KvBwdInKernelIdeal
    ∧ algebraic_KvBwdInKernelIdeal_KvBwdInReferenceIdeal (hKvBwdInKernelIdeal := hKvBwdInKernelIdeal) (hKvBwdInReferenceIdeal := hKvBwdInReferenceIdeal)
    ∧ preserves_ConvDwKernel_ConvDwKernelIdeal
    ∧ algebraic_ConvDwKernelIdeal_ConvDwReferenceIdeal (hConvDwKernelIdeal := hConvDwKernelIdeal) (hConvDwReferenceIdeal := hConvDwReferenceIdeal)
    ∧ preserves_QgDwKernel_QgDwKernelIdeal
    ∧ algebraic_QgDwKernelIdeal_QgDwReferenceIdeal (hQgDwKernelIdeal := hQgDwKernelIdeal) (hQgDwReferenceIdeal := hQgDwReferenceIdeal)
    ∧ preserves_MixBwdKernel_MixBwdKernelIdeal
    ∧ algebraic_MixBwdKernelIdeal_MixBwdReferenceIdeal (hMixBwdKernelIdeal := hMixBwdKernelIdeal) (hMixBwdReferenceIdeal := hMixBwdReferenceIdeal)
    ∧ preserves_MixDwKernel_MixDwKernelIdeal
    ∧ algebraic_MixDwKernelIdeal_MixDwReferenceIdeal (hMixDwKernelIdeal := hMixDwKernelIdeal) (hMixDwReferenceIdeal := hMixDwReferenceIdeal)
    ∧ preserves_GateOutKernel_GateOutKernelIdeal
    ∧ algebraic_GateOutKernelIdeal_GateOutReferenceIdeal (hGateOutKernelIdeal := hGateOutKernelIdeal) (hGateOutReferenceIdeal := hGateOutReferenceIdeal)
    ∧ preserves_ConvOutKernel_ConvOutKernelIdeal
    ∧ algebraic_ConvOutKernelIdeal_ConvOutReferenceIdeal (hConvOutKernelIdeal := hConvOutKernelIdeal) (hConvOutReferenceIdeal := hConvOutReferenceIdeal)
    ∧ preserves_LossOutKernel_LossOutKernelIdeal
    ∧ algebraic_LossOutKernelIdeal_LossOutReferenceIdeal (hLossOutKernelIdeal := hLossOutKernelIdeal) (hLossOutReferenceIdeal := hLossOutReferenceIdeal)
    ∧ preserves_AdamOwKernel_AdamOwKernelIdeal
    ∧ algebraic_AdamOwKernelIdeal_AdamOwReferenceIdeal (hAdamOwKernelIdeal := hAdamOwKernelIdeal) (hAdamOwReferenceIdeal := hAdamOwReferenceIdeal) (hPre_placed_ow := hPre_placed_ow)
    ∧ preserves_AdamCiKernel_AdamCiKernelIdeal
    ∧ algebraic_AdamCiKernelIdeal_AdamCiReferenceIdeal (hAdamCiKernelIdeal := hAdamCiKernelIdeal) (hAdamCiReferenceIdeal := hAdamCiReferenceIdeal) (hPre_placed_ci := hPre_placed_ci)
    ∧ preserves_AdamQgKernel_AdamQgKernelIdeal
    ∧ algebraic_AdamQgKernelIdeal_AdamQgReferenceIdeal (hAdamQgKernelIdeal := hAdamQgKernelIdeal) (hAdamQgReferenceIdeal := hAdamQgReferenceIdeal) (hPre_placed_qg := hPre_placed_qg)
    ∧ preserves_AdamKvKernel_AdamKvKernelIdeal
    ∧ algebraic_AdamKvKernelIdeal_AdamKvReferenceIdeal (hAdamKvKernelIdeal := hAdamKvKernelIdeal) (hAdamKvReferenceIdeal := hAdamKvReferenceIdeal) (hPre_placed_kv := hPre_placed_kv)
    ∧ preserves_AdamFoKernel_AdamFoKernelIdeal
    ∧ algebraic_AdamFoKernelIdeal_AdamFoReferenceIdeal (hAdamFoKernelIdeal := hAdamFoKernelIdeal) (hAdamFoReferenceIdeal := hAdamFoReferenceIdeal) (hPre_placed_fo := hPre_placed_fo)
    ∧ preserves_AdamFiKernel_AdamFiKernelIdeal
    ∧ algebraic_AdamFiKernelIdeal_AdamFiReferenceIdeal (hAdamFiKernelIdeal := hAdamFiKernelIdeal) (hAdamFiReferenceIdeal := hAdamFiReferenceIdeal) (hPre_placed_fi := hPre_placed_fi)
    ∧ preserves_ForgetDwKernel_ForgetDwKernelIdeal
    ∧ algebraic_ForgetDwKernelIdeal_ForgetDwReferenceIdeal (hForgetDwKernelIdeal := hForgetDwKernelIdeal) (hForgetDwReferenceIdeal := hForgetDwReferenceIdeal)
-- ==== Pre_finite.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2x4096x2816 : S_.BroadcastsInDim S2x4096x2816 (![] : Fin 0 → Fin S2x4096x2816.rank)
  bcast_S_S1024 : S_.BroadcastsInDim S1024 (![] : Fin 0 → Fin S1024.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S2x4096x2816 .bf16) (main_arg2 : FVec F S1024 .f32) (main_arg3 : FVec F S2816x1024 .f32) : IVec S4096x1024 1 × IVec S2x4096x2816 1 × IVec S1024 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2x4096x2816 .f32 := (extf .f32 · bitsLt_bf16_f32) main_arg1
  let main_v4 : FVec F S2x4096x2816 .f32 := Host.absf main_v3
  let main_cst_0 : FVec F S_ .f32 := constant S_ .f32 0x7F800000#32
  let main_v5 : FVec F S2x4096x2816 .f32 := broadcastInDim S2x4096x2816 ![] bcast_S_S2x4096x2816 main_cst_0
  let main_v6 : IVec S2x4096x2816 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  (main_v2, main_v6, main_v9, main_v12)
-- ==== Pre_placed_ci.lean ====
abbrev S1 : Shape := ⟨1, ![1]⟩
abbrev S1x1024x384 : Shape := ⟨3, ![1, 1024, 384]⟩
abbrev S8x1024x384 : Shape := ⟨3, ![8, 1024, 384]⟩
abbrev S7x1024x384 : Shape := ⟨3, ![7, 1024, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x1024x384 .f32) (main_arg2 : FVec F S1x1024x384 .f32) (main_arg3 : FVec F S1x1024x384 .f32) (main_arg4 : FVec F S8x1024x384 .bf16) (main_arg5 : FVec F S7x1024x384 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_placed_fi.lean ====
abbrev S1 : Shape := ⟨1, ![1]⟩
abbrev S2x704x1024 : Shape := ⟨3, ![2, 704, 1024]⟩
abbrev S8x704x1024 : Shape := ⟨3, ![8, 704, 1024]⟩
abbrev S7x704x1024 : Shape := ⟨3, ![7, 704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x704x1024 .f32) (main_arg2 : FVec F S2x704x1024 .f32) (main_arg3 : FVec F S2x704x1024 .f32) (main_arg4 : FVec F S8x704x1024 .bf16) (main_arg5 : FVec F S7x704x1024 .bf16) (main_arg6 : FVec F S8x704x1024 .bf16) (main_arg7 : FVec F S7x704x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_placed_fo.lean ====
abbrev S1 : Shape := ⟨1, ![1]⟩
abbrev S2x352x1024 : Shape := ⟨3, ![2, 352, 1024]⟩
abbrev S8x352x1024 : Shape := ⟨3, ![8, 352, 1024]⟩
abbrev S7x352x1024 : Shape := ⟨3, ![7, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x352x1024 .f32) (main_arg2 : FVec F S2x352x1024 .f32) (main_arg3 : FVec F S2x352x1024 .f32) (main_arg4 : FVec F S8x352x1024 .bf16) (main_arg5 : FVec F S7x352x1024 .bf16) (main_arg6 : FVec F S8x352x1024 .bf16) (main_arg7 : FVec F S7x352x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_placed_kv.lean ====
abbrev S1 : Shape := ⟨1, ![1]⟩
abbrev S1x258x1024 : Shape := ⟨3, ![1, 258, 1024]⟩
abbrev S8x258x1024 : Shape := ⟨3, ![8, 258, 1024]⟩
abbrev S7x258x1024 : Shape := ⟨3, ![7, 258, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x258x1024 .f32) (main_arg2 : FVec F S1x258x1024 .f32) (main_arg3 : FVec F S1x258x1024 .f32) (main_arg4 : FVec F S8x258x1024 .bf16) (main_arg5 : FVec F S7x258x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_placed_ow.lean ====
abbrev S1 : Shape := ⟨1, ![1]⟩
abbrev S1x128x1024 : Shape := ⟨3, ![1, 128, 1024]⟩
abbrev S8x128x1024 : Shape := ⟨3, ![8, 128, 1024]⟩
abbrev S7x128x1024 : Shape := ⟨3, ![7, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x128x1024 .f32) (main_arg2 : FVec F S1x128x1024 .f32) (main_arg3 : FVec F S1x128x1024 .f32) (main_arg4 : FVec F S8x128x1024 .bf16) (main_arg5 : FVec F S7x128x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_placed_qg.lean ====
abbrev S1 : Shape := ⟨1, ![1]⟩
abbrev S1x1024x256 : Shape := ⟨3, ![1, 1024, 256]⟩
abbrev S8x1024x256 : Shape := ⟨3, ![8, 1024, 256]⟩
abbrev S7x1024x256 : Shape := ⟨3, ![7, 1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x1024x256 .f32) (main_arg2 : FVec F S1x1024x256 .f32) (main_arg3 : FVec F S1x1024x256 .f32) (main_arg4 : FVec F S8x1024x256 .bf16) (main_arg5 : FVec F S7x1024x256 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== ConvKernel.lean ====
abbrev S1x4096x1024 : Shape := ⟨3, ![1, 4096, 1024]⟩
abbrev S3x4096x1024 : Shape := ⟨3, ![3, 4096, 1024]⟩
abbrev S3x1024 : Shape := ⟨2, ![3, 1024]⟩
abbrev S1x512x1024 : Shape := ⟨3, ![1, 512, 1024]⟩
abbrev S1x8x1024 : Shape := ⟨3, ![1, 8, 1024]⟩
abbrev S3x512x1024 : Shape := ⟨3, ![3, 512, 1024]⟩
abbrev S512x1024 : Shape := ⟨2, ![512, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 5
  | .vmem => 20
  | .smem => 0
  | _ => 0

abbrev bufTy : (tb : Table) → Fin (tcTables nBuf tb) → BufTy
  | .hbm, ⟨0, _⟩ => ⟨S1x4096x1024, .bf16⟩
  | .hbm, ⟨1, _⟩ => ⟨S3x4096x1024, .bf16⟩
  | .hbm, ⟨2, _⟩ => ⟨S3x1024, .f32⟩
  | .hbm, ⟨3, _⟩ => ⟨S3x4096x1024, .bf16⟩
  | .hbm, ⟨4, _⟩ => ⟨S3x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x8x1024, .bf16⟩
  | .local _ .vmem, ⟨9, _⟩ => ⟨S1x8x1024, .bf16⟩
  | .local _ .vmem, ⟨10, _⟩ => ⟨S1x8x1024, .bf16⟩
  | .local _ .vmem, ⟨11, _⟩ => ⟨S1x8x1024, .bf16⟩
  | .local _ .vmem, ⟨12, _⟩ => ⟨S1x8x1024, .bf16⟩
  | .local _ .vmem, ⟨13, _⟩ => ⟨S1x8x1024, .bf16⟩
  | .local _ .vmem, ⟨14, _⟩ => ⟨S1x8x1024, .bf16⟩
  | .local _ .vmem, ⟨15, _⟩ => ⟨S1x8x1024, .bf16⟩
  | .local _ .vmem, ⟨16, _⟩ => ⟨S3x1024, .f32⟩
  | .local _ .vmem, ⟨17, _⟩ => ⟨S3x512x1024, .bf16⟩
  | .local _ .vmem, ⟨18, _⟩ => ⟨S3x512x1024, .bf16⟩
  | .local _ .vmem, ⟨19, _⟩ => ⟨S3x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_55 : BitVec 32 := 0#32
  let v158 : BitVec 1 := Scalar.cmpi .eq arg0 c0_i32_55
  let v159 : BitVec 32 := Scalar.extui v158
  let c0_i32_56 : BitVec 32 := 0#32
  let v160 : BitVec 1 := Scalar.cmpi .ne v159 c0_i32_56
  v160

def k0_cond2 (i : grid0.Coords) : BitVec 1 :=
  let arg0 : BitVec 32 := BitVec.ofNat 32 (i 0).val
  let c0_i32_55 : BitVec 32 := 0#32
  let v158 : BitVec 1 := Scalar.cmpi .eq arg0 c0_i32_55
  let v_true : BitVec 1 := 1#1
  let v161 : BitVec 1 := Scalar.xori v158 v_true
  let v162 : BitVec 32 := Scalar.extui v161
  let c0_i32_57 : BitVec 32 := 0#32
  let v163 : BitVec 1 := Scalar.cmpi .ne v162 c0_i32_57
  v163

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_5 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvReferenceIdeal.lean ====
abbrev S1x4096x1024 : Shape := ⟨3, ![1, 4096, 1024]⟩
abbrev S3x4096x1024 : Shape := ⟨3, ![3, 4096, 1024]⟩
abbrev S3x1024 : Shape := ⟨2, ![3, 1024]⟩
abbrev S3x2x2048x1024 : Shape := ⟨4, ![3, 2, 2048, 1024]⟩
abbrev S1x2x2048x1024 : Shape := ⟨4, ![1, 2, 2048, 1024]⟩
abbrev S2x2048x1024 : Shape := ⟨3, ![2, 2048, 1024]⟩
abbrev S1x1024 : Shape := ⟨2, ![1, 1024]⟩
abbrev S1024 : Shape := ⟨1, ![1024]⟩
abbrev S2x2x1024 : Shape := ⟨3, ![2, 2, 1024]⟩
abbrev S_ : Shape := ⟨0, ![]⟩
abbrev S2x2046x1024 : Shape := ⟨3, ![2, 2046, 1024]⟩
abbrev S1x1x1024 : Shape := ⟨3, ![1, 1, 1024]⟩
abbrev S2x1x1024 : Shape := ⟨3, ![2, 1, 1024]⟩
abbrev S2x2047x1024 : Shape := ⟨3, ![2, 2047, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S3x4096x1024, .bf16⟩
  | .hbm, ⟨2, _⟩ => ⟨S3x1024, .f32⟩
  | .hbm, ⟨3, _⟩ => ⟨S3x4096x1024, .f32⟩
  | .hbm, ⟨4, _⟩ => ⟨S3x2x2048x1024, .f32⟩
  | .hbm, ⟨5, _⟩ => ⟨S1x2x2048x1024, .f32⟩
  | .hbm, ⟨6, _⟩ => ⟨S2x2048x1024, .f32⟩
  | .hbm, ⟨7, _⟩ => ⟨S1x2x2048x1024, .f32⟩
  | .hbm, ⟨8, _⟩ => ⟨S2x2048x1024, .f32⟩
  | .hbm, ⟨9, _⟩ => ⟨S1x2x2048x1024, .f32⟩
  | .hbm, ⟨10, _⟩ => ⟨S2x2048x1024, .f32⟩
  | .hbm, ⟨11, _⟩ => ⟨S2x2048x1024, .f32⟩
  | .hbm, ⟨12, _⟩ => ⟨S1x1024, .f32⟩
  | .hbm, ⟨13, _⟩ => ⟨S1024, .f32⟩
  | .hbm, ⟨14, _⟩ => ⟨S2x2x1024, .f32⟩
  | .hbm, ⟨15, _⟩ => ⟨S_, .f32⟩
  | .hbm, ⟨16, _⟩ => ⟨S2x2x1024, .f32⟩
  | .hbm, ⟨17, _⟩ => ⟨S2x2046x1024, .f32⟩
  | .hbm, ⟨18, _⟩ => ⟨S2x2048x1024, .f32⟩
  | .hbm, ⟨19, _⟩ => ⟨S_, .f32⟩
  | .hbm, ⟨20, _⟩ => ⟨S2x2x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048x1024, .f32⟩
  | .hbm, ⟨26, _⟩ => ⟨S2x2048x1024, .f32⟩
  | .hbm, ⟨27, _⟩ => ⟨S1x1024, .f32⟩
  | .hbm, ⟨28, _⟩ => ⟨S1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x2047x1024, .f32⟩
  | .hbm, ⟨33, _⟩ => ⟨S2x2048x1024, .f32⟩
  | .hbm, ⟨34, _⟩ => ⟨S_, .f32⟩
  | .hbm, ⟨35, _⟩ => ⟨S2x1x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1x1024, .f32⟩
  | .hbm, ⟨41, _⟩ => ⟨S1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S1x4096x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S1x1x1024, .f32⟩
  | .hbm, ⟨68, _⟩ => ⟨S_, .f32⟩
  | .hbm, ⟨69, _⟩ => ⟨S1024, .f32⟩
  | .hbm, ⟨70, _⟩ => ⟨S2x1x1024, .f32⟩
  | .hbm, ⟨71, _⟩ => ⟨S2x2047x1024, .f32⟩
  | .hbm, ⟨72, _⟩ => ⟨S_, .f32⟩
  | .hbm, ⟨73, _⟩ => ⟨S2x2048x1024, .f32⟩
  | .hbm, ⟨74, _⟩ => ⟨S2x2048x1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S_, .f32⟩
  | .hbm, ⟨83, _⟩ => ⟨S1024, .f32⟩
  | .hbm, ⟨84, _⟩ => ⟨S1x1x1024, .f32⟩
  | .hbm, ⟨85, _⟩ => ⟨S_, .f32⟩
  | .hbm, ⟨86, _⟩ => ⟨S1024, .f32⟩
  | .hbm, ⟨87, _⟩ => ⟨S2x2x1024, .f32⟩
  | .hbm, ⟨88, _⟩ => ⟨S2x2046x1024, .f32⟩
  | .hbm, ⟨89, _⟩ => ⟨S_, .f32⟩
  | .hbm, ⟨90, _⟩ => ⟨S2x2048x1024, .f32⟩
  | .hbm, ⟨91, _⟩ => ⟨S2x2048x1024, .f32⟩
  | .hbm, ⟨92, _⟩ => ⟨S1x1024, .f32⟩
  | .hbm, ⟨93, _⟩ => ⟨S_, .f32⟩
  | .hbm, ⟨94, _⟩ => ⟨S3x1024, .f32⟩
  | .hbm, ⟨95, _⟩ => ⟨S3x1024, .f32⟩
  | .hbm, ⟨96, _⟩ => ⟨S2x2048x1024, .f32⟩
  | .hbm, ⟨97, _⟩ => ⟨S2x2048x1024, .f32⟩
  | .hbm, ⟨98, _⟩ => ⟨S1x2x2048x1024, .f32⟩
  | .hbm, ⟨99, _⟩ => ⟨S1x2x2048x1024, .f32⟩
  | .hbm, ⟨100, _⟩ => ⟨S1x2x2048x1024, .f32⟩
  | .hbm, ⟨101, _⟩ => ⟨S3x2x2048x1024, .f32⟩
  | .hbm, ⟨102, _⟩ => ⟨S3x4096x1024, .f32⟩
  | .hbm, ⟨103, _⟩ => ⟨S3x4096x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_11 : Ref sig .tc := ⟨.hbm, 82, rfl⟩
abbrev main_v67 : Ref sig .tc := ⟨.hbm, 83, rfl⟩
abbrev main_v68 : Ref sig .tc := ⟨.hbm, 84, rfl⟩
abbrev main_cst_12 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_14 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== InKernel.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S2x1x2816x1024 : Shape := ⟨4, ![2, 1, 2816, 1024]⟩
abbrev S2x4096x2816 : Shape := ⟨3, ![2, 4096, 2816]⟩
abbrev S512x1024 : Shape := ⟨2, ![512, 1024]⟩
abbrev S2x512x2816 : Shape := ⟨3, ![2, 512, 2816]⟩
abbrev S512 : Shape := ⟨1, ![512]⟩
abbrev S512x1 : Shape := ⟨2, ![512, 1]⟩
abbrev S1x1x2816x1024 : Shape := ⟨4, ![1, 1, 2816, 1024]⟩
abbrev S2816x1024 : Shape := ⟨2, ![2816, 1024]⟩
abbrev S512x2816 : Shape := ⟨2, ![512, 2816]⟩
abbrev S1x512x2816 : Shape := ⟨3, ![1, 512, 2816]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S5632x1024, .bf16⟩
  | .hbm, ⟨6, _⟩ => ⟨S2x1x2816x1024, .bf16⟩
  | .hbm, ⟨7, _⟩ => ⟨S4096x1024, .bf16⟩
  | .hbm, ⟨8, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x1x2816x1024, .bf16⟩
  | .local _ .vmem, ⟨4, _⟩ => ⟨S512x1024, .bf16⟩
  | .local _ .vmem, ⟨5, _⟩ => ⟨S512x1024, .bf16⟩
  | .local _ .vmem, ⟨6, _⟩ => ⟨S2x512x2816, .bf16⟩
  | .local _ .vmem, ⟨7, _⟩ => ⟨S2x512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InReferenceIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S1x4096x2816, .f32⟩
  | .hbm, ⟨24, _⟩ => ⟨S1x4096x2816, .f32⟩
  | .hbm, ⟨25, _⟩ => ⟨S2x4096x2816, .f32⟩
  | .hbm, ⟨26, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutKernel.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S8x1x352x1024 : Shape := ⟨4, ![8, 1, 352, 1024]⟩
abbrev S1x1024 : Shape := ⟨2, ![1, 1024]⟩
abbrev S1x4096x2816 : Shape := ⟨3, ![1, 4096, 2816]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S8x352x1024 : Shape := ⟨3, ![8, 352, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S1024, .f32⟩
  | .hbm, ⟨3, _⟩ => ⟨S2816x1024, .f32⟩
  | .hbm, ⟨4, _⟩ => ⟨S2816x1024, .bf16⟩
  | .hbm, ⟨5, _⟩ => ⟨S8x1x352x1024, .bf16⟩
  | .hbm, ⟨6, _⟩ => ⟨S1x1024, .f32⟩
  | .hbm, ⟨7, _⟩ => ⟨S1x4096x2816, .bf16⟩
  | .hbm, ⟨8, _⟩ => ⟨S4096x1024, .f32⟩
  | .hbm, ⟨9, _⟩ => ⟨S4096x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S8x1x352x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x512x2816, .bf16⟩
  | .local _ .vmem, ⟨7, _⟩ => ⟨S1x512x2816, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S1x4096x2816 : Shape := ⟨3, ![1, 4096, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S1024, .f32⟩
  | .hbm, ⟨3, _⟩ => ⟨S2816x1024, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S1x4096x2816, .f32⟩
  | .hbm, ⟨21, _⟩ => ⟨S1x4096x2816, .bf16⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== BwdOutKernel.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S1x4096x2816 : Shape := ⟨3, ![1, 4096, 2816]⟩
abbrev S4096x2816 : Shape := ⟨2, ![4096, 2816]⟩
abbrev S_ : Shape := ⟨0, ![]⟩
abbrev S8x1x352x1024 : Shape := ⟨4, ![8, 1, 352, 1024]⟩
abbrev S1x1024 : Shape := ⟨2, ![1, 1024]⟩
abbrev S512x1024 : Shape := ⟨2, ![512, 1024]⟩
abbrev S2x512x2816 : Shape := ⟨3, ![2, 512, 2816]⟩
abbrev S512 : Shape := ⟨1, ![512]⟩
abbrev S512x1 : Shape := ⟨2, ![512, 1]⟩
abbrev S8x352x1024 : Shape := ⟨3, ![8, 352, 1024]⟩
abbrev S512x2816 : Shape := ⟨2, ![512, 2816]⟩
abbrev S1x512x2816 : Shape := ⟨3, ![1, 512, 2816]⟩

abbrev nBuf : Space → Nat
  | .hbm => 26
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S1024, .f32⟩
  | .hbm, ⟨3, _⟩ => ⟨S2816x1024, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S2816x1024, .bf16⟩
  | .hbm, ⟨21, _⟩ => ⟨S8x1x352x1024, .bf16⟩
  | .hbm, ⟨22, _⟩ => ⟨S1x1024, .f32⟩
  | .hbm, ⟨23, _⟩ => ⟨S4096x1024, .bf16⟩
  | .hbm, ⟨24, _⟩ => ⟨S1x1024, .f32⟩
  | .hbm, ⟨25, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x1x352x1024, .bf16⟩
  | .local _ .vmem, ⟨6, _⟩ => ⟨S2x512x2816, .bf16⟩
  | .local _ .vmem, ⟨7, _⟩ => ⟨S2x512x2816, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S2x512x2816, .bf16⟩
  | .local _ .vmem, ⟨12, _⟩ => ⟨S2x512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_16 : BitVec 32 := 0#32
  let v44 : BitVec 1 := Scalar.cmpi .ne v43 c0_i32_16
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BwdOutReferenceIdeal.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S1x4096x2816 : Shape := ⟨3, ![1, 4096, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S1024, .f32⟩
  | .hbm, ⟨3, _⟩ => ⟨S2816x1024, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x1024, .bf16⟩
  | .hbm, ⟨83, _⟩ => ⟨S1x1024, .f32⟩
  | .hbm, ⟨84, _⟩ => ⟨S1x4096x2816, .f32⟩
  | .hbm, ⟨85, _⟩ => ⟨S1x4096x2816, .f32⟩
  | .hbm, ⟨86, _⟩ => ⟨S2x4096x2816, .f32⟩
  | .hbm, ⟨87, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== BwdInKernel.lean ====
abbrev S2x4096x2816 : Shape := ⟨3, ![2, 4096, 2816]⟩
abbrev S4096x1024 : Shape := ⟨2, ![4096, 1024]⟩
abbrev S1024 : Shape := ⟨1, ![1024]⟩
abbrev S1024x5632 : Shape := ⟨2, ![1024, 5632]⟩
abbrev S5632x1024 : Shape := ⟨2, ![5632, 1024]⟩
abbrev S2x1x2816x1024 : Shape := ⟨4, ![2, 1, 2816, 1024]⟩
abbrev S1x1024 : Shape := ⟨2, ![1, 1024]⟩
abbrev S2x512x2816 : Shape := ⟨3, ![2, 512, 2816]⟩
abbrev S512x1024 : Shape := ⟨2, ![512, 1024]⟩
abbrev S1x1x2816x1024 : Shape := ⟨4, ![1, 1, 2816, 1024]⟩
abbrev S2816x1024 : Shape := ⟨2, ![2816, 1024]⟩
abbrev S1x512x2816 : Shape := ⟨3, ![1, 512, 2816]⟩
abbrev S512x2816 : Shape := ⟨2, ![512, 2816]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S4096x1024, .f32⟩
  | .hbm, ⟨5, _⟩ => ⟨S1024x5632, .bf16⟩
  | .hbm, ⟨6, _⟩ => ⟨S5632x1024, .bf16⟩
  | .hbm, ⟨7, _⟩ => ⟨S2x1x2816x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S2x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_30 : BitVec 32 := 0#32
  let v52 : BitVec 1 := Scalar.cmpi .ne v51 c0_i32_30
  v52

def k0_cond2 (i : grid0.Coords) : BitVec 1 :=
  let arg0 : BitVec 32 := BitVec.ofNat 32 (i 0).val
  let c0_i32 : BitVec 32 := 0#32
  let v50 : BitVec 1 := Scalar.cmpi .eq arg0 c0_i32
  let v_true : BitVec 1 := 1#1
  let v53 : BitVec 1 := Scalar.xori v50 v_true
  let v54 : BitVec 32 := Scalar.extui v53
  let c0_i32_31 : BitVec 32 := 0#32
  let v55 : BitVec 1 := Scalar.cmpi .ne v54 c0_i32_31
  v55

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInReferenceIdeal.lean ====
abbrev S2x4096x2816 : Shape := ⟨3, ![2, 4096, 2816]⟩
abbrev S4096x1024 : Shape := ⟨2, ![4096, 1024]⟩
abbrev S1024 : Shape := ⟨1, ![1024]⟩
abbrev S1024x5632 : Shape := ⟨2, ![1024, 5632]⟩
abbrev S1x4096x2816 : Shape := ⟨3, ![1, 4096, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S4096x1024, .f32⟩
  | .hbm, ⟨5, _⟩ => ⟨S2x4096x2816, .f32⟩
  | .hbm, ⟨6, _⟩ => ⟨S1x4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== DwOutKernel.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S1x4096x1024 : Shape := ⟨3, ![1, 4096, 1024]⟩
abbrev S2x1x1408x1024 : Shape := ⟨4, ![2, 1, 1408, 1024]⟩
abbrev S1x2048x1408 : Shape := ⟨3, ![1, 2048, 1408]⟩
abbrev S1x2048x1024 : Shape := ⟨3, ![1, 2048, 1024]⟩
abbrev S1x1x1408x1024 : Shape := ⟨4, ![1, 1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 21
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x4096x2816, .f32⟩
  | .hbm, ⟨3, _⟩ => ⟨S1x4096x2816, .f32⟩
  | .hbm, ⟨4, _⟩ => ⟨S4096x2816, .f32⟩
  | .hbm, ⟨5, _⟩ => ⟨S1x4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S1x4096x2816, .f32⟩
  | .hbm, ⟨18, _⟩ => ⟨S1x4096x2816, .bf16⟩
  | .hbm, ⟨19, _⟩ => ⟨S1x4096x1024, .bf16⟩
  | .hbm, ⟨20, _⟩ => ⟨S2x1x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond4 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let v20 : BitVec 32 := Scalar.subi arg0 c0_i32_7
  let c0_i32_8 : BitVec 32 := 0#32
  let c1_i32_9 : BitVec 32 := 1#32
  let v21 : BitVec 32 := Scalar.maxsi c0_i32_8 v20
  let v22 : BitVec 32 := Scalar.minsi c1_i32_9 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v22 v24
  let c0_i32_13 : BitVec 32 := 0#32
  let v26 : BitVec 1 := Scalar.cmpi .ne v25 c0_i32_13
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let v30 : BitVec 1 := Scalar.andi v29 v26
  let v31 : BitVec 32 := Scalar.addi v25 v24
  let v32 : BitVec 32 := Scalar.select v30 v31 v25
  let c0_i32_16 : BitVec 32 := 0#32
  ![v19.toNat, arg1.toNat, v32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutReferenceIdeal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S2x1x1408x1024 : Shape := ⟨4, ![2, 1, 1408, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x4096x2816, .f32⟩
  | .hbm, ⟨3, _⟩ => ⟨S1x4096x2816, .f32⟩
  | .hbm, ⟨4, _⟩ => ⟨S4096x2816, .f32⟩
  | .hbm, ⟨5, _⟩ => ⟨S1x4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S2816x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S2816x1024, .f32⟩
  | .hbm, ⟨23, _⟩ => ⟨S2x1x1408x1024, .f32⟩
  | .hbm, ⟨24, _⟩ => ⟨S2x1x1408x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== DwInKernel.lean ====
abbrev S2x4096x2816 : Shape := ⟨3, ![2, 4096, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x1024 : Shape := ⟨3, ![1, 4096, 1024]⟩
abbrev S4x1x1408x1024 : Shape := ⟨4, ![4, 1, 1408, 1024]⟩
abbrev S1x2048x1408 : Shape := ⟨3, ![1, 2048, 1408]⟩
abbrev S1x2048x1024 : Shape := ⟨3, ![1, 2048, 1024]⟩
abbrev S1x1x1408x1024 : Shape := ⟨4, ![1, 1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 22
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x4096x1024, .bf16⟩
  | .hbm, ⟨21, _⟩ => ⟨S4x1x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond4 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 32 := Scalar.subi arg0 c0_i32_6
  let c0_i32_7 : BitVec 32 := 0#32
  let c3_i32_8 : BitVec 32 := 3#32
  let v21 : BitVec 32 := Scalar.maxsi c0_i32_7 v20
  let v22 : BitVec 32 := Scalar.minsi c3_i32_8 v21
  let c2_i32_9 : BitVec 32 := 2#32
  let c0_i32_10 : BitVec 32 := 0#32
  let v23 : BitVec 1 := Scalar.cmpi .eq c2_i32_9 c0_i32_10
  let c1_i32_11 : BitVec 32 := 1#32
  let v24 : BitVec 32 := Scalar.select v23 c1_i32_11 c2_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v19.toNat, arg1.toNat, v32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInReferenceIdeal.lean ====
abbrev S2x4096x2816 : Shape := ⟨3, ![2, 4096, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1024x5632 : Shape := ⟨2, ![1024, 5632]⟩
abbrev S5632x1024 : Shape := ⟨2, ![5632, 1024]⟩
abbrev S4x1x1408x1024 : Shape := ⟨4, ![4, 1, 1408, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S2x4096x2816, .f32⟩
  | .hbm, ⟨20, _⟩ => ⟨S1x4096x2816, .f32⟩
  | .hbm, ⟨21, _⟩ => ⟨S4096x2816, .f32⟩
  | .hbm, ⟨22, _⟩ => ⟨S1x4096x2816, .f32⟩
  | .hbm, ⟨23, _⟩ => ⟨S4096x2816, .f32⟩
  | .hbm, ⟨24, _⟩ => ⟨S4096x5632, .f32⟩
  | .hbm, ⟨25, _⟩ => ⟨S_, .f32⟩
  | .hbm, ⟨26, _⟩ => ⟨S1024x5632, .f32⟩
  | .hbm, ⟨27, _⟩ => ⟨S4096x5632, .f32⟩
  | .hbm, ⟨28, _⟩ => ⟨S5632x1024, .f32⟩
  | .hbm, ⟨29, _⟩ => ⟨S1024x5632, .f32⟩
  | .hbm, ⟨30, _⟩ => ⟨S5632x1024, .f32⟩
  | .hbm, ⟨31, _⟩ => ⟨S4x1x1408x1024, .f32⟩
  | .hbm, ⟨32, _⟩ => ⟨S4x1x1408x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== ConvInKernel.lean ====
abbrev S4096x1024 : Shape := ⟨2, ![4096, 1024]⟩
abbrev S1024 : Shape := ⟨1, ![1024]⟩
abbrev S1024x3072 : Shape := ⟨2, ![1024, 3072]⟩
abbrev S1x1024 : Shape := ⟨2, ![1, 1024]⟩
abbrev S1024x3x1024 : Shape := ⟨3, ![1024, 3, 1024]⟩
abbrev S3x1024x1024 : Shape := ⟨3, ![3, 1024, 1024]⟩
abbrev S3x1x1024x1024 : Shape := ⟨4, ![3, 1, 1024, 1024]⟩
abbrev S3x4096x1024 : Shape := ⟨3, ![3, 4096, 1024]⟩
abbrev S512x1024 : Shape := ⟨2, ![512, 1024]⟩
abbrev S3x512x1024 : Shape := ⟨3, ![3, 512, 1024]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩
abbrev S1x512x1024 : Shape := ⟨3, ![1, 512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1024x3x1024, .bf16⟩
  | .hbm, ⟨6, _⟩ => ⟨S3x1024x1024, .bf16⟩
  | .hbm, ⟨7, _⟩ => ⟨S3x1x1024x1024, .bf16⟩
  | .hbm, ⟨8, _⟩ => ⟨S4096x1024, .bf16⟩
  | .hbm, ⟨9, _⟩ => ⟨S3x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S3x512x1024, .bf16⟩
  | .local _ .vmem, ⟨7, _⟩ => ⟨S3x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInReferenceIdeal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S1x4096x1024 : Shape := ⟨3, ![1, 4096, 1024]⟩
abbrev S3x4096x1024 : Shape := ⟨3, ![3, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S3x4096x1024, .f32⟩
  | .hbm, ⟨28, _⟩ => ⟨S3x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== QgInKernel.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S1024x2x1024 : Shape := ⟨3, ![1024, 2, 1024]⟩
abbrev S2x1024x1024 : Shape := ⟨3, ![2, 1024, 1024]⟩
abbrev S2x1x1024x1024 : Shape := ⟨4, ![2, 1, 1024, 1024]⟩
abbrev S2x4096x1024 : Shape := ⟨3, ![2, 4096, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩
abbrev S1x512x1024 : Shape := ⟨3, ![1, 512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S1024x2x1024, .bf16⟩
  | .hbm, ⟨6, _⟩ => ⟨S2x1024x1024, .bf16⟩
  | .hbm, ⟨7, _⟩ => ⟨S2x1x1024x1024, .bf16⟩
  | .hbm, ⟨8, _⟩ => ⟨S4096x1024, .bf16⟩
  | .hbm, ⟨9, _⟩ => ⟨S2x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S2x512x1024, .bf16⟩
  | .local _ .vmem, ⟨7, _⟩ => ⟨S2x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QgInReferenceIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1x4096x1024 : Shape := ⟨3, ![1, 4096, 1024]⟩
abbrev S2x4096x1024 : Shape := ⟨3, ![2, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S1x4096x1024, .f32⟩
  | .hbm, ⟨24, _⟩ => ⟨S1x4096x1024, .f32⟩
  | .hbm, ⟨25, _⟩ => ⟨S2x4096x1024, .f32⟩
  | .hbm, ⟨26, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KvInKernel.lean ====
abbrev S4096x1024 : Shape := ⟨2, ![4096, 1024]⟩
abbrev S1024 : Shape := ⟨1, ![1024]⟩
abbrev S1024x2064 : Shape := ⟨2, ![1024, 2064]⟩
abbrev S1024x2048 : Shape := ⟨2, ![1024, 2048]⟩
abbrev S1024x2x1024 : Shape := ⟨3, ![1024, 2, 1024]⟩
abbrev S2x1024x1024 : Shape := ⟨3, ![2, 1024, 1024]⟩
abbrev S2x1x1024x1024 : Shape := ⟨4, ![2, 1, 1024, 1024]⟩
abbrev S1024x16 : Shape := ⟨2, ![1024, 16]⟩
abbrev S_ : Shape := ⟨0, ![]⟩
abbrev S1024x128 : Shape := ⟨2, ![1024, 128]⟩
abbrev S1x1x1024x128 : Shape := ⟨4, ![1, 1, 1024, 128]⟩
abbrev S1x1024 : Shape := ⟨2, ![1, 1024]⟩
abbrev S2x4096x1024 : Shape := ⟨3, ![2, 4096, 1024]⟩
abbrev S1x4096x128 : Shape := ⟨3, ![1, 4096, 128]⟩
abbrev S512x1024 : Shape := ⟨2, ![512, 1024]⟩
abbrev S2x512x1024 : Shape := ⟨3, ![2, 512, 1024]⟩
abbrev S1x512x128 : Shape := ⟨3, ![1, 512, 128]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩
abbrev S1x512x1024 : Shape := ⟨3, ![1, 512, 1024]⟩
abbrev S512x128 : Shape := ⟨2, ![512, 128]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2064, .f32⟩
  | .hbm, ⟨3, _⟩ => ⟨S1024x2048, .f32⟩
  | .hbm, ⟨4, _⟩ => ⟨S1024x2048, .bf16⟩
  | .hbm, ⟨5, _⟩ => ⟨S1024x2x1024, .bf16⟩
  | .hbm, ⟨6, _⟩ => ⟨S2x1024x1024, .bf16⟩
  | .hbm, ⟨7, _⟩ => ⟨S2x1x1024x1024, .bf16⟩
  | .hbm, ⟨8, _⟩ => ⟨S1024x16, .f32⟩
  | .hbm, ⟨9, _⟩ => ⟨S1024x16, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S1x1x1024x128, .bf16⟩
  | .hbm, ⟨14, _⟩ => ⟨S1x1024, .f32⟩
  | .hbm, ⟨15, _⟩ => ⟨S4096x1024, .bf16⟩
  | .hbm, ⟨16, _⟩ => ⟨S2x4096x1024, .bf16⟩
  | .hbm, ⟨17, _⟩ => ⟨S1x4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x1x1024x1024, .bf16⟩
  | .local _ .vmem, ⟨4, _⟩ => ⟨S1x1x1024x128, .bf16⟩
  | .local _ .vmem, ⟨5, _⟩ => ⟨S512x1024, .bf16⟩
  | .local _ .vmem, ⟨6, _⟩ => ⟨S512x1024, .bf16⟩
  | .local _ .vmem, ⟨7, _⟩ => ⟨S2x512x1024, .bf16⟩
  | .local _ .vmem, ⟨8, _⟩ => ⟨S2x512x1024, .bf16⟩
  | .local _ .vmem, ⟨9, _⟩ => ⟨S1x512x128, .f32⟩
  | .local _ .vmem, ⟨10, _⟩ => ⟨S1x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvInReferenceIdeal.lean ====
abbrev S4096x1024 : Shape := ⟨2, ![4096, 1024]⟩
abbrev S1024 : Shape := ⟨1, ![1024]⟩
abbrev S1024x2064 : Shape := ⟨2, ![1024, 2064]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2064 : Shape := ⟨2, ![4096, 2064]⟩
abbrev S4096x16 : Shape := ⟨2, ![4096, 16]⟩
abbrev S1x4096x1024 : Shape := ⟨3, ![1, 4096, 1024]⟩
abbrev S2x4096x1024 : Shape := ⟨3, ![2, 4096, 1024]⟩
abbrev S4096x128 : Shape := ⟨2, ![4096, 128]⟩
abbrev S1x4096x128 : Shape := ⟨3, ![1, 4096, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2064, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2064, .f32⟩
  | .hbm, ⟨20, _⟩ => ⟨S4096x1024, .f32⟩
  | .hbm, ⟨21, _⟩ => ⟨S4096x1024, .f32⟩
  | .hbm, ⟨22, _⟩ => ⟨S4096x16, .f32⟩
  | .hbm, ⟨23, _⟩ => ⟨S4096x1024, .bf16⟩
  | .hbm, ⟨24, _⟩ => ⟨S1x4096x1024, .f32⟩
  | .hbm, ⟨25, _⟩ => ⟨S1x4096x1024, .f32⟩
  | .hbm, ⟨26, _⟩ => ⟨S2x4096x1024, .f32⟩
  | .hbm, ⟨27, _⟩ => ⟨S2x4096x1024, .bf16⟩
  | .hbm, ⟨28, _⟩ => ⟨S_, .i32⟩
  | .hbm, ⟨29, _⟩ => ⟨S_, .f32⟩
  | .hbm, ⟨30, _⟩ => ⟨S4096x128, .f32⟩
  | .hbm, ⟨31, _⟩ => ⟨S1x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== ConvBwdInKernel.lean ====
abbrev S3x4096x1024 : Shape := ⟨3, ![3, 4096, 1024]⟩
abbrev S4096x1024 : Shape := ⟨2, ![4096, 1024]⟩
abbrev S1024 : Shape := ⟨1, ![1024]⟩
abbrev S1024x3072 : Shape := ⟨2, ![1024, 3072]⟩
abbrev S1024x3x1024 : Shape := ⟨3, ![1024, 3, 1024]⟩
abbrev S3x1024x1024 : Shape := ⟨3, ![3, 1024, 1024]⟩
abbrev S3x1x1024x1024 : Shape := ⟨4, ![3, 1, 1024, 1024]⟩
abbrev S1x1024 : Shape := ⟨2, ![1, 1024]⟩
abbrev S3x512x1024 : Shape := ⟨3, ![3, 512, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S1024, .f32⟩
  | .hbm, ⟨3, _⟩ => ⟨S1024x3072, .f32⟩
  | .hbm, ⟨4, _⟩ => ⟨S4096x1024, .f32⟩
  | .hbm, ⟨5, _⟩ => ⟨S1024x3072, .bf16⟩
  | .hbm, ⟨6, _⟩ => ⟨S1024x3x1024, .bf16⟩
  | .hbm, ⟨7, _⟩ => ⟨S3x1024x1024, .bf16⟩
  | .hbm, ⟨8, _⟩ => ⟨S3x1x1024x1024, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S3x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_37 : BitVec 32 := 0#32
  let v58 : BitVec 1 := Scalar.cmpi .ne v57 c0_i32_37
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_38 : BitVec 32 := 0#32
  let v61 : BitVec 1 := Scalar.cmpi .ne v60 c0_i32_38
  v61

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvBwdInReferenceIdeal.lean ====
abbrev S3x4096x1024 : Shape := ⟨3, ![3, 4096, 1024]⟩
abbrev S4096x1024 : Shape := ⟨2, ![4096, 1024]⟩
abbrev S1024 : Shape := ⟨1, ![1024]⟩
abbrev S1024x3072 : Shape := ⟨2, ![1024, 3072]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 65
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S1024, .f32⟩
  | .hbm, ⟨3, _⟩ => ⟨S1024x3072, .f32⟩
  | .hbm, ⟨4, _⟩ => ⟨S4096x1024, .f32⟩
  | .hbm, ⟨5, _⟩ => ⟨S3x4096x1024, .f32⟩
  | .hbm, ⟨6, _⟩ => ⟨S1x4096x1024, .f32⟩
  | .hbm, ⟨7, _⟩ => ⟨S4096x1024, .f32⟩
  | .hbm, ⟨8, _⟩ => ⟨S1x4096x1024, .f32⟩
  | .hbm, ⟨9, _⟩ => ⟨S4096x1024, .f32⟩
  | .hbm, ⟨10, _⟩ => ⟨S1x4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3072, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x3072, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== QgBwdInKernel.lean ====
abbrev S1x4096x1024 : Shape := ⟨3, ![1, 4096, 1024]⟩
abbrev S4096x1024 : Shape := ⟨2, ![4096, 1024]⟩
abbrev S1024 : Shape := ⟨1, ![1024]⟩
abbrev S1024x2048 : Shape := ⟨2, ![1024, 2048]⟩
abbrev S1024x2x1024 : Shape := ⟨3, ![1024, 2, 1024]⟩
abbrev S2x1024x1024 : Shape := ⟨3, ![2, 1024, 1024]⟩
abbrev S2x1x1024x1024 : Shape := ⟨4, ![2, 1, 1024, 1024]⟩
abbrev S1x1024 : Shape := ⟨2, ![1, 1024]⟩
abbrev S1x512x1024 : Shape := ⟨3, ![1, 512, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .bf16⟩
  | .hbm, ⟨2, _⟩ => ⟨S4096x1024, .f32⟩
  | .hbm, ⟨3, _⟩ => ⟨S1024, .f32⟩
  | .hbm, ⟨4, _⟩ => ⟨S1024x2048, .f32⟩
  | .hbm, ⟨5, _⟩ => ⟨S4096x1024, .f32⟩
  | .hbm, ⟨6, _⟩ => ⟨S1024x2048, .bf16⟩
  | .hbm, ⟨7, _⟩ => ⟨S1024x2x1024, .bf16⟩
  | .hbm, ⟨8, _⟩ => ⟨S2x1024x1024, .bf16⟩
  | .hbm, ⟨9, _⟩ => ⟨S2x1x1024x1024, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2x1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_30 : BitVec 32 := 0#32
  let v52 : BitVec 1 := Scalar.cmpi .ne v51 c0_i32_30
  v52

def k0_cond2 (i : grid0.Coords) : BitVec 1 :=
  let arg0 : BitVec 32 := BitVec.ofNat 32 (i 0).val
  let c0_i32 : BitVec 32 := 0#32
  let v50 : BitVec 1 := Scalar.cmpi .eq arg0 c0_i32
  let v_true : BitVec 1 := 1#1
  let v53 : BitVec 1 := Scalar.xori v50 v_true
  let v54 : BitVec 32 := Scalar.extui v53
  let c0_i32_31 : BitVec 32 := 0#32
  let v55 : BitVec 1 := Scalar.cmpi .ne v54 c0_i32_31
  v55

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QgBwdInReferenceIdeal.lean ====
abbrev S1x4096x1024 : Shape := ⟨3, ![1, 4096, 1024]⟩
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .bf16⟩
  | .hbm, ⟨2, _⟩ => ⟨S4096x1024, .f32⟩
  | .hbm, ⟨3, _⟩ => ⟨S1024, .f32⟩
  | .hbm, ⟨4, _⟩ => ⟨S1024x2048, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x2048, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== KvBwdInKernel.lean ====
abbrev S1x4096x1024 : Shape := ⟨3, ![1, 4096, 1024]⟩
abbrev S1x4096x128 : Shape := ⟨3, ![1, 4096, 128]⟩
abbrev S4096x1024 : Shape := ⟨2, ![4096, 1024]⟩
abbrev S1024 : Shape := ⟨1, ![1024]⟩
abbrev S1024x2064 : Shape := ⟨2, ![1024, 2064]⟩
abbrev S1024x2048 : Shape := ⟨2, ![1024, 2048]⟩
abbrev S1024x2x1024 : Shape := ⟨3, ![1024, 2, 1024]⟩
abbrev S2x1024x1024 : Shape := ⟨3, ![2, 1024, 1024]⟩
abbrev S2x1x1024x1024 : Shape := ⟨4, ![2, 1, 1024, 1024]⟩
abbrev S1024x16 : Shape := ⟨2, ![1024, 16]⟩
abbrev S_ : Shape := ⟨0, ![]⟩
abbrev S1024x128 : Shape := ⟨2, ![1024, 128]⟩
abbrev S1x1x1024x128 : Shape := ⟨4, ![1, 1, 1024, 128]⟩
abbrev S1x1024 : Shape := ⟨2, ![1, 1024]⟩
abbrev S1x512x1024 : Shape := ⟨3, ![1, 512, 1024]⟩
abbrev S1x512x128 : Shape := ⟨3, ![1, 512, 128]⟩
abbrev S512x1024 : Shape := ⟨2, ![512, 1024]⟩
abbrev S1x1x1024x1024 : Shape := ⟨4, ![1, 1, 1024, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .bf16⟩
  | .hbm, ⟨2, _⟩ => ⟨S1x4096x128, .f32⟩
  | .hbm, ⟨3, _⟩ => ⟨S4096x1024, .f32⟩
  | .hbm, ⟨4, _⟩ => ⟨S1024, .f32⟩
  | .hbm, ⟨5, _⟩ => ⟨S1024x2064, .f32⟩
  | .hbm, ⟨6, _⟩ => ⟨S4096x1024, .f32⟩
  | .hbm, ⟨7, _⟩ => ⟨S1024x2048, .f32⟩
  | .hbm, ⟨8, _⟩ => ⟨S1024x2048, .bf16⟩
  | .hbm, ⟨9, _⟩ => ⟨S1024x2x1024, .bf16⟩
  | .hbm, ⟨10, _⟩ => ⟨S2x1024x1024, .bf16⟩
  | .hbm, ⟨11, _⟩ => ⟨S2x1x1024x1024, .bf16⟩
  | .hbm, ⟨12, _⟩ => ⟨S1024x16, .f32⟩
  | .hbm, ⟨13, _⟩ => ⟨S1024x16, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S1x1x1024x128, .bf16⟩
  | .hbm, ⟨18, _⟩ => ⟨S1x1024, .f32⟩
  | .hbm, ⟨19, _⟩ => ⟨S4096x1024, .f32⟩
  | .hbm, ⟨20, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S2x1x1024x1024, .bf16⟩
  | .local _ .vmem, ⟨7, _⟩ => ⟨S1x1x1024x128, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_38 : BitVec 32 := 0#32
  let v59 : BitVec 1 := Scalar.cmpi .ne v58 c0_i32_38
  v59

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v60 : BitVec 1 := Scalar.xori v57 v_true
  let v61 : BitVec 32 := Scalar.extui v60
  let c0_i32_39 : BitVec 32 := 0#32
  let v62 : BitVec 1 := Scalar.cmpi .ne v61 c0_i32_39
  v62

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KvBwdInReferenceIdeal.lean ====
abbrev S1x4096x1024 : Shape := ⟨3, ![1, 4096, 1024]⟩
abbrev S1x4096x128 : Shape := ⟨3, ![1, 4096, 128]⟩
abbrev S4096x1024 : Shape := ⟨2, ![4096, 1024]⟩
abbrev S1024 : Shape := ⟨1, ![1024]⟩
abbrev S1024x2064 : Shape := ⟨2, ![1024, 2064]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2064 : Shape := ⟨2, ![4096, 2064]⟩
abbrev S4096x16 : Shape := ⟨2, ![4096, 16]⟩
abbrev S1x4096x16 : Shape := ⟨3, ![1, 4096, 16]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .bf16⟩
  | .hbm, ⟨2, _⟩ => ⟨S1x4096x128, .f32⟩
  | .hbm, ⟨3, _⟩ => ⟨S4096x1024, .f32⟩
  | .hbm, ⟨4, _⟩ => ⟨S1024, .f32⟩
  | .hbm, ⟨5, _⟩ => ⟨S1024x2064, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2064, .f32⟩
  | .hbm, ⟨28, _⟩ => ⟨S4096x1024, .f32⟩
  | .hbm, ⟨29, _⟩ => ⟨S4096x1024, .f32⟩
  | .hbm, ⟨30, _⟩ => ⟨S4096x16, .f32⟩
  | .hbm, ⟨31, _⟩ => ⟨S4096x1024, .bf16⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S1x4096x16, .f32⟩
  | .hbm, ⟨36, _⟩ => ⟨S4096x16, .f32⟩
  | .hbm, ⟨37, _⟩ => ⟨S_, .f32⟩
  | .hbm, ⟨38, _⟩ => ⟨S4096x2064, .f32⟩
  | .hbm, ⟨39, _⟩ => ⟨S_, .f32⟩
  | .hbm, ⟨40, _⟩ => ⟨S4096x2064, .f32⟩
  | .hbm, ⟨41, _⟩ => ⟨S4096x2064, .f32⟩
  | .hbm, ⟨42, _⟩ => ⟨S_, .f32⟩
  | .hbm, ⟨43, _⟩ => ⟨S4096x2064, .f32⟩
  | .hbm, ⟨44, _⟩ => ⟨S4096x2064, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1024, .f32⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== ConvDwKernel.lean ====
abbrev S3x4096x1024 : Shape := ⟨3, ![3, 4096, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x1024 : Shape := ⟨3, ![1, 4096, 1024]⟩
abbrev S3x1x1024x1024 : Shape := ⟨4, ![3, 1, 1024, 1024]⟩
abbrev S1x2048x1024 : Shape := ⟨3, ![1, 2048, 1024]⟩
abbrev S1x1x1024x1024 : Shape := ⟨4, ![1, 1, 1024, 1024]⟩
abbrev S1024x1024 : Shape := ⟨2, ![1024, 1024]⟩
abbrev S2048x1024 : Shape := ⟨2, ![2048, 1024]⟩

abbrev nBuf : Space → Nat
  | .hbm => 22
  | .vmem => 7
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x4096x1024, .bf16⟩
  | .hbm, ⟨21, _⟩ => ⟨S3x1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond4 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![v2.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvDwReferenceIdeal.lean ====
abbrev S3x4096x1024 : Shape := ⟨3, ![3, 4096, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x1024 : Shape := ⟨3, ![1, 4096, 1024]⟩
abbrev S4096x3072 : Shape := ⟨2, ![4096, 3072]⟩
abbrev S1024x3072 : Shape := ⟨2, ![1024, 3072]⟩
abbrev S3072x1024 : Shape := ⟨2, ![3072, 1024]⟩
abbrev S1024x1024 : Shape := ⟨2, ![1024, 1024]⟩
abbrev S1x1024x1024 : Shape := ⟨3, ![1, 1024, 1024]⟩
abbrev S3x1024x1024 : Shape := ⟨3, ![3, 1024, 1024]⟩
abbrev S3x1x1024x1024 : Shape := ⟨4, ![3, 1, 1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S3x4096x1024, .f32⟩
  | .hbm, ⟨20, _⟩ => ⟨S1x4096x1024, .f32⟩
  | .hbm, ⟨21, _⟩ => ⟨S4096x1024, .f32⟩
  | .hbm, ⟨22, _⟩ => ⟨S1x4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S4096x3072, .f32⟩
  | .hbm, ⟨27, _⟩ => ⟨S_, .f32⟩
  | .hbm, ⟨28, _⟩ => ⟨S1024x3072, .f32⟩
  | .hbm, ⟨29, _⟩ => ⟨S4096x3072, .f32⟩
  | .hbm, ⟨30, _⟩ => ⟨S3072x1024, .f32⟩
  | .hbm, ⟨31, _⟩ => ⟨S1024x3072, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S3x1024x1024, .f32⟩
  | .hbm, ⟨39, _⟩ => ⟨S3x1x1024x1024, .f32⟩
  | .hbm, ⟨40, _⟩ => ⟨S3x1x1024x1024, .bf16⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== QgDwKernel.lean ====
abbrev S1x4096x1024 : Shape := ⟨3, ![1, 4096, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1x1024x1024 : Shape := ⟨4, ![2, 1, 1024, 1024]⟩
abbrev S1x2048x1024 : Shape := ⟨3, ![1, 2048, 1024]⟩
abbrev S1x1x1024x1024 : Shape := ⟨4, ![1, 1, 1024, 1024]⟩
abbrev S1024x1024 : Shape := ⟨2, ![1024, 1024]⟩
abbrev S2048x1024 : Shape := ⟨2, ![2048, 1024]⟩

abbrev nBuf : Space → Nat
  | .hbm => 23
  | .vmem => 9
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1x4096x1024, .bf16⟩
  | .hbm, ⟨22, _⟩ => ⟨S2x1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1024x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond7 (i : grid0.Coords) : BitVec 1 :=
  let arg1 : BitVec 32 := BitVec.ofNat 32 (i 1).val
  let c1_i32_3 : BitVec 32 := 1#32
  let v10 : BitVec 1 := Scalar.cmpi .eq arg1 c1_i32_3
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, arg1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== QgDwReferenceIdeal.lean ====
abbrev S1x4096x1024 : Shape := ⟨3, ![1, 4096, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩
abbrev S1x1024x1024 : Shape := ⟨3, ![1, 1024, 1024]⟩
abbrev S2x1024x1024 : Shape := ⟨3, ![2, 1024, 1024]⟩
abbrev S2x1x1024x1024 : Shape := ⟨4, ![2, 1, 1024, 1024]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S4096x2048, .f32⟩
  | .hbm, ⟨25, _⟩ => ⟨S_, .f32⟩
  | .hbm, ⟨26, _⟩ => ⟨S1024x2048, .f32⟩
  | .hbm, ⟨27, _⟩ => ⟨S4096x2048, .f32⟩
  | .hbm, ⟨28, _⟩ => ⟨S2048x1024, .f32⟩
  | .hbm, ⟨29, _⟩ => ⟨S1024x2048, .f32⟩
  | .hbm, ⟨30, _⟩ => ⟨S1024x1024, .f32⟩
  | .hbm, ⟨31, _⟩ => ⟨S1024x1024, .f32⟩
  | .hbm, ⟨32, _⟩ => ⟨S1x1024x1024, .f32⟩
  | .hbm, ⟨33, _⟩ => ⟨S1x1024x1024, .f32⟩
  | .hbm, ⟨34, _⟩ => ⟨S2x1024x1024, .f32⟩
  | .hbm, ⟨35, _⟩ => ⟨S2x1x1024x1024, .f32⟩
  | .hbm, ⟨36, _⟩ => ⟨S2x1x1024x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== MixBwdKernel.lean ====
abbrev S4096x1024 : Shape := ⟨2, ![4096, 1024]⟩
abbrev S1x4096x1024 : Shape := ⟨3, ![1, 4096, 1024]⟩
abbrev S1024 : Shape := ⟨1, ![1024]⟩
abbrev S1024x1024 : Shape := ⟨2, ![1024, 1024]⟩
abbrev S1x1024 : Shape := ⟨2, ![1, 1024]⟩
abbrev S8x1x128x1024 : Shape := ⟨4, ![8, 1, 128, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S8x128x1024 : Shape := ⟨3, ![8, 128, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .bf16⟩
  | .hbm, ⟨2, _⟩ => ⟨S1024, .f32⟩
  | .hbm, ⟨3, _⟩ => ⟨S1024x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x1024, .bf16⟩
  | .hbm, ⟨9, _⟩ => ⟨S8x1x128x1024, .bf16⟩
  | .hbm, ⟨10, _⟩ => ⟨S4096x1024, .bf16⟩
  | .hbm, ⟨11, _⟩ => ⟨S1x1024, .f32⟩
  | .hbm, ⟨12, _⟩ => ⟨S1x4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x1x128x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x512x1024, .bf16⟩
  | .local _ .vmem, ⟨10, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_16 : BitVec 32 := 0#32
  let v44 : BitVec 1 := Scalar.cmpi .ne v43 c0_i32_16
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixBwdReferenceIdeal.lean ====
abbrev S4096x1024 : Shape := ⟨2, ![4096, 1024]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .bf16⟩
  | .hbm, ⟨2, _⟩ => ⟨S1024, .f32⟩
  | .hbm, ⟨3, _⟩ => ⟨S1024x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S1x1024, .f32⟩
  | .hbm, ⟨54, _⟩ => ⟨S4096x1024, .f32⟩
  | .hbm, ⟨55, _⟩ => ⟨S1x4096x1024, .f32⟩
  | .hbm, ⟨56, _⟩ => ⟨S1x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== MixDwKernel.lean ====
abbrev S1x4096x1024 : Shape := ⟨3, ![1, 4096, 1024]⟩
abbrev S4096x1024 : Shape := ⟨2, ![4096, 1024]⟩
abbrev S8x1x128x1024 : Shape := ⟨4, ![8, 1, 128, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x4096x1024, .bf16⟩
  | .hbm, ⟨1, _⟩ => ⟨S4096x1024, .bf16⟩
  | .hbm, ⟨2, _⟩ => ⟨S1x4096x1024, .bf16⟩
  | .hbm, ⟨3, _⟩ => ⟨S8x1x128x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S8x1x128x1024, .bf16⟩
  | .local _ .vmem, ⟨5, _⟩ => ⟨S1024x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MixDwReferenceIdeal.lean ====
abbrev S1x4096x1024 : Shape := ⟨3, ![1, 4096, 1024]⟩
abbrev S4096x1024 : Shape := ⟨2, ![4096, 1024]⟩
abbrev S_ : Shape := ⟨0, ![]⟩
abbrev S1024x1024 : Shape := ⟨2, ![1024, 1024]⟩
abbrev S8x1x128x1024 : Shape := ⟨4, ![8, 1, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S8x1x128x1024, .f32⟩
  | .hbm, ⟨11, _⟩ => ⟨S8x1x128x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateOutKernel.lean ====
abbrev S4096x1024 : Shape := ⟨2, ![4096, 1024]⟩
abbrev S2x4096x1024 : Shape := ⟨3, ![2, 4096, 1024]⟩
abbrev S1024 : Shape := ⟨1, ![1024]⟩
abbrev S1024x1024 : Shape := ⟨2, ![1024, 1024]⟩
abbrev S8x1x128x1024 : Shape := ⟨4, ![8, 1, 128, 1024]⟩
abbrev S1x1024 : Shape := ⟨2, ![1, 1024]⟩
abbrev S1x4096x1024 : Shape := ⟨3, ![1, 4096, 1024]⟩
abbrev S1x512x1024 : Shape := ⟨3, ![1, 512, 1024]⟩
abbrev S512x1024 : Shape := ⟨2, ![512, 1024]⟩
abbrev S8x128x1024 : Shape := ⟨3, ![8, 128, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .bf16⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S8x1x128x1024, .bf16⟩
  | .hbm, ⟨7, _⟩ => ⟨S1x1024, .f32⟩
  | .hbm, ⟨8, _⟩ => ⟨S1x4096x1024, .bf16⟩
  | .hbm, ⟨9, _⟩ => ⟨S4096x1024, .f32⟩
  | .hbm, ⟨10, _⟩ => ⟨S4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S512x1024, .f32⟩
  | .local _ .vmem, ⟨3, _⟩ => ⟨S512x1024, .f32⟩
  | .local _ .vmem, ⟨4, _⟩ => ⟨S8x1x128x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateOutReferenceIdeal.lean ====
abbrev S4096x1024 : Shape := ⟨2, ![4096, 1024]⟩
abbrev S2x4096x1024 : Shape := ⟨3, ![2, 4096, 1024]⟩
abbrev S1024 : Shape := ⟨1, ![1024]⟩
abbrev S1024x1024 : Shape := ⟨2, ![1024, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .bf16⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x4096x1024, .f32⟩
  | .hbm, ⟨19, _⟩ => ⟨S1x4096x1024, .bf16⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== ConvOutKernel.lean ====
abbrev S4096x1024 : Shape := ⟨2, ![4096, 1024]⟩
abbrev S3x4096x1024 : Shape := ⟨3, ![3, 4096, 1024]⟩
abbrev S3x1024 : Shape := ⟨2, ![3, 1024]⟩
abbrev S1024 : Shape := ⟨1, ![1024]⟩
abbrev S1024x1024 : Shape := ⟨2, ![1024, 1024]⟩
abbrev S8x1x128x1024 : Shape := ⟨4, ![8, 1, 128, 1024]⟩
abbrev S1x1024 : Shape := ⟨2, ![1, 1024]⟩
abbrev S1x4096x1024 : Shape := ⟨3, ![1, 4096, 1024]⟩
abbrev S1x512x1024 : Shape := ⟨3, ![1, 512, 1024]⟩
abbrev S1x8x1024 : Shape := ⟨3, ![1, 8, 1024]⟩
abbrev S512x1024 : Shape := ⟨2, ![512, 1024]⟩
abbrev S8x1024 : Shape := ⟨2, ![8, 1024]⟩
abbrev S8x128x1024 : Shape := ⟨3, ![8, 128, 1024]⟩
abbrev S512 : Shape := ⟨1, ![512]⟩
abbrev S512x1 : Shape := ⟨2, ![512, 1]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .bf16⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S8x1x128x1024, .bf16⟩
  | .hbm, ⟨7, _⟩ => ⟨S1x1024, .f32⟩
  | .hbm, ⟨8, _⟩ => ⟨S1x4096x1024, .bf16⟩
  | .hbm, ⟨9, _⟩ => ⟨S4096x1024, .f32⟩
  | .hbm, ⟨10, _⟩ => ⟨S4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x8x1024, .bf16⟩
  | .local _ .vmem, ⟨7, _⟩ => ⟨S1x8x1024, .bf16⟩
  | .local _ .vmem, ⟨8, _⟩ => ⟨S1x8x1024, .bf16⟩
  | .local _ .vmem, ⟨9, _⟩ => ⟨S1x8x1024, .bf16⟩
  | .local _ .vmem, ⟨10, _⟩ => ⟨S3x1024, .f32⟩
  | .local _ .vmem, ⟨11, _⟩ => ⟨S8x1x128x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_4 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ConvOutReferenceIdeal.lean ====
abbrev S4096x1024 : Shape := ⟨2, ![4096, 1024]⟩
abbrev S3x4096x1024 : Shape := ⟨3, ![3, 4096, 1024]⟩
abbrev S3x1024 : Shape := ⟨2, ![3, 1024]⟩
abbrev S1024 : Shape := ⟨1, ![1024]⟩
abbrev S1024x1024 : Shape := ⟨2, ![1024, 1024]⟩
abbrev S3x2x2048x1024 : Shape := ⟨4, ![3, 2, 2048, 1024]⟩
abbrev S1x2x2048x1024 : Shape := ⟨4, ![1, 2, 2048, 1024]⟩
abbrev S2x2048x1024 : Shape := ⟨3, ![2, 2048, 1024]⟩
abbrev S1x1024 : Shape := ⟨2, ![1, 1024]⟩
abbrev S2x2x1024 : Shape := ⟨3, ![2, 2, 1024]⟩
abbrev S_ : Shape := ⟨0, ![]⟩
abbrev S2x2046x1024 : Shape := ⟨3, ![2, 2046, 1024]⟩
abbrev S1x1x1024 : Shape := ⟨3, ![1, 1, 1024]⟩
abbrev S2x1x1024 : Shape := ⟨3, ![2, 1, 1024]⟩
abbrev S2x2047x1024 : Shape := ⟨3, ![2, 2047, 1024]⟩
abbrev S1x4096x1024 : Shape := ⟨3, ![1, 4096, 1024]⟩
abbrev S4096 : Shape := ⟨1, ![4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .bf16⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S3x4096x1024, .f32⟩
  | .hbm, ⟨6, _⟩ => ⟨S3x2x2048x1024, .f32⟩
  | .hbm, ⟨7, _⟩ => ⟨S1x2x2048x1024, .f32⟩
  | .hbm, ⟨8, _⟩ => ⟨S2x2048x1024, .f32⟩
  | .hbm, ⟨9, _⟩ => ⟨S1x2x2048x1024, .f32⟩
  | .hbm, ⟨10, _⟩ => ⟨S2x2048x1024, .f32⟩
  | .hbm, ⟨11, _⟩ => ⟨S1x2x2048x1024, .f32⟩
  | .hbm, ⟨12, _⟩ => ⟨S2x2048x1024, .f32⟩
  | .hbm, ⟨13, _⟩ => ⟨S2x2048x1024, .f32⟩
  | .hbm, ⟨14, _⟩ => ⟨S1x1024, .f32⟩
  | .hbm, ⟨15, _⟩ => ⟨S1024, .f32⟩
  | .hbm, ⟨16, _⟩ => ⟨S2x2x1024, .f32⟩
  | .hbm, ⟨17, _⟩ => ⟨S_, .f32⟩
  | .hbm, ⟨18, _⟩ => ⟨S2x2x1024, .f32⟩
  | .hbm, ⟨19, _⟩ => ⟨S2x2046x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048x1024, .f32⟩
  | .hbm, ⟨26, _⟩ => ⟨S2x2048x1024, .f32⟩
  | .hbm, ⟨27, _⟩ => ⟨S1x1024, .f32⟩
  | .hbm, ⟨28, _⟩ => ⟨S1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x2047x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S4096x1024, .f32⟩
  | .hbm, ⟨46, _⟩ => ⟨S4096x1024, .f32⟩
  | .hbm, ⟨47, _⟩ => ⟨S1x4096x1024, .f32⟩
  | .hbm, ⟨48, _⟩ => ⟨S1x4096x1024, .bf16⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== LossOutKernel.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S8x1x352x1024 : Shape := ⟨4, ![8, 1, 352, 1024]⟩
abbrev S1x1024 : Shape := ⟨2, ![1, 1024]⟩
abbrev S1x4096x2816 : Shape := ⟨3, ![1, 4096, 2816]⟩
abbrev S1x128 : Shape := ⟨2, ![1, 128]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S8x352x1024 : Shape := ⟨3, ![8, 352, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S2816x1024, .bf16⟩
  | .hbm, ⟨6, _⟩ => ⟨S8x1x352x1024, .bf16⟩
  | .hbm, ⟨7, _⟩ => ⟨S1x1024, .f32⟩
  | .hbm, ⟨8, _⟩ => ⟨S1x4096x2816, .bf16⟩
  | .hbm, ⟨9, _⟩ => ⟨S4096x1024, .f32⟩
  | .hbm, ⟨10, _⟩ => ⟨S4096x1024, .f32⟩
  | .hbm, ⟨11, _⟩ => ⟨S1x128, .f32⟩
  | .local _ .vmem, ⟨0, _⟩ => ⟨S2x512x2816, .bf16⟩
  | .local _ .vmem, ⟨1, _⟩ => ⟨S2x512x2816, .bf16⟩
  | .local _ .vmem, ⟨2, _⟩ => ⟨S8x1x352x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x512x2816, .bf16⟩
  | .local _ .vmem, ⟨9, _⟩ => ⟨S1x512x2816, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v53 : BitVec 32 := Scalar.extui v50
  let c0_i32_30 : BitVec 32 := 0#32
  let v54 : BitVec 1 := Scalar.cmpi .ne v53 c0_i32_30
  v54

def k0_cond2 (i : grid0.Coords) : BitVec 1 :=
  let arg0 : BitVec 32 := BitVec.ofNat 32 (i 0).val
  let c0_i32 : BitVec 32 := 0#32
  let v50 : BitVec 1 := Scalar.cmpi .eq arg0 c0_i32
  let v_true : BitVec 1 := 1#1
  let v55 : BitVec 1 := Scalar.xori v50 v_true
  let v56 : BitVec 32 := Scalar.extui v55
  let c0_i32_31 : BitVec 32 := 0#32
  let v57 : BitVec 1 := Scalar.cmpi .ne v56 c0_i32_31
  v57

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossOutReferenceIdeal.lean ====
abbrev S4096x1024 : Shape := ⟨2, ![4096, 1024]⟩
abbrev S2x4096x2816 : Shape := ⟨3, ![2, 4096, 2816]⟩
abbrev S1024 : Shape := ⟨1, ![1024]⟩
abbrev S2816x1024 : Shape := ⟨2, ![2816, 1024]⟩
abbrev S1x4096x2816 : Shape := ⟨3, ![1, 4096, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S2x4096x2816, .f32⟩
  | .hbm, ⟨6, _⟩ => ⟨S1x4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S1x4096x2816, .f32⟩
  | .hbm, ⟨65, _⟩ => ⟨S1x4096x2816, .bf16⟩
  | .hbm, ⟨66, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_cst_8 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== AdamOwKernel.lean ====
abbrev S1 : Shape := ⟨1, ![1]⟩
abbrev S1x128x1024 : Shape := ⟨3, ![1, 128, 1024]⟩
abbrev S8x128x1024 : Shape := ⟨3, ![8, 128, 1024]⟩
abbrev S7x128x1024 : Shape := ⟨3, ![7, 128, 1024]⟩
abbrev S128x1024 : Shape := ⟨2, ![128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S7x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .bf16⟩
  | .local _ .vmem, ⟨4, _⟩ => ⟨S7x128x1024, .bf16⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S7x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOwReferenceIdeal.lean ====
abbrev S1 : Shape := ⟨1, ![1]⟩
abbrev S1x128x1024 : Shape := ⟨3, ![1, 128, 1024]⟩
abbrev S8x128x1024 : Shape := ⟨3, ![8, 128, 1024]⟩
abbrev S7x128x1024 : Shape := ⟨3, ![7, 128, 1024]⟩
abbrev S8 : Shape := ⟨1, ![8]⟩
abbrev S8x1x1 : Shape := ⟨3, ![8, 1, 1]⟩
abbrev S_ : Shape := ⟨0, ![]⟩
abbrev S128x1024 : Shape := ⟨2, ![128, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S7x128x1024, .bf16⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x128x1024, .f32⟩
  | .hbm, ⟨11, _⟩ => ⟨S_, .f32⟩
  | .hbm, ⟨12, _⟩ => ⟨S_, .f32⟩
  | .hbm, ⟨13, _⟩ => ⟨S8x128x1024, .i1⟩
  | .hbm, ⟨14, _⟩ => ⟨S8x128x1024, .f32⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S7x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | .hbm, ⟨41, _⟩ => ⟨S_, .f32⟩
  | .hbm, ⟨42, _⟩ => ⟨S1x128x1024, .f32⟩
  | .hbm, ⟨43, _⟩ => ⟨S1x128x1024, .f32⟩
  | .hbm, ⟨44, _⟩ => ⟨S1x128x1024, .f32⟩
  | .hbm, ⟨45, _⟩ => ⟨S_, .f32⟩
  | .hbm, ⟨46, _⟩ => ⟨S1x128x1024, .f32⟩
  | .hbm, ⟨47, _⟩ => ⟨S1x128x1024, .f32⟩
  | .hbm, ⟨48, _⟩ => ⟨S1x128x1024, .f32⟩
  | .hbm, ⟨49, _⟩ => ⟨S_, .f32⟩
  | .hbm, ⟨50, _⟩ => ⟨S1x128x1024, .f32⟩
  | .hbm, ⟨51, _⟩ => ⟨S1x128x1024, .f32⟩
  | .hbm, ⟨52, _⟩ => ⟨S1x128x1024, .f32⟩
  | .hbm, ⟨53, _⟩ => ⟨S_, .f32⟩
  | .hbm, ⟨54, _⟩ => ⟨S1x128x1024, .f32⟩
  | .hbm, ⟨55, _⟩ => ⟨S1x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== AdamCiKernel.lean ====
abbrev S1 : Shape := ⟨1, ![1]⟩
abbrev S1x1024x384 : Shape := ⟨3, ![1, 1024, 384]⟩
abbrev S8x1024x384 : Shape := ⟨3, ![8, 1024, 384]⟩
abbrev S7x1024x384 : Shape := ⟨3, ![7, 1024, 384]⟩
abbrev S1x256x384 : Shape := ⟨3, ![1, 256, 384]⟩
abbrev S7x256x384 : Shape := ⟨3, ![7, 256, 384]⟩
abbrev S256x384 : Shape := ⟨2, ![256, 384]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S8x1024x384, .bf16⟩
  | .hbm, ⟨4, _⟩ => ⟨S7x1024x384, .bf16⟩
  | .hbm, ⟨5, _⟩ => ⟨S1x1024x384, .f32⟩
  | .hbm, ⟨6, _⟩ => ⟨S1x1024x384, .f32⟩
  | .hbm, ⟨7, _⟩ => ⟨S1x1024x384, .f32⟩
  | .hbm, ⟨8, _⟩ => ⟨S1x1024x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .bf16⟩
  | .local _ .vmem, ⟨7, _⟩ => ⟨S1x256x384, .bf16⟩
  | .local _ .vmem, ⟨8, _⟩ => ⟨S7x256x384, .bf16⟩
  | .local _ .vmem, ⟨9, _⟩ => ⟨S7x256x384, .bf16⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamCiReferenceIdeal.lean ====
abbrev S1 : Shape := ⟨1, ![1]⟩
abbrev S1x1024x384 : Shape := ⟨3, ![1, 1024, 384]⟩
abbrev S8x1024x384 : Shape := ⟨3, ![8, 1024, 384]⟩
abbrev S7x1024x384 : Shape := ⟨3, ![7, 1024, 384]⟩
abbrev S8 : Shape := ⟨1, ![8]⟩
abbrev S8x1x1 : Shape := ⟨3, ![8, 1, 1]⟩
abbrev S_ : Shape := ⟨0, ![]⟩
abbrev S1024x384 : Shape := ⟨2, ![1024, 384]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S8x1024x384, .bf16⟩
  | .hbm, ⟨5, _⟩ => ⟨S7x1024x384, .bf16⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x384, .f32⟩
  | .hbm, ⟨11, _⟩ => ⟨S_, .f32⟩
  | .hbm, ⟨12, _⟩ => ⟨S_, .f32⟩
  | .hbm, ⟨13, _⟩ => ⟨S8x1024x384, .i1⟩
  | .hbm, ⟨14, _⟩ => ⟨S8x1024x384, .f32⟩
  | .hbm, ⟨15, _⟩ => ⟨S8x1024x384, .f32⟩
  | .hbm, ⟨16, _⟩ => ⟨S_, .f32⟩
  | .hbm, ⟨17, _⟩ => ⟨S1024x384, .f32⟩
  | .hbm, ⟨18, _⟩ => ⟨S7x1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S1x1024x384, .f32⟩
  | .hbm, ⟨23, _⟩ => ⟨S_, .f32⟩
  | .hbm, ⟨24, _⟩ => ⟨S1x1024x384, .f32⟩
  | .hbm, ⟨25, _⟩ => ⟨S1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | .hbm, ⟨37, _⟩ => ⟨S1x1024x384, .f32⟩
  | .hbm, ⟨38, _⟩ => ⟨S_, .f32⟩
  | .hbm, ⟨39, _⟩ => ⟨S1x1024x384, .f32⟩
  | .hbm, ⟨40, _⟩ => ⟨S1x1024x384, .f32⟩
  | .hbm, ⟨41, _⟩ => ⟨S_, .f32⟩
  | .hbm, ⟨42, _⟩ => ⟨S1x1024x384, .f32⟩
  | .hbm, ⟨43, _⟩ => ⟨S1x1024x384, .f32⟩
  | .hbm, ⟨44, _⟩ => ⟨S1x1024x384, .f32⟩
  | .hbm, ⟨45, _⟩ => ⟨S_, .f32⟩
  | .hbm, ⟨46, _⟩ => ⟨S1x1024x384, .f32⟩
  | .hbm, ⟨47, _⟩ => ⟨S1x1024x384, .f32⟩
  | .hbm, ⟨48, _⟩ => ⟨S1x1024x384, .f32⟩
  | .hbm, ⟨49, _⟩ => ⟨S_, .f32⟩
  | .hbm, ⟨50, _⟩ => ⟨S1x1024x384, .f32⟩
  | .hbm, ⟨51, _⟩ => ⟨S1x1024x384, .f32⟩
  | .hbm, ⟨52, _⟩ => ⟨S1x1024x384, .f32⟩
  | .hbm, ⟨53, _⟩ => ⟨S_, .f32⟩
  | .hbm, ⟨54, _⟩ => ⟨S1x1024x384, .f32⟩
  | .hbm, ⟨55, _⟩ => ⟨S1x1024x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== AdamQgKernel.lean ====
abbrev S1 : Shape := ⟨1, ![1]⟩
abbrev S1x1024x256 : Shape := ⟨3, ![1, 1024, 256]⟩
abbrev S8x1024x256 : Shape := ⟨3, ![8, 1024, 256]⟩
abbrev S7x1024x256 : Shape := ⟨3, ![7, 1024, 256]⟩
abbrev S1x256x256 : Shape := ⟨3, ![1, 256, 256]⟩
abbrev S7x256x256 : Shape := ⟨3, ![7, 256, 256]⟩
abbrev S256x256 : Shape := ⟨2, ![256, 256]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S8x1024x256, .bf16⟩
  | .hbm, ⟨4, _⟩ => ⟨S7x1024x256, .bf16⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .bf16⟩
  | .local _ .vmem, ⟨7, _⟩ => ⟨S1x256x256, .bf16⟩
  | .local _ .vmem, ⟨8, _⟩ => ⟨S7x256x256, .bf16⟩
  | .local _ .vmem, ⟨9, _⟩ => ⟨S7x256x256, .bf16⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamQgReferenceIdeal.lean ====
abbrev S1 : Shape := ⟨1, ![1]⟩
abbrev S1x1024x256 : Shape := ⟨3, ![1, 1024, 256]⟩
abbrev S8x1024x256 : Shape := ⟨3, ![8, 1024, 256]⟩
abbrev S7x1024x256 : Shape := ⟨3, ![7, 1024, 256]⟩
abbrev S8 : Shape := ⟨1, ![8]⟩
abbrev S8x1x1 : Shape := ⟨3, ![8, 1, 1]⟩
abbrev S_ : Shape := ⟨0, ![]⟩
abbrev S1024x256 : Shape := ⟨2, ![1024, 256]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .bf16⟩
  | .hbm, ⟨5, _⟩ => ⟨S7x1024x256, .bf16⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x256, .f32⟩
  | .hbm, ⟨11, _⟩ => ⟨S_, .f32⟩
  | .hbm, ⟨12, _⟩ => ⟨S_, .f32⟩
  | .hbm, ⟨13, _⟩ => ⟨S8x1024x256, .i1⟩
  | .hbm, ⟨14, _⟩ => ⟨S8x1024x256, .f32⟩
  | .hbm, ⟨15, _⟩ => ⟨S8x1024x256, .f32⟩
  | .hbm, ⟨16, _⟩ => ⟨S_, .f32⟩
  | .hbm, ⟨17, _⟩ => ⟨S1024x256, .f32⟩
  | .hbm, ⟨18, _⟩ => ⟨S7x1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | .hbm, ⟨41, _⟩ => ⟨S_, .f32⟩
  | .hbm, ⟨42, _⟩ => ⟨S1x1024x256, .f32⟩
  | .hbm, ⟨43, _⟩ => ⟨S1x1024x256, .f32⟩
  | .hbm, ⟨44, _⟩ => ⟨S1x1024x256, .f32⟩
  | .hbm, ⟨45, _⟩ => ⟨S_, .f32⟩
  | .hbm, ⟨46, _⟩ => ⟨S1x1024x256, .f32⟩
  | .hbm, ⟨47, _⟩ => ⟨S1x1024x256, .f32⟩
  | .hbm, ⟨48, _⟩ => ⟨S1x1024x256, .f32⟩
  | .hbm, ⟨49, _⟩ => ⟨S_, .f32⟩
  | .hbm, ⟨50, _⟩ => ⟨S1x1024x256, .f32⟩
  | .hbm, ⟨51, _⟩ => ⟨S1x1024x256, .f32⟩
  | .hbm, ⟨52, _⟩ => ⟨S1x1024x256, .f32⟩
  | .hbm, ⟨53, _⟩ => ⟨S_, .f32⟩
  | .hbm, ⟨54, _⟩ => ⟨S1x1024x256, .f32⟩
  | .hbm, ⟨55, _⟩ => ⟨S1x1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== AdamKvKernel.lean ====
abbrev S1 : Shape := ⟨1, ![1]⟩
abbrev S1x258x1024 : Shape := ⟨3, ![1, 258, 1024]⟩
abbrev S8x258x1024 : Shape := ⟨3, ![8, 258, 1024]⟩
abbrev S7x258x1024 : Shape := ⟨3, ![7, 258, 1024]⟩
abbrev S258x1024 : Shape := ⟨2, ![258, 1024]⟩

abbrev nBuf : Space → Nat
  | .hbm => 9
  | .vmem => 9
  | .smem => 1
  | _ => 0

abbrev bufTy : (tb : Table) → Fin (tcTables nBuf tb) → BufTy
  | .hbm, ⟨0, _⟩ => ⟨S1x258x1024, .f32⟩
  | .hbm, ⟨1, _⟩ => ⟨S1x258x1024, .f32⟩
  | .hbm, ⟨2, _⟩ => ⟨S1x258x1024, .f32⟩
  | .hbm, ⟨3, _⟩ => ⟨S8x258x1024, .bf16⟩
  | .hbm, ⟨4, _⟩ => ⟨S7x258x1024, .bf16⟩
  | .hbm, ⟨5, _⟩ => ⟨S1x258x1024, .f32⟩
  | .hbm, ⟨6, _⟩ => ⟨S1x258x1024, .f32⟩
  | .hbm, ⟨7, _⟩ => ⟨S1x258x1024, .f32⟩
  | .hbm, ⟨8, _⟩ => ⟨S1x258x1024, .f32⟩
  | .local _ .vmem, ⟨0, _⟩ => ⟨S1x258x1024, .f32⟩
  | .local _ .vmem, ⟨1, _⟩ => ⟨S1x258x1024, .f32⟩
  | .local _ .vmem, ⟨2, _⟩ => ⟨S1x258x1024, .f32⟩
  | .local _ .vmem, ⟨3, _⟩ => ⟨S1x258x1024, .bf16⟩
  | .local _ .vmem, ⟨4, _⟩ => ⟨S7x258x1024, .bf16⟩
  | .local _ .vmem, ⟨5, _⟩ => ⟨S1x258x1024, .f32⟩
  | .local _ .vmem, ⟨6, _⟩ => ⟨S1x258x1024, .f32⟩
  | .local _ .vmem, ⟨7, _⟩ => ⟨S1x258x1024, .f32⟩
  | .local _ .vmem, ⟨8, _⟩ => ⟨S1x258x1024, .f32⟩
  | .local _ .smem, ⟨0, _⟩ => ⟨S1, .i32⟩
  | _, _ => ⟨S1x258x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x258x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x258x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x258x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x258x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S7x258x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x258x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x258x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x258x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x258x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamKvReferenceIdeal.lean ====
abbrev S1 : Shape := ⟨1, ![1]⟩
abbrev S1x258x1024 : Shape := ⟨3, ![1, 258, 1024]⟩
abbrev S8x258x1024 : Shape := ⟨3, ![8, 258, 1024]⟩
abbrev S7x258x1024 : Shape := ⟨3, ![7, 258, 1024]⟩
abbrev S8 : Shape := ⟨1, ![8]⟩
abbrev S8x1x1 : Shape := ⟨3, ![8, 1, 1]⟩
abbrev S_ : Shape := ⟨0, ![]⟩
abbrev S258x1024 : Shape := ⟨2, ![258, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x258x1024, .f32⟩
  | .hbm, ⟨2, _⟩ => ⟨S1x258x1024, .f32⟩
  | .hbm, ⟨3, _⟩ => ⟨S1x258x1024, .f32⟩
  | .hbm, ⟨4, _⟩ => ⟨S8x258x1024, .bf16⟩
  | .hbm, ⟨5, _⟩ => ⟨S7x258x1024, .bf16⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x258x1024, .f32⟩
  | .hbm, ⟨11, _⟩ => ⟨S_, .f32⟩
  | .hbm, ⟨12, _⟩ => ⟨S_, .f32⟩
  | .hbm, ⟨13, _⟩ => ⟨S8x258x1024, .i1⟩
  | .hbm, ⟨14, _⟩ => ⟨S8x258x1024, .f32⟩
  | .hbm, ⟨15, _⟩ => ⟨S8x258x1024, .f32⟩
  | .hbm, ⟨16, _⟩ => ⟨S_, .f32⟩
  | .hbm, ⟨17, _⟩ => ⟨S258x1024, .f32⟩
  | .hbm, ⟨18, _⟩ => ⟨S7x258x1024, .f32⟩
  | .hbm, ⟨19, _⟩ => ⟨S_, .f32⟩
  | .hbm, ⟨20, _⟩ => ⟨S258x1024, .f32⟩
  | .hbm, ⟨21, _⟩ => ⟨S258x1024, .f32⟩
  | .hbm, ⟨22, _⟩ => ⟨S1x258x1024, .f32⟩
  | .hbm, ⟨23, _⟩ => ⟨S_, .f32⟩
  | .hbm, ⟨24, _⟩ => ⟨S1x258x1024, .f32⟩
  | .hbm, ⟨25, _⟩ => ⟨S1x258x1024, .f32⟩
  | .hbm, ⟨26, _⟩ => ⟨S_, .f32⟩
  | .hbm, ⟨27, _⟩ => ⟨S1x258x1024, .f32⟩
  | .hbm, ⟨28, _⟩ => ⟨S1x258x1024, .f32⟩
  | .hbm, ⟨29, _⟩ => ⟨S1x258x1024, .f32⟩
  | .hbm, ⟨30, _⟩ => ⟨S_, .f32⟩
  | .hbm, ⟨31, _⟩ => ⟨S1x258x1024, .f32⟩
  | .hbm, ⟨32, _⟩ => ⟨S1x258x1024, .f32⟩
  | .hbm, ⟨33, _⟩ => ⟨S1x258x1024, .f32⟩
  | .hbm, ⟨34, _⟩ => ⟨S_, .f32⟩
  | .hbm, ⟨35, _⟩ => ⟨S1x258x1024, .f32⟩
  | .hbm, ⟨36, _⟩ => ⟨S1x258x1024, .f32⟩
  | .hbm, ⟨37, _⟩ => ⟨S1x258x1024, .f32⟩
  | .hbm, ⟨38, _⟩ => ⟨S_, .f32⟩
  | .hbm, ⟨39, _⟩ => ⟨S1x258x1024, .f32⟩
  | .hbm, ⟨40, _⟩ => ⟨S1x258x1024, .f32⟩
  | .hbm, ⟨41, _⟩ => ⟨S_, .f32⟩
  | .hbm, ⟨42, _⟩ => ⟨S1x258x1024, .f32⟩
  | .hbm, ⟨43, _⟩ => ⟨S1x258x1024, .f32⟩
  | .hbm, ⟨44, _⟩ => ⟨S1x258x1024, .f32⟩
  | .hbm, ⟨45, _⟩ => ⟨S_, .f32⟩
  | .hbm, ⟨46, _⟩ => ⟨S1x258x1024, .f32⟩
  | .hbm, ⟨47, _⟩ => ⟨S1x258x1024, .f32⟩
  | .hbm, ⟨48, _⟩ => ⟨S1x258x1024, .f32⟩
  | .hbm, ⟨49, _⟩ => ⟨S_, .f32⟩
  | .hbm, ⟨50, _⟩ => ⟨S1x258x1024, .f32⟩
  | .hbm, ⟨51, _⟩ => ⟨S1x258x1024, .f32⟩
  | .hbm, ⟨52, _⟩ => ⟨S1x258x1024, .f32⟩
  | .hbm, ⟨53, _⟩ => ⟨S_, .f32⟩
  | .hbm, ⟨54, _⟩ => ⟨S1x258x1024, .f32⟩
  | .hbm, ⟨55, _⟩ => ⟨S1x258x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== AdamFoKernel.lean ====
abbrev S1 : Shape := ⟨1, ![1]⟩
abbrev S2x352x1024 : Shape := ⟨3, ![2, 352, 1024]⟩
abbrev S8x352x1024 : Shape := ⟨3, ![8, 352, 1024]⟩
abbrev S7x352x1024 : Shape := ⟨3, ![7, 352, 1024]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S7x352x1024, .bf16⟩
  | .hbm, ⟨5, _⟩ => ⟨S8x352x1024, .bf16⟩
  | .hbm, ⟨6, _⟩ => ⟨S7x352x1024, .bf16⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .bf16⟩
  | .local _ .vmem, ⟨7, _⟩ => ⟨S1x176x1024, .bf16⟩
  | .local _ .vmem, ⟨8, _⟩ => ⟨S7x176x1024, .bf16⟩
  | .local _ .vmem, ⟨9, _⟩ => ⟨S7x176x1024, .bf16⟩
  | .local _ .vmem, ⟨10, _⟩ => ⟨S1x176x1024, .bf16⟩
  | .local _ .vmem, ⟨11, _⟩ => ⟨S1x176x1024, .bf16⟩
  | .local _ .vmem, ⟨12, _⟩ => ⟨S7x176x1024, .bf16⟩
  | .local _ .vmem, ⟨13, _⟩ => ⟨S7x176x1024, .bf16⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S7x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFoReferenceIdeal.lean ====
abbrev S1 : Shape := ⟨1, ![1]⟩
abbrev S2x352x1024 : Shape := ⟨3, ![2, 352, 1024]⟩
abbrev S8x352x1024 : Shape := ⟨3, ![8, 352, 1024]⟩
abbrev S7x352x1024 : Shape := ⟨3, ![7, 352, 1024]⟩
abbrev S8 : Shape := ⟨1, ![8]⟩
abbrev S8x1x1 : Shape := ⟨3, ![8, 1, 1]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 76
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S8x352x1024, .bf16⟩
  | .hbm, ⟨5, _⟩ => ⟨S7x352x1024, .bf16⟩
  | .hbm, ⟨6, _⟩ => ⟨S8x352x1024, .bf16⟩
  | .hbm, ⟨7, _⟩ => ⟨S7x352x1024, .bf16⟩
  | .hbm, ⟨8, _⟩ => ⟨S8, .i32⟩
  | .hbm, ⟨9, _⟩ => ⟨S8, .i32⟩
  | .hbm, ⟨10, _⟩ => ⟨S8, .i1⟩
  | .hbm, ⟨11, _⟩ => ⟨S8x1x1, .i1⟩
  | .hbm, ⟨12, _⟩ => ⟨S8x352x1024, .f32⟩
  | .hbm, ⟨13, _⟩ => ⟨S_, .f32⟩
  | .hbm, ⟨14, _⟩ => ⟨S_, .f32⟩
  | .hbm, ⟨15, _⟩ => ⟨S8x352x1024, .i1⟩
  | .hbm, ⟨16, _⟩ => ⟨S8x352x1024, .f32⟩
  | .hbm, ⟨17, _⟩ => ⟨S8x352x1024, .f32⟩
  | .hbm, ⟨18, _⟩ => ⟨S_, .f32⟩
  | .hbm, ⟨19, _⟩ => ⟨S352x1024, .f32⟩
  | .hbm, ⟨20, _⟩ => ⟨S7x352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S8, .i32⟩
  | .hbm, ⟨25, _⟩ => ⟨S8, .i32⟩
  | .hbm, ⟨26, _⟩ => ⟨S8, .i1⟩
  | .hbm, ⟨27, _⟩ => ⟨S8x1x1, .i1⟩
  | .hbm, ⟨28, _⟩ => ⟨S8x352x1024, .f32⟩
  | .hbm, ⟨29, _⟩ => ⟨S_, .f32⟩
  | .hbm, ⟨30, _⟩ => ⟨S_, .f32⟩
  | .hbm, ⟨31, _⟩ => ⟨S8x352x1024, .i1⟩
  | .hbm, ⟨32, _⟩ => ⟨S8x352x1024, .f32⟩
  | .hbm, ⟨33, _⟩ => ⟨S8x352x1024, .f32⟩
  | .hbm, ⟨34, _⟩ => ⟨S_, .f32⟩
  | .hbm, ⟨35, _⟩ => ⟨S352x1024, .f32⟩
  | .hbm, ⟨36, _⟩ => ⟨S7x352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S1x352x1024, .f32⟩
  | .hbm, ⟨41, _⟩ => ⟨S1x352x1024, .f32⟩
  | .hbm, ⟨42, _⟩ => ⟨S2x352x1024, .f32⟩
  | .hbm, ⟨43, _⟩ => ⟨S_, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | .hbm, ⟨49, _⟩ => ⟨S2x352x1024, .f32⟩
  | .hbm, ⟨50, _⟩ => ⟨S_, .f32⟩
  | .hbm, ⟨51, _⟩ => ⟨S2x352x1024, .f32⟩
  | .hbm, ⟨52, _⟩ => ⟨S2x352x1024, .f32⟩
  | .hbm, ⟨53, _⟩ => ⟨S2x352x1024, .f32⟩
  | .hbm, ⟨54, _⟩ => ⟨S_, .f32⟩
  | .hbm, ⟨55, _⟩ => ⟨S2x352x1024, .f32⟩
  | .hbm, ⟨56, _⟩ => ⟨S2x352x1024, .f32⟩
  | .hbm, ⟨57, _⟩ => ⟨S2x352x1024, .f32⟩
  | .hbm, ⟨58, _⟩ => ⟨S_, .f32⟩
  | .hbm, ⟨59, _⟩ => ⟨S2x352x1024, .f32⟩
  | .hbm, ⟨60, _⟩ => ⟨S2x352x1024, .f32⟩
  | .hbm, ⟨61, _⟩ => ⟨S_, .f32⟩
  | .hbm, ⟨62, _⟩ => ⟨S2x352x1024, .f32⟩
  | .hbm, ⟨63, _⟩ => ⟨S2x352x1024, .f32⟩
  | .hbm, ⟨64, _⟩ => ⟨S2x352x1024, .f32⟩
  | .hbm, ⟨65, _⟩ => ⟨S_, .f32⟩
  | .hbm, ⟨66, _⟩ => ⟨S2x352x1024, .f32⟩
  | .hbm, ⟨67, _⟩ => ⟨S2x352x1024, .f32⟩
  | .hbm, ⟨68, _⟩ => ⟨S2x352x1024, .f32⟩
  | .hbm, ⟨69, _⟩ => ⟨S_, .f32⟩
  | .hbm, ⟨70, _⟩ => ⟨S2x352x1024, .f32⟩
  | .hbm, ⟨71, _⟩ => ⟨S2x352x1024, .f32⟩
  | .hbm, ⟨72, _⟩ => ⟨S2x352x1024, .f32⟩
  | .hbm, ⟨73, _⟩ => ⟨S_, .f32⟩
  | .hbm, ⟨74, _⟩ => ⟨S2x352x1024, .f32⟩
  | .hbm, ⟨75, _⟩ => ⟨S2x352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== AdamFiKernel.lean ====
abbrev S1 : Shape := ⟨1, ![1]⟩
abbrev S2x704x1024 : Shape := ⟨3, ![2, 704, 1024]⟩
abbrev S8x704x1024 : Shape := ⟨3, ![8, 704, 1024]⟩
abbrev S7x704x1024 : Shape := ⟨3, ![7, 704, 1024]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S8x704x1024, .bf16⟩
  | .hbm, ⟨4, _⟩ => ⟨S7x704x1024, .bf16⟩
  | .hbm, ⟨5, _⟩ => ⟨S8x704x1024, .bf16⟩
  | .hbm, ⟨6, _⟩ => ⟨S7x704x1024, .bf16⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .bf16⟩
  | .local _ .vmem, ⟨7, _⟩ => ⟨S1x176x1024, .bf16⟩
  | .local _ .vmem, ⟨8, _⟩ => ⟨S7x176x1024, .bf16⟩
  | .local _ .vmem, ⟨9, _⟩ => ⟨S7x176x1024, .bf16⟩
  | .local _ .vmem, ⟨10, _⟩ => ⟨S1x176x1024, .bf16⟩
  | .local _ .vmem, ⟨11, _⟩ => ⟨S1x176x1024, .bf16⟩
  | .local _ .vmem, ⟨12, _⟩ => ⟨S7x176x1024, .bf16⟩
  | .local _ .vmem, ⟨13, _⟩ => ⟨S7x176x1024, .bf16⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S7x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFiReferenceIdeal.lean ====
abbrev S1 : Shape := ⟨1, ![1]⟩
abbrev S2x704x1024 : Shape := ⟨3, ![2, 704, 1024]⟩
abbrev S8x704x1024 : Shape := ⟨3, ![8, 704, 1024]⟩
abbrev S7x704x1024 : Shape := ⟨3, ![7, 704, 1024]⟩
abbrev S8 : Shape := ⟨1, ![8]⟩
abbrev S8x1x1 : Shape := ⟨3, ![8, 1, 1]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 76
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S8x704x1024, .bf16⟩
  | .hbm, ⟨5, _⟩ => ⟨S7x704x1024, .bf16⟩
  | .hbm, ⟨6, _⟩ => ⟨S8x704x1024, .bf16⟩
  | .hbm, ⟨7, _⟩ => ⟨S7x704x1024, .bf16⟩
  | .hbm, ⟨8, _⟩ => ⟨S8, .i32⟩
  | .hbm, ⟨9, _⟩ => ⟨S8, .i32⟩
  | .hbm, ⟨10, _⟩ => ⟨S8, .i1⟩
  | .hbm, ⟨11, _⟩ => ⟨S8x1x1, .i1⟩
  | .hbm, ⟨12, _⟩ => ⟨S8x704x1024, .f32⟩
  | .hbm, ⟨13, _⟩ => ⟨S_, .f32⟩
  | .hbm, ⟨14, _⟩ => ⟨S_, .f32⟩
  | .hbm, ⟨15, _⟩ => ⟨S8x704x1024, .i1⟩
  | .hbm, ⟨16, _⟩ => ⟨S8x704x1024, .f32⟩
  | .hbm, ⟨17, _⟩ => ⟨S8x704x1024, .f32⟩
  | .hbm, ⟨18, _⟩ => ⟨S_, .f32⟩
  | .hbm, ⟨19, _⟩ => ⟨S704x1024, .f32⟩
  | .hbm, ⟨20, _⟩ => ⟨S7x704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S8, .i32⟩
  | .hbm, ⟨25, _⟩ => ⟨S8, .i32⟩
  | .hbm, ⟨26, _⟩ => ⟨S8, .i1⟩
  | .hbm, ⟨27, _⟩ => ⟨S8x1x1, .i1⟩
  | .hbm, ⟨28, _⟩ => ⟨S8x704x1024, .f32⟩
  | .hbm, ⟨29, _⟩ => ⟨S_, .f32⟩
  | .hbm, ⟨30, _⟩ => ⟨S_, .f32⟩
  | .hbm, ⟨31, _⟩ => ⟨S8x704x1024, .i1⟩
  | .hbm, ⟨32, _⟩ => ⟨S8x704x1024, .f32⟩
  | .hbm, ⟨33, _⟩ => ⟨S8x704x1024, .f32⟩
  | .hbm, ⟨34, _⟩ => ⟨S_, .f32⟩
  | .hbm, ⟨35, _⟩ => ⟨S704x1024, .f32⟩
  | .hbm, ⟨36, _⟩ => ⟨S7x704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S1x704x1024, .f32⟩
  | .hbm, ⟨41, _⟩ => ⟨S1x704x1024, .f32⟩
  | .hbm, ⟨42, _⟩ => ⟨S2x704x1024, .f32⟩
  | .hbm, ⟨43, _⟩ => ⟨S_, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | .hbm, ⟨49, _⟩ => ⟨S2x704x1024, .f32⟩
  | .hbm, ⟨50, _⟩ => ⟨S_, .f32⟩
  | .hbm, ⟨51, _⟩ => ⟨S2x704x1024, .f32⟩
  | .hbm, ⟨52, _⟩ => ⟨S2x704x1024, .f32⟩
  | .hbm, ⟨53, _⟩ => ⟨S2x704x1024, .f32⟩
  | .hbm, ⟨54, _⟩ => ⟨S_, .f32⟩
  | .hbm, ⟨55, _⟩ => ⟨S2x704x1024, .f32⟩
  | .hbm, ⟨56, _⟩ => ⟨S2x704x1024, .f32⟩
  | .hbm, ⟨57, _⟩ => ⟨S2x704x1024, .f32⟩
  | .hbm, ⟨58, _⟩ => ⟨S_, .f32⟩
  | .hbm, ⟨59, _⟩ => ⟨S2x704x1024, .f32⟩
  | .hbm, ⟨60, _⟩ => ⟨S2x704x1024, .f32⟩
  | .hbm, ⟨61, _⟩ => ⟨S_, .f32⟩
  | .hbm, ⟨62, _⟩ => ⟨S2x704x1024, .f32⟩
  | .hbm, ⟨63, _⟩ => ⟨S2x704x1024, .f32⟩
  | .hbm, ⟨64, _⟩ => ⟨S2x704x1024, .f32⟩
  | .hbm, ⟨65, _⟩ => ⟨S_, .f32⟩
  | .hbm, ⟨66, _⟩ => ⟨S2x704x1024, .f32⟩
  | .hbm, ⟨67, _⟩ => ⟨S2x704x1024, .f32⟩
  | .hbm, ⟨68, _⟩ => ⟨S2x704x1024, .f32⟩
  | .hbm, ⟨69, _⟩ => ⟨S_, .f32⟩
  | .hbm, ⟨70, _⟩ => ⟨S2x704x1024, .f32⟩
  | .hbm, ⟨71, _⟩ => ⟨S2x704x1024, .f32⟩
  | .hbm, ⟨72, _⟩ => ⟨S2x704x1024, .f32⟩
  | .hbm, ⟨73, _⟩ => ⟨S_, .f32⟩
  | .hbm, ⟨74, _⟩ => ⟨S2x704x1024, .f32⟩
  | .hbm, ⟨75, _⟩ => ⟨S2x704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== ForgetDwKernel.lean ====
abbrev S1x4096x128 : Shape := ⟨3, ![1, 4096, 128]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x1024 : Shape := ⟨3, ![1, 4096, 1024]⟩
abbrev S1x1x1024x128 : Shape := ⟨4, ![1, 1, 1024, 128]⟩
abbrev S1x2048x1024 : Shape := ⟨3, ![1, 2048, 1024]⟩
abbrev S1x2048x128 : Shape := ⟨3, ![1, 2048, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 23
  | .vmem => 6
  | .smem => 0
  | _ => 0

abbrev bufTy : (tb : Table) → Fin (tcTables nBuf tb) → BufTy
  | .hbm, ⟨0, _⟩ => ⟨S1x4096x128, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x4096x1024, .bf16⟩
  | .hbm, ⟨21, _⟩ => ⟨S1x4096x128, .bf16⟩
  | .hbm, ⟨22, _⟩ => ⟨S1x1x1024x128, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x1x1024x128, .bf16⟩
  | .local _ .vmem, ⟨5, _⟩ => ⟨S1024x128, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ForgetDwReferenceIdeal.lean ====
abbrev S1x4096x128 : Shape := ⟨3, ![1, 4096, 128]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x128 : Shape := ⟨2, ![1024, 128]⟩
abbrev S4096x128 : Shape := ⟨2, ![4096, 128]⟩
abbrev S128x1024 : Shape := ⟨2, ![128, 1024]⟩
abbrev S1x1x1024x128 : Shape := ⟨4, ![1, 1, 1024, 128]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1024x128, .f32⟩
  | .hbm, ⟨21, _⟩ => ⟨S4096x128, .f32⟩
  | .hbm, ⟨22, _⟩ => ⟨S4096x128, .f32⟩
  | .hbm, ⟨23, _⟩ => ⟨S128x1024, .f32⟩
  | .hbm, ⟨24, _⟩ => ⟨S1024x128, .f32⟩
  | .hbm, ⟨25, _⟩ => ⟨S1x1x1024x128, .f32⟩
  | .hbm, ⟨26, _⟩ => ⟨S1x1x1024x128, .bf16⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.ConvMath.lean ====
/- The short convolution's gradient, written once over rows: `z` is the incoming gradient, `b`, `c`, `h` the three
   gates, each a function of the row (4096 rows, two sequences of 2048) and the lane, `k` the three taps. -/
module

public import Idealize.ShloMosaic.Lib.Pointwise
public import Idealize.ShloMosaic.Lib.Pipeline.ValueKit
public import Idealize.ShloMosaic.Lib.Claim

@[expose] public section

noncomputable section

namespace Cert

open Idealize.ShloMosaic

/-- An index is the tuple of its coordinates. -/
theorem split2 {a b : Nat} (j : (⟨2, ![a, b]⟩ : Shape).Idx) : ∃ (p : Fin a) (q : Fin b), j = ix2 p q := ⟨j 0, j 1, eq_ix2 j⟩
theorem split3 {a b c : Nat} (j : (⟨3, ![a, b, c]⟩ : Shape).Idx) : ∃ (p : Fin a) (q : Fin b) (r : Fin c), j = ix3 p q r :=
  ⟨j 0, j 1, j 2, eq_ix3 j⟩
theorem split4 {a b c d : Nat} (j : (⟨4, ![a, b, c, d]⟩ : Shape).Idx) :
    ∃ (p : Fin a) (q : Fin b) (r : Fin c) (s : Fin d), j = ix4 p q r s := ⟨j 0, j 1, j 2, j 3, eq_ix4 j⟩

end Cert

namespace Cert.ShortConv

open Idealize.ShloMosaic

/-- An array's rows: row `n`, lane `l` of piece `p`, zero outside the array. -/
def rows {k : Nat} (x : (⟨3, ![k, 4096, 1024]⟩ : Shape).Idx → EReal) (p : Fin k) (n : Nat) (l : Fin 1024) : EReal :=
  if hn : n < 4096 then x (ix3 p ⟨n, hn⟩ l) else 0

theorem rows_of_lt {k : Nat} (x : (⟨3, ![k, 4096, 1024]⟩ : Shape).Idx → EReal) (p : Fin k) (n : Nat) (hn : n < 4096)
    (l : Fin 1024) : x (ix3 p ⟨n, hn⟩ l) = rows x p n l := by
  unfold rows; rw [dif_pos hn]

/-- The rows `d` earlier, zero where that leaves the sequence. -/
def back (d : Nat) (u : Nat → Fin 1024 → EReal) (n : Nat) (l : Fin 1024) : EReal :=
  if d ≤ n % 2048 then u (n - d) l else 0

/-- The rows `d` later, zero where that leaves the sequence. -/
def ahead (d : Nat) (u : Nat → Fin 1024 → EReal) (n : Nat) (l : Fin 1024) : EReal :=
  if n % 2048 + d < 2048 then u (n + d) l else 0

section
variable (z b c h : Nat → Fin 1024 → EReal) (k : Fin 3 → Fin 1024 → EReal)

/-- The convolution's input. -/
def inp (n : Nat) (l : Fin 1024) : EReal := c n l * h n l

/-- The gradient at the convolution's output. -/
def grad (n : Nat) (l : Fin 1024) : EReal := z n l * b n l

/-- The convolution: each row with the two before it. -/
def conv (n : Nat) (l : Fin 1024) : EReal :=
  k 2 l * inp c h n l + k 1 l * back 1 (inp c h) n l + k 0 l * back 2 (inp c h) n l

/-- The gradient at the convolution's input: each row with the two after it. -/
def dinp (n : Nat) (l : Fin 1024) : EReal :=
  k 2 l * grad z b n l + k 1 l * ahead 1 (grad z b) n l + k 0 l * ahead 2 (grad z b) n l

/-- The gradients of the three gates. -/
def dgate (p : Fin 3) (n : Nat) (l : Fin 1024) : EReal :=
  match p with
  | 0 => z n l * conv c h k n l
  | 1 => dinp z b k n l * h n l
  | 2 => dinp z b k n l * c n l

/-- What row `n` adds to the gradient of tap `p`. -/
def tapTerm (p : Fin 3) (n : Nat) (l : Fin 1024) : EReal :=
  match p with
  | 0 => grad z b n l * back 2 (inp c h) n l
  | 1 => grad z b n l * back 1 (inp c h) n l
  | 2 => grad z b n l * inp c h n l

/-- What one tile of 512 rows adds to it. -/
def tapTile (t : Nat) (p : Fin 3) (l : Fin 1024) : EReal := ∑ r : Fin 512, tapTerm z b c h p (512 * t + r.val) l

/-- The gradient of the taps: the sum over all rows. -/
def dtap (p : Fin 3) (l : Fin 1024) : EReal := ∑ n : Fin 4096, tapTerm z b c h p n.val l

end

/-- A sum over `a * b` rows is the sum over `a` tiles of `b` rows. -/
theorem sum_tiles {M : Type} [AddCommMonoid M] (a b : Nat) (f : Nat → M) :
    ∑ n : Fin (a * b), f n.val = ∑ t : Fin a, ∑ r : Fin b, f (b * t.val + r.val) := by
  rw [← Fintype.sum_prod_type', ← Equiv.sum_comp finProdFinEquiv]
  refine Finset.sum_congr rfl fun x _ => ?_
  rw [finProdFinEquiv_apply_val, Nat.add_comm]

/-- A selection on `r = n`, the comparison made on 32-bit words. -/
theorem select_row {α : Type} (r n : Nat) (hr : r < 2 ^ 32) (hn : n < 2 ^ 32) (x y : α) :
    Scalar.select (IntOp.cmpi .eq (BitVec.ofNat 32 r) (BitVec.ofNat 32 n)) x y = if r = n then x else y := by
  by_cases e : r = n
  · subst e; simp [Scalar.select, IntOp.cmpi]
  · have h' : ¬ BitVec.ofNat 32 r = BitVec.ofNat 32 n := fun q => e (by
      have := congrArg BitVec.toNat q
      rw [BitVec.toNat_ofNat, BitVec.toNat_ofNat] at this
      omega)
    have hb : (BitVec.ofNat 32 r == BitVec.ofNat 32 n) = false := beq_eq_false_iff_ne.mpr h'
    rw [if_neg e]
    simp [Scalar.select, IntOp.cmpi, hb]

end Cert.ShortConv
end
-- ==== Proof.ConvBlocks.lean ====
/- What one grid point of the convolution's backward kernel computes: the kernel's stores at a row and a lane, over
   blocks that hold the rows of `z`, `b`, `c`, `h` the point stages. -/
module

public import proofs.«01_k».proof.Proof.Gen.ConvKernelIdeal.Value
public import proofs.«01_k».proof.Proof.ConvMath

@[expose] public section

noncomputable section

namespace Cert.ConvKernelIdeal.Blocks

open Gen Cert.ShortConv Idealize.ShloMosaic Idealize.ShloMosaic.TcCoe
  Idealize.SL.Sem

set_option maxRecDepth 65536

local notation "𝕀" => Idealize.ShloMosaic.Ideal

section
variable (z b c h : Nat → Fin 1024 → EReal) (k : Fin 3 → Fin 1024 → EReal) (t : Nat) (ht : t < 8)
  (first last : BitVec 1) (hfirst : first = if t % 4 = 0 then 1#1 else 0#1) (hlast : last = if t % 4 = 3 then 1#1 else 0#1)
  (x0 x1 x2 x3 : Vec 𝕀 S1x512x1024 .bf16) (x4 x5 x6 x7 : Vec 𝕀 S1x8x1024 .bf16) (x8 : Vec 𝕀 S3x1024 .f32)
  (e0 : ∀ r l, x0 (ix3 0 r l) = z (512 * t + r.val) l)
  (e1 : ∀ r l, x1 (ix3 0 r l) = b (512 * t + r.val) l)
  (e2 : ∀ r l, x2 (ix3 0 r l) = c (512 * t + r.val) l)
  (e3 : ∀ r l, x3 (ix3 0 r l) = h (512 * t + r.val) l)
  (e4 : ∀ r l, x4 (ix3 0 r l) = c (8 * (64 * t - 1) + r.val) l)
  (e5 : ∀ r l, x5 (ix3 0 r l) = h (8 * (64 * t - 1) + r.val) l)
  (e6 : ∀ r l, x6 (ix3 0 r l) = z (8 * min (64 * (t + 1)) 511 + r.val) l)
  (e7 : ∀ r l, x7 (ix3 0 r l) = b (8 * min (64 * (t + 1)) 511 + r.val) l)
  (e8 : ∀ j l, x8 (ix2 j l) = k j l)

include e2 e3 in
theorem inp_apply (r : Fin 512) (l : Fin 1024) :
    k0_pay6 (k0_pay2 x2) (k0_pay3 x3) (ix2 r l) = inp c h (512 * t + r.val) l := by
  unfold_payloads; pointwise; rw [e2, e3]; rfl

include e0 e1 in
theorem grad_apply (r : Fin 512) (l : Fin 1024) :
    k0_pay11 (k0_pay1 x1) (k0_pay4 x0) (ix2 r l) = grad z b (512 * t + r.val) l := by
  unfold_payloads; pointwise; rw [e0, e1]; rfl

include hfirst e2 e3 e4 e5 ht in
theorem back1_apply (r : Fin 512) (l : Fin 1024) :
    k0_pay8 first (k0_pay2 x2) (k0_pay3 x3) x4 x5 (ix2 r l) = back 1 (inp c h) (512 * t + r.val) l := by
  unfold_payloads; pointwise
  subst hfirst
  rw [select_row _ 0 (by omega) (by omega), e4, e5, e2, e3]
  unfold back inp
  by_cases h0 : r.val = 0
  · by_cases hf : t % 4 = 0
    · rw [if_pos h0, if_pos hf, if_neg (by omega)]; rfl
    · rw [if_pos h0, if_neg hf, if_pos (by omega)]
      have q : 8 * (64 * t - 1) + ((7 : Fin 8) : Nat) = 512 * t + r.val - 1 := by
        show 8 * (64 * t - 1) + 7 = _; omega
      rw [q]; rfl
  · rw [if_neg h0, if_pos (by omega)]
    have q : 512 * t + (r.val + 512 - 1) % 512 = 512 * t + r.val - 1 := by omega
    simp only [q]

include hfirst e2 e3 e4 e5 ht in
theorem back2_apply (r : Fin 512) (l : Fin 1024) :
    k0_pay9 first (k0_pay2 x2) (k0_pay3 x3) x4 x5 (ix2 r l) = back 2 (inp c h) (512 * t + r.val) l := by
  unfold_payloads; pointwise
  subst hfirst
  rw [select_row _ 0 (by omega) (by omega), select_row _ 1 (by omega) (by omega), e4, e5, e4, e5, e2, e3]
  unfold back inp
  by_cases h1 : r.val = 1
  · by_cases hf : t % 4 = 0
    · rw [if_pos h1, if_pos hf, if_neg (by omega)]; rfl
    · rw [if_pos h1, if_neg hf, if_pos (by omega)]
      have q : 8 * (64 * t - 1) + ((7 : Fin 8) : Nat) = 512 * t + r.val - 2 := by
        show 8 * (64 * t - 1) + 7 = _; omega
      rw [q]; rfl
  rw [if_neg h1]
  by_cases h0 : r.val = 0
  · by_cases hf : t % 4 = 0
    · rw [if_pos h0, if_pos hf, if_neg (by omega)]; rfl
    · rw [if_pos h0, if_neg hf, if_pos (by omega)]
      have q : 8 * (64 * t - 1) + ((6 : Fin 8) : Nat) = 512 * t + r.val - 2 := by
        show 8 * (64 * t - 1) + 6 = _; omega
      rw [q]; rfl
  · rw [if_neg h0, if_pos (by omega)]
    have q : 512 * t + (r.val + 512 - 2) % 512 = 512 * t + r.val - 2 := by omega
    simp only [q]

include hfirst e2 e3 e4 e5 e8 ht in
theorem conv_apply (r : Fin 512) (l : Fin 1024) :
    k0_pay10 first (k0_pay2 x2) (k0_pay3 x3) x4 x5 x8 (ix2 r l) = conv c h k (512 * t + r.val) l := by
  have u0 := inp_apply c h t x2 x3 e2 e3 r l
  have u1 := back1_apply c h t ht first hfirst x2 x3 x4 x5 e2 e3 e4 e5 r l
  have u2 := back2_apply c h t ht first hfirst x2 x3 x4 x5 e2 e3 e4 e5 r l
  unfold conv
  rw [← u0, ← u1, ← u2, ← e8, ← e8, ← e8]
  unfold_payloads; pointwise

include hlast e0 e1 e6 e7 e8 ht in
theorem dinp_apply (r : Fin 512) (l : Fin 1024) :
    k0_pay12 last x8 (k0_pay11 (k0_pay1 x1) (k0_pay4 x0)) x6 x7 (ix2 r l) = dinp z b k (512 * t + r.val) l := by
  have g := grad_apply z b t x0 x1 e0 e1
  generalize k0_pay11 (k0_pay1 x1) (k0_pay4 x0) = G at g
  unfold_payloads; pointwise
  subst hlast
  simp only [select_row _ 511 (show r.val < 2 ^ 32 by omega) (by omega),
    select_row _ 510 (show r.val < 2 ^ 32 by omega) (by omega), e6, e7, e8, g]
  unfold dinp
  congr 1
  · congr 2
    unfold ahead
    by_cases h1 : r.val = 511
    · rw [if_pos h1]
      by_cases hf : t % 4 = 3
      · rw [if_pos hf, if_neg (by omega)]; rfl
      · rw [if_neg hf, if_pos (by omega)]
        have q : 8 * min (64 * (t + 1)) 511 + ((0 : Fin 8) : Nat) = 512 * t + r.val + 1 := by
          show 8 * min (64 * (t + 1)) 511 + 0 = _; omega
        rw [q]; rfl
    · rw [if_neg h1, if_pos (by omega)]
      have q : 512 * t + (r.val + 512 - 511) % 512 = 512 * t + r.val + 1 := by omega
      simp only [q]
  · congr 1
    unfold ahead
    by_cases h1 : r.val = 511
    · rw [if_pos h1]
      by_cases hf : t % 4 = 3
      · rw [if_pos hf, if_neg (by omega)]; rfl
      · rw [if_neg hf, if_pos (by omega)]
        have q : 8 * min (64 * (t + 1)) 511 + ((1 : Fin 8) : Nat) = 512 * t + r.val + 2 := by
          show 8 * min (64 * (t + 1)) 511 + 1 = _; omega
        rw [q]; rfl
    rw [if_neg h1]
    by_cases h2 : r.val = 510
    · rw [if_pos h2]
      by_cases hf : t % 4 = 3
      · rw [if_pos hf, if_neg (by omega)]; rfl
      · rw [if_neg hf, if_pos (by omega)]
        have q : 8 * min (64 * (t + 1)) 511 + ((0 : Fin 8) : Nat) = 512 * t + r.val + 2 := by
          show 8 * min (64 * (t + 1)) 511 + 0 = _; omega
        rw [q]; rfl
    · rw [if_neg h2, if_pos (by omega)]
      have q : 512 * t + (r.val + 512 - 510) % 512 = 512 * t + r.val + 2 := by omega
      simp only [q]

include hfirst e0 e2 e3 e4 e5 e8 ht in
/-- The first store: the gradient of the gate `b`. -/
theorem piece0_apply (r : Fin 512) (l : Fin 1024) :
    k0_pay14 (k0_pay13 (k0_pay5 (k0_pay4 x0)) (k0_pay10 first (k0_pay2 x2) (k0_pay3 x3) x4 x5 x8)) (ix3 0 r l)
      = dgate z b c h k 0 (512 * t + r.val) l := by
  have g := conv_apply c h k t ht first hfirst x2 x3 x4 x5 x8 e2 e3 e4 e5 e8 r l
  show _ = z (512 * t + r.val) l * conv c h k (512 * t + r.val) l
  generalize k0_pay10 first (k0_pay2 x2) (k0_pay3 x3) x4 x5 x8 = G at g
  rw [← g, ← e0]
  unfold_payloads; pointwise

include hlast e0 e1 e3 e6 e7 e8 ht in
/-- The second store: the gradient of the gate `c`. -/
theorem piece1_apply (r : Fin 512) (l : Fin 1024) :
    k0_pay15 (k0_pay3 x3) (k0_pay12 last x8 (k0_pay11 (k0_pay1 x1) (k0_pay4 x0)) x6 x7) (ix3 0 r l)
      = dgate z b c h k 1 (512 * t + r.val) l := by
  have g := dinp_apply z b k t ht last hlast x0 x1 x6 x7 x8 e0 e1 e6 e7 e8 r l
  show _ = dinp z b k (512 * t + r.val) l * h (512 * t + r.val) l
  generalize k0_pay12 last x8 (k0_pay11 (k0_pay1 x1) (k0_pay4 x0)) x6 x7 = G at g
  rw [← g, ← e3]
  unfold_payloads; pointwise

include hlast e0 e1 e2 e6 e7 e8 ht in
/-- The third store: the gradient of `h`. -/
theorem piece2_apply (r : Fin 512) (l : Fin 1024) :
    k0_pay16 (k0_pay2 x2) (k0_pay12 last x8 (k0_pay11 (k0_pay1 x1) (k0_pay4 x0)) x6 x7) (ix3 0 r l)
      = dgate z b c h k 2 (512 * t + r.val) l := by
  have g := dinp_apply z b k t ht last hlast x0 x1 x6 x7 x8 e0 e1 e6 e7 e8 r l
  show _ = dinp z b k (512 * t + r.val) l * c (512 * t + r.val) l
  generalize k0_pay12 last x8 (k0_pay11 (k0_pay1 x1) (k0_pay4 x0)) x6 x7 = G at g
  rw [← g, ← e2]
  unfold_payloads; pointwise

include hfirst e0 e1 e2 e3 e4 e5 ht in
/-- What the point adds to the gradient of the taps. -/
theorem tap_apply (p : Fin 3) (l : Fin 1024) :
    k0_pay17 (k0_pay6 (k0_pay2 x2) (k0_pay3 x3)) (k0_pay8 first (k0_pay2 x2) (k0_pay3 x3) x4 x5)
        (k0_pay9 first (k0_pay2 x2) (k0_pay3 x3) x4 x5) (k0_pay11 (k0_pay1 x1) (k0_pay4 x0)) (ix2 p l)
      = tapTile z b c h t p l := by
  have g := grad_apply z b t x0 x1 e0 e1
  have u0 := inp_apply c h t x2 x3 e2 e3
  have u1 := back1_apply c h t ht first hfirst x2 x3 x4 x5 e2 e3 e4 e5
  have u2 := back2_apply c h t ht first hfirst x2 x3 x4 x5 e2 e3 e4 e5
  generalize k0_pay11 (k0_pay1 x1) (k0_pay4 x0) = G at g
  generalize k0_pay6 (k0_pay2 x2) (k0_pay3 x3) = U0 at u0
  generalize k0_pay8 first (k0_pay2 x2) (k0_pay3 x3) x4 x5 = U1 at u1
  generalize k0_pay9 first (k0_pay2 x2) (k0_pay3 x3) x4 x5 = U2 at u2
  unfold_payloads; pointwise
  rw [select_row _ 0 (by omega) (by omega), select_row _ 1 (by omega) (by omega)]
  simp only [g, u0, u1, u2]
  match p with
  | 0 => rfl
  | 1 => rfl
  | 2 => rfl

end

section
variable (m : (ℓ : Loc nD τ sig) → Buf (Elt 𝕀) ℓ) (d : Dev nD)

/-- The incoming gradient, the three gates and the taps, as the launch holds them. -/
def z : Nat → Fin 1024 → EReal := rows (m ((d : Thread nD τ).loc main_arg0)) 0
def gates (p : Fin 3) : Nat → Fin 1024 → EReal := rows (m ((d : Thread nD τ).loc main_arg1)) p
def taps (p : Fin 3) (l : Fin 1024) : EReal := m ((d : Thread nD τ).loc main_arg2) (ix2 p l)

theorem idx_tile (t : Fin cfg0.N) :
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 1 ∧ win0_2.index t 1 = t.val ∧ win0_2.index t 2 = 0)
    ∧ (win0_3.index t 0 = 2 ∧ win0_3.index t 1 = t.val ∧ win0_3.index t 2 = 0) :=
  (by decide +kernel : ∀ t : Fin grid0.N, (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 1 ∧ win0_2.index t 1 = t.val ∧ win0_2.index t 2 = 0)
    ∧ (win0_3.index t 0 = 2 ∧ win0_3.index t 1 = t.val ∧ win0_3.index t 2 = 0)) t

theorem idx_halo (t : Fin cfg0.N) :
    (win0_4.index t 0 = 1 ∧ win0_4.index t 1 = 64 * t.val - 1 ∧ win0_4.index t 2 = 0)
    ∧ (win0_5.index t 0 = 2 ∧ win0_5.index t 1 = 64 * t.val - 1 ∧ win0_5.index t 2 = 0)
    ∧ (win0_6.index t 0 = 0 ∧ win0_6.index t 1 = min (64 * (t.val + 1)) 511 ∧ win0_6.index t 2 = 0)
    ∧ (win0_7.index t 0 = 0 ∧ win0_7.index t 1 = min (64 * (t.val + 1)) 511 ∧ win0_7.index t 2 = 0)
    ∧ (win0_8.index t 0 = 0 ∧ win0_8.index t 1 = 0) :=
  (by decide +kernel : ∀ t : Fin grid0.N,
    (win0_4.index t 0 = 1 ∧ win0_4.index t 1 = 64 * t.val - 1 ∧ win0_4.index t 2 = 0)
    ∧ (win0_5.index t 0 = 2 ∧ win0_5.index t 1 = 64 * t.val - 1 ∧ win0_5.index t 2 = 0)
    ∧ (win0_6.index t 0 = 0 ∧ win0_6.index t 1 = min (64 * (t.val + 1)) 511 ∧ win0_6.index t 2 = 0)
    ∧ (win0_7.index t 0 = 0 ∧ win0_7.index t 1 = min (64 * (t.val + 1)) 511 ∧ win0_7.index t 2 = 0)
    ∧ (win0_8.index t 0 = 0 ∧ win0_8.index t 1 = 0)) t

theorem lt_N (t : Fin cfg0.N) : t.val < 8 := t.isLt

theorem blk0 (t : Fin cfg0.N) (r : Fin 512) (l : Fin 1024) :
    (iblk m d 0 t : Vec 𝕀 S1x512x1024 .bf16) (ix3 0 r l) = z m d (512 * t.val + r.val) l := by
  have hi := (idx_tile t).1
  have h8 := lt_N t
  unfold z
  rw [← rows_of_lt _ _ _ (by omega)]
  unfold iblk
  rw [View.read_apply]
  show V m d main_arg0 _ = m (d.tc.loc main_arg0) _
  unfold V
  congr 1
  funext a
  apply Fin.ext
  match a with
  | ⟨0, _⟩ => show win0_0.index t 0 * 1 + 1 * 0 = 0; rw [hi.1]
  | ⟨1, _⟩ => show win0_0.index t 1 * 512 + 1 * r.val = 512 * t.val + r.val; rw [hi.2.1]; omega
  | ⟨2, _⟩ => show win0_0.index t 2 * 1024 + 1 * l.val = l.val; rw [hi.2.2]; omega

theorem blk1 (t : Fin cfg0.N) (r : Fin 512) (l : Fin 1024) :
    (iblk m d 1 t : Vec 𝕀 S1x512x1024 .bf16) (ix3 0 r l) = gates m d 0 (512 * t.val + r.val) l := by
  have hi := (idx_tile t).2.1
  have h8 := lt_N t
  unfold gates
  rw [← rows_of_lt _ _ _ (by omega)]
  unfold iblk
  rw [View.read_apply]
  show V m d main_arg1 _ = m (d.tc.loc main_arg1) _
  unfold V
  congr 1
  funext a
  apply Fin.ext
  match a with
  | ⟨0, _⟩ => show win0_1.index t 0 * 1 + 1 * 0 = 0; rw [hi.1]
  | ⟨1, _⟩ => show win0_1.index t 1 * 512 + 1 * r.val = 512 * t.val + r.val; rw [hi.2.1]; omega
  | ⟨2, _⟩ => show win0_1.index t 2 * 1024 + 1 * l.val = l.val; rw [hi.2.2]; omega

theorem blk2 (t : Fin cfg0.N) (r : Fin 512) (l : Fin 1024) :
    (iblk m d 2 t : Vec 𝕀 S1x512x1024 .bf16) (ix3 0 r l) = gates m d 1 (512 * t.val + r.val) l := by
  have hi := (idx_tile t).2.2.1
  have h8 := lt_N t
  unfold gates
  rw [← rows_of_lt _ _ _ (by omega)]
  unfold iblk
  rw [View.read_apply]
  show V m d main_arg1 _ = m (d.tc.loc main_arg1) _
  unfold V
  congr 1
  funext a
  apply Fin.ext
  match a with
  | ⟨0, _⟩ => show win0_2.index t 0 * 1 + 1 * 0 = 1; rw [hi.1]
  | ⟨1, _⟩ => show win0_2.index t 1 * 512 + 1 * r.val = 512 * t.val + r.val; rw [hi.2.1]; omega
  | ⟨2, _⟩ => show win0_2.index t 2 * 1024 + 1 * l.val = l.val; rw [hi.2.2]; omega

theorem blk3 (t : Fin cfg0.N) (r : Fin 512) (l : Fin 1024) :
    (iblk m d 3 t : Vec 𝕀 S1x512x1024 .bf16) (ix3 0 r l) = gates m d 2 (512 * t.val + r.val) l := by
  have hi := (idx_tile t).2.2.2
  have h8 := lt_N t
  unfold gates
  rw [← rows_of_lt _ _ _ (by omega)]
  unfold iblk
  rw [View.read_apply]
  show V m d main_arg1 _ = m (d.tc.loc main_arg1) _
  unfold V
  congr 1
  funext a
  apply Fin.ext
  match a with
  | ⟨0, _⟩ => show win0_3.index t 0 * 1 + 1 * 0 = 2; rw [hi.1]
  | ⟨1, _⟩ => show win0_3.index t 1 * 512 + 1 * r.val = 512 * t.val + r.val; rw [hi.2.1]; omega
  | ⟨2, _⟩ => show win0_3.index t 2 * 1024 + 1 * l.val = l.val; rw [hi.2.2]; omega

theorem blk4 (t : Fin cfg0.N) (r : Fin 8) (l : Fin 1024) :
    (iblk m d 4 t : Vec 𝕀 S1x8x1024 .bf16) (ix3 0 r l) = gates m d 1 (8 * (64 * t.val - 1) + r.val) l := by
  have hi := (idx_halo t).1
  have h8 := lt_N t
  unfold gates
  rw [← rows_of_lt _ _ _ (by omega)]
  unfold iblk
  rw [View.read_apply]
  show V m d main_arg1 _ = m (d.tc.loc main_arg1) _
  unfold V
  congr 1
  funext a
  apply Fin.ext
  match a with
  | ⟨0, _⟩ => show win0_4.index t 0 * 1 + 1 * 0 = 1; rw [hi.1]
  | ⟨1, _⟩ => show win0_4.index t 1 * 8 + 1 * r.val = 8 * (64 * t.val - 1) + r.val; rw [hi.2.1]; omega
  | ⟨2, _⟩ => show win0_4.index t 2 * 1024 + 1 * l.val = l.val; rw [hi.2.2]; omega

theorem blk5 (t : Fin cfg0.N) (r : Fin 8) (l : Fin 1024) :
    (iblk m d 5 t : Vec 𝕀 S1x8x1024 .bf16) (ix3 0 r l) = gates m d 2 (8 * (64 * t.val - 1) + r.val) l := by
  have hi := (idx_halo t).2.1
  have h8 := lt_N t
  unfold gates
  rw [← rows_of_lt _ _ _ (by omega)]
  unfold iblk
  rw [View.read_apply]
  show V m d main_arg1 _ = m (d.tc.loc main_arg1) _
  unfold V
  congr 1
  funext a
  apply Fin.ext
  match a with
  | ⟨0, _⟩ => show win0_5.index t 0 * 1 + 1 * 0 = 2; rw [hi.1]
  | ⟨1, _⟩ => show win0_5.index t 1 * 8 + 1 * r.val = 8 * (64 * t.val - 1) + r.val; rw [hi.2.1]; omega
  | ⟨2, _⟩ => show win0_5.index t 2 * 1024 + 1 * l.val = l.val; rw [hi.2.2]; omega

theorem blk6 (t : Fin cfg0.N) (r : Fin 8) (l : Fin 1024) :
    (iblk m d 6 t : Vec 𝕀 S1x8x1024 .bf16) (ix3 0 r l) = z m d (8 * min (64 * (t.val + 1)) 511 + r.val) l := by
  have hi := (idx_halo t).2.2.1
  have h8 := lt_N t
  unfold z
  rw [← rows_of_lt _ _ _ (by omega)]
  unfold iblk
  rw [View.read_apply]
  show V m d main_arg0 _ = m (d.tc.loc main_arg0) _
  unfold V
  congr 1
  funext a
  apply Fin.ext
  match a with
  | ⟨0, _⟩ => show win0_6.index t 0 * 1 + 1 * 0 = 0; rw [hi.1]
  | ⟨1, _⟩ => show win0_6.index t 1 * 8 + 1 * r.val = 8 * min (64 * (t.val + 1)) 511 + r.val; rw [hi.2.1]; omega
  | ⟨2, _⟩ => show win0_6.index t 2 * 1024 + 1 * l.val = l.val; rw [hi.2.2]; omega

theorem blk7 (t : Fin cfg0.N) (r : Fin 8) (l : Fin 1024) :
    (iblk m d 7 t : Vec 𝕀 S1x8x1024 .bf16) (ix3 0 r l) = gates m d 0 (8 * min (64 * (t.val + 1)) 511 + r.val) l := by
  have hi := (idx_halo t).2.2.2.1
  have h8 := lt_N t
  unfold gates
  rw [← rows_of_lt _ _ _ (by omega)]
  unfold iblk
  rw [View.read_apply]
  show V m d main_arg1 _ = m (d.tc.loc main_arg1) _
  unfold V
  congr 1
  funext a
  apply Fin.ext
  match a with
  | ⟨0, _⟩ => show win0_7.index t 0 * 1 + 1 * 0 = 0; rw [hi.1]
  | ⟨1, _⟩ => show win0_7.index t 1 * 8 + 1 * r.val = 8 * min (64 * (t.val + 1)) 511 + r.val; rw [hi.2.1]; omega
  | ⟨2, _⟩ => show win0_7.index t 2 * 1024 + 1 * l.val = l.val; rw [hi.2.2]; omega

theorem blk8 (t : Fin cfg0.N) (j : Fin 3) (l : Fin 1024) :
    (iblk m d 8 t : Vec 𝕀 S3x1024 .f32) (ix2 j l) = taps m d j l := by
  have hi := (idx_halo t).2.2.2.2
  unfold taps
  unfold iblk
  rw [View.read_apply]
  show V m d main_arg2 _ = m (d.tc.loc main_arg2) _
  unfold V
  congr 1
  funext a
  apply Fin.ext
  match a with
  | ⟨0, _⟩ => show win0_8.index t 0 * 3 + 1 * j.val = j.val; rw [hi.1]; omega
  | ⟨1, _⟩ => show win0_8.index t 1 * 1024 + 1 * l.val = l.val; rw [hi.2]; omega

end
end Cert.ConvKernelIdeal.Blocks
end
-- ==== Proof.ConvArrays.lean ====
/- What the convolution's backward kernel leaves in its two result arrays: the three gates' gradients, tile by tile,
   and the taps' gradient, accumulated over the tiles. -/
module

public import proofs.«01_k».proof.Proof.ConvBlocks

@[expose] public section

noncomputable section

namespace Cert.ConvKernelIdeal.Blocks

open Gen Cert.ShortConv Idealize.ShloMosaic Idealize.ShloMosaic.TcCoe
  Idealize.SL.Sem

set_option maxRecDepth 65536

local notation "𝕀" => Idealize.ShloMosaic.Ideal

theorem hz2 : (![0, 0] : Fin 2 → Nat) = fun _ => 0 := funext fun a => by fin_cases a <;> rfl
theorem hz3 : (![0, 0, 0] : Fin 3 → Nat) = fun _ => 0 := funext fun a => by fin_cases a <;> rfl

/-- The word the kernel compares: the tile's number within its sequence. -/
def tileWord (i : Nat) : BitVec 32 :=
  Scalar.select
    (Scalar.andi (Scalar.xori (Scalar.cmpi .slt (Scalar.remsi (BitVec.ofNat 32 i) 4#32) 0#32) 0#1)
      (Scalar.cmpi .ne (Scalar.remsi (BitVec.ofNat 32 i) 4#32) 0#32))
    (Scalar.addi (Scalar.remsi (BitVec.ofNat 32 i) 4#32) 4#32)
    (Scalar.remsi (BitVec.ofNat 32 i) 4#32)

theorem first_word (t : Fin cfg0.N) :
    Scalar.cmpi .eq (tileWord (grid0.coords t 0).val) 0#32 = if t.val % 4 = 0 then 1#1 else 0#1 :=
  (by decide +kernel : ∀ t : Fin grid0.N,
    Scalar.cmpi .eq (tileWord (grid0.coords t 0).val) 0#32 = if t.val % 4 = 0 then 1#1 else 0#1) t

theorem last_word (t : Fin cfg0.N) :
    Scalar.cmpi .eq (tileWord (grid0.coords t 0).val) 3#32 = if t.val % 4 = 3 then 1#1 else 0#1 :=
  (by decide +kernel : ∀ t : Fin grid0.N,
    Scalar.cmpi .eq (tileWord (grid0.coords t 0).val) 3#32 = if t.val % 4 = 3 then 1#1 else 0#1) t

section
variable (m : (ℓ : Loc nD τ sig) → Buf (Elt 𝕀) ℓ) (d : Dev nD)

/-- The gates' gradient over the whole array, at piece `p`, row `n`. -/
def dgates (p : Fin 3) (n : Nat) (l : Fin 1024) : EReal :=
  dgate (z m d) (gates m d 0) (gates m d 1) (gates m d 2) (taps m d) p n l

/-- What tile `t` adds to the taps' gradient. -/
def tile (t : Nat) (p : Fin 3) (l : Fin 1024) : EReal :=
  tapTile (z m d) (gates m d 0) (gates m d 1) (gates m d 2) t p l

/-- The tile's block of the gates' gradient. -/
def dblock (t : Nat) : Vec 𝕀 S3x512x1024 .bf16 := fun j => dgates m d (j 0) (512 * t + (j 1).val) (j 2)

/-- The three pieces a point stores. -/
def stores (first last : BitVec 1) (t : Fin cfg0.N) : List (View.Piece (Elt 𝕀) S3x512x1024 .bf16) :=
  [⟨Rect.unit ![2, 0, 0] ![1, 512, 1024] inb_S3x512x1024_S1x512x1024_2_0_0,
      k0_pay16 (k0_pay2 (iblk m d 2 t)) (k0_pay12 last (iblk m d 8 t)
        (k0_pay11 (k0_pay1 (iblk m d 1 t)) (k0_pay4 (iblk m d 0 t))) (iblk m d 6 t) (iblk m d 7 t))⟩,
    ⟨Rect.unit ![1, 0, 0] ![1, 512, 1024] inb_S3x512x1024_S1x512x1024_1_0_0,
      k0_pay15 (k0_pay3 (iblk m d 3 t)) (k0_pay12 last (iblk m d 8 t)
        (k0_pay11 (k0_pay1 (iblk m d 1 t)) (k0_pay4 (iblk m d 0 t))) (iblk m d 6 t) (iblk m d 7 t))⟩,
    ⟨Rect.unit ![0, 0, 0] ![1, 512, 1024] inb_S3x512x1024_S1x512x1024_0_0_0,
      k0_pay14 (k0_pay13 (k0_pay5 (k0_pay4 (iblk m d 0 t)))
        (k0_pay10 first (k0_pay2 (iblk m d 2 t)) (k0_pay3 (iblk m d 3 t)) (iblk m d 4 t) (iblk m d 5 t)
          (iblk m d 8 t)))⟩]

theorem dblock_emb (t : Nat) (p : Fin 3) (inb : ∀ a, ![p.val, 0, 0] a + ![1, 512, 1024] a ≤ S3x512x1024.size a) (r : Fin 512) (l : Fin 1024) :
    dblock m d t ((Rect.unit (s := S3x512x1024) ![p.val, 0, 0] ![1, 512, 1024] inb).emb (ix3 0 r l))
      = dgates m d p (512 * t + r.val) l := by
  unfold dblock
  have a0 : (Rect.unit (s := S3x512x1024) ![p.val, 0, 0] ![1, 512, 1024] inb).emb (ix3 0 r l) 0 = p :=
    Fin.ext (by show p.val + 1 * 0 = p.val; omega)
  have a1 : ((Rect.unit (s := S3x512x1024) ![p.val, 0, 0] ![1, 512, 1024] inb).emb (ix3 0 r l) 1).val = r.val := by
    show 0 + 1 * r.val = r.val; omega
  have a2 : (Rect.unit (s := S3x512x1024) ![p.val, 0, 0] ![1, 512, 1024] inb).emb (ix3 0 r l) 2 = l :=
    Fin.ext (by show 0 + 1 * l.val = l.val; omega)
  rw [a0, a1, a2]

theorem stores_cover (first last : BitVec 1) (t : Fin cfg0.N) (y : S3x512x1024.Idx) :
    ∃ p ∈ stores m d first last t, y ∈ p.1.set := by
  have b1 : (y 1).val < 512 := (y 1).isLt
  have b2 : (y 2).val < 1024 := (y 2).isLt
  have b0 : (y 0).val < 3 := (y 0).isLt
  by_cases q2 : (y 0).val = 2
  · refine ⟨_, List.mem_cons_self, ?_⟩
    rw [Rect.mem_set_unit]
    intro a
    match a with
    | ⟨0, _⟩ => exact ⟨by show 2 ≤ (y 0).val; omega, by show (y 0).val < 2 + 1; omega⟩
    | ⟨1, _⟩ => exact ⟨Nat.zero_le _, by show (y 1).val < 0 + 512; omega⟩
    | ⟨2, _⟩ => exact ⟨Nat.zero_le _, by show (y 2).val < 0 + 1024; omega⟩
  by_cases q1 : (y 0).val = 1
  · refine ⟨_, List.mem_cons_of_mem _ List.mem_cons_self, ?_⟩
    rw [Rect.mem_set_unit]
    intro a
    match a with
    | ⟨0, _⟩ => exact ⟨by show 1 ≤ (y 0).val; omega, by show (y 0).val < 1 + 1; omega⟩
    | ⟨1, _⟩ => exact ⟨Nat.zero_le _, by show (y 1).val < 0 + 512; omega⟩
    | ⟨2, _⟩ => exact ⟨Nat.zero_le _, by show (y 2).val < 0 + 1024; omega⟩
  · refine ⟨_, List.mem_cons_of_mem _ (List.mem_cons_of_mem _ List.mem_cons_self), ?_⟩
    rw [Rect.mem_set_unit]
    intro a
    match a with
    | ⟨0, _⟩ => exact ⟨by show 0 ≤ (y 0).val; omega, by show (y 0).val < 0 + 1; omega⟩
    | ⟨1, _⟩ => exact ⟨Nat.zero_le _, by show (y 1).val < 0 + 512; omega⟩
    | ⟨2, _⟩ => exact ⟨Nat.zero_le _, by show (y 2).val < 0 + 1024; omega⟩

theorem stores_eq (first last : BitVec 1) (t : Fin cfg0.N) (hfirst : first = if t.val % 4 = 0 then 1#1 else 0#1)
    (hlast : last = if t.val % 4 = 3 then 1#1 else 0#1) :
    View.canon (stores m d first last t) = dblock m d t.val := by
  funext y
  refine View.canon_apply_of_pieces (dblock m d t.val) _ ?_ y (stores_cover m d first last t y)
  intro p hp
  simp only [stores, List.mem_cons, List.not_mem_nil, or_false] at hp
  rcases hp with rfl | rfl | rfl
  · intro x
    obtain ⟨a, r, l, rfl⟩ := split3 x
    obtain rfl : a = 0 := Subsingleton.elim _ _
    exact (piece2_apply _ _ _ _ _ t.val (lt_N t) last hlast _ _ _ _ _ _ (blk0 m d t) (blk1 m d t) (blk2 m d t)
      (blk6 m d t) (blk7 m d t) (blk8 m d t) r l).trans (dblock_emb m d t.val 2 inb_S3x512x1024_S1x512x1024_2_0_0 r l).symm
  · intro x
    obtain ⟨a, r, l, rfl⟩ := split3 x
    obtain rfl : a = 0 := Subsingleton.elim _ _
    exact (piece1_apply _ _ _ _ _ t.val (lt_N t) last hlast _ _ _ _ _ _ (blk0 m d t) (blk1 m d t) (blk3 m d t)
      (blk6 m d t) (blk7 m d t) (blk8 m d t) r l).trans (dblock_emb m d t.val 1 inb_S3x512x1024_S1x512x1024_1_0_0 r l).symm
  · intro x
    obtain ⟨a, r, l, rfl⟩ := split3 x
    obtain rfl : a = 0 := Subsingleton.elim _ _
    exact (piece0_apply _ _ _ _ _ t.val (lt_N t) first hfirst _ _ _ _ _ _ (blk0 m d t) (blk2 m d t) (blk3 m d t)
      (blk4 m d t) (blk5 m d t) (blk8 m d t) r l).trans (dblock_emb m d t.val 0 inb_S3x512x1024_S1x512x1024_0_0_0 r l).symm

theorem tap_eq (first : BitVec 1) (t : Fin cfg0.N) (hfirst : first = if t.val % 4 = 0 then 1#1 else 0#1)
    (p : Fin 3) (l : Fin 1024) :
    k0_pay17 (k0_pay6 (k0_pay2 (iblk m d 2 t)) (k0_pay3 (iblk m d 3 t)))
        (k0_pay8 first (k0_pay2 (iblk m d 2 t)) (k0_pay3 (iblk m d 3 t)) (iblk m d 4 t) (iblk m d 5 t))
        (k0_pay9 first (k0_pay2 (iblk m d 2 t)) (k0_pay3 (iblk m d 3 t)) (iblk m d 4 t) (iblk m d 5 t))
        (k0_pay11 (k0_pay1 (iblk m d 1 t)) (k0_pay4 (iblk m d 0 t))) (ix2 p l)
      = tile m d t.val p l :=
  tap_apply _ _ _ _ t.val (lt_N t) first hfirst _ _ _ _ _ _ (blk0 m d t) (blk1 m d t) (blk2 m d t) (blk3 m d t)
    (blk4 m d t) (blk5 m d t) p l

theorem acc_apply (u u1 u2 g : FVec 𝕀 S512x1024 .f32) (acc : Vec 𝕀 S3x1024 .f32) (p : Fin 3) (l : Fin 1024) :
    k0_pay18 u u1 u2 g acc (ix2 p l) = acc (ix2 p l) + k0_pay17 u u1 u2 g (ix2 p l) := by
  unfold_payloads; pointwise

/-- The first point: the block's gradients and the first tile's share of the taps. -/
theorem outs_A (t : Fin cfg0.N) (h0 : t.val % 8 = 0) (h1 : ¬1 ≤ t.val) :
    (outsAt0 m d t.val t.isLt).1 = dblock m d t.val
    ∧ ∀ p l, (outsAt0 m d t.val t.isLt).2 (ix2 p l) = tile m d t.val p l := by
  rw [outsAt0_A m d t h0 h1]
  constructor
  · unfold out0_A_9
    dsimp only
    rw [View.read_writes_eq_canon _ _ _ (fun _ => cover0_A_9 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, (hs0_8 t).read_unread, View.ld_unit_zero (S := S3x1024) hz2,
      View.ld_unit_zero (S := S1x512x1024) hz3, View.ld_unit_zero (S := S1x8x1024) hz3]
    exact stores_eq m d _ _ t (first_word t) (last_word t)
  · intro p l
    unfold out0_A_10
    dsimp only
    rw [View.read_writes_eq_canon _ _ _ (fun _ => cover0_A_10 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, (hs0_8 t).read_unread, View.ld_unit_zero (S := S3x1024) hz2,
      View.ld_unit_zero (S := S1x512x1024) hz3, View.ld_unit_zero (S := S1x8x1024) hz3,
      View.canon_unit_zero (S := S3x1024) hz2]
    exact tap_eq m d _ t (first_word t) p l

/-- A later point: the block's gradients, and its tile's share added to what the point before left. -/
theorem outs_B (t : Fin cfg0.N) (h0 : ¬t.val % 8 = 0) (h1 : 1 ≤ t.val) :
    (outsAt0 m d t.val t.isLt).1 = dblock m d t.val
    ∧ ∀ p l, (outsAt0 m d t.val t.isLt).2 (ix2 p l)
        = (outsAt0 m d (t.val - 1) (Nat.lt_of_le_of_lt (Nat.sub_le _ _) t.isLt)).2 (ix2 p l) + tile m d t.val p l := by
  rw [outsAt0_B m d t h0 h1]
  constructor
  · unfold out0_B_9
    dsimp only
    rw [View.read_writes_eq_canon _ _ _ (fun _ => cover0_B_9 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, (hs0_8 t).read_unread, View.ld_unit_zero (S := S3x1024) hz2,
      View.ld_unit_zero (S := S1x512x1024) hz3, View.ld_unit_zero (S := S1x8x1024) hz3]
    exact stores_eq m d _ _ t (first_word t) (last_word t)
  · intro p l
    unfold out0_B_10
    dsimp only
    rw [View.read_writes_eq_canon _ _ _ (fun _ => cover0_B_10 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, (hs0_8 t).read_unread, (hs0_10 t).read_unread, View.ld_unit_zero (S := S3x1024) hz2,
      View.ld_unit_zero (S := S1x512x1024) hz3, View.ld_unit_zero (S := S1x8x1024) hz3,
      View.canon_unit_zero (S := S3x1024) hz2]
    rw [← tap_eq m d _ t (first_word t) p l]
    exact acc_apply _ _ _ _ _ p l

/-- Every point's block of the gates' gradient. -/
theorem outs_fst (t : Fin cfg0.N) : (outsAt0 m d t.val t.isLt).1 = dblock m d t.val := by
  have h8 := lt_N t
  by_cases h : 1 ≤ t.val
  · exact (outs_B m d t (by omega) h).1
  · exact (outs_A m d t (by omega) h).1

/-- The taps' gradient after point `n`: the sum of the tiles so far. -/
theorem outs_snd (p : Fin 3) (l : Fin 1024) : ∀ (n : Nat) (hn : n < cfg0.N),
    (outsAt0 m d n hn).2 (ix2 p l) = ∑ t : Fin (n + 1), tile m d t.val p l
  | 0, hn => by
    rw [(outs_A m d ⟨0, hn⟩ (by show 0 % 8 = 0; rfl) (by show ¬1 ≤ 0; omega)).2 p l, Fin.sum_univ_one]
    rfl
  | n + 1, hn => by
    have h8 : n + 1 < 8 := hn
    rw [(outs_B m d ⟨n + 1, hn⟩ (by show ¬(n + 1) % 8 = 0; omega) (by show 1 ≤ n + 1; omega)).2 p l,
      Fin.sum_univ_castSucc]
    exact congrArg (· + _) (outs_snd p l n (Nat.lt_of_succ_lt hn))

/-- The gates' gradient after the run. -/
theorem arr_gates : (dats m 0 d).arrAt 9 cfg0.N = fun i : S3x4096x1024.Idx => dgates m d (i 0) (i 1).val (i 2) := by
  have hi : ∀ t : Fin cfg0.N, win0_9.index t 0 = 0 ∧ win0_9.index t 1 = t.val ∧ win0_9.index t 2 = 0 :=
    (by decide +kernel : ∀ t : Fin grid0.N, win0_9.index t 0 = 0 ∧ win0_9.index t 1 = t.val ∧ win0_9.index t 2 = 0)
  refine (dats m 0 d).arrAt_eq_of_cover 9 _ ?_ ?_
  · intro t ht
    rw [Value.flushed9, outs_fst]
    funext j
    rw [View.read_apply]
    change S3x512x1024.Idx at j
    obtain ⟨p, r, l, rfl⟩ := split3 j
    show dgates m d p (512 * t.val + r.val) l = dgates m d _ _ _
    have a0 : (((cfg0.win 9).blk t).view.emb (ix3 p r l) : S3x4096x1024.Idx) 0 = p :=
      Fin.ext (by show win0_9.index t 0 * 3 + 1 * p.val = p.val; rw [(hi t).1]; omega)
    have a1 : ((((cfg0.win 9).blk t).view.emb (ix3 p r l) : S3x4096x1024.Idx) 1).val = 512 * t.val + r.val := by
      show win0_9.index t 1 * 512 + 1 * r.val = _; rw [(hi t).2.1]; omega
    have a2 : (((cfg0.win 9).blk t).view.emb (ix3 p r l) : S3x4096x1024.Idx) 2 = l :=
      Fin.ext (by show win0_9.index t 2 * 1024 + 1 * l.val = l.val; rw [(hi t).2.2]; omega)
    rw [a0, a1, a2]
  · exact (by decide +kernel : (cfg0.win 9).Covers).cover _ (Memref.isWhole_whole _)

/-- The taps' gradient after the run. -/
theorem arr_taps : (dats m 0 d).arrAt 10 cfg0.N
    = fun i : S3x1024.Idx => dtap (z m d) (gates m d 0) (gates m d 1) (gates m d 2) (i 0) (i 1) := by
  have hi : ∀ t : Fin cfg0.N, win0_10.index t 0 = 0 ∧ win0_10.index t 1 = 0 :=
    (by decide +kernel : ∀ t : Fin grid0.N, win0_10.index t 0 = 0 ∧ win0_10.index t 1 = 0)
  have hf : ∀ t : Fin cfg0.N, (cfg0.win 10).flush t = true → t.val = 7 :=
    (by decide +kernel : ∀ t : Fin grid0.N, win0_10.flush t = true → t.val = 7)
  refine (dats m 0 d).arrAt_eq_of_cover 10 _ ?_ ?_
  · intro t ht
    have h7 := hf t ht
    rw [Value.flushed10]
    funext j
    rw [View.read_apply]
    change S3x1024.Idx at j
    obtain ⟨p, l, rfl⟩ := split2 j
    show (outsAt0 m d t.val t.isLt).2 (ix2 p l) = dtap _ _ _ _ _ _
    have a0 : (((cfg0.win 10).blk t).view.emb (ix2 p l) : S3x1024.Idx) 0 = p :=
      Fin.ext (by show win0_10.index t 0 * 3 + 1 * p.val = p.val; rw [(hi t).1]; omega)
    have a1 : (((cfg0.win 10).blk t).view.emb (ix2 p l) : S3x1024.Idx) 1 = l :=
      Fin.ext (by show win0_10.index t 1 * 1024 + 1 * l.val = l.val; rw [(hi t).2]; omega)
    rw [a0, a1, outs_snd m d p l t.val t.isLt, h7]
    exact (sum_tiles 8 512 (fun n => tapTerm (z m d) (gates m d 0) (gates m d 1) (gates m d 2) p n l)).symm
  · exact (by decide +kernel : (cfg0.win 10).Covers).cover _ (Memref.isWhole_whole _)

end
end Cert.ConvKernelIdeal.Blocks
end
-- ==== Proof.ConvReference.lean ====
/- What the reference of the convolution's gradient computes: the same rows, read off the derivative jax takes. -/
module

public import proofs.«01_k».proof.Proof.Gen.ConvReferenceIdeal.Read
public import proofs.«01_k».proof.Proof.ConvMath

@[expose] public section

noncomputable section

namespace Cert.ConvReferenceIdeal.Rows

open Gen Read Cert.ShortConv
  Idealize.ShloMosaic Idealize.ShloMosaic.TcCoe Idealize.SL.Sem

set_option maxRecDepth 65536

local notation "𝕀" => Idealize.ShloMosaic.Ideal

section sums
variable {n0 n1 n2 : Nat} {t : Shape}

/-- The indices of a rank-3 array that drop to lane `j` when the first two axes are summed away. -/
theorem fiber_first_two (h : (⟨3, ![n0, n1, n2]⟩ : Shape).ReducesTo [0, 1] t) (hr : 0 < t.rank) (hs : t.size ⟨0, hr⟩ = n2)
    (j : t.Idx) (i : (⟨3, ![n0, n1, n2]⟩ : Shape).Idx) :
    h.drop i = j ↔ ∃ k : Fin n0 × Fin n1, ix3 k.1 k.2 ⟨(j ⟨0, hr⟩).val, Shape.coordLt (j ⟨0, hr⟩) hs⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, hr⟩)).symm
  · rintro ⟨k, rfl⟩
    funext b
    apply Fin.ext
    match b with
    | ⟨0, _⟩ => rfl
    | ⟨_ + 1, hb⟩ => exact absurd hb (by have : t.rank = 1 := h.1; omega)

/-- The host's sum over the first two axes of a rank-3 array. -/
theorem sum_first_two (h : (⟨3, ![n0, n1, n2]⟩ : Shape).ReducesTo [0, 1] (⟨1, ![n2]⟩ : Shape))
    (x : (⟨3, ![n0, n1, n2]⟩ : Shape).Idx → EReal) (init : EReal) (l : Fin n2) :
    Ideal.hostReduceAdd h x init (ix1 l) = init + ∑ a : Fin n0, ∑ b : Fin n1, x (ix3 a b l) := by
  unfold Ideal.hostReduceAdd
  rw [← Fintype.sum_prod_type']
  congr 1
  refine Finset.sum_filter_eq_sum_of_fiber _ (fun k : Fin n0 × Fin n1 => ix3 k.1 k.2 l) ?_
    (fun i => fiber_first_two h Nat.one_pos rfl (ix1 l) i) x
  rintro ⟨a, b⟩ ⟨a', b'⟩ e
  exact Prod.ext (congrFun e 0) (congrFun e 1)

end sums

section
variable (x0 : S1x4096x1024.Idx → EReal) (x1 : S3x4096x1024.Idx → EReal) (x2 : S3x1024.Idx → EReal)

theorem piece_apply (p : Fin 3) (b : Fin 2) (s : Fin 2048) (l : Fin 1024) :
    val_main_v1 (F := 𝕀) x1 (ix4 p b s l) = rows x1 p (2048 * b.val + s.val) l := by
  rw [← rows_of_lt x1 p _ (by omega), val_main_v1_apply, val_main_v0_apply]
  refine congrArg x1 ?_
  funext a; apply Fin.ext
  match a with
  | ⟨0, _⟩ => show (((p.val * 2 + b.val) * 2048 + s.val) * 1024 + l.val) / 4194304 = p.val; omega
  | ⟨1, _⟩ => show (((p.val * 2 + b.val) * 2048 + s.val) * 1024 + l.val) / 1024 % 4096 = 2048 * b.val + s.val; omega
  | ⟨2, _⟩ => show (((p.val * 2 + b.val) * 2048 + s.val) * 1024 + l.val) % 1024 = l.val; omega

theorem b_apply (b : Fin 2) (s : Fin 2048) (l : Fin 1024) :
    val_main_v3 (F := 𝕀) x1 (ix3 b s l) = rows x1 0 (2048 * b.val + s.val) l := by
  rw [← piece_apply]; unfold val_main_v3 val_main_v2; pointwise

theorem c_apply (b : Fin 2) (s : Fin 2048) (l : Fin 1024) :
    val_main_v5 (F := 𝕀) x1 (ix3 b s l) = rows x1 1 (2048 * b.val + s.val) l := by
  rw [← piece_apply]; unfold val_main_v5 val_main_v4; pointwise

theorem h_apply (b : Fin 2) (s : Fin 2048) (l : Fin 1024) :
    val_main_v7 (F := 𝕀) x1 (ix3 b s l) = rows x1 2 (2048 * b.val + s.val) l := by
  rw [← piece_apply]; unfold val_main_v7 val_main_v6; pointwise

theorem z_apply (b : Fin 2) (s : Fin 2048) (l : Fin 1024) :
    val_main_v40 (F := 𝕀) x0 (ix3 b s l) = rows x0 0 (2048 * b.val + s.val) l := by
  rw [← rows_of_lt x0 0 _ (by omega), val_main_v40_apply, val_main_v39_apply]
  refine congrArg x0 ?_
  funext a; apply Fin.ext
  match a with
  | ⟨0, _⟩ => rfl
  | ⟨1, _⟩ => show ((b.val * 2048 + s.val) * 1024 + l.val) / 1024 % 4096 = 2048 * b.val + s.val; omega
  | ⟨2, _⟩ => show ((b.val * 2048 + s.val) * 1024 + l.val) % 1024 = l.val; omega

theorem inp_apply (b : Fin 2) (s : Fin 2048) (l : Fin 1024) :
    val_main_v8 (F := 𝕀) x1 (ix3 b s l) = inp (rows x1 1) (rows x1 2) (2048 * b.val + s.val) l := by
  unfold inp; rw [← c_apply, ← h_apply]; rfl

theorem grad_apply (b : Fin 2) (s : Fin 2048) (l : Fin 1024) :
    val_main_v41 (F := 𝕀) x0 x1 (ix3 b s l) = grad (rows x0 0) (rows x1 0) (2048 * b.val + s.val) l := by
  unfold grad; rw [← b_apply, ← z_apply, mul_comm]; rfl

theorem back2_apply (b : Fin 2) (s : Fin 2048) (l : Fin 1024) :
    val_main_v14 (F := 𝕀) x1 (ix3 b s l) = back 2 (inp (rows x1 1) (rows x1 2)) (2048 * b.val + s.val) l := by
  have u := inp_apply x1
  unfold val_main_v14 val_main_v13 val_main_v12 val_main_cst
  generalize val_main_v8 (F := 𝕀) x1 = U at u
  pointwise
  unfold back
  by_cases h : s.val < 2
  · rw [dif_pos h, if_neg (by omega)]
  · rw [dif_neg h]
    refine (u b ⟨s.val - 2, by omega⟩ l).trans ?_
    rw [if_pos (by omega)]
    have q : 2048 * b.val + (s.val - 2) = 2048 * b.val + s.val - 2 := by omega
    exact congrArg (inp (rows x1 1) (rows x1 2) · l) q

theorem back1_apply (b : Fin 2) (s : Fin 2048) (l : Fin 1024) :
    val_main_v26 (F := 𝕀) x1 (ix3 b s l) = back 1 (inp (rows x1 1) (rows x1 2)) (2048 * b.val + s.val) l := by
  have u := inp_apply x1
  unfold val_main_v26 val_main_v25 val_main_v24 val_main_cst_2
  generalize val_main_v8 (F := 𝕀) x1 = U at u
  pointwise
  unfold back
  by_cases h : s.val < 1
  · rw [dif_pos h, if_neg (by omega)]
  · rw [dif_neg h]
    refine (u b ⟨s.val - 1, by omega⟩ l).trans ?_
    rw [if_pos (by omega)]
    have q : 2048 * b.val + (s.val - 1) = 2048 * b.val + s.val - 1 := by omega
    exact congrArg (inp (rows x1 1) (rows x1 2) · l) q

theorem tap0_apply (b : Fin 2) (s : Fin 2048) (l : Fin 1024) :
    val_main_v17 (F := 𝕀) x2 (ix3 b s l) = x2 (ix2 0 l) := by
  unfold val_main_v17 val_main_v16 val_main_v10 val_main_v9; pointwise

theorem tap1_apply (b : Fin 2) (s : Fin 2048) (l : Fin 1024) :
    val_main_v29 (F := 𝕀) x2 (ix3 b s l) = x2 (ix2 1 l) := by
  unfold val_main_v29 val_main_v28 val_main_v22 val_main_v21; pointwise

theorem tap2_apply (b : Fin 2) (s : Fin 2048) (l : Fin 1024) :
    val_main_v35 (F := 𝕀) x2 (ix3 b s l) = x2 (ix2 2 l) := by
  unfold val_main_v35 val_main_v34 val_main_v33 val_main_v32; pointwise

theorem add_turn (a b c : EReal) : 0 + a + b + c = c + b + a := by
  rw [zero_add, add_comm (a + b) c, add_comm a b, add_assoc]

/-- The taps, lane by lane. -/
abbrev taps (x2 : S3x1024.Idx → EReal) (p : Fin 3) (l : Fin 1024) : EReal := x2 (ix2 p l)

theorem conv_apply (b : Fin 2) (s : Fin 2048) (l : Fin 1024) :
    val_main_v37 (F := 𝕀) x1 x2 (ix3 b s l)
      = conv (rows x1 1) (rows x1 2) (taps x2) (2048 * b.val + s.val) l := by
  unfold conv taps
  rw [← inp_apply, ← back1_apply, ← back2_apply, ← tap0_apply x2 b s l, ← tap1_apply x2 b s l, ← tap2_apply x2 b s l]
  have e : val_main_v19 (F := 𝕀) (ix3 b s l) = 0 := by unfold val_main_v19 val_main_cst_1; pointwise
  show (val_main_v19 (F := 𝕀) (ix3 b s l) + _ + _ + _ : EReal) = _
  rw [e]
  exact add_turn _ _ _

theorem ahead1_apply (b : Fin 2) (s : Fin 2048) (l : Fin 1024) :
    val_main_v59 (F := 𝕀) x0 x1 x2 (ix3 b s l)
      = x2 (ix2 1 l) * ahead 1 (grad (rows x0 0) (rows x1 0)) (2048 * b.val + s.val) l := by
  have u := grad_apply x0 x1
  unfold val_main_v59 val_main_v58 val_main_v52 val_main_cst_9 val_main_v51 val_main_v28 val_main_v22 val_main_v21
  generalize val_main_v41 (F := 𝕀) x0 x1 = U at u
  pointwise
  unfold ahead
  by_cases h : s.val < 2047
  · rw [dif_pos h, if_pos (by omega)]
    refine congrArg (x2 (ix2 1 l) * ·) ((u b ⟨1 + s.val, by omega⟩ l).trans ?_)
    have q : 2048 * b.val + (1 + s.val) = 2048 * b.val + s.val + 1 := by omega
    exact congrArg (grad (rows x0 0) (rows x1 0) · l) q
  · rw [dif_neg h, if_neg (by omega), mul_zero]

theorem ahead2_apply (b : Fin 2) (s : Fin 2048) (l : Fin 1024) :
    val_main_v72 (F := 𝕀) x0 x1 x2 (ix3 b s l)
      = x2 (ix2 0 l) * ahead 2 (grad (rows x0 0) (rows x1 0)) (2048 * b.val + s.val) l := by
  have u := grad_apply x0 x1
  unfold val_main_v72 val_main_v71 val_main_v65 val_main_cst_13 val_main_v64 val_main_v16 val_main_v10 val_main_v9
  generalize val_main_v41 (F := 𝕀) x0 x1 = U at u
  pointwise
  unfold ahead
  by_cases h : s.val < 2046
  · rw [dif_pos h, if_pos (by omega)]
    refine congrArg (x2 (ix2 0 l) * ·) ((u b ⟨2 + s.val, by omega⟩ l).trans ?_)
    have q : 2048 * b.val + (2 + s.val) = 2048 * b.val + s.val + 2 := by omega
    exact congrArg (grad (rows x0 0) (rows x1 0) · l) q
  · rw [dif_neg h, if_neg (by omega), mul_zero]

theorem dinp_apply (b : Fin 2) (s : Fin 2048) (l : Fin 1024) :
    val_main_v73 (F := 𝕀) x0 x1 x2 (ix3 b s l)
      = dinp (rows x0 0) (rows x1 0) (taps x2) (2048 * b.val + s.val) l := by
  unfold dinp taps
  rw [← ahead1_apply, ← ahead2_apply, ← grad_apply]
  show (val_main_v43 (F := 𝕀) x2 (ix3 b s l) * _ + _ + _ : EReal) = _
  have e : val_main_v43 (F := 𝕀) x2 (ix3 b s l) = x2 (ix2 2 l) := by
    unfold val_main_v43 val_main_v34 val_main_v33 val_main_v32; pointwise
  rw [e]

theorem stack_apply (p : Fin 3) (b : Fin 2) (s : Fin 2048) (l : Fin 1024) :
    val_main_v82 (F := 𝕀) x0 x1 x2 (ix4 p b s l)
      = dgate (rows x0 0) (rows x1 0) (rows x1 1) (rows x1 2) (taps x2) p (2048 * b.val + s.val) l := by
  have e0 := z_apply x0 b s l
  have e1 := conv_apply x1 x2 b s l
  have e2 := dinp_apply x0 x1 x2 b s l
  have e3 := c_apply x1 b s l
  have e4 := h_apply x1 b s l
  unfold val_main_v82 val_main_v79 val_main_v80 val_main_v81 val_main_v77 val_main_v78 val_main_v42
  generalize val_main_v40 (F := 𝕀) x0 = Z at e0
  generalize val_main_v37 (F := 𝕀) x1 x2 = C at e1
  generalize val_main_v73 (F := 𝕀) x0 x1 x2 = Y at e2
  generalize val_main_v5 (F := 𝕀) x1 = A at e3
  generalize val_main_v7 (F := 𝕀) x1 = B at e4
  pointwise
  match p with
  | 0 => exact congrArg₂ (· * ·) e0 e1
  | 1 => exact congrArg₂ (· * ·) e2 e4
  | 2 => exact (mul_comm _ _).trans (congrArg₂ (· * ·) e2 e3)

/-- The reference's gradient of the gates. -/
theorem dgates_apply (p : Fin 3) (n : Fin 4096) (l : Fin 1024) :
    val_main_v84 (F := 𝕀) x0 x1 x2 (ix3 p n l)
      = dgate (rows x0 0) (rows x1 0) (rows x1 1) (rows x1 2) (taps x2) p n.val l := by
  have hb : n.val / 2048 < 2 := by omega
  have hs : n.val % 2048 < 2048 := by omega
  rw [val_main_v84_apply, val_main_v83_apply,
    show idx_main_v83 (ix3 p n l) = ix4 p ⟨n.val / 2048, hb⟩ ⟨n.val % 2048, hs⟩ l from by
      funext a; apply Fin.ext
      match a with
      | ⟨0, _⟩ => show ((p.val * 4096 + n.val) * 1024 + l.val) / 4194304 = p.val; omega
      | ⟨1, _⟩ => show ((p.val * 4096 + n.val) * 1024 + l.val) / 2097152 % 2 = n.val / 2048; omega
      | ⟨2, _⟩ => show ((p.val * 4096 + n.val) * 1024 + l.val) / 1024 % 2048 = n.val % 2048; omega
      | ⟨3, _⟩ => show ((p.val * 4096 + n.val) * 1024 + l.val) % 1024 = l.val; omega]
  refine (stack_apply x0 x1 x2 p ⟨n.val / 2048, hb⟩ ⟨n.val % 2048, hs⟩ l).trans ?_
  show dgate _ _ _ _ _ p (2048 * (n.val / 2048) + n.val % 2048) l = _
  rw [Nat.div_add_mod]

/-- A sum over the two sequences and their rows is the sum over all rows. -/
theorem sum_rows (g : Nat → EReal) :
    ∑ a : Fin 2, ∑ b : Fin 2048, g (2048 * a.val + b.val) = ∑ n : Fin 4096, g n.val := (sum_tiles 2 2048 g).symm

/-- The two host sums of a tap's gradient: over the sequences and rows, then over two axes of size one. -/
theorem sums_apply (X : S2x2048x1024.Idx → EReal) (g : Nat → EReal) (l : Fin 1024)
    (hX : ∀ a b, X (ix3 a b l) = g (2048 * a.val + b.val)) (i i' : S_.Idx → EReal) (hi : ∀ q, i q = 0) (hi' : ∀ q, i' q = 0) :
    (Host.reduceAdd (F := 𝕀) (φ := .f32) (shapeCast S1x1x1024
        (Host.reduceAdd (F := 𝕀) (φ := .f32) X i reducesTo_S2x2048x1024_S1024_d0_1 h_S_ : FVec 𝕀 S1024 .f32)
        shapeCasts_S1024_S1x1x1024) i' reducesTo_S1x1x1024_S1024_d0_1 h_S_ : FVec 𝕀 S1024 .f32) (ix1 l)
      = ∑ n : Fin 4096, g n.val := by
  have e : ∀ Y : S1024.Idx → EReal, (shapeCast S1x1x1024 Y shapeCasts_S1024_S1x1x1024 : S1x1x1024.Idx → EReal) (ix3 0 0 l) = Y (ix1 l) := by
    intro Y; pointwise
  refine (sum_first_two reducesTo_S1x1x1024_S1024_d0_1 _ _ l).trans ?_
  rw [hi', zero_add, Fin.sum_univ_one, Fin.sum_univ_one, e]
  refine (sum_first_two reducesTo_S2x2048x1024_S1024_d0_1 _ _ l).trans ?_
  rw [hi, zero_add, ← sum_rows]
  exact Finset.sum_congr rfl fun a _ => Finset.sum_congr rfl fun b _ => hX a b

theorem tap2sum_apply (l : Fin 1024) : val_main_v48 (F := 𝕀) x0 x1 (ix1 l)
    = dtap (rows x0 0) (rows x1 0) (rows x1 1) (rows x1 2) 2 l := by
  unfold val_main_v48 val_main_v47 val_main_v46
  refine sums_apply _ (fun n => tapTerm (rows x0 0) (rows x1 0) (rows x1 1) (rows x1 2) 2 n l) l ?_ _ _ ?_ ?_
  · intro a b
    rw [val_main_v45_apply, grad_apply, inp_apply]; rfl
  · intro q; unfold val_main_cst_4; pointwise
  · intro q; unfold val_main_cst_5; pointwise

theorem tap1sum_apply (l : Fin 1024) : val_main_v56 (F := 𝕀) x0 x1 (ix1 l)
    = dtap (rows x0 0) (rows x1 0) (rows x1 1) (rows x1 2) 1 l := by
  unfold val_main_v56 val_main_v55 val_main_v54
  refine sums_apply _ (fun n => tapTerm (rows x0 0) (rows x1 0) (rows x1 1) (rows x1 2) 1 n l) l ?_ _ _ ?_ ?_
  · intro a b
    rw [val_main_v53_apply, grad_apply, back1_apply]; rfl
  · intro q; unfold val_main_cst_7; pointwise
  · intro q; unfold val_main_cst_8; pointwise

theorem tap0sum_apply (l : Fin 1024) : val_main_v69 (F := 𝕀) x0 x1 (ix1 l)
    = dtap (rows x0 0) (rows x1 0) (rows x1 1) (rows x1 2) 0 l := by
  unfold val_main_v69 val_main_v68 val_main_v67
  refine sums_apply _ (fun n => tapTerm (rows x0 0) (rows x1 0) (rows x1 1) (rows x1 2) 0 n l) l ?_ _ _ ?_ ?_
  · intro a b
    rw [val_main_v66_apply, grad_apply, back2_apply]; rfl
  · intro q; unfold val_main_cst_11; pointwise
  · intro q; unfold val_main_cst_12; pointwise

/-- The reference's gradient of the taps. -/
theorem dtaps_apply (p : Fin 3) (l : Fin 1024) :
    val_main_v76 (F := 𝕀) x0 x1 (ix2 p l) = dtap (rows x0 0) (rows x1 0) (rows x1 1) (rows x1 2) p l := by
  have e0 := tap0sum_apply x0 x1 l
  have e1 := tap1sum_apply x0 x1 l
  have e2 := tap2sum_apply x0 x1 l
  unfold val_main_v76 val_main_v75 val_main_v63 val_main_v62 val_main_v50 val_main_v74 val_main_v61 val_main_v49 val_main_cst_14 val_main_cst_10 val_main_cst_6
  generalize val_main_v69 (F := 𝕀) x0 x1 = A at e0
  generalize val_main_v56 (F := 𝕀) x0 x1 = B at e1
  generalize val_main_v48 (F := 𝕀) x0 x1 = C at e2
  pointwise
  rw [e0, e1, e2]
  match p with
  | 0 => simp
  | 1 => simp
  | 2 => simp

end
end Cert.ConvReferenceIdeal.Rows
end
-- ==== Proof.FfnMath.lean ====
/- The feed-forward layers' mathematics on plain numbers: the gated unit, the root-mean-square norm, and a sum over all
   rows taken in two halves. -/
module

public import proofs.«01_k».proof.Proof.ConvMath

@[expose] public section

noncomputable section

namespace Cert.Ffn

open Idealize.ShloMosaic

/-- Offsets of zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The logistic function, as the programs compute it. -/
def sig (g : EReal) : EReal := Ideal.div 1 (1 + Ideal.exp (-g))

/-- The gated unit: the gate through `g · sig g`, times the other half. -/
def gated (g u : EReal) : EReal := g * sig g * u

/-- The mean square of a row, with the norm's small constant added. -/
def msq (x : Fin 1024 → EReal) : EReal :=
  Ideal.div (∑ l, x l * x l) (Ideal.ofBits FTy.f32 0x44800000#32) + Ideal.ofBits FTy.f32 0x358637BD#32

/-- The root-mean-square norm of a row, scaled. -/
def normed (x g : Fin 1024 → EReal) (l : Fin 1024) : EReal := x l * Ideal.rsqrt (msq x) * g l

/-- A sum over 4096 rows is the sum of the two halves' sums. -/
theorem sum_halves (f : Fin 4096 → EReal) :
    ∑ n : Fin 4096, f n = (∑ r : Fin 2048, f ⟨r.val, by omega⟩) + ∑ r : Fin 2048, f ⟨2048 + r.val, by omega⟩ :=
  Fin.sum_univ_add (a := 2048) (b := 2048) f

end Cert.Ffn
end
-- ==== Proof.InArrays.lean ====
/- The feed-forward layer's input product as the kernel computes it: the norm of each row and its product with the two
   halves of the weights. -/
module

public import proofs.«01_k».proof.Proof.Gen.InKernelIdeal.Value
public import proofs.«01_k».proof.Proof.FfnMath

@[expose] public section

noncomputable section

namespace Cert.InKernelIdeal.Blocks

open Gen Cert.Ffn Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (x0 : Vec 𝕀 S512x1024 .f32) (x1 : Vec 𝕀 S1x1024 .f32) (x2 : Vec 𝕀 S1x1x2816x1024 .bf16)

/-- The normed row a point stores. -/
theorem norm_apply (r : Fin 512) (l : Fin 1024) :
    k0_pay1 x0 x1 (ix2 r l) = normed (fun l => x0 (ix2 r l)) (fun l => x1 (ix2 0 l)) l := by
  unfold_payloads; pointwise; rfl

/-- The product with the first half of the weights. -/
theorem first_apply (q : Fin 1) (r : Fin 512) (j : Fin 2816) :
    k0_pay2 x0 x1 x2 (ix3 q r j)
      = ∑ k : Fin 1024, normed (fun l => x0 (ix2 r l)) (fun l => x1 (ix2 0 l)) k * x2 (ix4 0 0 j k) := by
  have e := norm_apply x0 x1
  unfold k0_pay2
  generalize k0_pay1 x0 x1 = G at e
  pointwise
  simp only [e]

/-- The product with the second half of the weights. -/
theorem second_apply (q : Fin 1) (r : Fin 512) (j : Fin 2816) :
    k0_pay3 x0 x1 x2 (ix3 q r j)
      = ∑ k : Fin 1024, normed (fun l => x0 (ix2 r l)) (fun l => x1 (ix2 0 l)) k * x2 (ix4 0 0 j k) := by
  have e := norm_apply x0 x1
  unfold k0_pay3
  generalize k0_pay1 x0 x1 = G at e
  pointwise
  simp only [e]

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The norm's scale. -/
def g (l : Fin 1024) : EReal := (m (d.tc.loc main_arg1) : Vec 𝕀 S1024 .f32) (ix1 l)

/-- The weights: entry `k` of lane `j` of half `p`. -/
def w (k : Fin 1024) (p : Fin 2) (j : Fin 2816) : EReal :=
  (m (d.tc.loc main_arg2) : Vec 𝕀 S1024x5632 .f32) (ix2 k ⟨p.val * 2816 + j.val, by omega⟩)

theorem V0 (n : Fin 4096) (l : Fin 1024) : (V m d main_arg0 : Vec 𝕀 S4096x1024 .f32) (ix2 n l) = x m d n l := by
  rw [V_main_arg0]; rfl

theorem V1 (l : Fin 1024) : (V m d main_v0 : Vec 𝕀 S1x1024 .f32) (ix2 0 l) = g m d l := by
  entry_read; pointwise; rfl

theorem V2 (p : Fin 2) (j : Fin 2816) (k : Fin 1024) :
    (V m d main_v3 : Vec 𝕀 S2x1x2816x1024 .bf16) (ix4 p 0 j k) = w m d k p j := by
  entry_read
  pointwise
  rfl

theorem blk0 (t : Fin cfg0.N) (r : Fin 512) (l : Fin 1024) :
    (iblk m d 0 t : Vec 𝕀 S512x1024 .f32) (ix2 r l) = (V m d main_arg0 : Vec 𝕀 S4096x1024 .f32) (ix2 (row t r) l) := by
  have hi := (by decide +kernel : ∀ t : Fin grid0.N, win0_0.index t 0 = t.val ∧ win0_0.index t 1 = 0) t
  unfold iblk
  rw [View.read_apply]
  refine congrArg (V m d main_arg0 : Vec 𝕀 S4096x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (t : Fin cfg0.N) (q : Fin 1) (l : Fin 1024) :
    (iblk m d 1 t : Vec 𝕀 S1x1024 .f32) (ix2 q l) = (V m d main_v0 : Vec 𝕀 S1x1024 .f32) (ix2 q l) := by
  have hi := (by decide +kernel : ∀ t : Fin grid0.N, win0_1.index t 0 = 0 ∧ win0_1.index t 1 = 0) t
  unfold iblk
  rw [View.read_apply]
  refine congrArg (V m d main_v0 : Vec 𝕀 S1x1024 .f32) (funext fun a => Fin.ext ?_)
  match a with
  | ⟨0, _⟩ => show win0_1.index t 0 * 1 + 1 * q.val = q.val; rw [hi.1]; omega
  | ⟨1, _⟩ => show win0_1.index t 1 * 1024 + 1 * l.val = l.val; rw [hi.2]; omega

theorem blk2 (t : Fin cfg0.N) (p : Fin 2) (q : Fin 1) (j : Fin 2816) (k : Fin 1024) :
    (iblk m d 2 t : Vec 𝕀 S2x1x2816x1024 .bf16) (ix4 p q j k) = (V m d main_v3 : Vec 𝕀 S2x1x2816x1024 .bf16) (ix4 p q j k) := by
  have hi := (by decide +kernel : ∀ t : Fin grid0.N, win0_2.index t 0 = 0 ∧ win0_2.index t 1 = 0 ∧ win0_2.index t 2 = 0 ∧ win0_2.index t 3 = 0) t
  unfold iblk
  rw [View.read_apply]
  refine congrArg (V m d main_v3 : Vec 𝕀 S2x1x2816x1024 .bf16) (funext fun a => Fin.ext ?_)
  match a with
  | ⟨0, _⟩ => show win0_2.index t 0 * 2 + 1 * p.val = p.val; rw [hi.1]; omega
  | ⟨1, _⟩ => show win0_2.index t 1 * 1 + 1 * q.val = q.val; rw [hi.2.1]; omega
  | ⟨2, _⟩ => show win0_2.index t 2 * 2816 + 1 * j.val = j.val; rw [hi.2.2.1]; omega
  | ⟨3, _⟩ => show win0_2.index t 3 * 1024 + 1 * k.val = k.val; rw [hi.2.2.2]; omega

/-- The normed input of the layer. -/
def xn (n : Fin 4096) (l : Fin 1024) : EReal := normed (x m d n) (g m d) l

/-- The layer's input product, half `p`. -/
def gu (p : Fin 2) (n : Fin 4096) (j : Fin 2816) : EReal := ∑ k : Fin 1024, xn m d n k * w m d k p j

theorem xn_eq (t : Fin cfg0.N) (r : Fin 512) (l : Fin 1024) :
    normed (fun l => (iblk m d 0 t : Vec 𝕀 S512x1024 .f32) (ix2 r l)) (fun l => (iblk m d 1 t : Vec 𝕀 S1x1024 .f32) (ix2 0 l)) l
      = xn m d (row t r) l := by
  unfold xn
  exact congrArg₂ (normed · · l) (funext fun l => (blk0 m d t r l).trans (V0 m d _ l))
    (funext fun l => (blk1 m d t 0 l).trans (V1 m d l))

theorem out3_apply (t : Fin cfg0.N) (r : Fin 512) (l : Fin 1024) :
    out0_3 (iblk m d 0 t) (iblk m d 1 t) (iblk m d 2 t) (ix2 r l) = xn m d (row t r) l := by
  unfold out0_3 r0_0 r0_1
  rw [View.canon_unit_zero (S := S512x1024) hz2, View.ld_unit_zero (S := S512x1024) hz2,
    View.ld_unit_zero (S := S1x1024) hz2, norm_apply]
  exact xn_eq m d t r l

/-- The halves' blocks as one array. -/
def blkOut (t : Fin cfg0.N) : Vec 𝕀 S2x512x2816 .bf16 := fun i => gu m d (i 0) (row t (i 1)) (i 2)

theorem half_eq (t : Fin cfg0.N) (p : Fin 2) (inb : ∀ a, ![p.val, 0, 0, 0] a + ![1, 1, 2816, 1024] a ≤ S2x1x2816x1024.size a)
    (inb' : ∀ a, ![p.val, 0, 0] a + ![1, 512, 2816] a ≤ S2x512x2816.size a) (r : Fin 512) (j : Fin 2816) :
    (∑ k : Fin 1024, normed (fun l => (iblk m d 0 t : Vec 𝕀 S512x1024 .f32) (ix2 r l))
          (fun l => (iblk m d 1 t : Vec 𝕀 S1x1024 .f32) (ix2 0 l)) k
        * (View.ld (iblk m d 2 t : Vec 𝕀 S2x1x2816x1024 .bf16) (Rect.unit ![p.val, 0, 0, 0] ![1, 1, 2816, 1024] inb) (ix4 0 0 j k) : EReal))
      = blkOut m d t ((Rect.unit (s := S2x512x2816) ![p.val, 0, 0] ![1, 512, 2816] inb').emb (ix3 0 r j)) := by
  have a0 : (Rect.unit (s := S2x512x2816) ![p.val, 0, 0] ![1, 512, 2816] inb').emb (ix3 0 r j) 0 = p :=
    Fin.ext (by show p.val + 1 * 0 = p.val; omega)
  have a1 : (Rect.unit (s := S2x512x2816) ![p.val, 0, 0] ![1, 512, 2816] inb').emb (ix3 0 r j) 1 = r :=
    Fin.ext (by show 0 + 1 * r.val = r.val; omega)
  have a2 : (Rect.unit (s := S2x512x2816) ![p.val, 0, 0] ![1, 512, 2816] inb').emb (ix3 0 r j) 2 = j :=
    Fin.ext (by show 0 + 1 * j.val = j.val; omega)
  unfold blkOut gu
  rw [a0, a1, a2]
  refine Finset.sum_congr rfl fun k _ => congrArg₂ (· * · : EReal → EReal → EReal) (xn_eq m d t r k) ?_
  have e : (Rect.unit (s := S2x1x2816x1024) ![p.val, 0, 0, 0] ![1, 1, 2816, 1024] inb).emb (ix4 0 0 j k) = ix4 p 0 j k := by
    funext a; apply Fin.ext
    match a with
    | ⟨0, _⟩ => show p.val + 1 * 0 = p.val; omega
    | ⟨1, _⟩ => rfl
    | ⟨2, _⟩ => show 0 + 1 * j.val = j.val; omega
    | ⟨3, _⟩ => show 0 + 1 * k.val = k.val; omega
  exact (congrArg (iblk m d 2 t : Vec 𝕀 S2x1x2816x1024 .bf16) e).trans ((blk2 m d t p 0 j k).trans (V2 m d p j k))

theorem out4_eq (t : Fin cfg0.N) : out0_4 (iblk m d 0 t) (iblk m d 1 t) (iblk m d 2 t) = blkOut m d t := by
  funext y
  unfold out0_4
  refine View.canon_apply_of_pieces (blkOut m d t) _ ?_ y (cover0_4 _ _ y)
  intro p hp
  simp only [List.mem_cons, List.not_mem_nil, or_false] at hp
  rcases hp with rfl | rfl
  · intro z
    obtain ⟨a, r, j, rfl⟩ := split3 z
    obtain rfl : a = 0 := Subsingleton.elim _ _
    refine (second_apply _ _ _ 0 r j).trans ?_
    unfold r0_0 r0_1 r0_4 r0_5
    rw [View.ld_unit_zero (S := S512x1024) hz2, View.ld_unit_zero (S := S1x1024) hz2]
    exact half_eq m d t 1 inb_S2x1x2816x1024_S1x1x2816x1024_1_0_0_0 inb_S2x512x2816_S1x512x2816_1_0_0 r j
  · intro z
    obtain ⟨a, r, j, rfl⟩ := split3 z
    obtain rfl : a = 0 := Subsingleton.elim _ _
    refine (first_apply _ _ _ 0 r j).trans ?_
    unfold r0_0 r0_1 r0_2 r0_3
    rw [View.ld_unit_zero (S := S512x1024) hz2, View.ld_unit_zero (S := S1x1024) hz2]
    exact half_eq m d t 0 inb_S2x1x2816x1024_S1x1x2816x1024_0_0_0_0 inb_S2x512x2816_S1x512x2816_0_0_0 r j

/-- The normed input after the run. -/
theorem arr3 : (dats m 0 d).arrAt 3 cfg0.N = fun i : S4096x1024.Idx => xn m d (i 0) (i 1) := by
  have hi : ∀ t : Fin cfg0.N, win0_3.index t 0 = t.val ∧ win0_3.index t 1 = 0 :=
    (by decide +kernel : ∀ t : Fin grid0.N, win0_3.index t 0 = t.val ∧ win0_3.index t 1 = 0)
  refine (dats m 0 d).arrAt_eq_of_cover 3 _ ?_ ?_
  · intro t ht
    rw [Value.flushed3]
    funext y
    rw [View.read_apply]
    change S512x1024.Idx at y
    obtain ⟨r, l, rfl⟩ := split2 y
    have a0 : (((cfg0.win 3).blk t).view.emb (ix2 r l) : S4096x1024.Idx) 0 = row t r :=
      Fin.ext (by show win0_3.index t 0 * 512 + 1 * r.val = 512 * t.val + r.val; rw [(hi t).1]; omega)
    have a1 : (((cfg0.win 3).blk t).view.emb (ix2 r l) : S4096x1024.Idx) 1 = l :=
      Fin.ext (by show win0_3.index t 1 * 1024 + 1 * l.val = l.val; rw [(hi t).2]; omega)
    show _ = xn m d _ _
    rw [a0, a1]
    exact out3_apply m d t r l
  · exact (by decide +kernel : (cfg0.win 3).Covers).cover _ (Memref.isWhole_whole _)

/-- The product after the run. -/
theorem arr4 : (dats m 0 d).arrAt 4 cfg0.N = fun i : S2x4096x2816.Idx => gu m d (i 0) (i 1) (i 2) := by
  have hi : ∀ t : Fin cfg0.N, win0_4.index t 0 = 0 ∧ win0_4.index t 1 = t.val ∧ win0_4.index t 2 = 0 :=
    (by decide +kernel : ∀ t : Fin grid0.N, win0_4.index t 0 = 0 ∧ win0_4.index t 1 = t.val ∧ win0_4.index t 2 = 0)
  refine (dats m 0 d).arrAt_eq_of_cover 4 _ ?_ ?_
  · intro t ht
    rw [Value.flushed4, out4_eq]
    funext y
    rw [View.read_apply]
    change S2x512x2816.Idx at y
    obtain ⟨p, r, j, rfl⟩ := split3 y
    have a0 : (((cfg0.win 4).blk t).view.emb (ix3 p r j) : S2x4096x2816.Idx) 0 = p :=
      Fin.ext (by show win0_4.index t 0 * 2 + 1 * p.val = p.val; rw [(hi t).1]; omega)
    have a1 : (((cfg0.win 4).blk t).view.emb (ix3 p r j) : S2x4096x2816.Idx) 1 = row t r :=
      Fin.ext (by show win0_4.index t 1 * 512 + 1 * r.val = 512 * t.val + r.val; rw [(hi t).2.1]; omega)
    have a2 : (((cfg0.win 4).blk t).view.emb (ix3 p r j) : S2x4096x2816.Idx) 2 = j :=
      Fin.ext (by show win0_4.index t 2 * 2816 + 1 * j.val = j.val; rw [(hi t).2.2]; omega)
    show _ = gu m d _ _ _
    rw [a0, a1, a2]
    rfl
  · exact (by decide +kernel : (cfg0.win 4).Covers).cover _ (Memref.isWhole_whole _)

end
end Cert.InKernelIdeal.Blocks
end
-- ==== Proof.InReference.lean ====
/- What the reference of the feed-forward layer's input product computes, entry by entry. -/
module

public import proofs.«01_k».proof.Proof.Gen.InReferenceIdeal.Read
public import proofs.«01_k».proof.Proof.FfnMath

@[expose] public section

noncomputable section

namespace Cert.InReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S1024.Idx → EReal) (x2 : S1024x5632.Idx → EReal)

/-- The normed input at row `n`, lane `l`. -/
theorem normed_apply (n : Fin 4096) (l : Fin 1024) :
    val_main_v12 (F := 𝕀) x0 x1 (ix2 n l) = normed (fun l => x0 (ix2 n l)) (fun l => x1 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The normed input the reference returns. -/
theorem xn_apply (n : Fin 4096) (l : Fin 1024) :
    val_main_v13 (F := 𝕀) x0 x1 (ix2 n l) = normed (fun l => x0 (ix2 n l)) (fun l => x1 (ix1 l)) l := by
  rw [← normed_apply]
  rfl

/-- The product at row `n`, lane `j` of the weights. -/
theorem prod_apply (n : Fin 4096) (j : Fin 5632) :
    val_main_v14 (F := 𝕀) x0 x1 x2 (ix2 n j)
      = ∑ k : Fin 1024, normed (fun l => x0 (ix2 n l)) (fun l => x1 (ix1 l)) k * x2 (ix2 k j) := by
  have e := normed_apply x0 x1
  unfold val_main_v14
  generalize val_main_v12 (F := 𝕀) x0 x1 = G at e
  pointwise
  simp only [e]

/-- The two halves the reference returns. -/
theorem gu_apply (p : Fin 2) (n : Fin 4096) (j : Fin 2816) :
    val_main_v20 (F := 𝕀) x0 x1 x2 (ix3 p n j)
      = ∑ k : Fin 1024, normed (fun l => x0 (ix2 n l)) (fun l => x1 (ix1 l)) k
          * x2 (ix2 k ⟨p.val * 2816 + j.val, by omega⟩) := by
  rw [← prod_apply]
  unfold val_main_v20 val_main_v19 val_main_v18 val_main_v17 val_main_v16 val_main_v15
  generalize val_main_v14 (F := 𝕀) x0 x1 x2 = G
  pointwise
  split
  · congr 1; funext a; apply Fin.ext
    match a with
    | ⟨0, _⟩ => rfl
    | ⟨1, _⟩ => show j.val = p.val * 2816 + j.val; omega
  · congr 1; funext a; apply Fin.ext
    match a with
    | ⟨0, _⟩ => rfl
    | ⟨1, _⟩ => show 2816 + j.val = p.val * 2816 + j.val; omega

end
end Cert.InReferenceIdeal.Rows
end
-- ==== Proof.OutArrays.lean ====
/- The feed-forward layer's gated unit, its output product and the norm after it, as the kernel computes them. -/
module

public import proofs.«01_k».proof.Proof.Gen.OutKernelIdeal.Value
public import proofs.«01_k».proof.Proof.FfnMath

@[expose] public section

noncomputable section

namespace Cert.OutKernelIdeal.Blocks

open Gen Cert.Ffn Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (v0 v3 : Vec 𝕀 S1x512x2816 .bf16) (v13 : Vec 𝕀 S8x1x352x1024 .bf16) (v19 : Vec 𝕀 S1x1024 .f32)

/-- The gated unit of a row. -/
theorem gated_apply (r : Fin 512) (k : Fin 2816) :
    k0_pay2 v0 v3 (ix2 r k) = gated (v0 (ix3 0 r k)) (v3 (ix3 0 r k)) := by
  unfold_payloads; pointwise; rfl

theorem gated3_apply (q : Fin 1) (r : Fin 512) (k : Fin 2816) :
    k0_pay3 v0 v3 (ix3 q r k) = gated (v0 (ix3 0 r k)) (v3 (ix3 0 r k)) := by
  unfold_payloads; pointwise; rfl

/-- The product of a row with the weights. -/
theorem prod_apply (r : Fin 512) (l : Fin 1024) :
    k0_pay4 v0 v3 v13 (ix2 r l)
      = ∑ k : Fin 2816, gated (v0 (ix3 0 r k)) (v3 (ix3 0 r k))
          * v13 (ix4 ⟨k.val / 352, by omega⟩ 0 ⟨k.val % 352, by omega⟩ l) := by
  have e := gated_apply v0 v3
  unfold k0_pay4
  generalize k0_pay2 v0 v3 = G at e
  pointwise
  simp only [e]

theorem normed_apply (r : Fin 512) (l : Fin 1024) :
    k0_pay5 v0 v3 v13 v19 (ix2 r l)
      = normed (fun l => k0_pay4 v0 v3 v13 (ix2 r l)) (fun l => v19 (ix2 0 l)) l := by
  unfold k0_pay5
  generalize k0_pay4 v0 v3 v13 = G
  pointwise
  rfl

theorem step_apply (v18 : Vec 𝕀 S512x1024 .f32) (b : BitVec 32) (r : Fin 512) (l : Fin 1024) :
    k0_pay1 v18 (k0_pay5 v0 v3 v13 v19) (Scalar.ofBits .f32 b) (ix2 r l)
      = v18 (ix2 r l) + Ideal.ofBits FTy.f32 b
          * normed (fun l => k0_pay4 v0 v3 v13 (ix2 r l)) (fun l => v19 (ix2 0 l)) l := by
  have e := normed_apply v0 v3 v13 v19
  unfold k0_pay1
  generalize k0_pay5 v0 v3 v13 v19 = G at e
  pointwise
  simp only [e]

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The gate's half of the input product, and the other. -/
def gu (p : Fin 2) (n : Fin 4096) (k : Fin 2816) : EReal := (m (d.tc.loc main_arg1) : Vec 𝕀 S2x4096x2816 .bf16) (ix3 p n k)

/-- The norm's scale. -/
def g (l : Fin 1024) : EReal := (m (d.tc.loc main_arg2) : Vec 𝕀 S1024 .f32) (ix1 l)

/-- The weights. -/
def w (k : Fin 2816) (l : Fin 1024) : EReal := (m (d.tc.loc main_arg3) : Vec 𝕀 S2816x1024 .f32) (ix2 k l)

theorem V0 (p : Fin 2) (n : Fin 4096) (k : Fin 2816) : (V m d main_arg1 : Vec 𝕀 S2x4096x2816 .bf16) (ix3 p n k) = gu m d p n k := by
  rw [V_main_arg1]; rfl

theorem V1 (a : Fin 8) (b : Fin 352) (l : Fin 1024) :
    (V m d main_v1 : Vec 𝕀 S8x1x352x1024 .bf16) (ix4 a 0 b l) = w m d ⟨a.val * 352 + b.val, by omega⟩ l := by
  entry_read
  pointwise
  rfl

theorem V2 (n : Fin 4096) (l : Fin 1024) : (V m d main_arg0 : Vec 𝕀 S4096x1024 .f32) (ix2 n l) = x m d n l := by
  rw [V_main_arg0]; rfl

theorem V3 (l : Fin 1024) : (V m d main_v2 : Vec 𝕀 S1x1024 .f32) (ix2 0 l) = g m d l := by
  entry_read; pointwise; rfl

theorem blk0 (t : Fin cfg0.N) (p : Fin 2) (r : Fin 512) (k : Fin 2816) :
    (iblk m d 0 t : Vec 𝕀 S2x512x2816 .bf16) (ix3 p r k) = (V m d main_arg1 : Vec 𝕀 S2x4096x2816 .bf16) (ix3 p (row t r) k) := by
  have hi := (by decide +kernel : ∀ t : Fin grid0.N, win0_0.index t 0 = 0 ∧ win0_0.index t 1 = t.val ∧ win0_0.index t 2 = 0) t
  unfold iblk
  rw [View.read_apply]
  refine congrArg (V m d main_arg1 : Vec 𝕀 S2x4096x2816 .bf16) (funext fun a => Fin.ext ?_)
  match a with
  | ⟨0, _⟩ => show win0_0.index t 0 * 2 + 1 * p.val = p.val; rw [hi.1]; omega
  | ⟨1, _⟩ => show win0_0.index t 1 * 512 + 1 * r.val = 512 * t.val + r.val; rw [hi.2.1]; omega
  | ⟨2, _⟩ => show win0_0.index t 2 * 2816 + 1 * k.val = k.val; rw [hi.2.2]; omega

theorem blk1 (t : Fin cfg0.N) (p : Fin 8) (q : Fin 1) (k : Fin 352) (l : Fin 1024) :
    (iblk m d 1 t : Vec 𝕀 S8x1x352x1024 .bf16) (ix4 p q k l) = (V m d main_v1 : Vec 𝕀 S8x1x352x1024 .bf16) (ix4 p q k l) := by
  have hi := (by decide +kernel : ∀ t : Fin grid0.N, win0_1.index t 0 = 0 ∧ win0_1.index t 1 = 0 ∧ win0_1.index t 2 = 0 ∧ win0_1.index t 3 = 0) t
  unfold iblk
  rw [View.read_apply]
  refine congrArg (V m d main_v1 : Vec 𝕀 S8x1x352x1024 .bf16) (funext fun a => Fin.ext ?_)
  match a with
  | ⟨0, _⟩ => show win0_1.index t 0 * 8 + 1 * p.val = p.val; rw [hi.1]; omega
  | ⟨1, _⟩ => show win0_1.index t 1 * 1 + 1 * q.val = q.val; rw [hi.2.1]; omega
  | ⟨2, _⟩ => show win0_1.index t 2 * 352 + 1 * k.val = k.val; rw [hi.2.2.1]; omega
  | ⟨3, _⟩ => show win0_1.index t 3 * 1024 + 1 * l.val = l.val; rw [hi.2.2.2]; omega

theorem blk2 (t : Fin cfg0.N) (r : Fin 512) (l : Fin 1024) :
    (iblk m d 2 t : Vec 𝕀 S512x1024 .f32) (ix2 r l) = (V m d main_arg0 : Vec 𝕀 S4096x1024 .f32) (ix2 (row t r) l) := by
  have hi := (by decide +kernel : ∀ t : Fin grid0.N, win0_2.index t 0 = t.val ∧ win0_2.index t 1 = 0) t
  unfold iblk
  rw [View.read_apply]
  refine congrArg (V m d main_arg0 : Vec 𝕀 S4096x1024 .f32) (funext fun a => Fin.ext ?_)
  match a with
  | ⟨0, _⟩ => show win0_2.index t 0 * 512 + 1 * r.val = 512 * t.val + r.val; rw [hi.1]; omega
  | ⟨1, _⟩ => show win0_2.index t 1 * 1024 + 1 * l.val = l.val; rw [hi.2]; omega

theorem blk3 (t : Fin cfg0.N) (q : Fin 1) (l : Fin 1024) :
    (iblk m d 3 t : Vec 𝕀 S1x1024 .f32) (ix2 q l) = (V m d main_v2 : Vec 𝕀 S1x1024 .f32) (ix2 q l) := by
  have hi := (by decide +kernel : ∀ t : Fin grid0.N, win0_3.index t 0 = 0 ∧ win0_3.index t 1 = 0) t
  unfold iblk
  rw [View.read_apply]
  refine congrArg (V m d main_v2 : Vec 𝕀 S1x1024 .f32) (funext fun a => Fin.ext ?_)
  match a with
  | ⟨0, _⟩ => show win0_3.index t 0 * 1 + 1 * q.val = q.val; rw [hi.1]; omega
  | ⟨1, _⟩ => show win0_3.index t 1 * 1024 + 1 * l.val = l.val; rw [hi.2]; omega

/-- The gated unit. -/
def act (_ : Fin 1) (n : Fin 4096) (k : Fin 2816) : EReal := gated (gu m d 0 n k) (gu m d 1 n k)

/-- The output product. -/
def h (n : Fin 4096) (l : Fin 1024) : EReal := ∑ k : Fin 2816, act m d 0 n k * w m d k l

/-- The layer's output: its input and half of the normed product. -/
def y (n : Fin 4096) (l : Fin 1024) : EReal :=
  x m d n l + Ideal.ofBits FTy.f32 0x3F000000#32 * normed (h m d n) (g m d) l

/-- The gate's half and the other, as a point loads them. -/
abbrev gA (t : Fin cfg0.N) : Vec 𝕀 S1x512x2816 .bf16 := View.ld (iblk m d 0 t : Vec 𝕀 S2x512x2816 .bf16) r0_0
abbrev gB (t : Fin cfg0.N) : Vec 𝕀 S1x512x2816 .bf16 := View.ld (iblk m d 0 t : Vec 𝕀 S2x512x2816 .bf16) r0_1

theorem half_eq (t : Fin cfg0.N) (p : Fin 2) (ib : ∀ a, ![p.val, 0, 0] a + ![1, 512, 2816] a ≤ S2x512x2816.size a)
    (r : Fin 512) (k : Fin 2816) :
    View.ld (iblk m d 0 t : Vec 𝕀 S2x512x2816 .bf16) (Rect.unit ![p.val, 0, 0] ![1, 512, 2816] ib) (ix3 0 r k)
      = gu m d p (row t r) k := by
  have e : (Rect.unit (s := S2x512x2816) ![p.val, 0, 0] ![1, 512, 2816] ib).emb (ix3 0 r k) = ix3 p r k := by
    funext a; apply Fin.ext
    match a with
    | ⟨0, _⟩ => show p.val + 1 * 0 = p.val; omega
    | ⟨1, _⟩ => show 0 + 1 * r.val = r.val; omega
    | ⟨2, _⟩ => show 0 + 1 * k.val = k.val; omega
  exact (congrArg (iblk m d 0 t : Vec 𝕀 S2x512x2816 .bf16) e).trans ((blk0 m d t p r k).trans (V0 m d p _ k))

theorem act_eq (t : Fin cfg0.N) (r : Fin 512) (k : Fin 2816) :
    gated (gA m d t (ix3 0 r k)) (gB m d t (ix3 0 r k)) = act m d 0 (row t r) k :=
  congrArg₂ gated (half_eq m d t 0 inb_S2x512x2816_S1x512x2816_0_0_0 r k) (half_eq m d t 1 inb_S2x512x2816_S1x512x2816_1_0_0 r k)

theorem w_eq (t : Fin cfg0.N) (k : Fin 2816) (l : Fin 1024) :
    (iblk m d 1 t : Vec 𝕀 S8x1x352x1024 .bf16) (ix4 ⟨k.val / 352, by omega⟩ 0 ⟨k.val % 352, by omega⟩ l) = w m d k l := by
  refine (blk1 m d t _ 0 _ l).trans ((V1 m d _ _ l).trans ?_)
  congr 1
  apply Fin.ext
  show k.val / 352 * 352 + k.val % 352 = k.val
  omega

theorem h_eq (t : Fin cfg0.N) (r : Fin 512) (l : Fin 1024) :
    k0_pay4 (gA m d t) (gB m d t) (iblk m d 1 t) (ix2 r l) = h m d (row t r) l := by
  refine (prod_apply _ _ _ r l).trans ?_
  exact Finset.sum_congr rfl fun k _ => congrArg₂ (· * · : EReal → EReal → EReal) (act_eq m d t r k) (w_eq m d t k l)

theorem out4_apply (t : Fin cfg0.N) (q : Fin 1) (r : Fin 512) (k : Fin 2816) :
    out0_4 (iblk m d 0 t) (iblk m d 1 t) (iblk m d 2 t) (iblk m d 3 t) (ix3 q r k) = act m d q (row t r) k := by
  unfold out0_4
  rw [View.canon_unit_zero (S := S1x512x2816) hz3]
  exact (gated3_apply _ _ q r k).trans (act_eq m d t r k)

theorem out5_apply (t : Fin cfg0.N) (r : Fin 512) (l : Fin 1024) :
    out0_5 (iblk m d 0 t) (iblk m d 1 t) (iblk m d 2 t) (iblk m d 3 t) (ix2 r l) = h m d (row t r) l := by
  unfold out0_5
  rw [View.canon_unit_zero (S := S512x1024) hz2, View.ld_unit_zero (S := S8x1x352x1024) hz4]
  exact h_eq m d t r l

theorem out6_apply (t : Fin cfg0.N) (r : Fin 512) (l : Fin 1024) :
    out0_6 (iblk m d 0 t) (iblk m d 1 t) (iblk m d 2 t) (iblk m d 3 t) (ix2 r l) = y m d (row t r) l := by
  unfold out0_6
  rw [View.canon_unit_zero (S := S512x1024) hz2, View.ld_unit_zero (S := S8x1x352x1024) hz4,
    View.ld_unit_zero (S := S512x1024) hz2, View.ld_unit_zero (S := S1x1024) hz2]
  refine (step_apply _ _ _ _ _ _ r l).trans ?_
  refine congrArg₂ (· + · : EReal → EReal → EReal) ((blk2 m d t r l).trans (V2 m d _ l)) ?_
  refine congrArg (Ideal.ofBits FTy.f32 0x3F000000#32 * ·) ?_
  exact congrArg₂ (normed · · l) (funext fun l => h_eq m d t r l) (funext fun l => (blk3 m d t 0 l).trans (V3 m d l))

/-- The gated unit after the run. -/
theorem arr4 : (dats m 0 d).arrAt 4 cfg0.N = fun i : S1x4096x2816.Idx => act m d (i 0) (i 1) (i 2) := by
  have hi : ∀ t : Fin cfg0.N, win0_4.index t 0 = 0 ∧ win0_4.index t 1 = t.val ∧ win0_4.index t 2 = 0 :=
    (by decide +kernel : ∀ t : Fin grid0.N, win0_4.index t 0 = 0 ∧ win0_4.index t 1 = t.val ∧ win0_4.index t 2 = 0)
  refine (dats m 0 d).arrAt_eq_of_cover 4 _ ?_ ?_
  · intro t ht
    rw [Value.flushed4]
    funext y
    rw [View.read_apply]
    change S1x512x2816.Idx at y
    obtain ⟨q, r, k, rfl⟩ := split3 y
    have a0 : (((cfg0.win 4).blk t).view.emb (ix3 q r k) : S1x4096x2816.Idx) 0 = q :=
      Fin.ext (by show win0_4.index t 0 * 1 + 1 * q.val = q.val; rw [(hi t).1]; omega)
    have a1 : (((cfg0.win 4).blk t).view.emb (ix3 q r k) : S1x4096x2816.Idx) 1 = row t r :=
      Fin.ext (by show win0_4.index t 1 * 512 + 1 * r.val = 512 * t.val + r.val; rw [(hi t).2.1]; omega)
    have a2 : (((cfg0.win 4).blk t).view.emb (ix3 q r k) : S1x4096x2816.Idx) 2 = k :=
      Fin.ext (by show win0_4.index t 2 * 2816 + 1 * k.val = k.val; rw [(hi t).2.2]; omega)
    obtain rfl : q = 0 := Subsingleton.elim _ _
    show _ = act m d 0 _ _
    rw [a1, a2]
    exact out4_apply m d t 0 r k
  · exact (by decide +kernel : (cfg0.win 4).Covers).cover _ (Memref.isWhole_whole _)

/-- The product after the run. -/
theorem arr5 : (dats m 0 d).arrAt 5 cfg0.N = fun i : S4096x1024.Idx => h m d (i 0) (i 1) := by
  have hi : ∀ t : Fin cfg0.N, win0_5.index t 0 = t.val ∧ win0_5.index t 1 = 0 :=
    (by decide +kernel : ∀ t : Fin grid0.N, win0_5.index t 0 = t.val ∧ win0_5.index t 1 = 0)
  refine (dats m 0 d).arrAt_eq_of_cover 5 _ ?_ ?_
  · intro t ht
    rw [Value.flushed5]
    funext y
    rw [View.read_apply]
    change S512x1024.Idx at y
    obtain ⟨r, l, rfl⟩ := split2 y
    have a0 : (((cfg0.win 5).blk t).view.emb (ix2 r l) : S4096x1024.Idx) 0 = row t r :=
      Fin.ext (by show win0_5.index t 0 * 512 + 1 * r.val = 512 * t.val + r.val; rw [(hi t).1]; omega)
    have a1 : (((cfg0.win 5).blk t).view.emb (ix2 r l) : S4096x1024.Idx) 1 = l :=
      Fin.ext (by show win0_5.index t 1 * 1024 + 1 * l.val = l.val; rw [(hi t).2]; omega)
    show _ = h m d _ _
    rw [a0, a1]
    exact out5_apply m d t r l
  · exact (by decide +kernel : (cfg0.win 5).Covers).cover _ (Memref.isWhole_whole _)

/-- The layer's output after the run. -/
theorem arr6 : (dats m 0 d).arrAt 6 cfg0.N = fun i : S4096x1024.Idx => y m d (i 0) (i 1) := by
  have hi : ∀ t : Fin cfg0.N, win0_6.index t 0 = t.val ∧ win0_6.index t 1 = 0 :=
    (by decide +kernel : ∀ t : Fin grid0.N, win0_6.index t 0 = t.val ∧ win0_6.index t 1 = 0)
  refine (dats m 0 d).arrAt_eq_of_cover 6 _ ?_ ?_
  · intro t ht
    rw [Value.flushed6]
    funext y
    rw [View.read_apply]
    change S512x1024.Idx at y
    obtain ⟨r, l, rfl⟩ := split2 y
    have a0 : (((cfg0.win 6).blk t).view.emb (ix2 r l) : S4096x1024.Idx) 0 = row t r :=
      Fin.ext (by show win0_6.index t 0 * 512 + 1 * r.val = 512 * t.val + r.val; rw [(hi t).1]; omega)
    have a1 : (((cfg0.win 6).blk t).view.emb (ix2 r l) : S4096x1024.Idx) 1 = l :=
      Fin.ext (by show win0_6.index t 1 * 1024 + 1 * l.val = l.val; rw [(hi t).2]; omega)
    show _ = y m d _ _
    rw [a0, a1]
    exact out6_apply m d t r l
  · exact (by decide +kernel : (cfg0.win 6).Covers).cover _ (Memref.isWhole_whole _)

end
end Cert.OutKernelIdeal.Blocks
end
-- ==== Proof.OutReference.lean ====
/- What the reference of the feed-forward layer's output computes, entry by entry. -/
module

public import proofs.«01_k».proof.Proof.Gen.OutReferenceIdeal.Read
public import proofs.«01_k».proof.Proof.FfnMath

@[expose] public section

noncomputable section

namespace Cert.OutReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S2x4096x2816.Idx → EReal) (x2 : S1024.Idx → EReal) (x3 : S2816x1024.Idx → EReal)

/-- The gated unit at row `n`, entry `k`. -/
theorem gated_apply (n : Fin 4096) (k : Fin 2816) :
    val_main_v6 (F := 𝕀) x1 (ix2 n k) = gated (x1 (ix3 0 n k)) (x1 (ix3 1 n k)) := by
  have g : ∀ i, val_main_v2 (F := 𝕀) x1 i = x1 (ix3 0 (i 0) (i 1)) := by
    intro i
    obtain ⟨a, b, rfl⟩ := split2 i
    unfold val_main_v2 val_main_v1 val_main_v0; pointwise
  have u : ∀ i, val_main_v4 (F := 𝕀) x1 i = x1 (ix3 1 (i 0) (i 1)) := by
    intro i
    obtain ⟨a, b, rfl⟩ := split2 i
    unfold val_main_v4 val_main_v3 val_main_v0; pointwise
  unfold val_main_v6 val_main_v5 val_main_call0_v5 val_main_call0_v4 val_main_call0_v3 val_main_call0_v2
    val_main_call0_v1 val_main_call0_v0 val_main_call0_cst val_main_call0_cst_0
  generalize val_main_v2 (F := 𝕀) x1 = G at g
  generalize val_main_v4 (F := 𝕀) x1 = U at u
  pointwise
  rw [g, u]
  rfl

/-- The gated unit the reference returns. -/
theorem act_apply (q : Fin 1) (n : Fin 4096) (k : Fin 2816) :
    val_main_v9 (F := 𝕀) x1 (ix3 q n k) = gated (x1 (ix3 0 n k)) (x1 (ix3 1 n k)) := by
  have e := gated_apply x1
  unfold val_main_v9 val_main_v8
  generalize val_main_v6 (F := 𝕀) x1 = G at e
  pointwise
  rw [e]

/-- The product with the weights. -/
def h (n : Fin 4096) (l : Fin 1024) : EReal :=
  ∑ k : Fin 2816, gated (x1 (ix3 0 n k)) (x1 (ix3 1 n k)) * x3 (ix2 k l)

theorem h_apply (n : Fin 4096) (l : Fin 1024) : val_main_v7 (F := 𝕀) x1 x3 (ix2 n l) = h x1 x3 n l := by
  have e := gated_apply x1
  unfold val_main_v7 h
  generalize val_main_v6 (F := 𝕀) x1 = G at e
  pointwise
  simp only [e]

/-- The layer's output. -/
theorem y_apply (n : Fin 4096) (l : Fin 1024) :
    val_main_v25 (F := 𝕀) x0 x1 x2 x3 (ix2 n l)
      = x0 (ix2 n l) + Ideal.ofBits FTy.f32 0x3F000000#32 * normed (h x1 x3 n) (fun l => x2 (ix1 l)) l := by
  have e := h_apply x1 x3
  unfold val_main_v25 val_main_v24 val_main_v23 val_main_v22 val_main_v21 val_main_v20 val_main_v19 val_main_v18 val_main_v17
    val_main_v16 val_main_v15 val_main_v14 val_main_v13 val_main_v12 val_main_v11 val_main_v10 val_main_cst val_main_cst_0
    val_main_cst_1 val_main_cst_2
  generalize val_main_v7 (F := 𝕀) x1 x3 = G at e
  pointwise
  simp only [e]
  rfl

end
end Cert.OutReferenceIdeal.Rows
end
-- ==== Proof.NormMath.lean ====
/- The backward pass of the root-mean-square norm on plain numbers: the form that centres the scaled gradient by its mean
   against the normed row, and the form the chain rule gives, are equal on all extended reals. -/
module

public import proofs.«01_k».proof.Proof.FfnMath

@[expose] public section

noncomputable section

namespace Cert.Ffn

open Idealize.ShloMosaic

/-- The pattern of the row length is the real 1024. -/
theorem len_eq : Ideal.ofBits FTy.f32 0x44800000#32 = ((1024 : ℝ) : EReal) := by
  simp [Ideal.ofBits, Ideal.ieee, -EReal.coe_mul]; norm_num

/-- The pattern of minus one half. -/
theorem neg_half_eq : Ideal.ofBits FTy.f32 0xBF000000#32 = ((-(1 / 2) : ℝ) : EReal) := by
  simp [Ideal.ofBits, Ideal.ieee, -EReal.coe_mul]; norm_num

/-- The norm's small constant is a positive real. -/
theorem eps_eq : ∃ e : ℝ, 0 < e ∧ Ideal.ofBits FTy.f32 0x358637BD#32 = (e : EReal) :=
  ⟨8796093 / 2 ^ 43, by norm_num, by simp [Ideal.ofBits, Ideal.ieee, -EReal.coe_mul]; norm_num⟩

/-- The normed row before its scale. -/
def xhat (x : Fin 1024 → EReal) (l : Fin 1024) : EReal := x l * Ideal.rsqrt (msq x)

/-- The norm's backward pass, centred. -/
def normBack (x u : Fin 1024 → EReal) (l : Fin 1024) : EReal :=
  Ideal.rsqrt (msq x)
    * (u l - xhat x l * Ideal.div (∑ k, u k * xhat x k) (Ideal.ofBits FTy.f32 0x44800000#32))

/-- The factor the chain rule gives the row itself. -/
def pull (x u : Fin 1024 → EReal) : EReal :=
  Ideal.div ((∑ k, x k * u k)
      * (Ideal.ofBits FTy.f32 0xBF000000#32 * Ideal.div (Ideal.rsqrt (msq x)) (msq x)))
    (Ideal.ofBits FTy.f32 0x44800000#32)

theorem div_len (a : EReal) : Ideal.div a (Ideal.ofBits FTy.f32 0x44800000#32) = a * ((1 / 1024 : ℝ) : EReal) := by
  rw [len_eq, Ideal.div, if_neg (by norm_num), ← EReal.coe_inv]
  norm_num

theorem sq_nonneg' (a : EReal) : 0 ≤ a * a := by
  rcases le_total 0 a with h | h
  · exact mul_nonneg h h
  · exact EReal.mul_nonneg_iff.2 (Or.inr ⟨h, h⟩)

theorem mul_sum' {n : Nat} (c : ℝ) (hc : 0 ≤ c) (f : Fin n → EReal) : (c : EReal) * ∑ k, f k = ∑ k, (c : EReal) * f k := by
  induction n with
  | zero => simp
  | succ n ih =>
    rw [Fin.sum_univ_castSucc, Fin.sum_univ_castSucc, ← ih,
      EReal.left_distrib_of_nonneg_of_ne_top (by exact_mod_cast hc) (EReal.coe_ne_top c)]

/-- The mean square of a row is a positive real, and then every entry is real, or infinity. -/
theorem msq_cases (x : Fin 1024 → EReal) :
    msq x = ⊤ ∨ ((∃ v : ℝ, 0 < v ∧ msq x = (v : EReal)) ∧ ∀ l, ∃ a : ℝ, x l = (a : EReal)) := by
  obtain ⟨e, he, hE⟩ := eps_eq
  have h0 : (0 : EReal) ≤ ∑ l, x l * x l := Finset.sum_nonneg fun l _ => sq_nonneg' _
  unfold msq
  rw [div_len, hE]
  rcases eq_or_ne (∑ l, x l * x l) ⊤ with ht | ht
  · left
    rw [ht, EReal.top_mul_coe_of_pos (by norm_num), EReal.top_add_coe]
  · right
    obtain ⟨s, hs⟩ : ∃ s : ℝ, ∑ l, x l * x l = (s : EReal) :=
      ⟨_, (EReal.coe_toReal ht (fun hb => by rw [hb] at h0; exact absurd h0 (by simp))).symm⟩
    refine ⟨⟨s * (1 / 1024) + e, ?_, ?_⟩, ?_⟩
    · rw [hs] at h0
      have : 0 ≤ s := by exact_mod_cast h0
      positivity
    · rw [hs]; norm_cast
    · intro l
      have hle : x l * x l ≤ ∑ l, x l * x l :=
        Finset.single_le_sum (f := fun l => x l * x l) (fun k _ => sq_nonneg' _) (Finset.mem_univ l)
      induction h : x l with
      | bot => rw [h] at hle; exact absurd (top_le_iff.1 (by simpa using hle)) ht
      | top => rw [h] at hle; exact absurd (top_le_iff.1 (by simpa using hle)) ht
      | coe a => exact ⟨a, rfl⟩

/-- The two forms of the norm's backward pass agree, whatever is added to them. -/
theorem chain_eq (x u : Fin 1024 → EReal) (d : EReal) (l : Fin 1024) :
    d + u l * Ideal.rsqrt (msq x) + x l * pull x u + pull x u * x l = d + normBack x u l := by
  unfold pull normBack xhat
  rw [div_len, div_len, neg_half_eq]
  rcases msq_cases x with h | ⟨⟨v, hv, h⟩, hx⟩
  · simp [h, Ideal.div]
  · obtain ⟨a, ha⟩ := hx l
    set r : ℝ := (Real.sqrt v)⁻¹ with hr
    have hr0 : 0 ≤ r := by positivity
    have er : Ideal.rsqrt (msq x) = (r : EReal) := by
      rw [h, Ideal.rsqrt_coe, if_neg (not_lt.2 hv.le), if_neg hv.ne']
    have ed : Ideal.div (Ideal.rsqrt (msq x)) (msq x) = ((r * v⁻¹ : ℝ) : EReal) := by
      rw [er, h, Ideal.div, if_neg (by exact_mod_cast hv.ne'), ← EReal.coe_inv, ← EReal.coe_mul]
    have hrr : r * r = v⁻¹ := by rw [hr, ← mul_inv, Real.mul_self_sqrt hv.le]
    rw [ed, er, ha]
    have es : ∑ k, u k * (x k * (r : EReal)) = (r : EReal) * ∑ k, x k * u k := by
      rw [mul_sum' r hr0]
      exact Finset.sum_congr rfl fun k _ => by rw [← mul_assoc, mul_comm (u k), mul_comm]
    rw [es]
    generalize (∑ k, x k * u k) = S
    generalize u l = U
    have e1 : (r : EReal) * (U - (a : EReal) * (r : EReal) * ((r : EReal) * S * ((1 / 1024 : ℝ) : EReal)))
        = U * (r : EReal) + (-((a * r * r * r / 1024 : ℝ) : EReal)) * S := by
      rw [sub_eq_add_neg, EReal.left_distrib_of_nonneg_of_ne_top (by exact_mod_cast hr0) (EReal.coe_ne_top r)]
      congr 1
      · exact mul_comm _ _
      · rw [mul_neg, neg_mul]
        congr 1
        rw [show (a * r * r * r / 1024 : ℝ) = r * (a * r) * (r * (1 / 1024)) by ring]
        push_cast
        ac_rfl
    have e2 : (a : EReal) * (S * (((-(1 / 2) : ℝ) : EReal) * ((r * v⁻¹ : ℝ) : EReal)) * ((1 / 1024 : ℝ) : EReal))
        = ((-(a * r * r * r / 2048) : ℝ) : EReal) * S := by
      rw [← hrr, show (-(a * r * r * r / 2048) : ℝ) = a * ((-(1 / 2)) * (r * (r * r))) * (1 / 1024) by ring]
      push_cast
      ac_rfl
    rw [e1, mul_comm _ (a : EReal), e2, add_assoc, add_assoc]
    refine congrArg (d + ·) (congrArg (U * (r : EReal) + ·) ?_)
    have e3 : (-((a * r * r * r / 1024 : ℝ) : EReal)) = ((2 : ℝ) : EReal) * ((-(a * r * r * r / 2048) : ℝ) : EReal) := by
      rw [← EReal.coe_neg, ← EReal.coe_mul]; congr 1; ring
    rw [e3]
    generalize ((-(a * r * r * r / 2048) : ℝ) : EReal) = c
    rw [mul_assoc]
    generalize c * S = T
    have : ((2 : ℝ) : EReal) = 1 + 1 := by
      rw [← EReal.coe_one, ← EReal.coe_add]; norm_num
    rw [this, EReal.right_distrib_of_nonneg zero_le_one zero_le_one, one_mul]

end Cert.Ffn
end
-- ==== Proof.FiniteMath.lean ====
/- Finite extended reals: what stays finite through the feed-forward layer and its backward pass, and the two forms of the
   gate's backward pass, which agree on finite numbers. -/
module

public import proofs.«01_k».proof.Proof.NormMath

@[expose] public section

noncomputable section

namespace Cert.Ffn

open Idealize.ShloMosaic

/-- A finite extended real. -/
def IsFin (a : EReal) : Prop := ∃ r : ℝ, a = (r : EReal)

theorem IsFin.add {a b : EReal} : IsFin a → IsFin b → IsFin (a + b)
  | ⟨r, ha⟩, ⟨s, hb⟩ => ⟨r + s, by rw [ha, hb, EReal.coe_add]⟩

theorem IsFin.mul {a b : EReal} : IsFin a → IsFin b → IsFin (a * b)
  | ⟨r, ha⟩, ⟨s, hb⟩ => ⟨r * s, by rw [ha, hb, EReal.coe_mul]⟩

theorem IsFin.sub {a b : EReal} : IsFin a → IsFin b → IsFin (a - b)
  | ⟨r, ha⟩, ⟨s, hb⟩ => ⟨r - s, by rw [ha, hb, EReal.coe_sub]⟩

theorem IsFin.sum {n : Nat} {f : Fin n → EReal} (hf : ∀ k, IsFin (f k)) : IsFin (∑ k, f k) := by
  induction n with
  | zero => exact ⟨0, by simp⟩
  | succ n ih =>
    rw [Fin.sum_univ_castSucc]
    exact (ih fun k => hf _).add (hf _)

/-- An extended real whose size is below infinity is finite. -/
theorem fin_of_lt {a : EReal} (h : max a (-a) < ⊤) : IsFin a := by
  induction a with
  | bot => exact absurd h (by simp)
  | top => exact absurd h (by simp)
  | coe r => exact ⟨r, rfl⟩

theorem fin_half : IsFin (Ideal.ofBits FTy.f32 0x3F000000#32) :=
  ⟨1 / 2, by simp [Ideal.ofBits, Ideal.ieee, -EReal.coe_mul]; norm_num⟩

theorem sig_coe (g : ℝ) : sig (g : EReal) = ((1 / (1 + Real.exp (-g)) : ℝ) : EReal) := by
  have h : (0 : ℝ) < 1 + Real.exp (-g) := by positivity
  unfold sig
  rw [← EReal.coe_neg, Ideal.exp_coe, ← EReal.coe_one, ← EReal.coe_add, Ideal.div,
    if_neg (by exact_mod_cast h.ne'), ← EReal.coe_inv, ← EReal.coe_mul, one_div, one_mul]

theorem IsFin.sig {g : EReal} : IsFin g → IsFin (sig g)
  | ⟨r, h⟩ => ⟨_, by rw [h]; exact sig_coe r⟩

theorem IsFin.gated {g u : EReal} (hg : IsFin g) (hu : IsFin u) : IsFin (gated g u) := (hg.mul hg.sig).mul hu

theorem IsFin.rsqrt (x : Fin 1024 → EReal) : IsFin (Ideal.rsqrt (msq x)) := by
  rcases msq_cases x with h | ⟨⟨v, hv, h⟩, -⟩
  · exact ⟨0, by rw [h, Ideal.rsqrt_top, EReal.coe_zero]⟩
  · exact ⟨_, by rw [h, Ideal.rsqrt_coe, if_neg (not_lt.2 hv.le), if_neg hv.ne']⟩

theorem IsFin.xhat {x : Fin 1024 → EReal} (hx : ∀ l, IsFin (x l)) (l : Fin 1024) : IsFin (xhat x l) := (hx l).mul (IsFin.rsqrt x)

theorem IsFin.normBack {x u : Fin 1024 → EReal} (hx : ∀ l, IsFin (x l)) (hu : ∀ l, IsFin (u l)) (l : Fin 1024) :
    IsFin (normBack x u l) := by
  unfold Ffn.normBack
  rw [div_len]
  exact (IsFin.rsqrt x).mul ((hu l).sub ((IsFin.xhat hx l).mul ((IsFin.sum fun k => (hu k).mul (IsFin.xhat hx k)).mul ⟨_, rfl⟩)))

/-- The gate's backward pass, factored. -/
def gateBack (z g u : EReal) : EReal := z * u * sig g * (1 + g * (1 - sig g))

/-- The gate's backward pass as the chain rule gives it is the factored one, on finite numbers. -/
theorem gate_eq {z g u : EReal} : IsFin z → IsFin g → IsFin u →
    z * u * sig g + g * (z * u) * (sig g * (1 - sig g)) = gateBack z g u
  | ⟨a, ha⟩, ⟨b, hb⟩, ⟨c, hc⟩ => by
    obtain ⟨s, hs⟩ : IsFin (sig g) := IsFin.sig ⟨b, hb⟩
    unfold gateBack
    rw [hs, ha, hb, hc]
    norm_cast
    ring

end Cert.Ffn
end
-- ==== Proof.BwdOutArrays.lean ====
/- The backward pass of the feed-forward layer's output product, of the norm after it and of the gate before it, as the
   kernel computes them: the gradients at the product and at the gate's inputs, tile by tile, and the gradient of the norm's
   scale, accumulated over the tiles. -/
module

public import proofs.«01_k».proof.Proof.Gen.BwdOutKernelIdeal.Value
public import proofs.«01_k».proof.Proof.FiniteMath
public import Idealize.ShloMosaic.Lib.IdealHost

@[expose] public section

noncomputable section

namespace Cert.BwdOutKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

/-- One half, as the programs write it. -/
abbrev half : EReal := Ideal.ofBits FTy.f32 0x3F000000#32

section
variable (v0 v4 : Vec 𝕀 S512x1024 .f32) (v2 : Vec 𝕀 S1x1024 .f32) (v40 : FVec 𝕀 S512x1024 .bf16)
  (v48 : Vec 𝕀 S8x1x352x1024 .bf16) (v52 v55 : Vec 𝕀 S1x512x2816 .bf16)

theorem xhat_apply (r : Fin 512) (l : Fin 1024) : k0_pay4 v0 (ix2 r l) = xhat (fun l => v0 (ix2 r l)) l := by
  unfold_payloads; pointwise
  rfl

theorem scaled_apply (r : Fin 512) (l : Fin 1024) : k0_pay3 v4 (ix2 r l) = half * v4 (ix2 r l) := by
  unfold_payloads; pointwise

/-- What a point adds to the gradient of the norm's scale. -/
theorem dscale_apply (q : Fin 1) (l : Fin 1024) :
    k0_pay5 v0 v4 (ix2 q l) = ∑ r : Fin 512, (half * v4 (ix2 r l)) * xhat (fun l => v0 (ix2 r l)) l := by
  have e4 := xhat_apply v0
  have e3 := scaled_apply v4
  unfold k0_pay5
  generalize k0_pay4 v0 = A at e4
  generalize k0_pay3 v4 = B at e3
  pointwise
  simp only [e3, e4]

/-- The gradient at the product. -/
theorem dh_apply (r : Fin 512) (l : Fin 1024) :
    k0_pay6 v0 v2 v4 (ix2 r l)
      = normBack (fun l => v0 (ix2 r l)) (fun l => half * v4 (ix2 r l) * v2 (ix2 0 l)) l := by
  have e4 := xhat_apply v0
  have e3 := scaled_apply v4
  unfold k0_pay6 k0_pay2
  generalize k0_pay4 v0 = A at e4
  generalize k0_pay3 v4 = B at e3
  pointwise
  simp only [e3, e4]
  rfl

/-- The gradient at the gated unit. -/
theorem dz_apply (r : Fin 512) (k : Fin 2816) :
    k0_pay8 v40 v48 (ix2 r k)
      = ∑ l : Fin 1024, (v40 (ix2 r l) : EReal) * v48 (ix4 ⟨k.val / 352, by omega⟩ 0 ⟨k.val % 352, by omega⟩ l) := by
  unfold_payloads; pointwise

/-- The gradient at the gate. -/
theorem gate_apply (q : Fin 1) (r : Fin 512) (k : Fin 2816) :
    k0_pay11 v40 v48 v52 v55 (ix3 q r k)
      = gateBack (k0_pay8 v40 v48 (ix2 r k)) (v52 (ix3 0 r k)) (v55 (ix3 0 r k)) := by
  unfold k0_pay11 k0_pay10 k0_pay9
  generalize k0_pay8 v40 v48 = Z
  pointwise
  unfold gateBack
  rw [← Ideal.ofBits_one_f32]
  rfl

/-- The gradient at the gate's other input. -/
theorem up_apply (q : Fin 1) (r : Fin 512) (k : Fin 2816) :
    k0_pay1 (k0_pay12 v40 v48 v52) (ix3 q r k)
      = (k0_pay8 v40 v48 (ix2 r k) : EReal) * v52 (ix3 0 r k) * Ffn.sig (v52 (ix3 0 r k)) := by
  unfold k0_pay1 k0_pay12 k0_pay10 k0_pay9
  generalize k0_pay8 v40 v48 = Z
  pointwise
  rfl

theorem acc_apply (v39 : FVec 𝕀 S1x1024 .f32) (acc : Vec 𝕀 S1x1024 .f32) (q : Fin 1) (l : Fin 1024) :
    k0_pay7 v39 acc (ix2 q l) = acc (ix2 q l) + v39 (ix2 q l) := by
  unfold_payloads; pointwise

end

section
variable (m : (ℓ : Loc nD τ sig) → Buf (Elt 𝕀) ℓ) (d : Dev nD)

/-- The gradient of the layer's output. -/
def dy (n : Fin 4096) (l : Fin 1024) : EReal := (m (d.tc.loc main_arg0) : Vec 𝕀 S4096x1024 .f32) (ix2 n l)

/-- The gate's half of the input product, and the other. -/
def gu (p : Fin 2) (n : Fin 4096) (k : Fin 2816) : EReal := (m (d.tc.loc main_arg1) : Vec 𝕀 S2x4096x2816 .bf16) (ix3 p n k)

/-- The norm's scale. -/
def g (l : Fin 1024) : EReal := (m (d.tc.loc main_arg2) : Vec 𝕀 S1024 .f32) (ix1 l)

/-- The weights. -/
def w (k : Fin 2816) (l : Fin 1024) : EReal := (m (d.tc.loc main_arg3) : Vec 𝕀 S2816x1024 .f32) (ix2 k l)

/-- The output product. -/
def h (n : Fin 4096) (l : Fin 1024) : EReal := ∑ k : Fin 2816, gated (gu m d 0 n k) (gu m d 1 n k) * w m d k l

theorem V0 (n : Fin 4096) (l : Fin 1024) : (V m d main_arg0 : Vec 𝕀 S4096x1024 .f32) (ix2 n l) = dy m d n l := by
  rw [V_main_arg0]; rfl

theorem V1 (n : Fin 4096) (l : Fin 1024) : (V m d main_v7 : Vec 𝕀 S4096x1024 .f32) (ix2 n l) = h m d n l := by
  unfold V
  simp only [hostOps0, hostOps0_1, hostOps0_2, List.flatten_cons, List.flatten_nil, List.cons_append, List.nil_append]
  after_results
  simp only [StableHlo.TRef.toBuf, StableHlo.TRef.ofBuf, cast_eq]
  pointwise
  rfl

theorem V2 (l : Fin 1024) : (V m d main_v10 : Vec 𝕀 S1x1024 .f32) (ix2 0 l) = g m d l := by
  unfold V
  simp only [hostOps0, hostOps0_1, hostOps0_2, List.flatten_cons, List.flatten_nil, List.cons_append, List.nil_append]
  after_results
  pointwise
  rfl

theorem V3 (a : Fin 8) (b : Fin 352) (l : Fin 1024) :
    (V m d main_v9 : Vec 𝕀 S8x1x352x1024 .bf16) (ix4 a 0 b l) = w m d ⟨a.val * 352 + b.val, by omega⟩ l := by
  unfold V
  simp only [hostOps0, hostOps0_1, hostOps0_2, List.flatten_cons, List.flatten_nil, List.cons_append, List.nil_append]
  after_results
  pointwise
  rfl

theorem V4 (p : Fin 2) (n : Fin 4096) (k : Fin 2816) : (V m d main_arg1 : Vec 𝕀 S2x4096x2816 .bf16) (ix3 p n k) = gu m d p n k := by
  rw [V_main_arg1]; rfl

theorem blk0 (t : Fin cfg0.N) (r : Fin 512) (l : Fin 1024) :
    (iblk m d 0 t : Vec 𝕀 S512x1024 .f32) (ix2 r l) = (V m d main_arg0 : Vec 𝕀 S4096x1024 .f32) (ix2 (row t r) l) := by
  have hi := (by decide +kernel : ∀ t : Fin grid0.N, win0_0.index t 0 = t.val ∧ win0_0.index t 1 = 0) t
  unfold iblk
  rw [View.read_apply]
  refine congrArg (V m d main_arg0 : Vec 𝕀 S4096x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (t : Fin cfg0.N) (r : Fin 512) (l : Fin 1024) :
    (iblk m d 1 t : Vec 𝕀 S512x1024 .f32) (ix2 r l) = (V m d main_v7 : Vec 𝕀 S4096x1024 .f32) (ix2 (row t r) l) := by
  have hi := (by decide +kernel : ∀ t : Fin grid0.N, win0_1.index t 0 = t.val ∧ win0_1.index t 1 = 0) t
  unfold iblk
  rw [View.read_apply]
  refine congrArg (V m d main_v7 : Vec 𝕀 S4096x1024 .f32) (funext fun a => Fin.ext ?_)
  match a with
  | ⟨0, _⟩ => show win0_1.index t 0 * 512 + 1 * r.val = 512 * t.val + r.val; rw [hi.1]; omega
  | ⟨1, _⟩ => show win0_1.index t 1 * 1024 + 1 * l.val = l.val; rw [hi.2]; omega

theorem blk2 (t : Fin cfg0.N) (q : Fin 1) (l : Fin 1024) :
    (iblk m d 2 t : Vec 𝕀 S1x1024 .f32) (ix2 q l) = (V m d main_v10 : Vec 𝕀 S1x1024 .f32) (ix2 q l) := by
  have hi := (by decide +kernel : ∀ t : Fin grid0.N, win0_2.index t 0 = 0 ∧ win0_2.index t 1 = 0) t
  unfold iblk
  rw [View.read_apply]
  refine congrArg (V m d main_v10 : Vec 𝕀 S1x1024 .f32) (funext fun a => Fin.ext ?_)
  match a with
  | ⟨0, _⟩ => show win0_2.index t 0 * 1 + 1 * q.val = q.val; rw [hi.1]; omega
  | ⟨1, _⟩ => show win0_2.index t 1 * 1024 + 1 * l.val = l.val; rw [hi.2]; omega

theorem blk3 (t : Fin cfg0.N) (p : Fin 8) (q : Fin 1) (k : Fin 352) (l : Fin 1024) :
    (iblk m d 3 t : Vec 𝕀 S8x1x352x1024 .bf16) (ix4 p q k l) = (V m d main_v9 : Vec 𝕀 S8x1x352x1024 .bf16) (ix4 p q k l) := by
  have hi := (by decide +kernel : ∀ t : Fin grid0.N, win0_3.index t 0 = 0 ∧ win0_3.index t 1 = 0 ∧ win0_3.index t 2 = 0 ∧ win0_3.index t 3 = 0) t
  unfold iblk
  rw [View.read_apply]
  refine congrArg (V m d main_v9 : Vec 𝕀 S8x1x352x1024 .bf16) (funext fun a => Fin.ext ?_)
  match a with
  | ⟨0, _⟩ => show win0_3.index t 0 * 8 + 1 * p.val = p.val; rw [hi.1]; omega
  | ⟨1, _⟩ => show win0_3.index t 1 * 1 + 1 * q.val = q.val; rw [hi.2.1]; omega
  | ⟨2, _⟩ => show win0_3.index t 2 * 352 + 1 * k.val = k.val; rw [hi.2.2.1]; omega
  | ⟨3, _⟩ => show win0_3.index t 3 * 1024 + 1 * l.val = l.val; rw [hi.2.2.2]; omega

theorem blk4 (t : Fin cfg0.N) (p : Fin 2) (r : Fin 512) (k : Fin 2816) :
    (iblk m d 4 t : Vec 𝕀 S2x512x2816 .bf16) (ix3 p r k) = (V m d main_arg1 : Vec 𝕀 S2x4096x2816 .bf16) (ix3 p (row t r) k) := by
  have hi := (by decide +kernel : ∀ t : Fin grid0.N, win0_4.index t 0 = 0 ∧ win0_4.index t 1 = t.val ∧ win0_4.index t 2 = 0) t
  unfold iblk
  rw [View.read_apply]
  refine congrArg (V m d main_arg1 : Vec 𝕀 S2x4096x2816 .bf16) (funext fun a => Fin.ext ?_)
  match a with
  | ⟨0, _⟩ => show win0_4.index t 0 * 2 + 1 * p.val = p.val; rw [hi.1]; omega
  | ⟨1, _⟩ => show win0_4.index t 1 * 512 + 1 * r.val = 512 * t.val + r.val; rw [hi.2.1]; omega
  | ⟨2, _⟩ => show win0_4.index t 2 * 2816 + 1 * k.val = k.val; rw [hi.2.2]; omega

/-- The gradient at the product. -/
def dh (n : Fin 4096) (l : Fin 1024) : EReal := normBack (h m d n) (fun l => half * dy m d n l * g m d l) l

/-- The gradient at the gated unit. -/
def dz (n : Fin 4096) (k : Fin 2816) : EReal := ∑ l : Fin 1024, dh m d n l * w m d k l

/-- The gradients at the gate (half 0) and at its other input (half 1). -/
def dgu (p : Fin 2) (n : Fin 4096) (k : Fin 2816) : EReal :=
  if p = 0 then gateBack (dz m d n k) (gu m d 0 n k) (gu m d 1 n k) else dz m d n k * gu m d 0 n k * Ffn.sig (gu m d 0 n k)

/-- What row `n` gives the gradient of the norm's scale. -/
def term (n : Nat) (l : Fin 1024) : EReal :=
  if hn : n < 4096 then half * dy m d ⟨n, hn⟩ l * xhat (h m d ⟨n, hn⟩) l else 0

/-- The gradient of the norm's scale. -/
def dg (_ : Fin 1) (l : Fin 1024) : EReal := ∑ n : Fin 4096, half * dy m d n l * xhat (h m d n) l

/-- What tile `t` adds to it. -/
def tile (t : Nat) (l : Fin 1024) : EReal := ∑ r : Fin 512, term m d (512 * t + r.val) l

theorem term_row (t : Fin cfg0.N) (r : Fin 512) (l : Fin 1024) :
    term m d (512 * t.val + r.val) l = half * dy m d (row t r) l * xhat (h m d (row t r)) l := by
  unfold term row
  rw [dif_pos]

theorem dg_eq (l : Fin 1024) : ∑ t : Fin 8, tile m d t.val l = dg m d 0 l := by
  refine (sum_tiles 8 512 (fun n => term m d n l)).symm.trans ?_
  exact Finset.sum_congr rfl fun n _ => dif_pos n.isLt

/-- The gate's half and the other, as a point loads them. -/
abbrev gA (t : Fin cfg0.N) : Vec 𝕀 S1x512x2816 .bf16 :=
  View.ld (iblk m d 4 t : Vec 𝕀 S2x512x2816 .bf16) (Rect.unit ![0, 0, 0] ![1, 512, 2816] inb_S2x512x2816_S1x512x2816_0_0_0)
abbrev gB (t : Fin cfg0.N) : Vec 𝕀 S1x512x2816 .bf16 :=
  View.ld (iblk m d 4 t : Vec 𝕀 S2x512x2816 .bf16) (Rect.unit ![1, 0, 0] ![1, 512, 2816] inb_S2x512x2816_S1x512x2816_1_0_0)

theorem rect_emb (p : Fin 2) (ib : ∀ a, ![p.val, 0, 0] a + ![1, 512, 2816] a ≤ S2x512x2816.size a) (r : Fin 512) (k : Fin 2816) :
    (Rect.unit (s := S2x512x2816) ![p.val, 0, 0] ![1, 512, 2816] ib).emb (ix3 0 r k) = ix3 p r k := by
  funext a; apply Fin.ext
  match a with
  | ⟨0, _⟩ => show p.val + 1 * 0 = p.val; omega
  | ⟨1, _⟩ => show 0 + 1 * r.val = r.val; omega
  | ⟨2, _⟩ => show 0 + 1 * k.val = k.val; omega

theorem half_eq (t : Fin cfg0.N) (p : Fin 2) (ib : ∀ a, ![p.val, 0, 0] a + ![1, 512, 2816] a ≤ S2x512x2816.size a)
    (r : Fin 512) (k : Fin 2816) :
    View.ld (iblk m d 4 t : Vec 𝕀 S2x512x2816 .bf16) (Rect.unit ![p.val, 0, 0] ![1, 512, 2816] ib) (ix3 0 r k)
      = gu m d p (row t r) k :=
  (congrArg (iblk m d 4 t : Vec 𝕀 S2x512x2816 .bf16) (rect_emb p ib r k)).trans ((blk4 m d t p r k).trans (V4 m d p _ k))

theorem gA_eq (t : Fin cfg0.N) (r : Fin 512) (k : Fin 2816) : gA m d t (ix3 0 r k) = gu m d 0 (row t r) k :=
  half_eq m d t 0 inb_S2x512x2816_S1x512x2816_0_0_0 r k
theorem gB_eq (t : Fin cfg0.N) (r : Fin 512) (k : Fin 2816) : gB m d t (ix3 0 r k) = gu m d 1 (row t r) k :=
  half_eq m d t 1 inb_S2x512x2816_S1x512x2816_1_0_0 r k

theorem w_eq (t : Fin cfg0.N) (k : Fin 2816) (l : Fin 1024) :
    (iblk m d 3 t : Vec 𝕀 S8x1x352x1024 .bf16) (ix4 ⟨k.val / 352, by omega⟩ 0 ⟨k.val % 352, by omega⟩ l) = w m d k l := by
  refine (blk3 m d t _ 0 _ l).trans ((V3 m d _ _ l).trans ?_)
  congr 1
  apply Fin.ext
  show k.val / 352 * 352 + k.val % 352 = k.val
  omega

theorem h_eq (t : Fin cfg0.N) (r : Fin 512) : (fun l => (iblk m d 1 t : Vec 𝕀 S512x1024 .f32) (ix2 r l)) = h m d (row t r) :=
  funext fun l => (blk1 m d t r l).trans (V1 m d _ l)

theorem dy_eq (t : Fin cfg0.N) (r : Fin 512) (l : Fin 1024) : (iblk m d 0 t : Vec 𝕀 S512x1024 .f32) (ix2 r l) = dy m d (row t r) l :=
  (blk0 m d t r l).trans (V0 m d _ l)

/-- The gradient at the product, as a point computes it. -/
abbrev D (t : Fin cfg0.N) : FVec 𝕀 S512x1024 .bf16 := k0_pay6 (iblk m d 1 t) (iblk m d 2 t) (iblk m d 0 t)

theorem D_apply (t : Fin cfg0.N) (r : Fin 512) (l : Fin 1024) : D m d t (ix2 r l) = dh m d (row t r) l := by
  refine (dh_apply _ _ _ r l).trans ?_
  refine congrArg₂ (normBack · · l) (h_eq m d t r) (funext fun l => ?_)
  refine congrArg₂ (· * · : EReal → EReal → EReal) (congrArg (half * ·) (dy_eq m d t r l)) ((blk2 m d t 0 l).trans (V2 m d l))

theorem dz_eq (t : Fin cfg0.N) (r : Fin 512) (k : Fin 2816) :
    k0_pay8 (D m d t) (iblk m d 3 t) (ix2 r k) = dz m d (row t r) k := by
  refine (dz_apply _ _ r k).trans ?_
  exact Finset.sum_congr rfl fun l _ => congrArg₂ (· * · : EReal → EReal → EReal) (D_apply m d t r l) (w_eq m d t k l)

theorem tile_eq (t : Fin cfg0.N) (q : Fin 1) (l : Fin 1024) :
    k0_pay5 (iblk m d 1 t) (iblk m d 0 t) (ix2 q l) = tile m d t.val l := by
  refine (dscale_apply _ _ q l).trans ?_
  refine Finset.sum_congr rfl fun r _ => ?_
  rw [term_row]
  exact congrArg₂ (· * · : EReal → EReal → EReal) (congrArg (half * ·) (dy_eq m d t r l)) (congrArg (xhat · l) (h_eq m d t r))

/-- The block of the product's gradient a point stores. -/
def dhblock (t : Fin cfg0.N) : Vec 𝕀 S512x1024 .bf16 := fun i => dh m d (row t (i 0)) (i 1)

theorem D_eq (t : Fin cfg0.N) : D m d t = dhblock m d t := by
  funext y
  obtain ⟨r, l, rfl⟩ := split2 y
  exact D_apply m d t r l

/-- The block of the gate's gradients a point stores, in two pieces. -/
def dgblock (t : Fin cfg0.N) : Vec 𝕀 S2x512x2816 .bf16 := fun i => dgu m d (i 0) (row t (i 1)) (i 2)

/-- The two pieces. -/
def stores (t : Fin cfg0.N) : List (View.Piece (Elt 𝕀) S2x512x2816 .bf16) :=
  [⟨Rect.unit ![1, 0, 0] ![1, 512, 2816] inb_S2x512x2816_S1x512x2816_1_0_0,
      k0_pay1 (k0_pay12 (D m d t) (iblk m d 3 t) (gA m d t))⟩,
    ⟨Rect.unit ![0, 0, 0] ![1, 512, 2816] inb_S2x512x2816_S1x512x2816_0_0_0,
      k0_pay11 (D m d t) (iblk m d 3 t) (gA m d t) (gB m d t)⟩]

theorem stores_cover (t : Fin cfg0.N) (y : S2x512x2816.Idx) : ∃ p ∈ stores m d t, y ∈ p.1.set := by
  have b0 : (y 0).val < 2 := (y 0).isLt
  have b1 : (y 1).val < 512 := (y 1).isLt
  have b2 : (y 2).val < 2816 := (y 2).isLt
  by_cases q : (y 0).val = 1
  · refine ⟨_, List.mem_cons_self, ?_⟩
    rw [Rect.mem_set_unit]
    intro a
    match a with
    | ⟨0, _⟩ => exact ⟨by show 1 ≤ (y 0).val; omega, by show (y 0).val < 1 + 1; omega⟩
    | ⟨1, _⟩ => exact ⟨Nat.zero_le _, by show (y 1).val < 0 + 512; omega⟩
    | ⟨2, _⟩ => exact ⟨Nat.zero_le _, by show (y 2).val < 0 + 2816; omega⟩
  · refine ⟨_, List.mem_cons_of_mem _ List.mem_cons_self, ?_⟩
    rw [Rect.mem_set_unit]
    intro a
    match a with
    | ⟨0, _⟩ => exact ⟨by show 0 ≤ (y 0).val; omega, by show (y 0).val < 0 + 1; omega⟩
    | ⟨1, _⟩ => exact ⟨Nat.zero_le _, by show (y 1).val < 0 + 512; omega⟩
    | ⟨2, _⟩ => exact ⟨Nat.zero_le _, by show (y 2).val < 0 + 2816; omega⟩

theorem stores_eq (t : Fin cfg0.N) : View.canon (stores m d t) = dgblock m d t := by
  funext y
  refine View.canon_apply_of_pieces (dgblock m d t) _ ?_ y (stores_cover m d t y)
  intro p hp
  simp only [stores, List.mem_cons, List.not_mem_nil, or_false] at hp
  rcases hp with rfl | rfl
  · intro z
    obtain ⟨a, r, k, rfl⟩ := split3 z
    obtain rfl : a = 0 := Subsingleton.elim _ _
    refine (up_apply _ _ _ 0 r k).trans ?_
    refine Eq.trans ?_ (congrArg (dgblock m d t) (rect_emb 1 inb_S2x512x2816_S1x512x2816_1_0_0 r k)).symm
    show _ = dgu m d 1 (row t r) k
    unfold dgu
    rw [if_neg (by decide)]
    exact congrArg₂ (· * · : EReal → EReal → EReal)
      (congrArg₂ (· * · : EReal → EReal → EReal) (dz_eq m d t r k) (gA_eq m d t r k)) (congrArg Ffn.sig (gA_eq m d t r k))
  · intro z
    obtain ⟨a, r, k, rfl⟩ := split3 z
    obtain rfl : a = 0 := Subsingleton.elim _ _
    refine (gate_apply _ _ _ _ 0 r k).trans ?_
    refine Eq.trans ?_ (congrArg (dgblock m d t) (rect_emb 0 inb_S2x512x2816_S1x512x2816_0_0_0 r k)).symm
    show _ = dgu m d 0 (row t r) k
    unfold dgu
    rw [if_pos rfl]
    rw [dz_eq]
    exact congrArg₂ (gateBack _) (gA_eq m d t r k) (gB_eq m d t r k)

/-- The first point: the block's gradients and the first tile's share of the scale's. -/
theorem outs_A (t : Fin cfg0.N) (h0 : t.val % 8 = 0) (h1 : ¬1 ≤ t.val) :
    (outsAt0 m d t.val t.isLt).1 = dhblock m d t
    ∧ (∀ l, (outsAt0 m d t.val t.isLt).2.1 (ix2 0 l) = tile m d t.val l)
    ∧ (outsAt0 m d t.val t.isLt).2.2 = dgblock m d t := by
  rw [outsAt0_A m d t h0 h1]
  refine ⟨?_, ?_, ?_⟩
  · unfold out0_A_5
    dsimp only
    rw [View.read_writes_eq_canon _ _ _ (fun _ => cover0_A_5 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.ld_unit_zero (S := S8x1x352x1024) hz4, View.canon_unit_zero (S := S512x1024) hz2]
    exact D_eq m d t
  · intro l
    unfold out0_A_6
    dsimp only
    rw [View.read_writes_eq_canon _ _ _ (fun _ => cover0_A_6 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.ld_unit_zero (S := S8x1x352x1024) hz4, View.canon_unit_zero (S := S1x1024) hz2]
    exact tile_eq m d t 0 l
  · unfold out0_A_7
    dsimp only
    rw [View.read_writes_eq_canon _ _ _ (fun _ => cover0_A_7 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.ld_unit_zero (S := S8x1x352x1024) hz4]
    exact stores_eq m d t

/-- A later point: the block's gradients, and its tile's share added to what the point before left. -/
theorem outs_B (t : Fin cfg0.N) (h0 : ¬t.val % 8 = 0) (h1 : 1 ≤ t.val) :
    (outsAt0 m d t.val t.isLt).1 = dhblock m d t
    ∧ (∀ l, (outsAt0 m d t.val t.isLt).2.1 (ix2 0 l)
        = (outsAt0 m d (t.val - 1) (Nat.lt_of_le_of_lt (Nat.sub_le _ _) t.isLt)).2.1 (ix2 0 l) + tile m d t.val l)
    ∧ (outsAt0 m d t.val t.isLt).2.2 = dgblock m d t := by
  rw [outsAt0_B m d t h0 h1]
  refine ⟨?_, ?_, ?_⟩
  · unfold out0_B_5
    dsimp only
    rw [View.read_writes_eq_canon _ _ _ (fun _ => cover0_B_5 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.ld_unit_zero (S := S8x1x352x1024) hz4, View.canon_unit_zero (S := S512x1024) hz2]
    exact D_eq m d t
  · intro l
    unfold out0_B_6
    dsimp only
    rw [View.read_writes_eq_canon _ _ _ (fun _ => cover0_B_6 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, (hs0_6 t).read_unread, View.ld_unit_zero (S := S512x1024) hz2,
      View.ld_unit_zero (S := S1x1024) hz2, View.ld_unit_zero (S := S8x1x352x1024) hz4, View.canon_unit_zero (S := S1x1024) hz2]
    rw [← tile_eq m d t 0 l]
    exact acc_apply _ _ 0 l
  · unfold out0_B_7
    dsimp only
    rw [View.read_writes_eq_canon _ _ _ (fun _ => cover0_B_7 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.ld_unit_zero (S := S8x1x352x1024) hz4]
    exact stores_eq m d t

/-- Every point's blocks of the gradients. -/
theorem outs_blocks (t : Fin cfg0.N) :
    (outsAt0 m d t.val t.isLt).1 = dhblock m d t ∧ (outsAt0 m d t.val t.isLt).2.2 = dgblock m d t := by
  have h8 : t.val < 8 := t.isLt
  by_cases h : 1 ≤ t.val
  · exact ⟨(outs_B m d t (by omega) h).1, (outs_B m d t (by omega) h).2.2⟩
  · exact ⟨(outs_A m d t (by omega) h).1, (outs_A m d t (by omega) h).2.2⟩

/-- The scale's gradient after point `n`: the sum of the tiles so far. -/
theorem outs_scale (l : Fin 1024) : ∀ (n : Nat) (hn : n < cfg0.N),
    (outsAt0 m d n hn).2.1 (ix2 0 l) = ∑ t : Fin (n + 1), tile m d t.val l
  | 0, hn => by
    rw [(outs_A m d ⟨0, hn⟩ (by show 0 % 8 = 0; rfl) (by show ¬1 ≤ 0; omega)).2.1 l, Fin.sum_univ_one]
    rfl
  | n + 1, hn => by
    have h8 : n + 1 < 8 := hn
    rw [(outs_B m d ⟨n + 1, hn⟩ (by show ¬(n + 1) % 8 = 0; omega) (by show 1 ≤ n + 1; omega)).2.1 l,
      Fin.sum_univ_castSucc]
    exact congrArg (· + _) (outs_scale l n (Nat.lt_of_succ_lt hn))

/-- The product's gradient after the run. -/
theorem arr5 : (dats m 0 d).arrAt 5 cfg0.N = fun i : S4096x1024.Idx => dh m d (i 0) (i 1) := by
  have hi : ∀ t : Fin cfg0.N, win0_5.index t 0 = t.val ∧ win0_5.index t 1 = 0 :=
    (by decide +kernel : ∀ t : Fin grid0.N, win0_5.index t 0 = t.val ∧ win0_5.index t 1 = 0)
  refine (dats m 0 d).arrAt_eq_of_cover 5 _ ?_ ?_
  · intro t ht
    rw [Value.flushed5, (outs_blocks m d t).1]
    funext y
    rw [View.read_apply]
    change S512x1024.Idx at y
    obtain ⟨r, l, rfl⟩ := split2 y
    have a0 : (((cfg0.win 5).blk t).view.emb (ix2 r l) : S4096x1024.Idx) 0 = row t r :=
      Fin.ext (by show win0_5.index t 0 * 512 + 1 * r.val = 512 * t.val + r.val; rw [(hi t).1]; omega)
    have a1 : (((cfg0.win 5).blk t).view.emb (ix2 r l) : S4096x1024.Idx) 1 = l :=
      Fin.ext (by show win0_5.index t 1 * 1024 + 1 * l.val = l.val; rw [(hi t).2]; omega)
    show _ = dh m d _ _
    rw [a0, a1]
    rfl
  · exact (by decide +kernel : (cfg0.win 5).Covers).cover _ (Memref.isWhole_whole _)

/-- The scale's gradient after the run. -/
theorem arr6 : (dats m 0 d).arrAt 6 cfg0.N = fun i : S1x1024.Idx => dg m d (i 0) (i 1) := by
  have hi : ∀ t : Fin cfg0.N, win0_6.index t 0 = 0 ∧ win0_6.index t 1 = 0 :=
    (by decide +kernel : ∀ t : Fin grid0.N, win0_6.index t 0 = 0 ∧ win0_6.index t 1 = 0)
  have hf : ∀ t : Fin cfg0.N, (cfg0.win 6).flush t = true → t.val = 7 :=
    (by decide +kernel : ∀ t : Fin grid0.N, win0_6.flush t = true → t.val = 7)
  refine (dats m 0 d).arrAt_eq_of_cover 6 _ ?_ ?_
  · intro t ht
    have hl := hf t ht
    rw [Value.flushed6]
    funext y
    rw [View.read_apply]
    change S1x1024.Idx at y
    obtain ⟨q, l, rfl⟩ := split2 y
    have a0 : (((cfg0.win 6).blk t).view.emb (ix2 q l) : S1x1024.Idx) 0 = q :=
      Fin.ext (by show win0_6.index t 0 * 1 + 1 * q.val = q.val; rw [(hi t).1]; omega)
    have a1 : (((cfg0.win 6).blk t).view.emb (ix2 q l) : S1x1024.Idx) 1 = l :=
      Fin.ext (by show win0_6.index t 1 * 1024 + 1 * l.val = l.val; rw [(hi t).2]; omega)
    show _ = dg m d 0 _
    rw [a1]
    obtain rfl : q = 0 := Subsingleton.elim _ _
    refine (outs_scale m d l t.val t.isLt).trans ?_
    rw [hl]
    exact dg_eq m d l
  · exact (by decide +kernel : (cfg0.win 6).Covers).cover _ (Memref.isWhole_whole _)

/-- The gate's gradients after the run. -/
theorem arr7 : (dats m 0 d).arrAt 7 cfg0.N = fun i : S2x4096x2816.Idx => dgu m d (i 0) (i 1) (i 2) := by
  have hi : ∀ t : Fin cfg0.N, win0_7.index t 0 = 0 ∧ win0_7.index t 1 = t.val ∧ win0_7.index t 2 = 0 :=
    (by decide +kernel : ∀ t : Fin grid0.N, win0_7.index t 0 = 0 ∧ win0_7.index t 1 = t.val ∧ win0_7.index t 2 = 0)
  refine (dats m 0 d).arrAt_eq_of_cover 7 _ ?_ ?_
  · intro t ht
    rw [Value.flushed7, (outs_blocks m d t).2]
    funext y
    rw [View.read_apply]
    change S2x512x2816.Idx at y
    obtain ⟨p, r, k, rfl⟩ := split3 y
    have a0 : (((cfg0.win 7).blk t).view.emb (ix3 p r k) : S2x4096x2816.Idx) 0 = p :=
      Fin.ext (by show win0_7.index t 0 * 2 + 1 * p.val = p.val; rw [(hi t).1]; omega)
    have a1 : (((cfg0.win 7).blk t).view.emb (ix3 p r k) : S2x4096x2816.Idx) 1 = row t r :=
      Fin.ext (by show win0_7.index t 1 * 512 + 1 * r.val = 512 * t.val + r.val; rw [(hi t).2.1]; omega)
    have a2 : (((cfg0.win 7).blk t).view.emb (ix3 p r k) : S2x4096x2816.Idx) 2 = k :=
      Fin.ext (by show win0_7.index t 2 * 2816 + 1 * k.val = k.val; rw [(hi t).2.2]; omega)
    show _ = dgu m d _ _ _
    rw [a0, a1, a2]
    rfl
  · exact (by decide +kernel : (cfg0.win 7).Covers).cover _ (Memref.isWhole_whole _)

end
end Cert.BwdOutKernelIdeal.Blocks
end
-- ==== Proof.BwdOutReference.lean ====
/- What the reference of the backward pass of the feed-forward layer's output product, norm and gate computes, entry by entry. -/
module

public import proofs.«01_k».proof.Proof.Gen.BwdOutReferenceIdeal.Read
public import proofs.«01_k».proof.Proof.NormMath
public import proofs.«01_k».proof.Proof.FiniteMath
public import Idealize.ShloMosaic.Lib.IdealHost

@[expose] public section

noncomputable section

namespace Cert.BwdOutReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S2x4096x2816.Idx → EReal) (x2 : S1024.Idx → EReal) (x3 : S2816x1024.Idx → EReal)

/-- One half, as the reference writes it. -/
abbrev half : EReal := Ideal.ofBits FTy.f32 0x3F000000#32

theorem gate_apply (n : Fin 4096) (k : Fin 2816) : val_main_v2 (F := 𝕀) x1 (ix2 n k) = x1 (ix3 0 n k) := by
  unfold val_main_v2 val_main_v1 val_main_v0; pointwise

theorem up_apply (n : Fin 4096) (k : Fin 2816) : val_main_v4 (F := 𝕀) x1 (ix2 n k) = x1 (ix3 1 n k) := by
  unfold val_main_v4 val_main_v3 val_main_v0; pointwise

theorem sig_apply (n : Fin 4096) (k : Fin 2816) : val_main_v5_2 (F := 𝕀) x1 (ix2 n k) = Ffn.sig (x1 (ix3 0 n k)) := by
  have e := gate_apply x1
  unfold val_main_v5_2 val_main_call0_v4 val_main_call0_v3 val_main_call0_v2 val_main_call0_v1 val_main_call0_v0
    val_main_call0_cst val_main_call0_cst_0
  generalize val_main_v2 (F := 𝕀) x1 = G at e
  pointwise
  rw [e]
  rfl

/-- The product with the weights. -/
def h (n : Fin 4096) (l : Fin 1024) : EReal :=
  ∑ k : Fin 2816, gated (x1 (ix3 0 n k)) (x1 (ix3 1 n k)) * x3 (ix2 k l)

theorem h_apply (n : Fin 4096) (l : Fin 1024) : val_main_v7 (F := 𝕀) x1 x3 (ix2 n l) = h x1 x3 n l := by
  have e := gate_apply x1
  have eu := up_apply x1
  have es := sig_apply x1
  unfold val_main_v7 val_main_v6 val_main_v5_0 h
  generalize val_main_v2 (F := 𝕀) x1 = G at e
  generalize val_main_v4 (F := 𝕀) x1 = U at eu
  generalize val_main_v5_2 (F := 𝕀) x1 = S at es
  pointwise
  simp only [e, eu, es]
  rfl

theorem msq_apply (n : Fin 4096) (q : Fin 1) : val_main_v14 (F := 𝕀) x1 x3 (ix2 n q) = msq (h x1 x3 n) := by
  have e := h_apply x1 x3
  unfold val_main_v14 val_main_v13 val_main_v12 val_main_v11 val_main_v10 val_main_v9 val_main_v8 val_main_cst val_main_cst_0
    val_main_cst_1
  generalize val_main_v7 (F := 𝕀) x1 x3 = G at e
  pointwise
  simp only [e]
  rfl

theorem xhat_apply (n : Fin 4096) (l : Fin 1024) : val_main_v20 (F := 𝕀) x1 x3 (ix2 n l) = xhat (h x1 x3 n) l := by
  have e := h_apply x1 x3
  have em := msq_apply x1 x3
  unfold val_main_v20 val_main_v19 val_main_v15
  generalize val_main_v7 (F := 𝕀) x1 x3 = G at e
  generalize val_main_v14 (F := 𝕀) x1 x3 = M at em
  pointwise
  rw [e, em]
  rfl

/-- The gradient at the norm, scaled. -/
def u (n : Fin 4096) (l : Fin 1024) : EReal := half * x0 (ix2 n l) * x2 (ix1 l)

theorem u_apply (n : Fin 4096) (l : Fin 1024) : val_main_v32 (F := 𝕀) x0 x2 (ix2 n l) = u x0 x2 n l := by
  unfold val_main_v32 val_main_v31 val_main_v21 val_main_v27 val_main_v26 val_main_cst_4 u
  pointwise

/-- The factor of the row in the norm's backward pass. -/
theorem pull_apply (n : Fin 4096) :
    val_main_v42 (F := 𝕀) x0 x1 x2 x3 (ix1 n) = pull (h x1 x3 n) (u x0 x2 n) := by
  have e := u_apply x0 x2
  have eh := h_apply x1 x3
  have em := msq_apply x1 x3
  unfold val_main_v42 val_main_v41 val_main_v40 val_main_v39 val_main_v36 val_main_v35 val_main_v34 val_main_v18 val_main_v17
    val_main_v16 val_main_v15 val_main_cst_2 val_main_cst_7 val_main_cst_8 val_main_cst_9
  generalize val_main_v32 (F := 𝕀) x0 x2 = G at e
  generalize val_main_v7 (F := 𝕀) x1 x3 = H at eh
  generalize val_main_v14 (F := 𝕀) x1 x3 = M at em
  pointwise
  simp only [e, eh, em, Fin.sum_univ_one]
  rfl

/-- The gradient at the product. -/
def dh (n : Fin 4096) (l : Fin 1024) : EReal := normBack (h x1 x3 n) (u x0 x2 n) l

theorem dh_apply (n : Fin 4096) (l : Fin 1024) : val_main_v47 (F := 𝕀) x0 x1 x2 x3 (ix2 n l) = dh x0 x1 x2 x3 n l := by
  have c := chain_eq (h x1 x3 n) (u x0 x2 n) 0 l
  rw [zero_add, zero_add] at c
  unfold dh
  rw [← c]
  have e := u_apply x0 x2
  have eh := h_apply x1 x3
  have em := msq_apply x1 x3
  have ep := pull_apply x0 x1 x2 x3
  unfold val_main_v47 val_main_v46 val_main_v45 val_main_v44 val_main_v43 val_main_v38 val_main_v37 val_main_v15
  generalize val_main_v32 (F := 𝕀) x0 x2 = G at e
  generalize val_main_v7 (F := 𝕀) x1 x3 = H at eh
  generalize val_main_v14 (F := 𝕀) x1 x3 = M at em
  generalize val_main_v42 (F := 𝕀) x0 x1 x2 x3 = P at ep
  pointwise
  simp only [e, eh, em, ep]

/-- The product's gradient, as the reference returns it. -/
theorem dh_result (n : Fin 4096) (l : Fin 1024) : val_main_v52 (F := 𝕀) x0 x1 x2 x3 (ix2 n l) = dh x0 x1 x2 x3 n l := by
  have e := dh_apply x0 x1 x2 x3
  unfold val_main_v52
  generalize val_main_v47 (F := 𝕀) x0 x1 x2 x3 = G at e
  pointwise
  rw [e]

/-- The gradient of the norm's scale. -/
theorem dg_apply (q : Fin 1) (l : Fin 1024) :
    val_main_v53 (F := 𝕀) x0 x1 x3 (ix2 q l) = ∑ n : Fin 4096, half * x0 (ix2 n l) * xhat (h x1 x3 n) l := by
  have ex := xhat_apply x1 x3
  unfold val_main_v53 val_main_v33 val_main_v30 val_main_v29 val_main_v28 val_main_v27 val_main_v26 val_main_cst_4
    val_main_cst_5 val_main_cst_6
  generalize val_main_v20 (F := 𝕀) x1 x3 = X at ex
  pointwise
  simp only [ex, Fin.sum_univ_one]
  exact Finset.sum_congr rfl fun n _ => mul_comm _ _

/-- The gradient at the gated unit. -/
def dz (n : Fin 4096) (k : Fin 2816) : EReal := ∑ l : Fin 1024, dh x0 x1 x2 x3 n l * x3 (ix2 k l)

theorem dz_apply (n : Fin 4096) (k : Fin 2816) : val_main_v48 (F := 𝕀) x0 x1 x2 x3 (ix2 n k) = dz x0 x1 x2 x3 n k := by
  have e := dh_apply x0 x1 x2 x3
  unfold val_main_v48 dz
  generalize val_main_v47 (F := 𝕀) x0 x1 x2 x3 = G at e
  pointwise
  simp only [e]

/-- The gate's gradient, as the chain rule gives it. -/
theorem dgate_apply (n : Fin 4096) (k : Fin 2816) :
    val_main_v51 (F := 𝕀) x0 x1 x2 x3 (ix2 n k)
      = dz x0 x1 x2 x3 n k * x1 (ix3 1 n k) * Ffn.sig (x1 (ix3 0 n k))
        + x1 (ix3 0 n k) * (dz x0 x1 x2 x3 n k * x1 (ix3 1 n k))
          * (Ffn.sig (x1 (ix3 0 n k)) * (1 - Ffn.sig (x1 (ix3 0 n k)))) := by
  have e := dz_apply x0 x1 x2 x3
  have eg := gate_apply x1
  have eu := up_apply x1
  have es := sig_apply x1
  unfold val_main_v51 val_main_call1_v2 val_main_call1_v1 val_main_call1_v0 val_main_v50 val_main_v5_1 val_main_call0_v7
    val_main_call0_v6 val_main_call0_cst_1
  generalize val_main_v48 (F := 𝕀) x0 x1 x2 x3 = Z at e
  generalize val_main_v2 (F := 𝕀) x1 = G at eg
  generalize val_main_v4 (F := 𝕀) x1 = U at eu
  generalize val_main_v5_2 (F := 𝕀) x1 = S at es
  pointwise
  rw [e, eg, eu, es, ← Ideal.ofBits_one_f32]

/-- The gradient at the gate's other input. -/
theorem dup_apply (n : Fin 4096) (k : Fin 2816) :
    val_main_v49 (F := 𝕀) x0 x1 x2 x3 (ix2 n k)
      = dz x0 x1 x2 x3 n k * x1 (ix3 0 n k) * Ffn.sig (x1 (ix3 0 n k)) := by
  have e := dz_apply x0 x1 x2 x3
  have eg := gate_apply x1
  have es := sig_apply x1
  unfold val_main_v49 val_main_v5_0
  generalize val_main_v48 (F := 𝕀) x0 x1 x2 x3 = Z at e
  generalize val_main_v2 (F := 𝕀) x1 = G at eg
  generalize val_main_v5_2 (F := 𝕀) x1 = S at es
  pointwise
  rw [e, eg, es, mul_comm, mul_assoc]

/-- On finite arguments everything on the way is finite. -/
theorem dz_fin (f0 : ∀ i, IsFin (x0 i)) (f1 : ∀ i, IsFin (x1 i)) (f2 : ∀ i, IsFin (x2 i)) (f3 : ∀ i, IsFin (x3 i))
    (n : Fin 4096) (k : Fin 2816) : IsFin (dz x0 x1 x2 x3 n k) :=
  IsFin.sum fun l => IsFin.mul
    (IsFin.normBack (fun l => IsFin.sum fun k => IsFin.mul (IsFin.gated (f1 _) (f1 _)) (f3 _))
      (fun l => IsFin.mul (IsFin.mul fin_half (f0 _)) (f2 _)) l) (f3 _)

/-- The gate's gradients, on finite arguments. -/
theorem dgu_apply (f0 : ∀ i, IsFin (x0 i)) (f1 : ∀ i, IsFin (x1 i)) (f2 : ∀ i, IsFin (x2 i)) (f3 : ∀ i, IsFin (x3 i))
    (p : Fin 2) (n : Fin 4096) (k : Fin 2816) :
    val_main_v57 (F := 𝕀) x0 x1 x2 x3 (ix3 p n k)
      = if p = 0 then gateBack (dz x0 x1 x2 x3 n k) (x1 (ix3 0 n k)) (x1 (ix3 1 n k))
        else dz x0 x1 x2 x3 n k * x1 (ix3 0 n k) * Ffn.sig (x1 (ix3 0 n k)) := by
  have e0 := dgate_apply x0 x1 x2 x3
  have e1 := dup_apply x0 x1 x2 x3
  unfold val_main_v57 val_main_v56 val_main_v55 val_main_v54
  generalize val_main_v51 (F := 𝕀) x0 x1 x2 x3 = A at e0
  generalize val_main_v49 (F := 𝕀) x0 x1 x2 x3 = B at e1
  have hp : p = 0 ∨ p = 1 := by omega
  rcases hp with rfl | rfl
  · rw [if_pos rfl, ← gate_eq (dz_fin x0 x1 x2 x3 f0 f1 f2 f3 n k) (f1 _) (f1 _), ← e0]
    pointwise
  · rw [if_neg (by decide), ← e1]
    pointwise

end
end Cert.BwdOutReferenceIdeal.Rows
end
-- ==== Proof.BwdInArrays.lean ====
/- The backward pass of the feed-forward layer's input product and of the norm before it, as the kernel computes them: the
   gradient of the layer's input, tile by tile, and the gradient of the norm's scale, accumulated over the tiles. -/
module

public import proofs.«01_k».proof.Proof.Gen.BwdInKernelIdeal.Value
public import proofs.«01_k».proof.Proof.NormMath

@[expose] public section

noncomputable section

namespace Cert.BwdInKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (v0 v5 : Vec 𝕀 S1x1x2816x1024 .bf16) (v2 v7 : Vec 𝕀 S1x512x2816 .bf16) (v11 : Vec 𝕀 S512x1024 .f32)
  (v12 : Vec 𝕀 S1x1024 .f32)

/-- The gradient at the normed row. -/
theorem dn_apply (r : Fin 512) (l : Fin 1024) :
    k0_pay4 v0 v2 v5 v7 (ix2 r l)
      = (∑ k : Fin 2816, (v2 (ix3 0 r k) * v0 (ix4 0 0 k l) : EReal)) + ∑ k : Fin 2816, (v7 (ix3 0 r k) * v5 (ix4 0 0 k l) : EReal) := by
  unfold_payloads; pointwise

theorem xhat_apply (r : Fin 512) (l : Fin 1024) : k0_pay5 v11 (ix2 r l) = xhat (fun l => v11 (ix2 r l)) l := by
  unfold_payloads; pointwise; rfl

theorem msq_apply (r : Fin 512) (q : Fin 1) : k0_pay7 v11 (ix2 r q) = msq (fun l => v11 (ix2 r l)) := by
  unfold_payloads; pointwise; rfl

theorem scaled_apply (r : Fin 512) (l : Fin 1024) :
    k0_pay6 v0 v2 v5 v7 v12 (ix2 r l) = (k0_pay4 v0 v2 v5 v7 (ix2 r l) * v12 (ix2 0 l) : EReal) := by
  unfold k0_pay6
  generalize k0_pay4 v0 v2 v5 v7 = G
  pointwise

/-- The row a point stores. -/
theorem dx_apply (v47 : Vec 𝕀 S512x1024 .f32) (r : Fin 512) (l : Fin 1024) :
    k0_pay2 (k0_pay5 v11) (k0_pay6 v0 v2 v5 v7 v12) (k0_pay7 v11) v47 (ix2 r l)
      = v47 (ix2 r l) + normBack (fun l => v11 (ix2 r l))
          (fun l => (k0_pay4 v0 v2 v5 v7 (ix2 r l) * v12 (ix2 0 l) : EReal)) l := by
  have e5 := xhat_apply v11
  have e7 := msq_apply v11
  have e6 := scaled_apply v0 v5 v2 v7 v12
  unfold k0_pay2
  generalize k0_pay5 v11 = A at e5
  generalize k0_pay7 v11 = B at e7
  generalize k0_pay6 v0 v2 v5 v7 v12 = C at e6
  pointwise
  simp only [e5, e6, e7]
  rfl

/-- What a point adds to the gradient of the norm's scale. -/
theorem dscale_apply (q : Fin 1) (l : Fin 1024) :
    k0_pay1 (k0_pay4 v0 v2 v5 v7) (k0_pay5 v11) (ix2 q l)
      = ∑ r : Fin 512, (k0_pay4 v0 v2 v5 v7 (ix2 r l) * xhat (fun l => v11 (ix2 r l)) l : EReal) := by
  have e5 := xhat_apply v11
  unfold k0_pay1
  generalize k0_pay5 v11 = A at e5
  generalize k0_pay4 v0 v2 v5 v7 = C
  pointwise
  simp only [e5]

theorem acc_apply (v10 v23 : FVec 𝕀 S512x1024 .f32) (acc : Vec 𝕀 S1x1024 .f32) (q : Fin 1) (l : Fin 1024) :
    k0_pay3 v10 v23 acc (ix2 q l) = acc (ix2 q l) + k0_pay1 v10 v23 (ix2 q l) := by
  unfold k0_pay3
  generalize k0_pay1 v10 v23 = C
  pointwise

end

section
variable (m : (ℓ : Loc nD τ sig) → Buf (Elt 𝕀) ℓ) (d : Dev nD)

/-- The gradient of the layer's input product: the gate's half and the other. -/
def dgu (p : Fin 2) (n : Fin 4096) (k : Fin 2816) : EReal := (m (d.tc.loc main_arg0) : Vec 𝕀 S2x4096x2816 .bf16) (ix3 p n k)

/-- The layer's input. -/
def x (n : Fin 4096) (l : Fin 1024) : EReal := (m (d.tc.loc main_arg1) : Vec 𝕀 S4096x1024 .f32) (ix2 n l)

/-- The norm's scale. -/
def g (l : Fin 1024) : EReal := (m (d.tc.loc main_arg2) : Vec 𝕀 S1024 .f32) (ix1 l)

/-- The weights: entry `l` of lane `k` of half `p`. -/
def w (p : Fin 2) (k : Fin 2816) (l : Fin 1024) : EReal :=
  (m (d.tc.loc main_arg3) : Vec 𝕀 S1024x5632 .f32) (ix2 l ⟨p.val * 2816 + k.val, by omega⟩)

/-- The gradient that reaches the layer's input past it. -/
def dres (n : Fin 4096) (l : Fin 1024) : EReal := (m (d.tc.loc main_arg4) : Vec 𝕀 S4096x1024 .f32) (ix2 n l)

theorem V0 (p : Fin 2) (n : Fin 4096) (k : Fin 2816) : (V m d main_arg0 : Vec 𝕀 S2x4096x2816 .bf16) (ix3 p n k) = dgu m d p n k := by
  rw [V_main_arg0]; rfl

theorem V1 (p : Fin 2) (k : Fin 2816) (l : Fin 1024) :
    (V m d main_v2 : Vec 𝕀 S2x1x2816x1024 .bf16) (ix4 p 0 k l) = w m d p k l := by
  entry_read
  pointwise
  rfl

theorem V2 (n : Fin 4096) (l : Fin 1024) : (V m d main_arg1 : Vec 𝕀 S4096x1024 .f32) (ix2 n l) = x m d n l := by
  rw [V_main_arg1]; rfl

theorem V3 (l : Fin 1024) : (V m d main_v3 : Vec 𝕀 S1x1024 .f32) (ix2 0 l) = g m d l := by
  entry_read; pointwise; rfl

theorem V4 (n : Fin 4096) (l : Fin 1024) : (V m d main_arg4 : Vec 𝕀 S4096x1024 .f32) (ix2 n l) = dres m d n l := by
  rw [V_main_arg4]; rfl

theorem blk0 (t : Fin cfg0.N) (p : Fin 2) (r : Fin 512) (k : Fin 2816) :
    (iblk m d 0 t : Vec 𝕀 S2x512x2816 .bf16) (ix3 p r k) = (V m d main_arg0 : Vec 𝕀 S2x4096x2816 .bf16) (ix3 p (row t r) k) := by
  have hi := (by decide +kernel : ∀ t : Fin grid0.N, win0_0.index t 0 = 0 ∧ win0_0.index t 1 = t.val ∧ win0_0.index t 2 = 0) t
  unfold iblk
  rw [View.read_apply]
  refine congrArg (V m d main_arg0 : Vec 𝕀 S2x4096x2816 .bf16) (funext fun a => Fin.ext ?_)
  match a with
  | ⟨0, _⟩ => show win0_0.index t 0 * 2 + 1 * p.val = p.val; rw [hi.1]; omega
  | ⟨1, _⟩ => show win0_0.index t 1 * 512 + 1 * r.val = 512 * t.val + r.val; rw [hi.2.1]; omega
  | ⟨2, _⟩ => show win0_0.index t 2 * 2816 + 1 * k.val = k.val; rw [hi.2.2]; omega

theorem blk1 (t : Fin cfg0.N) (p : Fin 2) (q : Fin 1) (k : Fin 2816) (l : Fin 1024) :
    (iblk m d 1 t : Vec 𝕀 S2x1x2816x1024 .bf16) (ix4 p q k l) = (V m d main_v2 : Vec 𝕀 S2x1x2816x1024 .bf16) (ix4 p q k l) := by
  have hi := (by decide +kernel : ∀ t : Fin grid0.N, win0_1.index t 0 = 0 ∧ win0_1.index t 1 = 0 ∧ win0_1.index t 2 = 0 ∧ win0_1.index t 3 = 0) t
  unfold iblk
  rw [View.read_apply]
  refine congrArg (V m d main_v2 : Vec 𝕀 S2x1x2816x1024 .bf16) (funext fun a => Fin.ext ?_)
  match a with
  | ⟨0, _⟩ => show win0_1.index t 0 * 2 + 1 * p.val = p.val; rw [hi.1]; omega
  | ⟨1, _⟩ => show win0_1.index t 1 * 1 + 1 * q.val = q.val; rw [hi.2.1]; omega
  | ⟨2, _⟩ => show win0_1.index t 2 * 2816 + 1 * k.val = k.val; rw [hi.2.2.1]; omega
  | ⟨3, _⟩ => show win0_1.index t 3 * 1024 + 1 * l.val = l.val; rw [hi.2.2.2]; omega

theorem blk2 (t : Fin cfg0.N) (r : Fin 512) (l : Fin 1024) :
    (iblk m d 2 t : Vec 𝕀 S512x1024 .f32) (ix2 r l) = (V m d main_arg1 : Vec 𝕀 S4096x1024 .f32) (ix2 (row t r) l) := by
  have hi := (by decide +kernel : ∀ t : Fin grid0.N, win0_2.index t 0 = t.val ∧ win0_2.index t 1 = 0) t
  unfold iblk
  rw [View.read_apply]
  refine congrArg (V m d main_arg1 : Vec 𝕀 S4096x1024 .f32) (funext fun a => Fin.ext ?_)
  match a with
  | ⟨0, _⟩ => show win0_2.index t 0 * 512 + 1 * r.val = 512 * t.val + r.val; rw [hi.1]; omega
  | ⟨1, _⟩ => show win0_2.index t 1 * 1024 + 1 * l.val = l.val; rw [hi.2]; omega

theorem blk3 (t : Fin cfg0.N) (q : Fin 1) (l : Fin 1024) :
    (iblk m d 3 t : Vec 𝕀 S1x1024 .f32) (ix2 q l) = (V m d main_v3 : Vec 𝕀 S1x1024 .f32) (ix2 q l) := by
  have hi := (by decide +kernel : ∀ t : Fin grid0.N, win0_3.index t 0 = 0 ∧ win0_3.index t 1 = 0) t
  unfold iblk
  rw [View.read_apply]
  refine congrArg (V m d main_v3 : Vec 𝕀 S1x1024 .f32) (funext fun a => Fin.ext ?_)
  match a with
  | ⟨0, _⟩ => show win0_3.index t 0 * 1 + 1 * q.val = q.val; rw [hi.1]; omega
  | ⟨1, _⟩ => show win0_3.index t 1 * 1024 + 1 * l.val = l.val; rw [hi.2]; omega

theorem blk4 (t : Fin cfg0.N) (r : Fin 512) (l : Fin 1024) :
    (iblk m d 4 t : Vec 𝕀 S512x1024 .f32) (ix2 r l) = (V m d main_arg4 : Vec 𝕀 S4096x1024 .f32) (ix2 (row t r) l) := by
  have hi := (by decide +kernel : ∀ t : Fin grid0.N, win0_4.index t 0 = t.val ∧ win0_4.index t 1 = 0) t
  unfold iblk
  rw [View.read_apply]
  refine congrArg (V m d main_arg4 : Vec 𝕀 S4096x1024 .f32) (funext fun a => Fin.ext ?_)
  match a with
  | ⟨0, _⟩ => show win0_4.index t 0 * 512 + 1 * r.val = 512 * t.val + r.val; rw [hi.1]; omega
  | ⟨1, _⟩ => show win0_4.index t 1 * 1024 + 1 * l.val = l.val; rw [hi.2]; omega

/-- The gradient at the normed row. -/
def dn (n : Fin 4096) (l : Fin 1024) : EReal :=
  (∑ k : Fin 2816, dgu m d 0 n k * w m d 0 k l) + ∑ k : Fin 2816, dgu m d 1 n k * w m d 1 k l

/-- The gradient of the layer's input. -/
def dx (n : Fin 4096) (l : Fin 1024) : EReal :=
  dres m d n l + normBack (x m d n) (fun l => dn m d n l * g m d l) l

/-- What row `n` gives the gradient of the norm's scale. -/
def term (n : Nat) (l : Fin 1024) : EReal :=
  if h : n < 4096 then dn m d ⟨n, h⟩ l * xhat (x m d ⟨n, h⟩) l else 0

/-- The gradient of the norm's scale. -/
def dg (_ : Fin 1) (l : Fin 1024) : EReal := ∑ n : Fin 4096, dn m d n l * xhat (x m d n) l

/-- What tile `t` adds to it. -/
def tile (t : Nat) (l : Fin 1024) : EReal := ∑ r : Fin 512, term m d (512 * t + r.val) l

theorem term_row (t : Fin cfg0.N) (r : Fin 512) (l : Fin 1024) :
    term m d (512 * t.val + r.val) l = dn m d (row t r) l * xhat (x m d (row t r)) l := by
  unfold term row
  rw [dif_pos]

theorem dg_eq (l : Fin 1024) : ∑ t : Fin 8, tile m d t.val l = dg m d 0 l := by
  refine (sum_tiles 8 512 (fun n => term m d n l)).symm.trans ?_
  exact Finset.sum_congr rfl fun n _ => dif_pos n.isLt

theorem half_eq (t : Fin cfg0.N) (p : Fin 2) (ia : ∀ a, ![p.val, 0, 0, 0] a + ![1, 1, 2816, 1024] a ≤ S2x1x2816x1024.size a)
    (ib : ∀ a, ![p.val, 0, 0] a + ![1, 512, 2816] a ≤ S2x512x2816.size a) (r : Fin 512) (l : Fin 1024) :
    (∑ k : Fin 2816, ((· * ·) : EReal → EReal → EReal) (View.ld (iblk m d 0 t : Vec 𝕀 S2x512x2816 .bf16) (Rect.unit ![p.val, 0, 0] ![1, 512, 2816] ib) (ix3 0 r k))
        (View.ld (iblk m d 1 t : Vec 𝕀 S2x1x2816x1024 .bf16) (Rect.unit ![p.val, 0, 0, 0] ![1, 1, 2816, 1024] ia) (ix4 0 0 k l)))
      = ∑ k : Fin 2816, dgu m d p (row t r) k * w m d p k l := by
  refine Finset.sum_congr rfl fun k _ => congrArg₂ (· * · : EReal → EReal → EReal) ?_ ?_
  · have e : (Rect.unit (s := S2x512x2816) ![p.val, 0, 0] ![1, 512, 2816] ib).emb (ix3 0 r k) = ix3 p r k := by
      funext a; apply Fin.ext
      match a with
      | ⟨0, _⟩ => show p.val + 1 * 0 = p.val; omega
      | ⟨1, _⟩ => show 0 + 1 * r.val = r.val; omega
      | ⟨2, _⟩ => show 0 + 1 * k.val = k.val; omega
    exact (congrArg (iblk m d 0 t : Vec 𝕀 S2x512x2816 .bf16) e).trans ((blk0 m d t p r k).trans (V0 m d p _ k))
  · have e : (Rect.unit (s := S2x1x2816x1024) ![p.val, 0, 0, 0] ![1, 1, 2816, 1024] ia).emb (ix4 0 0 k l) = ix4 p 0 k l := by
      funext a; apply Fin.ext
      match a with
      | ⟨0, _⟩ => show p.val + 1 * 0 = p.val; omega
      | ⟨1, _⟩ => rfl
      | ⟨2, _⟩ => show 0 + 1 * k.val = k.val; omega
      | ⟨3, _⟩ => show 0 + 1 * l.val = l.val; omega
    exact (congrArg (iblk m d 1 t : Vec 𝕀 S2x1x2816x1024 .bf16) e).trans ((blk1 m d t p 0 k l).trans (V1 m d p k l))

/-- The first half of the weights, and the second, as a point loads them. -/
abbrev wA (t : Fin cfg0.N) : Vec 𝕀 S1x1x2816x1024 .bf16 :=
  View.ld (iblk m d 1 t : Vec 𝕀 S2x1x2816x1024 .bf16) (Rect.unit ![0, 0, 0, 0] ![1, 1, 2816, 1024] inb_S2x1x2816x1024_S1x1x2816x1024_0_0_0_0)
abbrev wB (t : Fin cfg0.N) : Vec 𝕀 S1x1x2816x1024 .bf16 :=
  View.ld (iblk m d 1 t : Vec 𝕀 S2x1x2816x1024 .bf16) (Rect.unit ![1, 0, 0, 0] ![1, 1, 2816, 1024] inb_S2x1x2816x1024_S1x1x2816x1024_1_0_0_0)
/-- The first half of the gradient, and the second, as a point loads them. -/
abbrev dA (t : Fin cfg0.N) : Vec 𝕀 S1x512x2816 .bf16 :=
  View.ld (iblk m d 0 t : Vec 𝕀 S2x512x2816 .bf16) (Rect.unit ![0, 0, 0] ![1, 512, 2816] inb_S2x512x2816_S1x512x2816_0_0_0)
abbrev dB (t : Fin cfg0.N) : Vec 𝕀 S1x512x2816 .bf16 :=
  View.ld (iblk m d 0 t : Vec 𝕀 S2x512x2816 .bf16) (Rect.unit ![1, 0, 0] ![1, 512, 2816] inb_S2x512x2816_S1x512x2816_1_0_0)

theorem dn_eq (t : Fin cfg0.N) (r : Fin 512) (l : Fin 1024) :
    k0_pay4 (wA m d t) (dA m d t) (wB m d t) (dB m d t) (ix2 r l) = dn m d (row t r) l := by
  rw [dn_apply]
  exact congrArg₂ (· + · : EReal → EReal → EReal)
    (half_eq m d t 0 inb_S2x1x2816x1024_S1x1x2816x1024_0_0_0_0 inb_S2x512x2816_S1x512x2816_0_0_0 r l)
    (half_eq m d t 1 inb_S2x1x2816x1024_S1x1x2816x1024_1_0_0_0 inb_S2x512x2816_S1x512x2816_1_0_0 r l)

theorem x_eq (t : Fin cfg0.N) (r : Fin 512) : (fun l => (iblk m d 2 t : Vec 𝕀 S512x1024 .f32) (ix2 r l)) = x m d (row t r) :=
  funext fun l => (blk2 m d t r l).trans (V2 m d _ l)

/-- The block of the input's gradient a point stores. -/
def dxblock (t : Fin cfg0.N) : Vec 𝕀 S512x1024 .f32 := fun i => dx m d (row t (i 0)) (i 1)

theorem dx_eq (t : Fin cfg0.N) :
    k0_pay2 (k0_pay5 (iblk m d 2 t)) (k0_pay6 (wA m d t) (dA m d t) (wB m d t) (dB m d t) (iblk m d 3 t))
      (k0_pay7 (iblk m d 2 t)) (iblk m d 4 t) = dxblock m d t := by
  funext y
  obtain ⟨r, l, rfl⟩ := split2 y
  refine (dx_apply _ _ _ _ _ _ _ r l).trans ?_
  refine congrArg₂ (· + · : EReal → EReal → EReal) ((blk4 m d t r l).trans (V4 m d _ l)) ?_
  refine congrArg₂ (normBack · · l) (x_eq m d t r) (funext fun l => ?_)
  exact congrArg₂ (· * · : EReal → EReal → EReal) (dn_eq m d t r l) ((blk3 m d t 0 l).trans (V3 m d l))

theorem tile_eq (t : Fin cfg0.N) (q : Fin 1) (l : Fin 1024) :
    k0_pay1 (k0_pay4 (wA m d t) (dA m d t) (wB m d t) (dB m d t)) (k0_pay5 (iblk m d 2 t)) (ix2 q l) = tile m d t.val l := by
  rw [dscale_apply]
  refine Finset.sum_congr rfl fun r _ => ?_
  rw [term_row]
  exact congrArg₂ (· * · : EReal → EReal → EReal) (dn_eq m d t r l) (congrArg (xhat · l) (x_eq m d t r))

/-- The first point: the block's gradient and the first tile's share of the scale's. -/
theorem outs_A (t : Fin cfg0.N) (h0 : t.val % 8 = 0) (h1 : ¬1 ≤ t.val) :
    (outsAt0 m d t.val t.isLt).1 = dxblock m d t
    ∧ ∀ l, (outsAt0 m d t.val t.isLt).2 (ix2 0 l) = tile m d t.val l := by
  rw [outsAt0_A m d t h0 h1]
  constructor
  · unfold out0_A_5
    dsimp only
    rw [View.read_writes_eq_canon _ _ _ (fun _ => cover0_A_5 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.canon_unit_zero (S := S512x1024) hz2]
    exact dx_eq m d t
  · intro l
    unfold out0_A_6
    dsimp only
    rw [View.read_writes_eq_canon _ _ _ (fun _ => cover0_A_6 ..)]
    unfold kernelRun0_A
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.canon_unit_zero (S := S1x1024) hz2]
    exact tile_eq m d t 0 l

/-- A later point: the block's gradient, and its tile's share added to what the point before left. -/
theorem outs_B (t : Fin cfg0.N) (h0 : ¬t.val % 8 = 0) (h1 : 1 ≤ t.val) :
    (outsAt0 m d t.val t.isLt).1 = dxblock m d t
    ∧ ∀ l, (outsAt0 m d t.val t.isLt).2 (ix2 0 l)
        = (outsAt0 m d (t.val - 1) (Nat.lt_of_le_of_lt (Nat.sub_le _ _) t.isLt)).2 (ix2 0 l) + tile m d t.val l := by
  rw [outsAt0_B m d t h0 h1]
  constructor
  · unfold out0_B_5
    dsimp only
    rw [View.read_writes_eq_canon _ _ _ (fun _ => cover0_B_5 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, View.ld_unit_zero (S := S512x1024) hz2,
      View.ld_unit_zero (S := S1x1024) hz2, View.canon_unit_zero (S := S512x1024) hz2]
    exact dx_eq m d t
  · intro l
    unfold out0_B_6
    dsimp only
    rw [View.read_writes_eq_canon _ _ _ (fun _ => cover0_B_6 ..)]
    unfold kernelRun0_B
    dsimp only
    sl_unfold_words
    simp only [View.readAt_eq_ld, (hs0_0 t).read_unread, (hs0_1 t).read_unread, (hs0_2 t).read_unread,
      (hs0_3 t).read_unread, (hs0_4 t).read_unread, (hs0_6 t).read_unread, View.ld_unit_zero (S := S512x1024) hz2,
      View.ld_unit_zero (S := S1x1024) hz2, View.canon_unit_zero (S := S1x1024) hz2]
    rw [← tile_eq m d t 0 l]
    exact acc_apply _ _ _ 0 l

/-- Every point's block of the input's gradient. -/
theorem outs_fst (t : Fin cfg0.N) : (outsAt0 m d t.val t.isLt).1 = dxblock m d t := by
  have h8 : t.val < 8 := t.isLt
  by_cases h : 1 ≤ t.val
  · exact (outs_B m d t (by omega) h).1
  · exact (outs_A m d t (by omega) h).1

/-- The scale's gradient after point `n`: the sum of the tiles so far. -/
theorem outs_snd (l : Fin 1024) : ∀ (n : Nat) (hn : n < cfg0.N),
    (outsAt0 m d n hn).2 (ix2 0 l) = ∑ t : Fin (n + 1), tile m d t.val l
  | 0, hn => by
    rw [(outs_A m d ⟨0, hn⟩ (by show 0 % 8 = 0; rfl) (by show ¬1 ≤ 0; omega)).2 l, Fin.sum_univ_one]
    rfl
  | n + 1, hn => by
    have h8 : n + 1 < 8 := hn
    rw [(outs_B m d ⟨n + 1, hn⟩ (by show ¬(n + 1) % 8 = 0; omega) (by show 1 ≤ n + 1; omega)).2 l,
      Fin.sum_univ_castSucc]
    exact congrArg (· + _) (outs_snd l n (Nat.lt_of_succ_lt hn))

/-- The input's gradient after the run. -/
theorem arr5 : (dats m 0 d).arrAt 5 cfg0.N = fun i : S4096x1024.Idx => dx m d (i 0) (i 1) := by
  have hi : ∀ t : Fin cfg0.N, win0_5.index t 0 = t.val ∧ win0_5.index t 1 = 0 :=
    (by decide +kernel : ∀ t : Fin grid0.N, win0_5.index t 0 = t.val ∧ win0_5.index t 1 = 0)
  refine (dats m 0 d).arrAt_eq_of_cover 5 _ ?_ ?_
  · intro t ht
    rw [Value.flushed5, outs_fst]
    funext y
    rw [View.read_apply]
    change S512x1024.Idx at y
    obtain ⟨r, l, rfl⟩ := split2 y
    have a0 : (((cfg0.win 5).blk t).view.emb (ix2 r l) : S4096x1024.Idx) 0 = row t r :=
      Fin.ext (by show win0_5.index t 0 * 512 + 1 * r.val = 512 * t.val + r.val; rw [(hi t).1]; omega)
    have a1 : (((cfg0.win 5).blk t).view.emb (ix2 r l) : S4096x1024.Idx) 1 = l :=
      Fin.ext (by show win0_5.index t 1 * 1024 + 1 * l.val = l.val; rw [(hi t).2]; omega)
    show _ = dx m d _ _
    rw [a0, a1]
    rfl
  · exact (by decide +kernel : (cfg0.win 5).Covers).cover _ (Memref.isWhole_whole _)

/-- The scale's gradient after the run. -/
theorem arr6 : (dats m 0 d).arrAt 6 cfg0.N = fun i : S1x1024.Idx => dg m d (i 0) (i 1) := by
  have hi : ∀ t : Fin cfg0.N, win0_6.index t 0 = 0 ∧ win0_6.index t 1 = 0 :=
    (by decide +kernel : ∀ t : Fin grid0.N, win0_6.index t 0 = 0 ∧ win0_6.index t 1 = 0)
  have hf : ∀ t : Fin cfg0.N, (cfg0.win 6).flush t = true → t.val = 7 :=
    (by decide +kernel : ∀ t : Fin grid0.N, win0_6.flush t = true → t.val = 7)
  refine (dats m 0 d).arrAt_eq_of_cover 6 _ ?_ ?_
  · intro t ht
    have hl := hf t ht
    rw [Value.flushed6]
    funext y
    rw [View.read_apply]
    change S1x1024.Idx at y
    obtain ⟨q, l, rfl⟩ := split2 y
    have a0 : (((cfg0.win 6).blk t).view.emb (ix2 q l) : S1x1024.Idx) 0 = q :=
      Fin.ext (by show win0_6.index t 0 * 1 + 1 * q.val = q.val; rw [(hi t).1]; omega)
    have a1 : (((cfg0.win 6).blk t).view.emb (ix2 q l) : S1x1024.Idx) 1 = l :=
      Fin.ext (by show win0_6.index t 1 * 1024 + 1 * l.val = l.val; rw [(hi t).2]; omega)
    show _ = dg m d 0 _
    rw [a1]
    obtain rfl : q = 0 := Subsingleton.elim _ _
    refine (outs_snd m d l t.val t.isLt).trans ?_
    rw [hl]
    exact dg_eq m d l
  · exact (by decide +kernel : (cfg0.win 6).Covers).cover _ (Memref.isWhole_whole _)

end
end Cert.BwdInKernelIdeal.Blocks
end
-- ==== Proof.BwdInReference.lean ====
/- What the reference of the backward pass of the feed-forward layer's input product computes, entry by entry. -/
module

public import proofs.«01_k».proof.Proof.Gen.BwdInReferenceIdeal.Read
public import proofs.«01_k».proof.Proof.NormMath

@[expose] public section

noncomputable section

namespace Cert.BwdInReferenceIdeal.Rows

open Gen Read Cert.Ffn Idealize.ShloMosaic Idealize.ShloMosaic.TcCoe
  Idealize.SL.Sem

set_option maxRecDepth 65536

local notation "𝕀" => Idealize.ShloMosaic.Ideal

section
variable (x0 : S2x4096x2816.Idx → EReal) (x1 : S4096x1024.Idx → EReal) (x2 : S1024.Idx → EReal)
  (x3 : S1024x5632.Idx → EReal) (x4 : S4096x1024.Idx → EReal)

/-- The two halves' gradients side by side. -/
theorem cat_apply (n : Fin 4096) (k : Fin 5632) :
    val_main_v24 (F := 𝕀) x0 (ix2 n k)
      = if h : k.val < 2816 then x0 (ix3 0 n ⟨k.val, h⟩) else x0 (ix3 1 n ⟨k.val - 2816, by omega⟩) := by
  have e2 : ∀ i, val_main_v2 (F := 𝕀) x0 i = x0 (ix3 0 (i 0) (i 1)) := by
    intro i
    obtain ⟨a, b, rfl⟩ := split2 i
    unfold val_main_v2 val_main_v1 val_main_v0; pointwise
  have e4 : ∀ i, val_main_v4 (F := 𝕀) x0 i = x0 (ix3 1 (i 0) (i 1)) := by
    intro i
    obtain ⟨a, b, rfl⟩ := split2 i
    unfold val_main_v4 val_main_v3 val_main_v0; pointwise
  unfold val_main_v24
  generalize val_main_v2 (F := 𝕀) x0 = A at e2
  generalize val_main_v4 (F := 𝕀) x0 = B at e4
  pointwise
  split
  · rw [e2]; rfl
  · rw [e4]; rfl

/-- The gradient at the normed row: the product with each half of the weights. -/
def dn (n : Fin 4096) (l : Fin 1024) : EReal :=
  (∑ k : Fin 2816, x0 (ix3 0 n k) * x3 (ix2 l ⟨0 * 2816 + k.val, by omega⟩))
    + ∑ k : Fin 2816, x0 (ix3 1 n k) * x3 (ix2 l ⟨1 * 2816 + k.val, by omega⟩)

theorem dn_apply (n : Fin 4096) (l : Fin 1024) : val_main_v25 (F := 𝕀) x0 x3 (ix2 n l) = dn x0 x3 n l := by
  have e := cat_apply x0
  unfold val_main_v25
  generalize val_main_v24 (F := 𝕀) x0 = G at e
  pointwise
  simp only [e]
  refine (Fin.sum_univ_add (a := 2816) (b := 2816) _).trans ?_
  unfold dn
  refine congrArg₂ (· + · : EReal → EReal → EReal) (Finset.sum_congr rfl fun k _ => ?_) (Finset.sum_congr rfl fun k _ => ?_)
  · have h : (Fin.castAdd 2816 k : Fin (2816 + 2816)).val < 2816 := k.isLt
    rw [dif_pos h]
    congr 3
    apply Fin.ext
    show k.val = 0 * 2816 + k.val; omega
  · have h : ¬(Fin.natAdd 2816 k : Fin (2816 + 2816)).val < 2816 := by
      show ¬2816 + k.val < 2816; omega
    rw [dif_neg h]
    congr 3
    apply Fin.ext
    show 2816 + k.val - 2816 = k.val; omega

theorem xhat_apply (n : Fin 4096) (l : Fin 1024) :
    val_main_v17 (F := 𝕀) x1 (ix2 n l) = xhat (fun l => x1 (ix2 n l)) l := by
  unfold val_main_v17 val_main_v16 val_main_v12 val_main_v11 val_main_v10 val_main_v9 val_main_v8 val_main_v7 val_main_v6
    val_main_v5 val_main_cst val_main_cst_0 val_main_cst_1
  pointwise; rfl

theorem msq_apply (n : Fin 4096) (q : Fin 1) : val_main_v11 (F := 𝕀) x1 (ix2 n q) = msq (fun l => x1 (ix2 n l)) := by
  unfold val_main_v11 val_main_v10 val_main_v9 val_main_v8 val_main_v7 val_main_v6 val_main_v5 val_main_cst val_main_cst_0
    val_main_cst_1
  pointwise; rfl

theorem scaled_apply (n : Fin 4096) (l : Fin 1024) :
    val_main_v30 (F := 𝕀) x0 x2 x3 (ix2 n l) = dn x0 x3 n l * x2 (ix1 l) := by
  have e := dn_apply x0 x3
  unfold val_main_v30 val_main_v29 val_main_v18
  generalize val_main_v25 (F := 𝕀) x0 x3 = G at e
  pointwise
  rw [e]

/-- The factor of the row in the norm's backward pass. -/
theorem pull_apply (n : Fin 4096) :
    val_main_v41 (F := 𝕀) x0 x1 x2 x3 (ix1 n)
      = pull (fun l => x1 (ix2 n l)) (fun l => dn x0 x3 n l * x2 (ix1 l)) := by
  have e := scaled_apply x0 x2 x3
  have em := msq_apply x1
  unfold val_main_v41 val_main_v40 val_main_v39 val_main_v38 val_main_v34 val_main_v33 val_main_v32 val_main_v15 val_main_v14
    val_main_v13 val_main_v12 val_main_cst_2 val_main_cst_5 val_main_cst_6 val_main_cst_7
  generalize val_main_v30 (F := 𝕀) x0 x2 x3 = G at e
  generalize val_main_v11 (F := 𝕀) x1 = M at em
  pointwise
  simp only [e, em, Fin.sum_univ_one]
  rfl

/-- The gradient of the layer's input. -/
theorem dx_apply (n : Fin 4096) (l : Fin 1024) :
    val_main_v46 (F := 𝕀) x0 x1 x2 x3 x4 (ix2 n l)
      = x4 (ix2 n l) + normBack (fun l => x1 (ix2 n l)) (fun l => dn x0 x3 n l * x2 (ix1 l)) l := by
  rw [← chain_eq]
  have e := scaled_apply x0 x2 x3
  have em := msq_apply x1
  have ep := pull_apply x0 x1 x2 x3
  unfold val_main_v46 val_main_v45 val_main_v44 val_main_v43 val_main_v42 val_main_v37 val_main_v36 val_main_v35 val_main_v12
  generalize val_main_v30 (F := 𝕀) x0 x2 x3 = G at e
  generalize val_main_v41 (F := 𝕀) x0 x1 x2 x3 = P at ep
  generalize val_main_v11 (F := 𝕀) x1 = M at em
  pointwise
  simp only [e, em, ep]

/-- The gradient of the norm's scale. -/
theorem dg_apply (q : Fin 1) (l : Fin 1024) :
    val_main_v47 (F := 𝕀) x0 x1 x3 (ix2 q l)
      = ∑ n : Fin 4096, dn x0 x3 n l * xhat (fun l => x1 (ix2 n l)) l := by
  have e := dn_apply x0 x3
  have ex := xhat_apply x1
  unfold val_main_v47 val_main_v31 val_main_v28 val_main_v27 val_main_v26 val_main_cst_3 val_main_cst_4
  generalize val_main_v25 (F := 𝕀) x0 x3 = G at e
  generalize val_main_v17 (F := 𝕀) x1 = X at ex
  pointwise
  simp only [e, ex, Fin.sum_univ_one]
  exact Finset.sum_congr rfl fun n _ => mul_comm _ _

end
end Cert.BwdInReferenceIdeal.Rows
end
-- ==== Proof.DwOutArrays.lean ====
/- The gradient of the feed-forward output weights, as the kernel computes it: two tiles of rows per block, the second added
   to the accumulator the first leaves. -/
module

public import proofs.«01_k».proof.Proof.Gen.DwOutKernelIdeal.Value
public import proofs.«01_k».proof.Proof.FfnMath

@[expose] public section

noncomputable section

namespace Cert.DwOutKernelIdeal.Blocks

open Gen Cert.Ffn Idealize.ShloMosaic Idealize.ShloMosaic.TcCoe
  Idealize.SL.Sem

set_option maxRecDepth 65536

local notation "𝕀" => Idealize.ShloMosaic.Ideal

theorem lt_N (t : Fin cfg0.N) : t.val < 4 := t.isLt

section
variable (x : Vec 𝕀 S1x2048x1408 .bf16) (y : Vec 𝕀 S1x2048x1024 .bf16) (s : Vec 𝕀 S1408x1024 .f32)

/-- What the first row half stores in the accumulator. -/
theorem first_apply (k : Fin 1408) (l : Fin 1024) :
    k0_pay2 x y (ix2 k l) = ∑ r : Fin 2048, x (ix3 0 r k) * y (ix3 0 r l) := by
  unfold_payloads; pointwise

/-- What the second row half adds to it. -/
theorem next_apply (k : Fin 1408) (l : Fin 1024) :
    k0_pay3 x y s (ix2 k l) = s (ix2 k l) + ∑ r : Fin 2048, x (ix3 0 r k) * y (ix3 0 r l) := by
  unfold_payloads; pointwise

/-- What leaves for the result is the accumulator. -/
theorem last_apply (k : Fin 1408) (l : Fin 1024) : k0_pay4 s (ix4 0 0 k l) = s (ix2 k l) := by
  unfold_payloads; pointwise

end

section
variable (m : (ℓ : Loc nD τ sig) → Buf (Elt 𝕀) ℓ) (d : Dev nD)

/-- The gated unit at row `n`, entry `k` of block `p`. -/
def lhs (p : Fin 2) (n : Fin 4096) (k : Fin 1408) : EReal :=
  gated ((m (d.tc.loc main_arg0) : Vec 𝕀 S2x4096x2816 .bf16) (ix3 0 n ⟨1408 * p.val + k.val, by omega⟩))
    ((m (d.tc.loc main_arg0) : Vec 𝕀 S2x4096x2816 .bf16) (ix3 1 n ⟨1408 * p.val + k.val, by omega⟩))

/-- The gradient at the layer's output product. -/
def rhs (n : Fin 4096) (l : Fin 1024) : EReal := (m (d.tc.loc main_arg1) : Vec 𝕀 S4096x1024 .bf16) (ix2 n l)

theorem V0 (p : Fin 2) (n : Fin 4096) (k : Fin 1408) :
    (V m d main_v8 : Vec 𝕀 S1x4096x2816 .bf16) (ix3 0 n ⟨1408 * p.val + k.val, by omega⟩) = lhs m d p n k := by
  unfold V
  simp only [hostOps0, hostOps0_1, hostOps0_2, List.flatten_cons, List.flatten_nil, List.cons_append, List.nil_append]
  after_results
  simp only [StableHlo.TRef.toBuf, StableHlo.TRef.ofBuf, cast_eq]
  pointwise
  rfl

theorem V1 (n : Fin 4096) (l : Fin 1024) : (V m d main_v9 : Vec 𝕀 S1x4096x1024 .bf16) (ix3 0 n l) = rhs m d n l := by
  unfold V
  simp only [hostOps0, hostOps0_1, hostOps0_2, List.flatten_cons, List.flatten_nil, List.cons_append, List.nil_append]
  after_results
  pointwise
  rfl

/-- The row of the array a row of the tile of point `t` is. -/
def row (t : Fin cfg0.N) (r : Fin 2048) : Fin 4096 := ⟨2048 * (t.val % 2) + r.val, by omega⟩

/-- The block of the result that point `t` belongs to. -/
def out (t : Fin cfg0.N) : Fin 2 := ⟨t.val / 2, by have := lt_N t; omega⟩

theorem blk0 (t : Fin cfg0.N) (r : Fin 2048) (k : Fin 1408) :
    (iblk m d 0 t : Vec 𝕀 S1x2048x1408 .bf16) (ix3 0 r k) = lhs m d (out t) (row t r) k := by
  have hi := (by decide +kernel : ∀ t : Fin grid0.N, win0_0.index t 0 = 0 ∧ win0_0.index t 1 = t.val % 2 ∧ win0_0.index t 2 = t.val / 2) t
  have b := lt_N t
  unfold iblk
  rw [View.read_apply]
  refine Eq.trans (congrArg (V m d main_v8 : Vec 𝕀 S1x4096x2816 .bf16) (?_ : _ = ix3 0 (row t r) ⟨1408 * (out t).val + k.val, by have := (out t).isLt; omega⟩)) (V0 m d _ _ _)
  refine funext fun a => Fin.ext ?_
  match a with
  | ⟨0, _⟩ => show win0_0.index t 0 * 1 + 1 * 0 = _; rw [hi.1]; show _ = 0; omega
  | ⟨1, _⟩ => show win0_0.index t 1 * 2048 + 1 * r.val = 2048 * (t.val % 2) + r.val; rw [hi.2.1]; omega
  | ⟨2, _⟩ => show win0_0.index t 2 * 1408 + 1 * k.val = _; rw [hi.2.2]; show _ = 1408 * (t.val / 2) + k.val; omega

theorem blk1 (t : Fin cfg0.N) (r : Fin 2048) (l : Fin 1024) :
    (iblk m d 1 t : Vec 𝕀 S1x2048x1024 .bf16) (ix3 0 r l) = rhs m d (row t r) l := by
  have hi := (by decide +kernel : ∀ t : Fin grid0.N, win0_1.index t 0 = 0 ∧ win0_1.index t 1 = t.val % 2 ∧ win0_1.index t 2 = 0) t
  have b := lt_N t
  unfold iblk
  rw [View.read_apply]
  refine Eq.trans (congrArg (V m d main_v9 : Vec 𝕀 S1x4096x1024 .bf16) (?_ : _ = ix3 0 (row t r) l)) (V1 m d _ _ )
  refine funext fun a => Fin.ext ?_
  match a with
  | ⟨0, _⟩ => show win0_1.index t 0 * 1 + 1 * 0 = _; rw [hi.1]; rfl
  | ⟨1, _⟩ => show win0_1.index t 1 * 2048 + 1 * r.val = 2048 * (t.val % 2) + r.val; rw [hi.2.1]; omega
  | ⟨2, _⟩ => show win0_1.index t 2 * 1024 + 1 * l.val = _; rw [hi.2.2]; show _ = l.val; omega

/-- What a tile adds to entry `k`, `l` of its block. -/
def tile (t : Fin cfg0.N) (k : Fin 1408) (l : Fin 1024) : EReal :=
  ∑ r : Fin 2048, lhs m d (out t) (row t r) k * rhs m d (row t r) l

theorem tile_eq (t : Fin cfg0.N) (x : Vec 𝕀 S1x2048x1408 .bf16) (y : Vec 𝕀 S1x2048x1024 .bf16) (hx : x = iblk m d 0 t)
    (hy : y = iblk m d 1 t) (k : Fin 1408) (l : Fin 1024) :
    ∑ r : Fin 2048, x (ix3 0 r k) * y (ix3 0 r l) = tile m d t k l := by
  subst hx hy
  exact Finset.sum_congr rfl fun r _ => congrArg₂ (· * · : EReal → EReal → EReal) (blk0 m d t r k) (blk1 m d t r l)

/-- The accumulator after the first half. -/
theorem outs_A (t : Fin cfg0.N) (h : t.val % 2 = 0) (k : Fin 1408) (l : Fin 1024) :
    (outsAt0 m d t.val t.isLt).2 (ix2 k l) = tile m d t k l := by
  rw [outsAt0_A m d t h (by omega) (by omega)]
  unfold sout0_A_0
  dsimp only
  rw [View.read_writes_eq_canon _ _ _ (fun _ => scover0_A_0 ..)]
  unfold kernelRun0_A
  dsimp only
  sl_unfold_words
  simp only [View.readAt_eq_ld, (hs0_0 t).read_unread, (hs0_1 t).read_unread,
    View.ld_unit_zero (S := S1x2048x1408) hz3, View.ld_unit_zero (S := S1x2048x1024) hz3,
    View.canon_unit_zero (S := S1408x1024) hz2]
  exact (first_apply _ _ k l).trans (tile_eq m d t _ _ rfl rfl k l)

/-- The block written at the second half. -/
theorem outs_B (t : Fin cfg0.N) (h : t.val % 2 = 1) (k : Fin 1408) (l : Fin 1024) :
    (outsAt0 m d t.val t.isLt).1 (ix4 0 0 k l)
      = (outsAt0 m d (t.val - 1) (Nat.lt_of_le_of_lt (Nat.sub_le _ _) t.isLt)).2 (ix2 k l) + tile m d t k l := by
  rw [outsAt0_B m d t (by omega) h h]
  unfold out0_B_2
  dsimp only
  rw [View.read_writes_eq_canon _ _ _ (fun _ => cover0_B_2 ..)]
  unfold kernelRun0_B
  dsimp only
  sl_unfold_words
  simp only [View.readAt_eq_ld, (hs0_0 t).read_unread, (hs0_1 t).read_unread, (Memref.isWhole_whole _).read_unread,
    View.ld_unit_zero (S := S1x2048x1408) hz3, View.ld_unit_zero (S := S1x2048x1024) hz3,
    View.ld_unit_zero (S := S1408x1024) hz2, View.canon_unit_zero (S := S1408x1024) hz2,
    View.canon_unit_zero (S := S1x1x1408x1024) hz4]
  rw [View.readCov_unit_zero (S := S1408x1024) _ hz2, last_apply]
  exact (next_apply _ _ _ k l).trans (congrArg _ (tile_eq m d t _ _ rfl rfl k l))

/-- An entry of the result: the product's sum over all rows. -/
def total (p : Fin 2) (k : Fin 1408) (l : Fin 1024) : EReal := ∑ n : Fin 4096, lhs m d p n k * rhs m d n l

theorem outs_total (t : Fin cfg0.N) (h : t.val % 2 = 1) (k : Fin 1408) (l : Fin 1024) :
    (outsAt0 m d t.val t.isLt).1 (ix4 0 0 k l) = total m d (out t) k l := by
  have b := lt_N t
  rw [outs_B m d t h]
  have e := outs_A m d ⟨t.val - 1, Nat.lt_of_le_of_lt (Nat.sub_le _ _) t.isLt⟩ (by show (t.val - 1) % 2 = 0; omega) k l
  refine (congrArg (· + tile m d t k l) e).trans ?_
  unfold total tile
  rw [sum_halves]
  have o : out ⟨t.val - 1, Nat.lt_of_le_of_lt (Nat.sub_le _ _) t.isLt⟩ = out t :=
    Fin.ext (by show (t.val - 1) / 2 = t.val / 2; omega)
  have r0 : ∀ r : Fin 2048, row ⟨t.val - 1, Nat.lt_of_le_of_lt (Nat.sub_le _ _) t.isLt⟩ r = ⟨r.val, by omega⟩ := fun r =>
    Fin.ext (by show 2048 * ((t.val - 1) % 2) + r.val = r.val; omega)
  have r1 : ∀ r : Fin 2048, row t r = ⟨2048 + r.val, by omega⟩ := fun r =>
    Fin.ext (by show 2048 * (t.val % 2) + r.val = 2048 + r.val; omega)
  rw [o]
  simp only [r0, r1]

/-- The result after the run. -/
theorem arr_result : (dats m 0 d).arrAt 2 cfg0.N = fun i : S2x1x1408x1024.Idx => total m d (i 0) (i 2) (i 3) := by
  have hi : ∀ t : Fin cfg0.N, win0_2.index t 0 = t.val / 2 ∧ win0_2.index t 1 = 0 ∧ win0_2.index t 2 = 0 ∧ win0_2.index t 3 = 0 :=
    (by decide +kernel : ∀ t : Fin grid0.N, win0_2.index t 0 = t.val / 2 ∧ win0_2.index t 1 = 0 ∧ win0_2.index t 2 = 0 ∧ win0_2.index t 3 = 0)
  have hf : ∀ t : Fin cfg0.N, (cfg0.win 2).flush t = true → t.val % 2 = 1 :=
    (by decide +kernel : ∀ t : Fin grid0.N, win0_2.flush t = true → t.val % 2 = 1)
  have hg : ∀ t : Fin cfg0.N, t.val % 2 = 1 → (cfg0.win 2).flush t = true :=
    (by decide +kernel : ∀ t : Fin grid0.N, t.val % 2 = 1 → win0_2.flush t = true)
  refine (dats m 0 d).arrAt_eq_of_cover 2 _ ?_ ?_
  · intro t ht
    rw [Value.flushed2]
    funext j
    rw [View.read_apply]
    change S1x1x1408x1024.Idx at j
    obtain ⟨p, q, k, l, rfl⟩ := split4 j
    obtain rfl : p = 0 := Subsingleton.elim _ _
    obtain rfl : q = 0 := Subsingleton.elim _ _
    have a0 : (((cfg0.win 2).blk t).view.emb (ix4 0 0 k l) : S2x1x1408x1024.Idx) 0 = out t :=
      Fin.ext (by show win0_2.index t 0 * 1 + 1 * 0 = t.val / 2; rw [(hi t).1]; omega)
    have a2 : (((cfg0.win 2).blk t).view.emb (ix4 0 0 k l) : S2x1x1408x1024.Idx) 2 = k :=
      Fin.ext (by show win0_2.index t 2 * 1408 + 1 * k.val = k.val; rw [(hi t).2.2.1]; omega)
    have a3 : (((cfg0.win 2).blk t).view.emb (ix4 0 0 k l) : S2x1x1408x1024.Idx) 3 = l :=
      Fin.ext (by show win0_2.index t 3 * 1024 + 1 * l.val = l.val; rw [(hi t).2.2.2]; omega)
    show _ = total m d _ _ _
    rw [a0, a2, a3]
    exact outs_total m d t (hf t ht) k l
  · exact (by decide +kernel : (cfg0.win 2).Covers).cover _ (Memref.isWhole_whole _)

end
end Cert.DwOutKernelIdeal.Blocks
end
-- ==== Proof.DwOutReference.lean ====
/- What the reference of the feed-forward output weights' gradient computes, entry by entry. -/
module

public import proofs.«01_k».proof.Proof.Gen.DwOutReferenceIdeal.Read
public import proofs.«01_k».proof.Proof.FfnMath

@[expose] public section

noncomputable section

namespace Cert.DwOutReferenceIdeal.Rows

open Gen Read Cert.Ffn Idealize.ShloMosaic Idealize.ShloMosaic.TcCoe
  Idealize.SL.Sem

set_option maxRecDepth 65536

local notation "𝕀" => Idealize.ShloMosaic.Ideal

section
variable (x0 : S2x4096x2816.Idx → EReal) (x1 : S4096x1024.Idx → EReal)

/-- The gated unit at row `n`, entry `k`. -/
theorem gated_apply (n : Fin 4096) (k : Fin 2816) :
    val_main_v6 (F := 𝕀) x0 (ix2 n k) = gated (x0 (ix3 0 n k)) (x0 (ix3 1 n k)) := by
  have g : ∀ i, val_main_v2 (F := 𝕀) x0 i = x0 (ix3 0 (i 0) (i 1)) := by
    intro i
    obtain ⟨a, b, rfl⟩ := split2 i
    unfold val_main_v2 val_main_v1 val_main_v0; pointwise
  have u : ∀ i, val_main_v4 (F := 𝕀) x0 i = x0 (ix3 1 (i 0) (i 1)) := by
    intro i
    obtain ⟨a, b, rfl⟩ := split2 i
    unfold val_main_v4 val_main_v3 val_main_v0; pointwise
  unfold val_main_v6 val_main_v5 val_main_call0_v5 val_main_call0_v4 val_main_call0_v3 val_main_call0_v2
    val_main_call0_v1 val_main_call0_v0 val_main_call0_cst val_main_call0_cst_0
  generalize val_main_v2 (F := 𝕀) x0 = G at g
  generalize val_main_v4 (F := 𝕀) x0 = U at u
  pointwise
  rw [g, u]
  rfl

/-- The result at block `p`, entry `k`, `l`. -/
theorem result_apply (p : Fin 2) (q : Fin 1) (k : Fin 1408) (l : Fin 1024) :
    val_main_v13 (F := 𝕀) x0 x1 (ix4 p q k l)
      = ∑ n : Fin 4096, gated (x0 (ix3 0 n ⟨1408 * p.val + k.val, by omega⟩))
          (x0 (ix3 1 n ⟨1408 * p.val + k.val, by omega⟩)) * x1 (ix2 n l) := by
  obtain rfl : q = 0 := Subsingleton.elim _ _
  rw [val_main_v13_apply]
  show val_main_v12 (F := 𝕀) x0 x1 (ix4 p 0 k l) = _
  rw [val_main_v12_apply]
  have e12 : idx_main_v12 (ix4 p 0 k l) = ix2 ⟨1408 * p.val + k.val, by omega⟩ l := by
    funext a; apply Fin.ext
    match a with
    | ⟨0, _⟩ => show (((p.val * 1 + 0) * 1408 + k.val) * 1024 + l.val) / 1024 = 1408 * p.val + k.val; omega
    | ⟨1, _⟩ => show (((p.val * 1 + 0) * 1408 + k.val) * 1024 + l.val) % 1024 = l.val; omega
  rw [e12, val_main_v11_apply, val_main_v10_apply]
  refine Finset.sum_congr rfl fun n _ => ?_
  have el : lidx_main_v10 (idx_main_v11 (ix2 ⟨1408 * p.val + k.val, by omega⟩ l)) n = ix2 n l := by
    funext a; apply Fin.ext
    match a with
    | ⟨0, _⟩ => rfl
    | ⟨1, _⟩ => rfl
  have er : ridx_main_v10 (idx_main_v11 (ix2 ⟨1408 * p.val + k.val, by omega⟩ l)) n
      = ix2 n ⟨1408 * p.val + k.val, by omega⟩ := by
    funext a; apply Fin.ext
    match a with
    | ⟨0, _⟩ => rfl
    | ⟨1, _⟩ => rfl
  rw [el, er, gated_apply]
  exact mul_comm _ _

end
end Cert.DwOutReferenceIdeal.Rows
end
-- ==== Proof.DwInArrays.lean ====
/- The gradient of the feed-forward input weights, as the kernel computes it: two tiles of rows per block, the second added
   to the accumulator the first leaves. -/
module

public import proofs.«01_k».proof.Proof.Gen.DwInKernelIdeal.Value
public import proofs.«01_k».proof.Proof.FfnMath

@[expose] public section

noncomputable section

namespace Cert.DwInKernelIdeal.Blocks

open Gen Cert.Ffn Idealize.ShloMosaic Idealize.ShloMosaic.TcCoe
  Idealize.SL.Sem

set_option maxRecDepth 65536

local notation "𝕀" => Idealize.ShloMosaic.Ideal

theorem lt_N (t : Fin cfg0.N) : t.val < 8 := t.isLt

section
variable (x : Vec 𝕀 S1x2048x1408 .bf16) (y : Vec 𝕀 S1x2048x1024 .bf16) (s : Vec 𝕀 S1408x1024 .f32)

/-- What the first row half stores in the accumulator. -/
theorem first_apply (k : Fin 1408) (l : Fin 1024) :
    k0_pay2 x y (ix2 k l) = ∑ r : Fin 2048, x (ix3 0 r k) * y (ix3 0 r l) := by
  unfold_payloads; pointwise

/-- What the second row half adds to it. -/
theorem next_apply (k : Fin 1408) (l : Fin 1024) :
    k0_pay3 x y s (ix2 k l) = s (ix2 k l) + ∑ r : Fin 2048, x (ix3 0 r k) * y (ix3 0 r l) := by
  unfold_payloads; pointwise

/-- What leaves for the result is the accumulator. -/
theorem last_apply (k : Fin 1408) (l : Fin 1024) : k0_pay4 s (ix4 0 0 k l) = s (ix2 k l) := by
  unfold_payloads; pointwise

end

section
variable (m : (ℓ : Loc nD τ sig) → Buf (Elt 𝕀) ℓ) (d : Dev nD)

/-- The gradient at row `n`, entry `k` of block `p`: the first two blocks the gate's, the last two the other half's. -/
def lhs (p : Fin 4) (n : Fin 4096) (k : Fin 1408) : EReal :=
  (m (d.tc.loc main_arg0) : Vec 𝕀 S2x4096x2816 .bf16)
    (ix3 ⟨p.val / 2, by omega⟩ n ⟨1408 * (p.val % 2) + k.val, by omega⟩)

/-- The normed input. -/
def rhs (n : Fin 4096) (l : Fin 1024) : EReal :=
  normed (fun l => (m (d.tc.loc main_arg1) : Vec 𝕀 S4096x1024 .f32) (ix2 n l))
    (fun l => (m (d.tc.loc main_arg2) : Vec 𝕀 S1024 .f32) (ix1 l)) l

theorem V0 (p : Fin 4) (n : Fin 4096) (k : Fin 1408) :
    (V m d main_arg0 : Vec 𝕀 S2x4096x2816 .bf16) (ix3 ⟨p.val / 2, by omega⟩ n ⟨1408 * (p.val % 2) + k.val, by omega⟩)
      = lhs m d p n k := by
  rw [V_main_arg0]
  rfl

theorem V1 (n : Fin 4096) (l : Fin 1024) : (V m d main_v14 : Vec 𝕀 S1x4096x1024 .bf16) (ix3 0 n l) = rhs m d n l := by
  entry_read
  pointwise
  rfl

/-- The row of the array a row of the tile of point `t` is. -/
def row (t : Fin cfg0.N) (r : Fin 2048) : Fin 4096 := ⟨2048 * (t.val % 2) + r.val, by omega⟩

/-- The block of the result that point `t` belongs to. -/
def out (t : Fin cfg0.N) : Fin 4 := ⟨t.val / 2, by have := lt_N t; omega⟩

theorem blk0 (t : Fin cfg0.N) (r : Fin 2048) (k : Fin 1408) :
    (iblk m d 0 t : Vec 𝕀 S1x2048x1408 .bf16) (ix3 0 r k) = lhs m d (out t) (row t r) k := by
  have hi := (by decide +kernel : ∀ t : Fin grid0.N, win0_0.index t 0 = t.val / 4 ∧ win0_0.index t 1 = t.val % 2 ∧ win0_0.index t 2 = t.val / 2 % 2) t
  have b := lt_N t
  unfold iblk
  rw [View.read_apply]
  refine Eq.trans (congrArg (V m d main_arg0 : Vec 𝕀 S2x4096x2816 .bf16) (?_ : _ = ix3 ⟨(out t).val / 2, by have := (out t).isLt; omega⟩ (row t r) ⟨1408 * ((out t).val % 2) + k.val, by omega⟩)) (V0 m d _ _ _)
  refine funext fun a => Fin.ext ?_
  match a with
  | ⟨0, _⟩ => show win0_0.index t 0 * 1 + 1 * 0 = _; rw [hi.1]; show _ = t.val / 2 / 2; omega
  | ⟨1, _⟩ => show win0_0.index t 1 * 2048 + 1 * r.val = 2048 * (t.val % 2) + r.val; rw [hi.2.1]; omega
  | ⟨2, _⟩ => show win0_0.index t 2 * 1408 + 1 * k.val = _; rw [hi.2.2]; show _ = 1408 * (t.val / 2 % 2) + k.val; omega

theorem blk1 (t : Fin cfg0.N) (r : Fin 2048) (l : Fin 1024) :
    (iblk m d 1 t : Vec 𝕀 S1x2048x1024 .bf16) (ix3 0 r l) = rhs m d (row t r) l := by
  have hi := (by decide +kernel : ∀ t : Fin grid0.N, win0_1.index t 0 = 0 ∧ win0_1.index t 1 = t.val % 2 ∧ win0_1.index t 2 = 0) t
  have b := lt_N t
  unfold iblk
  rw [View.read_apply]
  refine Eq.trans (congrArg (V m d main_v14 : Vec 𝕀 S1x4096x1024 .bf16) (?_ : _ = ix3 0 (row t r) l)) (V1 m d _ _ )
  refine funext fun a => Fin.ext ?_
  match a with
  | ⟨0, _⟩ => show win0_1.index t 0 * 1 + 1 * 0 = _; rw [hi.1]; rfl
  | ⟨1, _⟩ => show win0_1.index t 1 * 2048 + 1 * r.val = 2048 * (t.val % 2) + r.val; rw [hi.2.1]; omega
  | ⟨2, _⟩ => show win0_1.index t 2 * 1024 + 1 * l.val = _; rw [hi.2.2]; show _ = l.val; omega

/-- What a tile adds to entry `k`, `l` of its block. -/
def tile (t : Fin cfg0.N) (k : Fin 1408) (l : Fin 1024) : EReal :=
  ∑ r : Fin 2048, lhs m d (out t) (row t r) k * rhs m d (row t r) l

theorem tile_eq (t : Fin cfg0.N) (x : Vec 𝕀 S1x2048x1408 .bf16) (y : Vec 𝕀 S1x2048x1024 .bf16) (hx : x = iblk m d 0 t)
    (hy : y = iblk m d 1 t) (k : Fin 1408) (l : Fin 1024) :
    ∑ r : Fin 2048, x (ix3 0 r k) * y (ix3 0 r l) = tile m d t k l := by
  subst hx hy
  exact Finset.sum_congr rfl fun r _ => congrArg₂ (· * · : EReal → EReal → EReal) (blk0 m d t r k) (blk1 m d t r l)

/-- The accumulator after the first half. -/
theorem outs_A (t : Fin cfg0.N) (h : t.val % 2 = 0) (k : Fin 1408) (l : Fin 1024) :
    (outsAt0 m d t.val t.isLt).2 (ix2 k l) = tile m d t k l := by
  rw [outsAt0_A m d t h (by omega) (by omega)]
  unfold sout0_A_0
  dsimp only
  rw [View.read_writes_eq_canon _ _ _ (fun _ => scover0_A_0 ..)]
  unfold kernelRun0_A
  dsimp only
  sl_unfold_words
  simp only [View.readAt_eq_ld, (hs0_0 t).read_unread, (hs0_1 t).read_unread,
    View.ld_unit_zero (S := S1x2048x1408) hz3, View.ld_unit_zero (S := S1x2048x1024) hz3,
    View.canon_unit_zero (S := S1408x1024) hz2]
  exact (first_apply _ _ k l).trans (tile_eq m d t _ _ rfl rfl k l)

/-- The block written at the second half. -/
theorem outs_B (t : Fin cfg0.N) (h : t.val % 2 = 1) (k : Fin 1408) (l : Fin 1024) :
    (outsAt0 m d t.val t.isLt).1 (ix4 0 0 k l)
      = (outsAt0 m d (t.val - 1) (Nat.lt_of_le_of_lt (Nat.sub_le _ _) t.isLt)).2 (ix2 k l) + tile m d t k l := by
  rw [outsAt0_B m d t (by omega) h h]
  unfold out0_B_2
  dsimp only
  rw [View.read_writes_eq_canon _ _ _ (fun _ => cover0_B_2 ..)]
  unfold kernelRun0_B
  dsimp only
  sl_unfold_words
  simp only [View.readAt_eq_ld, (hs0_0 t).read_unread, (hs0_1 t).read_unread, (Memref.isWhole_whole _).read_unread,
    View.ld_unit_zero (S := S1x2048x1408) hz3, View.ld_unit_zero (S := S1x2048x1024) hz3,
    View.ld_unit_zero (S := S1408x1024) hz2, View.canon_unit_zero (S := S1408x1024) hz2,
    View.canon_unit_zero (S := S1x1x1408x1024) hz4]
  rw [View.readCov_unit_zero (S := S1408x1024) _ hz2, last_apply]
  exact (next_apply _ _ _ k l).trans (congrArg _ (tile_eq m d t _ _ rfl rfl k l))

/-- An entry of the result: the product's sum over all rows. -/
def total (p : Fin 4) (k : Fin 1408) (l : Fin 1024) : EReal := ∑ n : Fin 4096, lhs m d p n k * rhs m d n l

theorem outs_total (t : Fin cfg0.N) (h : t.val % 2 = 1) (k : Fin 1408) (l : Fin 1024) :
    (outsAt0 m d t.val t.isLt).1 (ix4 0 0 k l) = total m d (out t) k l := by
  have b := lt_N t
  rw [outs_B m d t h]
  have e := outs_A m d ⟨t.val - 1, Nat.lt_of_le_of_lt (Nat.sub_le _ _) t.isLt⟩ (by show (t.val - 1) % 2 = 0; omega) k l
  refine (congrArg (· + tile m d t k l) e).trans ?_
  unfold total tile
  rw [sum_halves]
  have o : out ⟨t.val - 1, Nat.lt_of_le_of_lt (Nat.sub_le _ _) t.isLt⟩ = out t :=
    Fin.ext (by show (t.val - 1) / 2 = t.val / 2; omega)
  have r0 : ∀ r : Fin 2048, row ⟨t.val - 1, Nat.lt_of_le_of_lt (Nat.sub_le _ _) t.isLt⟩ r = ⟨r.val, by omega⟩ := fun r =>
    Fin.ext (by show 2048 * ((t.val - 1) % 2) + r.val = r.val; omega)
  have r1 : ∀ r : Fin 2048, row t r = ⟨2048 + r.val, by omega⟩ := fun r =>
    Fin.ext (by show 2048 * (t.val % 2) + r.val = 2048 + r.val; omega)
  rw [o]
  simp only [r0, r1]

/-- The result after the run. -/
theorem arr_result : (dats m 0 d).arrAt 2 cfg0.N = fun i : S4x1x1408x1024.Idx => total m d (i 0) (i 2) (i 3) := by
  have hi : ∀ t : Fin cfg0.N, win0_2.index t 0 = t.val / 2 ∧ win0_2.index t 1 = 0 ∧ win0_2.index t 2 = 0 ∧ win0_2.index t 3 = 0 :=
    (by decide +kernel : ∀ t : Fin grid0.N, win0_2.index t 0 = t.val / 2 ∧ win0_2.index t 1 = 0 ∧ win0_2.index t 2 = 0 ∧ win0_2.index t 3 = 0)
  have hf : ∀ t : Fin cfg0.N, (cfg0.win 2).flush t = true → t.val % 2 = 1 :=
    (by decide +kernel : ∀ t : Fin grid0.N, win0_2.flush t = true → t.val % 2 = 1)
  have hg : ∀ t : Fin cfg0.N, t.val % 2 = 1 → (cfg0.win 2).flush t = true :=
    (by decide +kernel : ∀ t : Fin grid0.N, t.val % 2 = 1 → win0_2.flush t = true)
  refine (dats m 0 d).arrAt_eq_of_cover 2 _ ?_ ?_
  · intro t ht
    rw [Value.flushed2]
    funext j
    rw [View.read_apply]
    change S1x1x1408x1024.Idx at j
    obtain ⟨p, q, k, l, rfl⟩ := split4 j
    obtain rfl : p = 0 := Subsingleton.elim _ _
    obtain rfl : q = 0 := Subsingleton.elim _ _
    have a0 : (((cfg0.win 2).blk t).view.emb (ix4 0 0 k l) : S4x1x1408x1024.Idx) 0 = out t :=
      Fin.ext (by show win0_2.index t 0 * 1 + 1 * 0 = t.val / 2; rw [(hi t).1]; omega)
    have a2 : (((cfg0.win 2).blk t).view.emb (ix4 0 0 k l) : S4x1x1408x1024.Idx) 2 = k :=
      Fin.ext (by show win0_2.index t 2 * 1408 + 1 * k.val = k.val; rw [(hi t).2.2.1]; omega)
    have a3 : (((cfg0.win 2).blk t).view.emb (ix4 0 0 k l) : S4x1x1408x1024.Idx) 3 = l :=
      Fin.ext (by show win0_2.index t 3 * 1024 + 1 * l.val = l.val; rw [(hi t).2.2.2]; omega)
    show _ = total m d _ _ _
    rw [a0, a2, a3]
    exact outs_total m d t (hf t ht) k l
  · exact (by decide +kernel : (cfg0.win 2).Covers).cover _ (Memref.isWhole_whole _)

end
end Cert.DwInKernelIdeal.Blocks
end
-- ==== Proof.DwInReference.lean ====
/- What the reference of the feed-forward input weights' gradient computes, entry by entry. -/
module

public import proofs.«01_k».proof.Proof.Gen.DwInReferenceIdeal.Read
public import proofs.«01_k».proof.Proof.FfnMath

@[expose] public section

noncomputable section

namespace Cert.DwInReferenceIdeal.Rows

open Gen Read Cert.Ffn Idealize.ShloMosaic Idealize.ShloMosaic.TcCoe
  Idealize.SL.Sem

set_option maxRecDepth 65536

local notation "𝕀" => Idealize.ShloMosaic.Ideal

section
variable (x0 : S2x4096x2816.Idx → EReal) (x1 : S4096x1024.Idx → EReal) (x2 : S1024.Idx → EReal)

/-- The normed input at row `n`, lane `l`. -/
theorem normed_apply (n : Fin 4096) (l : Fin 1024) :
    val_main_v12 (F := 𝕀) x1 x2 (ix2 n l) = normed (fun l => x1 (ix2 n l)) (fun l => x2 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The two halves' gradients side by side. -/
theorem both_apply (p : Fin 4) (n : Fin 4096) (k : Fin 1408) :
    val_main_v18 (F := 𝕀) x0 (ix2 n ⟨1408 * p.val + k.val, by omega⟩)
      = x0 (ix3 ⟨p.val / 2, by omega⟩ n ⟨1408 * (p.val % 2) + k.val, by omega⟩) := by
  have g : ∀ i, val_main_v15 (F := 𝕀) x0 i = x0 (ix3 0 (i 0) (i 1)) := by
    intro i
    obtain ⟨a, b, rfl⟩ := split2 i
    unfold val_main_v15 val_main_v14 val_main_v13; pointwise
  have u : ∀ i, val_main_v17 (F := 𝕀) x0 i = x0 (ix3 1 (i 0) (i 1)) := by
    intro i
    obtain ⟨a, b, rfl⟩ := split2 i
    unfold val_main_v17 val_main_v16 val_main_v13; pointwise
  unfold val_main_v18
  generalize val_main_v15 (F := 𝕀) x0 = G at g
  generalize val_main_v17 (F := 𝕀) x0 = U at u
  pointwise
  split
  · rw [g]
    congr 1; funext a; apply Fin.ext
    match a with
    | ⟨0, _⟩ => show 0 = p.val / 2; omega
    | ⟨1, _⟩ => rfl
    | ⟨2, _⟩ => show 1408 * p.val + k.val = 1408 * (p.val % 2) + k.val; omega
  · rw [u]
    congr 1; funext a; apply Fin.ext
    match a with
    | ⟨0, _⟩ => show 1 = p.val / 2; omega
    | ⟨1, _⟩ => rfl
    | ⟨2, _⟩ => show 1408 * p.val + k.val - 2816 = 1408 * (p.val % 2) + k.val; omega

/-- The result at block `p`, entry `k`, `l`. -/
theorem result_apply (p : Fin 4) (q : Fin 1) (k : Fin 1408) (l : Fin 1024) :
    val_main_v25 (F := 𝕀) x0 x1 x2 (ix4 p q k l)
      = ∑ n : Fin 4096, x0 (ix3 ⟨p.val / 2, by omega⟩ n ⟨1408 * (p.val % 2) + k.val, by omega⟩)
          * normed (fun l => x1 (ix2 n l)) (fun l => x2 (ix1 l)) l := by
  obtain rfl : q = 0 := Subsingleton.elim _ _
  rw [val_main_v25_apply]
  show val_main_v24 (F := 𝕀) x0 x1 x2 (ix4 p 0 k l) = _
  rw [val_main_v24_apply]
  have e24 : idx_main_v24 (ix4 p 0 k l) = ix2 ⟨1408 * p.val + k.val, by omega⟩ l := by
    funext a; apply Fin.ext
    match a with
    | ⟨0, _⟩ => show (((p.val * 1 + 0) * 1408 + k.val) * 1024 + l.val) / 1024 = 1408 * p.val + k.val; omega
    | ⟨1, _⟩ => show (((p.val * 1 + 0) * 1408 + k.val) * 1024 + l.val) % 1024 = l.val; omega
  rw [e24, val_main_v23_apply, val_main_v22_apply, val_main_v21_apply]
  refine Finset.sum_congr rfl fun n _ => ?_
  have el : lidx_main_v21 (idx_main_v22 (idx_main_v23 (ix2 ⟨1408 * p.val + k.val, by omega⟩ l))) n
      = ix2 n ⟨1408 * p.val + k.val, by omega⟩ := by
    funext a; apply Fin.ext
    match a with
    | ⟨0, _⟩ => rfl
    | ⟨1, _⟩ => rfl
  have er : ridx_main_v21 (idx_main_v22 (idx_main_v23 (ix2 ⟨1408 * p.val + k.val, by omega⟩ l))) n = ix2 n l := by
    funext a; apply Fin.ext
    match a with
    | ⟨0, _⟩ => rfl
    | ⟨1, _⟩ => rfl
  rw [el, er, normed_apply, both_apply]

end
end Cert.DwInReferenceIdeal.Rows
end
-- ==== Proof.ConvInArrays.lean ====
/- The convolution's input product as the kernel computes it: the norm of each row and its product with the three
   blocks of the weights. -/
module

public import proofs.«01_k».proof.Proof.Gen.ConvInKernelIdeal.Value
public import proofs.«01_k».proof.Proof.FfnMath

@[expose] public section

noncomputable section

namespace Cert.ConvInKernelIdeal.Blocks

open Gen Cert.Ffn Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (x0 : Vec 𝕀 S512x1024 .f32) (x1 : Vec 𝕀 S1x1024 .f32)

/-- The normed row a point stores. -/
theorem norm_apply (r : Fin 512) (l : Fin 1024) :
    k0_pay2 x0 x1 (ix2 r l) = normed (fun l => x0 (ix2 r l)) (fun l => x1 (ix2 0 l)) l := by
  unfold_payloads; pointwise; rfl

/-- The product with one block of the weights. -/
theorem prod0 (v : Vec 𝕀 S1x1x1024x1024 .bf16) (q : Fin 1) (r : Fin 512) (j : Fin 1024) :
    k0_pay3 x0 x1 v (ix3 q r j)
      = ∑ k : Fin 1024, normed (fun l => x0 (ix2 r l)) (fun l => x1 (ix2 0 l)) k * v (ix4 0 0 k j) := by
  have e := norm_apply x0 x1
  unfold k0_pay3
  generalize k0_pay2 x0 x1 = G at e
  pointwise
  simp only [e]

/-- The product with one block of the weights. -/
theorem prod1 (v : Vec 𝕀 S1x1x1024x1024 .bf16) (q : Fin 1) (r : Fin 512) (j : Fin 1024) :
    k0_pay4 x0 x1 v (ix3 q r j)
      = ∑ k : Fin 1024, normed (fun l => x0 (ix2 r l)) (fun l => x1 (ix2 0 l)) k * v (ix4 0 0 k j) := by
  have e := norm_apply x0 x1
  unfold k0_pay4
  generalize k0_pay2 x0 x1 = G at e
  pointwise
  simp only [e]

/-- The product with one block of the weights. -/
theorem prod2 (v : Vec 𝕀 S1x1x1024x1024 .bf16) (q : Fin 1) (r : Fin 512) (j : Fin 1024) :
    k0_pay1 (k0_pay2 x0 x1) v (ix3 q r j)
      = ∑ k : Fin 1024, normed (fun l => x0 (ix2 r l)) (fun l => x1 (ix2 0 l)) k * v (ix4 0 0 k j) := by
  have e := norm_apply x0 x1
  unfold k0_pay1
  generalize k0_pay2 x0 x1 = G at e
  pointwise
  simp only [e]

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The norm's scale. -/
def g (l : Fin 1024) : EReal := (m (d.tc.loc main_arg1) : Vec 𝕀 S1024 .f32) (ix1 l)

/-- The weights: entry `k` of lane `j` of block `p`. -/
def w (k : Fin 1024) (p : Fin 3) (j : Fin 1024) : EReal :=
  (m (d.tc.loc main_arg2) : Vec 𝕀 S1024x3072 .f32) (ix2 k ⟨p.val * 1024 + j.val, by omega⟩)

theorem V0 (n : Fin 4096) (l : Fin 1024) : (V m d main_arg0 : Vec 𝕀 S4096x1024 .f32) (ix2 n l) = x m d n l := by
  rw [V_main_arg0]; rfl

theorem V1 (l : Fin 1024) : (V m d main_v0 : Vec 𝕀 S1x1024 .f32) (ix2 0 l) = g m d l := by
  entry_read
  pointwise
  rfl

theorem V2 (p : Fin 3) (k j : Fin 1024) :
    (V m d main_v4 : Vec 𝕀 S3x1x1024x1024 .bf16) (ix4 p 0 k j) = w m d k p j := by
  entry_read
  pointwise
  rfl

theorem blk0 (t : Fin cfg0.N) (r : Fin 512) (l : Fin 1024) :
    (iblk m d 0 t : Vec 𝕀 S512x1024 .f32) (ix2 r l) = (V m d main_arg0 : Vec 𝕀 S4096x1024 .f32) (ix2 (row t r) l) := by
  have hi := (by decide +kernel : ∀ t : Fin grid0.N, win0_0.index t 0 = t.val ∧ win0_0.index t 1 = 0) t
  unfold iblk
  rw [View.read_apply]
  refine congrArg (V m d main_arg0 : Vec 𝕀 S4096x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (t : Fin cfg0.N) (q : Fin 1) (l : Fin 1024) :
    (iblk m d 1 t : Vec 𝕀 S1x1024 .f32) (ix2 q l) = (V m d main_v0 : Vec 𝕀 S1x1024 .f32) (ix2 q l) := by
  have hi := (by decide +kernel : ∀ t : Fin grid0.N, win0_1.index t 0 = 0 ∧ win0_1.index t 1 = 0) t
  unfold iblk
  rw [View.read_apply]
  refine congrArg (V m d main_v0 : Vec 𝕀 S1x1024 .f32) (funext fun a => Fin.ext ?_)
  match a with
  | ⟨0, _⟩ => show win0_1.index t 0 * 1 + 1 * q.val = q.val; rw [hi.1]; omega
  | ⟨1, _⟩ => show win0_1.index t 1 * 1024 + 1 * l.val = l.val; rw [hi.2]; omega

theorem blk2 (t : Fin cfg0.N) (p : Fin 3) (q : Fin 1) (k : Fin 1024) (j : Fin 1024) :
    (iblk m d 2 t : Vec 𝕀 S3x1x1024x1024 .bf16) (ix4 p q k j) = (V m d main_v4 : Vec 𝕀 S3x1x1024x1024 .bf16) (ix4 p q k j) := by
  have hi := (by decide +kernel : ∀ t : Fin grid0.N, win0_2.index t 0 = 0 ∧ win0_2.index t 1 = 0 ∧ win0_2.index t 2 = 0 ∧ win0_2.index t 3 = 0) t
  unfold iblk
  rw [View.read_apply]
  refine congrArg (V m d main_v4 : Vec 𝕀 S3x1x1024x1024 .bf16) (funext fun a => Fin.ext ?_)
  match a with
  | ⟨0, _⟩ => show win0_2.index t 0 * 3 + 1 * p.val = p.val; rw [hi.1]; omega
  | ⟨1, _⟩ => show win0_2.index t 1 * 1 + 1 * q.val = q.val; rw [hi.2.1]; omega
  | ⟨2, _⟩ => show win0_2.index t 2 * 1024 + 1 * k.val = k.val; rw [hi.2.2.1]; omega
  | ⟨3, _⟩ => show win0_2.index t 3 * 1024 + 1 * j.val = j.val; rw [hi.2.2.2]; omega

/-- The normed input of the layer. -/
def xn (n : Fin 4096) (l : Fin 1024) : EReal := normed (x m d n) (g m d) l

/-- The input product, block `p`. -/
def proj (p : Fin 3) (n : Fin 4096) (j : Fin 1024) : EReal := ∑ k : Fin 1024, xn m d n k * w m d k p j

theorem xn_eq (t : Fin cfg0.N) (r : Fin 512) (l : Fin 1024) :
    normed (fun l => (iblk m d 0 t : Vec 𝕀 S512x1024 .f32) (ix2 r l)) (fun l => (iblk m d 1 t : Vec 𝕀 S1x1024 .f32) (ix2 0 l)) l
      = xn m d (row t r) l := by
  unfold xn
  exact congrArg₂ (normed · · l) (funext fun l => (blk0 m d t r l).trans (V0 m d _ l))
    (funext fun l => (blk1 m d t 0 l).trans (V1 m d l))

theorem out3_apply (t : Fin cfg0.N) (r : Fin 512) (l : Fin 1024) :
    out0_3 (iblk m d 0 t) (iblk m d 1 t) (iblk m d 2 t) (ix2 r l) = xn m d (row t r) l := by
  unfold out0_3 r0_0 r0_1
  rw [View.canon_unit_zero (S := S512x1024) hz2, View.ld_unit_zero (S := S512x1024) hz2,
    View.ld_unit_zero (S := S1x1024) hz2, norm_apply]
  exact xn_eq m d t r l

/-- The blocks' tiles as one array. -/
def blkOut (t : Fin cfg0.N) : Vec 𝕀 S3x512x1024 .bf16 := fun i => proj m d (i 0) (row t (i 1)) (i 2)

theorem block_eq (t : Fin cfg0.N) (p : Fin 3) (inb : ∀ a, ![p.val, 0, 0, 0] a + ![1, 1, 1024, 1024] a ≤ S3x1x1024x1024.size a)
    (inb' : ∀ a, ![p.val, 0, 0] a + ![1, 512, 1024] a ≤ S3x512x1024.size a) (r : Fin 512) (j : Fin 1024) :
    (∑ k : Fin 1024, normed (fun l => (iblk m d 0 t : Vec 𝕀 S512x1024 .f32) (ix2 r l))
          (fun l => (iblk m d 1 t : Vec 𝕀 S1x1024 .f32) (ix2 0 l)) k
        * (View.ld (iblk m d 2 t : Vec 𝕀 S3x1x1024x1024 .bf16) (Rect.unit ![p.val, 0, 0, 0] ![1, 1, 1024, 1024] inb) (ix4 0 0 k j) : EReal))
      = blkOut m d t ((Rect.unit (s := S3x512x1024) ![p.val, 0, 0] ![1, 512, 1024] inb').emb (ix3 0 r j)) := by
  have a0 : (Rect.unit (s := S3x512x1024) ![p.val, 0, 0] ![1, 512, 1024] inb').emb (ix3 0 r j) 0 = p :=
    Fin.ext (by show p.val + 1 * 0 = p.val; omega)
  have a1 : (Rect.unit (s := S3x512x1024) ![p.val, 0, 0] ![1, 512, 1024] inb').emb (ix3 0 r j) 1 = r :=
    Fin.ext (by show 0 + 1 * r.val = r.val; omega)
  have a2 : (Rect.unit (s := S3x512x1024) ![p.val, 0, 0] ![1, 512, 1024] inb').emb (ix3 0 r j) 2 = j :=
    Fin.ext (by show 0 + 1 * j.val = j.val; omega)
  unfold blkOut proj
  rw [a0, a1, a2]
  refine Finset.sum_congr rfl fun k _ => congrArg₂ (· * · : EReal → EReal → EReal) (xn_eq m d t r k) ?_
  have e : (Rect.unit (s := S3x1x1024x1024) ![p.val, 0, 0, 0] ![1, 1, 1024, 1024] inb).emb (ix4 0 0 k j) = ix4 p 0 k j := by
    funext a; apply Fin.ext
    match a with
    | ⟨0, _⟩ => show p.val + 1 * 0 = p.val; omega
    | ⟨1, _⟩ => rfl
    | ⟨2, _⟩ => show 0 + 1 * k.val = k.val; omega
    | ⟨3, _⟩ => show 0 + 1 * j.val = j.val; omega
  exact (congrArg (iblk m d 2 t : Vec 𝕀 S3x1x1024x1024 .bf16) e).trans ((blk2 m d t p 0 k j).trans (V2 m d p k j))

theorem out4_eq (t : Fin cfg0.N) : out0_4 (iblk m d 0 t) (iblk m d 1 t) (iblk m d 2 t) = blkOut m d t := by
  funext y
  unfold out0_4
  refine View.canon_apply_of_pieces (blkOut m d t) _ ?_ y (cover0_4 _ _ _ y)
  intro p hp
  simp only [List.mem_cons, List.not_mem_nil, or_false] at hp
  rcases hp with rfl | rfl | rfl
  · intro z
    obtain ⟨a, r, j, rfl⟩ := split3 z
    obtain rfl : a = 0 := Subsingleton.elim _ _
    refine (prod2 _ _ _ 0 r j).trans ?_
    unfold r0_0 r0_1 r0_6 r0_7
    rw [View.ld_unit_zero (S := S512x1024) hz2, View.ld_unit_zero (S := S1x1024) hz2]
    exact block_eq m d t 2 inb_S3x1x1024x1024_S1x1x1024x1024_2_0_0_0 inb_S3x512x1024_S1x512x1024_2_0_0 r j
  · intro z
    obtain ⟨a, r, j, rfl⟩ := split3 z
    obtain rfl : a = 0 := Subsingleton.elim _ _
    refine (prod1 _ _ _ 0 r j).trans ?_
    unfold r0_0 r0_1 r0_4 r0_5
    rw [View.ld_unit_zero (S := S512x1024) hz2, View.ld_unit_zero (S := S1x1024) hz2]
    exact block_eq m d t 1 inb_S3x1x1024x1024_S1x1x1024x1024_1_0_0_0 inb_S3x512x1024_S1x512x1024_1_0_0 r j
  · intro z
    obtain ⟨a, r, j, rfl⟩ := split3 z
    obtain rfl : a = 0 := Subsingleton.elim _ _
    refine (prod0 _ _ _ 0 r j).trans ?_
    unfold r0_0 r0_1 r0_2 r0_3
    rw [View.ld_unit_zero (S := S512x1024) hz2, View.ld_unit_zero (S := S1x1024) hz2]
    exact block_eq m d t 0 inb_S3x1x1024x1024_S1x1x1024x1024_0_0_0_0 inb_S3x512x1024_S1x512x1024_0_0_0 r j

/-- The normed input after the run. -/
theorem arr3 : (dats m 0 d).arrAt 3 cfg0.N = fun i : S4096x1024.Idx => xn m d (i 0) (i 1) := by
  have hi : ∀ t : Fin cfg0.N, win0_3.index t 0 = t.val ∧ win0_3.index t 1 = 0 :=
    (by decide +kernel : ∀ t : Fin grid0.N, win0_3.index t 0 = t.val ∧ win0_3.index t 1 = 0)
  refine (dats m 0 d).arrAt_eq_of_cover 3 _ ?_ ?_
  · intro t ht
    rw [Value.flushed3]
    funext y
    rw [View.read_apply]
    change S512x1024.Idx at y
    obtain ⟨r, l, rfl⟩ := split2 y
    have a0 : (((cfg0.win 3).blk t).view.emb (ix2 r l) : S4096x1024.Idx) 0 = row t r :=
      Fin.ext (by show win0_3.index t 0 * 512 + 1 * r.val = 512 * t.val + r.val; rw [(hi t).1]; omega)
    have a1 : (((cfg0.win 3).blk t).view.emb (ix2 r l) : S4096x1024.Idx) 1 = l :=
      Fin.ext (by show win0_3.index t 1 * 1024 + 1 * l.val = l.val; rw [(hi t).2]; omega)
    show _ = xn m d _ _
    rw [a0, a1]
    exact out3_apply m d t r l
  · exact (by decide +kernel : (cfg0.win 3).Covers).cover _ (Memref.isWhole_whole _)

/-- The product after the run. -/
theorem arr4 : (dats m 0 d).arrAt 4 cfg0.N = fun i : S3x4096x1024.Idx => proj m d (i 0) (i 1) (i 2) := by
  have hi : ∀ t : Fin cfg0.N, win0_4.index t 0 = 0 ∧ win0_4.index t 1 = t.val ∧ win0_4.index t 2 = 0 :=
    (by decide +kernel : ∀ t : Fin grid0.N, win0_4.index t 0 = 0 ∧ win0_4.index t 1 = t.val ∧ win0_4.index t 2 = 0)
  refine (dats m 0 d).arrAt_eq_of_cover 4 _ ?_ ?_
  · intro t ht
    rw [Value.flushed4, out4_eq]
    funext y
    rw [View.read_apply]
    change S3x512x1024.Idx at y
    obtain ⟨p, r, j, rfl⟩ := split3 y
    have a0 : (((cfg0.win 4).blk t).view.emb (ix3 p r j) : S3x4096x1024.Idx) 0 = p :=
      Fin.ext (by show win0_4.index t 0 * 3 + 1 * p.val = p.val; rw [(hi t).1]; omega)
    have a1 : (((cfg0.win 4).blk t).view.emb (ix3 p r j) : S3x4096x1024.Idx) 1 = row t r :=
      Fin.ext (by show win0_4.index t 1 * 512 + 1 * r.val = 512 * t.val + r.val; rw [(hi t).2.1]; omega)
    have a2 : (((cfg0.win 4).blk t).view.emb (ix3 p r j) : S3x4096x1024.Idx) 2 = j :=
      Fin.ext (by show win0_4.index t 2 * 1024 + 1 * j.val = j.val; rw [(hi t).2.2]; omega)
    show _ = proj m d _ _ _
    rw [a0, a1, a2]
    rfl
  · exact (by decide +kernel : (cfg0.win 4).Covers).cover _ (Memref.isWhole_whole _)

end
end Cert.ConvInKernelIdeal.Blocks
end
-- ==== Proof.ConvInReference.lean ====
/- What the reference of the convolution's input product computes, entry by entry. -/
module

public import proofs.«01_k».proof.Proof.Gen.ConvInReferenceIdeal.Read
public import proofs.«01_k».proof.Proof.FfnMath

@[expose] public section

noncomputable section

namespace Cert.ConvInReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S1024.Idx → EReal) (x2 : S1024x3072.Idx → EReal)

/-- The normed input at row `n`, lane `l`. -/
theorem normed_apply (n : Fin 4096) (l : Fin 1024) :
    val_main_v12 (F := 𝕀) x0 x1 (ix2 n l) = normed (fun l => x0 (ix2 n l)) (fun l => x1 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The normed input the reference returns. -/
theorem xn_apply (n : Fin 4096) (l : Fin 1024) :
    val_main_v13 (F := 𝕀) x0 x1 (ix2 n l) = normed (fun l => x0 (ix2 n l)) (fun l => x1 (ix1 l)) l := by
  rw [← normed_apply]
  rfl

/-- The product at row `n`, lane `j` of the weights. -/
theorem prod_apply (n : Fin 4096) (j : Fin 3072) :
    val_main_v14 (F := 𝕀) x0 x1 x2 (ix2 n j)
      = ∑ k : Fin 1024, normed (fun l => x0 (ix2 n l)) (fun l => x1 (ix1 l)) k * x2 (ix2 k j) := by
  have e := normed_apply x0 x1
  unfold val_main_v14
  generalize val_main_v12 (F := 𝕀) x0 x1 = G at e
  pointwise
  simp only [e]

/-- The blocks the reference returns. -/
theorem proj_apply (p : Fin 3) (n : Fin 4096) (j : Fin 1024) :
    val_main_v22 (F := 𝕀) x0 x1 x2 (ix3 p n j)
      = ∑ k : Fin 1024, normed (fun l => x0 (ix2 n l)) (fun l => x1 (ix1 l)) k
          * x2 (ix2 k ⟨p.val * 1024 + j.val, by omega⟩) := by
  rw [← prod_apply]
  unfold val_main_v22 val_main_v21 val_main_v20 val_main_v19 val_main_v18 val_main_v17 val_main_v16 val_main_v15
  generalize val_main_v14 (F := 𝕀) x0 x1 x2 = G
  pointwise
  split
  · congr 1; funext a; apply Fin.ext
    match a with
    | ⟨0, _⟩ => rfl
    | ⟨1, _⟩ => show j.val = p.val * 1024 + j.val; omega
  · split
    · congr 1; funext a; apply Fin.ext
      match a with
      | ⟨0, _⟩ => rfl
      | ⟨1, _⟩ => show 1024 + j.val = p.val * 1024 + j.val; omega
    · congr 1; funext a; apply Fin.ext
      match a with
      | ⟨0, _⟩ => rfl
      | ⟨1, _⟩ => show 2048 + j.val = p.val * 1024 + j.val; omega

end
end Cert.ConvInReferenceIdeal.Rows
end
-- ==== Proof.QgInArrays.lean ====
/- The attention's query and gate product as the kernel computes it: the norm of each row and its product with the two
   blocks of the weights. -/
module

public import proofs.«01_k».proof.Proof.Gen.QgInKernelIdeal.Value
public import proofs.«01_k».proof.Proof.FfnMath

@[expose] public section

noncomputable section

namespace Cert.QgInKernelIdeal.Blocks

open Gen Cert.Ffn Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (x0 : Vec 𝕀 S512x1024 .f32) (x1 : Vec 𝕀 S1x1024 .f32)

/-- The normed row a point stores. -/
theorem norm_apply (r : Fin 512) (l : Fin 1024) :
    k0_pay1 x0 x1 (ix2 r l) = normed (fun l => x0 (ix2 r l)) (fun l => x1 (ix2 0 l)) l := by
  unfold_payloads; pointwise; rfl

/-- The product with one block of the weights. -/
theorem prod0 (v : Vec 𝕀 S1x1x1024x1024 .bf16) (q : Fin 1) (r : Fin 512) (j : Fin 1024) :
    k0_pay2 x0 x1 v (ix3 q r j)
      = ∑ k : Fin 1024, normed (fun l => x0 (ix2 r l)) (fun l => x1 (ix2 0 l)) k * v (ix4 0 0 k j) := by
  have e := norm_apply x0 x1
  unfold k0_pay2
  generalize k0_pay1 x0 x1 = G at e
  pointwise
  simp only [e]

/-- The product with one block of the weights. -/
theorem prod1 (v : Vec 𝕀 S1x1x1024x1024 .bf16) (q : Fin 1) (r : Fin 512) (j : Fin 1024) :
    k0_pay3 x0 x1 v (ix3 q r j)
      = ∑ k : Fin 1024, normed (fun l => x0 (ix2 r l)) (fun l => x1 (ix2 0 l)) k * v (ix4 0 0 k j) := by
  have e := norm_apply x0 x1
  unfold k0_pay3
  generalize k0_pay1 x0 x1 = G at e
  pointwise
  simp only [e]

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The norm's scale. -/
def g (l : Fin 1024) : EReal := (m (d.tc.loc main_arg1) : Vec 𝕀 S1024 .f32) (ix1 l)

/-- The weights: entry `k` of lane `j` of block `p`. -/
def w (k : Fin 1024) (p : Fin 2) (j : Fin 1024) : EReal :=
  (m (d.tc.loc main_arg2) : Vec 𝕀 S1024x2048 .f32) (ix2 k ⟨p.val * 1024 + j.val, by omega⟩)

theorem V0 (n : Fin 4096) (l : Fin 1024) : (V m d main_arg0 : Vec 𝕀 S4096x1024 .f32) (ix2 n l) = x m d n l := by
  rw [V_main_arg0]; rfl

theorem V1 (l : Fin 1024) : (V m d main_v0 : Vec 𝕀 S1x1024 .f32) (ix2 0 l) = g m d l := by
  entry_read
  pointwise
  rfl

theorem V2 (p : Fin 2) (k j : Fin 1024) :
    (V m d main_v4 : Vec 𝕀 S2x1x1024x1024 .bf16) (ix4 p 0 k j) = w m d k p j := by
  entry_read
  pointwise
  rfl

theorem blk0 (t : Fin cfg0.N) (r : Fin 512) (l : Fin 1024) :
    (iblk m d 0 t : Vec 𝕀 S512x1024 .f32) (ix2 r l) = (V m d main_arg0 : Vec 𝕀 S4096x1024 .f32) (ix2 (row t r) l) := by
  have hi := (by decide +kernel : ∀ t : Fin grid0.N, win0_0.index t 0 = t.val ∧ win0_0.index t 1 = 0) t
  unfold iblk
  rw [View.read_apply]
  refine congrArg (V m d main_arg0 : Vec 𝕀 S4096x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (t : Fin cfg0.N) (q : Fin 1) (l : Fin 1024) :
    (iblk m d 1 t : Vec 𝕀 S1x1024 .f32) (ix2 q l) = (V m d main_v0 : Vec 𝕀 S1x1024 .f32) (ix2 q l) := by
  have hi := (by decide +kernel : ∀ t : Fin grid0.N, win0_1.index t 0 = 0 ∧ win0_1.index t 1 = 0) t
  unfold iblk
  rw [View.read_apply]
  refine congrArg (V m d main_v0 : Vec 𝕀 S1x1024 .f32) (funext fun a => Fin.ext ?_)
  match a with
  | ⟨0, _⟩ => show win0_1.index t 0 * 1 + 1 * q.val = q.val; rw [hi.1]; omega
  | ⟨1, _⟩ => show win0_1.index t 1 * 1024 + 1 * l.val = l.val; rw [hi.2]; omega

theorem blk2 (t : Fin cfg0.N) (p : Fin 2) (q : Fin 1) (k : Fin 1024) (j : Fin 1024) :
    (iblk m d 2 t : Vec 𝕀 S2x1x1024x1024 .bf16) (ix4 p q k j) = (V m d main_v4 : Vec 𝕀 S2x1x1024x1024 .bf16) (ix4 p q k j) := by
  have hi := (by decide +kernel : ∀ t : Fin grid0.N, win0_2.index t 0 = 0 ∧ win0_2.index t 1 = 0 ∧ win0_2.index t 2 = 0 ∧ win0_2.index t 3 = 0) t
  unfold iblk
  rw [View.read_apply]
  refine congrArg (V m d main_v4 : Vec 𝕀 S2x1x1024x1024 .bf16) (funext fun a => Fin.ext ?_)
  match a with
  | ⟨0, _⟩ => show win0_2.index t 0 * 2 + 1 * p.val = p.val; rw [hi.1]; omega
  | ⟨1, _⟩ => show win0_2.index t 1 * 1 + 1 * q.val = q.val; rw [hi.2.1]; omega
  | ⟨2, _⟩ => show win0_2.index t 2 * 1024 + 1 * k.val = k.val; rw [hi.2.2.1]; omega
  | ⟨3, _⟩ => show win0_2.index t 3 * 1024 + 1 * j.val = j.val; rw [hi.2.2.2]; omega

/-- The normed input of the layer. -/
def xn (n : Fin 4096) (l : Fin 1024) : EReal := normed (x m d n) (g m d) l

/-- The input product, block `p`. -/
def proj (p : Fin 2) (n : Fin 4096) (j : Fin 1024) : EReal := ∑ k : Fin 1024, xn m d n k * w m d k p j

theorem xn_eq (t : Fin cfg0.N) (r : Fin 512) (l : Fin 1024) :
    normed (fun l => (iblk m d 0 t : Vec 𝕀 S512x1024 .f32) (ix2 r l)) (fun l => (iblk m d 1 t : Vec 𝕀 S1x1024 .f32) (ix2 0 l)) l
      = xn m d (row t r) l := by
  unfold xn
  exact congrArg₂ (normed · · l) (funext fun l => (blk0 m d t r l).trans (V0 m d _ l))
    (funext fun l => (blk1 m d t 0 l).trans (V1 m d l))

theorem out3_apply (t : Fin cfg0.N) (r : Fin 512) (l : Fin 1024) :
    out0_3 (iblk m d 0 t) (iblk m d 1 t) (iblk m d 2 t) (ix2 r l) = xn m d (row t r) l := by
  unfold out0_3 r0_0 r0_1
  rw [View.canon_unit_zero (S := S512x1024) hz2, View.ld_unit_zero (S := S512x1024) hz2,
    View.ld_unit_zero (S := S1x1024) hz2, norm_apply]
  exact xn_eq m d t r l

/-- The blocks' tiles as one array. -/
def blkOut (t : Fin cfg0.N) : Vec 𝕀 S2x512x1024 .bf16 := fun i => proj m d (i 0) (row t (i 1)) (i 2)

theorem block_eq (t : Fin cfg0.N) (p : Fin 2) (inb : ∀ a, ![p.val, 0, 0, 0] a + ![1, 1, 1024, 1024] a ≤ S2x1x1024x1024.size a)
    (inb' : ∀ a, ![p.val, 0, 0] a + ![1, 512, 1024] a ≤ S2x512x1024.size a) (r : Fin 512) (j : Fin 1024) :
    (∑ k : Fin 1024, normed (fun l => (iblk m d 0 t : Vec 𝕀 S512x1024 .f32) (ix2 r l))
          (fun l => (iblk m d 1 t : Vec 𝕀 S1x1024 .f32) (ix2 0 l)) k
        * (View.ld (iblk m d 2 t : Vec 𝕀 S2x1x1024x1024 .bf16) (Rect.unit ![p.val, 0, 0, 0] ![1, 1, 1024, 1024] inb) (ix4 0 0 k j) : EReal))
      = blkOut m d t ((Rect.unit (s := S2x512x1024) ![p.val, 0, 0] ![1, 512, 1024] inb').emb (ix3 0 r j)) := by
  have a0 : (Rect.unit (s := S2x512x1024) ![p.val, 0, 0] ![1, 512, 1024] inb').emb (ix3 0 r j) 0 = p :=
    Fin.ext (by show p.val + 1 * 0 = p.val; omega)
  have a1 : (Rect.unit (s := S2x512x1024) ![p.val, 0, 0] ![1, 512, 1024] inb').emb (ix3 0 r j) 1 = r :=
    Fin.ext (by show 0 + 1 * r.val = r.val; omega)
  have a2 : (Rect.unit (s := S2x512x1024) ![p.val, 0, 0] ![1, 512, 1024] inb').emb (ix3 0 r j) 2 = j :=
    Fin.ext (by show 0 + 1 * j.val = j.val; omega)
  unfold blkOut proj
  rw [a0, a1, a2]
  refine Finset.sum_congr rfl fun k _ => congrArg₂ (· * · : EReal → EReal → EReal) (xn_eq m d t r k) ?_
  have e : (Rect.unit (s := S2x1x1024x1024) ![p.val, 0, 0, 0] ![1, 1, 1024, 1024] inb).emb (ix4 0 0 k j) = ix4 p 0 k j := by
    funext a; apply Fin.ext
    match a with
    | ⟨0, _⟩ => show p.val + 1 * 0 = p.val; omega
    | ⟨1, _⟩ => rfl
    | ⟨2, _⟩ => show 0 + 1 * k.val = k.val; omega
    | ⟨3, _⟩ => show 0 + 1 * j.val = j.val; omega
  exact (congrArg (iblk m d 2 t : Vec 𝕀 S2x1x1024x1024 .bf16) e).trans ((blk2 m d t p 0 k j).trans (V2 m d p k j))

theorem out4_eq (t : Fin cfg0.N) : out0_4 (iblk m d 0 t) (iblk m d 1 t) (iblk m d 2 t) = blkOut m d t := by
  funext y
  unfold out0_4
  refine View.canon_apply_of_pieces (blkOut m d t) _ ?_ y (cover0_4 _ _ y)
  intro p hp
  simp only [List.mem_cons, List.not_mem_nil, or_false] at hp
  rcases hp with rfl | rfl
  · intro z
    obtain ⟨a, r, j, rfl⟩ := split3 z
    obtain rfl : a = 0 := Subsingleton.elim _ _
    refine (prod1 _ _ _ 0 r j).trans ?_
    unfold r0_0 r0_1 r0_4 r0_5
    rw [View.ld_unit_zero (S := S512x1024) hz2, View.ld_unit_zero (S := S1x1024) hz2]
    exact block_eq m d t 1 inb_S2x1x1024x1024_S1x1x1024x1024_1_0_0_0 inb_S2x512x1024_S1x512x1024_1_0_0 r j
  · intro z
    obtain ⟨a, r, j, rfl⟩ := split3 z
    obtain rfl : a = 0 := Subsingleton.elim _ _
    refine (prod0 _ _ _ 0 r j).trans ?_
    unfold r0_0 r0_1 r0_2 r0_3
    rw [View.ld_unit_zero (S := S512x1024) hz2, View.ld_unit_zero (S := S1x1024) hz2]
    exact block_eq m d t 0 inb_S2x1x1024x1024_S1x1x1024x1024_0_0_0_0 inb_S2x512x1024_S1x512x1024_0_0_0 r j

/-- The normed input after the run. -/
theorem arr3 : (dats m 0 d).arrAt 3 cfg0.N = fun i : S4096x1024.Idx => xn m d (i 0) (i 1) := by
  have hi : ∀ t : Fin cfg0.N, win0_3.index t 0 = t.val ∧ win0_3.index t 1 = 0 :=
    (by decide +kernel : ∀ t : Fin grid0.N, win0_3.index t 0 = t.val ∧ win0_3.index t 1 = 0)
  refine (dats m 0 d).arrAt_eq_of_cover 3 _ ?_ ?_
  · intro t ht
    rw [Value.flushed3]
    funext y
    rw [View.read_apply]
    change S512x1024.Idx at y
    obtain ⟨r, l, rfl⟩ := split2 y
    have a0 : (((cfg0.win 3).blk t).view.emb (ix2 r l) : S4096x1024.Idx) 0 = row t r :=
      Fin.ext (by show win0_3.index t 0 * 512 + 1 * r.val = 512 * t.val + r.val; rw [(hi t).1]; omega)
    have a1 : (((cfg0.win 3).blk t).view.emb (ix2 r l) : S4096x1024.Idx) 1 = l :=
      Fin.ext (by show win0_3.index t 1 * 1024 + 1 * l.val = l.val; rw [(hi t).2]; omega)
    show _ = xn m d _ _
    rw [a0, a1]
    exact out3_apply m d t r l
  · exact (by decide +kernel : (cfg0.win 3).Covers).cover _ (Memref.isWhole_whole _)

/-- The product after the run. -/
theorem arr4 : (dats m 0 d).arrAt 4 cfg0.N = fun i : S2x4096x1024.Idx => proj m d (i 0) (i 1) (i 2) := by
  have hi : ∀ t : Fin cfg0.N, win0_4.index t 0 = 0 ∧ win0_4.index t 1 = t.val ∧ win0_4.index t 2 = 0 :=
    (by decide +kernel : ∀ t : Fin grid0.N, win0_4.index t 0 = 0 ∧ win0_4.index t 1 = t.val ∧ win0_4.index t 2 = 0)
  refine (dats m 0 d).arrAt_eq_of_cover 4 _ ?_ ?_
  · intro t ht
    rw [Value.flushed4, out4_eq]
    funext y
    rw [View.read_apply]
    change S2x512x1024.Idx at y
    obtain ⟨p, r, j, rfl⟩ := split3 y
    have a0 : (((cfg0.win 4).blk t).view.emb (ix3 p r j) : S2x4096x1024.Idx) 0 = p :=
      Fin.ext (by show win0_4.index t 0 * 2 + 1 * p.val = p.val; rw [(hi t).1]; omega)
    have a1 : (((cfg0.win 4).blk t).view.emb (ix3 p r j) : S2x4096x1024.Idx) 1 = row t r :=
      Fin.ext (by show win0_4.index t 1 * 512 + 1 * r.val = 512 * t.val + r.val; rw [(hi t).2.1]; omega)
    have a2 : (((cfg0.win 4).blk t).view.emb (ix3 p r j) : S2x4096x1024.Idx) 2 = j :=
      Fin.ext (by show win0_4.index t 2 * 1024 + 1 * j.val = j.val; rw [(hi t).2.2]; omega)
    show _ = proj m d _ _ _
    rw [a0, a1, a2]
    rfl
  · exact (by decide +kernel : (cfg0.win 4).Covers).cover _ (Memref.isWhole_whole _)

end
end Cert.QgInKernelIdeal.Blocks
end
-- ==== Proof.QgInReference.lean ====
/- What the reference of the attention's query and gate product computes, entry by entry. -/
module

public import proofs.«01_k».proof.Proof.Gen.QgInReferenceIdeal.Read
public import proofs.«01_k».proof.Proof.FfnMath

@[expose] public section

noncomputable section

namespace Cert.QgInReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S1024.Idx → EReal) (x2 : S1024x2048.Idx → EReal)

/-- The normed input at row `n`, lane `l`. -/
theorem normed_apply (n : Fin 4096) (l : Fin 1024) :
    val_main_v12 (F := 𝕀) x0 x1 (ix2 n l) = normed (fun l => x0 (ix2 n l)) (fun l => x1 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The normed input the reference returns. -/
theorem xn_apply (n : Fin 4096) (l : Fin 1024) :
    val_main_v13 (F := 𝕀) x0 x1 (ix2 n l) = normed (fun l => x0 (ix2 n l)) (fun l => x1 (ix1 l)) l := by
  rw [← normed_apply]
  rfl

/-- The product at row `n`, lane `j` of the weights. -/
theorem prod_apply (n : Fin 4096) (j : Fin 2048) :
    val_main_v14 (F := 𝕀) x0 x1 x2 (ix2 n j)
      = ∑ k : Fin 1024, normed (fun l => x0 (ix2 n l)) (fun l => x1 (ix1 l)) k * x2 (ix2 k j) := by
  have e := normed_apply x0 x1
  unfold val_main_v14
  generalize val_main_v12 (F := 𝕀) x0 x1 = G at e
  pointwise
  simp only [e]

/-- The blocks the reference returns. -/
theorem proj_apply (p : Fin 2) (n : Fin 4096) (j : Fin 1024) :
    val_main_v20 (F := 𝕀) x0 x1 x2 (ix3 p n j)
      = ∑ k : Fin 1024, normed (fun l => x0 (ix2 n l)) (fun l => x1 (ix1 l)) k
          * x2 (ix2 k ⟨p.val * 1024 + j.val, by omega⟩) := by
  rw [← prod_apply]
  unfold val_main_v20 val_main_v19 val_main_v18 val_main_v17 val_main_v16 val_main_v15
  generalize val_main_v14 (F := 𝕀) x0 x1 x2 = G
  pointwise
  split
  · congr 1; funext a; apply Fin.ext
    match a with
    | ⟨0, _⟩ => rfl
    | ⟨1, _⟩ => show j.val = p.val * 1024 + j.val; omega
  · congr 1; funext a; apply Fin.ext
    match a with
    | ⟨0, _⟩ => rfl
    | ⟨1, _⟩ => show 1024 + j.val = p.val * 1024 + j.val; omega

end
end Cert.QgInReferenceIdeal.Rows
end
-- ==== Proof.KvInArrays.lean ====
/- The shared keys, values and forget-gate inputs as the kernel computes them: the norm of each row and its products with
   the two blocks of the weights and with the forget gate's. -/
module

public import proofs.«01_k».proof.Proof.Gen.KvInKernelIdeal.Value
public import proofs.«01_k».proof.Proof.FfnMath

@[expose] public section

noncomputable section

namespace Cert.KvInKernelIdeal.Blocks

open Gen Cert.Ffn Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

/-- The word zero as a number. -/
theorem zero_word : (FloatOps.sitofp FTy.bf16 (0#32) : 𝕀 .bf16) = (0 : EReal) := by
  show (((0#32 : BitVec 32).toInt : ℝ) : EReal) = 0
  simp

section
variable (x0 : Vec 𝕀 S512x1024 .f32) (x1 : Vec 𝕀 S1x1024 .f32)

/-- The normed row a point stores. -/
theorem norm_apply (r : Fin 512) (l : Fin 1024) :
    k0_pay2 x0 x1 (ix2 r l) = normed (fun l => x0 (ix2 r l)) (fun l => x1 (ix2 0 l)) l := by
  unfold_payloads; pointwise; rfl

/-- The product with one block of the weights. -/
theorem prod0 (v : Vec 𝕀 S1x1x1024x1024 .bf16) (q : Fin 1) (r : Fin 512) (j : Fin 1024) :
    k0_pay3 x0 x1 v (ix3 q r j)
      = ∑ k : Fin 1024, normed (fun l => x0 (ix2 r l)) (fun l => x1 (ix2 0 l)) k * v (ix4 0 0 k j) := by
  have e := norm_apply x0 x1
  unfold k0_pay3
  generalize k0_pay2 x0 x1 = G at e
  pointwise
  simp only [e]

/-- The product with one block of the weights. -/
theorem prod1 (v : Vec 𝕀 S1x1x1024x1024 .bf16) (q : Fin 1) (r : Fin 512) (j : Fin 1024) :
    k0_pay4 x0 x1 v (ix3 q r j)
      = ∑ k : Fin 1024, normed (fun l => x0 (ix2 r l)) (fun l => x1 (ix2 0 l)) k * v (ix4 0 0 k j) := by
  have e := norm_apply x0 x1
  unfold k0_pay4
  generalize k0_pay2 x0 x1 = G at e
  pointwise
  simp only [e]

/-- The product with one block of the weights. -/
theorem prodF (v : Vec 𝕀 S1x1x1024x128 .bf16) (q : Fin 1) (r : Fin 512) (j : Fin 128) :
    k0_pay1 (k0_pay2 x0 x1) v (ix3 q r j)
      = ∑ k : Fin 1024, normed (fun l => x0 (ix2 r l)) (fun l => x1 (ix2 0 l)) k * v (ix4 0 0 k j) := by
  have e := norm_apply x0 x1
  unfold k0_pay1
  generalize k0_pay2 x0 x1 = G at e
  pointwise
  simp only [e]

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The norm's scale. -/
def g (l : Fin 1024) : EReal := (m (d.tc.loc main_arg1) : Vec 𝕀 S1024 .f32) (ix1 l)

/-- The weights: entry `k` of lane `j` of block `p`. -/
def w (k : Fin 1024) (p : Fin 2) (j : Fin 1024) : EReal :=
  (m (d.tc.loc main_arg2) : Vec 𝕀 S1024x2064 .f32) (ix2 k ⟨p.val * 1024 + j.val, by omega⟩)

theorem V0 (n : Fin 4096) (l : Fin 1024) : (V m d main_arg0 : Vec 𝕀 S4096x1024 .f32) (ix2 n l) = x m d n l := by
  rw [V_main_arg0]; rfl

theorem V1 (l : Fin 1024) : (V m d main_v9 : Vec 𝕀 S1x1024 .f32) (ix2 0 l) = g m d l := by
  unfold V
  simp only [hostOps0, hostOps0_1, hostOps0_2, List.flatten_cons, List.flatten_nil, List.cons_append, List.nil_append]
  after_results
  pointwise
  rfl

theorem V2 (p : Fin 2) (k j : Fin 1024) :
    (V m d main_v4 : Vec 𝕀 S2x1x1024x1024 .bf16) (ix4 p 0 k j) = w m d k p j := by
  unfold V
  simp only [hostOps0, hostOps0_1, hostOps0_2, List.flatten_cons, List.flatten_nil, List.cons_append, List.nil_append]
  after_results
  pointwise
  rfl

/-- The forget gate's weights: entry `k` of lane `j`, zero on the lanes past the heads. -/
def wf (k : Fin 1024) (j : Fin 128) : EReal :=
  if h : j.val < 16 then (m (d.tc.loc main_arg2) : Vec 𝕀 S1024x2064 .f32) (ix2 k ⟨2048 + j.val, by omega⟩) else 0

theorem V3 (k : Fin 1024) (j : Fin 128) :
    (V m d main_v8 : Vec 𝕀 S1x1x1024x128 .bf16) (ix4 0 0 k j) = wf m d k j := by
  unfold V
  simp only [hostOps0, hostOps0_1, hostOps0_2, List.flatten_cons, List.flatten_nil, List.cons_append, List.nil_append]
  after_results
  simp only [StableHlo.TRef.toBuf, StableHlo.TRef.ofBuf, cast_eq]
  pointwise
  unfold wf
  split
  · rfl
  · exact zero_word

theorem blk0 (t : Fin cfg0.N) (r : Fin 512) (l : Fin 1024) :
    (iblk m d 0 t : Vec 𝕀 S512x1024 .f32) (ix2 r l) = (V m d main_arg0 : Vec 𝕀 S4096x1024 .f32) (ix2 (row t r) l) := by
  have hi := (by decide +kernel : ∀ t : Fin grid0.N, win0_0.index t 0 = t.val ∧ win0_0.index t 1 = 0) t
  unfold iblk
  rw [View.read_apply]
  refine congrArg (V m d main_arg0 : Vec 𝕀 S4096x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (t : Fin cfg0.N) (q : Fin 1) (l : Fin 1024) :
    (iblk m d 1 t : Vec 𝕀 S1x1024 .f32) (ix2 q l) = (V m d main_v9 : Vec 𝕀 S1x1024 .f32) (ix2 q l) := by
  have hi := (by decide +kernel : ∀ t : Fin grid0.N, win0_1.index t 0 = 0 ∧ win0_1.index t 1 = 0) t
  unfold iblk
  rw [View.read_apply]
  refine congrArg (V m d main_v9 : Vec 𝕀 S1x1024 .f32) (funext fun a => Fin.ext ?_)
  match a with
  | ⟨0, _⟩ => show win0_1.index t 0 * 1 + 1 * q.val = q.val; rw [hi.1]; omega
  | ⟨1, _⟩ => show win0_1.index t 1 * 1024 + 1 * l.val = l.val; rw [hi.2]; omega

theorem blk2 (t : Fin cfg0.N) (p : Fin 2) (q : Fin 1) (k : Fin 1024) (j : Fin 1024) :
    (iblk m d 2 t : Vec 𝕀 S2x1x1024x1024 .bf16) (ix4 p q k j) = (V m d main_v4 : Vec 𝕀 S2x1x1024x1024 .bf16) (ix4 p q k j) := by
  have hi := (by decide +kernel : ∀ t : Fin grid0.N, win0_2.index t 0 = 0 ∧ win0_2.index t 1 = 0 ∧ win0_2.index t 2 = 0 ∧ win0_2.index t 3 = 0) t
  unfold iblk
  rw [View.read_apply]
  refine congrArg (V m d main_v4 : Vec 𝕀 S2x1x1024x1024 .bf16) (funext fun a => Fin.ext ?_)
  match a with
  | ⟨0, _⟩ => show win0_2.index t 0 * 2 + 1 * p.val = p.val; rw [hi.1]; omega
  | ⟨1, _⟩ => show win0_2.index t 1 * 1 + 1 * q.val = q.val; rw [hi.2.1]; omega
  | ⟨2, _⟩ => show win0_2.index t 2 * 1024 + 1 * k.val = k.val; rw [hi.2.2.1]; omega
  | ⟨3, _⟩ => show win0_2.index t 3 * 1024 + 1 * j.val = j.val; rw [hi.2.2.2]; omega

theorem blk3 (t : Fin cfg0.N) (p : Fin 1) (q : Fin 1) (k : Fin 1024) (j : Fin 128) :
    (iblk m d 3 t : Vec 𝕀 S1x1x1024x128 .bf16) (ix4 p q k j) = (V m d main_v8 : Vec 𝕀 S1x1x1024x128 .bf16) (ix4 p q k j) := by
  have hi := (by decide +kernel : ∀ t : Fin grid0.N, win0_3.index t 0 = 0 ∧ win0_3.index t 1 = 0 ∧ win0_3.index t 2 = 0 ∧ win0_3.index t 3 = 0) t
  unfold iblk
  rw [View.read_apply]
  refine congrArg (V m d main_v8 : Vec 𝕀 S1x1x1024x128 .bf16) (funext fun a => Fin.ext ?_)
  match a with
  | ⟨0, _⟩ => show win0_3.index t 0 * 1 + 1 * p.val = p.val; rw [hi.1]; omega
  | ⟨1, _⟩ => show win0_3.index t 1 * 1 + 1 * q.val = q.val; rw [hi.2.1]; omega
  | ⟨2, _⟩ => show win0_3.index t 2 * 1024 + 1 * k.val = k.val; rw [hi.2.2.1]; omega
  | ⟨3, _⟩ => show win0_3.index t 3 * 128 + 1 * j.val = j.val; rw [hi.2.2.2]; omega

/-- The normed input of the layer. -/
def xn (n : Fin 4096) (l : Fin 1024) : EReal := normed (x m d n) (g m d) l

/-- The input product, block `p`. -/
def proj (p : Fin 2) (n : Fin 4096) (j : Fin 1024) : EReal := ∑ k : Fin 1024, xn m d n k * w m d k p j

theorem xn_eq (t : Fin cfg0.N) (r : Fin 512) (l : Fin 1024) :
    normed (fun l => (iblk m d 0 t : Vec 𝕀 S512x1024 .f32) (ix2 r l)) (fun l => (iblk m d 1 t : Vec 𝕀 S1x1024 .f32) (ix2 0 l)) l
      = xn m d (row t r) l := by
  unfold xn
  exact congrArg₂ (normed · · l) (funext fun l => (blk0 m d t r l).trans (V0 m d _ l))
    (funext fun l => (blk1 m d t 0 l).trans (V1 m d l))

theorem out4_apply (t : Fin cfg0.N) (r : Fin 512) (l : Fin 1024) :
    out0_4 (iblk m d 0 t) (iblk m d 1 t) (iblk m d 2 t) (iblk m d 3 t) (ix2 r l) = xn m d (row t r) l := by
  unfold out0_4 r0_0 r0_1
  rw [View.canon_unit_zero (S := S512x1024) hz2, View.ld_unit_zero (S := S512x1024) hz2,
    View.ld_unit_zero (S := S1x1024) hz2, norm_apply]
  exact xn_eq m d t r l

/-- The blocks' tiles as one array. -/
def blkOut (t : Fin cfg0.N) : Vec 𝕀 S2x512x1024 .bf16 := fun i => proj m d (i 0) (row t (i 1)) (i 2)

theorem block_eq (t : Fin cfg0.N) (p : Fin 2) (inb : ∀ a, ![p.val, 0, 0, 0] a + ![1, 1, 1024, 1024] a ≤ S2x1x1024x1024.size a)
    (inb' : ∀ a, ![p.val, 0, 0] a + ![1, 512, 1024] a ≤ S2x512x1024.size a) (r : Fin 512) (j : Fin 1024) :
    (∑ k : Fin 1024, normed (fun l => (iblk m d 0 t : Vec 𝕀 S512x1024 .f32) (ix2 r l))
          (fun l => (iblk m d 1 t : Vec 𝕀 S1x1024 .f32) (ix2 0 l)) k
        * (View.ld (iblk m d 2 t : Vec 𝕀 S2x1x1024x1024 .bf16) (Rect.unit ![p.val, 0, 0, 0] ![1, 1, 1024, 1024] inb) (ix4 0 0 k j) : EReal))
      = blkOut m d t ((Rect.unit (s := S2x512x1024) ![p.val, 0, 0] ![1, 512, 1024] inb').emb (ix3 0 r j)) := by
  have a0 : (Rect.unit (s := S2x512x1024) ![p.val, 0, 0] ![1, 512, 1024] inb').emb (ix3 0 r j) 0 = p :=
    Fin.ext (by show p.val + 1 * 0 = p.val; omega)
  have a1 : (Rect.unit (s := S2x512x1024) ![p.val, 0, 0] ![1, 512, 1024] inb').emb (ix3 0 r j) 1 = r :=
    Fin.ext (by show 0 + 1 * r.val = r.val; omega)
  have a2 : (Rect.unit (s := S2x512x1024) ![p.val, 0, 0] ![1, 512, 1024] inb').emb (ix3 0 r j) 2 = j :=
    Fin.ext (by show 0 + 1 * j.val = j.val; omega)
  unfold blkOut proj
  rw [a0, a1, a2]
  refine Finset.sum_congr rfl fun k _ => congrArg₂ (· * · : EReal → EReal → EReal) (xn_eq m d t r k) ?_
  have e : (Rect.unit (s := S2x1x1024x1024) ![p.val, 0, 0, 0] ![1, 1, 1024, 1024] inb).emb (ix4 0 0 k j) = ix4 p 0 k j := by
    funext a; apply Fin.ext
    match a with
    | ⟨0, _⟩ => show p.val + 1 * 0 = p.val; omega
    | ⟨1, _⟩ => rfl
    | ⟨2, _⟩ => show 0 + 1 * k.val = k.val; omega
    | ⟨3, _⟩ => show 0 + 1 * j.val = j.val; omega
  exact (congrArg (iblk m d 2 t : Vec 𝕀 S2x1x1024x1024 .bf16) e).trans ((blk2 m d t p 0 k j).trans (V2 m d p k j))

theorem out5_eq (t : Fin cfg0.N) : out0_5 (iblk m d 0 t) (iblk m d 1 t) (iblk m d 2 t) (iblk m d 3 t) = blkOut m d t := by
  funext y
  unfold out0_5
  refine View.canon_apply_of_pieces (blkOut m d t) _ ?_ y (cover0_5 _ _ y)
  intro p hp
  simp only [List.mem_cons, List.not_mem_nil, or_false] at hp
  rcases hp with rfl | rfl
  · intro z
    obtain ⟨a, r, j, rfl⟩ := split3 z
    obtain rfl : a = 0 := Subsingleton.elim _ _
    refine (prod1 _ _ _ 0 r j).trans ?_
    unfold r0_0 r0_1 r0_4 r0_5
    rw [View.ld_unit_zero (S := S512x1024) hz2, View.ld_unit_zero (S := S1x1024) hz2]
    exact block_eq m d t 1 inb_S2x1x1024x1024_S1x1x1024x1024_1_0_0_0 inb_S2x512x1024_S1x512x1024_1_0_0 r j
  · intro z
    obtain ⟨a, r, j, rfl⟩ := split3 z
    obtain rfl : a = 0 := Subsingleton.elim _ _
    refine (prod0 _ _ _ 0 r j).trans ?_
    unfold r0_0 r0_1 r0_2 r0_3
    rw [View.ld_unit_zero (S := S512x1024) hz2, View.ld_unit_zero (S := S1x1024) hz2]
    exact block_eq m d t 0 inb_S2x1x1024x1024_S1x1x1024x1024_0_0_0_0 inb_S2x512x1024_S1x512x1024_0_0_0 r j

/-- The forget gate's input. -/
def fl (_ : Fin 1) (n : Fin 4096) (j : Fin 128) : EReal := ∑ k : Fin 1024, xn m d n k * wf m d k j

theorem out6_apply (t : Fin cfg0.N) (q : Fin 1) (r : Fin 512) (j : Fin 128) :
    out0_6 (iblk m d 0 t) (iblk m d 1 t) (iblk m d 2 t) (iblk m d 3 t) (ix3 q r j) = fl m d q (row t r) j := by
  unfold out0_6 r0_0 r0_1 r0_6 r0_7
  rw [View.canon_unit_zero (S := S1x512x128) hz3, View.ld_unit_zero (S := S512x1024) hz2,
    View.ld_unit_zero (S := S1x1024) hz2, View.ld_unit_zero (S := S1x1x1024x128) hz4, prodF]
  unfold fl
  exact Finset.sum_congr rfl fun k _ => congrArg₂ (· * · : EReal → EReal → EReal) (xn_eq m d t r k)
    ((blk3 m d t 0 0 k j).trans (V3 m d k j))

/-- The normed input after the run. -/
theorem arr4 : (dats m 0 d).arrAt 4 cfg0.N = fun i : S4096x1024.Idx => xn m d (i 0) (i 1) := by
  have hi : ∀ t : Fin cfg0.N, win0_4.index t 0 = t.val ∧ win0_4.index t 1 = 0 :=
    (by decide +kernel : ∀ t : Fin grid0.N, win0_4.index t 0 = t.val ∧ win0_4.index t 1 = 0)
  refine (dats m 0 d).arrAt_eq_of_cover 4 _ ?_ ?_
  · intro t ht
    rw [Value.flushed4]
    funext y
    rw [View.read_apply]
    change S512x1024.Idx at y
    obtain ⟨r, l, rfl⟩ := split2 y
    have a0 : (((cfg0.win 4).blk t).view.emb (ix2 r l) : S4096x1024.Idx) 0 = row t r :=
      Fin.ext (by show win0_4.index t 0 * 512 + 1 * r.val = 512 * t.val + r.val; rw [(hi t).1]; omega)
    have a1 : (((cfg0.win 4).blk t).view.emb (ix2 r l) : S4096x1024.Idx) 1 = l :=
      Fin.ext (by show win0_4.index t 1 * 1024 + 1 * l.val = l.val; rw [(hi t).2]; omega)
    show _ = xn m d _ _
    rw [a0, a1]
    exact out4_apply m d t r l
  · exact (by decide +kernel : (cfg0.win 4).Covers).cover _ (Memref.isWhole_whole _)

/-- The product after the run. -/
theorem arr5 : (dats m 0 d).arrAt 5 cfg0.N = fun i : S2x4096x1024.Idx => proj m d (i 0) (i 1) (i 2) := by
  have hi : ∀ t : Fin cfg0.N, win0_5.index t 0 = 0 ∧ win0_5.index t 1 = t.val ∧ win0_5.index t 2 = 0 :=
    (by decide +kernel : ∀ t : Fin grid0.N, win0_5.index t 0 = 0 ∧ win0_5.index t 1 = t.val ∧ win0_5.index t 2 = 0)
  refine (dats m 0 d).arrAt_eq_of_cover 5 _ ?_ ?_
  · intro t ht
    rw [Value.flushed5, out5_eq]
    funext y
    rw [View.read_apply]
    change S2x512x1024.Idx at y
    obtain ⟨p, r, j, rfl⟩ := split3 y
    have a0 : (((cfg0.win 5).blk t).view.emb (ix3 p r j) : S2x4096x1024.Idx) 0 = p :=
      Fin.ext (by show win0_5.index t 0 * 2 + 1 * p.val = p.val; rw [(hi t).1]; omega)
    have a1 : (((cfg0.win 5).blk t).view.emb (ix3 p r j) : S2x4096x1024.Idx) 1 = row t r :=
      Fin.ext (by show win0_5.index t 1 * 512 + 1 * r.val = 512 * t.val + r.val; rw [(hi t).2.1]; omega)
    have a2 : (((cfg0.win 5).blk t).view.emb (ix3 p r j) : S2x4096x1024.Idx) 2 = j :=
      Fin.ext (by show win0_5.index t 2 * 1024 + 1 * j.val = j.val; rw [(hi t).2.2]; omega)
    show _ = proj m d _ _ _
    rw [a0, a1, a2]
    rfl
  · exact (by decide +kernel : (cfg0.win 5).Covers).cover _ (Memref.isWhole_whole _)

/-- The forget gate's input after the run. -/
theorem arr6 : (dats m 0 d).arrAt 6 cfg0.N = fun i : S1x4096x128.Idx => fl m d (i 0) (i 1) (i 2) := by
  have hi : ∀ t : Fin cfg0.N, win0_6.index t 0 = 0 ∧ win0_6.index t 1 = t.val ∧ win0_6.index t 2 = 0 :=
    (by decide +kernel : ∀ t : Fin grid0.N, win0_6.index t 0 = 0 ∧ win0_6.index t 1 = t.val ∧ win0_6.index t 2 = 0)
  refine (dats m 0 d).arrAt_eq_of_cover 6 _ ?_ ?_
  · intro t ht
    rw [Value.flushed6]
    funext y
    rw [View.read_apply]
    change S1x512x128.Idx at y
    obtain ⟨q, r, j, rfl⟩ := split3 y
    have a0 : (((cfg0.win 6).blk t).view.emb (ix3 q r j) : S1x4096x128.Idx) 0 = q :=
      Fin.ext (by show win0_6.index t 0 * 1 + 1 * q.val = q.val; rw [(hi t).1]; omega)
    have a1 : (((cfg0.win 6).blk t).view.emb (ix3 q r j) : S1x4096x128.Idx) 1 = row t r :=
      Fin.ext (by show win0_6.index t 1 * 512 + 1 * r.val = 512 * t.val + r.val; rw [(hi t).2.1]; omega)
    have a2 : (((cfg0.win 6).blk t).view.emb (ix3 q r j) : S1x4096x128.Idx) 2 = j :=
      Fin.ext (by show win0_6.index t 2 * 128 + 1 * j.val = j.val; rw [(hi t).2.2]; omega)
    show _ = fl m d q _ _
    rw [a1, a2]
    exact out6_apply m d t q r j
  · exact (by decide +kernel : (cfg0.win 6).Covers).cover _ (Memref.isWhole_whole _)

end
end Cert.KvInKernelIdeal.Blocks
end
-- ==== Proof.KvInReference.lean ====
/- What the reference of the shared keys, values and forget-gate inputs computes, entry by entry. -/
module

public import proofs.«01_k».proof.Proof.Gen.KvInReferenceIdeal.Read
public import proofs.«01_k».proof.Proof.FfnMath

@[expose] public section

noncomputable section

namespace Cert.KvInReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S1024.Idx → EReal) (x2 : S1024x2064.Idx → EReal)

/-- The normed input at row `n`, lane `l`. -/
theorem normed_apply (n : Fin 4096) (l : Fin 1024) :
    val_main_v12 (F := 𝕀) x0 x1 (ix2 n l) = normed (fun l => x0 (ix2 n l)) (fun l => x1 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The normed input the reference returns. -/
theorem xn_apply (n : Fin 4096) (l : Fin 1024) :
    val_main_v17 (F := 𝕀) x0 x1 (ix2 n l) = normed (fun l => x0 (ix2 n l)) (fun l => x1 (ix1 l)) l := by
  rw [← normed_apply]
  rfl

/-- The product at row `n`, lane `j` of the weights. -/
theorem prod_apply (n : Fin 4096) (j : Fin 2064) :
    val_main_v13 (F := 𝕀) x0 x1 x2 (ix2 n j)
      = ∑ k : Fin 1024, normed (fun l => x0 (ix2 n l)) (fun l => x1 (ix1 l)) k * x2 (ix2 k j) := by
  have e := normed_apply x0 x1
  unfold val_main_v13
  generalize val_main_v12 (F := 𝕀) x0 x1 = G at e
  pointwise
  simp only [e]

/-- The blocks the reference returns. -/
theorem proj_apply (p : Fin 2) (n : Fin 4096) (j : Fin 1024) :
    val_main_v21 (F := 𝕀) x0 x1 x2 (ix3 p n j)
      = ∑ k : Fin 1024, normed (fun l => x0 (ix2 n l)) (fun l => x1 (ix1 l)) k
          * x2 (ix2 k ⟨p.val * 1024 + j.val, by omega⟩) := by
  rw [← prod_apply]
  unfold val_main_v21 val_main_v20 val_main_v19 val_main_v18 val_main_v15 val_main_v14
  generalize val_main_v13 (F := 𝕀) x0 x1 x2 = G
  pointwise
  split
  · congr 1; funext a; apply Fin.ext
    match a with
    | ⟨0, _⟩ => rfl
    | ⟨1, _⟩ => show j.val = p.val * 1024 + j.val; omega
  · congr 1; funext a; apply Fin.ext
    match a with
    | ⟨0, _⟩ => rfl
    | ⟨1, _⟩ => show 1024 + j.val = p.val * 1024 + j.val; omega

/-- The forget gate's input the reference returns, zero on the lanes past the heads. -/
theorem fl_apply (q : Fin 1) (n : Fin 4096) (j : Fin 128) :
    val_main_v23 (F := 𝕀) x0 x1 x2 (ix3 q n j)
      = ∑ k : Fin 1024, normed (fun l => x0 (ix2 n l)) (fun l => x1 (ix1 l)) k
          * (if h : j.val < 16 then x2 (ix2 k ⟨2048 + j.val, by omega⟩) else 0) := by
  have e := prod_apply x0 x1 x2
  unfold val_main_v23 val_main_v22 val_main_v16 val_main_call0_v0 val_main_c
  generalize val_main_v13 (F := 𝕀) x0 x1 x2 = G at e
  pointwise
  split
  · rename_i h
    rw [e]
  · rename_i h
    refine Eq.trans ?_ (Finset.sum_eq_zero fun k _ => ?_).symm
    · show (((0#32 : BitVec 32).toInt : ℝ) : EReal) = 0
      simp
    · exact mul_zero _

end
end Cert.KvInReferenceIdeal.Rows
end
-- ==== Proof.ConvBwdInArrays.lean ====
/- The backward pass of the convolution's input product and of the norm before it, as the kernel computes them: the
   gradient of the layer's input, tile by tile, and the gradient of the norm's scale, accumulated over the tiles. -/
module

public import proofs.«01_k».proof.Proof.Gen.ConvBwdInKernelIdeal.Value
public import proofs.«01_k».proof.Proof.NormMath

@[expose] public section

noncomputable section

namespace Cert.ConvBwdInKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (v0 v5 v11 : Vec 𝕀 S1x1x1024x1024 .bf16) (v2 v7 v13 : Vec 𝕀 S1x512x1024 .bf16)
  (x : Vec 𝕀 S512x1024 .f32) (y : Vec 𝕀 S1x1024 .f32)

/-- The gradient at the normed row. -/
theorem dn_apply (r : Fin 512) (l : Fin 1024) :
    k0_pay5 v0 v2 v5 v7 v11 v13 (ix2 r l)
      = (∑ k : Fin 1024, (v2 (ix3 0 r k) * v0 (ix4 0 0 l k) : EReal)) + (∑ k : Fin 1024, (v7 (ix3 0 r k) * v5 (ix4 0 0 l k) : EReal)) + (∑ k : Fin 1024, (v13 (ix3 0 r k) * v11 (ix4 0 0 l k) : EReal)) := by
  unfold_payloads; pointwise

theorem xhat_apply (r : Fin 512) (l : Fin 1024) : k0_pay1 x (k0_pay7 x) (ix2 r l) = xhat (fun l => x (ix2 r l)) l := by
  unfold_payloads; pointwise; rfl

theorem scale_apply (q : Fin 1) (l : Fin 1024) : k0_pay6 y (ix2 q l) = y (ix2 q l) := by
  unfold_payloads; pointwise

/-- The row a point stores. -/
theorem dx_apply (z : Vec 𝕀 S512x1024 .f32) (r : Fin 512) (l : Fin 1024) :
    k0_pay3 (k0_pay5 v0 v2 v5 v7 v11 v13) x (k0_pay6 y) (k0_pay7 x) z (ix2 r l)
      = z (ix2 r l) + normBack (fun l => x (ix2 r l)) (fun l => (k0_pay5 v0 v2 v5 v7 v11 v13 (ix2 r l) * y (ix2 0 l) : EReal)) l := by
  have e1 := xhat_apply x
  have e6 := scale_apply y
  unfold k0_pay3
  generalize k0_pay1 x (k0_pay7 x) = A at e1
  generalize k0_pay6 y = B at e6
  generalize k0_pay5 v0 v2 v5 v7 v11 v13 = C
  pointwise
  simp only [e1, e6]
  rfl

/-- What a point adds to the gradient of the norm's scale. -/
theorem dscale_apply (q : Fin 1) (l : Fin 1024) :
    k0_pay2 (k0_pay5 v0 v2 v5 v7 v11 v13) x (k0_pay7 x) (ix2 q l)
      = ∑ r : Fin 512, (k0_pay5 v0 v2 v5 v7 v11 v13 (ix2 r l) * xhat (fun l => x (ix2 r l)) l : EReal) := by
  have e1 := xhat_apply x
  unfold k0_pay2
  generalize k0_pay1 x (k0_pay7 x) = A at e1
  generalize k0_pay5 v0 v2 v5 v7 v11 v13 = C
  pointwise
  simp only [e1]

theorem acc_apply (a b : FVec 𝕀 S512x1024 .f32) (c : FVec 𝕀 S512x1 .f32) (acc : Vec 𝕀 S1x1024 .f32) (q : Fin 1) (l : Fin 1024) :
    k0_pay4 a b c acc (ix2 q l) = acc (ix2 q l) + k0_pay2 a b c (ix2 q l) := by
  unfold k0_pay4
  generalize k0_pay2 a b c = C
  pointwise

end

section
variable (m : (ℓ : Loc nD τ sig) → Buf (Elt 𝕀) ℓ) (d : Dev nD)

/-- The gradient of the layer's input product, block by block. -/
def dz (p : Fin 3) (n : Fin 4096) (k : Fin 1024) : EReal := (m (d.tc.loc main_arg0) : Vec 𝕀 S3x4096x1024 .bf16) (ix3 p n k)

/-- The layer's input. -/
def x (n : Fin 4096) (l : Fin 1024) : EReal := (m (d.tc.loc main_arg1) : Vec 𝕀 S4096x1024 .f32) (ix2 n l)

/-- The norm's scale. -/
def g (l : Fin 1024) : EReal := (m (d.tc.loc main_arg2) : Vec 𝕀 S1024 .f32) (ix1 l)

/-- The weights: entry `l` of lane `k` of block `p`. -/
def w (p : Fin 3) (l k : Fin 1024) : EReal :=
  (m (d.tc.loc main_arg3) : Vec 𝕀 S1024x3072 .f32) (ix2 l ⟨p.val * 1024 + k.val, by omega⟩)

/-- The gradient that reaches the layer's input past it. -/
def dres (n : Fin 4096) (l : Fin 1024) : EReal := (m (d.tc.loc main_arg4) : Vec 𝕀 S4096x1024 .f32) (ix2 n l)

theorem VW (p : Fin 3) (l k : Fin 1024) : (V m d main_v3 : Vec 𝕀 S3x1x1024x1024 .bf16) (ix4 p 0 l k) = w m d p l k := by
  entry_read
  pointwise
  rfl

theorem VG (l : Fin 1024) : (V m d main_v4 : Vec 𝕀 S1x1024 .f32) (ix2 0 l) = g m d l := by
  entry_read
  pointwise
  rfl

theorem blk0 (t : Fin cfg0.N) (p : Fin 3) (r : Fin 512) (k : Fin 1024) :
    (iblk m d 0 t : Vec 𝕀 S3x512x1024 .bf16) (ix3 p r k) = (V m d main_arg0 : Vec 𝕀 S3x4096x1024 .bf16) (ix3 p (row t r) k) := by
  have hi := (by decide +kernel : ∀ t : Fin grid0.N, win0_0.index t 0 = 0 ∧ win0_0.index t 1 = t.val ∧ win0_0.index t 2 = 0) t
  unfold iblk
  rw [View.read_apply]
  refine congrArg (V m d main_arg0 : Vec 𝕀 S3x4096x1024 .bf16) (funext fun a => Fin.ext ?_)
  match a with
  | ⟨0, _⟩ => show win0_0.index t 0 * 3 + 1 * p.val = p.val; rw [hi.1]; omega
  | ⟨1, _⟩ => show win0_0.index t 1 * 512 + 1 * r.val = 512 * t.val + r.val; rw [hi.2.1]; omega
  | ⟨2, _⟩ => show win0_0.index t 2 * 1024 + 1 * k.val = k.val; rw [hi.2.2]; omega

theorem blk1 (t : Fin cfg0.N) (p : Fin 3) (q : Fin 1) (l : Fin 1024) (k : Fin 1024) :
    (iblk m d 1 t : Vec 𝕀 S3x1x1024x1024 .bf16) (ix4 p q l k) = (V m d main_v3 : Vec 𝕀 S3x1x1024x1024 .bf16) (ix4 p q l k) := by
  have hi := (by decide +kernel : ∀ t : Fin grid0.N, win0_1.index t 0 = 0 ∧ win0_1.index t 1 = 0 ∧ win0_1.index t 2 = 0 ∧ win0_1.index t 3 = 0) t
  unfold iblk
  rw [View.read_apply]
  refine congrArg (V m d main_v3 : Vec 𝕀 S3x1x1024x1024 .bf16) (funext fun a => Fin.ext ?_)
  match a with
  | ⟨0, _⟩ => show win0_1.index t 0 * 3 + 1 * p.val = p.val; rw [hi.1]; omega
  | ⟨1, _⟩ => show win0_1.index t 1 * 1 + 1 * q.val = q.val; rw [hi.2.1]; omega
  | ⟨2, _⟩ => show win0_1.index t 2 * 1024 + 1 * l.val = l.val; rw [hi.2.2.1]; omega
  | ⟨3, _⟩ => show win0_1.index t 3 * 1024 + 1 * k.val = k.val; rw [hi.2.2.2]; omega

theorem blk2 (t : Fin cfg0.N) (r : Fin 512) (l : Fin 1024) :
    (iblk m d 2 t : Vec 𝕀 S512x1024 .f32) (ix2 r l) = (V m d main_arg1 : Vec 𝕀 S4096x1024 .f32) (ix2 (row t r) l) := by
  have hi := (by decide +kernel : ∀ t : Fin grid0.N, win0_2.index t 0 = t.val ∧ win0_2.index t 1 = 0) t
  unfold iblk
  rw [View.read_apply]
  refine congrArg (V m d main_arg1 : Vec 𝕀 S4096x1024 .f32) (funext fun a => Fin.ext ?_)
  match a with
  | ⟨0, _⟩ => show win0_2.index t 0 * 512 + 1 * r.val = 512 * t.val + r.val; rw [hi.1]; omega
  | ⟨1, _⟩ => show win0_2.index t 1 * 1024 + 1 * l.val = l.val; rw [hi.2]; omega

theorem blk3 (t : Fin cfg0.N) (q : Fin 1) (l : Fin 1024) :
    (iblk m d 3 t : Vec 𝕀 S1x1024 .f32) (ix2 q l) = (V m d main_v4 : Vec 𝕀 S1x1024 .f32) (ix2 q l) := by
  have hi := (by decide +kernel : ∀ t : Fin grid0.N, win0_3.index t 0 = 0 ∧ win0_3.index t 1 = 0) t
  unfold iblk
  rw [View.read_apply]
  refine congrArg (V m d main_v4 : Vec 𝕀 S1x1024 .f32) (funext fun a => Fin.ext ?_)
  match a with
  | ⟨0, _⟩ => show win0_3.index t 0 * 1 + 1 * q.val = q.val; rw [hi.1]; omega
  | ⟨1, _⟩ => show win0_3.index t 1 * 1024 + 1 * l.val = l.val; rw [hi.2]; omega

theorem blk4 (t : Fin cfg0.N) (r : Fin 512) (l : Fin 1024) :
    (iblk m d 4 t : Vec 𝕀 S512x1024 .f32) (ix2 r l) = (V m d main_arg4 : Vec 𝕀 S4096x1024 .f32) (ix2 (row t r) l) := by
  have hi := (by decide +kernel : ∀ t : Fin grid0.N, win0_4.index t 0 = t.val ∧ win0_4.index t 1 = 0) t
  unfold iblk
  rw [View.read_apply]
  refine congrArg (V m d main_arg4 : Vec 𝕀 S4096x1024 .f32) (funext fun a => Fin.ext ?_)
  match a with
  | ⟨0, _⟩ => show win0_4.index t 0 * 512 + 1 * r.val = 512 * t.val + r.val; rw [hi.1]; omega
  | ⟨1, _⟩ => show win0_4.index t 1 * 1024 + 1 * l.val = l.val; rw [hi.2]; omega

/-- The gradient at the normed row. -/
def dn (n : Fin 4096) (l : Fin 1024) : EReal :=
  (∑ k : Fin 1024, dz m d 0 n k * w m d 0 l k) + (∑ k : Fin 1024, dz m d 1 n k * w m d 1 l k) + (∑ k : Fin 1024, dz m d 2 n k * w m d 2 l k)

/-- The gradient of the layer's input. -/
def dx (n : Fin 4096) (l : Fin 1024) : EReal :=
  dres m d n l + normBack (x m d n) (fun l => dn m d n l * g m d l) l

/-- What row `n` gives the gradient of the norm's scale. -/
def term (n : Nat) (l : Fin 1024) : EReal :=
  if h : n < 4096 then dn m d ⟨n, h⟩ l * xhat (x m d ⟨n, h⟩) l else 0

/-- The gradient of the norm's scale. -/
def dg (_ : Fin 1) (l : Fin 1024) : EReal := ∑ n : Fin 4096, dn m d n l * xhat (x m d n) l

/-- What tile `t` adds to it. -/
def tile (t : Nat) (l : Fin 1024) : EReal := ∑ r : Fin 512, term m d (512 * t + r.val) l

theorem term_row (t : Fin cfg0.N) (r : Fin 512) (l : Fin 1024) :
    term m d (512 * t.val + r.val) l = dn m d (row t r) l * xhat (x m d (row t r)) l := by
  unfold term row
  rw [dif_pos]

theorem dg_eq (l : Fin 1024) : ∑ t : Fin 8, tile m d t.val l = dg m d 0 l := by
  refine (sum_tiles 8 512 (fun n => term m d n l)).symm.trans ?_
  exact Finset.sum_congr rfl fun n _ => dif_pos n.isLt

/-- An entry of one block of the weights, as a point loads it. -/
theorem w_eq (t : Fin cfg0.N) (p : Fin 3) (ia : ∀ a, ![p.val, 0, 0, 0] a + ![1, 1, 1024, 1024] a ≤ S3x1x1024x1024.size a) (l k : Fin 1024) :
    View.ld (iblk m d 1 t : Vec 𝕀 S3x1x1024x1024 .bf16) (Rect.unit ![p.val, 0, 0, 0] ![1, 1, 1024, 1024] ia) (ix4 0 0 l k) = w m d p l k := by
  have e : (Rect.unit (s := S3x1x1024x1024) ![p.val, 0, 0, 0] ![1, 1, 1024, 1024] ia).emb (ix4 0 0 l k) = ix4 p 0 l k := by
    funext a; apply Fin.ext
    match a with
    | ⟨0, _⟩ => show p.val + 1 * 0 = p.val; omega
    | ⟨1, _⟩ => rfl
    | ⟨2, _⟩ => show 0 + 1 * l.val = l.val; omega
    | ⟨3, _⟩ => show 0 + 1 * k.val = k.val; omega
  exact (congrArg (iblk m d 1 t : Vec 𝕀 S3x1x1024x1024 .bf16) e).trans ((blk1 m d t p 0 l k).trans (VW m d p l k))

/-- An entry of one block of the product's gradient, as a point loads it. -/
theorem dz_eq (t : Fin cfg0.N) (p : Fin 3) (ib : ∀ a, ![p.val, 0, 0] a + ![1, 512, 1024] a ≤ S3x512x1024.size a) (r : Fin 512) (k : Fin 1024) :
    View.ld (iblk m d 0 t : Vec 𝕀 S3x512x1024 .bf16) (Rect.unit ![p.val, 0, 0] ![1, 512, 1024] ib) (ix3 0 r k) = dz m d p (row t r) k := by
  have e : (Rect.unit (s := S3x512x1024) ![p.val, 0, 0] ![1, 512, 1024] ib).emb (ix3 0 r k) = ix3 p r k := by
    funext a; apply Fin.ext
    match a with
    | ⟨0, _⟩ => show p.val + 1 * 0 = p.val; omega
    | ⟨1, _⟩ => show 0 + 1 * r.val = r.val; omega
    | ⟨2, _⟩ => show 0 + 1 * k.val = k.val; omega
  refine (congrArg (iblk m d 0 t : Vec 𝕀 S3x512x1024 .bf16) e).trans ((blk0 m d t p r k).trans ?_)
  rw [V_main_arg0]; rfl

/-- Block 0 of the weights, as a point loads it. -/
abbrev w0 (t : Fin cfg0.N) : Vec 𝕀 S1x1x1024x1024 .bf16 :=
  View.ld (iblk m d 1 t : Vec 𝕀 S3x1x1024x1024 .bf16) (Rect.unit ![0, 0, 0, 0] ![1, 1, 1024, 1024] inb_S3x1x1024x1024_S1x1x1024x1024_0_0_0_0)
/-- Block 1 of the weights, as a point loads it. -/
abbrev w1 (t : Fin cfg0.N) : Vec 𝕀 S1x1x1024x1024 .bf16 :=
  View.ld (iblk m d 1 t : Vec 𝕀 S3x1x1024x1024 .bf16) (Rect.unit ![1, 0, 0, 0] ![1, 1, 1024, 1024] inb_S3x1x1024x1024_S1x1x1024x1024_1_0_0_0)
/-- Block 2 of the weights, as a point loads it. -/
abbrev w2 (t : Fin cfg0.N) : Vec 𝕀 S1x1x1024x1024 .bf16 :=
  View.ld (iblk m d 1 t : Vec 𝕀 S3x1x1024x1024 .bf16) (Rect.unit ![2, 0, 0, 0] ![1, 1, 1024, 1024] inb_S3x1x1024x1024_S1x1x1024x1024_2_0_0_0)
/-- Block 0 of the product's gradient, as a point loads it. -/
abbrev d0 (t : Fin cfg0.N) : Vec 𝕀 S1x512x1024 .bf16 :=
  View.ld (iblk m d 0 t : Vec 𝕀 S3x512x1024 .bf16) (Rect.unit ![0, 0, 0] ![1, 512, 1024] inb_S3x512x1024_S1x512x1024_0_0_0)
/-- Block 1 of the product's gradient, as a point loads it. -/
abbrev d1 (t : Fin cfg0.N) : Vec 𝕀 S1x512x1024 .bf16 :=
  View.ld (iblk m d 0 t : Vec 𝕀 S3x512x1024 .bf16) (Rect.unit ![1, 0, 0] ![1, 512, 1024] inb_S3x512x1024_S1x512x1024_1_0_0)
/-- Block 2 of the product's gradient, as a point loads it. -/
abbrev d2 (t : Fin cfg0.N) : Vec 𝕀 S1x512x1024 .bf16 :=
  View.ld (iblk m d 0 t : Vec 𝕀 S3x512x1024 .bf16) (Rect.unit ![2, 0, 0] ![1, 512, 1024] inb_S3x512x1024_S1x512x1024_2_0_0)

theorem dn_eq (t : Fin cfg0.N) (r : Fin 512) (l : Fin 1024) : k0_pay5 (w0 m d t) (d0 m d t) (w1 m d t) (d1 m d t) (w2 m d t) (d2 m d t) (ix2 r l) = dn m d (row t r) l := by
  rw [dn_apply]
  exact congrArg₂ (· + · : EReal → EReal → EReal) (congrArg₂ (· + · : EReal → EReal → EReal)
    (Finset.sum_congr rfl fun k _ => congrArg₂ (· * · : EReal → EReal → EReal) (dz_eq m d t 0 inb_S3x512x1024_S1x512x1024_0_0_0 r k) (w_eq m d t 0 inb_S3x1x1024x1024_S1x1x1024x1024_0_0_0_0 l k))
    (Finset.sum_congr rfl fun k _ => congrArg₂ (· * · : EReal → EReal → EReal) (dz_eq m d t 1 inb_S3x512x1024_S1x512x1024_1_0_0 r k) (w_eq m d t 1 inb_S3x1x1024x1024_S1x1x1024x1024_1_0_0_0 l k)))
    (Finset.sum_congr rfl fun k _ => congrArg₂ (· * · : EReal → EReal → EReal) (dz_eq m d t 2 inb_S3x512x1024_S1x512x1024_2_0_0 r k) (w_eq m d t 2 inb_S3x1x1024x1024_S1x1x1024x1024_2_0_0_0 l k))

theorem x_eq (t : Fin cfg0.N) (r : Fin 512) : (fun l => (iblk m d 2 t : Vec 𝕀 S512x1024 .f32) (ix2 r l)) = x m d (row t r) :=
  funext fun l => (blk2 m d t r l).trans (by rw [V_main_arg1]; rfl)

/-- The block of the input's gradient a point stores. -/
def dxblock (t : Fin cfg0.N) : Vec 𝕀 S512x1024 .f32 := fun i => dx m d (row t (i 0)) (i 1)

theorem dx_eq (t : Fin cfg0.N) :
    k0_pay3 (k0_pay5 (w0 m d t) (d0 m d t) (w1 m d t) (d1 m d t) (w2 m d t) (d2 m d t)) (iblk m d 2 t) (k0_pay6 (iblk m d 3 t)) (k0_pay7 (iblk m d 2 t)) (iblk m d 4 t) = dxblock m d t := by
  funext y
  obtain ⟨r, l, rfl⟩ := split2 y
  refine (dx_apply _ _ _ _ _ _ _ _ _ r l).trans ?_
  refine congrArg₂ (· + · : EReal → EReal → EReal) ((blk4 m d t r l).trans (by rw [V_main_arg4]; rfl)) ?_
  refine congrArg₂ (normBack · · l) (x_eq m d t r) (funext fun l => ?_)
  exact congrArg₂ (· * · : EReal → EReal → EReal) (dn_eq m d t r l) ((blk3 m d t 0 l).trans (VG m d l))

theorem tile_eq (t : Fin cfg0.N) (q : Fin 1) (l : Fin 1024) :
    k0_pay2 (k0_pay5 (w0 m d t) (d0 m d t) (w1 m d t) (d1 m d t) (w2 m d t) (d2 m d t)) (iblk m d 2 t) (k0_pay7 (iblk m d 2 t)) (ix2 q l) = tile m d t.val l := by
  rw [dscale_apply]
  refine Finset.sum_congr rfl fun r _ => ?_
  rw [term_row]
  exact congrArg₂ (· * · : EReal → EReal → EReal) (dn_eq m d t r l) (congrArg (xhat · l) (x_eq m d t r))

/-- The first point: the block's gradient and the first tile's share of the scale's. -/
theorem outs_A (t : Fin cfg0.N) (h0 : t.val % 8 = 0) (h1 : ¬1 ≤ t.val) :
    (outsAt0 m d t.val t.isLt).1 = dxblock m d t
    ∧ ∀ l, (outsAt0 m d t.val t.isLt).2 (ix2 0 l) = tile m d t.val l := by
  rw [outsAt0_A m d t h0 h1]
  constructor
  · unfold out0_A_5
    dsimp only
    rw [View.read_writes_eq_canon _ _ _ (fun _ => cover0_A_5 ..)]
    unfold kernelRun0_A
    dsimp only
    sl_unfold_words
    simp only [View.readAt_eq_ld, (hs0_0 t).read_unread, (hs0_1 t).read_unread, (hs0_2 t).read_unread, (hs0_3 t).read_unread, (hs0_4 t).read_unread, View.ld_unit_zero (S := S512x1024) hz2,
      View.ld_unit_zero (S := S1x1024) hz2, View.canon_unit_zero (S := S512x1024) hz2]
    exact dx_eq m d t
  · intro l
    unfold out0_A_6
    dsimp only
    rw [View.read_writes_eq_canon _ _ _ (fun _ => cover0_A_6 ..)]
    unfold kernelRun0_A
    dsimp only
    sl_unfold_words
    simp only [View.readAt_eq_ld, (hs0_0 t).read_unread, (hs0_1 t).read_unread, (hs0_2 t).read_unread, (hs0_3 t).read_unread, (hs0_4 t).read_unread, View.ld_unit_zero (S := S512x1024) hz2,
      View.ld_unit_zero (S := S1x1024) hz2, View.canon_unit_zero (S := S1x1024) hz2]
    exact tile_eq m d t 0 l

/-- A later point: the block's gradient, and its tile's share added to what the point before left. -/
theorem outs_B (t : Fin cfg0.N) (h0 : ¬t.val % 8 = 0) (h1 : 1 ≤ t.val) :
    (outsAt0 m d t.val t.isLt).1 = dxblock m d t
    ∧ ∀ l, (outsAt0 m d t.val t.isLt).2 (ix2 0 l)
        = (outsAt0 m d (t.val - 1) (Nat.lt_of_le_of_lt (Nat.sub_le _ _) t.isLt)).2 (ix2 0 l) + tile m d t.val l := by
  rw [outsAt0_B m d t h0 h1]
  constructor
  · unfold out0_B_5
    dsimp only
    rw [View.read_writes_eq_canon _ _ _ (fun _ => cover0_B_5 ..)]
    unfold kernelRun0_B
    dsimp only
    sl_unfold_words
    simp only [View.readAt_eq_ld, (hs0_0 t).read_unread, (hs0_1 t).read_unread, (hs0_2 t).read_unread, (hs0_3 t).read_unread, (hs0_4 t).read_unread, View.ld_unit_zero (S := S512x1024) hz2,
      View.ld_unit_zero (S := S1x1024) hz2, View.canon_unit_zero (S := S512x1024) hz2]
    exact dx_eq m d t
  · intro l
    unfold out0_B_6
    dsimp only
    rw [View.read_writes_eq_canon _ _ _ (fun _ => cover0_B_6 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_6 t).read_unread, View.ld_unit_zero (S := S512x1024) hz2,
      View.ld_unit_zero (S := S1x1024) hz2, View.canon_unit_zero (S := S1x1024) hz2]
    rw [← tile_eq m d t 0 l]
    exact acc_apply _ _ _ _ 0 l

/-- Every point's block of the input's gradient. -/
theorem outs_fst (t : Fin cfg0.N) : (outsAt0 m d t.val t.isLt).1 = dxblock m d t := by
  have h8 : t.val < 8 := t.isLt
  by_cases h : 1 ≤ t.val
  · exact (outs_B m d t (by omega) h).1
  · exact (outs_A m d t (by omega) h).1

/-- The scale's gradient after point `n`: the sum of the tiles so far. -/
theorem outs_snd (l : Fin 1024) : ∀ (n : Nat) (hn : n < cfg0.N),
    (outsAt0 m d n hn).2 (ix2 0 l) = ∑ t : Fin (n + 1), tile m d t.val l
  | 0, hn => by
    rw [(outs_A m d ⟨0, hn⟩ (by show 0 % 8 = 0; rfl) (by show ¬1 ≤ 0; omega)).2 l, Fin.sum_univ_one]
    rfl
  | n + 1, hn => by
    have h8 : n + 1 < 8 := hn
    rw [(outs_B m d ⟨n + 1, hn⟩ (by show ¬(n + 1) % 8 = 0; omega) (by show 1 ≤ n + 1; omega)).2 l,
      Fin.sum_univ_castSucc]
    exact congrArg (· + _) (outs_snd l n (Nat.lt_of_succ_lt hn))

/-- The input's gradient after the run. -/
theorem arr5 : (dats m 0 d).arrAt 5 cfg0.N = fun i : S4096x1024.Idx => dx m d (i 0) (i 1) := by
  have hi : ∀ t : Fin cfg0.N, win0_5.index t 0 = t.val ∧ win0_5.index t 1 = 0 :=
    (by decide +kernel : ∀ t : Fin grid0.N, win0_5.index t 0 = t.val ∧ win0_5.index t 1 = 0)
  refine (dats m 0 d).arrAt_eq_of_cover 5 _ ?_ ?_
  · intro t ht
    rw [Value.flushed5, outs_fst]
    funext y
    rw [View.read_apply]
    change S512x1024.Idx at y
    obtain ⟨r, l, rfl⟩ := split2 y
    have a0 : (((cfg0.win 5).blk t).view.emb (ix2 r l) : S4096x1024.Idx) 0 = row t r :=
      Fin.ext (by show win0_5.index t 0 * 512 + 1 * r.val = 512 * t.val + r.val; rw [(hi t).1]; omega)
    have a1 : (((cfg0.win 5).blk t).view.emb (ix2 r l) : S4096x1024.Idx) 1 = l :=
      Fin.ext (by show win0_5.index t 1 * 1024 + 1 * l.val = l.val; rw [(hi t).2]; omega)
    show _ = dx m d _ _
    rw [a0, a1]
    rfl
  · exact (by decide +kernel : (cfg0.win 5).Covers).cover _ (Memref.isWhole_whole _)

/-- The scale's gradient after the run. -/
theorem arr6 : (dats m 0 d).arrAt 6 cfg0.N = fun i : S1x1024.Idx => dg m d (i 0) (i 1) := by
  have hi : ∀ t : Fin cfg0.N, win0_6.index t 0 = 0 ∧ win0_6.index t 1 = 0 :=
    (by decide +kernel : ∀ t : Fin grid0.N, win0_6.index t 0 = 0 ∧ win0_6.index t 1 = 0)
  have hf : ∀ t : Fin cfg0.N, (cfg0.win 6).flush t = true → t.val = 7 :=
    (by decide +kernel : ∀ t : Fin grid0.N, win0_6.flush t = true → t.val = 7)
  refine (dats m 0 d).arrAt_eq_of_cover 6 _ ?_ ?_
  · intro t ht
    have hl := hf t ht
    rw [Value.flushed6]
    funext y
    rw [View.read_apply]
    change S1x1024.Idx at y
    obtain ⟨q, l, rfl⟩ := split2 y
    have a0 : (((cfg0.win 6).blk t).view.emb (ix2 q l) : S1x1024.Idx) 0 = q :=
      Fin.ext (by show win0_6.index t 0 * 1 + 1 * q.val = q.val; rw [(hi t).1]; omega)
    have a1 : (((cfg0.win 6).blk t).view.emb (ix2 q l) : S1x1024.Idx) 1 = l :=
      Fin.ext (by show win0_6.index t 1 * 1024 + 1 * l.val = l.val; rw [(hi t).2]; omega)
    show _ = dg m d 0 _
    rw [a1]
    obtain rfl : q = 0 := Subsingleton.elim _ _
    refine (outs_snd m d l t.val t.isLt).trans ?_
    rw [hl]
    exact dg_eq m d l
  · exact (by decide +kernel : (cfg0.win 6).Covers).cover _ (Memref.isWhole_whole _)

end
end Cert.ConvBwdInKernelIdeal.Blocks
end
-- ==== Proof.ConvBwdInReference.lean ====
/- What the reference of the backward pass of the convolution's input product computes, entry by entry. -/
module

public import proofs.«01_k».proof.Proof.Gen.ConvBwdInReferenceIdeal.Read
public import proofs.«01_k».proof.Proof.NormMath

@[expose] public section

noncomputable section

namespace Cert.ConvBwdInReferenceIdeal.Rows

open Gen Read Cert.Ffn Idealize.ShloMosaic Idealize.ShloMosaic.TcCoe
  Idealize.SL.Sem

set_option maxRecDepth 65536

local notation "𝕀" => Idealize.ShloMosaic.Ideal

section
variable (x0 : S3x4096x1024.Idx → EReal) (x1 : S4096x1024.Idx → EReal) (x2 : S1024.Idx → EReal)
  (x3 : S1024x3072.Idx → EReal) (x4 : S4096x1024.Idx → EReal)

/-- Part 0 of the gradients side by side. -/
theorem cat0_apply (n : Fin 4096) (k : Fin 1024) :
    val_main_v27 (F := 𝕀) x0 (ix2 n ⟨0 * 1024 + k.val, by omega⟩) = x0 (ix3 0 n k) := by
  have e0 : ∀ i, val_main_v2 (F := 𝕀) x0 i = x0 (ix3 0 (i 0) (i 1)) := by
    intro i
    obtain ⟨a, b, rfl⟩ := split2 i
    unfold val_main_v2 val_main_v1 val_main_v0; pointwise
  have e1 : ∀ i, val_main_v4 (F := 𝕀) x0 i = x0 (ix3 1 (i 0) (i 1)) := by
    intro i
    obtain ⟨a, b, rfl⟩ := split2 i
    unfold val_main_v4 val_main_v3 val_main_v0; pointwise
  have e2 : ∀ i, val_main_v6 (F := 𝕀) x0 i = x0 (ix3 2 (i 0) (i 1)) := by
    intro i
    obtain ⟨a, b, rfl⟩ := split2 i
    unfold val_main_v6 val_main_v5 val_main_v0; pointwise
  unfold val_main_v27
  generalize val_main_v2 (F := 𝕀) x0 = A0 at e0
  generalize val_main_v4 (F := 𝕀) x0 = A1 at e1
  generalize val_main_v6 (F := 𝕀) x0 = A2 at e2
  pointwise
  exact e0 _

/-- Part 1 of the gradients side by side. -/
theorem cat1_apply (n : Fin 4096) (k : Fin 1024) :
    val_main_v27 (F := 𝕀) x0 (ix2 n ⟨1 * 1024 + k.val, by omega⟩) = x0 (ix3 1 n k) := by
  have e0 : ∀ i, val_main_v2 (F := 𝕀) x0 i = x0 (ix3 0 (i 0) (i 1)) := by
    intro i
    obtain ⟨a, b, rfl⟩ := split2 i
    unfold val_main_v2 val_main_v1 val_main_v0; pointwise
  have e1 : ∀ i, val_main_v4 (F := 𝕀) x0 i = x0 (ix3 1 (i 0) (i 1)) := by
    intro i
    obtain ⟨a, b, rfl⟩ := split2 i
    unfold val_main_v4 val_main_v3 val_main_v0; pointwise
  have e2 : ∀ i, val_main_v6 (F := 𝕀) x0 i = x0 (ix3 2 (i 0) (i 1)) := by
    intro i
    obtain ⟨a, b, rfl⟩ := split2 i
    unfold val_main_v6 val_main_v5 val_main_v0; pointwise
  unfold val_main_v27
  generalize val_main_v2 (F := 𝕀) x0 = A0 at e0
  generalize val_main_v4 (F := 𝕀) x0 = A1 at e1
  generalize val_main_v6 (F := 𝕀) x0 = A2 at e2
  pointwise
  exact e1 _

/-- Part 2 of the gradients side by side. -/
theorem cat2_apply (n : Fin 4096) (k : Fin 1024) :
    val_main_v27 (F := 𝕀) x0 (ix2 n ⟨2 * 1024 + k.val, by omega⟩) = x0 (ix3 2 n k) := by
  have e0 : ∀ i, val_main_v2 (F := 𝕀) x0 i = x0 (ix3 0 (i 0) (i 1)) := by
    intro i
    obtain ⟨a, b, rfl⟩ := split2 i
    unfold val_main_v2 val_main_v1 val_main_v0; pointwise
  have e1 : ∀ i, val_main_v4 (F := 𝕀) x0 i = x0 (ix3 1 (i 0) (i 1)) := by
    intro i
    obtain ⟨a, b, rfl⟩ := split2 i
    unfold val_main_v4 val_main_v3 val_main_v0; pointwise
  have e2 : ∀ i, val_main_v6 (F := 𝕀) x0 i = x0 (ix3 2 (i 0) (i 1)) := by
    intro i
    obtain ⟨a, b, rfl⟩ := split2 i
    unfold val_main_v6 val_main_v5 val_main_v0; pointwise
  unfold val_main_v27
  generalize val_main_v2 (F := 𝕀) x0 = A0 at e0
  generalize val_main_v4 (F := 𝕀) x0 = A1 at e1
  generalize val_main_v6 (F := 𝕀) x0 = A2 at e2
  pointwise
  rw [dif_neg (by omega), dif_neg (by omega), e2]
  exact congrArg (fun a => x0 (ix3 2 n a)) (Fin.ext (by show 2048 + k.val - 1024 - 1024 = k.val; omega))

/-- The gradient at the normed row: the product with each block of the weights. -/
def dn (n : Fin 4096) (l : Fin 1024) : EReal :=
  (∑ k : Fin 1024, x0 (ix3 0 n k) * x3 (ix2 l ⟨0 * 1024 + k.val, by omega⟩)) + (∑ k : Fin 1024, x0 (ix3 1 n k) * x3 (ix2 l ⟨1 * 1024 + k.val, by omega⟩)) + (∑ k : Fin 1024, x0 (ix3 2 n k) * x3 (ix2 l ⟨2 * 1024 + k.val, by omega⟩))

theorem dn_apply (n : Fin 4096) (l : Fin 1024) : val_main_v28 (F := 𝕀) x0 x3 (ix2 n l) = dn x0 x3 n l := by
  have e0 := cat0_apply x0
  have e1 := cat1_apply x0
  have e2 := cat2_apply x0
  unfold val_main_v28
  generalize val_main_v27 (F := 𝕀) x0 = G at e0 e1 e2
  pointwise
  unfold dn
  refine (Fin.sum_univ_add (a := 2048) (b := 1024) _).trans ?_
  refine congrArg₂ (· + · : EReal → EReal → EReal) ((Fin.sum_univ_add (a := 1024) (b := 1024) _).trans ?_) ?_
  · exact congrArg₂ (· + · : EReal → EReal → EReal) (Finset.sum_congr rfl fun k _ => congrArg₂ (· * · : EReal → EReal → EReal)
      ((congrArg (fun a => G (ix2 n a)) (Fin.ext (by show k.val = 0 * 1024 + k.val; omega))).trans (e0 n k))
      (congrArg (fun a => x3 (ix2 l a)) (Fin.ext (by show k.val = 0 * 1024 + k.val; omega))))
      (Finset.sum_congr rfl fun k _ => congrArg₂ (· * · : EReal → EReal → EReal)
      ((congrArg (fun a => G (ix2 n a)) (Fin.ext (by show 1024 + k.val = 1 * 1024 + k.val; omega))).trans (e1 n k))
      (congrArg (fun a => x3 (ix2 l a)) (Fin.ext (by show 1024 + k.val = 1 * 1024 + k.val; omega))))
  · exact Finset.sum_congr rfl fun k _ => congrArg₂ (· * · : EReal → EReal → EReal)
      ((congrArg (fun a => G (ix2 n a)) (Fin.ext (by show 2048 + k.val = 2 * 1024 + k.val; omega))).trans (e2 n k))
      (congrArg (fun a => x3 (ix2 l a)) (Fin.ext (by show 2048 + k.val = 2 * 1024 + k.val; omega)))

theorem xhat_apply (n : Fin 4096) (l : Fin 1024) :
    val_main_v19 (F := 𝕀) x1 (ix2 n l) = xhat (fun l => x1 (ix2 n l)) l := by
  unfold val_main_v19 val_main_v18 val_main_v14 val_main_v13 val_main_v12 val_main_v11 val_main_v10 val_main_v9 val_main_v8
    val_main_v7 val_main_cst val_main_cst_0 val_main_cst_1
  pointwise; rfl

theorem msq_apply (n : Fin 4096) (q : Fin 1) : val_main_v13 (F := 𝕀) x1 (ix2 n q) = msq (fun l => x1 (ix2 n l)) := by
  unfold val_main_v13 val_main_v12 val_main_v11 val_main_v10 val_main_v9 val_main_v8 val_main_v7 val_main_cst val_main_cst_0
    val_main_cst_1
  pointwise; rfl

theorem scaled_apply (n : Fin 4096) (l : Fin 1024) :
    val_main_v33 (F := 𝕀) x0 x2 x3 (ix2 n l) = dn x0 x3 n l * x2 (ix1 l) := by
  have e := dn_apply x0 x3
  unfold val_main_v33 val_main_v32 val_main_v20
  generalize val_main_v28 (F := 𝕀) x0 x3 = G at e
  pointwise
  rw [e]

/-- The factor of the row in the norm's backward pass. -/
theorem pull_apply (n : Fin 4096) :
    val_main_v44 (F := 𝕀) x0 x1 x2 x3 (ix1 n)
      = pull (fun l => x1 (ix2 n l)) (fun l => dn x0 x3 n l * x2 (ix1 l)) := by
  have e := scaled_apply x0 x2 x3
  have em := msq_apply x1
  unfold val_main_v44 val_main_v43 val_main_v42 val_main_v41 val_main_v37 val_main_v36 val_main_v35 val_main_v17 val_main_v16
    val_main_v15 val_main_v14 val_main_cst_2 val_main_cst_5 val_main_cst_6 val_main_cst_7
  generalize val_main_v33 (F := 𝕀) x0 x2 x3 = G at e
  generalize val_main_v13 (F := 𝕀) x1 = M at em
  pointwise
  simp only [e, em, Fin.sum_univ_one]
  rfl

/-- The gradient of the layer's input. -/
theorem dx_apply (n : Fin 4096) (l : Fin 1024) :
    val_main_v49 (F := 𝕀) x0 x1 x2 x3 x4 (ix2 n l)
      = x4 (ix2 n l) + normBack (fun l => x1 (ix2 n l)) (fun l => dn x0 x3 n l * x2 (ix1 l)) l := by
  rw [← chain_eq]
  have e := scaled_apply x0 x2 x3
  have em := msq_apply x1
  have ep := pull_apply x0 x1 x2 x3
  unfold val_main_v49 val_main_v48 val_main_v47 val_main_v46 val_main_v45 val_main_v40 val_main_v39 val_main_v38 val_main_v14
  generalize val_main_v33 (F := 𝕀) x0 x2 x3 = G at e
  generalize val_main_v44 (F := 𝕀) x0 x1 x2 x3 = P at ep
  generalize val_main_v13 (F := 𝕀) x1 = M at em
  pointwise
  simp only [e, em, ep]

/-- The gradient of the norm's scale. -/
theorem dg_apply (q : Fin 1) (l : Fin 1024) :
    val_main_v50 (F := 𝕀) x0 x1 x3 (ix2 q l)
      = ∑ n : Fin 4096, dn x0 x3 n l * xhat (fun l => x1 (ix2 n l)) l := by
  have e := dn_apply x0 x3
  have ex := xhat_apply x1
  unfold val_main_v50 val_main_v34 val_main_v31 val_main_v30 val_main_v29 val_main_cst_3 val_main_cst_4
  generalize val_main_v28 (F := 𝕀) x0 x3 = G at e
  generalize val_main_v19 (F := 𝕀) x1 = X at ex
  pointwise
  simp only [e, ex, Fin.sum_univ_one]
  exact Finset.sum_congr rfl fun n _ => mul_comm _ _

end
end Cert.ConvBwdInReferenceIdeal.Rows
end
-- ==== Proof.QgBwdInArrays.lean ====
/- The backward pass of the attention's query and gate product and of the norm before it, as the kernel computes them: the
   gradient of the layer's input, tile by tile, and the gradient of the norm's scale, accumulated over the tiles. -/
module

public import proofs.«01_k».proof.Proof.Gen.QgBwdInKernelIdeal.Value
public import proofs.«01_k».proof.Proof.NormMath

@[expose] public section

noncomputable section

namespace Cert.QgBwdInKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (v0 v5 : Vec 𝕀 S1x1x1024x1024 .bf16) (v2 v7 : Vec 𝕀 S1x512x1024 .bf16)
  (x : Vec 𝕀 S512x1024 .f32) (y : Vec 𝕀 S1x1024 .f32)

/-- The gradient at the normed row. -/
theorem dn_apply (r : Fin 512) (l : Fin 1024) :
    k0_pay4 v0 v2 v5 v7 (ix2 r l)
      = (∑ k : Fin 1024, (v2 (ix3 0 r k) * v0 (ix4 0 0 l k) : EReal)) + (∑ k : Fin 1024, (v7 (ix3 0 r k) * v5 (ix4 0 0 l k) : EReal)) := by
  unfold_payloads; pointwise

theorem xhat_apply (r : Fin 512) (l : Fin 1024) : k0_pay5 x (ix2 r l) = xhat (fun l => x (ix2 r l)) l := by
  unfold_payloads; pointwise; rfl

theorem msq_apply (r : Fin 512) (q : Fin 1) : k0_pay7 x (ix2 r q) = msq (fun l => x (ix2 r l)) := by
  unfold_payloads; pointwise; rfl

theorem scaled_apply (r : Fin 512) (l : Fin 1024) :
    k0_pay6 v0 v2 v5 v7 y (ix2 r l) = (k0_pay4 v0 v2 v5 v7 (ix2 r l) * y (ix2 0 l) : EReal) := by
  unfold k0_pay6
  generalize k0_pay4 v0 v2 v5 v7 = G
  pointwise

/-- The row a point stores. -/
theorem dx_apply (z : Vec 𝕀 S512x1024 .f32) (r : Fin 512) (l : Fin 1024) :
    k0_pay2 (k0_pay5 x) (k0_pay6 v0 v2 v5 v7 y) (k0_pay7 x) z (ix2 r l)
      = z (ix2 r l) + normBack (fun l => x (ix2 r l)) (fun l => (k0_pay4 v0 v2 v5 v7 (ix2 r l) * y (ix2 0 l) : EReal)) l := by
  have e5 := xhat_apply x
  have e7 := msq_apply x
  have e6 := scaled_apply v0 v5 v2 v7 y
  unfold k0_pay2
  generalize k0_pay5 x = A at e5
  generalize k0_pay7 x = B at e7
  generalize k0_pay6 v0 v2 v5 v7 y = C at e6
  pointwise
  simp only [e5, e6, e7]
  rfl

/-- What a point adds to the gradient of the norm's scale. -/
theorem dscale_apply (q : Fin 1) (l : Fin 1024) :
    k0_pay1 (k0_pay4 v0 v2 v5 v7) (k0_pay5 x) (ix2 q l)
      = ∑ r : Fin 512, (k0_pay4 v0 v2 v5 v7 (ix2 r l) * xhat (fun l => x (ix2 r l)) l : EReal) := by
  have e5 := xhat_apply x
  unfold k0_pay1
  generalize k0_pay5 x = A at e5
  generalize k0_pay4 v0 v2 v5 v7 = C
  pointwise
  simp only [e5]

theorem acc_apply (a b : FVec 𝕀 S512x1024 .f32) (acc : Vec 𝕀 S1x1024 .f32) (q : Fin 1) (l : Fin 1024) :
    k0_pay3 a b acc (ix2 q l) = acc (ix2 q l) + k0_pay1 a b (ix2 q l) := by
  unfold k0_pay3
  generalize k0_pay1 a b = C
  pointwise

end

section
variable (m : (ℓ : Loc nD τ sig) → Buf (Elt 𝕀) ℓ) (d : Dev nD)

/-- The gradient of the queries. -/
def dq (n : Fin 4096) (k : Fin 1024) : EReal := (m (d.tc.loc main_arg0) : Vec 𝕀 S1x4096x1024 .bf16) (ix3 0 n k)

/-- The gradient of the gate. -/
def dgate (n : Fin 4096) (k : Fin 1024) : EReal := (m (d.tc.loc main_arg1) : Vec 𝕀 S1x4096x1024 .bf16) (ix3 0 n k)

/-- The layer's input. -/
def x (n : Fin 4096) (l : Fin 1024) : EReal := (m (d.tc.loc main_arg2) : Vec 𝕀 S4096x1024 .f32) (ix2 n l)

/-- The norm's scale. -/
def g (l : Fin 1024) : EReal := (m (d.tc.loc main_arg3) : Vec 𝕀 S1024 .f32) (ix1 l)

/-- The weights: entry `l` of lane `k` of block `p`. -/
def w (p : Fin 2) (l k : Fin 1024) : EReal :=
  (m (d.tc.loc main_arg4) : Vec 𝕀 S1024x2048 .f32) (ix2 l ⟨p.val * 1024 + k.val, by omega⟩)

/-- The gradient that reaches the layer's input past it. -/
def dres (n : Fin 4096) (l : Fin 1024) : EReal := (m (d.tc.loc main_arg5) : Vec 𝕀 S4096x1024 .f32) (ix2 n l)

theorem VW (p : Fin 2) (l k : Fin 1024) : (V m d main_v3 : Vec 𝕀 S2x1x1024x1024 .bf16) (ix4 p 0 l k) = w m d p l k := by
  entry_read
  pointwise
  rfl

theorem VG (l : Fin 1024) : (V m d main_v4 : Vec 𝕀 S1x1024 .f32) (ix2 0 l) = g m d l := by
  entry_read
  pointwise
  rfl

theorem blk0 (t : Fin cfg0.N) (p : Fin 1) (r : Fin 512) (k : Fin 1024) :
    (iblk m d 0 t : Vec 𝕀 S1x512x1024 .bf16) (ix3 p r k) = (V m d main_arg0 : Vec 𝕀 S1x4096x1024 .bf16) (ix3 p (row t r) k) := by
  have hi := (by decide +kernel : ∀ t : Fin grid0.N, win0_0.index t 0 = 0 ∧ win0_0.index t 1 = t.val ∧ win0_0.index t 2 = 0) t
  unfold iblk
  rw [View.read_apply]
  refine congrArg (V m d main_arg0 : Vec 𝕀 S1x4096x1024 .bf16) (funext fun a => Fin.ext ?_)
  match a with
  | ⟨0, _⟩ => show win0_0.index t 0 * 1 + 1 * p.val = p.val; rw [hi.1]; omega
  | ⟨1, _⟩ => show win0_0.index t 1 * 512 + 1 * r.val = 512 * t.val + r.val; rw [hi.2.1]; omega
  | ⟨2, _⟩ => show win0_0.index t 2 * 1024 + 1 * k.val = k.val; rw [hi.2.2]; omega

theorem blk1 (t : Fin cfg0.N) (p : Fin 1) (r : Fin 512) (k : Fin 1024) :
    (iblk m d 1 t : Vec 𝕀 S1x512x1024 .bf16) (ix3 p r k) = (V m d main_arg1 : Vec 𝕀 S1x4096x1024 .bf16) (ix3 p (row t r) k) := by
  have hi := (by decide +kernel : ∀ t : Fin grid0.N, win0_1.index t 0 = 0 ∧ win0_1.index t 1 = t.val ∧ win0_1.index t 2 = 0) t
  unfold iblk
  rw [View.read_apply]
  refine congrArg (V m d main_arg1 : Vec 𝕀 S1x4096x1024 .bf16) (funext fun a => Fin.ext ?_)
  match a with
  | ⟨0, _⟩ => show win0_1.index t 0 * 1 + 1 * p.val = p.val; rw [hi.1]; omega
  | ⟨1, _⟩ => show win0_1.index t 1 * 512 + 1 * r.val = 512 * t.val + r.val; rw [hi.2.1]; omega
  | ⟨2, _⟩ => show win0_1.index t 2 * 1024 + 1 * k.val = k.val; rw [hi.2.2]; omega

theorem blk2 (t : Fin cfg0.N) (p : Fin 2) (q : Fin 1) (l : Fin 1024) (k : Fin 1024) :
    (iblk m d 2 t : Vec 𝕀 S2x1x1024x1024 .bf16) (ix4 p q l k) = (V m d main_v3 : Vec 𝕀 S2x1x1024x1024 .bf16) (ix4 p q l k) := by
  have hi := (by decide +kernel : ∀ t : Fin grid0.N, win0_2.index t 0 = 0 ∧ win0_2.index t 1 = 0 ∧ win0_2.index t 2 = 0 ∧ win0_2.index t 3 = 0) t
  unfold iblk
  rw [View.read_apply]
  refine congrArg (V m d main_v3 : Vec 𝕀 S2x1x1024x1024 .bf16) (funext fun a => Fin.ext ?_)
  match a with
  | ⟨0, _⟩ => show win0_2.index t 0 * 2 + 1 * p.val = p.val; rw [hi.1]; omega
  | ⟨1, _⟩ => show win0_2.index t 1 * 1 + 1 * q.val = q.val; rw [hi.2.1]; omega
  | ⟨2, _⟩ => show win0_2.index t 2 * 1024 + 1 * l.val = l.val; rw [hi.2.2.1]; omega
  | ⟨3, _⟩ => show win0_2.index t 3 * 1024 + 1 * k.val = k.val; rw [hi.2.2.2]; omega

theorem blk3 (t : Fin cfg0.N) (r : Fin 512) (l : Fin 1024) :
    (iblk m d 3 t : Vec 𝕀 S512x1024 .f32) (ix2 r l) = (V m d main_arg2 : Vec 𝕀 S4096x1024 .f32) (ix2 (row t r) l) := by
  have hi := (by decide +kernel : ∀ t : Fin grid0.N, win0_3.index t 0 = t.val ∧ win0_3.index t 1 = 0) t
  unfold iblk
  rw [View.read_apply]
  refine congrArg (V m d main_arg2 : Vec 𝕀 S4096x1024 .f32) (funext fun a => Fin.ext ?_)
  match a with
  | ⟨0, _⟩ => show win0_3.index t 0 * 512 + 1 * r.val = 512 * t.val + r.val; rw [hi.1]; omega
  | ⟨1, _⟩ => show win0_3.index t 1 * 1024 + 1 * l.val = l.val; rw [hi.2]; omega

theorem blk4 (t : Fin cfg0.N) (q : Fin 1) (l : Fin 1024) :
    (iblk m d 4 t : Vec 𝕀 S1x1024 .f32) (ix2 q l) = (V m d main_v4 : Vec 𝕀 S1x1024 .f32) (ix2 q l) := by
  have hi := (by decide +kernel : ∀ t : Fin grid0.N, win0_4.index t 0 = 0 ∧ win0_4.index t 1 = 0) t
  unfold iblk
  rw [View.read_apply]
  refine congrArg (V m d main_v4 : Vec 𝕀 S1x1024 .f32) (funext fun a => Fin.ext ?_)
  match a with
  | ⟨0, _⟩ => show win0_4.index t 0 * 1 + 1 * q.val = q.val; rw [hi.1]; omega
  | ⟨1, _⟩ => show win0_4.index t 1 * 1024 + 1 * l.val = l.val; rw [hi.2]; omega

theorem blk5 (t : Fin cfg0.N) (r : Fin 512) (l : Fin 1024) :
    (iblk m d 5 t : Vec 𝕀 S512x1024 .f32) (ix2 r l) = (V m d main_arg5 : Vec 𝕀 S4096x1024 .f32) (ix2 (row t r) l) := by
  have hi := (by decide +kernel : ∀ t : Fin grid0.N, win0_5.index t 0 = t.val ∧ win0_5.index t 1 = 0) t
  unfold iblk
  rw [View.read_apply]
  refine congrArg (V m d main_arg5 : Vec 𝕀 S4096x1024 .f32) (funext fun a => Fin.ext ?_)
  match a with
  | ⟨0, _⟩ => show win0_5.index t 0 * 512 + 1 * r.val = 512 * t.val + r.val; rw [hi.1]; omega
  | ⟨1, _⟩ => show win0_5.index t 1 * 1024 + 1 * l.val = l.val; rw [hi.2]; omega

/-- The gradient at the normed row. -/
def dn (n : Fin 4096) (l : Fin 1024) : EReal :=
  (∑ k : Fin 1024, dq m d n k * w m d 0 l k) + (∑ k : Fin 1024, dgate m d n k * w m d 1 l k)

/-- The gradient of the layer's input. -/
def dx (n : Fin 4096) (l : Fin 1024) : EReal :=
  dres m d n l + normBack (x m d n) (fun l => dn m d n l * g m d l) l

/-- What row `n` gives the gradient of the norm's scale. -/
def term (n : Nat) (l : Fin 1024) : EReal :=
  if h : n < 4096 then dn m d ⟨n, h⟩ l * xhat (x m d ⟨n, h⟩) l else 0

/-- The gradient of the norm's scale. -/
def dg (_ : Fin 1) (l : Fin 1024) : EReal := ∑ n : Fin 4096, dn m d n l * xhat (x m d n) l

/-- What tile `t` adds to it. -/
def tile (t : Nat) (l : Fin 1024) : EReal := ∑ r : Fin 512, term m d (512 * t + r.val) l

theorem term_row (t : Fin cfg0.N) (r : Fin 512) (l : Fin 1024) :
    term m d (512 * t.val + r.val) l = dn m d (row t r) l * xhat (x m d (row t r)) l := by
  unfold term row
  rw [dif_pos]

theorem dg_eq (l : Fin 1024) : ∑ t : Fin 8, tile m d t.val l = dg m d 0 l := by
  refine (sum_tiles 8 512 (fun n => term m d n l)).symm.trans ?_
  exact Finset.sum_congr rfl fun n _ => dif_pos n.isLt

/-- An entry of one block of the weights, as a point loads it. -/
theorem w_eq (t : Fin cfg0.N) (p : Fin 2) (ia : ∀ a, ![p.val, 0, 0, 0] a + ![1, 1, 1024, 1024] a ≤ S2x1x1024x1024.size a) (l k : Fin 1024) :
    View.ld (iblk m d 2 t : Vec 𝕀 S2x1x1024x1024 .bf16) (Rect.unit ![p.val, 0, 0, 0] ![1, 1, 1024, 1024] ia) (ix4 0 0 l k) = w m d p l k := by
  have e : (Rect.unit (s := S2x1x1024x1024) ![p.val, 0, 0, 0] ![1, 1, 1024, 1024] ia).emb (ix4 0 0 l k) = ix4 p 0 l k := by
    funext a; apply Fin.ext
    match a with
    | ⟨0, _⟩ => show p.val + 1 * 0 = p.val; omega
    | ⟨1, _⟩ => rfl
    | ⟨2, _⟩ => show 0 + 1 * l.val = l.val; omega
    | ⟨3, _⟩ => show 0 + 1 * k.val = k.val; omega
  exact (congrArg (iblk m d 2 t : Vec 𝕀 S2x1x1024x1024 .bf16) e).trans ((blk2 m d t p 0 l k).trans (VW m d p l k))

/-- Block 0 of the weights, as a point loads it. -/
abbrev w0 (t : Fin cfg0.N) : Vec 𝕀 S1x1x1024x1024 .bf16 :=
  View.ld (iblk m d 2 t : Vec 𝕀 S2x1x1024x1024 .bf16) (Rect.unit ![0, 0, 0, 0] ![1, 1, 1024, 1024] inb_S2x1x1024x1024_S1x1x1024x1024_0_0_0_0)
/-- Block 1 of the weights, as a point loads it. -/
abbrev w1 (t : Fin cfg0.N) : Vec 𝕀 S1x1x1024x1024 .bf16 :=
  View.ld (iblk m d 2 t : Vec 𝕀 S2x1x1024x1024 .bf16) (Rect.unit ![1, 0, 0, 0] ![1, 1, 1024, 1024] inb_S2x1x1024x1024_S1x1x1024x1024_1_0_0_0)

theorem dn_eq (t : Fin cfg0.N) (r : Fin 512) (l : Fin 1024) : k0_pay4 (w0 m d t) (iblk m d 0 t) (w1 m d t) (iblk m d 1 t) (ix2 r l) = dn m d (row t r) l := by
  rw [dn_apply]
  exact congrArg₂ (· + · : EReal → EReal → EReal)
    (Finset.sum_congr rfl fun k _ => congrArg₂ (· * · : EReal → EReal → EReal) ((blk0 m d t 0 r k).trans (by rw [V_main_arg0]; rfl)) (w_eq m d t 0 inb_S2x1x1024x1024_S1x1x1024x1024_0_0_0_0 l k))
    (Finset.sum_congr rfl fun k _ => congrArg₂ (· * · : EReal → EReal → EReal) ((blk1 m d t 0 r k).trans (by rw [V_main_arg1]; rfl)) (w_eq m d t 1 inb_S2x1x1024x1024_S1x1x1024x1024_1_0_0_0 l k))

theorem x_eq (t : Fin cfg0.N) (r : Fin 512) : (fun l => (iblk m d 3 t : Vec 𝕀 S512x1024 .f32) (ix2 r l)) = x m d (row t r) :=
  funext fun l => (blk3 m d t r l).trans (by rw [V_main_arg2]; rfl)

/-- The block of the input's gradient a point stores. -/
def dxblock (t : Fin cfg0.N) : Vec 𝕀 S512x1024 .f32 := fun i => dx m d (row t (i 0)) (i 1)

theorem dx_eq (t : Fin cfg0.N) :
    k0_pay2 (k0_pay5 (iblk m d 3 t)) (k0_pay6 (w0 m d t) (iblk m d 0 t) (w1 m d t) (iblk m d 1 t) (iblk m d 4 t)) (k0_pay7 (iblk m d 3 t)) (iblk m d 5 t) = dxblock m d t := by
  funext y
  obtain ⟨r, l, rfl⟩ := split2 y
  refine (dx_apply _ _ _ _ _ _ _ r l).trans ?_
  refine congrArg₂ (· + · : EReal → EReal → EReal) ((blk5 m d t r l).trans (by rw [V_main_arg5]; rfl)) ?_
  refine congrArg₂ (normBack · · l) (x_eq m d t r) (funext fun l => ?_)
  exact congrArg₂ (· * · : EReal → EReal → EReal) (dn_eq m d t r l) ((blk4 m d t 0 l).trans (VG m d l))

theorem tile_eq (t : Fin cfg0.N) (q : Fin 1) (l : Fin 1024) :
    k0_pay1 (k0_pay4 (w0 m d t) (iblk m d 0 t) (w1 m d t) (iblk m d 1 t)) (k0_pay5 (iblk m d 3 t)) (ix2 q l) = tile m d t.val l := by
  rw [dscale_apply]
  refine Finset.sum_congr rfl fun r _ => ?_
  rw [term_row]
  exact congrArg₂ (· * · : EReal → EReal → EReal) (dn_eq m d t r l) (congrArg (xhat · l) (x_eq m d t r))

/-- The first point: the block's gradient and the first tile's share of the scale's. -/
theorem outs_A (t : Fin cfg0.N) (h0 : t.val % 8 = 0) (h1 : ¬1 ≤ t.val) :
    (outsAt0 m d t.val t.isLt).1 = dxblock m d t
    ∧ ∀ l, (outsAt0 m d t.val t.isLt).2 (ix2 0 l) = tile m d t.val l := by
  rw [outsAt0_A m d t h0 h1]
  constructor
  · unfold out0_A_6
    dsimp only
    rw [View.read_writes_eq_canon _ _ _ (fun _ => cover0_A_6 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S1x512x1024) hz3, View.ld_unit_zero (S := S512x1024) hz2,
      View.ld_unit_zero (S := S1x1024) hz2, View.canon_unit_zero (S := S512x1024) hz2]
    exact dx_eq m d t
  · intro l
    unfold out0_A_7
    dsimp only
    rw [View.read_writes_eq_canon _ _ _ (fun _ => cover0_A_7 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S1x512x1024) hz3, View.ld_unit_zero (S := S512x1024) hz2,
      View.ld_unit_zero (S := S1x1024) hz2, View.canon_unit_zero (S := S1x1024) hz2]
    exact tile_eq m d t 0 l

/-- A later point: the block's gradient, and its tile's share added to what the point before left. -/
theorem outs_B (t : Fin cfg0.N) (h0 : ¬t.val % 8 = 0) (h1 : 1 ≤ t.val) :
    (outsAt0 m d t.val t.isLt).1 = dxblock m d t
    ∧ ∀ l, (outsAt0 m d t.val t.isLt).2 (ix2 0 l)
        = (outsAt0 m d (t.val - 1) (Nat.lt_of_le_of_lt (Nat.sub_le _ _) t.isLt)).2 (ix2 0 l) + tile m d t.val l := by
  rw [outsAt0_B m d t h0 h1]
  constructor
  · unfold out0_B_6
    dsimp only
    rw [View.read_writes_eq_canon _ _ _ (fun _ => cover0_B_6 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S1x512x1024) hz3, View.ld_unit_zero (S := S512x1024) hz2,
      View.ld_unit_zero (S := S1x1024) hz2, View.canon_unit_zero (S := S512x1024) hz2]
    exact dx_eq m d t
  · intro l
    unfold out0_B_7
    dsimp only
    rw [View.read_writes_eq_canon _ _ _ (fun _ => cover0_B_7 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_7 t).read_unread, View.ld_unit_zero (S := S1x512x1024) hz3, View.ld_unit_zero (S := S512x1024) hz2,
      View.ld_unit_zero (S := S1x1024) hz2, View.canon_unit_zero (S := S1x1024) hz2]
    rw [← tile_eq m d t 0 l]
    exact acc_apply _ _ _ 0 l

/-- Every point's block of the input's gradient. -/
theorem outs_fst (t : Fin cfg0.N) : (outsAt0 m d t.val t.isLt).1 = dxblock m d t := by
  have h8 : t.val < 8 := t.isLt
  by_cases h : 1 ≤ t.val
  · exact (outs_B m d t (by omega) h).1
  · exact (outs_A m d t (by omega) h).1

/-- The scale's gradient after point `n`: the sum of the tiles so far. -/
theorem outs_snd (l : Fin 1024) : ∀ (n : Nat) (hn : n < cfg0.N),
    (outsAt0 m d n hn).2 (ix2 0 l) = ∑ t : Fin (n + 1), tile m d t.val l
  | 0, hn => by
    rw [(outs_A m d ⟨0, hn⟩ (by show 0 % 8 = 0; rfl) (by show ¬1 ≤ 0; omega)).2 l, Fin.sum_univ_one]
    rfl
  | n + 1, hn => by
    have h8 : n + 1 < 8 := hn
    rw [(outs_B m d ⟨n + 1, hn⟩ (by show ¬(n + 1) % 8 = 0; omega) (by show 1 ≤ n + 1; omega)).2 l,
      Fin.sum_univ_castSucc]
    exact congrArg (· + _) (outs_snd l n (Nat.lt_of_succ_lt hn))

/-- The input's gradient after the run. -/
theorem arr6 : (dats m 0 d).arrAt 6 cfg0.N = fun i : S4096x1024.Idx => dx m d (i 0) (i 1) := by
  have hi : ∀ t : Fin cfg0.N, win0_6.index t 0 = t.val ∧ win0_6.index t 1 = 0 :=
    (by decide +kernel : ∀ t : Fin grid0.N, win0_6.index t 0 = t.val ∧ win0_6.index t 1 = 0)
  refine (dats m 0 d).arrAt_eq_of_cover 6 _ ?_ ?_
  · intro t ht
    rw [Value.flushed6, outs_fst]
    funext y
    rw [View.read_apply]
    change S512x1024.Idx at y
    obtain ⟨r, l, rfl⟩ := split2 y
    have a0 : (((cfg0.win 6).blk t).view.emb (ix2 r l) : S4096x1024.Idx) 0 = row t r :=
      Fin.ext (by show win0_6.index t 0 * 512 + 1 * r.val = 512 * t.val + r.val; rw [(hi t).1]; omega)
    have a1 : (((cfg0.win 6).blk t).view.emb (ix2 r l) : S4096x1024.Idx) 1 = l :=
      Fin.ext (by show win0_6.index t 1 * 1024 + 1 * l.val = l.val; rw [(hi t).2]; omega)
    show _ = dx m d _ _
    rw [a0, a1]
    rfl
  · exact (by decide +kernel : (cfg0.win 6).Covers).cover _ (Memref.isWhole_whole _)

/-- The scale's gradient after the run. -/
theorem arr7 : (dats m 0 d).arrAt 7 cfg0.N = fun i : S1x1024.Idx => dg m d (i 0) (i 1) := by
  have hi : ∀ t : Fin cfg0.N, win0_7.index t 0 = 0 ∧ win0_7.index t 1 = 0 :=
    (by decide +kernel : ∀ t : Fin grid0.N, win0_7.index t 0 = 0 ∧ win0_7.index t 1 = 0)
  have hf : ∀ t : Fin cfg0.N, (cfg0.win 7).flush t = true → t.val = 7 :=
    (by decide +kernel : ∀ t : Fin grid0.N, win0_7.flush t = true → t.val = 7)
  refine (dats m 0 d).arrAt_eq_of_cover 7 _ ?_ ?_
  · intro t ht
    have hl := hf t ht
    rw [Value.flushed7]
    funext y
    rw [View.read_apply]
    change S1x1024.Idx at y
    obtain ⟨q, l, rfl⟩ := split2 y
    have a0 : (((cfg0.win 7).blk t).view.emb (ix2 q l) : S1x1024.Idx) 0 = q :=
      Fin.ext (by show win0_7.index t 0 * 1 + 1 * q.val = q.val; rw [(hi t).1]; omega)
    have a1 : (((cfg0.win 7).blk t).view.emb (ix2 q l) : S1x1024.Idx) 1 = l :=
      Fin.ext (by show win0_7.index t 1 * 1024 + 1 * l.val = l.val; rw [(hi t).2]; omega)
    show _ = dg m d 0 _
    rw [a1]
    obtain rfl : q = 0 := Subsingleton.elim _ _
    refine (outs_snd m d l t.val t.isLt).trans ?_
    rw [hl]
    exact dg_eq m d l
  · exact (by decide +kernel : (cfg0.win 7).Covers).cover _ (Memref.isWhole_whole _)

end
end Cert.QgBwdInKernelIdeal.Blocks
end
-- ==== Proof.QgBwdInReference.lean ====
/- What the reference of the backward pass of the attention's query and gate product computes, entry by entry. -/
module

public import proofs.«01_k».proof.Proof.Gen.QgBwdInReferenceIdeal.Read
public import proofs.«01_k».proof.Proof.NormMath

@[expose] public section

noncomputable section

namespace Cert.QgBwdInReferenceIdeal.Rows

open Gen Read Cert.Ffn Idealize.ShloMosaic Idealize.ShloMosaic.TcCoe
  Idealize.SL.Sem

set_option maxRecDepth 65536

local notation "𝕀" => Idealize.ShloMosaic.Ideal

section
variable (x0 x1 : S1x4096x1024.Idx → EReal) (x2 : S4096x1024.Idx → EReal) (x3 : S1024.Idx → EReal)
  (x4 : S1024x2048.Idx → EReal) (x5 : S4096x1024.Idx → EReal)

/-- Part 0 of the gradients side by side. -/
theorem cat0_apply (n : Fin 4096) (k : Fin 1024) :
    val_main_v23 (F := 𝕀) x0 x1 (ix2 n ⟨0 * 1024 + k.val, by omega⟩) = x0 (ix3 0 n k) := by
  have e0 : ∀ i, val_main_v20 (F := 𝕀) x0 i = x0 (ix3 0 (i 0) (i 1)) := by
    intro i
    obtain ⟨a, b, rfl⟩ := split2 i
    unfold val_main_v20 val_main_v19; pointwise
  have e1 : ∀ i, val_main_v22 (F := 𝕀) x1 i = x1 (ix3 0 (i 0) (i 1)) := by
    intro i
    obtain ⟨a, b, rfl⟩ := split2 i
    unfold val_main_v22 val_main_v21; pointwise
  unfold val_main_v23
  generalize val_main_v20 (F := 𝕀) x0 = A0 at e0
  generalize val_main_v22 (F := 𝕀) x1 = A1 at e1
  pointwise
  exact e0 _

/-- Part 1 of the gradients side by side. -/
theorem cat1_apply (n : Fin 4096) (k : Fin 1024) :
    val_main_v23 (F := 𝕀) x0 x1 (ix2 n ⟨1 * 1024 + k.val, by omega⟩) = x1 (ix3 0 n k) := by
  have e0 : ∀ i, val_main_v20 (F := 𝕀) x0 i = x0 (ix3 0 (i 0) (i 1)) := by
    intro i
    obtain ⟨a, b, rfl⟩ := split2 i
    unfold val_main_v20 val_main_v19; pointwise
  have e1 : ∀ i, val_main_v22 (F := 𝕀) x1 i = x1 (ix3 0 (i 0) (i 1)) := by
    intro i
    obtain ⟨a, b, rfl⟩ := split2 i
    unfold val_main_v22 val_main_v21; pointwise
  unfold val_main_v23
  generalize val_main_v20 (F := 𝕀) x0 = A0 at e0
  generalize val_main_v22 (F := 𝕀) x1 = A1 at e1
  pointwise
  exact e1 _

/-- The gradient at the normed row: the product with each block of the weights. -/
def dn (n : Fin 4096) (l : Fin 1024) : EReal :=
  (∑ k : Fin 1024, x0 (ix3 0 n k) * x4 (ix2 l ⟨0 * 1024 + k.val, by omega⟩)) + (∑ k : Fin 1024, x1 (ix3 0 n k) * x4 (ix2 l ⟨1 * 1024 + k.val, by omega⟩))

theorem dn_apply (n : Fin 4096) (l : Fin 1024) : val_main_v24 (F := 𝕀) x0 x1 x4 (ix2 n l) = dn x0 x1 x4 n l := by
  have e0 := cat0_apply x0 x1
  have e1 := cat1_apply x0 x1
  unfold val_main_v24
  generalize val_main_v23 (F := 𝕀) x0 x1 = G at e0 e1
  pointwise
  unfold dn
  refine (Fin.sum_univ_add (a := 1024) (b := 1024) _).trans ?_
  exact congrArg₂ (· + · : EReal → EReal → EReal) (Finset.sum_congr rfl fun k _ => congrArg₂ (· * · : EReal → EReal → EReal)
      ((congrArg (fun a => G (ix2 n a)) (Fin.ext (by show k.val = 0 * 1024 + k.val; omega))).trans (e0 n k))
      (congrArg (fun a => x4 (ix2 l a)) (Fin.ext (by show k.val = 0 * 1024 + k.val; omega))))
    (Finset.sum_congr rfl fun k _ => congrArg₂ (· * · : EReal → EReal → EReal)
      ((congrArg (fun a => G (ix2 n a)) (Fin.ext (by show 1024 + k.val = 1 * 1024 + k.val; omega))).trans (e1 n k))
      (congrArg (fun a => x4 (ix2 l a)) (Fin.ext (by show 1024 + k.val = 1 * 1024 + k.val; omega))))

theorem xhat_apply (n : Fin 4096) (l : Fin 1024) :
    val_main_v12 (F := 𝕀) x2 (ix2 n l) = xhat (fun l => x2 (ix2 n l)) l := by
  unfold val_main_v12 val_main_v11 val_main_v7 val_main_v6 val_main_v5 val_main_v4 val_main_v3 val_main_v2 val_main_v1
    val_main_v0 val_main_cst val_main_cst_0 val_main_cst_1
  pointwise; rfl

theorem msq_apply (n : Fin 4096) (q : Fin 1) : val_main_v6 (F := 𝕀) x2 (ix2 n q) = msq (fun l => x2 (ix2 n l)) := by
  unfold val_main_v6 val_main_v5 val_main_v4 val_main_v3 val_main_v2 val_main_v1 val_main_v0 val_main_cst val_main_cst_0
    val_main_cst_1
  pointwise; rfl

theorem scaled_apply (n : Fin 4096) (l : Fin 1024) :
    val_main_v29 (F := 𝕀) x0 x1 x3 x4 (ix2 n l) = dn x0 x1 x4 n l * x3 (ix1 l) := by
  have e := dn_apply x0 x1 x4
  unfold val_main_v29 val_main_v28 val_main_v13
  generalize val_main_v24 (F := 𝕀) x0 x1 x4 = G at e
  pointwise
  rw [e]

/-- The factor of the row in the norm's backward pass. -/
theorem pull_apply (n : Fin 4096) :
    val_main_v40 (F := 𝕀) x0 x1 x2 x3 x4 (ix1 n)
      = pull (fun l => x2 (ix2 n l)) (fun l => dn x0 x1 x4 n l * x3 (ix1 l)) := by
  have e := scaled_apply x0 x1 x3 x4
  have em := msq_apply x2
  unfold val_main_v40 val_main_v39 val_main_v38 val_main_v37 val_main_v33 val_main_v32 val_main_v31 val_main_v10 val_main_v9
    val_main_v8 val_main_v7 val_main_cst_2 val_main_cst_5 val_main_cst_6 val_main_cst_7
  generalize val_main_v29 (F := 𝕀) x0 x1 x3 x4 = G at e
  generalize val_main_v6 (F := 𝕀) x2 = M at em
  pointwise
  simp only [e, em, Fin.sum_univ_one]
  rfl

/-- The gradient of the layer's input. -/
theorem dx_apply (n : Fin 4096) (l : Fin 1024) :
    val_main_v45 (F := 𝕀) x0 x1 x2 x3 x4 x5 (ix2 n l)
      = x5 (ix2 n l) + normBack (fun l => x2 (ix2 n l)) (fun l => dn x0 x1 x4 n l * x3 (ix1 l)) l := by
  rw [← chain_eq]
  have e := scaled_apply x0 x1 x3 x4
  have em := msq_apply x2
  have ep := pull_apply x0 x1 x2 x3 x4
  unfold val_main_v45 val_main_v44 val_main_v43 val_main_v42 val_main_v41 val_main_v36 val_main_v35 val_main_v34 val_main_v7
  generalize val_main_v29 (F := 𝕀) x0 x1 x3 x4 = G at e
  generalize val_main_v40 (F := 𝕀) x0 x1 x2 x3 x4 = P at ep
  generalize val_main_v6 (F := 𝕀) x2 = M at em
  pointwise
  simp only [e, em, ep]

/-- The gradient of the norm's scale. -/
theorem dg_apply (q : Fin 1) (l : Fin 1024) :
    val_main_v46 (F := 𝕀) x0 x1 x2 x4 (ix2 q l)
      = ∑ n : Fin 4096, dn x0 x1 x4 n l * xhat (fun l => x2 (ix2 n l)) l := by
  have e := dn_apply x0 x1 x4
  have ex := xhat_apply x2
  unfold val_main_v46 val_main_v30 val_main_v27 val_main_v26 val_main_v25 val_main_cst_3 val_main_cst_4
  generalize val_main_v24 (F := 𝕀) x0 x1 x4 = G at e
  generalize val_main_v12 (F := 𝕀) x2 = X at ex
  pointwise
  simp only [e, ex, Fin.sum_univ_one]
  exact Finset.sum_congr rfl fun n _ => mul_comm _ _

end
end Cert.QgBwdInReferenceIdeal.Rows
end
-- ==== Proof.KvBwdInArrays.lean ====
/- The backward pass of the keys', values' and forget gate's product and of the norm before it, as the kernel computes them: the
   gradient of the layer's input, tile by tile, and the gradient of the norm's scale, accumulated over the tiles. -/
module

public import proofs.«01_k».proof.Proof.Gen.KvBwdInKernelIdeal.Value
public import proofs.«01_k».proof.Proof.NormMath

@[expose] public section

noncomputable section

namespace Cert.KvBwdInKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

/-- The word zero as a number. -/
theorem zero_word : (FloatOps.sitofp FTy.bf16 (0#32) : 𝕀 .bf16) = (0 : EReal) := by
  show (((0#32 : BitVec 32).toInt : ℝ) : EReal) = 0
  simp

section
variable (v0 v5 : Vec 𝕀 S1x1x1024x1024 .bf16) (v2 v7 : Vec 𝕀 S1x512x1024 .bf16) (v11 : Vec 𝕀 S1x1x1024x128 .bf16) (v13 : Vec 𝕀 S1x512x128 .f32)
  (x : Vec 𝕀 S512x1024 .f32) (y : Vec 𝕀 S1x1024 .f32)

/-- The gradient at the normed row. -/
theorem dn_apply (r : Fin 512) (l : Fin 1024) :
    k0_pay5 v0 v2 v5 v7 v11 v13 (ix2 r l)
      = (∑ k : Fin 1024, (v2 (ix3 0 r k) * v0 (ix4 0 0 l k) : EReal)) + (∑ k : Fin 1024, (v7 (ix3 0 r k) * v5 (ix4 0 0 l k) : EReal)) + (∑ k : Fin 128, (v13 (ix3 0 r k) * v11 (ix4 0 0 l k) : EReal)) := by
  unfold_payloads; pointwise

theorem xhat_apply (r : Fin 512) (l : Fin 1024) : k0_pay1 x (k0_pay7 x) (ix2 r l) = xhat (fun l => x (ix2 r l)) l := by
  unfold_payloads; pointwise; rfl

theorem scale_apply (q : Fin 1) (l : Fin 1024) : k0_pay6 y (ix2 q l) = y (ix2 q l) := by
  unfold_payloads; pointwise

/-- The row a point stores. -/
theorem dx_apply (z : Vec 𝕀 S512x1024 .f32) (r : Fin 512) (l : Fin 1024) :
    k0_pay3 (k0_pay5 v0 v2 v5 v7 v11 v13) x (k0_pay6 y) (k0_pay7 x) z (ix2 r l)
      = z (ix2 r l) + normBack (fun l => x (ix2 r l)) (fun l => (k0_pay5 v0 v2 v5 v7 v11 v13 (ix2 r l) * y (ix2 0 l) : EReal)) l := by
  have e1 := xhat_apply x
  have e6 := scale_apply y
  unfold k0_pay3
  generalize k0_pay1 x (k0_pay7 x) = A at e1
  generalize k0_pay6 y = B at e6
  generalize k0_pay5 v0 v2 v5 v7 v11 v13 = C
  pointwise
  simp only [e1, e6]
  rfl

/-- What a point adds to the gradient of the norm's scale. -/
theorem dscale_apply (q : Fin 1) (l : Fin 1024) :
    k0_pay2 (k0_pay5 v0 v2 v5 v7 v11 v13) x (k0_pay7 x) (ix2 q l)
      = ∑ r : Fin 512, (k0_pay5 v0 v2 v5 v7 v11 v13 (ix2 r l) * xhat (fun l => x (ix2 r l)) l : EReal) := by
  have e1 := xhat_apply x
  unfold k0_pay2
  generalize k0_pay1 x (k0_pay7 x) = A at e1
  generalize k0_pay5 v0 v2 v5 v7 v11 v13 = C
  pointwise
  simp only [e1]

theorem acc_apply (a b : FVec 𝕀 S512x1024 .f32) (c : FVec 𝕀 S512x1 .f32) (acc : Vec 𝕀 S1x1024 .f32) (q : Fin 1) (l : Fin 1024) :
    k0_pay4 a b c acc (ix2 q l) = acc (ix2 q l) + k0_pay2 a b c (ix2 q l) := by
  unfold k0_pay4
  generalize k0_pay2 a b c = C
  pointwise

end

section
variable (m : (ℓ : Loc nD τ sig) → Buf (Elt 𝕀) ℓ) (d : Dev nD)

/-- The gradient of the keys. -/
def dk (n : Fin 4096) (k : Fin 1024) : EReal := (m (d.tc.loc main_arg0) : Vec 𝕀 S1x4096x1024 .bf16) (ix3 0 n k)

/-- The gradient of the values. -/
def dv (n : Fin 4096) (k : Fin 1024) : EReal := (m (d.tc.loc main_arg1) : Vec 𝕀 S1x4096x1024 .bf16) (ix3 0 n k)

/-- The gradient of the forget gate's input. -/
def dfl (n : Fin 4096) (k : Fin 128) : EReal := (m (d.tc.loc main_arg2) : Vec 𝕀 S1x4096x128 .f32) (ix3 0 n k)

/-- The layer's input. -/
def x (n : Fin 4096) (l : Fin 1024) : EReal := (m (d.tc.loc main_arg3) : Vec 𝕀 S4096x1024 .f32) (ix2 n l)

/-- The norm's scale. -/
def g (l : Fin 1024) : EReal := (m (d.tc.loc main_arg4) : Vec 𝕀 S1024 .f32) (ix1 l)

/-- The weights: entry `l` of lane `k` of block `p`. -/
def w (p : Fin 2) (l k : Fin 1024) : EReal :=
  (m (d.tc.loc main_arg5) : Vec 𝕀 S1024x2064 .f32) (ix2 l ⟨p.val * 1024 + k.val, by omega⟩)

/-- The gradient that reaches the layer's input past it. -/
def dres (n : Fin 4096) (l : Fin 1024) : EReal := (m (d.tc.loc main_arg6) : Vec 𝕀 S4096x1024 .f32) (ix2 n l)

theorem VW (p : Fin 2) (l k : Fin 1024) : (V m d main_v4 : Vec 𝕀 S2x1x1024x1024 .bf16) (ix4 p 0 l k) = w m d p l k := by
  unfold V
  simp only [hostOps0, hostOps0_1, hostOps0_2, List.flatten_cons, List.flatten_nil, List.cons_append, List.nil_append]
  after_results
  pointwise
  rfl

theorem VG (l : Fin 1024) : (V m d main_v9 : Vec 𝕀 S1x1024 .f32) (ix2 0 l) = g m d l := by
  unfold V
  simp only [hostOps0, hostOps0_1, hostOps0_2, List.flatten_cons, List.flatten_nil, List.cons_append, List.nil_append]
  after_results
  pointwise
  rfl

/-- The forget gate's weights: entry `l` of lane `k`, zero on the lanes past the heads. -/
def wf (l : Fin 1024) (k : Fin 128) : EReal :=
  if h : k.val < 16 then (m (d.tc.loc main_arg5) : Vec 𝕀 S1024x2064 .f32) (ix2 l ⟨2048 + k.val, by omega⟩) else 0

theorem VF (l : Fin 1024) (k : Fin 128) : (V m d main_v8 : Vec 𝕀 S1x1x1024x128 .bf16) (ix4 0 0 l k) = wf m d l k := by
  unfold V
  simp only [hostOps0, hostOps0_1, hostOps0_2, List.flatten_cons, List.flatten_nil, List.cons_append, List.nil_append]
  after_results
  simp only [StableHlo.TRef.toBuf, StableHlo.TRef.ofBuf, cast_eq]
  pointwise
  unfold wf
  split
  · rfl
  · exact zero_word

theorem blk0 (t : Fin cfg0.N) (p : Fin 1) (r : Fin 512) (k : Fin 1024) :
    (iblk m d 0 t : Vec 𝕀 S1x512x1024 .bf16) (ix3 p r k) = (V m d main_arg0 : Vec 𝕀 S1x4096x1024 .bf16) (ix3 p (row t r) k) := by
  have hi := (by decide +kernel : ∀ t : Fin grid0.N, win0_0.index t 0 = 0 ∧ win0_0.index t 1 = t.val ∧ win0_0.index t 2 = 0) t
  unfold iblk
  rw [View.read_apply]
  refine congrArg (V m d main_arg0 : Vec 𝕀 S1x4096x1024 .bf16) (funext fun a => Fin.ext ?_)
  match a with
  | ⟨0, _⟩ => show win0_0.index t 0 * 1 + 1 * p.val = p.val; rw [hi.1]; omega
  | ⟨1, _⟩ => show win0_0.index t 1 * 512 + 1 * r.val = 512 * t.val + r.val; rw [hi.2.1]; omega
  | ⟨2, _⟩ => show win0_0.index t 2 * 1024 + 1 * k.val = k.val; rw [hi.2.2]; omega

theorem blk1 (t : Fin cfg0.N) (p : Fin 1) (r : Fin 512) (k : Fin 1024) :
    (iblk m d 1 t : Vec 𝕀 S1x512x1024 .bf16) (ix3 p r k) = (V m d main_arg1 : Vec 𝕀 S1x4096x1024 .bf16) (ix3 p (row t r) k) := by
  have hi := (by decide +kernel : ∀ t : Fin grid0.N, win0_1.index t 0 = 0 ∧ win0_1.index t 1 = t.val ∧ win0_1.index t 2 = 0) t
  unfold iblk
  rw [View.read_apply]
  refine congrArg (V m d main_arg1 : Vec 𝕀 S1x4096x1024 .bf16) (funext fun a => Fin.ext ?_)
  match a with
  | ⟨0, _⟩ => show win0_1.index t 0 * 1 + 1 * p.val = p.val; rw [hi.1]; omega
  | ⟨1, _⟩ => show win0_1.index t 1 * 512 + 1 * r.val = 512 * t.val + r.val; rw [hi.2.1]; omega
  | ⟨2, _⟩ => show win0_1.index t 2 * 1024 + 1 * k.val = k.val; rw [hi.2.2]; omega

theorem blk2 (t : Fin cfg0.N) (p : Fin 1) (r : Fin 512) (k : Fin 128) :
    (iblk m d 2 t : Vec 𝕀 S1x512x128 .f32) (ix3 p r k) = (V m d main_arg2 : Vec 𝕀 S1x4096x128 .f32) (ix3 p (row t r) k) := by
  have hi := (by decide +kernel : ∀ t : Fin grid0.N, win0_2.index t 0 = 0 ∧ win0_2.index t 1 = t.val ∧ win0_2.index t 2 = 0) t
  unfold iblk
  rw [View.read_apply]
  refine congrArg (V m d main_arg2 : Vec 𝕀 S1x4096x128 .f32) (funext fun a => Fin.ext ?_)
  match a with
  | ⟨0, _⟩ => show win0_2.index t 0 * 1 + 1 * p.val = p.val; rw [hi.1]; omega
  | ⟨1, _⟩ => show win0_2.index t 1 * 512 + 1 * r.val = 512 * t.val + r.val; rw [hi.2.1]; omega
  | ⟨2, _⟩ => show win0_2.index t 2 * 128 + 1 * k.val = k.val; rw [hi.2.2]; omega

theorem blk3 (t : Fin cfg0.N) (p : Fin 2) (q : Fin 1) (l : Fin 1024) (k : Fin 1024) :
    (iblk m d 3 t : Vec 𝕀 S2x1x1024x1024 .bf16) (ix4 p q l k) = (V m d main_v4 : Vec 𝕀 S2x1x1024x1024 .bf16) (ix4 p q l k) := by
  have hi := (by decide +kernel : ∀ t : Fin grid0.N, win0_3.index t 0 = 0 ∧ win0_3.index t 1 = 0 ∧ win0_3.index t 2 = 0 ∧ win0_3.index t 3 = 0) t
  unfold iblk
  rw [View.read_apply]
  refine congrArg (V m d main_v4 : Vec 𝕀 S2x1x1024x1024 .bf16) (funext fun a => Fin.ext ?_)
  match a with
  | ⟨0, _⟩ => show win0_3.index t 0 * 2 + 1 * p.val = p.val; rw [hi.1]; omega
  | ⟨1, _⟩ => show win0_3.index t 1 * 1 + 1 * q.val = q.val; rw [hi.2.1]; omega
  | ⟨2, _⟩ => show win0_3.index t 2 * 1024 + 1 * l.val = l.val; rw [hi.2.2.1]; omega
  | ⟨3, _⟩ => show win0_3.index t 3 * 1024 + 1 * k.val = k.val; rw [hi.2.2.2]; omega

theorem blk4 (t : Fin cfg0.N) (p : Fin 1) (q : Fin 1) (l : Fin 1024) (k : Fin 128) :
    (iblk m d 4 t : Vec 𝕀 S1x1x1024x128 .bf16) (ix4 p q l k) = (V m d main_v8 : Vec 𝕀 S1x1x1024x128 .bf16) (ix4 p q l k) := by
  have hi := (by decide +kernel : ∀ t : Fin grid0.N, win0_4.index t 0 = 0 ∧ win0_4.index t 1 = 0 ∧ win0_4.index t 2 = 0 ∧ win0_4.index t 3 = 0) t
  unfold iblk
  rw [View.read_apply]
  refine congrArg (V m d main_v8 : Vec 𝕀 S1x1x1024x128 .bf16) (funext fun a => Fin.ext ?_)
  match a with
  | ⟨0, _⟩ => show win0_4.index t 0 * 1 + 1 * p.val = p.val; rw [hi.1]; omega
  | ⟨1, _⟩ => show win0_4.index t 1 * 1 + 1 * q.val = q.val; rw [hi.2.1]; omega
  | ⟨2, _⟩ => show win0_4.index t 2 * 1024 + 1 * l.val = l.val; rw [hi.2.2.1]; omega
  | ⟨3, _⟩ => show win0_4.index t 3 * 128 + 1 * k.val = k.val; rw [hi.2.2.2]; omega

theorem blk5 (t : Fin cfg0.N) (r : Fin 512) (l : Fin 1024) :
    (iblk m d 5 t : Vec 𝕀 S512x1024 .f32) (ix2 r l) = (V m d main_arg3 : Vec 𝕀 S4096x1024 .f32) (ix2 (row t r) l) := by
  have hi := (by decide +kernel : ∀ t : Fin grid0.N, win0_5.index t 0 = t.val ∧ win0_5.index t 1 = 0) t
  unfold iblk
  rw [View.read_apply]
  refine congrArg (V m d main_arg3 : Vec 𝕀 S4096x1024 .f32) (funext fun a => Fin.ext ?_)
  match a with
  | ⟨0, _⟩ => show win0_5.index t 0 * 512 + 1 * r.val = 512 * t.val + r.val; rw [hi.1]; omega
  | ⟨1, _⟩ => show win0_5.index t 1 * 1024 + 1 * l.val = l.val; rw [hi.2]; omega

theorem blk6 (t : Fin cfg0.N) (q : Fin 1) (l : Fin 1024) :
    (iblk m d 6 t : Vec 𝕀 S1x1024 .f32) (ix2 q l) = (V m d main_v9 : Vec 𝕀 S1x1024 .f32) (ix2 q l) := by
  have hi := (by decide +kernel : ∀ t : Fin grid0.N, win0_6.index t 0 = 0 ∧ win0_6.index t 1 = 0) t
  unfold iblk
  rw [View.read_apply]
  refine congrArg (V m d main_v9 : Vec 𝕀 S1x1024 .f32) (funext fun a => Fin.ext ?_)
  match a with
  | ⟨0, _⟩ => show win0_6.index t 0 * 1 + 1 * q.val = q.val; rw [hi.1]; omega
  | ⟨1, _⟩ => show win0_6.index t 1 * 1024 + 1 * l.val = l.val; rw [hi.2]; omega

theorem blk7 (t : Fin cfg0.N) (r : Fin 512) (l : Fin 1024) :
    (iblk m d 7 t : Vec 𝕀 S512x1024 .f32) (ix2 r l) = (V m d main_arg6 : Vec 𝕀 S4096x1024 .f32) (ix2 (row t r) l) := by
  have hi := (by decide +kernel : ∀ t : Fin grid0.N, win0_7.index t 0 = t.val ∧ win0_7.index t 1 = 0) t
  unfold iblk
  rw [View.read_apply]
  refine congrArg (V m d main_arg6 : Vec 𝕀 S4096x1024 .f32) (funext fun a => Fin.ext ?_)
  match a with
  | ⟨0, _⟩ => show win0_7.index t 0 * 512 + 1 * r.val = 512 * t.val + r.val; rw [hi.1]; omega
  | ⟨1, _⟩ => show win0_7.index t 1 * 1024 + 1 * l.val = l.val; rw [hi.2]; omega

/-- The gradient at the normed row. -/
def dn (n : Fin 4096) (l : Fin 1024) : EReal :=
  (∑ k : Fin 1024, dk m d n k * w m d 0 l k) + (∑ k : Fin 1024, dv m d n k * w m d 1 l k) + ∑ k : Fin 128, dfl m d n k * wf m d l k

/-- The gradient of the layer's input. -/
def dx (n : Fin 4096) (l : Fin 1024) : EReal :=
  dres m d n l + normBack (x m d n) (fun l => dn m d n l * g m d l) l

/-- What row `n` gives the gradient of the norm's scale. -/
def term (n : Nat) (l : Fin 1024) : EReal :=
  if h : n < 4096 then dn m d ⟨n, h⟩ l * xhat (x m d ⟨n, h⟩) l else 0

/-- The gradient of the norm's scale. -/
def dg (_ : Fin 1) (l : Fin 1024) : EReal := ∑ n : Fin 4096, dn m d n l * xhat (x m d n) l

/-- What tile `t` adds to it. -/
def tile (t : Nat) (l : Fin 1024) : EReal := ∑ r : Fin 512, term m d (512 * t + r.val) l

theorem term_row (t : Fin cfg0.N) (r : Fin 512) (l : Fin 1024) :
    term m d (512 * t.val + r.val) l = dn m d (row t r) l * xhat (x m d (row t r)) l := by
  unfold term row
  rw [dif_pos]

theorem dg_eq (l : Fin 1024) : ∑ t : Fin 8, tile m d t.val l = dg m d 0 l := by
  refine (sum_tiles 8 512 (fun n => term m d n l)).symm.trans ?_
  exact Finset.sum_congr rfl fun n _ => dif_pos n.isLt

/-- An entry of one block of the weights, as a point loads it. -/
theorem w_eq (t : Fin cfg0.N) (p : Fin 2) (ia : ∀ a, ![p.val, 0, 0, 0] a + ![1, 1, 1024, 1024] a ≤ S2x1x1024x1024.size a) (l k : Fin 1024) :
    View.ld (iblk m d 3 t : Vec 𝕀 S2x1x1024x1024 .bf16) (Rect.unit ![p.val, 0, 0, 0] ![1, 1, 1024, 1024] ia) (ix4 0 0 l k) = w m d p l k := by
  have e : (Rect.unit (s := S2x1x1024x1024) ![p.val, 0, 0, 0] ![1, 1, 1024, 1024] ia).emb (ix4 0 0 l k) = ix4 p 0 l k := by
    funext a; apply Fin.ext
    match a with
    | ⟨0, _⟩ => show p.val + 1 * 0 = p.val; omega
    | ⟨1, _⟩ => rfl
    | ⟨2, _⟩ => show 0 + 1 * l.val = l.val; omega
    | ⟨3, _⟩ => show 0 + 1 * k.val = k.val; omega
  exact (congrArg (iblk m d 3 t : Vec 𝕀 S2x1x1024x1024 .bf16) e).trans ((blk3 m d t p 0 l k).trans (VW m d p l k))

/-- Block 0 of the weights, as a point loads it. -/
abbrev w0 (t : Fin cfg0.N) : Vec 𝕀 S1x1x1024x1024 .bf16 :=
  View.ld (iblk m d 3 t : Vec 𝕀 S2x1x1024x1024 .bf16) (Rect.unit ![0, 0, 0, 0] ![1, 1, 1024, 1024] inb_S2x1x1024x1024_S1x1x1024x1024_0_0_0_0)
/-- Block 1 of the weights, as a point loads it. -/
abbrev w1 (t : Fin cfg0.N) : Vec 𝕀 S1x1x1024x1024 .bf16 :=
  View.ld (iblk m d 3 t : Vec 𝕀 S2x1x1024x1024 .bf16) (Rect.unit ![1, 0, 0, 0] ![1, 1, 1024, 1024] inb_S2x1x1024x1024_S1x1x1024x1024_1_0_0_0)

theorem dn_eq (t : Fin cfg0.N) (r : Fin 512) (l : Fin 1024) : k0_pay5 (w0 m d t) (iblk m d 0 t) (w1 m d t) (iblk m d 1 t) (iblk m d 4 t) (iblk m d 2 t) (ix2 r l) = dn m d (row t r) l := by
  rw [dn_apply]
  exact congrArg₂ (· + · : EReal → EReal → EReal) (congrArg₂ (· + · : EReal → EReal → EReal)
    (Finset.sum_congr rfl fun k _ => congrArg₂ (· * · : EReal → EReal → EReal) ((blk0 m d t 0 r k).trans (by rw [V_main_arg0]; rfl)) (w_eq m d t 0 inb_S2x1x1024x1024_S1x1x1024x1024_0_0_0_0 l k))
    (Finset.sum_congr rfl fun k _ => congrArg₂ (· * · : EReal → EReal → EReal) ((blk1 m d t 0 r k).trans (by rw [V_main_arg1]; rfl)) (w_eq m d t 1 inb_S2x1x1024x1024_S1x1x1024x1024_1_0_0_0 l k)))
    (Finset.sum_congr rfl fun k _ => congrArg₂ (· * · : EReal → EReal → EReal) ((blk2 m d t 0 r k).trans (by rw [V_main_arg2]; rfl)) ((blk4 m d t 0 0 l k).trans (VF m d l k)))

theorem x_eq (t : Fin cfg0.N) (r : Fin 512) : (fun l => (iblk m d 5 t : Vec 𝕀 S512x1024 .f32) (ix2 r l)) = x m d (row t r) :=
  funext fun l => (blk5 m d t r l).trans (by rw [V_main_arg3]; rfl)

/-- The block of the input's gradient a point stores. -/
def dxblock (t : Fin cfg0.N) : Vec 𝕀 S512x1024 .f32 := fun i => dx m d (row t (i 0)) (i 1)

theorem dx_eq (t : Fin cfg0.N) :
    k0_pay3 (k0_pay5 (w0 m d t) (iblk m d 0 t) (w1 m d t) (iblk m d 1 t) (iblk m d 4 t) (iblk m d 2 t)) (iblk m d 5 t) (k0_pay6 (iblk m d 6 t)) (k0_pay7 (iblk m d 5 t)) (iblk m d 7 t) = dxblock m d t := by
  funext y
  obtain ⟨r, l, rfl⟩ := split2 y
  refine (dx_apply _ _ _ _ _ _ _ _ _ r l).trans ?_
  refine congrArg₂ (· + · : EReal → EReal → EReal) ((blk7 m d t r l).trans (by rw [V_main_arg6]; rfl)) ?_
  refine congrArg₂ (normBack · · l) (x_eq m d t r) (funext fun l => ?_)
  exact congrArg₂ (· * · : EReal → EReal → EReal) (dn_eq m d t r l) ((blk6 m d t 0 l).trans (VG m d l))

theorem tile_eq (t : Fin cfg0.N) (q : Fin 1) (l : Fin 1024) :
    k0_pay2 (k0_pay5 (w0 m d t) (iblk m d 0 t) (w1 m d t) (iblk m d 1 t) (iblk m d 4 t) (iblk m d 2 t)) (iblk m d 5 t) (k0_pay7 (iblk m d 5 t)) (ix2 q l) = tile m d t.val l := by
  rw [dscale_apply]
  refine Finset.sum_congr rfl fun r _ => ?_
  rw [term_row]
  exact congrArg₂ (· * · : EReal → EReal → EReal) (dn_eq m d t r l) (congrArg (xhat · l) (x_eq m d t r))

/-- The first point: the block's gradient and the first tile's share of the scale's. -/
theorem outs_A (t : Fin cfg0.N) (h0 : t.val % 8 = 0) (h1 : ¬1 ≤ t.val) :
    (outsAt0 m d t.val t.isLt).1 = dxblock m d t
    ∧ ∀ l, (outsAt0 m d t.val t.isLt).2 (ix2 0 l) = tile m d t.val l := by
  rw [outsAt0_A m d t h0 h1]
  constructor
  · unfold out0_A_8
    dsimp only
    rw [View.read_writes_eq_canon _ _ _ (fun _ => cover0_A_8 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x512x128) hz3, View.ld_unit_zero (S := S1x1x1024x128) hz4, View.ld_unit_zero (S := S512x1024) hz2,
      View.ld_unit_zero (S := S1x1024) hz2, View.canon_unit_zero (S := S512x1024) hz2]
    exact dx_eq m d t
  · intro l
    unfold out0_A_9
    dsimp only
    rw [View.read_writes_eq_canon _ _ _ (fun _ => cover0_A_9 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x512x128) hz3, View.ld_unit_zero (S := S1x1x1024x128) hz4, View.ld_unit_zero (S := S512x1024) hz2,
      View.ld_unit_zero (S := S1x1024) hz2, View.canon_unit_zero (S := S1x1024) hz2]
    exact tile_eq m d t 0 l

/-- A later point: the block's gradient, and its tile's share added to what the point before left. -/
theorem outs_B (t : Fin cfg0.N) (h0 : ¬t.val % 8 = 0) (h1 : 1 ≤ t.val) :
    (outsAt0 m d t.val t.isLt).1 = dxblock m d t
    ∧ ∀ l, (outsAt0 m d t.val t.isLt).2 (ix2 0 l)
        = (outsAt0 m d (t.val - 1) (Nat.lt_of_le_of_lt (Nat.sub_le _ _) t.isLt)).2 (ix2 0 l) + tile m d t.val l := by
  rw [outsAt0_B m d t h0 h1]
  constructor
  · unfold out0_B_8
    dsimp only
    rw [View.read_writes_eq_canon _ _ _ (fun _ => cover0_B_8 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x512x128) hz3, View.ld_unit_zero (S := S1x1x1024x128) hz4, View.ld_unit_zero (S := S512x1024) hz2,
      View.ld_unit_zero (S := S1x1024) hz2, View.canon_unit_zero (S := S512x1024) hz2]
    exact dx_eq m d t
  · intro l
    unfold out0_B_9
    dsimp only
    rw [View.read_writes_eq_canon _ _ _ (fun _ => cover0_B_9 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread, View.ld_unit_zero (S := S1x512x1024) hz3, View.ld_unit_zero (S := S1x512x128) hz3, View.ld_unit_zero (S := S1x1x1024x128) hz4, View.ld_unit_zero (S := S512x1024) hz2,
      View.ld_unit_zero (S := S1x1024) hz2, View.canon_unit_zero (S := S1x1024) hz2]
    rw [← tile_eq m d t 0 l]
    exact acc_apply _ _ _ _ 0 l

/-- Every point's block of the input's gradient. -/
theorem outs_fst (t : Fin cfg0.N) : (outsAt0 m d t.val t.isLt).1 = dxblock m d t := by
  have h8 : t.val < 8 := t.isLt
  by_cases h : 1 ≤ t.val
  · exact (outs_B m d t (by omega) h).1
  · exact (outs_A m d t (by omega) h).1

/-- The scale's gradient after point `n`: the sum of the tiles so far. -/
theorem outs_snd (l : Fin 1024) : ∀ (n : Nat) (hn : n < cfg0.N),
    (outsAt0 m d n hn).2 (ix2 0 l) = ∑ t : Fin (n + 1), tile m d t.val l
  | 0, hn => by
    rw [(outs_A m d ⟨0, hn⟩ (by show 0 % 8 = 0; rfl) (by show ¬1 ≤ 0; omega)).2 l, Fin.sum_univ_one]
    rfl
  | n + 1, hn => by
    have h8 : n + 1 < 8 := hn
    rw [(outs_B m d ⟨n + 1, hn⟩ (by show ¬(n + 1) % 8 = 0; omega) (by show 1 ≤ n + 1; omega)).2 l,
      Fin.sum_univ_castSucc]
    exact congrArg (· + _) (outs_snd l n (Nat.lt_of_succ_lt hn))

/-- The input's gradient after the run. -/
theorem arr8 : (dats m 0 d).arrAt 8 cfg0.N = fun i : S4096x1024.Idx => dx m d (i 0) (i 1) := by
  have hi : ∀ t : Fin cfg0.N, win0_8.index t 0 = t.val ∧ win0_8.index t 1 = 0 :=
    (by decide +kernel : ∀ t : Fin grid0.N, win0_8.index t 0 = t.val ∧ win0_8.index t 1 = 0)
  refine (dats m 0 d).arrAt_eq_of_cover 8 _ ?_ ?_
  · intro t ht
    rw [Value.flushed8, outs_fst]
    funext y
    rw [View.read_apply]
    change S512x1024.Idx at y
    obtain ⟨r, l, rfl⟩ := split2 y
    have a0 : (((cfg0.win 8).blk t).view.emb (ix2 r l) : S4096x1024.Idx) 0 = row t r :=
      Fin.ext (by show win0_8.index t 0 * 512 + 1 * r.val = 512 * t.val + r.val; rw [(hi t).1]; omega)
    have a1 : (((cfg0.win 8).blk t).view.emb (ix2 r l) : S4096x1024.Idx) 1 = l :=
      Fin.ext (by show win0_8.index t 1 * 1024 + 1 * l.val = l.val; rw [(hi t).2]; omega)
    show _ = dx m d _ _
    rw [a0, a1]
    rfl
  · exact (by decide +kernel : (cfg0.win 8).Covers).cover _ (Memref.isWhole_whole _)

/-- The scale's gradient after the run. -/
theorem arr9 : (dats m 0 d).arrAt 9 cfg0.N = fun i : S1x1024.Idx => dg m d (i 0) (i 1) := by
  have hi : ∀ t : Fin cfg0.N, win0_9.index t 0 = 0 ∧ win0_9.index t 1 = 0 :=
    (by decide +kernel : ∀ t : Fin grid0.N, win0_9.index t 0 = 0 ∧ win0_9.index t 1 = 0)
  have hf : ∀ t : Fin cfg0.N, (cfg0.win 9).flush t = true → t.val = 7 :=
    (by decide +kernel : ∀ t : Fin grid0.N, win0_9.flush t = true → t.val = 7)
  refine (dats m 0 d).arrAt_eq_of_cover 9 _ ?_ ?_
  · intro t ht
    have hl := hf t ht
    rw [Value.flushed9]
    funext y
    rw [View.read_apply]
    change S1x1024.Idx at y
    obtain ⟨q, l, rfl⟩ := split2 y
    have a0 : (((cfg0.win 9).blk t).view.emb (ix2 q l) : S1x1024.Idx) 0 = q :=
      Fin.ext (by show win0_9.index t 0 * 1 + 1 * q.val = q.val; rw [(hi t).1]; omega)
    have a1 : (((cfg0.win 9).blk t).view.emb (ix2 q l) : S1x1024.Idx) 1 = l :=
      Fin.ext (by show win0_9.index t 1 * 1024 + 1 * l.val = l.val; rw [(hi t).2]; omega)
    show _ = dg m d 0 _
    rw [a1]
    obtain rfl : q = 0 := Subsingleton.elim _ _
    refine (outs_snd m d l t.val t.isLt).trans ?_
    rw [hl]
    exact dg_eq m d l
  · exact (by decide +kernel : (cfg0.win 9).Covers).cover _ (Memref.isWhole_whole _)

end
end Cert.KvBwdInKernelIdeal.Blocks
end
-- ==== Proof.KvBwdInReference.lean ====
/- What the reference of the backward pass of the keys', values' and forget gate's product computes, entry by entry. -/
module

public import proofs.«01_k».proof.Proof.Gen.KvBwdInReferenceIdeal.Read
public import proofs.«01_k».proof.Proof.NormMath

@[expose] public section

noncomputable section

namespace Cert.KvBwdInReferenceIdeal.Rows

open Gen Read Cert.Ffn Idealize.ShloMosaic Idealize.ShloMosaic.TcCoe
  Idealize.SL.Sem

set_option maxRecDepth 65536

local notation "𝕀" => Idealize.ShloMosaic.Ideal

section
variable (x0 x1 : S1x4096x1024.Idx → EReal) (x2 : S1x4096x128.Idx → EReal) (x3 : S4096x1024.Idx → EReal) (x4 : S1024.Idx → EReal)
  (x5 : S1024x2064.Idx → EReal) (x6 : S4096x1024.Idx → EReal)

/-- Part 0 of the gradients side by side. -/
theorem cat0_apply (n : Fin 4096) (k : Fin 1024) :
    val_main_v30 (F := 𝕀) x0 x1 x2 (ix2 n ⟨0 * 1024 + k.val, by omega⟩) = x0 (ix3 0 n k) := by
  have e0 : ∀ i, val_main_v21 (F := 𝕀) x0 i = x0 (ix3 0 (i 0) (i 1)) := by
    intro i
    obtain ⟨a, b, rfl⟩ := split2 i
    unfold val_main_v21 val_main_v20; pointwise
  have e1 : ∀ i, val_main_v23 (F := 𝕀) x1 i = x1 (ix3 0 (i 0) (i 1)) := by
    intro i
    obtain ⟨a, b, rfl⟩ := split2 i
    unfold val_main_v23 val_main_v22; pointwise
  have e2 : ∀ i, val_main_v25 (F := 𝕀) x2 i = x2 (ix3 0 (i 0) ⟨(i 1).val, by have h : (i 1).val < 16 := (i 1).isLt; omega⟩) := by
    intro i
    obtain ⟨a, b, rfl⟩ := split2 i
    unfold val_main_v25 val_main_v24; pointwise
  unfold val_main_v30 val_main_v29 val_main_v28 val_main_v27 val_main_v26 val_main_cst_3 val_main_cst_4 val_main_cst_5
  generalize val_main_v21 (F := 𝕀) x0 = A0 at e0
  generalize val_main_v23 (F := 𝕀) x1 = A1 at e1
  generalize val_main_v25 (F := 𝕀) x2 = A2 at e2
  pointwise
  rw [dif_neg (by omega), dif_neg (fun h => h.1), zero_add, zero_add]
  exact e0 _

/-- Part 1 of the gradients side by side. -/
theorem cat1_apply (n : Fin 4096) (k : Fin 1024) :
    val_main_v30 (F := 𝕀) x0 x1 x2 (ix2 n ⟨1 * 1024 + k.val, by omega⟩) = x1 (ix3 0 n k) := by
  have e0 : ∀ i, val_main_v21 (F := 𝕀) x0 i = x0 (ix3 0 (i 0) (i 1)) := by
    intro i
    obtain ⟨a, b, rfl⟩ := split2 i
    unfold val_main_v21 val_main_v20; pointwise
  have e1 : ∀ i, val_main_v23 (F := 𝕀) x1 i = x1 (ix3 0 (i 0) (i 1)) := by
    intro i
    obtain ⟨a, b, rfl⟩ := split2 i
    unfold val_main_v23 val_main_v22; pointwise
  have e2 : ∀ i, val_main_v25 (F := 𝕀) x2 i = x2 (ix3 0 (i 0) ⟨(i 1).val, by have h : (i 1).val < 16 := (i 1).isLt; omega⟩) := by
    intro i
    obtain ⟨a, b, rfl⟩ := split2 i
    unfold val_main_v25 val_main_v24; pointwise
  unfold val_main_v30 val_main_v29 val_main_v28 val_main_v27 val_main_v26 val_main_cst_3 val_main_cst_4 val_main_cst_5
  generalize val_main_v21 (F := 𝕀) x0 = A0 at e0
  generalize val_main_v23 (F := 𝕀) x1 = A1 at e1
  generalize val_main_v25 (F := 𝕀) x2 = A2 at e2
  pointwise
  rw [dif_neg (by omega), zero_add]
  exact e1 _

/-- Part 2 of the gradients side by side. -/
theorem cat2_apply (n : Fin 4096) (k : Fin 16) :
    val_main_v30 (F := 𝕀) x0 x1 x2 (ix2 n ⟨2 * 1024 + k.val, by omega⟩) = x2 (ix3 0 n ⟨k.val, by omega⟩) := by
  have e0 : ∀ i, val_main_v21 (F := 𝕀) x0 i = x0 (ix3 0 (i 0) (i 1)) := by
    intro i
    obtain ⟨a, b, rfl⟩ := split2 i
    unfold val_main_v21 val_main_v20; pointwise
  have e1 : ∀ i, val_main_v23 (F := 𝕀) x1 i = x1 (ix3 0 (i 0) (i 1)) := by
    intro i
    obtain ⟨a, b, rfl⟩ := split2 i
    unfold val_main_v23 val_main_v22; pointwise
  have e2 : ∀ i, val_main_v25 (F := 𝕀) x2 i = x2 (ix3 0 (i 0) ⟨(i 1).val, by have h : (i 1).val < 16 := (i 1).isLt; omega⟩) := by
    intro i
    obtain ⟨a, b, rfl⟩ := split2 i
    unfold val_main_v25 val_main_v24; pointwise
  unfold val_main_v30 val_main_v29 val_main_v28 val_main_v27 val_main_v26 val_main_cst_3 val_main_cst_4 val_main_cst_5
  generalize val_main_v21 (F := 𝕀) x0 = A0 at e0
  generalize val_main_v23 (F := 𝕀) x1 = A1 at e1
  generalize val_main_v25 (F := 𝕀) x2 = A2 at e2
  pointwise
  rw [dif_neg (by omega), dif_neg (by omega), add_zero, add_zero]
  exact e2 _

/-- The gradient at the normed row: the product with each block of the weights. -/
def dn (n : Fin 4096) (l : Fin 1024) : EReal :=
  (∑ k : Fin 1024, x0 (ix3 0 n k) * x5 (ix2 l ⟨0 * 1024 + k.val, by omega⟩)) + (∑ k : Fin 1024, x1 (ix3 0 n k) * x5 (ix2 l ⟨1 * 1024 + k.val, by omega⟩)) + ∑ k : Fin 128, x2 (ix3 0 n k) * (if h : k.val < 16 then x5 (ix2 l ⟨2048 + k.val, by omega⟩) else 0)

/-- The lanes past the heads add nothing. -/
theorem heads_eq (n : Fin 4096) (l : Fin 1024) :
    (∑ k : Fin 128, x2 (ix3 0 n k) * (if h : k.val < 16 then x5 (ix2 l ⟨2048 + k.val, by omega⟩) else 0))
      = ∑ k : Fin 16, x2 (ix3 0 n ⟨k.val, by omega⟩) * x5 (ix2 l ⟨2 * 1024 + k.val, by omega⟩) := by
  refine (Fin.sum_univ_add (a := 16) (b := 112) _).trans ?_
  refine (congrArg₂ (· + · : EReal → EReal → EReal) (Finset.sum_congr rfl fun k _ => ?_)
    (Finset.sum_eq_zero fun k _ => ?_)).trans (add_zero _)
  · have h : (Fin.castAdd 112 k : Fin (16 + 112)).val < 16 := k.isLt
    rw [dif_pos h]
    rfl
  · have h : ¬(Fin.natAdd 16 k : Fin (16 + 112)).val < 16 := by
      show ¬16 + k.val < 16; omega
    rw [dif_neg h, mul_zero]

theorem dn_apply (n : Fin 4096) (l : Fin 1024) : val_main_v31 (F := 𝕀) x0 x1 x2 x5 (ix2 n l) = dn x0 x1 x2 x5 n l := by
  have e0 := cat0_apply x0 x1 x2
  have e1 := cat1_apply x0 x1 x2
  have e2 := cat2_apply x0 x1 x2
  unfold val_main_v31
  generalize val_main_v30 (F := 𝕀) x0 x1 x2 = G at e0 e1 e2
  pointwise
  unfold dn
  rw [heads_eq]
  refine (Fin.sum_univ_add (a := 2048) (b := 16) _).trans ?_
  refine congrArg₂ (· + · : EReal → EReal → EReal) ((Fin.sum_univ_add (a := 1024) (b := 1024) _).trans ?_) ?_
  · exact congrArg₂ (· + · : EReal → EReal → EReal) (Finset.sum_congr rfl fun k _ => congrArg₂ (· * · : EReal → EReal → EReal)
      ((congrArg (fun a => G (ix2 n a)) (Fin.ext (by show k.val = 0 * 1024 + k.val; omega))).trans (e0 n k))
      (congrArg (fun a => x5 (ix2 l a)) (Fin.ext (by show k.val = 0 * 1024 + k.val; omega))))
      (Finset.sum_congr rfl fun k _ => congrArg₂ (· * · : EReal → EReal → EReal)
      ((congrArg (fun a => G (ix2 n a)) (Fin.ext (by show 1024 + k.val = 1 * 1024 + k.val; omega))).trans (e1 n k))
      (congrArg (fun a => x5 (ix2 l a)) (Fin.ext (by show 1024 + k.val = 1 * 1024 + k.val; omega))))
  · exact Finset.sum_congr rfl fun k _ => congrArg₂ (· * · : EReal → EReal → EReal)
      ((congrArg (fun a => G (ix2 n a)) (Fin.ext (by show 2048 + k.val = 2 * 1024 + k.val; omega))).trans (e2 n k))
      (congrArg (fun a => x5 (ix2 l a)) (Fin.ext (by show 2048 + k.val = 2 * 1024 + k.val; omega)))

theorem xhat_apply (n : Fin 4096) (l : Fin 1024) :
    val_main_v12 (F := 𝕀) x3 (ix2 n l) = xhat (fun l => x3 (ix2 n l)) l := by
  unfold val_main_v12 val_main_v11 val_main_v7 val_main_v6 val_main_v5 val_main_v4 val_main_v3 val_main_v2 val_main_v1
    val_main_v0 val_main_cst val_main_cst_0 val_main_cst_1
  pointwise; rfl

theorem msq_apply (n : Fin 4096) (q : Fin 1) : val_main_v6 (F := 𝕀) x3 (ix2 n q) = msq (fun l => x3 (ix2 n l)) := by
  unfold val_main_v6 val_main_v5 val_main_v4 val_main_v3 val_main_v2 val_main_v1 val_main_v0 val_main_cst val_main_cst_0
    val_main_cst_1
  pointwise; rfl

theorem scaled_apply (n : Fin 4096) (l : Fin 1024) :
    val_main_v36 (F := 𝕀) x0 x1 x2 x4 x5 (ix2 n l) = dn x0 x1 x2 x5 n l * x4 (ix1 l) := by
  have e := dn_apply x0 x1 x2 x5
  unfold val_main_v36 val_main_v35 val_main_v13
  generalize val_main_v31 (F := 𝕀) x0 x1 x2 x5 = G at e
  pointwise
  rw [e]

/-- The factor of the row in the norm's backward pass. -/
theorem pull_apply (n : Fin 4096) :
    val_main_v47 (F := 𝕀) x0 x1 x2 x3 x4 x5 (ix1 n)
      = pull (fun l => x3 (ix2 n l)) (fun l => dn x0 x1 x2 x5 n l * x4 (ix1 l)) := by
  have e := scaled_apply x0 x1 x2 x4 x5
  have em := msq_apply x3
  unfold val_main_v47 val_main_v46 val_main_v45 val_main_v44 val_main_v40 val_main_v39 val_main_v38 val_main_v10 val_main_v9
    val_main_v8 val_main_v7 val_main_cst_2 val_main_cst_8 val_main_cst_9 val_main_cst_10
  generalize val_main_v36 (F := 𝕀) x0 x1 x2 x4 x5 = G at e
  generalize val_main_v6 (F := 𝕀) x3 = M at em
  pointwise
  simp only [e, em, Fin.sum_univ_one]
  rfl

/-- The gradient of the layer's input. -/
theorem dx_apply (n : Fin 4096) (l : Fin 1024) :
    val_main_v52 (F := 𝕀) x0 x1 x2 x3 x4 x5 x6 (ix2 n l)
      = x6 (ix2 n l) + normBack (fun l => x3 (ix2 n l)) (fun l => dn x0 x1 x2 x5 n l * x4 (ix1 l)) l := by
  rw [← chain_eq]
  have e := scaled_apply x0 x1 x2 x4 x5
  have em := msq_apply x3
  have ep := pull_apply x0 x1 x2 x3 x4 x5
  unfold val_main_v52 val_main_v51 val_main_v50 val_main_v49 val_main_v48 val_main_v43 val_main_v42 val_main_v41 val_main_v7
  generalize val_main_v36 (F := 𝕀) x0 x1 x2 x4 x5 = G at e
  generalize val_main_v47 (F := 𝕀) x0 x1 x2 x3 x4 x5 = P at ep
  generalize val_main_v6 (F := 𝕀) x3 = M at em
  pointwise
  simp only [e, em, ep]

/-- The gradient of the norm's scale. -/
theorem dg_apply (q : Fin 1) (l : Fin 1024) :
    val_main_v53 (F := 𝕀) x0 x1 x2 x3 x5 (ix2 q l)
      = ∑ n : Fin 4096, dn x0 x1 x2 x5 n l * xhat (fun l => x3 (ix2 n l)) l := by
  have e := dn_apply x0 x1 x2 x5
  have ex := xhat_apply x3
  unfold val_main_v53 val_main_v37 val_main_v34 val_main_v33 val_main_v32 val_main_cst_6 val_main_cst_7
  generalize val_main_v31 (F := 𝕀) x0 x1 x2 x5 = G at e
  generalize val_main_v12 (F := 𝕀) x3 = X at ex
  pointwise
  simp only [e, ex, Fin.sum_univ_one]
  exact Finset.sum_congr rfl fun n _ => mul_comm _ _

end
end Cert.KvBwdInReferenceIdeal.Rows
end
-- ==== Proof.ConvDwArrays.lean ====
/- The gradient of the convolution's input weights, as the kernel computes it: two tiles of rows per block, the second added
   to the accumulator the first leaves. -/
module

public import proofs.«01_k».proof.Proof.Gen.ConvDwKernelIdeal.Frame
public import proofs.«01_k».proof.Proof.FfnMath

@[expose] public section

noncomputable section

namespace Cert.ConvDwKernelIdeal.Blocks

open Gen Cert.Ffn Idealize.ShloMosaic Idealize.ShloMosaic.TcCoe
  Idealize.SL.Sem

set_option maxRecDepth 65536

local notation "𝕀" => Idealize.ShloMosaic.Ideal

theorem lt_N (t : Fin cfg0.N) : t.val < 6 := t.isLt

section
variable (x y : Vec 𝕀 S1x2048x1024 .bf16) (s : Vec 𝕀 S1024x1024 .f32)

/-- What the first row half stores in the accumulator. -/
theorem first_apply (k l : Fin 1024) : k0_pay2 x y (ix2 k l) = ∑ r : Fin 2048, x (ix3 0 r k) * y (ix3 0 r l) := by
  unfold_payloads; pointwise

/-- What the second row half adds to it. -/
theorem next_apply (k l : Fin 1024) : k0_pay3 x y s (ix2 k l) = s (ix2 k l) + ∑ r : Fin 2048, x (ix3 0 r k) * y (ix3 0 r l) := by
  unfold_payloads; pointwise

/-- What leaves for the result is the accumulator. -/
theorem last_apply (k l : Fin 1024) : k0_pay4 s (ix4 0 0 k l) = s (ix2 k l) := by
  unfold_payloads; pointwise

end

section
variable (m : (ℓ : Loc nD τ sig) → Buf (Elt 𝕀) ℓ) (d : Dev nD)

/-- The normed input. -/
def lhs (n : Fin 4096) (k : Fin 1024) : EReal :=
  normed (fun l => (m (d.tc.loc main_arg1) : Vec 𝕀 S4096x1024 .f32) (ix2 n l))
    (fun l => (m (d.tc.loc main_arg2) : Vec 𝕀 S1024 .f32) (ix1 l)) k

/-- The gradient of the product, block by block. -/
def rhs (p : Fin 3) (n : Fin 4096) (l : Fin 1024) : EReal := (m (d.tc.loc main_arg0) : Vec 𝕀 S3x4096x1024 .bf16) (ix3 p n l)

theorem V0 (n : Fin 4096) (k : Fin 1024) : (V m d main_v14 : Vec 𝕀 S1x4096x1024 .bf16) (ix3 0 n k) = lhs m d n k := by
  entry_read
  pointwise
  rfl

theorem V1 (p : Fin 3) (n : Fin 4096) (l : Fin 1024) : (V m d main_arg0 : Vec 𝕀 S3x4096x1024 .bf16) (ix3 p n l) = rhs m d p n l := by
  rw [V_main_arg0]; rfl

/-- The row of the array a row of the tile of point `t` is. -/
def row (t : Fin cfg0.N) (r : Fin 2048) : Fin 4096 := ⟨2048 * (t.val % 2) + r.val, by omega⟩

/-- The block of the result that point `t` belongs to. -/
def out (t : Fin cfg0.N) : Fin 3 := ⟨t.val / 2, by have := lt_N t; omega⟩

theorem blk0 (t : Fin cfg0.N) (r : Fin 2048) (k : Fin 1024) :
    (iblk m d 0 t : Vec 𝕀 S1x2048x1024 .bf16) (ix3 0 r k) = lhs m d (row t r) k := by
  have hi := (by decide +kernel : ∀ t : Fin grid0.N, win0_0.index t 0 = 0 ∧ win0_0.index t 1 = t.val % 2 ∧ win0_0.index t 2 = 0) t
  have b := lt_N t
  unfold iblk
  rw [View.read_apply]
  refine Eq.trans (congrArg (V m d main_v14 : Vec 𝕀 S1x4096x1024 .bf16) (?_ : _ = ix3 0 (row t r) k)) (V0 m d _ _)
  refine funext fun a => Fin.ext ?_
  match a with
  | ⟨0, _⟩ => show win0_0.index t 0 * 1 + 1 * 0 = _; rw [hi.1]; rfl
  | ⟨1, _⟩ => show win0_0.index t 1 * 2048 + 1 * r.val = 2048 * (t.val % 2) + r.val; rw [hi.2.1]; omega
  | ⟨2, _⟩ => show win0_0.index t 2 * 1024 + 1 * k.val = k.val; rw [hi.2.2]; omega

theorem blk1 (t : Fin cfg0.N) (r : Fin 2048) (k : Fin 1024) :
    (iblk m d 1 t : Vec 𝕀 S1x2048x1024 .bf16) (ix3 0 r k) = rhs m d (out t) (row t r) k := by
  have hi := (by decide +kernel : ∀ t : Fin grid0.N, win0_1.index t 0 = t.val / 2 ∧ win0_1.index t 1 = t.val % 2 ∧ win0_1.index t 2 = 0) t
  have b := lt_N t
  unfold iblk
  rw [View.read_apply]
  refine Eq.trans (congrArg (V m d main_arg0 : Vec 𝕀 S3x4096x1024 .bf16) (?_ : _ = ix3 (out t) (row t r) k)) (V1 m d _ _ _)
  refine funext fun a => Fin.ext ?_
  match a with
  | ⟨0, _⟩ => show win0_1.index t 0 * 1 + 1 * 0 = _; rw [hi.1]; show _ = t.val / 2; omega
  | ⟨1, _⟩ => show win0_1.index t 1 * 2048 + 1 * r.val = 2048 * (t.val % 2) + r.val; rw [hi.2.1]; omega
  | ⟨2, _⟩ => show win0_1.index t 2 * 1024 + 1 * k.val = k.val; rw [hi.2.2]; omega

/-- What a tile adds to entry `k`, `l` of its block. -/
def tile (t : Fin cfg0.N) (k l : Fin 1024) : EReal :=
  ∑ r : Fin 2048, lhs m d (row t r) k * rhs m d (out t) (row t r) l

theorem tile_eq (t : Fin cfg0.N) (x y : Vec 𝕀 S1x2048x1024 .bf16) (hx : x = iblk m d 0 t)
    (hy : y = iblk m d 1 t) (k l : Fin 1024) : ∑ r : Fin 2048, x (ix3 0 r k) * y (ix3 0 r l) = tile m d t k l := by
  subst hx hy
  exact Finset.sum_congr rfl fun r _ => congrArg₂ (· * · : EReal → EReal → EReal) (blk0 m d t r k) (blk1 m d t r l)

/-- The accumulator after the first half. -/
theorem outs_A (t : Fin cfg0.N) (h : t.val % 2 = 0) (k l : Fin 1024) :
    (outsAt0 m d t.val t.isLt).2 (ix2 k l) = tile m d t k l := by
  rw [outsAt0_A m d t (by omega) (by omega) (by omega)]
  unfold sout0_A_0
  dsimp only
  rw [View.read_writes_eq_canon _ _ _ (fun _ => scover0_A_0 ..)]
  unfold kernelRun0_A
  dsimp only
  sl_unfold_words
  simp only [View.readAt_eq_ld, (hs0_0 t).read_unread, (hs0_1 t).read_unread,
    View.ld_unit_zero (S := S1x2048x1024) hz3, View.canon_unit_zero (S := S1024x1024) hz2]
  exact (first_apply _ _ k l).trans (tile_eq m d t _ _ rfl rfl k l)

/-- The block written at the second half. -/
theorem outs_B (t : Fin cfg0.N) (h : t.val % 2 = 1) (k l : Fin 1024) :
    (outsAt0 m d t.val t.isLt).1 (ix4 0 0 k l)
      = (outsAt0 m d (t.val - 1) (Nat.lt_of_le_of_lt (Nat.sub_le _ _) t.isLt)).2 (ix2 k l) + tile m d t k l := by
  rw [outsAt0_B m d t (by omega) (by omega) (by omega)]
  unfold out0_B_2
  dsimp only
  rw [View.read_writes_eq_canon _ _ _ (fun _ => cover0_B_2 ..)]
  unfold kernelRun0_B
  dsimp only
  sl_unfold_words
  simp only [View.readAt_eq_ld, (hs0_0 t).read_unread, (hs0_1 t).read_unread, (Memref.isWhole_whole _).read_unread,
    View.ld_unit_zero (S := S1x2048x1024) hz3,
    View.ld_unit_zero (S := S1024x1024) hz2, View.canon_unit_zero (S := S1024x1024) hz2,
    View.canon_unit_zero (S := S1x1x1024x1024) hz4]
  rw [View.readCov_unit_zero (S := S1024x1024) _ hz2, last_apply]
  exact (next_apply _ _ _ k l).trans (congrArg _ (tile_eq m d t _ _ rfl rfl k l))

/-- An entry of the result: the product's sum over all rows. -/
def total (p : Fin 3) (k l : Fin 1024) : EReal := ∑ n : Fin 4096, lhs m d n k * rhs m d p n l

theorem outs_total (t : Fin cfg0.N) (h : t.val % 2 = 1) (k l : Fin 1024) :
    (outsAt0 m d t.val t.isLt).1 (ix4 0 0 k l) = total m d (out t) k l := by
  have b8 := lt_N t
  have o : out ⟨t.val - 1, Nat.lt_of_le_of_lt (Nat.sub_le _ _) t.isLt⟩ = out t :=
    Fin.ext (by show (t.val - 1) / 2 = t.val / 2; omega)
  have r0 : ∀ r : Fin 2048, row ⟨t.val - 1, Nat.lt_of_le_of_lt (Nat.sub_le _ _) t.isLt⟩ r = ⟨r.val, by omega⟩ := fun r =>
    Fin.ext (by show 2048 * ((t.val - 1) % 2) + r.val = r.val; omega)
  have r1 : ∀ r : Fin 2048, row t r = ⟨2048 + r.val, by omega⟩ := fun r =>
    Fin.ext (by show 2048 * (t.val % 2) + r.val = 2048 + r.val; omega)
  rw [outs_B m d t h]
  have e := outs_A m d ⟨t.val - 1, Nat.lt_of_le_of_lt (Nat.sub_le _ _) t.isLt⟩ (by show (t.val - 1) % 2 = 0; omega) k l
  refine (congrArg (· + tile m d t k l) e).trans ?_
  unfold total tile
  rw [sum_halves, o]
  simp only [r0, r1]

/-- The result after the run. -/
theorem arr_result : (dats m 0 d).arrAt 2 cfg0.N = fun i : S3x1x1024x1024.Idx => total m d (i 0) (i 2) (i 3) := by
  have hi : ∀ t : Fin cfg0.N, win0_2.index t 0 = t.val / 2 ∧ win0_2.index t 1 = 0 ∧ win0_2.index t 2 = 0 ∧ win0_2.index t 3 = 0 :=
    (by decide +kernel : ∀ t : Fin grid0.N, win0_2.index t 0 = t.val / 2 ∧ win0_2.index t 1 = 0 ∧ win0_2.index t 2 = 0 ∧ win0_2.index t 3 = 0)
  have hf : ∀ t : Fin cfg0.N, (cfg0.win 2).flush t = true → t.val % 2 = 1 :=
    (by decide +kernel : ∀ t : Fin grid0.N, win0_2.flush t = true → t.val % 2 = 1)
  have hg : ∀ t : Fin cfg0.N, t.val % 2 = 1 → (cfg0.win 2).flush t = true :=
    (by decide +kernel : ∀ t : Fin grid0.N, t.val % 2 = 1 → win0_2.flush t = true)
  refine (dats m 0 d).arrAt_eq_of_cover 2 _ ?_ ?_
  · intro t ht
    show (cfg0.win 2).cut (grid0.coords t) ((dats m 0 d).after 2 t) = _
    rw [after0_2]
    funext j
    rw [View.read_apply]
    change S1x1x1024x1024.Idx at j
    obtain ⟨p, q, k, l, rfl⟩ := split4 j
    obtain rfl : p = 0 := Subsingleton.elim _ _
    obtain rfl : q = 0 := Subsingleton.elim _ _
    have a0 : (((cfg0.win 2).blk t).view.emb (ix4 0 0 k l) : S3x1x1024x1024.Idx) 0 = out t :=
      Fin.ext (by show win0_2.index t 0 * 1 + 1 * 0 = t.val / 2; rw [(hi t).1]; omega)
    have a2 : (((cfg0.win 2).blk t).view.emb (ix4 0 0 k l) : S3x1x1024x1024.Idx) 2 = k :=
      Fin.ext (by show win0_2.index t 2 * 1024 + 1 * k.val = k.val; rw [(hi t).2.2.1]; omega)
    have a3 : (((cfg0.win 2).blk t).view.emb (ix4 0 0 k l) : S3x1x1024x1024.Idx) 3 = l :=
      Fin.ext (by show win0_2.index t 3 * 1024 + 1 * l.val = l.val; rw [(hi t).2.2.2]; omega)
    show _ = total m d _ _ _
    rw [a0, a2, a3]
    exact outs_total m d t (hf t ht) k l
  · exact (by decide +kernel : (cfg0.win 2).Covers).cover _ (Memref.isWhole_whole _)

/-- The run: the result's array, and the arguments as they were. -/
theorem run_named (g : Dev nD → PrngReg) :
    θ_run (defs (F := 𝕀)) (onTc (τ := τ) (main (F := 𝕀))) ⟨m, fun _ => 0, g⟩ fun r => ∀ c : Dev nD,
      r.2.mem (c.tc.loc main_v15) = (dats m 0 c).arrAt 2 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run _ _ _).mono (fun r h c => ⟨(h c).1 2, ?_, ?_, ?_⟩) (run_main m g)
  · exact ((h c).1 1).trans (((dats m 0 c).arrAt_in 1 rfl _).trans ((A_eq m c 1).trans (V_main_arg0 m c)))
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)

end
end Cert.ConvDwKernelIdeal.Blocks
end
-- ==== Proof.ConvDwReference.lean ====
/- What the reference of the convolution's input weights' gradient computes, entry by entry. -/
module

public import proofs.«01_k».proof.Proof.Gen.ConvDwReferenceIdeal.Read
public import proofs.«01_k».proof.Proof.FfnMath

@[expose] public section

noncomputable section

namespace Cert.ConvDwReferenceIdeal.Rows

open Gen Read Cert.Ffn Idealize.ShloMosaic Idealize.ShloMosaic.TcCoe
  Idealize.SL.Sem

set_option maxRecDepth 65536

local notation "𝕀" => Idealize.ShloMosaic.Ideal

section
variable (x0 : S3x4096x1024.Idx → EReal) (x1 : S4096x1024.Idx → EReal) (x2 : S1024.Idx → EReal)

/-- The normed input at row `n`, lane `l`. -/
theorem normed_apply (n : Fin 4096) (l : Fin 1024) :
    val_main_v12 (F := 𝕀) x1 x2 (ix2 n l) = normed (fun l => x1 (ix2 n l)) (fun l => x2 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The blocks' gradients side by side. -/
theorem both_apply (p : Fin 3) (n : Fin 4096) (l : Fin 1024) :
    val_main_v20 (F := 𝕀) x0 (ix2 n ⟨1024 * p.val + l.val, by omega⟩) = x0 (ix3 p n l) := by
  have e0 : ∀ i, val_main_v15 (F := 𝕀) x0 i = x0 (ix3 0 (i 0) (i 1)) := by
    intro i
    obtain ⟨a, b, rfl⟩ := split2 i
    unfold val_main_v15 val_main_v14 val_main_v13; pointwise
  have e1 : ∀ i, val_main_v17 (F := 𝕀) x0 i = x0 (ix3 1 (i 0) (i 1)) := by
    intro i
    obtain ⟨a, b, rfl⟩ := split2 i
    unfold val_main_v17 val_main_v16 val_main_v13; pointwise
  have e2 : ∀ i, val_main_v19 (F := 𝕀) x0 i = x0 (ix3 2 (i 0) (i 1)) := by
    intro i
    obtain ⟨a, b, rfl⟩ := split2 i
    unfold val_main_v19 val_main_v18 val_main_v13; pointwise
  unfold val_main_v20
  generalize val_main_v15 (F := 𝕀) x0 = A0 at e0
  generalize val_main_v17 (F := 𝕀) x0 = A1 at e1
  generalize val_main_v19 (F := 𝕀) x0 = A2 at e2
  pointwise
  split
  · rw [e0]
    congr 1; funext a; apply Fin.ext
    match a with
    | ⟨0, _⟩ => show 0 = p.val; omega
    | ⟨1, _⟩ => rfl
    | ⟨2, _⟩ => show 1024 * p.val + l.val = l.val; omega
  · split
    · rw [e1]
      congr 1; funext a; apply Fin.ext
      match a with
      | ⟨0, _⟩ => show 1 = p.val; omega
      | ⟨1, _⟩ => rfl
      | ⟨2, _⟩ => show 1024 * p.val + l.val - 1024 = l.val; omega
    · rw [e2]
      congr 1; funext a; apply Fin.ext
      match a with
      | ⟨0, _⟩ => show 2 = p.val; omega
      | ⟨1, _⟩ => rfl
      | ⟨2, _⟩ => show 1024 * p.val + l.val - 1024 - 1024 = l.val; omega

/-- The product at lane `j` of the gradients and entry `k` of the input. -/
theorem dw_apply (k : Fin 1024) (p : Fin 3) (l : Fin 1024) :
    val_main_v24 (F := 𝕀) x0 x1 x2 (ix2 k ⟨1024 * p.val + l.val, by omega⟩)
      = ∑ n : Fin 4096, normed (fun l => x1 (ix2 n l)) (fun l => x2 (ix1 l)) k * x0 (ix3 p n l) := by
  have e := normed_apply x1 x2
  have eb := fun n => both_apply x0 p n l
  unfold val_main_v24 val_main_v23
  generalize val_main_v12 (F := 𝕀) x1 x2 = G at e
  generalize val_main_v20 (F := 𝕀) x0 = B at eb
  pointwise
  simp only [e]
  exact Finset.sum_congr rfl fun n _ => (congrArg (· * _) (eb n)).trans (mul_comm _ _)

/-- The result at block `p`, entry `k`, `l`. -/
theorem result_apply (p : Fin 3) (q : Fin 1) (k l : Fin 1024) :
    val_main_v33 (F := 𝕀) x0 x1 x2 (ix4 p q k l)
      = ∑ n : Fin 4096, normed (fun l => x1 (ix2 n l)) (fun l => x2 (ix1 l)) k * x0 (ix3 p n l) := by
  rw [← dw_apply]
  unfold val_main_v33 val_main_v32 val_main_v31 val_main_v30 val_main_v29 val_main_v28 val_main_v27 val_main_v26 val_main_v25
  generalize val_main_v24 (F := 𝕀) x0 x1 x2 = G
  pointwise
  split
  · congr 1; funext a; apply Fin.ext
    match a with
    | ⟨0, _⟩ => rfl
    | ⟨1, _⟩ => show l.val = 1024 * p.val + l.val; omega
  · split
    · congr 1; funext a; apply Fin.ext
      match a with
      | ⟨0, _⟩ => rfl
      | ⟨1, _⟩ => show 1024 + l.val = 1024 * p.val + l.val; omega
    · congr 1; funext a; apply Fin.ext
      match a with
      | ⟨0, _⟩ => rfl
      | ⟨1, _⟩ => show 2048 + l.val = 1024 * p.val + l.val; omega

end
end Cert.ConvDwReferenceIdeal.Rows
end
-- ==== Proof.QgDwArrays.lean ====
/- The gradient of the attention's query and gate weights, as the kernel computes it: two tiles of rows per block, the second
   added to the accumulator the first leaves. -/
module

public import proofs.«01_k».proof.Proof.Gen.QgDwKernelIdeal.Frame
public import proofs.«01_k».proof.Proof.FfnMath

@[expose] public section

noncomputable section

namespace Cert.QgDwKernelIdeal.Blocks

open Gen Cert.Ffn Idealize.ShloMosaic Idealize.ShloMosaic.TcCoe
  Idealize.SL.Sem

set_option maxRecDepth 65536

local notation "𝕀" => Idealize.ShloMosaic.Ideal

theorem lt_N (t : Fin cfg0.N) : t.val < 4 := t.isLt

section
variable (x y : Vec 𝕀 S1x2048x1024 .bf16) (s : Vec 𝕀 S1024x1024 .f32)

/-- What the first row half stores in the accumulator. -/
theorem first_apply (k l : Fin 1024) : k0_pay2 x y (ix2 k l) = ∑ r : Fin 2048, x (ix3 0 r k) * y (ix3 0 r l) := by
  unfold_payloads; pointwise

/-- What the second row half adds to it. -/
theorem next_apply (k l : Fin 1024) : k0_pay3 x y s (ix2 k l) = s (ix2 k l) + ∑ r : Fin 2048, x (ix3 0 r k) * y (ix3 0 r l) := by
  unfold_payloads; pointwise

/-- What the first row half stores in the accumulator. -/
theorem first2_apply (k l : Fin 1024) : k0_pay5 x y (ix2 k l) = ∑ r : Fin 2048, x (ix3 0 r k) * y (ix3 0 r l) := by
  unfold_payloads; pointwise

/-- What the second row half adds to it. -/
theorem next2_apply (k l : Fin 1024) : k0_pay6 x y s (ix2 k l) = s (ix2 k l) + ∑ r : Fin 2048, x (ix3 0 r k) * y (ix3 0 r l) := by
  unfold_payloads; pointwise

/-- What leaves for the result is the accumulator. -/
theorem last_apply (k l : Fin 1024) : k0_pay7 s (ix4 0 0 k l) = s (ix2 k l) := by
  unfold_payloads; pointwise

end

section
variable (m : (ℓ : Loc nD τ sig) → Buf (Elt 𝕀) ℓ) (d : Dev nD)

/-- The normed input. -/
def lhs (n : Fin 4096) (k : Fin 1024) : EReal :=
  normed (fun l => (m (d.tc.loc main_arg2) : Vec 𝕀 S4096x1024 .f32) (ix2 n l))
    (fun l => (m (d.tc.loc main_arg3) : Vec 𝕀 S1024 .f32) (ix1 l)) k

/-- The gradient of the product: the queries' block, then the gate's. -/
def rhs (p : Fin 2) (n : Fin 4096) (l : Fin 1024) : EReal :=
  if p.val = 0 then (m (d.tc.loc main_arg0) : Vec 𝕀 S1x4096x1024 .bf16) (ix3 0 n l)
  else (m (d.tc.loc main_arg1) : Vec 𝕀 S1x4096x1024 .bf16) (ix3 0 n l)

theorem V0 (n : Fin 4096) (k : Fin 1024) : (V m d main_v14 : Vec 𝕀 S1x4096x1024 .bf16) (ix3 0 n k) = lhs m d n k := by
  entry_read
  pointwise
  rfl

theorem V1 (p : Fin 2) (hp : p.val = 0) (n : Fin 4096) (l : Fin 1024) :
    (V m d main_arg0 : Vec 𝕀 S1x4096x1024 .bf16) (ix3 0 n l) = rhs m d p n l := by
  unfold rhs
  rw [V_main_arg0, if_pos hp]

theorem V2 (p : Fin 2) (hp : p.val = 1) (n : Fin 4096) (l : Fin 1024) :
    (V m d main_arg1 : Vec 𝕀 S1x4096x1024 .bf16) (ix3 0 n l) = rhs m d p n l := by
  unfold rhs
  rw [V_main_arg1, if_neg (by omega)]

/-- The row of the array a row of the tile of point `t` is. -/
def row (t : Fin cfg0.N) (r : Fin 2048) : Fin 4096 := ⟨2048 * (t.val % 2) + r.val, by omega⟩

/-- The block of the result that point `t` belongs to. -/
def out (t : Fin cfg0.N) : Fin 2 := ⟨t.val / 2, by have := lt_N t; omega⟩

theorem blk0 (t : Fin cfg0.N) (r : Fin 2048) (k : Fin 1024) :
    (iblk m d 0 t : Vec 𝕀 S1x2048x1024 .bf16) (ix3 0 r k) = lhs m d (row t r) k := by
  have hi := (by decide +kernel : ∀ t : Fin grid0.N, win0_0.index t 0 = 0 ∧ win0_0.index t 1 = t.val % 2 ∧ win0_0.index t 2 = 0) t
  have b := lt_N t
  unfold iblk
  rw [View.read_apply]
  refine Eq.trans (congrArg (V m d main_v14 : Vec 𝕀 S1x4096x1024 .bf16) (?_ : _ = ix3 0 (row t r) k)) (V0 m d _ _)
  refine funext fun a => Fin.ext ?_
  match a with
  | ⟨0, _⟩ => show win0_0.index t 0 * 1 + 1 * 0 = _; rw [hi.1]; rfl
  | ⟨1, _⟩ => show win0_0.index t 1 * 2048 + 1 * r.val = 2048 * (t.val % 2) + r.val; rw [hi.2.1]; omega
  | ⟨2, _⟩ => show win0_0.index t 2 * 1024 + 1 * k.val = k.val; rw [hi.2.2]; omega

theorem blk1 (t : Fin cfg0.N) (hc : t.val < 2) (r : Fin 2048) (k : Fin 1024) :
    (iblk m d 1 t : Vec 𝕀 S1x2048x1024 .bf16) (ix3 0 r k) = rhs m d (out t) (row t r) k := by
  have hi : win0_1.index t 0 = 0 ∧ win0_1.index t 1 = t.val % 2 ∧ win0_1.index t 2 = 0 :=
    (by decide +kernel : ∀ t : Fin grid0.N, t.val < 2 → win0_1.index t 0 = 0 ∧ win0_1.index t 1 = t.val % 2 ∧ win0_1.index t 2 = 0) t hc
  have b := lt_N t
  unfold iblk
  rw [View.read_apply]
  refine Eq.trans (congrArg (V m d main_arg0 : Vec 𝕀 S1x4096x1024 .bf16) (?_ : _ = ix3 0 (row t r) k)) (V1 m d (out t) (by show t.val / 2 = 0; omega) _ _)
  refine funext fun a => Fin.ext ?_
  match a with
  | ⟨0, _⟩ => show win0_1.index t 0 * 1 + 1 * 0 = _; rw [hi.1]; rfl
  | ⟨1, _⟩ => show win0_1.index t 1 * 2048 + 1 * r.val = 2048 * (t.val % 2) + r.val; rw [hi.2.1]; omega
  | ⟨2, _⟩ => show win0_1.index t 2 * 1024 + 1 * k.val = k.val; rw [hi.2.2]; omega

theorem blk2 (t : Fin cfg0.N) (hc : 2 ≤ t.val) (r : Fin 2048) (k : Fin 1024) :
    (iblk m d 2 t : Vec 𝕀 S1x2048x1024 .bf16) (ix3 0 r k) = rhs m d (out t) (row t r) k := by
  have hi : win0_2.index t 0 = 0 ∧ win0_2.index t 1 = t.val % 2 ∧ win0_2.index t 2 = 0 :=
    (by decide +kernel : ∀ t : Fin grid0.N, 2 ≤ t.val → win0_2.index t 0 = 0 ∧ win0_2.index t 1 = t.val % 2 ∧ win0_2.index t 2 = 0) t hc
  have b := lt_N t
  unfold iblk
  rw [View.read_apply]
  refine Eq.trans (congrArg (V m d main_arg1 : Vec 𝕀 S1x4096x1024 .bf16) (?_ : _ = ix3 0 (row t r) k)) (V2 m d (out t) (by show t.val / 2 = 1; omega) _ _)
  refine funext fun a => Fin.ext ?_
  match a with
  | ⟨0, _⟩ => show win0_2.index t 0 * 1 + 1 * 0 = _; rw [hi.1]; rfl
  | ⟨1, _⟩ => show win0_2.index t 1 * 2048 + 1 * r.val = 2048 * (t.val % 2) + r.val; rw [hi.2.1]; omega
  | ⟨2, _⟩ => show win0_2.index t 2 * 1024 + 1 * k.val = k.val; rw [hi.2.2]; omega

/-- What a tile adds to entry `k`, `l` of its block. -/
def tile (t : Fin cfg0.N) (k l : Fin 1024) : EReal :=
  ∑ r : Fin 2048, lhs m d (row t r) k * rhs m d (out t) (row t r) l

theorem tile_eq (t : Fin cfg0.N) (hc : t.val < 2) (x y : Vec 𝕀 S1x2048x1024 .bf16) (hx : x = iblk m d 0 t)
    (hy : y = iblk m d 1 t) (k l : Fin 1024) : ∑ r : Fin 2048, x (ix3 0 r k) * y (ix3 0 r l) = tile m d t k l := by
  subst hx hy
  exact Finset.sum_congr rfl fun r _ => congrArg₂ (· * · : EReal → EReal → EReal) (blk0 m d t r k) (blk1 m d t hc r l)

/-- The accumulator after the first half. -/
theorem outs_A (t : Fin cfg0.N) (hc : t.val < 2) (h : t.val % 2 = 0) (k l : Fin 1024) :
    (outsAt0 m d t.val t.isLt).2 (ix2 k l) = tile m d t k l := by
  rw [outsAt0_A m d t (by omega) (by omega) (by omega) (by omega) (by omega)]
  unfold sout0_A_0
  dsimp only
  rw [View.read_writes_eq_canon _ _ _ (fun _ => scover0_A_0 ..)]
  unfold kernelRun0_A
  dsimp only
  sl_unfold_words
  simp only [View.readAt_eq_ld, (hs0_0 t).read_unread, (hs0_1 t).read_unread, (hs0_2 t).read_unread,
    View.ld_unit_zero (S := S1x2048x1024) hz3, View.canon_unit_zero (S := S1024x1024) hz2]
  exact (first_apply _ _ k l).trans (tile_eq m d t hc _ _ rfl rfl k l)

/-- The block written at the second half. -/
theorem outs_B (t : Fin cfg0.N) (hc : t.val < 2) (h : t.val % 2 = 1) (k l : Fin 1024) :
    (outsAt0 m d t.val t.isLt).1 (ix4 0 0 k l)
      = (outsAt0 m d (t.val - 1) (Nat.lt_of_le_of_lt (Nat.sub_le _ _) t.isLt)).2 (ix2 k l) + tile m d t k l := by
  rw [outsAt0_B m d t (by omega) (by omega) (by omega) (by omega) (by omega)]
  unfold out0_B_3
  dsimp only
  rw [View.read_writes_eq_canon _ _ _ (fun _ => cover0_B_3 ..)]
  unfold kernelRun0_B
  dsimp only
  sl_unfold_words
  simp only [View.readAt_eq_ld, (hs0_0 t).read_unread, (hs0_1 t).read_unread, (hs0_2 t).read_unread, (Memref.isWhole_whole _).read_unread,
    View.ld_unit_zero (S := S1x2048x1024) hz3,
    View.ld_unit_zero (S := S1024x1024) hz2, View.canon_unit_zero (S := S1024x1024) hz2,
    View.canon_unit_zero (S := S1x1x1024x1024) hz4]
  rw [View.readCov_unit_zero (S := S1024x1024) _ hz2, last_apply]
  exact (next_apply _ _ _ k l).trans (congrArg _ (tile_eq m d t hc _ _ rfl rfl k l))

theorem tile2_eq (t : Fin cfg0.N) (hc : 2 ≤ t.val) (x y : Vec 𝕀 S1x2048x1024 .bf16) (hx : x = iblk m d 0 t)
    (hy : y = iblk m d 2 t) (k l : Fin 1024) : ∑ r : Fin 2048, x (ix3 0 r k) * y (ix3 0 r l) = tile m d t k l := by
  subst hx hy
  exact Finset.sum_congr rfl fun r _ => congrArg₂ (· * · : EReal → EReal → EReal) (blk0 m d t r k) (blk2 m d t hc r l)

/-- The accumulator after the first half. -/
theorem outs_C (t : Fin cfg0.N) (hc : 2 ≤ t.val) (h : t.val % 2 = 0) (k l : Fin 1024) :
    (outsAt0 m d t.val t.isLt).2 (ix2 k l) = tile m d t k l := by
  rw [outsAt0_C m d t (by omega) (by omega) (by omega) (by omega) (by omega)]
  unfold sout0_C_0
  dsimp only
  rw [View.read_writes_eq_canon _ _ _ (fun _ => scover0_C_0 ..)]
  unfold kernelRun0_C
  dsimp only
  sl_unfold_words
  simp only [View.readAt_eq_ld, (hs0_0 t).read_unread, (hs0_1 t).read_unread, (hs0_2 t).read_unread,
    View.ld_unit_zero (S := S1x2048x1024) hz3, View.canon_unit_zero (S := S1024x1024) hz2]
  exact (first2_apply _ _ k l).trans (tile2_eq m d t hc _ _ rfl rfl k l)

/-- The block written at the second half. -/
theorem outs_D (t : Fin cfg0.N) (hc : 2 ≤ t.val) (h : t.val % 2 = 1) (k l : Fin 1024) :
    (outsAt0 m d t.val t.isLt).1 (ix4 0 0 k l)
      = (outsAt0 m d (t.val - 1) (Nat.lt_of_le_of_lt (Nat.sub_le _ _) t.isLt)).2 (ix2 k l) + tile m d t k l := by
  rw [outsAt0_D m d t (by omega) (by omega) (by omega) (by omega) (by omega)]
  unfold out0_D_3
  dsimp only
  rw [View.read_writes_eq_canon _ _ _ (fun _ => cover0_D_3 ..)]
  unfold kernelRun0_D
  dsimp only
  sl_unfold_words
  simp only [View.readAt_eq_ld, (hs0_0 t).read_unread, (hs0_1 t).read_unread, (hs0_2 t).read_unread, (Memref.isWhole_whole _).read_unread,
    View.ld_unit_zero (S := S1x2048x1024) hz3,
    View.ld_unit_zero (S := S1024x1024) hz2, View.canon_unit_zero (S := S1024x1024) hz2,
    View.canon_unit_zero (S := S1x1x1024x1024) hz4]
  rw [View.readCov_unit_zero (S := S1024x1024) _ hz2, last_apply]
  exact (next2_apply _ _ _ k l).trans (congrArg _ (tile2_eq m d t hc _ _ rfl rfl k l))

/-- An entry of the result: the product's sum over all rows. -/
def total (p : Fin 2) (k l : Fin 1024) : EReal := ∑ n : Fin 4096, lhs m d n k * rhs m d p n l

theorem outs_total (t : Fin cfg0.N) (h : t.val % 2 = 1) (k l : Fin 1024) :
    (outsAt0 m d t.val t.isLt).1 (ix4 0 0 k l) = total m d (out t) k l := by
  have b8 := lt_N t
  have o : out ⟨t.val - 1, Nat.lt_of_le_of_lt (Nat.sub_le _ _) t.isLt⟩ = out t :=
    Fin.ext (by show (t.val - 1) / 2 = t.val / 2; omega)
  have r0 : ∀ r : Fin 2048, row ⟨t.val - 1, Nat.lt_of_le_of_lt (Nat.sub_le _ _) t.isLt⟩ r = ⟨r.val, by omega⟩ := fun r =>
    Fin.ext (by show 2048 * ((t.val - 1) % 2) + r.val = r.val; omega)
  have r1 : ∀ r : Fin 2048, row t r = ⟨2048 + r.val, by omega⟩ := fun r =>
    Fin.ext (by show 2048 * (t.val % 2) + r.val = 2048 + r.val; omega)
  by_cases hc : t.val < 2
  · rw [outs_B m d t hc h]
    have e := outs_A m d ⟨t.val - 1, Nat.lt_of_le_of_lt (Nat.sub_le _ _) t.isLt⟩ (by show t.val - 1 < 2; omega) (by show (t.val - 1) % 2 = 0; omega) k l
    refine (congrArg (· + tile m d t k l) e).trans ?_
    unfold total tile
    rw [sum_halves, o]
    simp only [r0, r1]
  · rw [outs_D m d t (by omega) h]
    have e := outs_C m d ⟨t.val - 1, Nat.lt_of_le_of_lt (Nat.sub_le _ _) t.isLt⟩ (by show 2 ≤ t.val - 1; omega) (by show (t.val - 1) % 2 = 0; omega) k l
    refine (congrArg (· + tile m d t k l) e).trans ?_
    unfold total tile
    rw [sum_halves, o]
    simp only [r0, r1]

/-- The result after the run. -/
theorem arr_result : (dats m 0 d).arrAt 3 cfg0.N = fun i : S2x1x1024x1024.Idx => total m d (i 0) (i 2) (i 3) := by
  have hi : ∀ t : Fin cfg0.N, win0_3.index t 0 = t.val / 2 ∧ win0_3.index t 1 = 0 ∧ win0_3.index t 2 = 0 ∧ win0_3.index t 3 = 0 :=
    (by decide +kernel : ∀ t : Fin grid0.N, win0_3.index t 0 = t.val / 2 ∧ win0_3.index t 1 = 0 ∧ win0_3.index t 2 = 0 ∧ win0_3.index t 3 = 0)
  have hf : ∀ t : Fin cfg0.N, (cfg0.win 3).flush t = true → t.val % 2 = 1 :=
    (by decide +kernel : ∀ t : Fin grid0.N, win0_3.flush t = true → t.val % 2 = 1)
  have hg : ∀ t : Fin cfg0.N, t.val % 2 = 1 → (cfg0.win 3).flush t = true :=
    (by decide +kernel : ∀ t : Fin grid0.N, t.val % 2 = 1 → win0_3.flush t = true)
  refine (dats m 0 d).arrAt_eq_of_cover 3 _ ?_ ?_
  · intro t ht
    show (cfg0.win 3).cut (grid0.coords t) ((dats m 0 d).after 3 t) = _
    rw [after0_3]
    funext j
    rw [View.read_apply]
    change S1x1x1024x1024.Idx at j
    obtain ⟨p, q, k, l, rfl⟩ := split4 j
    obtain rfl : p = 0 := Subsingleton.elim _ _
    obtain rfl : q = 0 := Subsingleton.elim _ _
    have a0 : (((cfg0.win 3).blk t).view.emb (ix4 0 0 k l) : S2x1x1024x1024.Idx) 0 = out t :=
      Fin.ext (by show win0_3.index t 0 * 1 + 1 * 0 = t.val / 2; rw [(hi t).1]; omega)
    have a2 : (((cfg0.win 3).blk t).view.emb (ix4 0 0 k l) : S2x1x1024x1024.Idx) 2 = k :=
      Fin.ext (by show win0_3.index t 2 * 1024 + 1 * k.val = k.val; rw [(hi t).2.2.1]; omega)
    have a3 : (((cfg0.win 3).blk t).view.emb (ix4 0 0 k l) : S2x1x1024x1024.Idx) 3 = l :=
      Fin.ext (by show win0_3.index t 3 * 1024 + 1 * l.val = l.val; rw [(hi t).2.2.2]; omega)
    show _ = total m d _ _ _
    rw [a0, a2, a3]
    exact outs_total m d t (hf t ht) k l
  · exact (by decide +kernel : (cfg0.win 3).Covers).cover _ (Memref.isWhole_whole _)

/-- The run: the result's array, and the arguments as they were. -/
theorem run_named (g : Dev nD → PrngReg) :
    θ_run (defs (F := 𝕀)) (onTc (τ := τ) (main (F := 𝕀))) ⟨m, fun _ => 0, g⟩ fun r => ∀ c : Dev nD,
      r.2.mem (c.tc.loc main_v15) = (dats m 0 c).arrAt 3 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ⟨(h c).1 3, ?_, ?_, ?_, ?_⟩) (run_main m g)
  · exact ((h c).1 1).trans (((dats m 0 c).arrAt_in 1 rfl _).trans ((A_eq m c 1).trans (V_main_arg0 m c)))
  · exact ((h c).1 2).trans (((dats m 0 c).arrAt_in 2 rfl _).trans ((A_eq m c 2).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)

end
end Cert.QgDwKernelIdeal.Blocks
end
-- ==== Proof.QgDwReference.lean ====
/- What the reference of the attention's query and gate weights' gradient computes, entry by entry. -/
module

public import proofs.«01_k».proof.Proof.Gen.QgDwReferenceIdeal.Read
public import proofs.«01_k».proof.Proof.FfnMath

@[expose] public section

noncomputable section

namespace Cert.QgDwReferenceIdeal.Rows

open Gen Read Cert.Ffn Idealize.ShloMosaic Idealize.ShloMosaic.TcCoe
  Idealize.SL.Sem

set_option maxRecDepth 65536

local notation "𝕀" => Idealize.ShloMosaic.Ideal

section
variable (x0 x1 : S1x4096x1024.Idx → EReal) (x2 : S4096x1024.Idx → EReal) (x3 : S1024.Idx → EReal)

/-- The normed input at row `n`, lane `l`. -/
theorem normed_apply (n : Fin 4096) (l : Fin 1024) :
    val_main_v12 (F := 𝕀) x2 x3 (ix2 n l) = normed (fun l => x2 (ix2 n l)) (fun l => x3 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The blocks' gradients side by side. -/
theorem both_apply (p : Fin 2) (n : Fin 4096) (l : Fin 1024) :
    val_main_v17 (F := 𝕀) x0 x1 (ix2 n ⟨1024 * p.val + l.val, by omega⟩) = (if p.val = 0 then x0 (ix3 0 n l) else x1 (ix3 0 n l)) := by
  have e0 : ∀ i, val_main_v14 (F := 𝕀) x0 i = x0 (ix3 0 (i 0) (i 1)) := by
    intro i
    obtain ⟨a, b, rfl⟩ := split2 i
    unfold val_main_v14 val_main_v13; pointwise
  have e1 : ∀ i, val_main_v16 (F := 𝕀) x1 i = x1 (ix3 0 (i 0) (i 1)) := by
    intro i
    obtain ⟨a, b, rfl⟩ := split2 i
    unfold val_main_v16 val_main_v15; pointwise
  unfold val_main_v17
  generalize val_main_v14 (F := 𝕀) x0 = A0 at e0
  generalize val_main_v16 (F := 𝕀) x1 = A1 at e1
  pointwise
  split
  · refine (e0 _).trans (Eq.trans ?_ (if_pos (by omega)).symm)
    congr 1; funext a; apply Fin.ext
    match a with
    | ⟨0, _⟩ => rfl
    | ⟨1, _⟩ => rfl
    | ⟨2, _⟩ => show 1024 * p.val + l.val = l.val; omega
  · refine (e1 _).trans (Eq.trans ?_ (if_neg (by omega)).symm)
    congr 1; funext a; apply Fin.ext
    match a with
    | ⟨0, _⟩ => rfl
    | ⟨1, _⟩ => rfl
    | ⟨2, _⟩ => show 1024 * p.val + l.val - 1024 = l.val; omega

/-- The product at lane `j` of the gradients and entry `k` of the input. -/
theorem dw_apply (k : Fin 1024) (p : Fin 2) (l : Fin 1024) :
    val_main_v21 (F := 𝕀) x0 x1 x2 x3 (ix2 k ⟨1024 * p.val + l.val, by omega⟩)
      = ∑ n : Fin 4096, normed (fun l => x2 (ix2 n l)) (fun l => x3 (ix1 l)) k * (if p.val = 0 then x0 (ix3 0 n l) else x1 (ix3 0 n l)) := by
  have e := normed_apply x2 x3
  have eb := fun n => both_apply x0 x1 p n l
  unfold val_main_v21 val_main_v20
  generalize val_main_v12 (F := 𝕀) x2 x3 = G at e
  generalize val_main_v17 (F := 𝕀) x0 x1 = B at eb
  pointwise
  simp only [e]
  exact Finset.sum_congr rfl fun n _ => (congrArg (· * _) (eb n)).trans (mul_comm _ _)

/-- The result at block `p`, entry `k`, `l`. -/
theorem result_apply (p : Fin 2) (q : Fin 1) (k l : Fin 1024) :
    val_main_v28 (F := 𝕀) x0 x1 x2 x3 (ix4 p q k l)
      = ∑ n : Fin 4096, normed (fun l => x2 (ix2 n l)) (fun l => x3 (ix1 l)) k * (if p.val = 0 then x0 (ix3 0 n l) else x1 (ix3 0 n l)) := by
  rw [← dw_apply]
  unfold val_main_v28 val_main_v27 val_main_v26 val_main_v25 val_main_v24 val_main_v23 val_main_v22
  generalize val_main_v21 (F := 𝕀) x0 x1 x2 x3 = G
  pointwise
  split
  · congr 1; funext a; apply Fin.ext
    match a with
    | ⟨0, _⟩ => rfl
    | ⟨1, _⟩ => show l.val = 1024 * p.val + l.val; omega
  · congr 1; funext a; apply Fin.ext
    match a with
    | ⟨0, _⟩ => rfl
    | ⟨1, _⟩ => show 1024 + l.val = 1024 * p.val + l.val; omega

end
end Cert.QgDwReferenceIdeal.Rows
end
-- ==== Proof.MixBwdArrays.lean ====
/- The backward pass of the mixing layers' output product and of the norm after it, as the kernel computes them: the
   gradients at the product and at its left factor, tile by tile, and the gradient of the norm's scale, accumulated over
   the tiles. -/
module

public import proofs.«01_k».proof.Proof.Gen.MixBwdKernelIdeal.Value
public import proofs.«01_k».proof.Proof.NormMath
public import Idealize.ShloMosaic.Lib.IdealHost

@[expose] public section

noncomputable section

namespace Cert.MixBwdKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (v0 v4 : Vec 𝕀 S512x1024 .f32) (v2 : Vec 𝕀 S1x1024 .f32) (v40 : FVec 𝕀 S512x1024 .bf16)
  (v48 : Vec 𝕀 S8x1x128x1024 .bf16)

theorem xhat_apply (r : Fin 512) (l : Fin 1024) : k0_pay5 v0 (ix2 r l) = xhat (fun l => v0 (ix2 r l)) l := by
  unfold_payloads; pointwise
  rfl

theorem scaled_apply (r : Fin 512) (l : Fin 1024) : k0_pay4 v4 (ix2 r l) = v4 (ix2 r l) := by
  unfold_payloads; pointwise

/-- What a point adds to the gradient of the norm's scale. -/
theorem dscale_apply (q : Fin 1) (l : Fin 1024) :
    k0_pay6 v0 v4 (ix2 q l) = ∑ r : Fin 512, v4 (ix2 r l) * xhat (fun l => v0 (ix2 r l)) l := by
  have e4 := xhat_apply v0
  have e3 := scaled_apply v4
  unfold k0_pay6
  generalize k0_pay5 v0 = A at e4
  generalize k0_pay4 v4 = B at e3
  pointwise
  simp only [e3, e4]

/-- The gradient at the product. -/
theorem dm_apply (r : Fin 512) (l : Fin 1024) :
    k0_pay7 v0 v2 v4 (ix2 r l) = normBack (fun l => v0 (ix2 r l)) (fun l => v4 (ix2 r l) * v2 (ix2 0 l)) l := by
  have e4 := xhat_apply v0
  have e3 := scaled_apply v4
  unfold k0_pay7 k0_pay3
  generalize k0_pay5 v0 = A at e4
  generalize k0_pay4 v4 = B at e3
  pointwise
  simp only [e3, e4]
  rfl

/-- The gradient at the product's left factor. -/
theorem dz_apply (q : Fin 1) (r : Fin 512) (k : Fin 1024) :
    k0_pay2 v40 v48 (ix3 q r k)
      = ∑ l : Fin 1024, (v40 (ix2 r l) : EReal) * v48 (ix4 ⟨k.val / 128, by omega⟩ 0 ⟨k.val % 128, by omega⟩ l) := by
  unfold_payloads; pointwise

theorem acc_apply (v39 : FVec 𝕀 S1x1024 .f32) (acc : Vec 𝕀 S1x1024 .f32) (q : Fin 1) (l : Fin 1024) :
    k0_pay1 v39 acc (ix2 q l) = acc (ix2 q l) + v39 (ix2 q l) := by
  unfold_payloads; pointwise

end

section
variable (m : (ℓ : Loc nD τ sig) → Buf (Elt 𝕀) ℓ) (d : Dev nD)

/-- The gradient of the layer's output. -/
def dy (n : Fin 4096) (l : Fin 1024) : EReal := (m (d.tc.loc main_arg0) : Vec 𝕀 S4096x1024 .f32) (ix2 n l)

/-- The product's left factor. -/
def z (n : Fin 4096) (k : Fin 1024) : EReal := (m (d.tc.loc main_arg1) : Vec 𝕀 S1x4096x1024 .bf16) (ix3 0 n k)

/-- The norm's scale. -/
def g (l : Fin 1024) : EReal := (m (d.tc.loc main_arg2) : Vec 𝕀 S1024 .f32) (ix1 l)

/-- The weights. -/
def w (k : Fin 1024) (l : Fin 1024) : EReal := (m (d.tc.loc main_arg3) : Vec 𝕀 S1024x1024 .f32) (ix2 k l)

/-- The output product. -/
def h (n : Fin 4096) (l : Fin 1024) : EReal := ∑ k : Fin 1024, z m d n k * w m d k l

theorem V0 (n : Fin 4096) (l : Fin 1024) : (V m d main_arg0 : Vec 𝕀 S4096x1024 .f32) (ix2 n l) = dy m d n l := by
  rw [V_main_arg0]; rfl

theorem V1 (n : Fin 4096) (l : Fin 1024) : (V m d main_v2 : Vec 𝕀 S4096x1024 .f32) (ix2 n l) = h m d n l := by
  entry_read
  pointwise
  rfl

theorem V2 (l : Fin 1024) : (V m d main_v3 : Vec 𝕀 S1x1024 .f32) (ix2 0 l) = g m d l := by
  entry_read
  pointwise
  rfl

theorem V3 (a : Fin 8) (b : Fin 128) (l : Fin 1024) :
    (V m d main_v5 : Vec 𝕀 S8x1x128x1024 .bf16) (ix4 a 0 b l) = w m d ⟨a.val * 128 + b.val, by omega⟩ l := by
  entry_read
  pointwise
  rfl

theorem blk0 (t : Fin cfg0.N) (r : Fin 512) (l : Fin 1024) :
    (iblk m d 0 t : Vec 𝕀 S512x1024 .f32) (ix2 r l) = (V m d main_arg0 : Vec 𝕀 S4096x1024 .f32) (ix2 (row t r) l) := by
  have hi := (by decide +kernel : ∀ t : Fin grid0.N, win0_0.index t 0 = t.val ∧ win0_0.index t 1 = 0) t
  unfold iblk
  rw [View.read_apply]
  refine congrArg (V m d main_arg0 : Vec 𝕀 S4096x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (t : Fin cfg0.N) (r : Fin 512) (l : Fin 1024) :
    (iblk m d 1 t : Vec 𝕀 S512x1024 .f32) (ix2 r l) = (V m d main_v2 : Vec 𝕀 S4096x1024 .f32) (ix2 (row t r) l) := by
  have hi := (by decide +kernel : ∀ t : Fin grid0.N, win0_1.index t 0 = t.val ∧ win0_1.index t 1 = 0) t
  unfold iblk
  rw [View.read_apply]
  refine congrArg (V m d main_v2 : Vec 𝕀 S4096x1024 .f32) (funext fun a => Fin.ext ?_)
  match a with
  | ⟨0, _⟩ => show win0_1.index t 0 * 512 + 1 * r.val = 512 * t.val + r.val; rw [hi.1]; omega
  | ⟨1, _⟩ => show win0_1.index t 1 * 1024 + 1 * l.val = l.val; rw [hi.2]; omega

theorem blk2 (t : Fin cfg0.N) (q : Fin 1) (l : Fin 1024) :
    (iblk m d 2 t : Vec 𝕀 S1x1024 .f32) (ix2 q l) = (V m d main_v3 : Vec 𝕀 S1x1024 .f32) (ix2 q l) := by
  have hi := (by decide +kernel : ∀ t : Fin grid0.N, win0_2.index t 0 = 0 ∧ win0_2.index t 1 = 0) t
  unfold iblk
  rw [View.read_apply]
  refine congrArg (V m d main_v3 : Vec 𝕀 S1x1024 .f32) (funext fun a => Fin.ext ?_)
  match a with
  | ⟨0, _⟩ => show win0_2.index t 0 * 1 + 1 * q.val = q.val; rw [hi.1]; omega
  | ⟨1, _⟩ => show win0_2.index t 1 * 1024 + 1 * l.val = l.val; rw [hi.2]; omega

theorem blk3 (t : Fin cfg0.N) (p : Fin 8) (q : Fin 1) (k : Fin 128) (l : Fin 1024) :
    (iblk m d 3 t : Vec 𝕀 S8x1x128x1024 .bf16) (ix4 p q k l) = (V m d main_v5 : Vec 𝕀 S8x1x128x1024 .bf16) (ix4 p q k l) := by
  have hi := (by decide +kernel : ∀ t : Fin grid0.N, win0_3.index t 0 = 0 ∧ win0_3.index t 1 = 0 ∧ win0_3.index t 2 = 0 ∧ win0_3.index t 3 = 0) t
  unfold iblk
  rw [View.read_apply]
  refine congrArg (V m d main_v5 : Vec 𝕀 S8x1x128x1024 .bf16) (funext fun a => Fin.ext ?_)
  match a with
  | ⟨0, _⟩ => show win0_3.index t 0 * 8 + 1 * p.val = p.val; rw [hi.1]; omega
  | ⟨1, _⟩ => show win0_3.index t 1 * 1 + 1 * q.val = q.val; rw [hi.2.1]; omega
  | ⟨2, _⟩ => show win0_3.index t 2 * 128 + 1 * k.val = k.val; rw [hi.2.2.1]; omega
  | ⟨3, _⟩ => show win0_3.index t 3 * 1024 + 1 * l.val = l.val; rw [hi.2.2.2]; omega

/-- The gradient at the product. -/
def dm (n : Fin 4096) (l : Fin 1024) : EReal := normBack (h m d n) (fun l => dy m d n l * g m d l) l

/-- The gradient at its left factor. -/
def dz (_ : Fin 1) (n : Fin 4096) (k : Fin 1024) : EReal := ∑ l : Fin 1024, dm m d n l * w m d k l

/-- What row `n` gives the gradient of the norm's scale. -/
def term (n : Nat) (l : Fin 1024) : EReal :=
  if hn : n < 4096 then dy m d ⟨n, hn⟩ l * xhat (h m d ⟨n, hn⟩) l else 0

/-- The gradient of the norm's scale. -/
def dg (_ : Fin 1) (l : Fin 1024) : EReal := ∑ n : Fin 4096, dy m d n l * xhat (h m d n) l

/-- What tile `t` adds to it. -/
def tile (t : Nat) (l : Fin 1024) : EReal := ∑ r : Fin 512, term m d (512 * t + r.val) l

theorem term_row (t : Fin cfg0.N) (r : Fin 512) (l : Fin 1024) :
    term m d (512 * t.val + r.val) l = dy m d (row t r) l * xhat (h m d (row t r)) l := by
  unfold term row
  rw [dif_pos]

theorem dg_eq (l : Fin 1024) : ∑ t : Fin 8, tile m d t.val l = dg m d 0 l := by
  refine (sum_tiles 8 512 (fun n => term m d n l)).symm.trans ?_
  exact Finset.sum_congr rfl fun n _ => dif_pos n.isLt

theorem w_eq (t : Fin cfg0.N) (k : Fin 1024) (l : Fin 1024) :
    (iblk m d 3 t : Vec 𝕀 S8x1x128x1024 .bf16) (ix4 ⟨k.val / 128, by omega⟩ 0 ⟨k.val % 128, by omega⟩ l) = w m d k l := by
  refine (blk3 m d t _ 0 _ l).trans ((V3 m d _ _ l).trans ?_)
  congr 1
  apply Fin.ext
  show k.val / 128 * 128 + k.val % 128 = k.val
  omega

theorem h_eq (t : Fin cfg0.N) (r : Fin 512) : (fun l => (iblk m d 1 t : Vec 𝕀 S512x1024 .f32) (ix2 r l)) = h m d (row t r) :=
  funext fun l => (blk1 m d t r l).trans (V1 m d _ l)

theorem dy_eq (t : Fin cfg0.N) (r : Fin 512) (l : Fin 1024) : (iblk m d 0 t : Vec 𝕀 S512x1024 .f32) (ix2 r l) = dy m d (row t r) l :=
  (blk0 m d t r l).trans (V0 m d _ l)

/-- The gradient at the product, as a point computes it. -/
abbrev D (t : Fin cfg0.N) : FVec 𝕀 S512x1024 .bf16 := k0_pay7 (iblk m d 1 t) (iblk m d 2 t) (iblk m d 0 t)

theorem D_apply (t : Fin cfg0.N) (r : Fin 512) (l : Fin 1024) : D m d t (ix2 r l) = dm m d (row t r) l := by
  refine (dm_apply _ _ _ r l).trans ?_
  refine congrArg₂ (normBack · · l) (h_eq m d t r) (funext fun l => ?_)
  exact congrArg₂ (· * · : EReal → EReal → EReal) (dy_eq m d t r l) ((blk2 m d t 0 l).trans (V2 m d l))

theorem tile_eq (t : Fin cfg0.N) (q : Fin 1) (l : Fin 1024) :
    k0_pay6 (iblk m d 1 t) (iblk m d 0 t) (ix2 q l) = tile m d t.val l := by
  refine (dscale_apply _ _ q l).trans ?_
  refine Finset.sum_congr rfl fun r _ => ?_
  rw [term_row]
  exact congrArg₂ (· * · : EReal → EReal → EReal) (dy_eq m d t r l) (congrArg (xhat · l) (h_eq m d t r))

/-- The block of the product's gradient a point stores. -/
def dmblock (t : Fin cfg0.N) : Vec 𝕀 S512x1024 .bf16 := fun i => dm m d (row t (i 0)) (i 1)

theorem D_eq (t : Fin cfg0.N) : D m d t = dmblock m d t := by
  funext y
  obtain ⟨r, l, rfl⟩ := split2 y
  exact D_apply m d t r l

/-- The block of the left factor's gradient a point stores. -/
def dzblock (t : Fin cfg0.N) : Vec 𝕀 S1x512x1024 .bf16 := fun i => dz m d (i 0) (row t (i 1)) (i 2)

theorem dz_eq (t : Fin cfg0.N) : k0_pay2 (D m d t) (iblk m d 3 t) = dzblock m d t := by
  funext y
  obtain ⟨q, r, k, rfl⟩ := split3 y
  refine (dz_apply _ _ q r k).trans ?_
  exact Finset.sum_congr rfl fun l _ => congrArg₂ (· * · : EReal → EReal → EReal) (D_apply m d t r l) (w_eq m d t k l)

/-- The first point: the block's gradients and the first tile's share of the scale's. -/
theorem outs_A (t : Fin cfg0.N) (h0 : t.val % 8 = 0) (h1 : ¬1 ≤ t.val) :
    (outsAt0 m d t.val t.isLt).1 = dmblock m d t
    ∧ (∀ l, (outsAt0 m d t.val t.isLt).2.1 (ix2 0 l) = tile m d t.val l)
    ∧ (outsAt0 m d t.val t.isLt).2.2 = dzblock m d t := by
  rw [outsAt0_A m d t h0 h1]
  refine ⟨?_, ?_, ?_⟩
  · unfold out0_A_4
    dsimp only
    rw [View.read_writes_eq_canon _ _ _ (fun _ => cover0_A_4 ..)]
    unfold kernelRun0_A
    dsimp only
    sl_unfold_words
    simp only [View.readAt_eq_ld, (hs0_0 t).read_unread, (hs0_1 t).read_unread, (hs0_2 t).read_unread,
      (hs0_3 t).read_unread, View.ld_unit_zero (S := S512x1024) hz2,
      View.ld_unit_zero (S := S1x1024) hz2, View.ld_unit_zero (S := S8x1x128x1024) hz4, View.canon_unit_zero (S := S512x1024) hz2]
    exact D_eq m d t
  · intro l
    unfold out0_A_5
    dsimp only
    rw [View.read_writes_eq_canon _ _ _ (fun _ => cover0_A_5 ..)]
    unfold kernelRun0_A
    dsimp only
    sl_unfold_words
    simp only [View.readAt_eq_ld, (hs0_0 t).read_unread, (hs0_1 t).read_unread, (hs0_2 t).read_unread,
      (hs0_3 t).read_unread, View.ld_unit_zero (S := S512x1024) hz2,
      View.ld_unit_zero (S := S1x1024) hz2, View.ld_unit_zero (S := S8x1x128x1024) hz4, View.canon_unit_zero (S := S1x1024) hz2]
    exact tile_eq m d t 0 l
  · unfold out0_A_6
    dsimp only
    rw [View.read_writes_eq_canon _ _ _ (fun _ => cover0_A_6 ..)]
    unfold kernelRun0_A
    dsimp only
    sl_unfold_words
    simp only [View.readAt_eq_ld, (hs0_0 t).read_unread, (hs0_1 t).read_unread, (hs0_2 t).read_unread,
      (hs0_3 t).read_unread, View.ld_unit_zero (S := S512x1024) hz2,
      View.ld_unit_zero (S := S1x1024) hz2, View.ld_unit_zero (S := S8x1x128x1024) hz4, View.canon_unit_zero (S := S1x512x1024) hz3]
    exact dz_eq m d t

/-- A later point: the block's gradients, and its tile's share added to what the point before left. -/
theorem outs_B (t : Fin cfg0.N) (h0 : ¬t.val % 8 = 0) (h1 : 1 ≤ t.val) :
    (outsAt0 m d t.val t.isLt).1 = dmblock m d t
    ∧ (∀ l, (outsAt0 m d t.val t.isLt).2.1 (ix2 0 l)
        = (outsAt0 m d (t.val - 1) (Nat.lt_of_le_of_lt (Nat.sub_le _ _) t.isLt)).2.1 (ix2 0 l) + tile m d t.val l)
    ∧ (outsAt0 m d t.val t.isLt).2.2 = dzblock m d t := by
  rw [outsAt0_B m d t h0 h1]
  refine ⟨?_, ?_, ?_⟩
  · unfold out0_B_4
    dsimp only
    rw [View.read_writes_eq_canon _ _ _ (fun _ => cover0_B_4 ..)]
    unfold kernelRun0_B
    dsimp only
    sl_unfold_words
    simp only [View.readAt_eq_ld, (hs0_0 t).read_unread, (hs0_1 t).read_unread, (hs0_2 t).read_unread,
      (hs0_3 t).read_unread, View.ld_unit_zero (S := S512x1024) hz2,
      View.ld_unit_zero (S := S1x1024) hz2, View.ld_unit_zero (S := S8x1x128x1024) hz4, View.canon_unit_zero (S := S512x1024) hz2]
    exact D_eq m d t
  · intro l
    unfold out0_B_5
    dsimp only
    rw [View.read_writes_eq_canon _ _ _ (fun _ => cover0_B_5 ..)]
    unfold kernelRun0_B
    dsimp only
    sl_unfold_words
    simp only [View.readAt_eq_ld, (hs0_0 t).read_unread, (hs0_1 t).read_unread, (hs0_2 t).read_unread,
      (hs0_3 t).read_unread, (hs0_5 t).read_unread, View.ld_unit_zero (S := S512x1024) hz2,
      View.ld_unit_zero (S := S1x1024) hz2, View.ld_unit_zero (S := S8x1x128x1024) hz4, View.canon_unit_zero (S := S1x1024) hz2]
    rw [← tile_eq m d t 0 l]
    exact acc_apply _ _ 0 l
  · unfold out0_B_6
    dsimp only
    rw [View.read_writes_eq_canon _ _ _ (fun _ => cover0_B_6 ..)]
    unfold kernelRun0_B
    dsimp only
    sl_unfold_words
    simp only [View.readAt_eq_ld, (hs0_0 t).read_unread, (hs0_1 t).read_unread, (hs0_2 t).read_unread,
      (hs0_3 t).read_unread, View.ld_unit_zero (S := S512x1024) hz2,
      View.ld_unit_zero (S := S1x1024) hz2, View.ld_unit_zero (S := S8x1x128x1024) hz4, View.canon_unit_zero (S := S1x512x1024) hz3]
    exact dz_eq m d t

/-- Every point's blocks of the gradients. -/
theorem outs_blocks (t : Fin cfg0.N) :
    (outsAt0 m d t.val t.isLt).1 = dmblock m d t ∧ (outsAt0 m d t.val t.isLt).2.2 = dzblock m d t := by
  have h8 : t.val < 8 := t.isLt
  by_cases h : 1 ≤ t.val
  · exact ⟨(outs_B m d t (by omega) h).1, (outs_B m d t (by omega) h).2.2⟩
  · exact ⟨(outs_A m d t (by omega) h).1, (outs_A m d t (by omega) h).2.2⟩

/-- The scale's gradient after point `n`: the sum of the tiles so far. -/
theorem outs_scale (l : Fin 1024) : ∀ (n : Nat) (hn : n < cfg0.N),
    (outsAt0 m d n hn).2.1 (ix2 0 l) = ∑ t : Fin (n + 1), tile m d t.val l
  | 0, hn => by
    rw [(outs_A m d ⟨0, hn⟩ (by show 0 % 8 = 0; rfl) (by show ¬1 ≤ 0; omega)).2.1 l, Fin.sum_univ_one]
    rfl
  | n + 1, hn => by
    have h8 : n + 1 < 8 := hn
    rw [(outs_B m d ⟨n + 1, hn⟩ (by show ¬(n + 1) % 8 = 0; omega) (by show 1 ≤ n + 1; omega)).2.1 l,
      Fin.sum_univ_castSucc]
    exact congrArg (· + _) (outs_scale l n (Nat.lt_of_succ_lt hn))

/-- The product's gradient after the run. -/
theorem arr4 : (dats m 0 d).arrAt 4 cfg0.N = fun i : S4096x1024.Idx => dm m d (i 0) (i 1) := by
  have hi : ∀ t : Fin cfg0.N, win0_4.index t 0 = t.val ∧ win0_4.index t 1 = 0 :=
    (by decide +kernel : ∀ t : Fin grid0.N, win0_4.index t 0 = t.val ∧ win0_4.index t 1 = 0)
  refine (dats m 0 d).arrAt_eq_of_cover 4 _ ?_ ?_
  · intro t ht
    rw [Value.flushed4, (outs_blocks m d t).1]
    funext y
    rw [View.read_apply]
    change S512x1024.Idx at y
    obtain ⟨r, l, rfl⟩ := split2 y
    have a0 : (((cfg0.win 4).blk t).view.emb (ix2 r l) : S4096x1024.Idx) 0 = row t r :=
      Fin.ext (by show win0_4.index t 0 * 512 + 1 * r.val = 512 * t.val + r.val; rw [(hi t).1]; omega)
    have a1 : (((cfg0.win 4).blk t).view.emb (ix2 r l) : S4096x1024.Idx) 1 = l :=
      Fin.ext (by show win0_4.index t 1 * 1024 + 1 * l.val = l.val; rw [(hi t).2]; omega)
    show _ = dm m d _ _
    rw [a0, a1]
    rfl
  · exact (by decide +kernel : (cfg0.win 4).Covers).cover _ (Memref.isWhole_whole _)

/-- The scale's gradient after the run. -/
theorem arr5 : (dats m 0 d).arrAt 5 cfg0.N = fun i : S1x1024.Idx => dg m d (i 0) (i 1) := by
  have hi : ∀ t : Fin cfg0.N, win0_5.index t 0 = 0 ∧ win0_5.index t 1 = 0 :=
    (by decide +kernel : ∀ t : Fin grid0.N, win0_5.index t 0 = 0 ∧ win0_5.index t 1 = 0)
  have hf : ∀ t : Fin cfg0.N, (cfg0.win 5).flush t = true → t.val = 7 :=
    (by decide +kernel : ∀ t : Fin grid0.N, win0_5.flush t = true → t.val = 7)
  refine (dats m 0 d).arrAt_eq_of_cover 5 _ ?_ ?_
  · intro t ht
    have hl := hf t ht
    rw [Value.flushed5]
    funext y
    rw [View.read_apply]
    change S1x1024.Idx at y
    obtain ⟨q, l, rfl⟩ := split2 y
    have a0 : (((cfg0.win 5).blk t).view.emb (ix2 q l) : S1x1024.Idx) 0 = q :=
      Fin.ext (by show win0_5.index t 0 * 1 + 1 * q.val = q.val; rw [(hi t).1]; omega)
    have a1 : (((cfg0.win 5).blk t).view.emb (ix2 q l) : S1x1024.Idx) 1 = l :=
      Fin.ext (by show win0_5.index t 1 * 1024 + 1 * l.val = l.val; rw [(hi t).2]; omega)
    show _ = dg m d 0 _
    rw [a1]
    obtain rfl : q = 0 := Subsingleton.elim _ _
    refine (outs_scale m d l t.val t.isLt).trans ?_
    rw [hl]
    exact dg_eq m d l
  · exact (by decide +kernel : (cfg0.win 5).Covers).cover _ (Memref.isWhole_whole _)

/-- The left factor's gradient after the run. -/
theorem arr6 : (dats m 0 d).arrAt 6 cfg0.N = fun i : S1x4096x1024.Idx => dz m d (i 0) (i 1) (i 2) := by
  have hi : ∀ t : Fin cfg0.N, win0_6.index t 0 = 0 ∧ win0_6.index t 1 = t.val ∧ win0_6.index t 2 = 0 :=
    (by decide +kernel : ∀ t : Fin grid0.N, win0_6.index t 0 = 0 ∧ win0_6.index t 1 = t.val ∧ win0_6.index t 2 = 0)
  refine (dats m 0 d).arrAt_eq_of_cover 6 _ ?_ ?_
  · intro t ht
    rw [Value.flushed6, (outs_blocks m d t).2]
    funext y
    rw [View.read_apply]
    change S1x512x1024.Idx at y
    obtain ⟨p, r, k, rfl⟩ := split3 y
    have a0 : (((cfg0.win 6).blk t).view.emb (ix3 p r k) : S1x4096x1024.Idx) 0 = p :=
      Fin.ext (by show win0_6.index t 0 * 1 + 1 * p.val = p.val; rw [(hi t).1]; omega)
    have a1 : (((cfg0.win 6).blk t).view.emb (ix3 p r k) : S1x4096x1024.Idx) 1 = row t r :=
      Fin.ext (by show win0_6.index t 1 * 512 + 1 * r.val = 512 * t.val + r.val; rw [(hi t).2.1]; omega)
    have a2 : (((cfg0.win 6).blk t).view.emb (ix3 p r k) : S1x4096x1024.Idx) 2 = k :=
      Fin.ext (by show win0_6.index t 2 * 1024 + 1 * k.val = k.val; rw [(hi t).2.2]; omega)
    show _ = dz m d 0 _ _
    rw [a1, a2]
    rfl
  · exact (by decide +kernel : (cfg0.win 6).Covers).cover _ (Memref.isWhole_whole _)

end
end Cert.MixBwdKernelIdeal.Blocks
end
-- ==== Proof.MixBwdReference.lean ====
/- What the reference of the backward pass of the mixing layers' output product and norm computes, entry by entry. -/
module

public import proofs.«01_k».proof.Proof.Gen.MixBwdReferenceIdeal.Read
public import proofs.«01_k».proof.Proof.NormMath
public import Idealize.ShloMosaic.Lib.IdealHost

@[expose] public section

noncomputable section

namespace Cert.MixBwdReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S1x4096x1024.Idx → EReal) (x2 : S1024.Idx → EReal) (x3 : S1024x1024.Idx → EReal)

/-- The product with the weights. -/
def h (n : Fin 4096) (l : Fin 1024) : EReal := ∑ k : Fin 1024, x1 (ix3 0 n k) * x3 (ix2 k l)

theorem h_apply (n : Fin 4096) (l : Fin 1024) : val_main_v2 (F := 𝕀) x1 x3 (ix2 n l) = h x1 x3 n l := by
  unfold val_main_v2 val_main_v1 val_main_v0
  pointwise
  rfl

theorem msq_apply (n : Fin 4096) (q : Fin 1) : val_main_v9 (F := 𝕀) x1 x3 (ix2 n q) = msq (h x1 x3 n) := by
  have e := h_apply x1 x3
  unfold val_main_v9 val_main_v8 val_main_v7 val_main_v6 val_main_v5 val_main_v4 val_main_v3 val_main_cst val_main_cst_0
    val_main_cst_1
  generalize val_main_v2 (F := 𝕀) x1 x3 = G at e
  pointwise
  simp only [e]
  rfl

theorem xhat_apply (n : Fin 4096) (l : Fin 1024) : val_main_v15 (F := 𝕀) x1 x3 (ix2 n l) = xhat (h x1 x3 n) l := by
  have e := h_apply x1 x3
  have em := msq_apply x1 x3
  unfold val_main_v15 val_main_v14 val_main_v10
  generalize val_main_v2 (F := 𝕀) x1 x3 = G at e
  generalize val_main_v9 (F := 𝕀) x1 x3 = M at em
  pointwise
  rw [e, em]
  rfl

/-- The gradient at the norm, scaled. -/
def u (n : Fin 4096) (l : Fin 1024) : EReal := x0 (ix2 n l) * x2 (ix1 l)

theorem u_apply (n : Fin 4096) (l : Fin 1024) : val_main_v23 (F := 𝕀) x0 x2 (ix2 n l) = u x0 x2 n l := by
  unfold val_main_v23 val_main_v22 val_main_v16 u
  pointwise

/-- The factor of the row in the norm's backward pass. -/
theorem pull_apply (n : Fin 4096) :
    val_main_v33 (F := 𝕀) x0 x1 x2 x3 (ix1 n) = pull (h x1 x3 n) (u x0 x2 n) := by
  have e := u_apply x0 x2
  have eh := h_apply x1 x3
  have em := msq_apply x1 x3
  unfold val_main_v33 val_main_v32 val_main_v31 val_main_v30 val_main_v27 val_main_v26 val_main_v25 val_main_v13 val_main_v12
    val_main_v11 val_main_v10 val_main_cst_2 val_main_cst_5 val_main_cst_6 val_main_cst_7
  generalize val_main_v23 (F := 𝕀) x0 x2 = G at e
  generalize val_main_v2 (F := 𝕀) x1 x3 = H at eh
  generalize val_main_v9 (F := 𝕀) x1 x3 = M at em
  pointwise
  simp only [e, eh, em, Fin.sum_univ_one]
  rfl

/-- The gradient at the product. -/
def dm (n : Fin 4096) (l : Fin 1024) : EReal := normBack (h x1 x3 n) (u x0 x2 n) l

theorem dm_apply (n : Fin 4096) (l : Fin 1024) : val_main_v38 (F := 𝕀) x0 x1 x2 x3 (ix2 n l) = dm x0 x1 x2 x3 n l := by
  have c := chain_eq (h x1 x3 n) (u x0 x2 n) 0 l
  rw [zero_add, zero_add] at c
  unfold dm
  rw [← c]
  have e := u_apply x0 x2
  have eh := h_apply x1 x3
  have em := msq_apply x1 x3
  have ep := pull_apply x0 x1 x2 x3
  unfold val_main_v38 val_main_v37 val_main_v36 val_main_v35 val_main_v34 val_main_v29 val_main_v28 val_main_v10
  generalize val_main_v23 (F := 𝕀) x0 x2 = G at e
  generalize val_main_v2 (F := 𝕀) x1 x3 = H at eh
  generalize val_main_v9 (F := 𝕀) x1 x3 = M at em
  generalize val_main_v33 (F := 𝕀) x0 x1 x2 x3 = P at ep
  pointwise
  simp only [e, eh, em, ep]

/-- The product's gradient, as the reference returns it. -/
theorem dm_result (n : Fin 4096) (l : Fin 1024) : val_main_v39 (F := 𝕀) x0 x1 x2 x3 (ix2 n l) = dm x0 x1 x2 x3 n l := by
  have e := dm_apply x0 x1 x2 x3
  unfold val_main_v39
  generalize val_main_v38 (F := 𝕀) x0 x1 x2 x3 = G at e
  pointwise
  rw [e]

/-- The gradient of the norm's scale. -/
theorem dg_apply (q : Fin 1) (l : Fin 1024) :
    val_main_v40 (F := 𝕀) x0 x1 x3 (ix2 q l) = ∑ n : Fin 4096, x0 (ix2 n l) * xhat (h x1 x3 n) l := by
  have ex := xhat_apply x1 x3
  unfold val_main_v40 val_main_v24 val_main_v21 val_main_v20 val_main_v19 val_main_cst_3 val_main_cst_4
  generalize val_main_v15 (F := 𝕀) x1 x3 = X at ex
  pointwise
  simp only [ex, Fin.sum_univ_one]
  exact Finset.sum_congr rfl fun n _ => mul_comm _ _

/-- The gradient at the left factor. -/
theorem dz_apply (q : Fin 1) (n : Fin 4096) (k : Fin 1024) :
    val_main_v43 (F := 𝕀) x0 x1 x2 x3 (ix3 q n k) = ∑ l : Fin 1024, dm x0 x1 x2 x3 n l * x3 (ix2 k l) := by
  have e := dm_apply x0 x1 x2 x3
  unfold val_main_v43 val_main_v42 val_main_v41
  generalize val_main_v38 (F := 𝕀) x0 x1 x2 x3 = G at e
  pointwise
  simp only [e]

end
end Cert.MixBwdReferenceIdeal.Rows
end
-- ==== Proof.MixDwArrays.lean ====
/- The gradient of a mixing layer's output weights, as the kernel computes it: two tiles of rows, the second added to the
   accumulator the first leaves. -/
module

public import proofs.«01_k».proof.Proof.Gen.MixDwKernelIdeal.Value
public import proofs.«01_k».proof.Proof.FfnMath

@[expose] public section

noncomputable section

namespace Cert.MixDwKernelIdeal.Blocks

open Gen Cert.Ffn Idealize.ShloMosaic Idealize.ShloMosaic.TcCoe
  Idealize.SL.Sem

set_option maxRecDepth 65536

local notation "𝕀" => Idealize.ShloMosaic.Ideal

theorem lt_N (t : Fin cfg0.N) : t.val < 2 := t.isLt

section
variable (x y : Vec 𝕀 S1x2048x1024 .bf16) (s : Vec 𝕀 S1024x1024 .f32)

/-- What the first row half stores in the accumulator. -/
theorem first_apply (k l : Fin 1024) : k0_pay2 x y (ix2 k l) = ∑ r : Fin 2048, x (ix3 0 r k) * y (ix3 0 r l) := by
  unfold_payloads; pointwise

/-- What the second row half adds to it. -/
theorem next_apply (k l : Fin 1024) : k0_pay3 x y s (ix2 k l) = s (ix2 k l) + ∑ r : Fin 2048, x (ix3 0 r k) * y (ix3 0 r l) := by
  unfold_payloads; pointwise

/-- What leaves for the result is the accumulator. -/
theorem last_apply (a : Fin 8) (b : Fin 128) (l : Fin 1024) :
    k0_pay4 s (ix4 a 0 b l) = s (ix2 ⟨128 * a.val + b.val, by omega⟩ l) := by
  unfold_payloads; pointwise
  exact congrArg (fun a => s (ix2 a l)) (Fin.ext (by show a.val * 128 + b.val = 128 * a.val + b.val; omega))

end

section
variable (m : (ℓ : Loc nD τ sig) → Buf (Elt 𝕀) ℓ) (d : Dev nD)

/-- The product's left factor at row `n`, entry `k`. -/
def lhs (n : Fin 4096) (k : Fin 1024) : EReal := (m (d.tc.loc main_arg0) : Vec 𝕀 S1x4096x1024 .bf16) (ix3 0 n k)

/-- The gradient at the product. -/
def rhs (_ : Fin 1) (n : Fin 4096) (l : Fin 1024) : EReal := (m (d.tc.loc main_arg1) : Vec 𝕀 S4096x1024 .bf16) (ix2 n l)

theorem V0 (n : Fin 4096) (k : Fin 1024) : (V m d main_arg0 : Vec 𝕀 S1x4096x1024 .bf16) (ix3 0 n k) = lhs m d n k := by
  rw [V_main_arg0]; rfl

theorem V1 (n : Fin 4096) (l : Fin 1024) : (V m d main_v0 : Vec 𝕀 S1x4096x1024 .bf16) (ix3 0 n l) = rhs m d 0 n l := by
  entry_read
  pointwise
  rfl

/-- The row of the array a row of the tile of point `t` is. -/
def row (t : Fin cfg0.N) (r : Fin 2048) : Fin 4096 := ⟨2048 * (t.val % 2) + r.val, by omega⟩

/-- The block of the result that point `t` belongs to. -/
def out (t : Fin cfg0.N) : Fin 1 := ⟨t.val / 2, by have := lt_N t; omega⟩

theorem blk0 (t : Fin cfg0.N) (r : Fin 2048) (k : Fin 1024) :
    (iblk m d 0 t : Vec 𝕀 S1x2048x1024 .bf16) (ix3 0 r k) = lhs m d (row t r) k := by
  have hi := (by decide +kernel : ∀ t : Fin grid0.N, win0_0.index t 0 = 0 ∧ win0_0.index t 1 = t.val % 2 ∧ win0_0.index t 2 = 0) t
  have b := lt_N t
  unfold iblk
  rw [View.read_apply]
  refine Eq.trans (congrArg (V m d main_arg0 : Vec 𝕀 S1x4096x1024 .bf16) (?_ : _ = ix3 0 (row t r) k)) (V0 m d _ _)
  refine funext fun a => Fin.ext ?_
  match a with
  | ⟨0, _⟩ => show win0_0.index t 0 * 1 + 1 * 0 = _; rw [hi.1]; rfl
  | ⟨1, _⟩ => show win0_0.index t 1 * 2048 + 1 * r.val = 2048 * (t.val % 2) + r.val; rw [hi.2.1]; omega
  | ⟨2, _⟩ => show win0_0.index t 2 * 1024 + 1 * k.val = k.val; rw [hi.2.2]; omega

theorem blk1 (t : Fin cfg0.N) (r : Fin 2048) (k : Fin 1024) :
    (iblk m d 1 t : Vec 𝕀 S1x2048x1024 .bf16) (ix3 0 r k) = rhs m d (out t) (row t r) k := by
  have hi := (by decide +kernel : ∀ t : Fin grid0.N, win0_1.index t 0 = 0 ∧ win0_1.index t 1 = t.val % 2 ∧ win0_1.index t 2 = 0) t
  have b := lt_N t
  unfold iblk
  rw [View.read_apply]
  refine Eq.trans (congrArg (V m d main_v0 : Vec 𝕀 S1x4096x1024 .bf16) (?_ : _ = ix3 0 (row t r) k)) (V1 m d _ _)
  refine funext fun a => Fin.ext ?_
  match a with
  | ⟨0, _⟩ => show win0_1.index t 0 * 1 + 1 * 0 = _; rw [hi.1]; rfl
  | ⟨1, _⟩ => show win0_1.index t 1 * 2048 + 1 * r.val = 2048 * (t.val % 2) + r.val; rw [hi.2.1]; omega
  | ⟨2, _⟩ => show win0_1.index t 2 * 1024 + 1 * k.val = k.val; rw [hi.2.2]; omega

/-- What a tile adds to entry `k`, `l` of its block. -/
def tile (t : Fin cfg0.N) (k l : Fin 1024) : EReal :=
  ∑ r : Fin 2048, lhs m d (row t r) k * rhs m d (out t) (row t r) l

theorem tile_eq (t : Fin cfg0.N) (x y : Vec 𝕀 S1x2048x1024 .bf16) (hx : x = iblk m d 0 t)
    (hy : y = iblk m d 1 t) (k l : Fin 1024) : ∑ r : Fin 2048, x (ix3 0 r k) * y (ix3 0 r l) = tile m d t k l := by
  subst hx hy
  exact Finset.sum_congr rfl fun r _ => congrArg₂ (· * · : EReal → EReal → EReal) (blk0 m d t r k) (blk1 m d t r l)

/-- The accumulator after the first half. -/
theorem outs_A (t : Fin cfg0.N) (h : t.val % 2 = 0) (k l : Fin 1024) :
    (outsAt0 m d t.val t.isLt).2 (ix2 k l) = tile m d t k l := by
  rw [outsAt0_A m d t (by omega) (by omega) (by omega)]
  unfold sout0_A_0
  dsimp only
  rw [View.read_writes_eq_canon _ _ _ (fun _ => scover0_A_0 ..)]
  unfold kernelRun0_A
  dsimp only
  sl_unfold_words
  simp only [View.readAt_eq_ld, (hs0_0 t).read_unread, (hs0_1 t).read_unread,
    View.ld_unit_zero (S := S1x2048x1024) hz3, View.canon_unit_zero (S := S1024x1024) hz2]
  exact (first_apply _ _ k l).trans (tile_eq m d t _ _ rfl rfl k l)

/-- The block written at the second half. -/
theorem outs_B (t : Fin cfg0.N) (h : t.val % 2 = 1) (a : Fin 8) (b : Fin 128) (l : Fin 1024) :
    (outsAt0 m d t.val t.isLt).1 (ix4 a 0 b l)
      = (outsAt0 m d (t.val - 1) (Nat.lt_of_le_of_lt (Nat.sub_le _ _) t.isLt)).2 (ix2 ⟨128 * a.val + b.val, by omega⟩ l) + tile m d t ⟨128 * a.val + b.val, by omega⟩ l := by
  rw [outsAt0_B m d t (by omega) (by omega) (by omega)]
  unfold out0_B_2
  dsimp only
  rw [View.read_writes_eq_canon _ _ _ (fun _ => cover0_B_2 ..)]
  unfold kernelRun0_B
  dsimp only
  sl_unfold_words
  simp only [View.readAt_eq_ld, (hs0_0 t).read_unread, (hs0_1 t).read_unread, (Memref.isWhole_whole _).read_unread,
    View.ld_unit_zero (S := S1x2048x1024) hz3,
    View.ld_unit_zero (S := S1024x1024) hz2, View.canon_unit_zero (S := S1024x1024) hz2,
    View.canon_unit_zero (S := S8x1x128x1024) hz4]
  rw [View.readCov_unit_zero (S := S1024x1024) _ hz2, last_apply]
  exact (next_apply _ _ _ ⟨128 * a.val + b.val, by omega⟩ l).trans (congrArg _ (tile_eq m d t _ _ rfl rfl ⟨128 * a.val + b.val, by omega⟩ l))

/-- An entry of the result: the product's sum over all rows. -/
def total (p : Fin 1) (k l : Fin 1024) : EReal := ∑ n : Fin 4096, lhs m d n k * rhs m d p n l

theorem outs_total (t : Fin cfg0.N) (h : t.val % 2 = 1) (a : Fin 8) (b : Fin 128) (l : Fin 1024) :
    (outsAt0 m d t.val t.isLt).1 (ix4 a 0 b l) = total m d (out t) ⟨128 * a.val + b.val, by omega⟩ l := by
  have b8 := lt_N t
  have o : out ⟨t.val - 1, Nat.lt_of_le_of_lt (Nat.sub_le _ _) t.isLt⟩ = out t :=
    Fin.ext (by show (t.val - 1) / 2 = t.val / 2; omega)
  have r0 : ∀ r : Fin 2048, row ⟨t.val - 1, Nat.lt_of_le_of_lt (Nat.sub_le _ _) t.isLt⟩ r = ⟨r.val, by omega⟩ := fun r =>
    Fin.ext (by show 2048 * ((t.val - 1) % 2) + r.val = r.val; omega)
  have r1 : ∀ r : Fin 2048, row t r = ⟨2048 + r.val, by omega⟩ := fun r =>
    Fin.ext (by show 2048 * (t.val % 2) + r.val = 2048 + r.val; omega)
  rw [outs_B m d t h]
  have e := outs_A m d ⟨t.val - 1, Nat.lt_of_le_of_lt (Nat.sub_le _ _) t.isLt⟩ (by show (t.val - 1) % 2 = 0; omega) ⟨128 * a.val + b.val, by omega⟩ l
  refine (congrArg (· + tile m d t ⟨128 * a.val + b.val, by omega⟩ l) e).trans ?_
  unfold total tile
  rw [sum_halves, o]
  simp only [r0, r1]

/-- The result after the run. -/
theorem arr_result : (dats m 0 d).arrAt 2 cfg0.N
    = fun i : S8x1x128x1024.Idx => total m d 0 ⟨128 * (i 0).val + (i 2).val, by have h0 : (i 0).val < 8 := (i 0).isLt; have h2 : (i 2).val < 128 := (i 2).isLt; omega⟩ (i 3) := by
  have hi : ∀ t : Fin cfg0.N, win0_2.index t 0 = 0 ∧ win0_2.index t 1 = 0 ∧ win0_2.index t 2 = 0 ∧ win0_2.index t 3 = 0 :=
    (by decide +kernel : ∀ t : Fin grid0.N, win0_2.index t 0 = 0 ∧ win0_2.index t 1 = 0 ∧ win0_2.index t 2 = 0 ∧ win0_2.index t 3 = 0)
  have hf : ∀ t : Fin cfg0.N, (cfg0.win 2).flush t = true → t.val % 2 = 1 :=
    (by decide +kernel : ∀ t : Fin grid0.N, win0_2.flush t = true → t.val % 2 = 1)
  refine (dats m 0 d).arrAt_eq_of_cover 2 _ ?_ ?_
  · intro t ht
    rw [Value.flushed2]
    funext j
    rw [View.read_apply]
    change S8x1x128x1024.Idx at j
    obtain ⟨a, q, b, l, rfl⟩ := split4 j
    obtain rfl : q = 0 := Subsingleton.elim _ _
    have a0 : ((((cfg0.win 2).blk t).view.emb (ix4 a 0 b l) : S8x1x128x1024.Idx) 0).val = a.val := by
      show win0_2.index t 0 * 8 + 1 * a.val = a.val; rw [(hi t).1]; omega
    have a2 : ((((cfg0.win 2).blk t).view.emb (ix4 a 0 b l) : S8x1x128x1024.Idx) 2).val = b.val := by
      show win0_2.index t 2 * 128 + 1 * b.val = b.val; rw [(hi t).2.2.1]; omega
    have a3 : (((cfg0.win 2).blk t).view.emb (ix4 a 0 b l) : S8x1x128x1024.Idx) 3 = l :=
      Fin.ext (by show win0_2.index t 3 * 1024 + 1 * l.val = l.val; rw [(hi t).2.2.2]; omega)
    refine (outs_total m d t (hf t ht) a b l).trans ?_
    have ho : out t = 0 := Subsingleton.elim _ _
    rw [ho]
    show _ = total m d 0 ⟨128 * ((((cfg0.win 2).blk t).view.emb (ix4 a 0 b l) : S8x1x128x1024.Idx) 0).val
      + ((((cfg0.win 2).blk t).view.emb (ix4 a 0 b l) : S8x1x128x1024.Idx) 2).val, _⟩ ((((cfg0.win 2).blk t).view.emb (ix4 a 0 b l) : S8x1x128x1024.Idx) 3)
    refine congrArg₂ (total m d 0 · ·) (Fin.ext ?_) a3.symm
    exact congrArg₂ (fun u v => 128 * u + v) a0.symm a2.symm
  · exact (by decide +kernel : (cfg0.win 2).Covers).cover _ (Memref.isWhole_whole _)

end
end Cert.MixDwKernelIdeal.Blocks
end
-- ==== Proof.MixDwReference.lean ====
/- What the reference of a mixing layer's output weights' gradient computes, entry by entry. -/
module

public import proofs.«01_k».proof.Proof.Gen.MixDwReferenceIdeal.Read
public import proofs.«01_k».proof.Proof.FfnMath

@[expose] public section

noncomputable section

namespace Cert.MixDwReferenceIdeal.Rows

open Gen Read Cert.Ffn Idealize.ShloMosaic Idealize.ShloMosaic.TcCoe
  Idealize.SL.Sem

set_option maxRecDepth 65536

local notation "𝕀" => Idealize.ShloMosaic.Ideal

section
variable (x0 : S1x4096x1024.Idx → EReal) (x1 : S4096x1024.Idx → EReal)

/-- The result at block `a`, row `b` of it, entry `l`. -/
theorem result_apply (a : Fin 8) (q : Fin 1) (b : Fin 128) (l : Fin 1024) :
    val_main_v8 (F := 𝕀) x0 x1 (ix4 a q b l)
      = ∑ n : Fin 4096, x0 (ix3 0 n ⟨128 * a.val + b.val, by omega⟩) * x1 (ix2 n l) := by
  obtain rfl : q = 0 := Subsingleton.elim _ _
  rw [val_main_v8_apply]
  show val_main_v7 (F := 𝕀) x0 x1 (ix4 a 0 b l) = _
  rw [val_main_v7_apply]
  have e7 : idx_main_v7 (ix4 a 0 b l) = ix2 ⟨128 * a.val + b.val, by omega⟩ l := by
    funext c; apply Fin.ext
    match c with
    | ⟨0, _⟩ => show (((a.val * 1 + 0) * 128 + b.val) * 1024 + l.val) / 1024 = 128 * a.val + b.val; omega
    | ⟨1, _⟩ => show (((a.val * 1 + 0) * 128 + b.val) * 1024 + l.val) % 1024 = l.val; omega
  rw [e7]
  have e2 : ∀ (n : Fin 4096) (k : Fin 1024), val_main_v2 (F := 𝕀) x0 (ix2 n k) = x0 (ix3 0 n k) := by
    intro n k
    unfold val_main_v2 val_main_v1; pointwise
  unfold val_main_v6 val_main_v5 val_main_v4
  generalize val_main_v2 (F := 𝕀) x0 = G at e2
  pointwise
  simp only [e2]
  exact Finset.sum_congr rfl fun n _ => mul_comm _ _

end
end Cert.MixDwReferenceIdeal.Rows
end
-- ==== Proof.GateOutArrays.lean ====
/- The attention's output gate, its output product and the norm after it, as the kernel computes them. -/
module

public import proofs.«01_k».proof.Proof.Gen.GateOutKernelIdeal.Value
public import proofs.«01_k».proof.Proof.FfnMath
public import Idealize.ShloMosaic.Lib.IdealHost

@[expose] public section

noncomputable section

namespace Cert.GateOutKernelIdeal.Blocks

open Gen Cert.Ffn Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

section
variable (v0 : Vec 𝕀 S1x512x1024 .bf16) (v4 : Vec 𝕀 S512x1024 .f32) (v10 : Vec 𝕀 S8x1x128x1024 .bf16) (v15 : Vec 𝕀 S512x1024 .f32)
  (v16 : Vec 𝕀 S1x1024 .f32)

/-- The gated row. -/
theorem z_apply (r : Fin 512) (k : Fin 1024) : k0_pay1 v0 v4 (ix2 r k) = Ffn.sig (v0 (ix3 0 r k)) * v4 (ix2 r k) := by
  unfold_payloads; pointwise; rfl

theorem z3_apply (q : Fin 1) (r : Fin 512) (k : Fin 1024) :
    k0_pay2 v0 v4 (ix3 q r k) = Ffn.sig (v0 (ix3 0 r k)) * v4 (ix2 r k) := by
  unfold_payloads; pointwise; rfl

/-- The product of a row with the weights. -/
theorem prod_apply (r : Fin 512) (l : Fin 1024) :
    k0_pay3 v0 v4 v10 (ix2 r l)
      = ∑ k : Fin 1024, Ffn.sig (v0 (ix3 0 r k)) * v4 (ix2 r k)
          * v10 (ix4 ⟨k.val / 128, by omega⟩ 0 ⟨k.val % 128, by omega⟩ l) := by
  have e := z_apply v0 v4
  unfold k0_pay3
  generalize k0_pay1 v0 v4 = G at e
  pointwise
  simp only [e]

theorem step_apply (r : Fin 512) (l : Fin 1024) :
    k0_pay4 v0 v4 v10 v15 v16 (ix2 r l)
      = v15 (ix2 r l) + normed (fun l => k0_pay3 v0 v4 v10 (ix2 r l)) (fun l => v16 (ix2 0 l)) l := by
  unfold k0_pay4
  generalize k0_pay3 v0 v4 v10 = G
  pointwise
  rfl

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The queries and the gate. -/
def qg (p : Fin 2) (n : Fin 4096) (k : Fin 1024) : EReal := (m (d.tc.loc main_arg1) : Vec 𝕀 S2x4096x1024 .bf16) (ix3 p n k)

/-- What the attention gives. -/
def o (n : Fin 4096) (k : Fin 1024) : EReal := (m (d.tc.loc main_arg2) : Vec 𝕀 S4096x1024 .f32) (ix2 n k)

/-- The norm's scale. -/
def g (l : Fin 1024) : EReal := (m (d.tc.loc main_arg3) : Vec 𝕀 S1024 .f32) (ix1 l)

/-- The weights. -/
def w (k : Fin 1024) (l : Fin 1024) : EReal := (m (d.tc.loc main_arg4) : Vec 𝕀 S1024x1024 .f32) (ix2 k l)

theorem V0 (p : Fin 2) (n : Fin 4096) (k : Fin 1024) : (V m d main_arg1 : Vec 𝕀 S2x4096x1024 .bf16) (ix3 p n k) = qg m d p n k := by
  rw [V_main_arg1]; rfl

theorem V1 (n : Fin 4096) (l : Fin 1024) : (V m d main_arg2 : Vec 𝕀 S4096x1024 .f32) (ix2 n l) = o m d n l := by
  rw [V_main_arg2]; rfl

theorem V2 (a : Fin 8) (b : Fin 128) (l : Fin 1024) :
    (V m d main_v1 : Vec 𝕀 S8x1x128x1024 .bf16) (ix4 a 0 b l) = w m d ⟨a.val * 128 + b.val, by omega⟩ l := by
  entry_read
  pointwise
  rfl

theorem V3 (n : Fin 4096) (l : Fin 1024) : (V m d main_arg0 : Vec 𝕀 S4096x1024 .f32) (ix2 n l) = x m d n l := by
  rw [V_main_arg0]; rfl

theorem V4 (l : Fin 1024) : (V m d main_v2 : Vec 𝕀 S1x1024 .f32) (ix2 0 l) = g m d l := by
  entry_read; pointwise; rfl

theorem blk0 (t : Fin cfg0.N) (q : Fin 1) (r : Fin 512) (k : Fin 1024) :
    (iblk m d 0 t : Vec 𝕀 S1x512x1024 .bf16) (ix3 q r k) = (V m d main_arg1 : Vec 𝕀 S2x4096x1024 .bf16) (ix3 1 (row t r) k) := by
  have hi := (by decide +kernel : ∀ t : Fin grid0.N, win0_0.index t 0 = 1 ∧ win0_0.index t 1 = t.val ∧ win0_0.index t 2 = 0) t
  unfold iblk
  rw [View.read_apply]
  refine congrArg (V m d main_arg1 : Vec 𝕀 S2x4096x1024 .bf16) (funext fun a => Fin.ext ?_)
  match a with
  | ⟨0, _⟩ => show win0_0.index t 0 * 1 + 1 * q.val = 1; rw [hi.1]; omega
  | ⟨1, _⟩ => show win0_0.index t 1 * 512 + 1 * r.val = 512 * t.val + r.val; rw [hi.2.1]; omega
  | ⟨2, _⟩ => show win0_0.index t 2 * 1024 + 1 * k.val = k.val; rw [hi.2.2]; omega

theorem blk1 (t : Fin cfg0.N) (r : Fin 512) (l : Fin 1024) :
    (iblk m d 1 t : Vec 𝕀 S512x1024 .f32) (ix2 r l) = (V m d main_arg2 : Vec 𝕀 S4096x1024 .f32) (ix2 (row t r) l) := by
  have hi := (by decide +kernel : ∀ t : Fin grid0.N, win0_1.index t 0 = t.val ∧ win0_1.index t 1 = 0) t
  unfold iblk
  rw [View.read_apply]
  refine congrArg (V m d main_arg2 : Vec 𝕀 S4096x1024 .f32) (funext fun a => Fin.ext ?_)
  match a with
  | ⟨0, _⟩ => show win0_1.index t 0 * 512 + 1 * r.val = 512 * t.val + r.val; rw [hi.1]; omega
  | ⟨1, _⟩ => show win0_1.index t 1 * 1024 + 1 * l.val = l.val; rw [hi.2]; omega

theorem blk2 (t : Fin cfg0.N) (p : Fin 8) (q : Fin 1) (k : Fin 128) (l : Fin 1024) :
    (iblk m d 2 t : Vec 𝕀 S8x1x128x1024 .bf16) (ix4 p q k l) = (V m d main_v1 : Vec 𝕀 S8x1x128x1024 .bf16) (ix4 p q k l) := by
  have hi := (by decide +kernel : ∀ t : Fin grid0.N, win0_2.index t 0 = 0 ∧ win0_2.index t 1 = 0 ∧ win0_2.index t 2 = 0 ∧ win0_2.index t 3 = 0) t
  unfold iblk
  rw [View.read_apply]
  refine congrArg (V m d main_v1 : Vec 𝕀 S8x1x128x1024 .bf16) (funext fun a => Fin.ext ?_)
  match a with
  | ⟨0, _⟩ => show win0_2.index t 0 * 8 + 1 * p.val = p.val; rw [hi.1]; omega
  | ⟨1, _⟩ => show win0_2.index t 1 * 1 + 1 * q.val = q.val; rw [hi.2.1]; omega
  | ⟨2, _⟩ => show win0_2.index t 2 * 128 + 1 * k.val = k.val; rw [hi.2.2.1]; omega
  | ⟨3, _⟩ => show win0_2.index t 3 * 1024 + 1 * l.val = l.val; rw [hi.2.2.2]; omega

theorem blk3 (t : Fin cfg0.N) (r : Fin 512) (l : Fin 1024) :
    (iblk m d 3 t : Vec 𝕀 S512x1024 .f32) (ix2 r l) = (V m d main_arg0 : Vec 𝕀 S4096x1024 .f32) (ix2 (row t r) l) := by
  have hi := (by decide +kernel : ∀ t : Fin grid0.N, win0_3.index t 0 = t.val ∧ win0_3.index t 1 = 0) t
  unfold iblk
  rw [View.read_apply]
  refine congrArg (V m d main_arg0 : Vec 𝕀 S4096x1024 .f32) (funext fun a => Fin.ext ?_)
  match a with
  | ⟨0, _⟩ => show win0_3.index t 0 * 512 + 1 * r.val = 512 * t.val + r.val; rw [hi.1]; omega
  | ⟨1, _⟩ => show win0_3.index t 1 * 1024 + 1 * l.val = l.val; rw [hi.2]; omega

theorem blk4 (t : Fin cfg0.N) (q : Fin 1) (l : Fin 1024) :
    (iblk m d 4 t : Vec 𝕀 S1x1024 .f32) (ix2 q l) = (V m d main_v2 : Vec 𝕀 S1x1024 .f32) (ix2 q l) := by
  have hi := (by decide +kernel : ∀ t : Fin grid0.N, win0_4.index t 0 = 0 ∧ win0_4.index t 1 = 0) t
  unfold iblk
  rw [View.read_apply]
  refine congrArg (V m d main_v2 : Vec 𝕀 S1x1024 .f32) (funext fun a => Fin.ext ?_)
  match a with
  | ⟨0, _⟩ => show win0_4.index t 0 * 1 + 1 * q.val = q.val; rw [hi.1]; omega
  | ⟨1, _⟩ => show win0_4.index t 1 * 1024 + 1 * l.val = l.val; rw [hi.2]; omega

/-- The gated rows. -/
def z (_ : Fin 1) (n : Fin 4096) (k : Fin 1024) : EReal := Ffn.sig (qg m d 1 n k) * o m d n k

/-- The output product. -/
def h (n : Fin 4096) (l : Fin 1024) : EReal := ∑ k : Fin 1024, z m d 0 n k * w m d k l

/-- The layer's output: its input and the normed product. -/
def y (n : Fin 4096) (l : Fin 1024) : EReal := x m d n l + normed (h m d n) (g m d) l

theorem z_eq (t : Fin cfg0.N) (r : Fin 512) (k : Fin 1024) :
    Ffn.sig ((iblk m d 0 t : Vec 𝕀 S1x512x1024 .bf16) (ix3 0 r k)) * (iblk m d 1 t : Vec 𝕀 S512x1024 .f32) (ix2 r k)
      = z m d 0 (row t r) k :=
  congrArg₂ (fun a b : EReal => Ffn.sig a * b) ((blk0 m d t 0 r k).trans (V0 m d 1 _ k)) ((blk1 m d t r k).trans (V1 m d _ k))

theorem w_eq (t : Fin cfg0.N) (k : Fin 1024) (l : Fin 1024) :
    (iblk m d 2 t : Vec 𝕀 S8x1x128x1024 .bf16) (ix4 ⟨k.val / 128, by omega⟩ 0 ⟨k.val % 128, by omega⟩ l) = w m d k l := by
  refine (blk2 m d t _ 0 _ l).trans ((V2 m d _ _ l).trans ?_)
  congr 1
  apply Fin.ext
  show k.val / 128 * 128 + k.val % 128 = k.val
  omega

theorem h_eq (t : Fin cfg0.N) (r : Fin 512) (l : Fin 1024) :
    k0_pay3 (iblk m d 0 t) (iblk m d 1 t) (iblk m d 2 t) (ix2 r l) = h m d (row t r) l := by
  refine (prod_apply _ _ _ r l).trans ?_
  exact Finset.sum_congr rfl fun k _ => congrArg₂ (· * · : EReal → EReal → EReal) (z_eq m d t r k) (w_eq m d t k l)

theorem out5_apply (t : Fin cfg0.N) (q : Fin 1) (r : Fin 512) (k : Fin 1024) :
    out0_5 (iblk m d 0 t) (iblk m d 1 t) (iblk m d 2 t) (iblk m d 3 t) (iblk m d 4 t) (ix3 q r k) = z m d 0 (row t r) k := by
  unfold out0_5
  rw [View.canon_unit_zero (S := S1x512x1024) hz3, View.ld_unit_zero (S := S1x512x1024) hz3, View.ld_unit_zero (S := S512x1024) hz2]
  exact (z3_apply _ _ q r k).trans (z_eq m d t r k)

theorem out6_apply (t : Fin cfg0.N) (r : Fin 512) (l : Fin 1024) :
    out0_6 (iblk m d 0 t) (iblk m d 1 t) (iblk m d 2 t) (iblk m d 3 t) (iblk m d 4 t) (ix2 r l) = h m d (row t r) l := by
  unfold out0_6
  rw [View.canon_unit_zero (S := S512x1024) hz2, View.ld_unit_zero (S := S1x512x1024) hz3, View.ld_unit_zero (S := S512x1024) hz2,
    View.ld_unit_zero (S := S8x1x128x1024) hz4]
  exact h_eq m d t r l

theorem out7_apply (t : Fin cfg0.N) (r : Fin 512) (l : Fin 1024) :
    out0_7 (iblk m d 0 t) (iblk m d 1 t) (iblk m d 2 t) (iblk m d 3 t) (iblk m d 4 t) (ix2 r l) = y m d (row t r) l := by
  unfold out0_7
  rw [View.canon_unit_zero (S := S512x1024) hz2, View.ld_unit_zero (S := S8x1x128x1024) hz4, View.ld_unit_zero (S := S1x512x1024) hz3,
    View.ld_unit_zero (S := S512x1024) hz2, View.ld_unit_zero (S := S512x1024) hz2, View.ld_unit_zero (S := S1x1024) hz2]
  refine (step_apply _ _ _ _ _ r l).trans ?_
  refine congrArg₂ (· + · : EReal → EReal → EReal) ((blk3 m d t r l).trans (V3 m d _ l)) ?_
  exact congrArg₂ (normed · · l) (funext fun l => h_eq m d t r l) (funext fun l => (blk4 m d t 0 l).trans (V4 m d l))

/-- The gated rows after the run. -/
theorem arr5 : (dats m 0 d).arrAt 5 cfg0.N = fun i : S1x4096x1024.Idx => z m d (i 0) (i 1) (i 2) := by
  have hi : ∀ t : Fin cfg0.N, win0_5.index t 0 = 0 ∧ win0_5.index t 1 = t.val ∧ win0_5.index t 2 = 0 :=
    (by decide +kernel : ∀ t : Fin grid0.N, win0_5.index t 0 = 0 ∧ win0_5.index t 1 = t.val ∧ win0_5.index t 2 = 0)
  refine (dats m 0 d).arrAt_eq_of_cover 5 _ ?_ ?_
  · intro t ht
    rw [Value.flushed5]
    funext y
    rw [View.read_apply]
    change S1x512x1024.Idx at y
    obtain ⟨q, r, k, rfl⟩ := split3 y
    have a0 : (((cfg0.win 5).blk t).view.emb (ix3 q r k) : S1x4096x1024.Idx) 0 = q :=
      Fin.ext (by show win0_5.index t 0 * 1 + 1 * q.val = q.val; rw [(hi t).1]; omega)
    have a1 : (((cfg0.win 5).blk t).view.emb (ix3 q r k) : S1x4096x1024.Idx) 1 = row t r :=
      Fin.ext (by show win0_5.index t 1 * 512 + 1 * r.val = 512 * t.val + r.val; rw [(hi t).2.1]; omega)
    have a2 : (((cfg0.win 5).blk t).view.emb (ix3 q r k) : S1x4096x1024.Idx) 2 = k :=
      Fin.ext (by show win0_5.index t 2 * 1024 + 1 * k.val = k.val; rw [(hi t).2.2]; omega)
    show _ = z m d 0 _ _
    rw [a1, a2]
    exact out5_apply m d t q r k
  · exact (by decide +kernel : (cfg0.win 5).Covers).cover _ (Memref.isWhole_whole _)

/-- The product after the run. -/
theorem arr6 : (dats m 0 d).arrAt 6 cfg0.N = fun i : S4096x1024.Idx => h m d (i 0) (i 1) := by
  have hi : ∀ t : Fin cfg0.N, win0_6.index t 0 = t.val ∧ win0_6.index t 1 = 0 :=
    (by decide +kernel : ∀ t : Fin grid0.N, win0_6.index t 0 = t.val ∧ win0_6.index t 1 = 0)
  refine (dats m 0 d).arrAt_eq_of_cover 6 _ ?_ ?_
  · intro t ht
    rw [Value.flushed6]
    funext y
    rw [View.read_apply]
    change S512x1024.Idx at y
    obtain ⟨r, l, rfl⟩ := split2 y
    have a0 : (((cfg0.win 6).blk t).view.emb (ix2 r l) : S4096x1024.Idx) 0 = row t r :=
      Fin.ext (by show win0_6.index t 0 * 512 + 1 * r.val = 512 * t.val + r.val; rw [(hi t).1]; omega)
    have a1 : (((cfg0.win 6).blk t).view.emb (ix2 r l) : S4096x1024.Idx) 1 = l :=
      Fin.ext (by show win0_6.index t 1 * 1024 + 1 * l.val = l.val; rw [(hi t).2]; omega)
    show _ = h m d _ _
    rw [a0, a1]
    exact out6_apply m d t r l
  · exact (by decide +kernel : (cfg0.win 6).Covers).cover _ (Memref.isWhole_whole _)

/-- The layer's output after the run. -/
theorem arr7 : (dats m 0 d).arrAt 7 cfg0.N = fun i : S4096x1024.Idx => y m d (i 0) (i 1) := by
  have hi : ∀ t : Fin cfg0.N, win0_7.index t 0 = t.val ∧ win0_7.index t 1 = 0 :=
    (by decide +kernel : ∀ t : Fin grid0.N, win0_7.index t 0 = t.val ∧ win0_7.index t 1 = 0)
  refine (dats m 0 d).arrAt_eq_of_cover 7 _ ?_ ?_
  · intro t ht
    rw [Value.flushed7]
    funext y
    rw [View.read_apply]
    change S512x1024.Idx at y
    obtain ⟨r, l, rfl⟩ := split2 y
    have a0 : (((cfg0.win 7).blk t).view.emb (ix2 r l) : S4096x1024.Idx) 0 = row t r :=
      Fin.ext (by show win0_7.index t 0 * 512 + 1 * r.val = 512 * t.val + r.val; rw [(hi t).1]; omega)
    have a1 : (((cfg0.win 7).blk t).view.emb (ix2 r l) : S4096x1024.Idx) 1 = l :=
      Fin.ext (by show win0_7.index t 1 * 1024 + 1 * l.val = l.val; rw [(hi t).2]; omega)
    show _ = y m d _ _
    rw [a0, a1]
    exact out7_apply m d t r l
  · exact (by decide +kernel : (cfg0.win 7).Covers).cover _ (Memref.isWhole_whole _)

end
end Cert.GateOutKernelIdeal.Blocks
end
-- ==== Proof.GateOutReference.lean ====
/- What the reference of the attention's output gate, its output product and the norm after it computes, entry by entry. -/
module

public import proofs.«01_k».proof.Proof.Gen.GateOutReferenceIdeal.Read
public import proofs.«01_k».proof.Proof.FfnMath

@[expose] public section

noncomputable section

namespace Cert.GateOutReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S2x4096x1024.Idx → EReal) (x2 : S4096x1024.Idx → EReal) (x3 : S1024.Idx → EReal)
  (x4 : S1024x1024.Idx → EReal)

/-- The gated rows. -/
theorem z_apply (n : Fin 4096) (k : Fin 1024) :
    val_main_v9 (F := 𝕀) x1 x2 (ix2 n k) = Ffn.sig (x1 (ix3 1 n k)) * x2 (ix2 n k) := by
  have g : ∀ i, val_main_v2 (F := 𝕀) x1 i = x1 (ix3 1 (i 0) (i 1)) := by
    intro i
    obtain ⟨a, b, rfl⟩ := split2 i
    unfold val_main_v2 val_main_v1 val_main_v0; pointwise
  unfold val_main_v9 val_main_v8 val_main_v7 val_main_v6 val_main_v5 val_main_v4 val_main_v3 val_main_cst val_main_cst_0
  generalize val_main_v2 (F := 𝕀) x1 = G at g
  pointwise
  rw [g]
  rfl

theorem z_result (q : Fin 1) (n : Fin 4096) (k : Fin 1024) :
    val_main_v12 (F := 𝕀) x1 x2 (ix3 q n k) = Ffn.sig (x1 (ix3 1 n k)) * x2 (ix2 n k) := by
  have e := z_apply x1 x2
  unfold val_main_v12 val_main_v11
  generalize val_main_v9 (F := 𝕀) x1 x2 = G at e
  pointwise
  rw [e]

/-- The product with the weights. -/
def h (n : Fin 4096) (l : Fin 1024) : EReal := ∑ k : Fin 1024, Ffn.sig (x1 (ix3 1 n k)) * x2 (ix2 n k) * x4 (ix2 k l)

theorem h_apply (n : Fin 4096) (l : Fin 1024) : val_main_v10 (F := 𝕀) x1 x2 x4 (ix2 n l) = h x1 x2 x4 n l := by
  have e := z_apply x1 x2
  unfold val_main_v10 h
  generalize val_main_v9 (F := 𝕀) x1 x2 = G at e
  pointwise
  simp only [e]

/-- The layer's output. -/
theorem y_apply (n : Fin 4096) (l : Fin 1024) :
    val_main_v26 (F := 𝕀) x0 x1 x2 x3 x4 (ix2 n l) = x0 (ix2 n l) + normed (h x1 x2 x4 n) (fun l => x3 (ix1 l)) l := by
  have e := h_apply x1 x2 x4
  unfold val_main_v26 val_main_v25 val_main_v24 val_main_v23 val_main_v22 val_main_v21 val_main_v20 val_main_v19 val_main_v18
    val_main_v17 val_main_v16 val_main_v15 val_main_v14 val_main_v13 val_main_cst_1 val_main_cst_2 val_main_cst_3
  generalize val_main_v10 (F := 𝕀) x1 x2 x4 = G at e
  pointwise
  simp only [e]
  rfl

end
end Cert.GateOutReferenceIdeal.Rows
end
-- ==== Proof.ConvOutArrays.lean ====
/- The short convolution, its output product and the norm after it, as the kernel computes them. -/
module

public import proofs.«01_k».proof.Proof.Gen.ConvOutKernelIdeal.Value
public import proofs.«01_k».proof.Proof.FfnMath
public import Idealize.ShloMosaic.Lib.IdealHost

@[expose] public section

noncomputable section

namespace Cert.ConvOutKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

/-- The word the kernel compares: the tile's number within its sequence. -/
def tileWord (i : Nat) : BitVec 32 :=
  let four : BitVec 32 := Scalar.select (Scalar.cmpi .eq 4#32 0#32) 1#32 4#32
  let rest : BitVec 32 := Scalar.remsi (BitVec.ofNat 32 i) four
  Scalar.select (Scalar.andi (Scalar.xori (Scalar.cmpi .slt rest 0#32) (Scalar.cmpi .slt four 0#32)) (Scalar.cmpi .ne rest 0#32))
    (Scalar.addi rest four) rest

theorem first_word (t : Fin cfg0.N) :
    Scalar.cmpi .eq (tileWord (grid0.coords t 0).val) 0#32 = if t.val % 4 = 0 then 1#1 else 0#1 :=
  (by decide +kernel : ∀ t : Fin grid0.N,
    Scalar.cmpi .eq (tileWord (grid0.coords t 0).val) 0#32 = if t.val % 4 = 0 then 1#1 else 0#1) t

section
variable (b c h : Nat → Fin 1024 → EReal) (k : Fin 3 → Fin 1024 → EReal) (t : Fin cfg0.N)
  (x0 x1 x2 : Vec 𝕀 S1x512x1024 .bf16) (x3 x4 : Vec 𝕀 S1x8x1024 .bf16) (x5 : Vec 𝕀 S3x1024 .f32) (H : Vec 𝕀 S8x1024 .f32)
  (e0 : ∀ r l, x0 (ix3 0 r l) = b (512 * t.val + r.val) l)
  (e1 : ∀ r l, x1 (ix3 0 r l) = c (512 * t.val + r.val) l)
  (e2 : ∀ r l, x2 (ix3 0 r l) = h (512 * t.val + r.val) l)
  (e3 : ∀ r l, x3 (ix3 0 r l) = c (8 * (64 * t.val - 1) + r.val) l)
  (e4 : ∀ r l, x4 (ix3 0 r l) = h (8 * (64 * t.val - 1) + r.val) l)
  (e5 : ∀ j l, x5 (ix2 j l) = k j l)
  (eH : ∀ r l, H (ix2 r l) = if t.val % 4 = 0 then 0 else inp c h (8 * (64 * t.val - 1) + r.val) l)

include e1 e2 in
theorem inp_apply (r : Fin 512) (l : Fin 1024) : k0_pay2 x1 x2 (ix2 r l) = inp c h (512 * t.val + r.val) l := by
  unfold_payloads; pointwise; rw [e1, e2]; rfl

include e3 e4 in
/-- The rows before the tile, zero where the tile begins a sequence. -/
theorem halo_apply (r : Fin 8) (l : Fin 1024) :
    k0_pay3 (grid0.coords t) x3 x4 (ix2 r l) = if t.val % 4 = 0 then 0 else inp c h (8 * (64 * t.val - 1) + r.val) l := by
  unfold k0_pay3
  show (Scalar.select (Scalar.cmpi .eq (tileWord (grid0.coords t 0).val) 0#32) (_ : Vec 𝕀 S8x1024 .f32) _ : Vec 𝕀 S8x1024 .f32) (ix2 r l) = _
  rw [first_word t]
  by_cases hf : t.val % 4 = 0
  · rw [if_pos hf, if_pos hf]
    rw [show ∀ A B : Vec 𝕀 S8x1024 .f32, Scalar.select 1#1 A B = A from fun _ _ => rfl]
    pointwise
  · rw [if_neg hf, if_neg hf]
    rw [show ∀ A B : Vec 𝕀 S8x1024 .f32, Scalar.select 0#1 A B = B from fun _ _ => rfl]
    pointwise
    rw [e3, e4]; rfl

include e0 e1 e2 e5 eH in
/-- The convolution, gated. -/
theorem z_apply (r : Fin 512) (l : Fin 1024) :
    k0_pay8 (k0_pay2 x1 x2) H x5 (k0_pay4 x1 x2 x5) (k0_pay5 x5) (k0_pay6 x1 x2) (iota .tc S512x1024 32 [0] iota_S512x1024_d0_w32) k0_pay7 x0 (ix2 r l) = b (512 * t.val + r.val) l * conv c h k (512 * t.val + r.val) l := by
  have h8 : t.val < 8 := t.isLt
  have u := inp_apply c h t x1 x2 e1 e2
  unfold k0_pay8 k0_pay4 k0_pay5 k0_pay6 k0_pay7
  generalize k0_pay2 x1 x2 = U at u
  pointwise
  simp only [select_row _ 0 (show r.val < 2 ^ 32 by omega) (by omega), select_row _ 1 (show r.val < 2 ^ 32 by omega) (by omega),
    e0, e5, eH, u]
  refine congrArg (b (512 * t.val + r.val) l * ·) ?_
  unfold conv
  congr 1
  · congr 2
    unfold back
    by_cases h0 : r.val = 0
    · by_cases hf : t.val % 4 = 0
      · rw [if_pos h0, if_pos hf, if_neg (by omega)]
      · rw [if_pos h0, if_neg hf, if_pos (by omega)]
        have q : 8 * (64 * t.val - 1) + ((7 : Fin 8) : Nat) = 512 * t.val + r.val - 1 := by
          show 8 * (64 * t.val - 1) + 7 = _; omega
        rw [q]
    · rw [if_neg h0, if_pos (by omega)]
      have q : 512 * t.val + (r.val + 512 - 1) % 512 = 512 * t.val + r.val - 1 := by omega
      simp only [q]
  · congr 1
    unfold back
    by_cases h1 : r.val = 1
    · by_cases hf : t.val % 4 = 0
      · rw [if_pos h1, if_pos hf, if_neg (by omega)]
      · rw [if_pos h1, if_neg hf, if_pos (by omega)]
        have q : 8 * (64 * t.val - 1) + ((7 : Fin 8) : Nat) = 512 * t.val + r.val - 2 := by
          show 8 * (64 * t.val - 1) + 7 = _; omega
        rw [q]
    rw [if_neg h1]
    by_cases h0 : r.val = 0
    · by_cases hf : t.val % 4 = 0
      · rw [if_pos h0, if_pos hf, if_neg (by omega)]
      · rw [if_pos h0, if_neg hf, if_pos (by omega)]
        have q : 8 * (64 * t.val - 1) + ((6 : Fin 8) : Nat) = 512 * t.val + r.val - 2 := by
          show 8 * (64 * t.val - 1) + 6 = _; omega
        rw [q]
    · rw [if_neg h0, if_pos (by omega)]
      have q : 512 * t.val + (r.val + 512 - 2) % 512 = 512 * t.val + r.val - 2 := by omega
      simp only [q]

include e0 e1 e2 e5 eH in
theorem z3_apply (q : Fin 1) (r : Fin 512) (l : Fin 1024) :
    k0_pay9 (k0_pay2 x1 x2) H x5 (k0_pay4 x1 x2 x5) (k0_pay5 x5) (k0_pay6 x1 x2) (iota .tc S512x1024 32 [0] iota_S512x1024_d0_w32) k0_pay7 x0 (ix3 q r l) = b (512 * t.val + r.val) l * conv c h k (512 * t.val + r.val) l := by
  have e := z_apply b c h k t x0 x1 x2 x5 H e0 e1 e2 e5 eH
  unfold k0_pay9
  generalize k0_pay8 (k0_pay2 x1 x2) H x5 (k0_pay4 x1 x2 x5) (k0_pay5 x5) (k0_pay6 x1 x2) (iota .tc S512x1024 32 [0] iota_S512x1024_d0_w32) k0_pay7 x0 = G at e
  pointwise
  rw [e]

include e0 e1 e2 e5 eH in
/-- The product of a row with the weights. -/
theorem prod_apply (x6 : Vec 𝕀 S8x1x128x1024 .bf16) (r : Fin 512) (l : Fin 1024) :
    k0_pay10 (k0_pay2 x1 x2) H x5 (k0_pay4 x1 x2 x5) (k0_pay5 x5) (k0_pay6 x1 x2) (iota .tc S512x1024 32 [0] iota_S512x1024_d0_w32) k0_pay7 x0 x6 (ix2 r l)
      = ∑ j : Fin 1024, b (512 * t.val + r.val) j * conv c h k (512 * t.val + r.val) j
          * x6 (ix4 ⟨j.val / 128, by omega⟩ 0 ⟨j.val % 128, by omega⟩ l) := by
  have e := z_apply b c h k t x0 x1 x2 x5 H e0 e1 e2 e5 eH
  unfold k0_pay10
  generalize k0_pay8 (k0_pay2 x1 x2) H x5 (k0_pay4 x1 x2 x5) (k0_pay5 x5) (k0_pay6 x1 x2) (iota .tc S512x1024 32 [0] iota_S512x1024_d0_w32) k0_pay7 x0 = G at e
  pointwise
  simp only [e]

end

theorem step_apply (G v74 : Vec 𝕀 S512x1024 .f32) (v75 : Vec 𝕀 S1x1024 .f32) (r : Fin 512) (l : Fin 1024) :
    k0_pay1 G v74 v75 (ix2 r l) = v74 (ix2 r l) + normed (fun l => G (ix2 r l)) (fun l => v75 (ix2 0 l)) l := by
  unfold k0_pay1
  pointwise
  rfl

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The three gates, by row. -/
def gates (p : Fin 3) : Nat → Fin 1024 → EReal := rows (m (d.tc.loc main_arg1) : Vec 𝕀 S3x4096x1024 .bf16) p

/-- The three taps. -/
def taps (p : Fin 3) (l : Fin 1024) : EReal := (m (d.tc.loc main_arg2) : Vec 𝕀 S3x1024 .f32) (ix2 p l)

/-- The norm's scale. -/
def g (l : Fin 1024) : EReal := (m (d.tc.loc main_arg3) : Vec 𝕀 S1024 .f32) (ix1 l)

/-- The weights. -/
def w (k : Fin 1024) (l : Fin 1024) : EReal := (m (d.tc.loc main_arg4) : Vec 𝕀 S1024x1024 .f32) (ix2 k l)

theorem V5 (j : Fin 3) (l : Fin 1024) : (V m d main_arg2 : Vec 𝕀 S3x1024 .f32) (ix2 j l) = taps m d j l := by
  rw [V_main_arg2]; rfl

theorem V6 (a : Fin 8) (b : Fin 128) (l : Fin 1024) :
    (V m d main_v1 : Vec 𝕀 S8x1x128x1024 .bf16) (ix4 a 0 b l) = w m d ⟨a.val * 128 + b.val, by omega⟩ l := by
  entry_read
  pointwise
  rfl

theorem V7 (n : Fin 4096) (l : Fin 1024) : (V m d main_arg0 : Vec 𝕀 S4096x1024 .f32) (ix2 n l) = x m d n l := by
  rw [V_main_arg0]; rfl

theorem V8 (l : Fin 1024) : (V m d main_v2 : Vec 𝕀 S1x1024 .f32) (ix2 0 l) = g m d l := by
  entry_read; pointwise; rfl

theorem blk0 (t : Fin cfg0.N) (r : Fin 512) (l : Fin 1024) :
    (iblk m d 0 t : Vec 𝕀 S1x512x1024 .bf16) (ix3 0 r l) = gates m d 0 (512 * t.val + r.val) l := by
  have hi := (by decide +kernel : ∀ t : Fin grid0.N, win0_0.index t 0 = 0 ∧ win0_0.index t 1 = t.val ∧ win0_0.index t 2 = 0) t
  have h8 : t.val < 8 := t.isLt
  unfold gates
  rw [← rows_of_lt _ _ _ (by omega)]
  unfold iblk
  rw [View.read_apply]
  show V m d main_arg1 _ = m (d.tc.loc main_arg1) _
  rw [V_main_arg1]
  congr 1
  refine funext fun a => Fin.ext ?_
  match a with
  | ⟨0, _⟩ => show win0_0.index t 0 * 1 + 1 * 0 = 0; rw [hi.1]
  | ⟨1, _⟩ => show win0_0.index t 1 * 512 + 1 * r.val = 512 * t.val + r.val; rw [hi.2.1]; omega
  | ⟨2, _⟩ => show win0_0.index t 2 * 1024 + 1 * l.val = l.val; rw [hi.2.2]; omega

theorem blk1 (t : Fin cfg0.N) (r : Fin 512) (l : Fin 1024) :
    (iblk m d 1 t : Vec 𝕀 S1x512x1024 .bf16) (ix3 0 r l) = gates m d 1 (512 * t.val + r.val) l := by
  have hi := (by decide +kernel : ∀ t : Fin grid0.N, win0_1.index t 0 = 1 ∧ win0_1.index t 1 = t.val ∧ win0_1.index t 2 = 0) t
  have h8 : t.val < 8 := t.isLt
  unfold gates
  rw [← rows_of_lt _ _ _ (by omega)]
  unfold iblk
  rw [View.read_apply]
  show V m d main_arg1 _ = m (d.tc.loc main_arg1) _
  rw [V_main_arg1]
  congr 1
  refine funext fun a => Fin.ext ?_
  match a with
  | ⟨0, _⟩ => show win0_1.index t 0 * 1 + 1 * 0 = 1; rw [hi.1]
  | ⟨1, _⟩ => show win0_1.index t 1 * 512 + 1 * r.val = 512 * t.val + r.val; rw [hi.2.1]; omega
  | ⟨2, _⟩ => show win0_1.index t 2 * 1024 + 1 * l.val = l.val; rw [hi.2.2]; omega

theorem blk2 (t : Fin cfg0.N) (r : Fin 512) (l : Fin 1024) :
    (iblk m d 2 t : Vec 𝕀 S1x512x1024 .bf16) (ix3 0 r l) = gates m d 2 (512 * t.val + r.val) l := by
  have hi := (by decide +kernel : ∀ t : Fin grid0.N, win0_2.index t 0 = 2 ∧ win0_2.index t 1 = t.val ∧ win0_2.index t 2 = 0) t
  have h8 : t.val < 8 := t.isLt
  unfold gates
  rw [← rows_of_lt _ _ _ (by omega)]
  unfold iblk
  rw [View.read_apply]
  show V m d main_arg1 _ = m (d.tc.loc main_arg1) _
  rw [V_main_arg1]
  congr 1
  refine funext fun a => Fin.ext ?_
  match a with
  | ⟨0, _⟩ => show win0_2.index t 0 * 1 + 1 * 0 = 2; rw [hi.1]
  | ⟨1, _⟩ => show win0_2.index t 1 * 512 + 1 * r.val = 512 * t.val + r.val; rw [hi.2.1]; omega
  | ⟨2, _⟩ => show win0_2.index t 2 * 1024 + 1 * l.val = l.val; rw [hi.2.2]; omega

theorem blk3 (t : Fin cfg0.N) (r : Fin 8) (l : Fin 1024) :
    (iblk m d 3 t : Vec 𝕀 S1x8x1024 .bf16) (ix3 0 r l) = gates m d 1 (8 * (64 * t.val - 1) + r.val) l := by
  have hi := (by decide +kernel : ∀ t : Fin grid0.N, win0_3.index t 0 = 1 ∧ win0_3.index t 1 = 64 * t.val - 1 ∧ win0_3.index t 2 = 0) t
  have h8 : t.val < 8 := t.isLt
  unfold gates
  rw [← rows_of_lt _ _ _ (by omega)]
  unfold iblk
  rw [View.read_apply]
  show V m d main_arg1 _ = m (d.tc.loc main_arg1) _
  rw [V_main_arg1]
  congr 1
  refine funext fun a => Fin.ext ?_
  match a with
  | ⟨0, _⟩ => show win0_3.index t 0 * 1 + 1 * 0 = 1; rw [hi.1]
  | ⟨1, _⟩ => show win0_3.index t 1 * 8 + 1 * r.val = 8 * (64 * t.val - 1) + r.val; rw [hi.2.1]; omega
  | ⟨2, _⟩ => show win0_3.index t 2 * 1024 + 1 * l.val = l.val; rw [hi.2.2]; omega

theorem blk4 (t : Fin cfg0.N) (r : Fin 8) (l : Fin 1024) :
    (iblk m d 4 t : Vec 𝕀 S1x8x1024 .bf16) (ix3 0 r l) = gates m d 2 (8 * (64 * t.val - 1) + r.val) l := by
  have hi := (by decide +kernel : ∀ t : Fin grid0.N, win0_4.index t 0 = 2 ∧ win0_4.index t 1 = 64 * t.val - 1 ∧ win0_4.index t 2 = 0) t
  have h8 : t.val < 8 := t.isLt
  unfold gates
  rw [← rows_of_lt _ _ _ (by omega)]
  unfold iblk
  rw [View.read_apply]
  show V m d main_arg1 _ = m (d.tc.loc main_arg1) _
  rw [V_main_arg1]
  congr 1
  refine funext fun a => Fin.ext ?_
  match a with
  | ⟨0, _⟩ => show win0_4.index t 0 * 1 + 1 * 0 = 2; rw [hi.1]
  | ⟨1, _⟩ => show win0_4.index t 1 * 8 + 1 * r.val = 8 * (64 * t.val - 1) + r.val; rw [hi.2.1]; omega
  | ⟨2, _⟩ => show win0_4.index t 2 * 1024 + 1 * l.val = l.val; rw [hi.2.2]; omega

theorem blk5 (t : Fin cfg0.N) (q : Fin 3) (l : Fin 1024) :
    (iblk m d 5 t : Vec 𝕀 S3x1024 .f32) (ix2 q l) = (V m d main_arg2 : Vec 𝕀 S3x1024 .f32) (ix2 q l) := by
  have hi := (by decide +kernel : ∀ t : Fin grid0.N, win0_5.index t 0 = 0 ∧ win0_5.index t 1 = 0) t
  unfold iblk
  rw [View.read_apply]
  refine congrArg (V m d main_arg2 : Vec 𝕀 S3x1024 .f32) (funext fun a => Fin.ext ?_)
  match a with
  | ⟨0, _⟩ => show win0_5.index t 0 * 3 + 1 * q.val = q.val; rw [hi.1]; omega
  | ⟨1, _⟩ => show win0_5.index t 1 * 1024 + 1 * l.val = l.val; rw [hi.2]; omega

theorem blk6 (t : Fin cfg0.N) (p : Fin 8) (q : Fin 1) (k : Fin 128) (l : Fin 1024) :
    (iblk m d 6 t : Vec 𝕀 S8x1x128x1024 .bf16) (ix4 p q k l) = (V m d main_v1 : Vec 𝕀 S8x1x128x1024 .bf16) (ix4 p q k l) := by
  have hi := (by decide +kernel : ∀ t : Fin grid0.N, win0_6.index t 0 = 0 ∧ win0_6.index t 1 = 0 ∧ win0_6.index t 2 = 0 ∧ win0_6.index t 3 = 0) t
  unfold iblk
  rw [View.read_apply]
  refine congrArg (V m d main_v1 : Vec 𝕀 S8x1x128x1024 .bf16) (funext fun a => Fin.ext ?_)
  match a with
  | ⟨0, _⟩ => show win0_6.index t 0 * 8 + 1 * p.val = p.val; rw [hi.1]; omega
  | ⟨1, _⟩ => show win0_6.index t 1 * 1 + 1 * q.val = q.val; rw [hi.2.1]; omega
  | ⟨2, _⟩ => show win0_6.index t 2 * 128 + 1 * k.val = k.val; rw [hi.2.2.1]; omega
  | ⟨3, _⟩ => show win0_6.index t 3 * 1024 + 1 * l.val = l.val; rw [hi.2.2.2]; omega

theorem blk7 (t : Fin cfg0.N) (r : Fin 512) (l : Fin 1024) :
    (iblk m d 7 t : Vec 𝕀 S512x1024 .f32) (ix2 r l) = (V m d main_arg0 : Vec 𝕀 S4096x1024 .f32) (ix2 (row t r) l) := by
  have hi := (by decide +kernel : ∀ t : Fin grid0.N, win0_7.index t 0 = t.val ∧ win0_7.index t 1 = 0) t
  unfold iblk
  rw [View.read_apply]
  refine congrArg (V m d main_arg0 : Vec 𝕀 S4096x1024 .f32) (funext fun a => Fin.ext ?_)
  match a with
  | ⟨0, _⟩ => show win0_7.index t 0 * 512 + 1 * r.val = 512 * t.val + r.val; rw [hi.1]; omega
  | ⟨1, _⟩ => show win0_7.index t 1 * 1024 + 1 * l.val = l.val; rw [hi.2]; omega

theorem blk8 (t : Fin cfg0.N) (q : Fin 1) (l : Fin 1024) :
    (iblk m d 8 t : Vec 𝕀 S1x1024 .f32) (ix2 q l) = (V m d main_v2 : Vec 𝕀 S1x1024 .f32) (ix2 q l) := by
  have hi := (by decide +kernel : ∀ t : Fin grid0.N, win0_8.index t 0 = 0 ∧ win0_8.index t 1 = 0) t
  unfold iblk
  rw [View.read_apply]
  refine congrArg (V m d main_v2 : Vec 𝕀 S1x1024 .f32) (funext fun a => Fin.ext ?_)
  match a with
  | ⟨0, _⟩ => show win0_8.index t 0 * 1 + 1 * q.val = q.val; rw [hi.1]; omega
  | ⟨1, _⟩ => show win0_8.index t 1 * 1024 + 1 * l.val = l.val; rw [hi.2]; omega

/-- The gated convolution. -/
def z (_ : Fin 1) (n : Fin 4096) (k : Fin 1024) : EReal :=
  gates m d 0 n.val k * conv (gates m d 1) (gates m d 2) (taps m d) n.val k

/-- The output product. -/
def h (n : Fin 4096) (l : Fin 1024) : EReal := ∑ k : Fin 1024, z m d 0 n k * w m d k l

/-- The layer's output: its input and the normed product. -/
def y (n : Fin 4096) (l : Fin 1024) : EReal := x m d n l + normed (h m d n) (g m d) l

theorem taps_eq (t : Fin cfg0.N) (j : Fin 3) (l : Fin 1024) : (iblk m d 5 t : Vec 𝕀 S3x1024 .f32) (ix2 j l) = taps m d j l :=
  (blk5 m d t j l).trans (V5 m d j l)

theorem w_eq (t : Fin cfg0.N) (k : Fin 1024) (l : Fin 1024) :
    (iblk m d 6 t : Vec 𝕀 S8x1x128x1024 .bf16) (ix4 ⟨k.val / 128, by omega⟩ 0 ⟨k.val % 128, by omega⟩ l) = w m d k l := by
  refine (blk6 m d t _ 0 _ l).trans ((V6 m d _ _ l).trans ?_)
  congr 1
  apply Fin.ext
  show k.val / 128 * 128 + k.val % 128 = k.val
  omega

theorem h_eq (t : Fin cfg0.N) (r : Fin 512) (l : Fin 1024) :
    k0_pay10 (k0_pay2 (iblk m d 1 t) (iblk m d 2 t)) (k0_pay3 (grid0.coords t) (iblk m d 3 t) (iblk m d 4 t)) (iblk m d 5 t) (k0_pay4 (iblk m d 1 t) (iblk m d 2 t) (iblk m d 5 t)) (k0_pay5 (iblk m d 5 t)) (k0_pay6 (iblk m d 1 t) (iblk m d 2 t)) (iota .tc S512x1024 32 [0] iota_S512x1024_d0_w32) k0_pay7 (iblk m d 0 t) (iblk m d 6 t) (ix2 r l) = h m d (row t r) l := by
  refine (prod_apply _ _ _ _ t _ _ _ _ _ (blk0 m d t) (blk1 m d t) (blk2 m d t) (taps_eq m d t)
    (halo_apply _ _ t _ _ (blk3 m d t) (blk4 m d t)) _ r l).trans ?_
  exact Finset.sum_congr rfl fun k _ => congrArg (z m d 0 (row t r) k * ·) (w_eq m d t k l)

theorem out9_apply (t : Fin cfg0.N) (q : Fin 1) (r : Fin 512) (k : Fin 1024) :
    out0_9 (grid0.coords t) (iblk m d 0 t) (iblk m d 1 t) (iblk m d 2 t) (iblk m d 3 t) (iblk m d 4 t) (iblk m d 5 t) (iblk m d 6 t) (iblk m d 7 t) (iblk m d 8 t) (ix3 q r k) = z m d 0 (row t r) k := by
  unfold out0_9 k0_pay17 k0_pay16 k0_pay15 k0_pay14 k0_pay13 k0_pay12 k0_pay11
  rw [View.canon_unit_zero (S := S1x512x1024) hz3]
  simp only [View.ld_unit_zero (S := S1x512x1024) hz3, View.ld_unit_zero (S := S1x8x1024) hz3, View.ld_unit_zero (S := S3x1024) hz2]
  exact z3_apply _ _ _ _ t _ _ _ _ _ (blk0 m d t) (blk1 m d t) (blk2 m d t) (taps_eq m d t)
    (halo_apply _ _ t _ _ (blk3 m d t) (blk4 m d t)) q r k

theorem out10_apply (t : Fin cfg0.N) (r : Fin 512) (l : Fin 1024) :
    out0_10 (grid0.coords t) (iblk m d 0 t) (iblk m d 1 t) (iblk m d 2 t) (iblk m d 3 t) (iblk m d 4 t) (iblk m d 5 t) (iblk m d 6 t) (iblk m d 7 t) (iblk m d 8 t) (ix2 r l) = h m d (row t r) l := by
  unfold out0_10 k0_pay17 k0_pay16 k0_pay15 k0_pay14 k0_pay13 k0_pay12 k0_pay11
  rw [View.canon_unit_zero (S := S512x1024) hz2]
  simp only [View.ld_unit_zero (S := S1x512x1024) hz3, View.ld_unit_zero (S := S1x8x1024) hz3, View.ld_unit_zero (S := S3x1024) hz2,
    View.ld_unit_zero (S := S8x1x128x1024) hz4]
  exact h_eq m d t r l

theorem out11_apply (t : Fin cfg0.N) (r : Fin 512) (l : Fin 1024) :
    out0_11 (grid0.coords t) (iblk m d 0 t) (iblk m d 1 t) (iblk m d 2 t) (iblk m d 3 t) (iblk m d 4 t) (iblk m d 5 t) (iblk m d 6 t) (iblk m d 7 t) (iblk m d 8 t) (ix2 r l) = y m d (row t r) l := by
  unfold out0_11 k0_pay17 k0_pay16 k0_pay15 k0_pay14 k0_pay13 k0_pay12 k0_pay11
  rw [View.canon_unit_zero (S := S512x1024) hz2]
  simp only [View.ld_unit_zero (S := S1x512x1024) hz3, View.ld_unit_zero (S := S1x8x1024) hz3, View.ld_unit_zero (S := S3x1024) hz2,
    View.ld_unit_zero (S := S8x1x128x1024) hz4, View.ld_unit_zero (S := S512x1024) hz2, View.ld_unit_zero (S := S1x1024) hz2]
  refine (step_apply _ _ _ r l).trans ?_
  refine congrArg₂ (· + · : EReal → EReal → EReal) ((blk7 m d t r l).trans (V7 m d _ l)) ?_
  exact congrArg₂ (normed · · l) (funext fun l => h_eq m d t r l) (funext fun l => (blk8 m d t 0 l).trans (V8 m d l))

/-- The gated convolution after the run. -/
theorem arr9 : (dats m 0 d).arrAt 9 cfg0.N = fun i : S1x4096x1024.Idx => z m d (i 0) (i 1) (i 2) := by
  have hi : ∀ t : Fin cfg0.N, win0_9.index t 0 = 0 ∧ win0_9.index t 1 = t.val ∧ win0_9.index t 2 = 0 :=
    (by decide +kernel : ∀ t : Fin grid0.N, win0_9.index t 0 = 0 ∧ win0_9.index t 1 = t.val ∧ win0_9.index t 2 = 0)
  refine (dats m 0 d).arrAt_eq_of_cover 9 _ ?_ ?_
  · intro t ht
    rw [Value.flushed9]
    funext y
    rw [View.read_apply]
    change S1x512x1024.Idx at y
    obtain ⟨q, r, k, rfl⟩ := split3 y
    have a0 : (((cfg0.win 9).blk t).view.emb (ix3 q r k) : S1x4096x1024.Idx) 0 = q :=
      Fin.ext (by show win0_9.index t 0 * 1 + 1 * q.val = q.val; rw [(hi t).1]; omega)
    have a1 : (((cfg0.win 9).blk t).view.emb (ix3 q r k) : S1x4096x1024.Idx) 1 = row t r :=
      Fin.ext (by show win0_9.index t 1 * 512 + 1 * r.val = 512 * t.val + r.val; rw [(hi t).2.1]; omega)
    have a2 : (((cfg0.win 9).blk t).view.emb (ix3 q r k) : S1x4096x1024.Idx) 2 = k :=
      Fin.ext (by show win0_9.index t 2 * 1024 + 1 * k.val = k.val; rw [(hi t).2.2]; omega)
    show _ = z m d 0 _ _
    rw [a1, a2]
    exact out9_apply m d t q r k
  · exact (by decide +kernel : (cfg0.win 9).Covers).cover _ (Memref.isWhole_whole _)

/-- The product after the run. -/
theorem arr10 : (dats m 0 d).arrAt 10 cfg0.N = fun i : S4096x1024.Idx => h m d (i 0) (i 1) := by
  have hi : ∀ t : Fin cfg0.N, win0_10.index t 0 = t.val ∧ win0_10.index t 1 = 0 :=
    (by decide +kernel : ∀ t : Fin grid0.N, win0_10.index t 0 = t.val ∧ win0_10.index t 1 = 0)
  refine (dats m 0 d).arrAt_eq_of_cover 10 _ ?_ ?_
  · intro t ht
    rw [Value.flushed10]
    funext y
    rw [View.read_apply]
    change S512x1024.Idx at y
    obtain ⟨r, l, rfl⟩ := split2 y
    have a0 : (((cfg0.win 10).blk t).view.emb (ix2 r l) : S4096x1024.Idx) 0 = row t r :=
      Fin.ext (by show win0_10.index t 0 * 512 + 1 * r.val = 512 * t.val + r.val; rw [(hi t).1]; omega)
    have a1 : (((cfg0.win 10).blk t).view.emb (ix2 r l) : S4096x1024.Idx) 1 = l :=
      Fin.ext (by show win0_10.index t 1 * 1024 + 1 * l.val = l.val; rw [(hi t).2]; omega)
    show _ = h m d _ _
    rw [a0, a1]
    exact out10_apply m d t r l
  · exact (by decide +kernel : (cfg0.win 10).Covers).cover _ (Memref.isWhole_whole _)

/-- The layer's output after the run. -/
theorem arr11 : (dats m 0 d).arrAt 11 cfg0.N = fun i : S4096x1024.Idx => y m d (i 0) (i 1) := by
  have hi : ∀ t : Fin cfg0.N, win0_11.index t 0 = t.val ∧ win0_11.index t 1 = 0 :=
    (by decide +kernel : ∀ t : Fin grid0.N, win0_11.index t 0 = t.val ∧ win0_11.index t 1 = 0)
  refine (dats m 0 d).arrAt_eq_of_cover 11 _ ?_ ?_
  · intro t ht
    rw [Value.flushed11]
    funext y
    rw [View.read_apply]
    change S512x1024.Idx at y
    obtain ⟨r, l, rfl⟩ := split2 y
    have a0 : (((cfg0.win 11).blk t).view.emb (ix2 r l) : S4096x1024.Idx) 0 = row t r :=
      Fin.ext (by show win0_11.index t 0 * 512 + 1 * r.val = 512 * t.val + r.val; rw [(hi t).1]; omega)
    have a1 : (((cfg0.win 11).blk t).view.emb (ix2 r l) : S4096x1024.Idx) 1 = l :=
      Fin.ext (by show win0_11.index t 1 * 1024 + 1 * l.val = l.val; rw [(hi t).2]; omega)
    show _ = y m d _ _
    rw [a0, a1]
    exact out11_apply m d t r l
  · exact (by decide +kernel : (cfg0.win 11).Covers).cover _ (Memref.isWhole_whole _)

end
end Cert.ConvOutKernelIdeal.Blocks
end
-- ==== Proof.ConvOutReference.lean ====
/- What the reference of the short convolution, its output product and the norm after it computes, entry by entry. -/
module

public import proofs.«01_k».proof.Proof.Gen.ConvOutReferenceIdeal.Read
public import proofs.«01_k».proof.Proof.FfnMath

@[expose] public section

noncomputable section

namespace Cert.ConvOutReferenceIdeal.Rows

open Cert.ShortConv Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S3x4096x1024.Idx → EReal) (x2 : S3x1024.Idx → EReal) (x3 : S1024.Idx → EReal)
  (x4 : S1024x1024.Idx → EReal)

theorem piece_apply (p : Fin 3) (b : Fin 2) (s : Fin 2048) (l : Fin 1024) :
    val_main_v1 (F := 𝕀) x1 (ix4 p b s l) = rows x1 p (2048 * b.val + s.val) l := by
  rw [← rows_of_lt x1 p _ (by omega), val_main_v1_apply, val_main_v0_apply]
  refine congrArg x1 ?_
  funext a; apply Fin.ext
  match a with
  | ⟨0, _⟩ => show (((p.val * 2 + b.val) * 2048 + s.val) * 1024 + l.val) / 4194304 = p.val; omega
  | ⟨1, _⟩ => show (((p.val * 2 + b.val) * 2048 + s.val) * 1024 + l.val) / 1024 % 4096 = 2048 * b.val + s.val; omega
  | ⟨2, _⟩ => show (((p.val * 2 + b.val) * 2048 + s.val) * 1024 + l.val) % 1024 = l.val; omega

theorem b_apply (b : Fin 2) (s : Fin 2048) (l : Fin 1024) :
    val_main_v3 (F := 𝕀) x1 (ix3 b s l) = rows x1 0 (2048 * b.val + s.val) l := by
  rw [← piece_apply]; unfold val_main_v3 val_main_v2; pointwise

theorem inp_apply (b : Fin 2) (s : Fin 2048) (l : Fin 1024) :
    val_main_v8 (F := 𝕀) x1 (ix3 b s l) = inp (rows x1 1) (rows x1 2) (2048 * b.val + s.val) l := by
  unfold inp; rw [← piece_apply, ← piece_apply]
  unfold val_main_v8 val_main_v7 val_main_v6 val_main_v5 val_main_v4; pointwise

theorem back2_apply (b : Fin 2) (s : Fin 2048) (l : Fin 1024) :
    val_main_v14 (F := 𝕀) x1 (ix3 b s l) = back 2 (inp (rows x1 1) (rows x1 2)) (2048 * b.val + s.val) l := by
  have u := inp_apply x1
  unfold val_main_v14 val_main_v13 val_main_v12 val_main_cst
  generalize val_main_v8 (F := 𝕀) x1 = U at u
  pointwise
  unfold back
  by_cases h : s.val < 2
  · rw [dif_pos h, if_neg (by omega)]
  · rw [dif_neg h]
    refine (u b ⟨s.val - 2, by omega⟩ l).trans ?_
    rw [if_pos (by omega)]
    have q : 2048 * b.val + (s.val - 2) = 2048 * b.val + s.val - 2 := by omega
    exact congrArg (inp (rows x1 1) (rows x1 2) · l) q

theorem back1_apply (b : Fin 2) (s : Fin 2048) (l : Fin 1024) :
    val_main_v25 (F := 𝕀) x1 (ix3 b s l) = back 1 (inp (rows x1 1) (rows x1 2)) (2048 * b.val + s.val) l := by
  have u := inp_apply x1
  unfold val_main_v25 val_main_v24 val_main_v23 val_main_cst_1
  generalize val_main_v8 (F := 𝕀) x1 = U at u
  pointwise
  unfold back
  by_cases h : s.val < 1
  · rw [dif_pos h, if_neg (by omega)]
  · rw [dif_neg h]
    refine (u b ⟨s.val - 1, by omega⟩ l).trans ?_
    rw [if_pos (by omega)]
    have q : 2048 * b.val + (s.val - 1) = 2048 * b.val + s.val - 1 := by omega
    exact congrArg (inp (rows x1 1) (rows x1 2) · l) q

/-- The taps, lane by lane. -/
abbrev taps (p : Fin 3) (l : Fin 1024) : EReal := x2 (ix2 p l)

/-- The gated convolution. -/
def z (n : Nat) (k : Fin 1024) : EReal := rows x1 0 n k * conv (rows x1 1) (rows x1 2) (taps x2) n k

theorem gated_apply (b : Fin 2) (s : Fin 2048) (l : Fin 1024) :
    val_main_v36 (F := 𝕀) x1 x2 (ix3 b s l) = z x1 x2 (2048 * b.val + s.val) l := by
  have e := inp_apply x1
  have e2 := back2_apply x1
  have e1 := back1_apply x1
  have eb := b_apply x1
  unfold z conv taps
  unfold val_main_v36 val_main_v35 val_main_v34 val_main_v33 val_main_v32 val_main_v31 val_main_v30 val_main_v29 val_main_v28
    val_main_v27 val_main_v26 val_main_v21 val_main_v20 val_main_v19 val_main_v18 val_main_v17 val_main_v16 val_main_v15
    val_main_v10 val_main_v9 val_main_cst_0
  generalize val_main_v14 (F := 𝕀) x1 = U2 at e2
  generalize val_main_v25 (F := 𝕀) x1 = U1 at e1
  generalize val_main_v8 (F := 𝕀) x1 = U at e
  generalize val_main_v3 (F := 𝕀) x1 = B at eb
  pointwise
  rw [e, e1, e2, eb]
  refine congrArg (rows x1 0 (2048 * b.val + s.val) l * ·) ?_
  rw [add_comm (x2 (ix2 0 l) * _), add_comm, add_assoc]

theorem row_apply (n : Fin 4096) (l : Fin 1024) : val_main_v37 (F := 𝕀) x1 x2 (ix2 n l) = z x1 x2 n.val l := by
  have e := gated_apply x1 x2
  unfold val_main_v37
  generalize val_main_v36 (F := 𝕀) x1 x2 = G at e
  pointwise
  refine (e _ _ _).trans ?_
  refine congrArg (z x1 x2 · l) ?_
  show 2048 * (n.val / 2048) + n.val % 2048 = n.val
  omega

theorem z_result (q : Fin 1) (n : Fin 4096) (k : Fin 1024) : val_main_v40 (F := 𝕀) x1 x2 (ix3 q n k) = z x1 x2 n.val k := by
  have e := row_apply x1 x2
  unfold val_main_v40 val_main_v39
  generalize val_main_v37 (F := 𝕀) x1 x2 = G at e
  pointwise
  rw [e]

/-- The product with the weights. -/
def h (n : Fin 4096) (l : Fin 1024) : EReal := ∑ k : Fin 1024, z x1 x2 n.val k * x4 (ix2 k l)

theorem h_apply (n : Fin 4096) (l : Fin 1024) : val_main_v38 (F := 𝕀) x1 x2 x4 (ix2 n l) = h x1 x2 x4 n l := by
  have e := row_apply x1 x2
  unfold val_main_v38 h
  generalize val_main_v37 (F := 𝕀) x1 x2 = G at e
  pointwise
  simp only [e]

/-- The layer's output. -/
theorem y_apply (n : Fin 4096) (l : Fin 1024) :
    val_main_v54 (F := 𝕀) x0 x1 x2 x3 x4 (ix2 n l) = x0 (ix2 n l) + normed (h x1 x2 x4 n) (fun l => x3 (ix1 l)) l := by
  have e := h_apply x1 x2 x4
  unfold val_main_v54 val_main_v53 val_main_v52 val_main_v51 val_main_v50 val_main_v49 val_main_v48 val_main_v47 val_main_v46
    val_main_v45 val_main_v44 val_main_v43 val_main_v42 val_main_v41 val_main_cst_2 val_main_cst_3 val_main_cst_4
  generalize val_main_v38 (F := 𝕀) x1 x2 x4 = G at e
  pointwise
  simp only [e]
  rfl

end
end Cert.ConvOutReferenceIdeal.Rows
end
-- ==== Proof.LossOutArrays.lean ====
/- The last feed-forward layer's gated unit, its output product, and the loss and its gradient, as the kernel computes them:
   the loss is accumulated over the tiles of rows. -/
module

public import proofs.«01_k».proof.Proof.Gen.LossOutKernelIdeal.Value
public import proofs.«01_k».proof.Proof.NormMath

@[expose] public section

noncomputable section

namespace Cert.LossOutKernelIdeal.Blocks

open Gen Cert.Ffn Cert.ShortConv Idealize.ShloMosaic Idealize.ShloMosaic.TcCoe
  Idealize.SL.Sem

set_option maxRecDepth 65536

local notation "𝕀" => Idealize.ShloMosaic.Ideal

/-- The row of the array that row `r` of the tile of point `t` is. -/
def row (t : Fin cfg0.N) (r : Fin 512) : Fin 4096 := ⟨512 * t.val + r.val, by have h : t.val < 8 := t.isLt; omega⟩

/-- One half, as the programs write it. -/
abbrev half : EReal := Ideal.ofBits FTy.f32 0x3F000000#32

theorem half_eq : half = ((1 / 2 : ℝ) : EReal) := by
  simp [half, Ideal.ofBits, Ideal.ieee, -EReal.coe_mul]; norm_num

/-- The mean of the squares of a row of errors. -/
def rowLoss (e : Fin 1024 → EReal) : EReal := Ideal.div (∑ l, e l * e l) (Ideal.ofBits FTy.f32 0x44800000#32)

section
variable (v0 v3 : Vec 𝕀 S1x512x2816 .bf16) (v13 : Vec 𝕀 S8x1x352x1024 .bf16) (v19 : Vec 𝕀 S1x1024 .f32)
  (v18 v32 v36 : Vec 𝕀 S512x1024 .f32) (v58 : Vec 𝕀 S1x128 .f32)

/-- The gated unit of a row. -/
theorem gated_apply (r : Fin 512) (k : Fin 2816) :
    k0_pay5 v0 v3 (ix2 r k) = gated (v0 (ix3 0 r k)) (v3 (ix3 0 r k)) := by
  unfold_payloads; pointwise; rfl

theorem gated3_apply (q : Fin 1) (r : Fin 512) (k : Fin 2816) :
    k0_pay6 v0 v3 (ix3 q r k) = gated (v0 (ix3 0 r k)) (v3 (ix3 0 r k)) := by
  unfold_payloads; pointwise; rfl

/-- The product of a row with the weights. -/
theorem prod_apply (r : Fin 512) (l : Fin 1024) :
    k0_pay7 v0 v3 v13 (ix2 r l)
      = ∑ k : Fin 2816, gated (v0 (ix3 0 r k)) (v3 (ix3 0 r k))
          * v13 (ix4 ⟨k.val / 352, by omega⟩ 0 ⟨k.val % 352, by omega⟩ l) := by
  have e := gated_apply v0 v3
  unfold k0_pay7
  generalize k0_pay5 v0 v3 = G at e
  pointwise
  simp only [e]

theorem normed_apply (r : Fin 512) (l : Fin 1024) :
    k0_pay8 v0 v3 v13 v19 (ix2 r l) = normed (fun l => k0_pay7 v0 v3 v13 (ix2 r l)) (fun l => v19 (ix2 0 l)) l := by
  unfold k0_pay8
  generalize k0_pay7 v0 v3 v13 = G
  pointwise
  rfl

theorem err_apply (r : Fin 512) (l : Fin 1024) :
    k0_pay1 v18 v32 (Scalar.ofBits .f32 0x3F000000#32) v36 (ix2 r l) = v18 (ix2 r l) + half * v32 (ix2 r l) - v36 (ix2 r l) := by
  unfold k0_pay1; pointwise

theorem grad_apply (b : 𝕀 .f32) (r : Fin 512) (l : Fin 1024) :
    k0_pay2 v18 v32 b v36 (ix2 r l) = k0_pay1 v18 v32 b v36 (ix2 r l) * Ideal.ofBits FTy.f32 0x3A800000#32 := by
  unfold k0_pay2
  generalize k0_pay1 v18 v32 b v36 = G
  pointwise

theorem loss_apply (b : 𝕀 .f32) (q : Fin 1) (l : Fin 128) :
    k0_pay3 v18 v32 b v36 (ix2 q l) = half * ∑ r : Fin 512, rowLoss fun l => k0_pay1 v18 v32 b v36 (ix2 r l) := by
  unfold k0_pay3
  generalize k0_pay1 v18 v32 b v36 = G
  pointwise
  rfl

theorem acc_apply (b : 𝕀 .f32) (q : Fin 1) (l : Fin 128) :
    k0_pay4 v18 v32 b v36 v58 (ix2 q l) = v58 (ix2 q l) + k0_pay3 v18 v32 b v36 (ix2 q l) := by
  unfold k0_pay4
  generalize k0_pay3 v18 v32 b v36 = G
  pointwise

end

section
variable (m : (ℓ : Loc nD τ sig) → Buf (Elt 𝕀) ℓ) (d : Dev nD)

/-- The layer's input. -/
def x (n : Fin 4096) (l : Fin 1024) : EReal := (m (d.tc.loc main_arg0) : Vec 𝕀 S4096x1024 .f32) (ix2 n l)

/-- The gate's half of the input product, and the other. -/
def gu (p : Fin 2) (n : Fin 4096) (k : Fin 2816) : EReal := (m (d.tc.loc main_arg1) : Vec 𝕀 S2x4096x2816 .bf16) (ix3 p n k)

/-- The norm's scale. -/
def g (l : Fin 1024) : EReal := (m (d.tc.loc main_arg2) : Vec 𝕀 S1024 .f32) (ix1 l)

/-- The weights. -/
def w (k : Fin 2816) (l : Fin 1024) : EReal := (m (d.tc.loc main_arg3) : Vec 𝕀 S2816x1024 .f32) (ix2 k l)

/-- The target. -/
def target (n : Fin 4096) (l : Fin 1024) : EReal := (m (d.tc.loc main_arg4) : Vec 𝕀 S4096x1024 .f32) (ix2 n l)

theorem V0 (p : Fin 2) (n : Fin 4096) (k : Fin 2816) : (V m d main_arg1 : Vec 𝕀 S2x4096x2816 .bf16) (ix3 p n k) = gu m d p n k := by
  rw [V_main_arg1]; rfl

theorem V1 (a : Fin 8) (b : Fin 352) (l : Fin 1024) :
    (V m d main_v1 : Vec 𝕀 S8x1x352x1024 .bf16) (ix4 a 0 b l) = w m d ⟨a.val * 352 + b.val, by omega⟩ l := by
  entry_read
  pointwise
  rfl

theorem V2 (n : Fin 4096) (l : Fin 1024) : (V m d main_arg0 : Vec 𝕀 S4096x1024 .f32) (ix2 n l) = x m d n l := by
  rw [V_main_arg0]; rfl

theorem V3 (l : Fin 1024) : (V m d main_v2 : Vec 𝕀 S1x1024 .f32) (ix2 0 l) = g m d l := by
  entry_read; pointwise; rfl

theorem V4 (n : Fin 4096) (l : Fin 1024) : (V m d main_arg4 : Vec 𝕀 S4096x1024 .f32) (ix2 n l) = target m d n l := by
  rw [V_main_arg4]; rfl

theorem blk0 (t : Fin cfg0.N) (p : Fin 2) (r : Fin 512) (k : Fin 2816) :
    (iblk m d 0 t : Vec 𝕀 S2x512x2816 .bf16) (ix3 p r k) = (V m d main_arg1 : Vec 𝕀 S2x4096x2816 .bf16) (ix3 p (row t r) k) := by
  have hi := (by decide +kernel : ∀ t : Fin grid0.N, win0_0.index t 0 = 0 ∧ win0_0.index t 1 = t.val ∧ win0_0.index t 2 = 0) t
  unfold iblk
  rw [View.read_apply]
  refine congrArg (V m d main_arg1 : Vec 𝕀 S2x4096x2816 .bf16) (funext fun a => Fin.ext ?_)
  match a with
  | ⟨0, _⟩ => show win0_0.index t 0 * 2 + 1 * p.val = p.val; rw [hi.1]; omega
  | ⟨1, _⟩ => show win0_0.index t 1 * 512 + 1 * r.val = 512 * t.val + r.val; rw [hi.2.1]; omega
  | ⟨2, _⟩ => show win0_0.index t 2 * 2816 + 1 * k.val = k.val; rw [hi.2.2]; omega

theorem blk1 (t : Fin cfg0.N) (p : Fin 8) (q : Fin 1) (k : Fin 352) (l : Fin 1024) :
    (iblk m d 1 t : Vec 𝕀 S8x1x352x1024 .bf16) (ix4 p q k l) = (V m d main_v1 : Vec 𝕀 S8x1x352x1024 .bf16) (ix4 p q k l) := by
  have hi := (by decide +kernel : ∀ t : Fin grid0.N, win0_1.index t 0 = 0 ∧ win0_1.index t 1 = 0 ∧ win0_1.index t 2 = 0 ∧ win0_1.index t 3 = 0) t
  unfold iblk
  rw [View.read_apply]
  refine congrArg (V m d main_v1 : Vec 𝕀 S8x1x352x1024 .bf16) (funext fun a => Fin.ext ?_)
  match a with
  | ⟨0, _⟩ => show win0_1.index t 0 * 8 + 1 * p.val = p.val; rw [hi.1]; omega
  | ⟨1, _⟩ => show win0_1.index t 1 * 1 + 1 * q.val = q.val; rw [hi.2.1]; omega
  | ⟨2, _⟩ => show win0_1.index t 2 * 352 + 1 * k.val = k.val; rw [hi.2.2.1]; omega
  | ⟨3, _⟩ => show win0_1.index t 3 * 1024 + 1 * l.val = l.val; rw [hi.2.2.2]; omega

theorem blk2 (t : Fin cfg0.N) (r : Fin 512) (l : Fin 1024) :
    (iblk m d 2 t : Vec 𝕀 S512x1024 .f32) (ix2 r l) = (V m d main_arg0 : Vec 𝕀 S4096x1024 .f32) (ix2 (row t r) l) := by
  have hi := (by decide +kernel : ∀ t : Fin grid0.N, win0_2.index t 0 = t.val ∧ win0_2.index t 1 = 0) t
  unfold iblk
  rw [View.read_apply]
  refine congrArg (V m d main_arg0 : Vec 𝕀 S4096x1024 .f32) (funext fun a => Fin.ext ?_)
  match a with
  | ⟨0, _⟩ => show win0_2.index t 0 * 512 + 1 * r.val = 512 * t.val + r.val; rw [hi.1]; omega
  | ⟨1, _⟩ => show win0_2.index t 1 * 1024 + 1 * l.val = l.val; rw [hi.2]; omega

theorem blk3 (t : Fin cfg0.N) (q : Fin 1) (l : Fin 1024) :
    (iblk m d 3 t : Vec 𝕀 S1x1024 .f32) (ix2 q l) = (V m d main_v2 : Vec 𝕀 S1x1024 .f32) (ix2 q l) := by
  have hi := (by decide +kernel : ∀ t : Fin grid0.N, win0_3.index t 0 = 0 ∧ win0_3.index t 1 = 0) t
  unfold iblk
  rw [View.read_apply]
  refine congrArg (V m d main_v2 : Vec 𝕀 S1x1024 .f32) (funext fun a => Fin.ext ?_)
  match a with
  | ⟨0, _⟩ => show win0_3.index t 0 * 1 + 1 * q.val = q.val; rw [hi.1]; omega
  | ⟨1, _⟩ => show win0_3.index t 1 * 1024 + 1 * l.val = l.val; rw [hi.2]; omega

theorem blk4 (t : Fin cfg0.N) (r : Fin 512) (l : Fin 1024) :
    (iblk m d 4 t : Vec 𝕀 S512x1024 .f32) (ix2 r l) = (V m d main_arg4 : Vec 𝕀 S4096x1024 .f32) (ix2 (row t r) l) := by
  have hi := (by decide +kernel : ∀ t : Fin grid0.N, win0_4.index t 0 = t.val ∧ win0_4.index t 1 = 0) t
  unfold iblk
  rw [View.read_apply]
  refine congrArg (V m d main_arg4 : Vec 𝕀 S4096x1024 .f32) (funext fun a => Fin.ext ?_)
  match a with
  | ⟨0, _⟩ => show win0_4.index t 0 * 512 + 1 * r.val = 512 * t.val + r.val; rw [hi.1]; omega
  | ⟨1, _⟩ => show win0_4.index t 1 * 1024 + 1 * l.val = l.val; rw [hi.2]; omega

/-- The gated unit. -/
def act (_ : Fin 1) (n : Fin 4096) (k : Fin 2816) : EReal := gated (gu m d 0 n k) (gu m d 1 n k)

/-- The output product. -/
def h (n : Fin 4096) (l : Fin 1024) : EReal := ∑ k : Fin 2816, act m d 0 n k * w m d k l

/-- The error: the layer's output less the target. -/
def err (n : Fin 4096) (l : Fin 1024) : EReal := x m d n l + half * normed (h m d n) (g m d) l - target m d n l

/-- The gradient of the loss. -/
def grad (n : Fin 4096) (l : Fin 1024) : EReal := err m d n l * Ideal.ofBits FTy.f32 0x3A800000#32

/-- The loss, on every lane. -/
def loss (_ : Fin 1) (_ : Fin 128) : EReal := half * ∑ n : Fin 4096, rowLoss (err m d n)

/-- What row `n` gives the loss. -/
def term (n : Nat) : EReal := if hn : n < 4096 then rowLoss (err m d ⟨n, hn⟩) else 0

/-- What tile `t` adds to it. -/
def tile (t : Nat) : EReal := half * ∑ r : Fin 512, term m d (512 * t + r.val)

theorem term_row (t : Fin cfg0.N) (r : Fin 512) : term m d (512 * t.val + r.val) = rowLoss (err m d (row t r)) := by
  unfold term row
  rw [dif_pos]

theorem loss_eq : ∑ t : Fin 8, tile m d t.val = loss m d 0 0 := by
  unfold tile loss
  rw [half_eq, ← mul_sum' _ (by norm_num)]
  refine congrArg (((1 / 2 : ℝ) : EReal) * ·) ?_
  refine (sum_tiles 8 512 (fun n => term m d n)).symm.trans ?_
  exact Finset.sum_congr rfl fun n _ => dif_pos n.isLt

/-- The gate's half and the other, as a point loads them. -/
abbrev gA (t : Fin cfg0.N) : Vec 𝕀 S1x512x2816 .bf16 :=
  View.ld (iblk m d 0 t : Vec 𝕀 S2x512x2816 .bf16) (Rect.unit ![0, 0, 0] ![1, 512, 2816] inb_S2x512x2816_S1x512x2816_0_0_0)
abbrev gB (t : Fin cfg0.N) : Vec 𝕀 S1x512x2816 .bf16 :=
  View.ld (iblk m d 0 t : Vec 𝕀 S2x512x2816 .bf16) (Rect.unit ![1, 0, 0] ![1, 512, 2816] inb_S2x512x2816_S1x512x2816_1_0_0)

theorem part_eq (t : Fin cfg0.N) (p : Fin 2) (ib : ∀ a, ![p.val, 0, 0] a + ![1, 512, 2816] a ≤ S2x512x2816.size a)
    (r : Fin 512) (k : Fin 2816) :
    View.ld (iblk m d 0 t : Vec 𝕀 S2x512x2816 .bf16) (Rect.unit ![p.val, 0, 0] ![1, 512, 2816] ib) (ix3 0 r k)
      = gu m d p (row t r) k := by
  have e : (Rect.unit (s := S2x512x2816) ![p.val, 0, 0] ![1, 512, 2816] ib).emb (ix3 0 r k) = ix3 p r k := by
    funext a; apply Fin.ext
    match a with
    | ⟨0, _⟩ => show p.val + 1 * 0 = p.val; omega
    | ⟨1, _⟩ => show 0 + 1 * r.val = r.val; omega
    | ⟨2, _⟩ => show 0 + 1 * k.val = k.val; omega
  exact (congrArg (iblk m d 0 t : Vec 𝕀 S2x512x2816 .bf16) e).trans ((blk0 m d t p r k).trans (V0 m d p _ k))

theorem act_eq (t : Fin cfg0.N) (r : Fin 512) (k : Fin 2816) :
    gated (gA m d t (ix3 0 r k)) (gB m d t (ix3 0 r k)) = act m d 0 (row t r) k :=
  congrArg₂ gated (part_eq m d t 0 inb_S2x512x2816_S1x512x2816_0_0_0 r k) (part_eq m d t 1 inb_S2x512x2816_S1x512x2816_1_0_0 r k)

theorem w_eq (t : Fin cfg0.N) (k : Fin 2816) (l : Fin 1024) :
    (iblk m d 1 t : Vec 𝕀 S8x1x352x1024 .bf16) (ix4 ⟨k.val / 352, by omega⟩ 0 ⟨k.val % 352, by omega⟩ l) = w m d k l := by
  refine (blk1 m d t _ 0 _ l).trans ((V1 m d _ _ l).trans ?_)
  congr 1
  apply Fin.ext
  show k.val / 352 * 352 + k.val % 352 = k.val
  omega

theorem h_eq (t : Fin cfg0.N) (r : Fin 512) (l : Fin 1024) :
    k0_pay7 (gA m d t) (gB m d t) (iblk m d 1 t) (ix2 r l) = h m d (row t r) l := by
  refine (prod_apply _ _ _ r l).trans ?_
  exact Finset.sum_congr rfl fun k _ => congrArg₂ (· * · : EReal → EReal → EReal) (act_eq m d t r k) (w_eq m d t k l)

/-- The normed product, as a point computes it. -/
abbrev N (t : Fin cfg0.N) : FVec 𝕀 S512x1024 .f32 := k0_pay8 (gA m d t) (gB m d t) (iblk m d 1 t) (iblk m d 3 t)

theorem err_eq (t : Fin cfg0.N) (r : Fin 512) (l : Fin 1024) :
    k0_pay1 (iblk m d 2 t) (N m d t) (Scalar.ofBits .f32 0x3F000000#32) (iblk m d 4 t) (ix2 r l) = err m d (row t r) l := by
  refine (err_apply _ _ _ r l).trans ?_
  refine congrArg₂ (· - · : EReal → EReal → EReal) ?_ ((blk4 m d t r l).trans (V4 m d _ l))
  refine congrArg₂ (· + · : EReal → EReal → EReal) ((blk2 m d t r l).trans (V2 m d _ l)) ?_
  refine congrArg (half * ·) ((normed_apply _ _ _ _ r l).trans ?_)
  exact congrArg₂ (normed · · l) (funext fun l => h_eq m d t r l) (funext fun l => (blk3 m d t 0 l).trans (V3 m d l))

theorem tile_eq (t : Fin cfg0.N) (q : Fin 1) (l : Fin 128) :
    k0_pay3 (iblk m d 2 t) (N m d t) (Scalar.ofBits .f32 0x3F000000#32) (iblk m d 4 t) (ix2 q l) = tile m d t.val := by
  refine (loss_apply _ _ _ _ q l).trans (congrArg (half * ·) ?_)
  refine Finset.sum_congr rfl fun r _ => ?_
  rw [term_row]
  exact congrArg rowLoss (funext fun l => err_eq m d t r l)

/-- The blocks a point stores: of the gated unit, of the product and of the gradient. -/
def ablock (t : Fin cfg0.N) : Vec 𝕀 S1x512x2816 .bf16 := fun i => act m d 0 (row t (i 1)) (i 2)
def hblock (t : Fin cfg0.N) : Vec 𝕀 S512x1024 .f32 := fun i => h m d (row t (i 0)) (i 1)
def gblock (t : Fin cfg0.N) : Vec 𝕀 S512x1024 .f32 := fun i => grad m d (row t (i 0)) (i 1)

theorem ablock_eq (t : Fin cfg0.N) : k0_pay6 (gA m d t) (gB m d t) = ablock m d t := by
  funext y
  obtain ⟨q, r, k, rfl⟩ := split3 y
  exact (gated3_apply _ _ q r k).trans (act_eq m d t r k)

theorem hblock_eq (t : Fin cfg0.N) : k0_pay7 (gA m d t) (gB m d t) (iblk m d 1 t) = hblock m d t := by
  funext y
  obtain ⟨r, l, rfl⟩ := split2 y
  exact h_eq m d t r l

theorem gblock_eq (t : Fin cfg0.N) :
    k0_pay2 (iblk m d 2 t) (N m d t) (Scalar.ofBits .f32 0x3F000000#32) (iblk m d 4 t) = gblock m d t := by
  funext y
  obtain ⟨r, l, rfl⟩ := split2 y
  exact (grad_apply _ _ _ _ r l).trans (congrArg (· * Ideal.ofBits FTy.f32 0x3A800000#32) (err_eq m d t r l))

/-- The first point: its blocks, and the first tile's share of the loss. -/
theorem outs_A (t : Fin cfg0.N) (h0 : t.val % 8 = 0) (h1 : ¬1 ≤ t.val) :
    (outsAt0 m d t.val t.isLt).1 = ablock m d t
    ∧ (outsAt0 m d t.val t.isLt).2.1 = hblock m d t
    ∧ (outsAt0 m d t.val t.isLt).2.2.1 = gblock m d t
    ∧ ∀ l, (outsAt0 m d t.val t.isLt).2.2.2 (ix2 0 l) = tile m d t.val := by
  rw [outsAt0_A m d t h0 h1]
  refine ⟨?_, ?_, ?_, ?_⟩
  · unfold out0_A_5
    dsimp only
    rw [View.read_writes_eq_canon _ _ _ (fun _ => cover0_A_5 ..)]
    unfold kernelRun0_A
    dsimp only
    sl_unfold_words
    simp only [View.readAt_eq_ld, (hs0_0 t).read_unread,
      View.canon_unit_zero (S := S1x512x2816) hz3]
    exact ablock_eq m d t
  · unfold out0_A_6
    dsimp only
    rw [View.read_writes_eq_canon _ _ _ (fun _ => cover0_A_6 ..)]
    unfold kernelRun0_A
    dsimp only
    sl_unfold_words
    simp only [View.readAt_eq_ld, (hs0_0 t).read_unread, (hs0_1 t).read_unread, View.ld_unit_zero (S := S8x1x352x1024) hz4,
      View.canon_unit_zero (S := S512x1024) hz2]
    exact hblock_eq m d t
  · unfold out0_A_7
    dsimp only
    rw [View.read_writes_eq_canon _ _ _ (fun _ => cover0_A_7 ..)]
    unfold kernelRun0_A
    dsimp only
    sl_unfold_words
    simp only [View.readAt_eq_ld, (hs0_0 t).read_unread, (hs0_1 t).read_unread, (hs0_2 t).read_unread, (hs0_3 t).read_unread, (hs0_4 t).read_unread, View.ld_unit_zero (S := S512x1024) hz2,
      View.ld_unit_zero (S := S1x1024) hz2, View.ld_unit_zero (S := S8x1x352x1024) hz4,
      View.canon_unit_zero (S := S512x1024) hz2]
    exact gblock_eq m d t
  · intro l
    unfold out0_A_8
    dsimp only
    rw [View.read_writes_eq_canon _ _ _ (fun _ => cover0_A_8 ..)]
    unfold kernelRun0_A
    dsimp only
    sl_unfold_words
    simp only [View.readAt_eq_ld, (hs0_0 t).read_unread, (hs0_1 t).read_unread, (hs0_2 t).read_unread, (hs0_3 t).read_unread, (hs0_4 t).read_unread, View.ld_unit_zero (S := S512x1024) hz2,
      View.ld_unit_zero (S := S1x1024) hz2, View.ld_unit_zero (S := S8x1x352x1024) hz4,
      View.canon_unit_zero (S := S1x128) hz2]
    exact tile_eq m d t 0 l

/-- A later point: its blocks, and its tile's share added to what the point before left. -/
theorem outs_B (t : Fin cfg0.N) (h0 : ¬t.val % 8 = 0) (h1 : 1 ≤ t.val) :
    (outsAt0 m d t.val t.isLt).1 = ablock m d t
    ∧ (outsAt0 m d t.val t.isLt).2.1 = hblock m d t
    ∧ (outsAt0 m d t.val t.isLt).2.2.1 = gblock m d t
    ∧ ∀ l, (outsAt0 m d t.val t.isLt).2.2.2 (ix2 0 l)
        = (outsAt0 m d (t.val - 1) (Nat.lt_of_le_of_lt (Nat.sub_le _ _) t.isLt)).2.2.2 (ix2 0 l) + tile m d t.val := by
  rw [outsAt0_B m d t h0 h1]
  refine ⟨?_, ?_, ?_, ?_⟩
  · unfold out0_B_5
    dsimp only
    rw [View.read_writes_eq_canon _ _ _ (fun _ => cover0_B_5 ..)]
    unfold kernelRun0_B
    dsimp only
    sl_unfold_words
    simp only [View.readAt_eq_ld, (hs0_0 t).read_unread,
      View.canon_unit_zero (S := S1x512x2816) hz3]
    exact ablock_eq m d t
  · unfold out0_B_6
    dsimp only
    rw [View.read_writes_eq_canon _ _ _ (fun _ => cover0_B_6 ..)]
    unfold kernelRun0_B
    dsimp only
    sl_unfold_words
    simp only [View.readAt_eq_ld, (hs0_0 t).read_unread, (hs0_1 t).read_unread, View.ld_unit_zero (S := S8x1x352x1024) hz4,
      View.canon_unit_zero (S := S512x1024) hz2]
    exact hblock_eq m d t
  · unfold out0_B_7
    dsimp only
    rw [View.read_writes_eq_canon _ _ _ (fun _ => cover0_B_7 ..)]
    unfold kernelRun0_B
    dsimp only
    sl_unfold_words
    simp only [View.readAt_eq_ld, (hs0_0 t).read_unread, (hs0_1 t).read_unread, (hs0_2 t).read_unread, (hs0_3 t).read_unread, (hs0_4 t).read_unread, View.ld_unit_zero (S := S512x1024) hz2,
      View.ld_unit_zero (S := S1x1024) hz2, View.ld_unit_zero (S := S8x1x352x1024) hz4,
      View.canon_unit_zero (S := S512x1024) hz2]
    exact gblock_eq m d t
  · intro l
    unfold out0_B_8
    dsimp only
    rw [View.read_writes_eq_canon _ _ _ (fun _ => cover0_B_8 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_8 t).read_unread, View.ld_unit_zero (S := S512x1024) hz2,
      View.ld_unit_zero (S := S1x1024) hz2, View.ld_unit_zero (S := S8x1x352x1024) hz4, View.ld_unit_zero (S := S1x128) hz2,
      View.canon_unit_zero (S := S1x128) hz2]
    rw [← tile_eq m d t 0 l]
    exact acc_apply _ _ _ _ _ 0 l

/-- Every point's blocks. -/
theorem outs_blocks (t : Fin cfg0.N) :
    (outsAt0 m d t.val t.isLt).1 = ablock m d t
    ∧ (outsAt0 m d t.val t.isLt).2.1 = hblock m d t
    ∧ (outsAt0 m d t.val t.isLt).2.2.1 = gblock m d t := by
  have h8 : t.val < 8 := t.isLt
  by_cases h : 1 ≤ t.val
  · exact ⟨(outs_B m d t (by omega) h).1, (outs_B m d t (by omega) h).2.1, (outs_B m d t (by omega) h).2.2.1⟩
  · exact ⟨(outs_A m d t (by omega) h).1, (outs_A m d t (by omega) h).2.1, (outs_A m d t (by omega) h).2.2.1⟩

/-- The loss after point `n`: the sum of the tiles so far. -/
theorem outs_loss (l : Fin 128) : ∀ (n : Nat) (hn : n < cfg0.N),
    (outsAt0 m d n hn).2.2.2 (ix2 0 l) = ∑ t : Fin (n + 1), tile m d t.val
  | 0, hn => by
    rw [(outs_A m d ⟨0, hn⟩ (by show 0 % 8 = 0; rfl) (by show ¬1 ≤ 0; omega)).2.2.2 l, Fin.sum_univ_one]
    rfl
  | n + 1, hn => by
    have h8 : n + 1 < 8 := hn
    rw [(outs_B m d ⟨n + 1, hn⟩ (by show ¬(n + 1) % 8 = 0; omega) (by show 1 ≤ n + 1; omega)).2.2.2 l,
      Fin.sum_univ_castSucc]
    exact congrArg (· + _) (outs_loss l n (Nat.lt_of_succ_lt hn))

/-- The gated unit after the run. -/
theorem arr5 : (dats m 0 d).arrAt 5 cfg0.N = fun i : S1x4096x2816.Idx => act m d (i 0) (i 1) (i 2) := by
  have hi : ∀ t : Fin cfg0.N, win0_5.index t 0 = 0 ∧ win0_5.index t 1 = t.val ∧ win0_5.index t 2 = 0 :=
    (by decide +kernel : ∀ t : Fin grid0.N, win0_5.index t 0 = 0 ∧ win0_5.index t 1 = t.val ∧ win0_5.index t 2 = 0)
  refine (dats m 0 d).arrAt_eq_of_cover 5 _ ?_ ?_
  · intro t ht
    rw [Value.flushed5, (outs_blocks m d t).1]
    funext y
    rw [View.read_apply]
    change S1x512x2816.Idx at y
    obtain ⟨q, r, k, rfl⟩ := split3 y
    have a0 : (((cfg0.win 5).blk t).view.emb (ix3 q r k) : S1x4096x2816.Idx) 0 = q :=
      Fin.ext (by show win0_5.index t 0 * 1 + 1 * q.val = q.val; rw [(hi t).1]; omega)
    have a1 : (((cfg0.win 5).blk t).view.emb (ix3 q r k) : S1x4096x2816.Idx) 1 = row t r :=
      Fin.ext (by show win0_5.index t 1 * 512 + 1 * r.val = 512 * t.val + r.val; rw [(hi t).2.1]; omega)
    have a2 : (((cfg0.win 5).blk t).view.emb (ix3 q r k) : S1x4096x2816.Idx) 2 = k :=
      Fin.ext (by show win0_5.index t 2 * 2816 + 1 * k.val = k.val; rw [(hi t).2.2]; omega)
    show _ = act m d 0 _ _
    rw [a1, a2]
    rfl
  · exact (by decide +kernel : (cfg0.win 5).Covers).cover _ (Memref.isWhole_whole _)

/-- The product after the run. -/
theorem arr6 : (dats m 0 d).arrAt 6 cfg0.N = fun i : S4096x1024.Idx => h m d (i 0) (i 1) := by
  have hi : ∀ t : Fin cfg0.N, win0_6.index t 0 = t.val ∧ win0_6.index t 1 = 0 :=
    (by decide +kernel : ∀ t : Fin grid0.N, win0_6.index t 0 = t.val ∧ win0_6.index t 1 = 0)
  refine (dats m 0 d).arrAt_eq_of_cover 6 _ ?_ ?_
  · intro t ht
    rw [Value.flushed6, (outs_blocks m d t).2.1]
    funext y
    rw [View.read_apply]
    change S512x1024.Idx at y
    obtain ⟨r, l, rfl⟩ := split2 y
    have a0 : (((cfg0.win 6).blk t).view.emb (ix2 r l) : S4096x1024.Idx) 0 = row t r :=
      Fin.ext (by show win0_6.index t 0 * 512 + 1 * r.val = 512 * t.val + r.val; rw [(hi t).1]; omega)
    have a1 : (((cfg0.win 6).blk t).view.emb (ix2 r l) : S4096x1024.Idx) 1 = l :=
      Fin.ext (by show win0_6.index t 1 * 1024 + 1 * l.val = l.val; rw [(hi t).2]; omega)
    show _ = h m d _ _
    rw [a0, a1]
    rfl
  · exact (by decide +kernel : (cfg0.win 6).Covers).cover _ (Memref.isWhole_whole _)

/-- The gradient of the loss after the run. -/
theorem arr7 : (dats m 0 d).arrAt 7 cfg0.N = fun i : S4096x1024.Idx => grad m d (i 0) (i 1) := by
  have hi : ∀ t : Fin cfg0.N, win0_7.index t 0 = t.val ∧ win0_7.index t 1 = 0 :=
    (by decide +kernel : ∀ t : Fin grid0.N, win0_7.index t 0 = t.val ∧ win0_7.index t 1 = 0)
  refine (dats m 0 d).arrAt_eq_of_cover 7 _ ?_ ?_
  · intro t ht
    rw [Value.flushed7, (outs_blocks m d t).2.2]
    funext y
    rw [View.read_apply]
    change S512x1024.Idx at y
    obtain ⟨r, l, rfl⟩ := split2 y
    have a0 : (((cfg0.win 7).blk t).view.emb (ix2 r l) : S4096x1024.Idx) 0 = row t r :=
      Fin.ext (by show win0_7.index t 0 * 512 + 1 * r.val = 512 * t.val + r.val; rw [(hi t).1]; omega)
    have a1 : (((cfg0.win 7).blk t).view.emb (ix2 r l) : S4096x1024.Idx) 1 = l :=
      Fin.ext (by show win0_7.index t 1 * 1024 + 1 * l.val = l.val; rw [(hi t).2]; omega)
    show _ = grad m d _ _
    rw [a0, a1]
    rfl
  · exact (by decide +kernel : (cfg0.win 7).Covers).cover _ (Memref.isWhole_whole _)

/-- The loss after the run. -/
theorem arr8 : (dats m 0 d).arrAt 8 cfg0.N = fun i : S1x128.Idx => loss m d (i 0) (i 1) := by
  have hi : ∀ t : Fin cfg0.N, win0_8.index t 0 = 0 ∧ win0_8.index t 1 = 0 :=
    (by decide +kernel : ∀ t : Fin grid0.N, win0_8.index t 0 = 0 ∧ win0_8.index t 1 = 0)
  have hf : ∀ t : Fin cfg0.N, (cfg0.win 8).flush t = true → t.val = 7 :=
    (by decide +kernel : ∀ t : Fin grid0.N, win0_8.flush t = true → t.val = 7)
  refine (dats m 0 d).arrAt_eq_of_cover 8 _ ?_ ?_
  · intro t ht
    have hl := hf t ht
    rw [Value.flushed8]
    funext y
    rw [View.read_apply]
    change S1x128.Idx at y
    obtain ⟨q, l, rfl⟩ := split2 y
    have a0 : (((cfg0.win 8).blk t).view.emb (ix2 q l) : S1x128.Idx) 0 = q :=
      Fin.ext (by show win0_8.index t 0 * 1 + 1 * q.val = q.val; rw [(hi t).1]; omega)
    have a1 : (((cfg0.win 8).blk t).view.emb (ix2 q l) : S1x128.Idx) 1 = l :=
      Fin.ext (by show win0_8.index t 1 * 128 + 1 * l.val = l.val; rw [(hi t).2]; omega)
    show _ = loss m d 0 0
    obtain rfl : q = 0 := Subsingleton.elim _ _
    refine (outs_loss m d l t.val t.isLt).trans ?_
    rw [hl]
    exact loss_eq m d
  · exact (by decide +kernel : (cfg0.win 8).Covers).cover _ (Memref.isWhole_whole _)

end
end Cert.LossOutKernelIdeal.Blocks
end
-- ==== Proof.LossOutReference.lean ====
/- What the reference of the last feed-forward layer's output, of the loss and of its gradient computes, entry by entry. -/
module

public import proofs.«01_k».proof.Proof.Gen.LossOutReferenceIdeal.Read
public import proofs.«01_k».proof.Proof.NormMath
public import Idealize.ShloMosaic.Lib.IdealHost

@[expose] public section

noncomputable section

namespace Cert.LossOutReferenceIdeal.Rows

open Gen Read Cert.Ffn Idealize.ShloMosaic Idealize.ShloMosaic.TcCoe
  Idealize.SL.Sem

set_option maxRecDepth 65536

local notation "𝕀" => Idealize.ShloMosaic.Ideal

section
variable (x0 : S4096x1024.Idx → EReal) (x1 : S2x4096x2816.Idx → EReal) (x2 : S1024.Idx → EReal) (x3 : S2816x1024.Idx → EReal)
  (x4 : S4096x1024.Idx → EReal)

/-- The gated unit at row `n`, entry `k`. -/
theorem gated_apply (n : Fin 4096) (k : Fin 2816) :
    val_main_v6 (F := 𝕀) x1 (ix2 n k) = gated (x1 (ix3 0 n k)) (x1 (ix3 1 n k)) := by
  have g : ∀ i, val_main_v2 (F := 𝕀) x1 i = x1 (ix3 0 (i 0) (i 1)) := by
    intro i
    obtain ⟨a, b, rfl⟩ := split2 i
    unfold val_main_v2 val_main_v1 val_main_v0; pointwise
  have u : ∀ i, val_main_v4 (F := 𝕀) x1 i = x1 (ix3 1 (i 0) (i 1)) := by
    intro i
    obtain ⟨a, b, rfl⟩ := split2 i
    unfold val_main_v4 val_main_v3 val_main_v0; pointwise
  unfold val_main_v6 val_main_v5 val_main_call0_v5 val_main_call0_v4 val_main_call0_v3 val_main_call0_v2
    val_main_call0_v1 val_main_call0_v0 val_main_call0_cst val_main_call0_cst_0
  generalize val_main_v2 (F := 𝕀) x1 = G at g
  generalize val_main_v4 (F := 𝕀) x1 = U at u
  pointwise
  rw [g, u]
  rfl

/-- The gated unit the reference returns. -/
theorem act_apply (q : Fin 1) (n : Fin 4096) (k : Fin 2816) :
    val_main_v40 (F := 𝕀) x1 (ix3 q n k) = gated (x1 (ix3 0 n k)) (x1 (ix3 1 n k)) := by
  have e := gated_apply x1
  unfold val_main_v40 val_main_v39
  generalize val_main_v6 (F := 𝕀) x1 = G at e
  pointwise
  rw [e]

/-- The product with the weights. -/
def h (n : Fin 4096) (l : Fin 1024) : EReal :=
  ∑ k : Fin 2816, gated (x1 (ix3 0 n k)) (x1 (ix3 1 n k)) * x3 (ix2 k l)

theorem h_apply (n : Fin 4096) (l : Fin 1024) : val_main_v7 (F := 𝕀) x1 x3 (ix2 n l) = h x1 x3 n l := by
  have e := gated_apply x1
  unfold val_main_v7 h
  generalize val_main_v6 (F := 𝕀) x1 = G at e
  pointwise
  simp only [e]

/-- One half, as the reference writes it. -/
abbrev half : EReal := Ideal.ofBits FTy.f32 0x3F000000#32

/-- The error: the layer's output less the target. -/
def err (n : Fin 4096) (l : Fin 1024) : EReal :=
  x0 (ix2 n l) + half * normed (h x1 x3 n) (fun l => x2 (ix1 l)) l - x4 (ix2 n l)

theorem err_apply (n : Fin 4096) (l : Fin 1024) :
    val_main_v24 (F := 𝕀) x0 x1 x2 x3 x4 (ix2 n l) = err x0 x1 x2 x3 x4 n l := by
  have e := h_apply x1 x3
  unfold val_main_v24 val_main_v23 val_main_v22 val_main_v21 val_main_v20 val_main_v19 val_main_v18 val_main_v17
    val_main_v16 val_main_v15 val_main_v14 val_main_v13 val_main_v12 val_main_v11 val_main_v10 val_main_v9 val_main_v8
    val_main_cst val_main_cst_0 val_main_cst_1 val_main_cst_2
  generalize val_main_v7 (F := 𝕀) x1 x3 = G at e
  pointwise
  simp only [e]
  rfl

/-- The chain rule's factor of the error is one over the row's length. -/
theorem factor_eq (e : EReal) :
    Ideal.div (half * Ideal.ofBits FTy.f32 0x3F800000#32) (Ideal.ofBits FTy.f32 0x44800000#32)
        * (Ideal.ofBits FTy.f32 0x40000000#32 * e)
      = e * Ideal.ofBits FTy.f32 0x3A800000#32 := by
  have h1 : half = ((1 / 2 : ℝ) : EReal) := by simp [half, Ideal.ofBits, Ideal.ieee, -EReal.coe_mul]; norm_num
  have h2 : Ideal.ofBits FTy.f32 0x40000000#32 = ((2 : ℝ) : EReal) := by simp [Ideal.ofBits, Ideal.ieee, -EReal.coe_mul]; norm_num
  have h3 : Ideal.ofBits FTy.f32 0x3A800000#32 = ((1 / 1024 : ℝ) : EReal) := by
    simp [Ideal.ofBits, Ideal.ieee, -EReal.coe_mul]; norm_num
  rw [div_len, h1, h2, h3, Ideal.ofBits_one_f32, mul_one, mul_comm e, ← mul_assoc, ← EReal.coe_mul, ← EReal.coe_mul]
  norm_num

/-- The gradient of the loss. -/
theorem grad_apply (n : Fin 4096) (l : Fin 1024) :
    val_main_v38 (F := 𝕀) x0 x1 x2 x3 x4 (ix2 n l) = err x0 x1 x2 x3 x4 n l * Ideal.ofBits FTy.f32 0x3A800000#32 := by
  have e := err_apply x0 x1 x2 x3 x4
  rw [← factor_eq]
  unfold val_main_v38 val_main_v37 val_main_v36 val_main_v35 val_main_v34 val_main_v33 val_main_v27 val_main_v26
    val_main_cst_3 val_main_cst_8 val_main_cst_9 val_main_cst_10
  generalize val_main_v24 (F := 𝕀) x0 x1 x2 x3 x4 = G at e
  pointwise
  rw [e]

/-- The mean of the squares of a row of errors. -/
def rowLoss (e : Fin 1024 → EReal) : EReal := Ideal.div (∑ l, e l * e l) (Ideal.ofBits FTy.f32 0x44800000#32)

/-- The loss, on every lane. -/
theorem loss_apply (q : Fin 1) (l : Fin 128) :
    val_main_v41 (F := 𝕀) x0 x1 x2 x3 x4 (ix2 q l) = half * ∑ n : Fin 4096, rowLoss (err x0 x1 x2 x3 x4 n) := by
  have e := err_apply x0 x1 x2 x3 x4
  unfold val_main_v41 val_main_v32 val_main_v31 val_main_v30 val_main_v29 val_main_v28 val_main_v25 val_main_cst_4
    val_main_cst_5 val_main_cst_6 val_main_cst_7
  generalize val_main_v24 (F := 𝕀) x0 x1 x2 x3 x4 = G at e
  pointwise
  simp only [e]
  rfl

end
end Cert.LossOutReferenceIdeal.Rows
end
-- ==== Proof.AdamMath.lean ====
/- The optimiser's mathematics on plain numbers, and what its calls share: a device's place among eight as a word, the
   choice of one of eight addends by a mask, and when the blocks an index map names cover an array. -/
module

public import proofs.«01_k».proof.Proof.FfnMath

@[expose] public section

noncomputable section

namespace Cert.Adam

open Idealize.ShloMosaic

/-- The first moment after a gradient. -/
def mom (m g : EReal) : EReal := Ideal.ofBits FTy.f32 0x3F666666#32 * m + Ideal.ofBits FTy.f32 0x3DCCCCCD#32 * g

/-- The second moment after a gradient. -/
def sec (v g : EReal) : EReal := Ideal.ofBits FTy.f32 0x3F7FBE77#32 * v + Ideal.ofBits FTy.f32 0x3A83126F#32 * (g * g)

/-- The change of a weight, from the weight and the new moments. -/
def step (w m v : EReal) : EReal :=
  Ideal.ofBits FTy.f32 0xBA83126F#32 *
    (Ideal.div (Ideal.div m (Ideal.ofBits FTy.f32 0x3F26BD02#32))
        (Ideal.sqrt (Ideal.div v (Ideal.ofBits FTy.f32 0x3C231ACC#32)) + Ideal.ofBits FTy.f32 0x322BCC77#32)
      + Ideal.ofBits FTy.f32 0x3C23D70A#32 * w)

/-- A word between 0 and 7 is one of the eight devices' places. -/
theorem place (x : BitVec 32) (h : IntOp.andi (IntOp.cmpi .sge x 0#32) (IntOp.cmpi .slt x 8#32) = 1#1) :
    ∃ p : Fin 8, x = BitVec.ofNat 32 p.val := by
  have bit : ∀ b d : Bool, BitVec.ofBool b &&& BitVec.ofBool d = 1#1 → b = true ∧ d = true := by decide
  obtain ⟨h0, h8⟩ := bit _ _ h
  replace h0 : (0#32).toInt ≤ x.toInt := of_decide_eq_true h0
  replace h8 : x.toInt < (8#32).toInt := of_decide_eq_true h8
  have e0 : (0#32).toInt = 0 := by decide
  have e8 : (8#32).toInt = 8 := by decide
  rw [e0] at h0
  rw [e8] at h8
  have hc := BitVec.toInt_eq_toNat_cond x
  have hlt : x.toNat < 2 ^ 32 := x.isLt
  have hx : x.toNat < 8 := by split at hc <;> omega
  exact ⟨⟨x.toNat, hx⟩, (BitVec.ofNat_toNat 32 x).symm ▸ (BitVec.setWidth_eq x).symm⟩

/-- A one-word array has one index. -/
theorem one (j : (⟨1, ![1]⟩ : Shape).Idx) : j = ix1 0 := (eq_ix1 j).trans (congrArg ix1 (Subsingleton.elim _ _))

/-- A one-word array of places holds one place. -/
theorem placed {tbl : (⟨1, ![1]⟩ : Shape).Idx → BitVec 32} (h : ∀ j, ∃ p : Fin 8, tbl j = BitVec.ofNat 32 p.val) :
    ∃ p : Fin 8, ∀ j, tbl j = BitVec.ofNat 32 p.val :=
  have ⟨p, hp⟩ := h (ix1 0)
  ⟨p, fun j => (congrArg tbl (one j)).trans hp⟩

/-- The word of zeros is zero. -/
theorem zero32 : Ideal.ofBits FTy.f32 0x00000000#32 = 0 := by pointwise

/-- The sum of eight addends masked to one device's place is that device's addend. -/
theorem pick (p : Fin 8) (f : Fin 8 → EReal) :
    ∑ k : Fin 8, Scalar.select (IntOp.cmpi .eq (BitVec.ofNat 32 k.val) (BitVec.ofNat 32 p.val)) (f k) 0 = f p := by
  refine (Finset.sum_eq_single p (fun k _ hk => ?_) (fun h => absurd (Finset.mem_univ p) h)).trans ?_
  · have : ∀ k p : Fin 8, k ≠ p → IntOp.cmpi .eq (BitVec.ofNat 32 k.val) (BitVec.ofNat 32 p.val) = 0#1 := by decide
    rw [this k p hk]; rfl
  · have : ∀ p : Fin 8, IntOp.cmpi .eq (BitVec.ofNat 32 p.val) (BitVec.ofNat 32 p.val) = 1#1 := by decide
    rw [this p]; rfl

/-- One layer's gradient: the part at the device's place, and the seven received parts. -/
def part {R C : Nat} (o : (⟨3, ![8, R, C]⟩ : Shape).Idx → EReal) (r : (⟨3, ![7, R, C]⟩ : Shape).Idx → EReal) (p : Fin 8) (i : Fin R) (j : Fin C) : EReal :=
  o (ix3 p i j) + ∑ k : Fin 7, r (ix3 k i j)

/-- Two layers' gradients. -/
def two {R C : Nat} (o : (⟨3, ![8, R, C]⟩ : Shape).Idx → EReal) (r : (⟨3, ![7, R, C]⟩ : Shape).Idx → EReal)
    (o' : (⟨3, ![8, R, C]⟩ : Shape).Idx → EReal) (r' : (⟨3, ![7, R, C]⟩ : Shape).Idx → EReal) (p : Fin 8) (l : Fin 2) (i : Fin R) (j : Fin C) : EReal :=
  if l.val = 0 then part o r p i j else part o' r' p i j

/-- The blocks an index map names on a grid cover the array. -/
def Cov (G : Pipeline.Grid) {r : Nat} (n s : Fin r → Nat) (ix : G.Coords → Fin r → Nat) : Prop :=
  (∀ a, 0 < s a) ∧ ∀ β : (a : Fin r) → Fin ((n a + s a - 1) / s a), ∃ t : Fin G.N,
    Pipeline.Window.flushOf G true ix t = true ∧ ∀ a, ix (G.coords t) a = β a ∧ (s a = s a ∨ n a ≤ ix (G.coords t) a * s a + s a)

instance (G : Pipeline.Grid) {r : Nat} (n s : Fin r → Nat) (ix : G.Coords → Fin r → Nat) : Decidable (Cov G n s ix) :=
  decidable_of_iff' _ <| Iff.rfl.and <| CellBits.onto_iff_marks (fun a => (n a + s a - 1) / s a)
    (Pipeline.Window.flushOf G true ix) (fun t => ix (G.coords t)) fun t a => s a = s a ∨ n a ≤ ix (G.coords t) a * s a + s a

end Cert.Adam
end
-- ==== Proof.AdamOw.lean ====
/- The optimiser's call for the shards [1, 128, 1024]: what it leaves in its four result arrays, what the reference computes, and
   that the two are equal when the device's place is one of eight. -/
module
public import proofs.«01_k».proof.Proof.Gen.AdamOwKernelIdeal.Frame
public import proofs.«01_k».proof.Proof.Gen.AdamOwKernel.Frame
public import proofs.«01_k».proof.Proof.Gen.AdamOwReferenceIdeal.Read
public import proofs.«01_k».proof.Defs
public import proofs.«01_k».proof.Proof.AdamMath
public import Idealize.ShloMosaic.PureOps.Ideal.Laws
@[expose] public section
set_option maxRecDepth 16384
noncomputable section
open Idealize.ShloMosaic Idealize.ShloMosaic.TcCoe Idealize.SL.Sem Cert.Adam

namespace Cert.AdamOwKernel.Blocks
open Gen

/-- The table that holds one word. -/
def word (x : BitVec 32) : pre0.Contents (Elt Bits) := fun j => match j with | ⟨0, _⟩ => fun _ => x

theorem ok_word : ∀ p : Fin 8, ok0 (word (BitVec.ofNat 32 p.val)) := by decide +kernel

theorem ok (m : (ℓ : Loc nD τ sig) → Buf (Elt Bits) ℓ) (p : Fin 8) (hp : ∀ j, tbl m 0 j = BitVec.ofNat 32 p.val) : Ok m :=
  show ok0 (tbl m) from (funext fun a => match a with | ⟨0, _⟩ => funext hp : tbl m = word _) ▸ ok_word p

end Cert.AdamOwKernel.Blocks

namespace Cert.AdamOwKernelIdeal.Blocks
open Gen
variable (m : (ℓ : Loc nD τ sig) → Buf (Elt Ideal) ℓ) (hO : Ok m) (c : Dev nD) (p : Fin 8) (hp : ∀ j, tbl m 0 j = BitVec.ofNat 32 p.val)

/-- The table that holds one word. -/
def word (x : BitVec 32) : pre0.Contents (Elt Ideal) := fun j => match j with | ⟨0, _⟩ => fun _ => x

theorem ok_word : ∀ p : Fin 8, ok0 (word (BitVec.ofNat 32 p.val)) := by decide +kernel

include hp in
theorem tbl_eq : tbl m = word (BitVec.ofNat 32 p.val) := funext fun a => match a with | ⟨0, _⟩ => funext hp

include hp in
theorem ok : Ok m := show ok0 (tbl m) from tbl_eq m p hp ▸ ok_word p

theorem cov : Cov grid0 S1x128x1024.size S1x128x1024.size cc0_transform_5 := by decide +kernel

/-- The gradient of a block: the device's own part and the seven received ones. -/
def gsum (o : Vec Ideal S1x128x1024 .bf16) (r : Vec Ideal S7x128x1024 .bf16) (y : S1x128x1024.Idx) : EReal := o y + ∑ k : Fin 7, r (ix3 k (y 1) (y 2))

section
variable {i a0 h0 a1 h1 a2 h2 a3 h3 a4 h4 a5 h5 a6 h6 a7 h7 a8 h8 hc x0 x1 x2 x3 x4 xt} (y : S1x128x1024.Idx)

theorem out5 : out0_A_5 (F := Ideal) c i a0 h0 a1 h1 a2 h2 a3 h3 a4 h4 a5 h5 a6 h6 a7 h7 a8 h8 hc x0 x1 x2 x3 x4 xt y = gsum x3 x4 y := by
  frame_out
  pointwise [k0_pay7, k0_pay3]
  simp only [gsum, Fin.sum_univ_seven, ← add_assoc]

theorem out6 : out0_A_6 (F := Ideal) c i a0 h0 a1 h1 a2 h2 a3 h3 a4 h4 a5 h5 a6 h6 a7 h7 a8 h8 hc x0 x1 x2 x3 x4 xt y
    = step (x0 y) (mom (x1 y) (gsum x3 x4 y)) (sec (x2 y) (gsum x3 x4 y)) := by
  frame_out
  pointwise [k0_pay8, k0_pay4, k0_pay5, k0_pay6, k0_pay7, k0_pay3]
  simp only [gsum, Fin.sum_univ_seven, ← add_assoc]
  rfl

theorem out7 : out0_A_7 (F := Ideal) c i a0 h0 a1 h1 a2 h2 a3 h3 a4 h4 a5 h5 a6 h6 a7 h7 a8 h8 hc x0 x1 x2 x3 x4 xt y = mom (x1 y) (gsum x3 x4 y) := by
  frame_out
  pointwise [k0_pay1, k0_pay5, k0_pay7, k0_pay3]
  simp only [gsum, Fin.sum_univ_seven, ← add_assoc]
  rfl

theorem out8 : out0_A_8 (F := Ideal) c i a0 h0 a1 h1 a2 h2 a3 h3 a4 h4 a5 h5 a6 h6 a7 h7 a8 h8 hc x0 x1 x2 x3 x4 xt y = sec (x2 y) (gsum x3 x4 y) := by
  frame_out
  pointwise [k0_pay2, k0_pay6, k0_pay7, k0_pay3]
  simp only [gsum, Fin.sum_univ_seven, ← add_assoc]
  rfl
end

/-- Where a point's block of results lies in the arrays. -/
abbrev at5 (t : Fin (cfgM m hO).N) (y : S1x128x1024.Idx) : S1x128x1024.Idx := (((cfgM m hO).win 5).blk t).view.emb y

/-- The parts the devices keep, and the parts received. -/
def own (z : S8x128x1024.Idx) : EReal := m (c.tc.loc main_arg4) z
def rcv (z : S7x128x1024.Idx) : EReal := m (c.tc.loc main_arg5) z

/-- The gradient: the part at the device's place, and the seven received parts. -/
def grad (z : S1x128x1024.Idx) : EReal := own m c (ix3 p (z 1) (z 2)) + ∑ k : Fin 7, rcv m c (ix3 k (z 1) (z 2))

theorem rows : ∀ t : Fin grid0.N, cc0_transform_4 (grid0.coords t) = ![0, cc0_transform_5 (grid0.coords t) 1, 0]
    ∧ cc0_transform_5 (grid0.coords t) 2 = 0 := by decide +kernel

theorem rows3 : ∀ (p : Fin 8) (t : Fin grid0.N), cc0_transform_3 inb_S1_S1_0 numel1_S1 (word (BitVec.ofNat 32 p.val)) (grid0.coords t)
    = ![p.val, cc0_transform_5 (grid0.coords t) 1, 0] := by decide +kernel

theorem rd4 (t) (k : Fin 7) (y : S1x128x1024.Idx) :
    iblk m hO c 4 t (ix3 k (y 1) (y 2)) = rcv m c (ix3 k (at5 m hO t y 1) (at5 m hO t y 2)) := by
  have key : ∀ a : Fin 3, cc0_transform_4 (grid0.coords t) a * S7x128x1024.size a + 1 * ((ix3 k (y 1) (y 2) : S7x128x1024.Idx) a).val
      = ((ix3 k (at5 m hO t y 1) (at5 m hO t y 2) : S7x128x1024.Idx) a).val := by
    obtain ⟨h, h'⟩ := rows t
    intro a
    rw [h]
    match a with
    | 0 => show 0 * 7 + 1 * k.val = k.val; omega
    | 1 => rfl
    | 2 => show _ = cc0_transform_5 (grid0.coords t) 2 * 1024 + 1 * (y 2).val; rw [h']; rfl
  exact congrArg (rcv m c) (funext fun a => Fin.ext (key a))

include hp in
theorem rd3 (t) (y : S1x128x1024.Idx) : iblk m hO c 3 t y = own m c (ix3 p (at5 m hO t y 1) (at5 m hO t y 2)) := by
  have key : ∀ a : Fin 3, cc0_transform_3 (F := Ideal) inb_S1_S1_0 numel1_S1 (tbl m) (grid0.coords t) a * S1x128x1024.size a + 1 * (y a).val
      = ((ix3 p (at5 m hO t y 1) (at5 m hO t y 2) : S8x128x1024.Idx) a).val := by
    obtain ⟨h, h'⟩ := rows t
    intro a
    rw [tbl_eq m _ hp, rows3]
    match a with
    | 0 => show p.val * 1 + 1 * (y 0).val = p.val; have : (y 0).val < 1 := (y 0).isLt; omega
    | 1 => rfl
    | 2 => show _ = cc0_transform_5 (grid0.coords t) 2 * 1024 + 1 * (y 2).val; rw [h']; rfl
  exact congrArg (own m c) (funext fun a => Fin.ext (key a))

include hp in
theorem gsum_eq (t) (y : S1x128x1024.Idx) : gsum (iblk m hO c 3 t) (iblk m hO c 4 t) y = grad m c p (at5 m hO t y) :=
  congrArg₂ (· + ·) (rd3 m hO c p hp t y) (Finset.sum_congr rfl fun k _ => rd4 m hO c t k y)

include hp

theorem arr5 : (dats m hO 0 c).arrAt 5 (cfgM m hO).N = grad m c p := by
  refine (dats m hO 0 c).arrAt_eq_of_covers 5 _ cov fun t hf y => ?_
  blk_simp
  rw [after0_5]
  unfold outsAt0
  dsimp only
  refine (out5 c y).trans ?_
  exact gsum_eq m hO c p hp t y

theorem arr6 : (dats m hO 0 c).arrAt 6 (cfgM m hO).N = fun z =>
    step (m (c.tc.loc main_arg1) z) (mom (m (c.tc.loc main_arg2) z) (grad m c p z)) (sec (m (c.tc.loc main_arg3) z) (grad m c p z)) := by
  refine (dats m hO 0 c).arrAt_eq_of_covers 6 _ cov fun t hf y => ?_
  blk_simp
  rw [after0_6]
  unfold outsAt0
  dsimp only
  refine (out6 c y).trans ?_
  rw [gsum_eq m hO c p hp t y]
  rfl

theorem arr7 : (dats m hO 0 c).arrAt 7 (cfgM m hO).N = fun z => mom (m (c.tc.loc main_arg2) z) (grad m c p z) := by
  refine (dats m hO 0 c).arrAt_eq_of_covers 7 _ cov fun t hf y => ?_
  blk_simp
  rw [after0_7]
  unfold outsAt0
  dsimp only
  refine (out7 c y).trans ?_
  rw [gsum_eq m hO c p hp t y]
  rfl

theorem arr8 : (dats m hO 0 c).arrAt 8 (cfgM m hO).N = fun z => sec (m (c.tc.loc main_arg3) z) (grad m c p z) := by
  refine (dats m hO 0 c).arrAt_eq_of_covers 8 _ cov fun t hf y => ?_
  blk_simp
  rw [after0_8]
  unfold outsAt0
  dsimp only
  refine (out8 c y).trans ?_
  rw [gsum_eq m hO c p hp t y]
  rfl

end Cert.AdamOwKernelIdeal.Blocks

namespace Cert.AdamOwReferenceIdeal.Read
variable (x0 : (⟨S1, .i32⟩ : BufTy).Contents (Elt Ideal)) (x1 x2 x3 : (⟨S1x128x1024, .f32⟩ : BufTy).Contents (Elt Ideal))
  (x4 : (⟨S8x128x1024, .bf16⟩ : BufTy).Contents (Elt Ideal)) (x5 : (⟨S7x128x1024, .bf16⟩ : BufTy).Contents (Elt Ideal)) (p : Fin 8)

/-- The gradient: the part at the device's place, and the seven received parts. -/
def grad (z : S1x128x1024.Idx) : EReal := x4 (ix3 p (z 1) (z 2)) + ∑ k : Fin 7, x5 (ix3 k (z 1) (z 2))

variable (hp : ∀ j, x0 j = BitVec.ofNat 32 p.val) (z : S1x128x1024.Idx)
include hp

theorem grad_eq : val_main_v10 (F := Ideal) x0 x4 x5 z = grad x4 x5 p z := by
  rw [val_main_v10_apply, val_main_v9_apply, val_main_v6_apply, val_main_v8_apply]
  simp only [val_main_v5_apply, val_main_call0_v1_apply, val_main_v3_apply, val_main_v2_apply, val_main_v0_apply, val_main_v1_apply, hp,
    val_main_v4_apply, val_main_v7_apply]
  have e6 : ∀ k : Fin 8, idx_main_v6 (idx_main_v10 z) k = ix3 k (z 1) (z 2) := fun k => eq_ix3 _
  have e8 : ∀ k : Fin 7, idx_main_v8 (idx_main_v10 z) k = ix3 k (z 1) (z 2) := fun k => eq_ix3 _
  simp only [val_main_call0_v2_apply, val_main_call0_v0_apply, val_main_cst_apply, val_main_cst_0_apply, val_main_cst_1_apply,
    Ideal.ofBits_def, zero32, Ideal.extf_def, Ideal.addf_def, zero_add]
  simp only [e6, e8]
  exact congrArg (· + _) (pick p fun k => x4 (ix3 k (z 1) (z 2)))

theorem mom_eq : val_main_v15 (F := Ideal) x0 x2 x4 x5 z = mom (x2 z) (grad x4 x5 p z) := by
  rw [← grad_eq x0 x4 x5 p hp]
  simp only [val_main_v15_apply, val_main_v12_apply, val_main_v14_apply, val_main_v11_apply, val_main_v13_apply]
  rfl

theorem sec_eq : val_main_v21 (F := Ideal) x0 x3 x4 x5 z = sec (x3 z) (grad x4 x5 p z) := by
  rw [← grad_eq x0 x4 x5 p hp]
  simp only [val_main_v21_apply, val_main_v17_apply, val_main_v20_apply, val_main_v16_apply, val_main_v19_apply, val_main_v18_apply]
  rfl

theorem step_eq : val_main_v34 (F := Ideal) x0 x1 x2 x3 x4 x5 z
    = step (x1 z) (mom (x2 z) (grad x4 x5 p z)) (sec (x3 z) (grad x4 x5 p z)) := by
  rw [← mom_eq x0 x2 x4 x5 p hp, ← sec_eq x0 x3 x4 x5 p hp]
  simp only [val_main_v34_apply, val_main_v33_apply, val_main_v32_apply, val_main_v29_apply, val_main_v23_apply, val_main_v22_apply,
    val_main_v28_apply, val_main_v26_apply, val_main_v25_apply, val_main_v24_apply, val_main_v27_apply, val_main_v31_apply, val_main_v30_apply]
  rfl

end Cert.AdamOwReferenceIdeal.Read

namespace Cert.Proof

/-- The shape relations the precondition's operations take. -/
theorem facts_placed_ow : Pre_placed_ow.Facts := ⟨by decide⟩

/-- The kernel ends with its arguments unchanged. -/
theorem frame_AdamOw : quiescent_AdamOwKernel (hAdamOwKernel := AdamOwKernel.Gen.facts) (hPre_placed_ow := facts_placed_ow) := fun m ρ h =>
  have ⟨p, hp⟩ := placed (tbl := Cert.AdamOwKernel.Gen.tbl m 0) fun j => place _ (congrFun (h 0) j)
  AdamOwKernel.Gen.frame m ρ (AdamOwKernel.Blocks.ok m p hp)

theorem frame_AdamOwIdeal : quiescent_AdamOwKernelIdeal (hAdamOwKernelIdeal := AdamOwKernelIdeal.Gen.facts) (hPre_placed_ow := facts_placed_ow) := fun m ρ h =>
  have ⟨p, hp⟩ := placed (tbl := AdamOwKernelIdeal.Gen.tbl m 0) fun j => place _ (congrFun (h 0) j)
  AdamOwKernelIdeal.Gen.frame m ρ (AdamOwKernelIdeal.Blocks.ok m p hp)

/-- The reference is a straight-line host program that declares no semaphore. -/
theorem frame_AdamOwReference : quiescent_AdamOwReferenceIdeal (hAdamOwReferenceIdeal := AdamOwReferenceIdeal.Gen.facts) :=
  fun m ρ _ => (θ_run (AdamOwReferenceIdeal.defs (F := Ideal)) _ _).mono
    (fun r h => ⟨fun c => (h c).2.2.2.2, funext fun sm => nomatch sm.2⟩)
    (AdamOwReferenceIdeal.Value.run (F := Ideal) m ρ)

open AdamOwKernelIdeal.Gen AdamOwKernelIdeal.Blocks AdamOwReferenceIdeal.Read in
/-- Kernel and reference leave equal arrays: the optimiser's step of one sharded weight. -/
theorem algebraic_AdamOw : algebraic_AdamOwKernelIdeal_AdamOwReferenceIdeal (hAdamOwKernelIdeal := AdamOwKernelIdeal.Gen.facts)
    (hAdamOwReferenceIdeal := AdamOwReferenceIdeal.Gen.facts) (hPre_placed_ow := facts_placed_ow) := by
  intro m g m' g' h hargs
  obtain ⟨p, hp⟩ := placed (tbl := tbl m 0) fun j => place _ (congrFun (h 0) j)
  have hO := ok m p hp
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · exact (θ_run (AdamOwKernelIdeal.defs (F := Ideal)) _ _).mono
      (fun r h c => ⟨(h.1 c).1 5, (h.1 c).1 6, (h.1 c).1 7, (h.1 c).1 8, h.2 c⟩)
      (θ_run_and (run_main m g hO) (unchanged m g hO))
  · refine (θ_run (AdamOwReferenceIdeal.defs (F := Ideal)) _ _).mono (fun r h c => ?_)
      (AdamOwReferenceIdeal.Value.run (F := Ideal) m' g')
    obtain rfl : c = 0 := Subsingleton.elim _ _
    obtain ⟨r0, r1, r2, r3, ha⟩ := h 0
    obtain ⟨e0, e1, e2, e3, e4, e5⟩ := hargs 0
    refine ⟨r0.trans ?_, r1.trans ?_, r2.trans ?_, r3.trans ?_, ha⟩
    · rw [val_main_v10_eq, e0, e4, e5]
      exact (funext (grad_eq _ _ _ p hp)).trans (arr5 m hO 0 p hp).symm
    · rw [val_main_v34_eq, e0, e1, e2, e3, e4, e5]
      exact (funext (step_eq _ _ _ _ _ _ p hp)).trans (arr6 m hO 0 p hp).symm
    · rw [val_main_v15_eq, e0, e2, e4, e5]
      exact (funext (mom_eq _ _ _ _ p hp)).trans (arr7 m hO 0 p hp).symm
    · rw [val_main_v21_eq, e0, e3, e4, e5]
      exact (funext (sec_eq _ _ _ _ p hp)).trans (arr8 m hO 0 p hp).symm

end Cert.Proof
-- ==== Proof.AdamCi.lean ====
/- The optimiser's call for the shards [1, 1024, 384]: what it leaves in its four result arrays, what the reference computes, and
   that the two are equal when the device's place is one of eight. -/
module
public import proofs.«01_k».proof.Proof.Gen.AdamCiKernelIdeal.Frame
public import proofs.«01_k».proof.Proof.Gen.AdamCiKernel.Frame
public import proofs.«01_k».proof.Proof.Gen.AdamCiReferenceIdeal.Read
public import proofs.«01_k».proof.Defs
public import proofs.«01_k».proof.Proof.AdamMath
public import Idealize.ShloMosaic.PureOps.Ideal.Laws
@[expose] public section
set_option maxRecDepth 16384
noncomputable section
open Idealize.ShloMosaic Idealize.ShloMosaic.TcCoe Idealize.SL.Sem Cert.Adam

namespace Cert.AdamCiKernel.Blocks
open Gen

/-- The table that holds one word. -/
def word (x : BitVec 32) : pre0.Contents (Elt Bits) := fun j => match j with | ⟨0, _⟩ => fun _ => x

theorem ok_word : ∀ p : Fin 8, ok0 (word (BitVec.ofNat 32 p.val)) := by decide +kernel

theorem ok (m : (ℓ : Loc nD τ sig) → Buf (Elt Bits) ℓ) (p : Fin 8) (hp : ∀ j, tbl m 0 j = BitVec.ofNat 32 p.val) : Ok m :=
  show ok0 (tbl m) from (funext fun a => match a with | ⟨0, _⟩ => funext hp : tbl m = word _) ▸ ok_word p

end Cert.AdamCiKernel.Blocks

namespace Cert.AdamCiKernelIdeal.Blocks
open Gen
variable (m : (ℓ : Loc nD τ sig) → Buf (Elt Ideal) ℓ) (hO : Ok m) (c : Dev nD) (p : Fin 8) (hp : ∀ j, tbl m 0 j = BitVec.ofNat 32 p.val)

/-- The table that holds one word. -/
def word (x : BitVec 32) : pre0.Contents (Elt Ideal) := fun j => match j with | ⟨0, _⟩ => fun _ => x

theorem ok_word : ∀ p : Fin 8, ok0 (word (BitVec.ofNat 32 p.val)) := by decide +kernel

include hp in
theorem tbl_eq : tbl m = word (BitVec.ofNat 32 p.val) := funext fun a => match a with | ⟨0, _⟩ => funext hp

include hp in
theorem ok : Ok m := show ok0 (tbl m) from tbl_eq m p hp ▸ ok_word p

theorem cov : Cov grid0 S1x1024x384.size S1x256x384.size cc0_transform_5 := by decide +kernel

/-- The gradient of a block: the device's own part and the seven received ones. -/
def gsum (o : Vec Ideal S1x256x384 .bf16) (r : Vec Ideal S7x256x384 .bf16) (y : S1x256x384.Idx) : EReal := o y + ∑ k : Fin 7, r (ix3 k (y 1) (y 2))

section
variable {i a0 h0 a1 h1 a2 h2 a3 h3 a4 h4 a5 h5 a6 h6 a7 h7 a8 h8 hc x0 x1 x2 x3 x4 xt} (y : S1x256x384.Idx)

theorem out5 : out0_A_5 (F := Ideal) c i a0 h0 a1 h1 a2 h2 a3 h3 a4 h4 a5 h5 a6 h6 a7 h7 a8 h8 hc x0 x1 x2 x3 x4 xt y = gsum x3 x4 y := by
  frame_out
  pointwise [k0_pay7, k0_pay3]
  simp only [gsum, Fin.sum_univ_seven, ← add_assoc]

theorem out6 : out0_A_6 (F := Ideal) c i a0 h0 a1 h1 a2 h2 a3 h3 a4 h4 a5 h5 a6 h6 a7 h7 a8 h8 hc x0 x1 x2 x3 x4 xt y
    = step (x0 y) (mom (x1 y) (gsum x3 x4 y)) (sec (x2 y) (gsum x3 x4 y)) := by
  frame_out
  pointwise [k0_pay8, k0_pay4, k0_pay5, k0_pay6, k0_pay7, k0_pay3]
  simp only [gsum, Fin.sum_univ_seven, ← add_assoc]
  rfl

theorem out7 : out0_A_7 (F := Ideal) c i a0 h0 a1 h1 a2 h2 a3 h3 a4 h4 a5 h5 a6 h6 a7 h7 a8 h8 hc x0 x1 x2 x3 x4 xt y = mom (x1 y) (gsum x3 x4 y) := by
  frame_out
  pointwise [k0_pay1, k0_pay5, k0_pay7, k0_pay3]
  simp only [gsum, Fin.sum_univ_seven, ← add_assoc]
  rfl

theorem out8 : out0_A_8 (F := Ideal) c i a0 h0 a1 h1 a2 h2 a3 h3 a4 h4 a5 h5 a6 h6 a7 h7 a8 h8 hc x0 x1 x2 x3 x4 xt y = sec (x2 y) (gsum x3 x4 y) := by
  frame_out
  pointwise [k0_pay2, k0_pay6, k0_pay7, k0_pay3]
  simp only [gsum, Fin.sum_univ_seven, ← add_assoc]
  rfl
end

/-- Where a point's block of results lies in the arrays. -/
abbrev at5 (t : Fin (cfgM m hO).N) (y : S1x256x384.Idx) : S1x1024x384.Idx := (((cfgM m hO).win 5).blk t).view.emb y

/-- The parts the devices keep, and the parts received. -/
def own (z : S8x1024x384.Idx) : EReal := m (c.tc.loc main_arg4) z
def rcv (z : S7x1024x384.Idx) : EReal := m (c.tc.loc main_arg5) z

/-- The gradient: the part at the device's place, and the seven received parts. -/
def grad (z : S1x1024x384.Idx) : EReal := own m c (ix3 p (z 1) (z 2)) + ∑ k : Fin 7, rcv m c (ix3 k (z 1) (z 2))

theorem rows : ∀ t : Fin grid0.N, cc0_transform_4 (grid0.coords t) = ![0, cc0_transform_5 (grid0.coords t) 1, 0]
    ∧ cc0_transform_5 (grid0.coords t) 2 = 0 := by decide +kernel

theorem rows3 : ∀ (p : Fin 8) (t : Fin grid0.N), cc0_transform_3 inb_S1_S1_0 numel1_S1 (word (BitVec.ofNat 32 p.val)) (grid0.coords t)
    = ![p.val, cc0_transform_5 (grid0.coords t) 1, 0] := by decide +kernel

theorem rd4 (t) (k : Fin 7) (y : S1x256x384.Idx) :
    iblk m hO c 4 t (ix3 k (y 1) (y 2)) = rcv m c (ix3 k (at5 m hO t y 1) (at5 m hO t y 2)) := by
  have key : ∀ a : Fin 3, cc0_transform_4 (grid0.coords t) a * S7x256x384.size a + 1 * ((ix3 k (y 1) (y 2) : S7x256x384.Idx) a).val
      = ((ix3 k (at5 m hO t y 1) (at5 m hO t y 2) : S7x1024x384.Idx) a).val := by
    obtain ⟨h, h'⟩ := rows t
    intro a
    rw [h]
    match a with
    | 0 => show 0 * 7 + 1 * k.val = k.val; omega
    | 1 => rfl
    | 2 => show _ = cc0_transform_5 (grid0.coords t) 2 * 384 + 1 * (y 2).val; rw [h']; rfl
  exact congrArg (rcv m c) (funext fun a => Fin.ext (key a))

include hp in
theorem rd3 (t) (y : S1x256x384.Idx) : iblk m hO c 3 t y = own m c (ix3 p (at5 m hO t y 1) (at5 m hO t y 2)) := by
  have key : ∀ a : Fin 3, cc0_transform_3 (F := Ideal) inb_S1_S1_0 numel1_S1 (tbl m) (grid0.coords t) a * S1x256x384.size a + 1 * (y a).val
      = ((ix3 p (at5 m hO t y 1) (at5 m hO t y 2) : S8x1024x384.Idx) a).val := by
    obtain ⟨h, h'⟩ := rows t
    intro a
    rw [tbl_eq m _ hp, rows3]
    match a with
    | 0 => show p.val * 1 + 1 * (y 0).val = p.val; have : (y 0).val < 1 := (y 0).isLt; omega
    | 1 => rfl
    | 2 => show _ = cc0_transform_5 (grid0.coords t) 2 * 384 + 1 * (y 2).val; rw [h']; rfl
  exact congrArg (own m c) (funext fun a => Fin.ext (key a))

include hp in
theorem gsum_eq (t) (y : S1x256x384.Idx) : gsum (iblk m hO c 3 t) (iblk m hO c 4 t) y = grad m c p (at5 m hO t y) :=
  congrArg₂ (· + ·) (rd3 m hO c p hp t y) (Finset.sum_congr rfl fun k _ => rd4 m hO c t k y)

include hp

theorem arr5 : (dats m hO 0 c).arrAt 5 (cfgM m hO).N = grad m c p := by
  refine (dats m hO 0 c).arrAt_eq_of_covers 5 _ cov fun t hf y => ?_
  blk_simp
  rw [after0_5]
  unfold outsAt0
  dsimp only
  refine (out5 c y).trans ?_
  exact gsum_eq m hO c p hp t y

theorem arr6 : (dats m hO 0 c).arrAt 6 (cfgM m hO).N = fun z =>
    step (m (c.tc.loc main_arg1) z) (mom (m (c.tc.loc main_arg2) z) (grad m c p z)) (sec (m (c.tc.loc main_arg3) z) (grad m c p z)) := by
  refine (dats m hO 0 c).arrAt_eq_of_covers 6 _ cov fun t hf y => ?_
  blk_simp
  rw [after0_6]
  unfold outsAt0
  dsimp only
  refine (out6 c y).trans ?_
  rw [gsum_eq m hO c p hp t y]
  rfl

theorem arr7 : (dats m hO 0 c).arrAt 7 (cfgM m hO).N = fun z => mom (m (c.tc.loc main_arg2) z) (grad m c p z) := by
  refine (dats m hO 0 c).arrAt_eq_of_covers 7 _ cov fun t hf y => ?_
  blk_simp
  rw [after0_7]
  unfold outsAt0
  dsimp only
  refine (out7 c y).trans ?_
  rw [gsum_eq m hO c p hp t y]
  rfl

theorem arr8 : (dats m hO 0 c).arrAt 8 (cfgM m hO).N = fun z => sec (m (c.tc.loc main_arg3) z) (grad m c p z) := by
  refine (dats m hO 0 c).arrAt_eq_of_covers 8 _ cov fun t hf y => ?_
  blk_simp
  rw [after0_8]
  unfold outsAt0
  dsimp only
  refine (out8 c y).trans ?_
  rw [gsum_eq m hO c p hp t y]
  rfl

end Cert.AdamCiKernelIdeal.Blocks

namespace Cert.AdamCiReferenceIdeal.Read
variable (x0 : (⟨S1, .i32⟩ : BufTy).Contents (Elt Ideal)) (x1 x2 x3 : (⟨S1x1024x384, .f32⟩ : BufTy).Contents (Elt Ideal))
  (x4 : (⟨S8x1024x384, .bf16⟩ : BufTy).Contents (Elt Ideal)) (x5 : (⟨S7x1024x384, .bf16⟩ : BufTy).Contents (Elt Ideal)) (p : Fin 8)

/-- The gradient: the part at the device's place, and the seven received parts. -/
def grad (z : S1x1024x384.Idx) : EReal := x4 (ix3 p (z 1) (z 2)) + ∑ k : Fin 7, x5 (ix3 k (z 1) (z 2))

variable (hp : ∀ j, x0 j = BitVec.ofNat 32 p.val) (z : S1x1024x384.Idx)
include hp

theorem grad_eq : val_main_v10 (F := Ideal) x0 x4 x5 z = grad x4 x5 p z := by
  rw [val_main_v10_apply, val_main_v9_apply, val_main_v6_apply, val_main_v8_apply]
  simp only [val_main_v5_apply, val_main_call0_v1_apply, val_main_v3_apply, val_main_v2_apply, val_main_v0_apply, val_main_v1_apply, hp,
    val_main_v4_apply, val_main_v7_apply]
  have e6 : ∀ k : Fin 8, idx_main_v6 (idx_main_v10 z) k = ix3 k (z 1) (z 2) := fun k => eq_ix3 _
  have e8 : ∀ k : Fin 7, idx_main_v8 (idx_main_v10 z) k = ix3 k (z 1) (z 2) := fun k => eq_ix3 _
  simp only [val_main_call0_v2_apply, val_main_call0_v0_apply, val_main_cst_apply, val_main_cst_0_apply, val_main_cst_1_apply,
    Ideal.ofBits_def, zero32, Ideal.extf_def, Ideal.addf_def, zero_add]
  simp only [e6, e8]
  exact congrArg (· + _) (pick p fun k => x4 (ix3 k (z 1) (z 2)))

theorem mom_eq : val_main_v15 (F := Ideal) x0 x2 x4 x5 z = mom (x2 z) (grad x4 x5 p z) := by
  rw [← grad_eq x0 x4 x5 p hp]
  simp only [val_main_v15_apply, val_main_v12_apply, val_main_v14_apply, val_main_v11_apply, val_main_v13_apply]
  rfl

theorem sec_eq : val_main_v21 (F := Ideal) x0 x3 x4 x5 z = sec (x3 z) (grad x4 x5 p z) := by
  rw [← grad_eq x0 x4 x5 p hp]
  simp only [val_main_v21_apply, val_main_v17_apply, val_main_v20_apply, val_main_v16_apply, val_main_v19_apply, val_main_v18_apply]
  rfl

theorem step_eq : val_main_v34 (F := Ideal) x0 x1 x2 x3 x4 x5 z
    = step (x1 z) (mom (x2 z) (grad x4 x5 p z)) (sec (x3 z) (grad x4 x5 p z)) := by
  rw [← mom_eq x0 x2 x4 x5 p hp, ← sec_eq x0 x3 x4 x5 p hp]
  simp only [val_main_v34_apply, val_main_v33_apply, val_main_v32_apply, val_main_v29_apply, val_main_v23_apply, val_main_v22_apply,
    val_main_v28_apply, val_main_v26_apply, val_main_v25_apply, val_main_v24_apply, val_main_v27_apply, val_main_v31_apply, val_main_v30_apply]
  rfl

end Cert.AdamCiReferenceIdeal.Read

namespace Cert.Proof

/-- The shape relations the precondition's operations take. -/
theorem facts_placed_ci : Pre_placed_ci.Facts := ⟨by decide⟩

/-- The kernel ends with its arguments unchanged. -/
theorem frame_AdamCi : quiescent_AdamCiKernel (hAdamCiKernel := AdamCiKernel.Gen.facts) (hPre_placed_ci := facts_placed_ci) := fun m ρ h =>
  have ⟨p, hp⟩ := placed (tbl := Cert.AdamCiKernel.Gen.tbl m 0) fun j => place _ (congrFun (h 0) j)
  AdamCiKernel.Gen.frame m ρ (AdamCiKernel.Blocks.ok m p hp)

theorem frame_AdamCiIdeal : quiescent_AdamCiKernelIdeal (hAdamCiKernelIdeal := AdamCiKernelIdeal.Gen.facts) (hPre_placed_ci := facts_placed_ci) := fun m ρ h =>
  have ⟨p, hp⟩ := placed (tbl := AdamCiKernelIdeal.Gen.tbl m 0) fun j => place _ (congrFun (h 0) j)
  AdamCiKernelIdeal.Gen.frame m ρ (AdamCiKernelIdeal.Blocks.ok m p hp)

/-- The reference is a straight-line host program that declares no semaphore. -/
theorem frame_AdamCiReference : quiescent_AdamCiReferenceIdeal (hAdamCiReferenceIdeal := AdamCiReferenceIdeal.Gen.facts) :=
  fun m ρ _ => (θ_run (AdamCiReferenceIdeal.defs (F := Ideal)) _ _).mono
    (fun r h => ⟨fun c => (h c).2.2.2.2, funext fun sm => nomatch sm.2⟩)
    (AdamCiReferenceIdeal.Value.run (F := Ideal) m ρ)

open AdamCiKernelIdeal.Gen AdamCiKernelIdeal.Blocks AdamCiReferenceIdeal.Read in
/-- Kernel and reference leave equal arrays: the optimiser's step of one sharded weight. -/
theorem algebraic_AdamCi : algebraic_AdamCiKernelIdeal_AdamCiReferenceIdeal (hAdamCiKernelIdeal := AdamCiKernelIdeal.Gen.facts)
    (hAdamCiReferenceIdeal := AdamCiReferenceIdeal.Gen.facts) (hPre_placed_ci := facts_placed_ci) := by
  intro m g m' g' h hargs
  obtain ⟨p, hp⟩ := placed (tbl := tbl m 0) fun j => place _ (congrFun (h 0) j)
  have hO := ok m p hp
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · exact (θ_run (AdamCiKernelIdeal.defs (F := Ideal)) _ _).mono
      (fun r h c => ⟨(h.1 c).1 5, (h.1 c).1 6, (h.1 c).1 7, (h.1 c).1 8, h.2 c⟩)
      (θ_run_and (run_main m g hO) (unchanged m g hO))
  · refine (θ_run (AdamCiReferenceIdeal.defs (F := Ideal)) _ _).mono (fun r h c => ?_)
      (AdamCiReferenceIdeal.Value.run (F := Ideal) m' g')
    obtain rfl : c = 0 := Subsingleton.elim _ _
    obtain ⟨r0, r1, r2, r3, ha⟩ := h 0
    obtain ⟨e0, e1, e2, e3, e4, e5⟩ := hargs 0
    refine ⟨r0.trans ?_, r1.trans ?_, r2.trans ?_, r3.trans ?_, ha⟩
    · rw [val_main_v10_eq, e0, e4, e5]
      exact (funext (grad_eq _ _ _ p hp)).trans (arr5 m hO 0 p hp).symm
    · rw [val_main_v34_eq, e0, e1, e2, e3, e4, e5]
      exact (funext (step_eq _ _ _ _ _ _ p hp)).trans (arr6 m hO 0 p hp).symm
    · rw [val_main_v15_eq, e0, e2, e4, e5]
      exact (funext (mom_eq _ _ _ _ p hp)).trans (arr7 m hO 0 p hp).symm
    · rw [val_main_v21_eq, e0, e3, e4, e5]
      exact (funext (sec_eq _ _ _ _ p hp)).trans (arr8 m hO 0 p hp).symm

end Cert.Proof
-- ==== Proof.AdamQg.lean ====
/- The optimiser's call for the shards [1, 1024, 256]: what it leaves in its four result arrays, what the reference computes, and
   that the two are equal when the device's place is one of eight. -/
module
public import proofs.«01_k».proof.Proof.Gen.AdamQgKernelIdeal.Frame
public import proofs.«01_k».proof.Proof.Gen.AdamQgKernel.Frame
public import proofs.«01_k».proof.Proof.Gen.AdamQgReferenceIdeal.Read
public import proofs.«01_k».proof.Defs
public import proofs.«01_k».proof.Proof.AdamMath
public import Idealize.ShloMosaic.PureOps.Ideal.Laws
@[expose] public section
set_option maxRecDepth 16384
noncomputable section
open Idealize.ShloMosaic Idealize.ShloMosaic.TcCoe Idealize.SL.Sem Cert.Adam

namespace Cert.AdamQgKernel.Blocks
open Gen

/-- The table that holds one word. -/
def word (x : BitVec 32) : pre0.Contents (Elt Bits) := fun j => match j with | ⟨0, _⟩ => fun _ => x

theorem ok_word : ∀ p : Fin 8, ok0 (word (BitVec.ofNat 32 p.val)) := by decide +kernel

theorem ok (m : (ℓ : Loc nD τ sig) → Buf (Elt Bits) ℓ) (p : Fin 8) (hp : ∀ j, tbl m 0 j = BitVec.ofNat 32 p.val) : Ok m :=
  show ok0 (tbl m) from (funext fun a => match a with | ⟨0, _⟩ => funext hp : tbl m = word _) ▸ ok_word p

end Cert.AdamQgKernel.Blocks

namespace Cert.AdamQgKernelIdeal.Blocks
open Gen
variable (m : (ℓ : Loc nD τ sig) → Buf (Elt Ideal) ℓ) (hO : Ok m) (c : Dev nD) (p : Fin 8) (hp : ∀ j, tbl m 0 j = BitVec.ofNat 32 p.val)

/-- The table that holds one word. -/
def word (x : BitVec 32) : pre0.Contents (Elt Ideal) := fun j => match j with | ⟨0, _⟩ => fun _ => x

theorem ok_word : ∀ p : Fin 8, ok0 (word (BitVec.ofNat 32 p.val)) := by decide +kernel

include hp in
theorem tbl_eq : tbl m = word (BitVec.ofNat 32 p.val) := funext fun a => match a with | ⟨0, _⟩ => funext hp

include hp in
theorem ok : Ok m := show ok0 (tbl m) from tbl_eq m p hp ▸ ok_word p

theorem cov : Cov grid0 S1x1024x256.size S1x256x256.size cc0_transform_5 := by decide +kernel

/-- The gradient of a block: the device's own part and the seven received ones. -/
def gsum (o : Vec Ideal S1x256x256 .bf16) (r : Vec Ideal S7x256x256 .bf16) (y : S1x256x256.Idx) : EReal := o y + ∑ k : Fin 7, r (ix3 k (y 1) (y 2))

section
variable {i a0 h0 a1 h1 a2 h2 a3 h3 a4 h4 a5 h5 a6 h6 a7 h7 a8 h8 hc x0 x1 x2 x3 x4 xt} (y : S1x256x256.Idx)

theorem out5 : out0_A_5 (F := Ideal) c i a0 h0 a1 h1 a2 h2 a3 h3 a4 h4 a5 h5 a6 h6 a7 h7 a8 h8 hc x0 x1 x2 x3 x4 xt y = gsum x3 x4 y := by
  frame_out
  pointwise [k0_pay7, k0_pay3]
  simp only [gsum, Fin.sum_univ_seven, ← add_assoc]

theorem out6 : out0_A_6 (F := Ideal) c i a0 h0 a1 h1 a2 h2 a3 h3 a4 h4 a5 h5 a6 h6 a7 h7 a8 h8 hc x0 x1 x2 x3 x4 xt y
    = step (x0 y) (mom (x1 y) (gsum x3 x4 y)) (sec (x2 y) (gsum x3 x4 y)) := by
  frame_out
  pointwise [k0_pay8, k0_pay4, k0_pay5, k0_pay6, k0_pay7, k0_pay3]
  simp only [gsum, Fin.sum_univ_seven, ← add_assoc]
  rfl

theorem out7 : out0_A_7 (F := Ideal) c i a0 h0 a1 h1 a2 h2 a3 h3 a4 h4 a5 h5 a6 h6 a7 h7 a8 h8 hc x0 x1 x2 x3 x4 xt y = mom (x1 y) (gsum x3 x4 y) := by
  frame_out
  pointwise [k0_pay1, k0_pay5, k0_pay7, k0_pay3]
  simp only [gsum, Fin.sum_univ_seven, ← add_assoc]
  rfl

theorem out8 : out0_A_8 (F := Ideal) c i a0 h0 a1 h1 a2 h2 a3 h3 a4 h4 a5 h5 a6 h6 a7 h7 a8 h8 hc x0 x1 x2 x3 x4 xt y = sec (x2 y) (gsum x3 x4 y) := by
  frame_out
  pointwise [k0_pay2, k0_pay6, k0_pay7, k0_pay3]
  simp only [gsum, Fin.sum_univ_seven, ← add_assoc]
  rfl
end

/-- Where a point's block of results lies in the arrays. -/
abbrev at5 (t : Fin (cfgM m hO).N) (y : S1x256x256.Idx) : S1x1024x256.Idx := (((cfgM m hO).win 5).blk t).view.emb y

/-- The parts the devices keep, and the parts received. -/
def own (z : S8x1024x256.Idx) : EReal := m (c.tc.loc main_arg4) z
def rcv (z : S7x1024x256.Idx) : EReal := m (c.tc.loc main_arg5) z

/-- The gradient: the part at the device's place, and the seven received parts. -/
def grad (z : S1x1024x256.Idx) : EReal := own m c (ix3 p (z 1) (z 2)) + ∑ k : Fin 7, rcv m c (ix3 k (z 1) (z 2))

theorem rows : ∀ t : Fin grid0.N, cc0_transform_4 (grid0.coords t) = ![0, cc0_transform_5 (grid0.coords t) 1, 0]
    ∧ cc0_transform_5 (grid0.coords t) 2 = 0 := by decide +kernel

theorem rows3 : ∀ (p : Fin 8) (t : Fin grid0.N), cc0_transform_3 inb_S1_S1_0 numel1_S1 (word (BitVec.ofNat 32 p.val)) (grid0.coords t)
    = ![p.val, cc0_transform_5 (grid0.coords t) 1, 0] := by decide +kernel

theorem rd4 (t) (k : Fin 7) (y : S1x256x256.Idx) :
    iblk m hO c 4 t (ix3 k (y 1) (y 2)) = rcv m c (ix3 k (at5 m hO t y 1) (at5 m hO t y 2)) := by
  have key : ∀ a : Fin 3, cc0_transform_4 (grid0.coords t) a * S7x256x256.size a + 1 * ((ix3 k (y 1) (y 2) : S7x256x256.Idx) a).val
      = ((ix3 k (at5 m hO t y 1) (at5 m hO t y 2) : S7x1024x256.Idx) a).val := by
    obtain ⟨h, h'⟩ := rows t
    intro a
    rw [h]
    match a with
    | 0 => show 0 * 7 + 1 * k.val = k.val; omega
    | 1 => rfl
    | 2 => show _ = cc0_transform_5 (grid0.coords t) 2 * 256 + 1 * (y 2).val; rw [h']; rfl
  exact congrArg (rcv m c) (funext fun a => Fin.ext (key a))

include hp in
theorem rd3 (t) (y : S1x256x256.Idx) : iblk m hO c 3 t y = own m c (ix3 p (at5 m hO t y 1) (at5 m hO t y 2)) := by
  have key : ∀ a : Fin 3, cc0_transform_3 (F := Ideal) inb_S1_S1_0 numel1_S1 (tbl m) (grid0.coords t) a * S1x256x256.size a + 1 * (y a).val
      = ((ix3 p (at5 m hO t y 1) (at5 m hO t y 2) : S8x1024x256.Idx) a).val := by
    obtain ⟨h, h'⟩ := rows t
    intro a
    rw [tbl_eq m _ hp, rows3]
    match a with
    | 0 => show p.val * 1 + 1 * (y 0).val = p.val; have : (y 0).val < 1 := (y 0).isLt; omega
    | 1 => rfl
    | 2 => show _ = cc0_transform_5 (grid0.coords t) 2 * 256 + 1 * (y 2).val; rw [h']; rfl
  exact congrArg (own m c) (funext fun a => Fin.ext (key a))

include hp in
theorem gsum_eq (t) (y : S1x256x256.Idx) : gsum (iblk m hO c 3 t) (iblk m hO c 4 t) y = grad m c p (at5 m hO t y) :=
  congrArg₂ (· + ·) (rd3 m hO c p hp t y) (Finset.sum_congr rfl fun k _ => rd4 m hO c t k y)

include hp

theorem arr5 : (dats m hO 0 c).arrAt 5 (cfgM m hO).N = grad m c p := by
  refine (dats m hO 0 c).arrAt_eq_of_covers 5 _ cov fun t hf y => ?_
  blk_simp
  rw [after0_5]
  unfold outsAt0
  dsimp only
  refine (out5 c y).trans ?_
  exact gsum_eq m hO c p hp t y

theorem arr6 : (dats m hO 0 c).arrAt 6 (cfgM m hO).N = fun z =>
    step (m (c.tc.loc main_arg1) z) (mom (m (c.tc.loc main_arg2) z) (grad m c p z)) (sec (m (c.tc.loc main_arg3) z) (grad m c p z)) := by
  refine (dats m hO 0 c).arrAt_eq_of_covers 6 _ cov fun t hf y => ?_
  blk_simp
  rw [after0_6]
  unfold outsAt0
  dsimp only
  refine (out6 c y).trans ?_
  rw [gsum_eq m hO c p hp t y]
  rfl

theorem arr7 : (dats m hO 0 c).arrAt 7 (cfgM m hO).N = fun z => mom (m (c.tc.loc main_arg2) z) (grad m c p z) := by
  refine (dats m hO 0 c).arrAt_eq_of_covers 7 _ cov fun t hf y => ?_
  blk_simp
  rw [after0_7]
  unfold outsAt0
  dsimp only
  refine (out7 c y).trans ?_
  rw [gsum_eq m hO c p hp t y]
  rfl

theorem arr8 : (dats m hO 0 c).arrAt 8 (cfgM m hO).N = fun z => sec (m (c.tc.loc main_arg3) z) (grad m c p z) := by
  refine (dats m hO 0 c).arrAt_eq_of_covers 8 _ cov fun t hf y => ?_
  blk_simp
  rw [after0_8]
  unfold outsAt0
  dsimp only
  refine (out8 c y).trans ?_
  rw [gsum_eq m hO c p hp t y]
  rfl

end Cert.AdamQgKernelIdeal.Blocks

namespace Cert.AdamQgReferenceIdeal.Read
variable (x0 : (⟨S1, .i32⟩ : BufTy).Contents (Elt Ideal)) (x1 x2 x3 : (⟨S1x1024x256, .f32⟩ : BufTy).Contents (Elt Ideal))
  (x4 : (⟨S8x1024x256, .bf16⟩ : BufTy).Contents (Elt Ideal)) (x5 : (⟨S7x1024x256, .bf16⟩ : BufTy).Contents (Elt Ideal)) (p : Fin 8)

/-- The gradient: the part at the device's place, and the seven received parts. -/
def grad (z : S1x1024x256.Idx) : EReal := x4 (ix3 p (z 1) (z 2)) + ∑ k : Fin 7, x5 (ix3 k (z 1) (z 2))

variable (hp : ∀ j, x0 j = BitVec.ofNat 32 p.val) (z : S1x1024x256.Idx)
include hp

theorem grad_eq : val_main_v10 (F := Ideal) x0 x4 x5 z = grad x4 x5 p z := by
  rw [val_main_v10_apply, val_main_v9_apply, val_main_v6_apply, val_main_v8_apply]
  simp only [val_main_v5_apply, val_main_call0_v1_apply, val_main_v3_apply, val_main_v2_apply, val_main_v0_apply, val_main_v1_apply, hp,
    val_main_v4_apply, val_main_v7_apply]
  have e6 : ∀ k : Fin 8, idx_main_v6 (idx_main_v10 z) k = ix3 k (z 1) (z 2) := fun k => eq_ix3 _
  have e8 : ∀ k : Fin 7, idx_main_v8 (idx_main_v10 z) k = ix3 k (z 1) (z 2) := fun k => eq_ix3 _
  simp only [val_main_call0_v2_apply, val_main_call0_v0_apply, val_main_cst_apply, val_main_cst_0_apply, val_main_cst_1_apply,
    Ideal.ofBits_def, zero32, Ideal.extf_def, Ideal.addf_def, zero_add]
  simp only [e6, e8]
  exact congrArg (· + _) (pick p fun k => x4 (ix3 k (z 1) (z 2)))

theorem mom_eq : val_main_v15 (F := Ideal) x0 x2 x4 x5 z = mom (x2 z) (grad x4 x5 p z) := by
  rw [← grad_eq x0 x4 x5 p hp]
  simp only [val_main_v15_apply, val_main_v12_apply, val_main_v14_apply, val_main_v11_apply, val_main_v13_apply]
  rfl

theorem sec_eq : val_main_v21 (F := Ideal) x0 x3 x4 x5 z = sec (x3 z) (grad x4 x5 p z) := by
  rw [← grad_eq x0 x4 x5 p hp]
  simp only [val_main_v21_apply, val_main_v17_apply, val_main_v20_apply, val_main_v16_apply, val_main_v19_apply, val_main_v18_apply]
  rfl

theorem step_eq : val_main_v34 (F := Ideal) x0 x1 x2 x3 x4 x5 z
    = step (x1 z) (mom (x2 z) (grad x4 x5 p z)) (sec (x3 z) (grad x4 x5 p z)) := by
  rw [← mom_eq x0 x2 x4 x5 p hp, ← sec_eq x0 x3 x4 x5 p hp]
  simp only [val_main_v34_apply, val_main_v33_apply, val_main_v32_apply, val_main_v29_apply, val_main_v23_apply, val_main_v22_apply,
    val_main_v28_apply, val_main_v26_apply, val_main_v25_apply, val_main_v24_apply, val_main_v27_apply, val_main_v31_apply, val_main_v30_apply]
  rfl

end Cert.AdamQgReferenceIdeal.Read

namespace Cert.Proof

/-- The shape relations the precondition's operations take. -/
theorem facts_placed_qg : Pre_placed_qg.Facts := ⟨by decide⟩

/-- The kernel ends with its arguments unchanged. -/
theorem frame_AdamQg : quiescent_AdamQgKernel (hAdamQgKernel := AdamQgKernel.Gen.facts) (hPre_placed_qg := facts_placed_qg) := fun m ρ h =>
  have ⟨p, hp⟩ := placed (tbl := Cert.AdamQgKernel.Gen.tbl m 0) fun j => place _ (congrFun (h 0) j)
  AdamQgKernel.Gen.frame m ρ (AdamQgKernel.Blocks.ok m p hp)

theorem frame_AdamQgIdeal : quiescent_AdamQgKernelIdeal (hAdamQgKernelIdeal := AdamQgKernelIdeal.Gen.facts) (hPre_placed_qg := facts_placed_qg) := fun m ρ h =>
  have ⟨p, hp⟩ := placed (tbl := AdamQgKernelIdeal.Gen.tbl m 0) fun j => place _ (congrFun (h 0) j)
  AdamQgKernelIdeal.Gen.frame m ρ (AdamQgKernelIdeal.Blocks.ok m p hp)

/-- The reference is a straight-line host program that declares no semaphore. -/
theorem frame_AdamQgReference : quiescent_AdamQgReferenceIdeal (hAdamQgReferenceIdeal := AdamQgReferenceIdeal.Gen.facts) :=
  fun m ρ _ => (θ_run (AdamQgReferenceIdeal.defs (F := Ideal)) _ _).mono
    (fun r h => ⟨fun c => (h c).2.2.2.2, funext fun sm => nomatch sm.2⟩)
    (AdamQgReferenceIdeal.Value.run (F := Ideal) m ρ)

open AdamQgKernelIdeal.Gen AdamQgKernelIdeal.Blocks AdamQgReferenceIdeal.Read in
/-- Kernel and reference leave equal arrays: the optimiser's step of one sharded weight. -/
theorem algebraic_AdamQg : algebraic_AdamQgKernelIdeal_AdamQgReferenceIdeal (hAdamQgKernelIdeal := AdamQgKernelIdeal.Gen.facts)
    (hAdamQgReferenceIdeal := AdamQgReferenceIdeal.Gen.facts) (hPre_placed_qg := facts_placed_qg) := by
  intro m g m' g' h hargs
  obtain ⟨p, hp⟩ := placed (tbl := tbl m 0) fun j => place _ (congrFun (h 0) j)
  have hO := ok m p hp
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · exact (θ_run (AdamQgKernelIdeal.defs (F := Ideal)) _ _).mono
      (fun r h c => ⟨(h.1 c).1 5, (h.1 c).1 6, (h.1 c).1 7, (h.1 c).1 8, h.2 c⟩)
      (θ_run_and (run_main m g hO) (unchanged m g hO))
  · refine (θ_run (AdamQgReferenceIdeal.defs (F := Ideal)) _ _).mono (fun r h c => ?_)
      (AdamQgReferenceIdeal.Value.run (F := Ideal) m' g')
    obtain rfl : c = 0 := Subsingleton.elim _ _
    obtain ⟨r0, r1, r2, r3, ha⟩ := h 0
    obtain ⟨e0, e1, e2, e3, e4, e5⟩ := hargs 0
    refine ⟨r0.trans ?_, r1.trans ?_, r2.trans ?_, r3.trans ?_, ha⟩
    · rw [val_main_v10_eq, e0, e4, e5]
      exact (funext (grad_eq _ _ _ p hp)).trans (arr5 m hO 0 p hp).symm
    · rw [val_main_v34_eq, e0, e1, e2, e3, e4, e5]
      exact (funext (step_eq _ _ _ _ _ _ p hp)).trans (arr6 m hO 0 p hp).symm
    · rw [val_main_v15_eq, e0, e2, e4, e5]
      exact (funext (mom_eq _ _ _ _ p hp)).trans (arr7 m hO 0 p hp).symm
    · rw [val_main_v21_eq, e0, e3, e4, e5]
      exact (funext (sec_eq _ _ _ _ p hp)).trans (arr8 m hO 0 p hp).symm

end Cert.Proof
-- ==== Proof.AdamKv.lean ====
/- The optimiser's call for the shards [1, 258, 1024]: what it leaves in its four result arrays, what the reference computes, and
   that the two are equal when the device's place is one of eight. -/
module
public import proofs.«01_k».proof.Proof.Gen.AdamKvKernelIdeal.Frame
public import proofs.«01_k».proof.Proof.Gen.AdamKvKernel.Frame
public import proofs.«01_k».proof.Proof.Gen.AdamKvReferenceIdeal.Read
public import proofs.«01_k».proof.Defs
public import proofs.«01_k».proof.Proof.AdamMath
public import Idealize.ShloMosaic.PureOps.Ideal.Laws
@[expose] public section
set_option maxRecDepth 16384
noncomputable section
open Idealize.ShloMosaic Idealize.ShloMosaic.TcCoe Idealize.SL.Sem Cert.Adam

namespace Cert.AdamKvKernel.Blocks
open Gen

/-- The table that holds one word. -/
def word (x : BitVec 32) : pre0.Contents (Elt Bits) := fun j => match j with | ⟨0, _⟩ => fun _ => x

theorem ok_word : ∀ p : Fin 8, ok0 (word (BitVec.ofNat 32 p.val)) := by decide +kernel

theorem ok (m : (ℓ : Loc nD τ sig) → Buf (Elt Bits) ℓ) (p : Fin 8) (hp : ∀ j, tbl m 0 j = BitVec.ofNat 32 p.val) : Ok m :=
  show ok0 (tbl m) from (funext fun a => match a with | ⟨0, _⟩ => funext hp : tbl m = word _) ▸ ok_word p

end Cert.AdamKvKernel.Blocks

namespace Cert.AdamKvKernelIdeal.Blocks
open Gen
variable (m : (ℓ : Loc nD τ sig) → Buf (Elt Ideal) ℓ) (hO : Ok m) (c : Dev nD) (p : Fin 8) (hp : ∀ j, tbl m 0 j = BitVec.ofNat 32 p.val)

/-- The table that holds one word. -/
def word (x : BitVec 32) : pre0.Contents (Elt Ideal) := fun j => match j with | ⟨0, _⟩ => fun _ => x

theorem ok_word : ∀ p : Fin 8, ok0 (word (BitVec.ofNat 32 p.val)) := by decide +kernel

include hp in
theorem tbl_eq : tbl m = word (BitVec.ofNat 32 p.val) := funext fun a => match a with | ⟨0, _⟩ => funext hp

include hp in
theorem ok : Ok m := show ok0 (tbl m) from tbl_eq m p hp ▸ ok_word p

theorem cov : Cov grid0 S1x258x1024.size S1x258x1024.size cc0_transform_5 := by decide +kernel

/-- The gradient of a block: the device's own part and the seven received ones. -/
def gsum (o : Vec Ideal S1x258x1024 .bf16) (r : Vec Ideal S7x258x1024 .bf16) (y : S1x258x1024.Idx) : EReal := o y + ∑ k : Fin 7, r (ix3 k (y 1) (y 2))

section
variable {i a0 h0 a1 h1 a2 h2 a3 h3 a4 h4 a5 h5 a6 h6 a7 h7 a8 h8 hc x0 x1 x2 x3 x4 xt} (y : S1x258x1024.Idx)

theorem out5 : out0_A_5 (F := Ideal) c i a0 h0 a1 h1 a2 h2 a3 h3 a4 h4 a5 h5 a6 h6 a7 h7 a8 h8 hc x0 x1 x2 x3 x4 xt y = gsum x3 x4 y := by
  frame_out
  pointwise [k0_pay7, k0_pay3]
  simp only [gsum, Fin.sum_univ_seven, ← add_assoc]

theorem out6 : out0_A_6 (F := Ideal) c i a0 h0 a1 h1 a2 h2 a3 h3 a4 h4 a5 h5 a6 h6 a7 h7 a8 h8 hc x0 x1 x2 x3 x4 xt y
    = step (x0 y) (mom (x1 y) (gsum x3 x4 y)) (sec (x2 y) (gsum x3 x4 y)) := by
  frame_out
  pointwise [k0_pay8, k0_pay4, k0_pay5, k0_pay6, k0_pay7, k0_pay3]
  simp only [gsum, Fin.sum_univ_seven, ← add_assoc]
  rfl

theorem out7 : out0_A_7 (F := Ideal) c i a0 h0 a1 h1 a2 h2 a3 h3 a4 h4 a5 h5 a6 h6 a7 h7 a8 h8 hc x0 x1 x2 x3 x4 xt y = mom (x1 y) (gsum x3 x4 y) := by
  frame_out
  pointwise [k0_pay1, k0_pay5, k0_pay7, k0_pay3]
  simp only [gsum, Fin.sum_univ_seven, ← add_assoc]
  rfl

theorem out8 : out0_A_8 (F := Ideal) c i a0 h0 a1 h1 a2 h2 a3 h3 a4 h4 a5 h5 a6 h6 a7 h7 a8 h8 hc x0 x1 x2 x3 x4 xt y = sec (x2 y) (gsum x3 x4 y) := by
  frame_out
  pointwise [k0_pay2, k0_pay6, k0_pay7, k0_pay3]
  simp only [gsum, Fin.sum_univ_seven, ← add_assoc]
  rfl
end

/-- Where a point's block of results lies in the arrays. -/
abbrev at5 (t : Fin (cfgM m hO).N) (y : S1x258x1024.Idx) : S1x258x1024.Idx := (((cfgM m hO).win 5).blk t).view.emb y

/-- The parts the devices keep, and the parts received. -/
def own (z : S8x258x1024.Idx) : EReal := m (c.tc.loc main_arg4) z
def rcv (z : S7x258x1024.Idx) : EReal := m (c.tc.loc main_arg5) z

/-- The gradient: the part at the device's place, and the seven received parts. -/
def grad (z : S1x258x1024.Idx) : EReal := own m c (ix3 p (z 1) (z 2)) + ∑ k : Fin 7, rcv m c (ix3 k (z 1) (z 2))

theorem rows : ∀ t : Fin grid0.N, cc0_transform_4 (grid0.coords t) = ![0, cc0_transform_5 (grid0.coords t) 1, 0]
    ∧ cc0_transform_5 (grid0.coords t) 2 = 0 := by decide +kernel

theorem rows3 : ∀ (p : Fin 8) (t : Fin grid0.N), cc0_transform_3 inb_S1_S1_0 numel1_S1 (word (BitVec.ofNat 32 p.val)) (grid0.coords t)
    = ![p.val, cc0_transform_5 (grid0.coords t) 1, 0] := by decide +kernel

theorem rd4 (t) (k : Fin 7) (y : S1x258x1024.Idx) :
    iblk m hO c 4 t (ix3 k (y 1) (y 2)) = rcv m c (ix3 k (at5 m hO t y 1) (at5 m hO t y 2)) := by
  have key : ∀ a : Fin 3, cc0_transform_4 (grid0.coords t) a * S7x258x1024.size a + 1 * ((ix3 k (y 1) (y 2) : S7x258x1024.Idx) a).val
      = ((ix3 k (at5 m hO t y 1) (at5 m hO t y 2) : S7x258x1024.Idx) a).val := by
    obtain ⟨h, h'⟩ := rows t
    intro a
    rw [h]
    match a with
    | 0 => show 0 * 7 + 1 * k.val = k.val; omega
    | 1 => rfl
    | 2 => show _ = cc0_transform_5 (grid0.coords t) 2 * 1024 + 1 * (y 2).val; rw [h']; rfl
  exact congrArg (rcv m c) (funext fun a => Fin.ext (key a))

include hp in
theorem rd3 (t) (y : S1x258x1024.Idx) : iblk m hO c 3 t y = own m c (ix3 p (at5 m hO t y 1) (at5 m hO t y 2)) := by
  have key : ∀ a : Fin 3, cc0_transform_3 (F := Ideal) inb_S1_S1_0 numel1_S1 (tbl m) (grid0.coords t) a * S1x258x1024.size a + 1 * (y a).val
      = ((ix3 p (at5 m hO t y 1) (at5 m hO t y 2) : S8x258x1024.Idx) a).val := by
    obtain ⟨h, h'⟩ := rows t
    intro a
    rw [tbl_eq m _ hp, rows3]
    match a with
    | 0 => show p.val * 1 + 1 * (y 0).val = p.val; have : (y 0).val < 1 := (y 0).isLt; omega
    | 1 => rfl
    | 2 => show _ = cc0_transform_5 (grid0.coords t) 2 * 1024 + 1 * (y 2).val; rw [h']; rfl
  exact congrArg (own m c) (funext fun a => Fin.ext (key a))

include hp in
theorem gsum_eq (t) (y : S1x258x1024.Idx) : gsum (iblk m hO c 3 t) (iblk m hO c 4 t) y = grad m c p (at5 m hO t y) :=
  congrArg₂ (· + ·) (rd3 m hO c p hp t y) (Finset.sum_congr rfl fun k _ => rd4 m hO c t k y)

include hp

theorem arr5 : (dats m hO 0 c).arrAt 5 (cfgM m hO).N = grad m c p := by
  refine (dats m hO 0 c).arrAt_eq_of_covers 5 _ cov fun t hf y => ?_
  blk_simp
  rw [after0_5]
  unfold outsAt0
  dsimp only
  refine (out5 c y).trans ?_
  exact gsum_eq m hO c p hp t y

theorem arr6 : (dats m hO 0 c).arrAt 6 (cfgM m hO).N = fun z =>
    step (m (c.tc.loc main_arg1) z) (mom (m (c.tc.loc main_arg2) z) (grad m c p z)) (sec (m (c.tc.loc main_arg3) z) (grad m c p z)) := by
  refine (dats m hO 0 c).arrAt_eq_of_covers 6 _ cov fun t hf y => ?_
  blk_simp
  rw [after0_6]
  unfold outsAt0
  dsimp only
  refine (out6 c y).trans ?_
  rw [gsum_eq m hO c p hp t y]
  rfl

theorem arr7 : (dats m hO 0 c).arrAt 7 (cfgM m hO).N = fun z => mom (m (c.tc.loc main_arg2) z) (grad m c p z) := by
  refine (dats m hO 0 c).arrAt_eq_of_covers 7 _ cov fun t hf y => ?_
  blk_simp
  rw [after0_7]
  unfold outsAt0
  dsimp only
  refine (out7 c y).trans ?_
  rw [gsum_eq m hO c p hp t y]
  rfl

theorem arr8 : (dats m hO 0 c).arrAt 8 (cfgM m hO).N = fun z => sec (m (c.tc.loc main_arg3) z) (grad m c p z) := by
  refine (dats m hO 0 c).arrAt_eq_of_covers 8 _ cov fun t hf y => ?_
  blk_simp
  rw [after0_8]
  unfold outsAt0
  dsimp only
  refine (out8 c y).trans ?_
  rw [gsum_eq m hO c p hp t y]
  rfl

end Cert.AdamKvKernelIdeal.Blocks

namespace Cert.AdamKvReferenceIdeal.Read
variable (x0 : (⟨S1, .i32⟩ : BufTy).Contents (Elt Ideal)) (x1 x2 x3 : (⟨S1x258x1024, .f32⟩ : BufTy).Contents (Elt Ideal))
  (x4 : (⟨S8x258x1024, .bf16⟩ : BufTy).Contents (Elt Ideal)) (x5 : (⟨S7x258x1024, .bf16⟩ : BufTy).Contents (Elt Ideal)) (p : Fin 8)

/-- The gradient: the part at the device's place, and the seven received parts. -/
def grad (z : S1x258x1024.Idx) : EReal := x4 (ix3 p (z 1) (z 2)) + ∑ k : Fin 7, x5 (ix3 k (z 1) (z 2))

variable (hp : ∀ j, x0 j = BitVec.ofNat 32 p.val) (z : S1x258x1024.Idx)
include hp

theorem grad_eq : val_main_v10 (F := Ideal) x0 x4 x5 z = grad x4 x5 p z := by
  rw [val_main_v10_apply, val_main_v9_apply, val_main_v6_apply, val_main_v8_apply]
  simp only [val_main_v5_apply, val_main_call0_v1_apply, val_main_v3_apply, val_main_v2_apply, val_main_v0_apply, val_main_v1_apply, hp,
    val_main_v4_apply, val_main_v7_apply]
  have e6 : ∀ k : Fin 8, idx_main_v6 (idx_main_v10 z) k = ix3 k (z 1) (z 2) := fun k => eq_ix3 _
  have e8 : ∀ k : Fin 7, idx_main_v8 (idx_main_v10 z) k = ix3 k (z 1) (z 2) := fun k => eq_ix3 _
  simp only [val_main_call0_v2_apply, val_main_call0_v0_apply, val_main_cst_apply, val_main_cst_0_apply, val_main_cst_1_apply,
    Ideal.ofBits_def, zero32, Ideal.extf_def, Ideal.addf_def, zero_add]
  simp only [e6, e8]
  exact congrArg (· + _) (pick p fun k => x4 (ix3 k (z 1) (z 2)))

theorem mom_eq : val_main_v15 (F := Ideal) x0 x2 x4 x5 z = mom (x2 z) (grad x4 x5 p z) := by
  rw [← grad_eq x0 x4 x5 p hp]
  simp only [val_main_v15_apply, val_main_v12_apply, val_main_v14_apply, val_main_v11_apply, val_main_v13_apply]
  rfl

theorem sec_eq : val_main_v21 (F := Ideal) x0 x3 x4 x5 z = sec (x3 z) (grad x4 x5 p z) := by
  rw [← grad_eq x0 x4 x5 p hp]
  simp only [val_main_v21_apply, val_main_v17_apply, val_main_v20_apply, val_main_v16_apply, val_main_v19_apply, val_main_v18_apply]
  rfl

theorem step_eq : val_main_v34 (F := Ideal) x0 x1 x2 x3 x4 x5 z
    = step (x1 z) (mom (x2 z) (grad x4 x5 p z)) (sec (x3 z) (grad x4 x5 p z)) := by
  rw [← mom_eq x0 x2 x4 x5 p hp, ← sec_eq x0 x3 x4 x5 p hp]
  simp only [val_main_v34_apply, val_main_v33_apply, val_main_v32_apply, val_main_v29_apply, val_main_v23_apply, val_main_v22_apply,
    val_main_v28_apply, val_main_v26_apply, val_main_v25_apply, val_main_v24_apply, val_main_v27_apply, val_main_v31_apply, val_main_v30_apply]
  rfl

end Cert.AdamKvReferenceIdeal.Read

namespace Cert.Proof

/-- The shape relations the precondition's operations take. -/
theorem facts_placed_kv : Pre_placed_kv.Facts := ⟨by decide⟩

/-- The kernel ends with its arguments unchanged. -/
theorem frame_AdamKv : quiescent_AdamKvKernel (hAdamKvKernel := AdamKvKernel.Gen.facts) (hPre_placed_kv := facts_placed_kv) := fun m ρ h =>
  have ⟨p, hp⟩ := placed (tbl := Cert.AdamKvKernel.Gen.tbl m 0) fun j => place _ (congrFun (h 0) j)
  AdamKvKernel.Gen.frame m ρ (AdamKvKernel.Blocks.ok m p hp)

theorem frame_AdamKvIdeal : quiescent_AdamKvKernelIdeal (hAdamKvKernelIdeal := AdamKvKernelIdeal.Gen.facts) (hPre_placed_kv := facts_placed_kv) := fun m ρ h =>
  have ⟨p, hp⟩ := placed (tbl := AdamKvKernelIdeal.Gen.tbl m 0) fun j => place _ (congrFun (h 0) j)
  AdamKvKernelIdeal.Gen.frame m ρ (AdamKvKernelIdeal.Blocks.ok m p hp)

/-- The reference is a straight-line host program that declares no semaphore. -/
theorem frame_AdamKvReference : quiescent_AdamKvReferenceIdeal (hAdamKvReferenceIdeal := AdamKvReferenceIdeal.Gen.facts) :=
  fun m ρ _ => (θ_run (AdamKvReferenceIdeal.defs (F := Ideal)) _ _).mono
    (fun r h => ⟨fun c => (h c).2.2.2.2, funext fun sm => nomatch sm.2⟩)
    (AdamKvReferenceIdeal.Value.run (F := Ideal) m ρ)

open AdamKvKernelIdeal.Gen AdamKvKernelIdeal.Blocks AdamKvReferenceIdeal.Read in
/-- Kernel and reference leave equal arrays: the optimiser's step of one sharded weight. -/
theorem algebraic_AdamKv : algebraic_AdamKvKernelIdeal_AdamKvReferenceIdeal (hAdamKvKernelIdeal := AdamKvKernelIdeal.Gen.facts)
    (hAdamKvReferenceIdeal := AdamKvReferenceIdeal.Gen.facts) (hPre_placed_kv := facts_placed_kv) := by
  intro m g m' g' h hargs
  obtain ⟨p, hp⟩ := placed (tbl := tbl m 0) fun j => place _ (congrFun (h 0) j)
  have hO := ok m p hp
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · exact (θ_run (AdamKvKernelIdeal.defs (F := Ideal)) _ _).mono
      (fun r h c => ⟨(h.1 c).1 5, (h.1 c).1 6, (h.1 c).1 7, (h.1 c).1 8, h.2 c⟩)
      (θ_run_and (run_main m g hO) (unchanged m g hO))
  · refine (θ_run (AdamKvReferenceIdeal.defs (F := Ideal)) _ _).mono (fun r h c => ?_)
      (AdamKvReferenceIdeal.Value.run (F := Ideal) m' g')
    obtain rfl : c = 0 := Subsingleton.elim _ _
    obtain ⟨r0, r1, r2, r3, ha⟩ := h 0
    obtain ⟨e0, e1, e2, e3, e4, e5⟩ := hargs 0
    refine ⟨r0.trans ?_, r1.trans ?_, r2.trans ?_, r3.trans ?_, ha⟩
    · rw [val_main_v10_eq, e0, e4, e5]
      exact (funext (grad_eq _ _ _ p hp)).trans (arr5 m hO 0 p hp).symm
    · rw [val_main_v34_eq, e0, e1, e2, e3, e4, e5]
      exact (funext (step_eq _ _ _ _ _ _ p hp)).trans (arr6 m hO 0 p hp).symm
    · rw [val_main_v15_eq, e0, e2, e4, e5]
      exact (funext (mom_eq _ _ _ _ p hp)).trans (arr7 m hO 0 p hp).symm
    · rw [val_main_v21_eq, e0, e3, e4, e5]
      exact (funext (sec_eq _ _ _ _ p hp)).trans (arr8 m hO 0 p hp).symm

end Cert.Proof
-- ==== Proof.AdamFo.lean ====
/- The optimiser's call for the two layers' shards [2, 352, 1024]: what it leaves in its four result arrays, what the reference computes,
   and that the two are equal when the device's place is one of eight. -/
module
public import proofs.«01_k».proof.Proof.Gen.AdamFoKernelIdeal.Frame
public import proofs.«01_k».proof.Proof.Gen.AdamFoKernel.Frame
public import proofs.«01_k».proof.Proof.Gen.AdamFoReferenceIdeal.Read
public import proofs.«01_k».proof.Defs
public import proofs.«01_k».proof.Proof.AdamMath
public import Idealize.ShloMosaic.PureOps.Ideal.Laws
@[expose] public section
set_option maxRecDepth 16384
noncomputable section
open Idealize.ShloMosaic Idealize.ShloMosaic.TcCoe Idealize.SL.Sem Cert.Adam

namespace Cert.AdamFoKernel.Blocks
open Gen

/-- The table that holds one word. -/
def word (x : BitVec 32) : pre0.Contents (Elt Bits) := fun j => match j with | ⟨0, _⟩ => fun _ => x

theorem ok_word : ∀ p : Fin 8, ok0 (word (BitVec.ofNat 32 p.val)) := by decide +kernel

theorem ok (m : (ℓ : Loc nD τ sig) → Buf (Elt Bits) ℓ) (p : Fin 8) (hp : ∀ j, tbl m 0 j = BitVec.ofNat 32 p.val) : Ok m :=
  show ok0 (tbl m) from (funext fun a => match a with | ⟨0, _⟩ => funext hp : tbl m = word _) ▸ ok_word p

end Cert.AdamFoKernel.Blocks

namespace Cert.AdamFoKernelIdeal.Blocks
open Gen
variable (m : (ℓ : Loc nD τ sig) → Buf (Elt Ideal) ℓ) (hO : Ok m) (c : Dev nD) (p : Fin 8) (hp : ∀ j, tbl m 0 j = BitVec.ofNat 32 p.val)

/-- The table that holds one word. -/
def word (x : BitVec 32) : pre0.Contents (Elt Ideal) := fun j => match j with | ⟨0, _⟩ => fun _ => x

theorem ok_word : ∀ p : Fin 8, ok0 (word (BitVec.ofNat 32 p.val)) := by decide +kernel

include hp in
theorem tbl_eq : tbl m = word (BitVec.ofNat 32 p.val) := funext fun a => match a with | ⟨0, _⟩ => funext hp

include hp in
theorem ok : Ok m := show ok0 (tbl m) from tbl_eq m p hp ▸ ok_word p

theorem cov : Cov grid0 S2x352x1024.size S1x176x1024.size cc0_transform_7 := by decide +kernel

/-- The gradient of a block: the device's own part and the seven received ones. -/
def gsum (o : S1x176x1024.Idx → EReal) (r : S7x176x1024.Idx → EReal) (y : S1x176x1024.Idx) : EReal := o y + ∑ k : Fin 7, r (ix3 k (y 1) (y 2))

section
variable {i a0 h0 a1 h1 a2 h2 a3 h3 a4 h4 a5 h5 a6 h6 a7 h7 a8 h8 a9 h9 a10 h10 hc hd x0 x1 x2 x3 x4 x5 x6 xt} (y : S1x176x1024.Idx)

/-- The first layer's blocks. -/
theorem outA : out0_A_7 (F := Ideal) c i a0 h0 a1 h1 a2 h2 a3 h3 a4 h4 a5 h5 a6 h6 a7 h7 a8 h8 a9 h9 a10 h10 hc hd x0 x1 x2 x3 x4 x5 x6 xt y = gsum x3 x4 y
    ∧ out0_A_8 (F := Ideal) c i a0 h0 a1 h1 a2 h2 a3 h3 a4 h4 a5 h5 a6 h6 a7 h7 a8 h8 a9 h9 a10 h10 hc hd x0 x1 x2 x3 x4 x5 x6 xt y
      = step (x0 y) (mom (x1 y) (gsum x3 x4 y)) (sec (x2 y) (gsum x3 x4 y))
    ∧ out0_A_9 (F := Ideal) c i a0 h0 a1 h1 a2 h2 a3 h3 a4 h4 a5 h5 a6 h6 a7 h7 a8 h8 a9 h9 a10 h10 hc hd x0 x1 x2 x3 x4 x5 x6 xt y = mom (x1 y) (gsum x3 x4 y)
    ∧ out0_A_10 (F := Ideal) c i a0 h0 a1 h1 a2 h2 a3 h3 a4 h4 a5 h5 a6 h6 a7 h7 a8 h8 a9 h9 a10 h10 hc hd x0 x1 x2 x3 x4 x5 x6 xt y = sec (x2 y) (gsum x3 x4 y) := by
  refine ⟨?_, ?_, ?_, ?_⟩ <;> frame_out <;> pointwise [k0_pay1, k0_pay2, k0_pay5, k0_pay6, k0_pay7, k0_pay8, k0_pay9, k0_pay10] <;>
    simp only [gsum, Fin.sum_univ_seven, ← add_assoc] <;> rfl

/-- The second layer's blocks. -/
theorem outB : out0_B_7 (F := Ideal) c i a0 h0 a1 h1 a2 h2 a3 h3 a4 h4 a5 h5 a6 h6 a7 h7 a8 h8 a9 h9 a10 h10 hc hd x0 x1 x2 x3 x4 x5 x6 xt y = gsum x5 x6 y
    ∧ out0_B_8 (F := Ideal) c i a0 h0 a1 h1 a2 h2 a3 h3 a4 h4 a5 h5 a6 h6 a7 h7 a8 h8 a9 h9 a10 h10 hc hd x0 x1 x2 x3 x4 x5 x6 xt y
      = step (x0 y) (mom (x1 y) (gsum x5 x6 y)) (sec (x2 y) (gsum x5 x6 y))
    ∧ out0_B_9 (F := Ideal) c i a0 h0 a1 h1 a2 h2 a3 h3 a4 h4 a5 h5 a6 h6 a7 h7 a8 h8 a9 h9 a10 h10 hc hd x0 x1 x2 x3 x4 x5 x6 xt y = mom (x1 y) (gsum x5 x6 y)
    ∧ out0_B_10 (F := Ideal) c i a0 h0 a1 h1 a2 h2 a3 h3 a4 h4 a5 h5 a6 h6 a7 h7 a8 h8 a9 h9 a10 h10 hc hd x0 x1 x2 x3 x4 x5 x6 xt y = sec (x2 y) (gsum x5 x6 y) := by
  refine ⟨?_, ?_, ?_, ?_⟩ <;> frame_out <;> pointwise [k0_pay3, k0_pay4, k0_pay11, k0_pay12, k0_pay13, k0_pay14, k0_pay15, k0_pay16] <;>
    simp only [gsum, Fin.sum_univ_seven, ← add_assoc] <;> rfl
end

/-- Where a point's block of results lies in the arrays. -/
abbrev pos (t : Fin (cfgM m hO).N) (y : S1x176x1024.Idx) : S2x352x1024.Idx := (((cfgM m hO).win 7).blk t).view.emb y

/-- The two layers' gradients. -/
def grad (z : S2x352x1024.Idx) : EReal := two (m (c.tc.loc main_arg4)) (m (c.tc.loc main_arg5)) (m (c.tc.loc main_arg6)) (m (c.tc.loc main_arg7)) p (z 0) (z 1) (z 2)

theorem rows : ∀ t : Fin grid0.N, cc0_transform_7 (grid0.coords t) 2 = 0 ∧ cc0_transform_7 (grid0.coords t) 0 = (if t.val < 2 then 0 else 1)
    ∧ (t.val < 2 → cc0_transform_4 (grid0.coords t) = ![0, cc0_transform_7 (grid0.coords t) 1, 0])
    ∧ (¬t.val < 2 → cc0_transform_6 (grid0.coords t) = ![0, cc0_transform_7 (grid0.coords t) 1, 0]) := by decide +kernel

theorem mine_word : ∀ (p : Fin 8) (t : Fin grid0.N),
    (t.val < 2 → cc0_transform_3 inb_S1_S1_0 numel1_S1 (word (BitVec.ofNat 32 p.val)) (grid0.coords t) = ![p.val, cc0_transform_7 (grid0.coords t) 1, 0])
    ∧ (¬t.val < 2 → cc0_transform_5 inb_S1_S1_0 numel1_S1 (word (BitVec.ofNat 32 p.val)) (grid0.coords t)
      = ![p.val, cc0_transform_7 (grid0.coords t) 1, 0]) := by decide +kernel

include hp in
theorem mine (t : Fin grid0.N) :
    (t.val < 2 → cc0_transform_3 inb_S1_S1_0 numel1_S1 (tbl m) (grid0.coords t) = ![p.val, cc0_transform_7 (grid0.coords t) 1, 0])
    ∧ (¬t.val < 2 → cc0_transform_5 inb_S1_S1_0 numel1_S1 (tbl m) (grid0.coords t) = ![p.val, cc0_transform_7 (grid0.coords t) 1, 0]) :=
  tbl_eq m p hp ▸ mine_word p t

theorem key (t) (y : S1x176x1024.Idx) {T : Fin 3 → Nat} (h : T = ![p.val, cc0_transform_7 (grid0.coords t) 1, 0]) (a : Fin 3) :
    T a * S1x176x1024.size a + 1 * (y a).val = ((ix3 p (pos m hO t y 1) (pos m hO t y 2) : S8x352x1024.Idx) a).val := by
  subst h
  match a with
  | 0 => show p.val * 1 + 1 * (y 0).val = p.val; have : (y 0).val < 1 := (y 0).isLt; omega
  | 1 => rfl
  | 2 => show _ = cc0_transform_7 (grid0.coords t) 2 * 1024 + 1 * (y 2).val; rw [(rows t).1]; rfl

theorem keyr (t) (k : Fin 7) (y : S1x176x1024.Idx) {T : Fin 3 → Nat} (h : T = ![0, cc0_transform_7 (grid0.coords t) 1, 0]) (a : Fin 3) :
    T a * S7x176x1024.size a + 1 * ((ix3 k (y 1) (y 2) : S7x176x1024.Idx) a).val = ((ix3 k (pos m hO t y 1) (pos m hO t y 2) : S7x352x1024.Idx) a).val := by
  subst h
  match a with
  | 0 => show 0 * 7 + 1 * k.val = k.val; omega
  | 1 => rfl
  | 2 => show _ = cc0_transform_7 (grid0.coords t) 2 * 1024 + 1 * (y 2).val; rw [(rows t).1]; rfl

theorem layer (t) (y : S1x176x1024.Idx) : (pos m hO t y 0).val = if t.val < 2 then 0 else 1 := by
  show cc0_transform_7 (grid0.coords t) 0 * 1 + 1 * (y 0).val = _
  have : (y 0).val < 1 := (y 0).isLt
  rw [(rows t).2.1]; omega

include hp

theorem gsumA (t : Fin (cfgM m hO).N) (ht : t.val < 2) (y) : gsum (iblk m hO c 3 t) (iblk m hO c 4 t) y = grad m c p (pos m hO t y) := by
  refine Eq.trans ?_ (if_pos ((layer m hO t y).trans (if_pos ht))).symm
  exact congrArg₂ (· + ·) (congrArg (m (c.tc.loc main_arg4)) (funext fun a => Fin.ext (key m hO p t y ((mine m p hp t).1 ht) a)))
    (Finset.sum_congr rfl fun k _ => congrArg (m (c.tc.loc main_arg5)) (funext fun a => Fin.ext (keyr m hO t k y ((rows t).2.2.1 ht) a)))

theorem gsumB (t : Fin (cfgM m hO).N) (ht : ¬t.val < 2) (y) : gsum (iblk m hO c 5 t) (iblk m hO c 6 t) y = grad m c p (pos m hO t y) := by
  refine Eq.trans ?_ (if_neg (by rw [layer, if_neg ht]; decide)).symm
  exact congrArg₂ (· + ·) (congrArg (m (c.tc.loc main_arg6)) (funext fun a => Fin.ext (key m hO p t y ((mine m p hp t).2 ht) a)))
    (Finset.sum_congr rfl fun k _ => congrArg (m (c.tc.loc main_arg7)) (funext fun a => Fin.ext (keyr m hO t k y ((rows t).2.2.2 ht) a)))

/-- Every point's blocks, in the arrays' terms. -/
theorem outs (t : Fin (cfgM m hO).N) (y : S1x176x1024.Idx) : let o := outsAt0 m hO c t.val t.isLt; let z := pos m hO t y
    o.1 y = grad m c p z
    ∧ o.2.1 y = step (m (c.tc.loc main_arg1) z) (mom (m (c.tc.loc main_arg2) z) (grad m c p z)) (sec (m (c.tc.loc main_arg3) z) (grad m c p z))
    ∧ o.2.2.1 y = mom (m (c.tc.loc main_arg2) z) (grad m c p z) ∧ o.2.2.2 y = sec (m (c.tc.loc main_arg3) z) (grad m c p z) := by
  dsimp only
  by_cases ht : t.val < 2
  · have g := gsumA m hO c p hp t ht y
    rw [outsAt0_A m hO c t ht (by omega)]
    dsimp only
    refine ⟨(outA c y).1.trans g, (outA c y).2.1.trans ?_, (outA c y).2.2.1.trans ?_, (outA c y).2.2.2.trans ?_⟩ <;> rw [g] <;> rfl
  · have g := gsumB m hO c p hp t ht y
    rw [outsAt0_B m hO c t ht (by omega)]
    dsimp only
    refine ⟨(outB c y).1.trans g, (outB c y).2.1.trans ?_, (outB c y).2.2.1.trans ?_, (outB c y).2.2.2.trans ?_⟩ <;> rw [g] <;> rfl

theorem arr7 : (dats m hO 0 c).arrAt 7 (cfgM m hO).N = grad m c p := by
  refine (dats m hO 0 c).arrAt_eq_of_covers 7 _ cov fun t hf y => ?_
  blk_simp
  rw [after0_7]
  exact (outs m hO c p hp t y).1

theorem arr8 : (dats m hO 0 c).arrAt 8 (cfgM m hO).N = fun z =>
    step (m (c.tc.loc main_arg1) z) (mom (m (c.tc.loc main_arg2) z) (grad m c p z)) (sec (m (c.tc.loc main_arg3) z) (grad m c p z)) := by
  refine (dats m hO 0 c).arrAt_eq_of_covers 8 _ cov fun t hf y => ?_
  blk_simp
  rw [after0_8]
  exact (outs m hO c p hp t y).2.1

theorem arr9 : (dats m hO 0 c).arrAt 9 (cfgM m hO).N = fun z => mom (m (c.tc.loc main_arg2) z) (grad m c p z) := by
  refine (dats m hO 0 c).arrAt_eq_of_covers 9 _ cov fun t hf y => ?_
  blk_simp
  rw [after0_9]
  exact (outs m hO c p hp t y).2.2.1

theorem arr10 : (dats m hO 0 c).arrAt 10 (cfgM m hO).N = fun z => sec (m (c.tc.loc main_arg3) z) (grad m c p z) := by
  refine (dats m hO 0 c).arrAt_eq_of_covers 10 _ cov fun t hf y => ?_
  blk_simp
  rw [after0_10]
  exact (outs m hO c p hp t y).2.2.2

end Cert.AdamFoKernelIdeal.Blocks

namespace Cert.AdamFoReferenceIdeal.Read
variable (x0 : (⟨S1, .i32⟩ : BufTy).Contents (Elt Ideal)) (x1 x2 x3 : (⟨S2x352x1024, .f32⟩ : BufTy).Contents (Elt Ideal))
  (x4 : (⟨S8x352x1024, .bf16⟩ : BufTy).Contents (Elt Ideal)) (x5 : (⟨S7x352x1024, .bf16⟩ : BufTy).Contents (Elt Ideal))
  (x6 : (⟨S8x352x1024, .bf16⟩ : BufTy).Contents (Elt Ideal)) (x7 : (⟨S7x352x1024, .bf16⟩ : BufTy).Contents (Elt Ideal)) (p : Fin 8)

/-- The two layers' gradients. -/
def grad (z : S2x352x1024.Idx) : EReal := two x4 x5 x6 x7 p (z 0) (z 1) (z 2)

variable (hp : ∀ j, x0 j = BitVec.ofNat 32 p.val) (z : S2x352x1024.Idx)
include hp

theorem part_eq (y : S352x1024.Idx) : val_main_v9 (F := Ideal) x0 x4 x5 y = part x4 x5 p (y 0) (y 1) := by
  rw [val_main_v9_apply, val_main_v6_apply, val_main_v8_apply]
  simp only [val_main_v5_apply, val_main_call0_v1_apply, val_main_v3_apply, val_main_v2_apply, val_main_v0_apply, val_main_v1_apply, hp,
    val_main_v4_apply, val_main_v7_apply]
  have e6 : ∀ k : Fin 8, idx_main_v6 y k = ix3 k (y 0) (y 1) := fun k => eq_ix3 _
  have e8 : ∀ k : Fin 7, idx_main_v8 y k = ix3 k (y 0) (y 1) := fun k => eq_ix3 _
  simp only [val_main_call0_v2_apply, val_main_call0_v0_apply, val_main_cst_apply, val_main_cst_0_apply, val_main_cst_1_apply,
    Ideal.ofBits_def, zero32, Ideal.extf_def, Ideal.addf_def, zero_add]
  simp only [e6, e8]
  exact congrArg (· + _) (pick p fun k => x4 (ix3 k (y 0) (y 1)))

theorem grad_eq : val_main_v22 (F := Ideal) x0 x4 x5 x6 x7 z = grad x4 x5 x6 x7 p z := by
  by_cases hz : (z 0).val = 0
  · refine (concatenate_pair_apply_left 0 (val_main_v20 (F := Ideal) x0 x4 x5) (val_main_v21 x0 x6 x7) _ z rfl (ix3 0 (z 1) (z 2)) fun b => match b with | 0 => hz.symm | 1 => rfl | 2 => rfl).trans ?_
    rw [val_main_v20_apply, part_eq x0 x4 x5 p hp]
    exact (if_pos hz).symm
  · refine (concatenate_pair_apply_right 0 (val_main_v20 (F := Ideal) x0 x4 x5) (val_main_v21 x0 x6 x7) _ z rfl rfl (ix3 0 (z 1) (z 2)) (fun b hb => match b with | 0 => absurd rfl hb | 1 => rfl | 2 => rfl) ?_).trans ?_
    · show 0 + 1 = (z 0).val
      have : (z 0).val < 2 := (z 0).isLt
      omega
    rw [val_main_v21_apply, show val_main_v19 (F := Ideal) x0 x6 x7 = val_main_v9 x0 x6 x7 from rfl, part_eq x0 x6 x7 p hp]
    exact (if_neg hz).symm

theorem mom_eq : val_main_v27 (F := Ideal) x0 x2 x4 x5 x6 x7 z = mom (x2 z) (grad x4 x5 x6 x7 p z) := by
  rw [← grad_eq x0 x4 x5 x6 x7 p hp]
  simp only [val_main_v27_apply, val_main_v24_apply, val_main_v26_apply, val_main_v23_apply, val_main_v25_apply]
  rfl

theorem sec_eq : val_main_v33 (F := Ideal) x0 x3 x4 x5 x6 x7 z = sec (x3 z) (grad x4 x5 x6 x7 p z) := by
  rw [← grad_eq x0 x4 x5 x6 x7 p hp]
  simp only [val_main_v33_apply, val_main_v29_apply, val_main_v32_apply, val_main_v28_apply, val_main_v31_apply, val_main_v30_apply]
  rfl

theorem step_eq : val_main_v46 (F := Ideal) x0 x1 x2 x3 x4 x5 x6 x7 z
    = step (x1 z) (mom (x2 z) (grad x4 x5 x6 x7 p z)) (sec (x3 z) (grad x4 x5 x6 x7 p z)) := by
  rw [← mom_eq x0 x2 x4 x5 x6 x7 p hp, ← sec_eq x0 x3 x4 x5 x6 x7 p hp]
  simp only [val_main_v46_apply, val_main_v45_apply, val_main_v44_apply, val_main_v41_apply, val_main_v35_apply, val_main_v34_apply,
    val_main_v40_apply, val_main_v38_apply, val_main_v37_apply, val_main_v36_apply, val_main_v39_apply, val_main_v43_apply, val_main_v42_apply]
  rfl

end Cert.AdamFoReferenceIdeal.Read

namespace Cert.Proof

/-- The shape relations the precondition's operations take. -/
theorem facts_placed_fo : Pre_placed_fo.Facts := ⟨by decide⟩

/-- The kernel ends with its arguments unchanged. -/
theorem frame_AdamFo : quiescent_AdamFoKernel (hAdamFoKernel := AdamFoKernel.Gen.facts) (hPre_placed_fo := facts_placed_fo) := fun m ρ h =>
  have ⟨p, hp⟩ := placed (tbl := AdamFoKernel.Gen.tbl m 0) fun j => place _ (congrFun (h 0) j)
  AdamFoKernel.Gen.frame m ρ (AdamFoKernel.Blocks.ok m p hp)

theorem frame_AdamFoIdeal : quiescent_AdamFoKernelIdeal (hAdamFoKernelIdeal := AdamFoKernelIdeal.Gen.facts) (hPre_placed_fo := facts_placed_fo) := fun m ρ h =>
  have ⟨p, hp⟩ := placed (tbl := AdamFoKernelIdeal.Gen.tbl m 0) fun j => place _ (congrFun (h 0) j)
  AdamFoKernelIdeal.Gen.frame m ρ (AdamFoKernelIdeal.Blocks.ok m p hp)

/-- The reference is a straight-line host program that declares no semaphore. -/
theorem frame_AdamFoReference : quiescent_AdamFoReferenceIdeal (hAdamFoReferenceIdeal := AdamFoReferenceIdeal.Gen.facts) :=
  fun m ρ _ => (θ_run (AdamFoReferenceIdeal.defs (F := Ideal)) _ _).mono
    (fun r h => ⟨fun c => (h c).2.2.2.2, funext fun sm => nomatch sm.2⟩)
    (AdamFoReferenceIdeal.Value.run (F := Ideal) m ρ)

open AdamFoKernelIdeal.Gen AdamFoKernelIdeal.Blocks AdamFoReferenceIdeal.Read in
/-- Kernel and reference leave equal arrays: the optimiser's step of a weight sharded over the devices, in both layers. -/
theorem algebraic_AdamFo : algebraic_AdamFoKernelIdeal_AdamFoReferenceIdeal (hAdamFoKernelIdeal := AdamFoKernelIdeal.Gen.facts)
    (hAdamFoReferenceIdeal := AdamFoReferenceIdeal.Gen.facts) (hPre_placed_fo := facts_placed_fo) := by
  intro m g m' g' h hargs
  obtain ⟨p, hp⟩ := placed (tbl := tbl m 0) fun j => place _ (congrFun (h 0) j)
  have hO := ok m p hp
  refine ⟨fun c => (dats m hO 0 c).arrAt 7 (cfgM m hO).N, fun c => (dats m hO 0 c).arrAt 8 (cfgM m hO).N,
    fun c => (dats m hO 0 c).arrAt 9 (cfgM m hO).N, fun c => (dats m hO 0 c).arrAt 10 (cfgM m hO).N, ?_, ?_⟩
  · exact (θ_run (AdamFoKernelIdeal.defs (F := Ideal)) _ _).mono
      (fun r h c => ⟨(h.1 c).1 7, (h.1 c).1 8, (h.1 c).1 9, (h.1 c).1 10, h.2 c⟩)
      (θ_run_and (run_main m g hO) (unchanged m g hO))
  · refine (θ_run (AdamFoReferenceIdeal.defs (F := Ideal)) _ _).mono (fun r h c => ?_)
      (AdamFoReferenceIdeal.Value.run (F := Ideal) m' g')
    obtain rfl : c = 0 := Subsingleton.elim _ _
    obtain ⟨r0, r1, r2, r3, ha⟩ := h 0
    obtain ⟨e0, e1, e2, e3, e4, e5, e6, e7⟩ := hargs 0
    refine ⟨r0.trans ?_, r1.trans ?_, r2.trans ?_, r3.trans ?_, ha⟩
    · rw [val_main_v22_eq, e0, e4, e5, e6, e7]
      exact (funext (grad_eq _ _ _ _ _ p hp)).trans (arr7 m hO 0 p hp).symm
    · rw [val_main_v46_eq, e0, e1, e2, e3, e4, e5, e6, e7]
      exact (funext (step_eq _ _ _ _ _ _ _ _ p hp)).trans (arr8 m hO 0 p hp).symm
    · rw [val_main_v27_eq, e0, e2, e4, e5, e6, e7]
      exact (funext (mom_eq _ _ _ _ _ _ p hp)).trans (arr9 m hO 0 p hp).symm
    · rw [val_main_v33_eq, e0, e3, e4, e5, e6, e7]
      exact (funext (sec_eq _ _ _ _ _ _ p hp)).trans (arr10 m hO 0 p hp).symm

end Cert.Proof
-- ==== Proof.AdamFi.lean ====
/- The optimiser's call for the two layers' shards [2, 704, 1024]: what it leaves in its four result arrays, what the reference computes,
   and that the two are equal when the device's place is one of eight. -/
module
public import proofs.«01_k».proof.Proof.Gen.AdamFiKernelIdeal.Frame
public import proofs.«01_k».proof.Proof.Gen.AdamFiKernel.Frame
public import proofs.«01_k».proof.Proof.Gen.AdamFiReferenceIdeal.Read
public import proofs.«01_k».proof.Defs
public import proofs.«01_k».proof.Proof.AdamMath
public import Idealize.ShloMosaic.PureOps.Ideal.Laws
@[expose] public section
set_option maxRecDepth 16384
noncomputable section
open Idealize.ShloMosaic Idealize.ShloMosaic.TcCoe Idealize.SL.Sem Cert.Adam

namespace Cert.AdamFiKernel.Blocks
open Gen

/-- The table that holds one word. -/
def word (x : BitVec 32) : pre0.Contents (Elt Bits) := fun j => match j with | ⟨0, _⟩ => fun _ => x

theorem ok_word : ∀ p : Fin 8, ok0 (word (BitVec.ofNat 32 p.val)) := by decide +kernel

theorem ok (m : (ℓ : Loc nD τ sig) → Buf (Elt Bits) ℓ) (p : Fin 8) (hp : ∀ j, tbl m 0 j = BitVec.ofNat 32 p.val) : Ok m :=
  show ok0 (tbl m) from (funext fun a => match a with | ⟨0, _⟩ => funext hp : tbl m = word _) ▸ ok_word p

end Cert.AdamFiKernel.Blocks

namespace Cert.AdamFiKernelIdeal.Blocks
open Gen
variable (m : (ℓ : Loc nD τ sig) → Buf (Elt Ideal) ℓ) (hO : Ok m) (c : Dev nD) (p : Fin 8) (hp : ∀ j, tbl m 0 j = BitVec.ofNat 32 p.val)

/-- The table that holds one word. -/
def word (x : BitVec 32) : pre0.Contents (Elt Ideal) := fun j => match j with | ⟨0, _⟩ => fun _ => x

theorem ok_word : ∀ p : Fin 8, ok0 (word (BitVec.ofNat 32 p.val)) := by decide +kernel

include hp in
theorem tbl_eq : tbl m = word (BitVec.ofNat 32 p.val) := funext fun a => match a with | ⟨0, _⟩ => funext hp

include hp in
theorem ok : Ok m := show ok0 (tbl m) from tbl_eq m p hp ▸ ok_word p

theorem cov : Cov grid0 S2x704x1024.size S1x176x1024.size cc0_transform_7 := by decide +kernel

/-- The gradient of a block: the device's own part and the seven received ones. -/
def gsum (o : S1x176x1024.Idx → EReal) (r : S7x176x1024.Idx → EReal) (y : S1x176x1024.Idx) : EReal := o y + ∑ k : Fin 7, r (ix3 k (y 1) (y 2))

section
variable {i a0 h0 a1 h1 a2 h2 a3 h3 a4 h4 a5 h5 a6 h6 a7 h7 a8 h8 a9 h9 a10 h10 hc hd x0 x1 x2 x3 x4 x5 x6 xt} (y : S1x176x1024.Idx)

/-- The first layer's blocks. -/
theorem outA : out0_A_7 (F := Ideal) c i a0 h0 a1 h1 a2 h2 a3 h3 a4 h4 a5 h5 a6 h6 a7 h7 a8 h8 a9 h9 a10 h10 hc hd x0 x1 x2 x3 x4 x5 x6 xt y = gsum x3 x4 y
    ∧ out0_A_8 (F := Ideal) c i a0 h0 a1 h1 a2 h2 a3 h3 a4 h4 a5 h5 a6 h6 a7 h7 a8 h8 a9 h9 a10 h10 hc hd x0 x1 x2 x3 x4 x5 x6 xt y
      = step (x0 y) (mom (x1 y) (gsum x3 x4 y)) (sec (x2 y) (gsum x3 x4 y))
    ∧ out0_A_9 (F := Ideal) c i a0 h0 a1 h1 a2 h2 a3 h3 a4 h4 a5 h5 a6 h6 a7 h7 a8 h8 a9 h9 a10 h10 hc hd x0 x1 x2 x3 x4 x5 x6 xt y = mom (x1 y) (gsum x3 x4 y)
    ∧ out0_A_10 (F := Ideal) c i a0 h0 a1 h1 a2 h2 a3 h3 a4 h4 a5 h5 a6 h6 a7 h7 a8 h8 a9 h9 a10 h10 hc hd x0 x1 x2 x3 x4 x5 x6 xt y = sec (x2 y) (gsum x3 x4 y) := by
  refine ⟨?_, ?_, ?_, ?_⟩ <;> frame_out <;> pointwise [k0_pay1, k0_pay2, k0_pay5, k0_pay6, k0_pay7, k0_pay8, k0_pay9, k0_pay10] <;>
    simp only [gsum, Fin.sum_univ_seven, ← add_assoc] <;> rfl

/-- The second layer's blocks. -/
theorem outB : out0_B_7 (F := Ideal) c i a0 h0 a1 h1 a2 h2 a3 h3 a4 h4 a5 h5 a6 h6 a7 h7 a8 h8 a9 h9 a10 h10 hc hd x0 x1 x2 x3 x4 x5 x6 xt y = gsum x5 x6 y
    ∧ out0_B_8 (F := Ideal) c i a0 h0 a1 h1 a2 h2 a3 h3 a4 h4 a5 h5 a6 h6 a7 h7 a8 h8 a9 h9 a10 h10 hc hd x0 x1 x2 x3 x4 x5 x6 xt y
      = step (x0 y) (mom (x1 y) (gsum x5 x6 y)) (sec (x2 y) (gsum x5 x6 y))
    ∧ out0_B_9 (F := Ideal) c i a0 h0 a1 h1 a2 h2 a3 h3 a4 h4 a5 h5 a6 h6 a7 h7 a8 h8 a9 h9 a10 h10 hc hd x0 x1 x2 x3 x4 x5 x6 xt y = mom (x1 y) (gsum x5 x6 y)
    ∧ out0_B_10 (F := Ideal) c i a0 h0 a1 h1 a2 h2 a3 h3 a4 h4 a5 h5 a6 h6 a7 h7 a8 h8 a9 h9 a10 h10 hc hd x0 x1 x2 x3 x4 x5 x6 xt y = sec (x2 y) (gsum x5 x6 y) := by
  refine ⟨?_, ?_, ?_, ?_⟩ <;> frame_out <;> pointwise [k0_pay3, k0_pay4, k0_pay11, k0_pay12, k0_pay13, k0_pay14, k0_pay15, k0_pay16] <;>
    simp only [gsum, Fin.sum_univ_seven, ← add_assoc] <;> rfl
end

/-- Where a point's block of results lies in the arrays. -/
abbrev pos (t : Fin (cfgM m hO).N) (y : S1x176x1024.Idx) : S2x704x1024.Idx := (((cfgM m hO).win 7).blk t).view.emb y

/-- The two layers' gradients. -/
def grad (z : S2x704x1024.Idx) : EReal := two (m (c.tc.loc main_arg4)) (m (c.tc.loc main_arg5)) (m (c.tc.loc main_arg6)) (m (c.tc.loc main_arg7)) p (z 0) (z 1) (z 2)

theorem rows : ∀ t : Fin grid0.N, cc0_transform_7 (grid0.coords t) 2 = 0 ∧ cc0_transform_7 (grid0.coords t) 0 = (if t.val < 4 then 0 else 1)
    ∧ (t.val < 4 → cc0_transform_4 (grid0.coords t) = ![0, cc0_transform_7 (grid0.coords t) 1, 0])
    ∧ (¬t.val < 4 → cc0_transform_6 (grid0.coords t) = ![0, cc0_transform_7 (grid0.coords t) 1, 0]) := by decide +kernel

theorem mine_word : ∀ (p : Fin 8) (t : Fin grid0.N),
    (t.val < 4 → cc0_transform_3 inb_S1_S1_0 numel1_S1 (word (BitVec.ofNat 32 p.val)) (grid0.coords t) = ![p.val, cc0_transform_7 (grid0.coords t) 1, 0])
    ∧ (¬t.val < 4 → cc0_transform_5 inb_S1_S1_0 numel1_S1 (word (BitVec.ofNat 32 p.val)) (grid0.coords t)
      = ![p.val, cc0_transform_7 (grid0.coords t) 1, 0]) := by decide +kernel

include hp in
theorem mine (t : Fin grid0.N) :
    (t.val < 4 → cc0_transform_3 inb_S1_S1_0 numel1_S1 (tbl m) (grid0.coords t) = ![p.val, cc0_transform_7 (grid0.coords t) 1, 0])
    ∧ (¬t.val < 4 → cc0_transform_5 inb_S1_S1_0 numel1_S1 (tbl m) (grid0.coords t) = ![p.val, cc0_transform_7 (grid0.coords t) 1, 0]) :=
  tbl_eq m p hp ▸ mine_word p t

theorem key (t) (y : S1x176x1024.Idx) {T : Fin 3 → Nat} (h : T = ![p.val, cc0_transform_7 (grid0.coords t) 1, 0]) (a : Fin 3) :
    T a * S1x176x1024.size a + 1 * (y a).val = ((ix3 p (pos m hO t y 1) (pos m hO t y 2) : S8x704x1024.Idx) a).val := by
  subst h
  match a with
  | 0 => show p.val * 1 + 1 * (y 0).val = p.val; have : (y 0).val < 1 := (y 0).isLt; omega
  | 1 => rfl
  | 2 => show _ = cc0_transform_7 (grid0.coords t) 2 * 1024 + 1 * (y 2).val; rw [(rows t).1]; rfl

theorem keyr (t) (k : Fin 7) (y : S1x176x1024.Idx) {T : Fin 3 → Nat} (h : T = ![0, cc0_transform_7 (grid0.coords t) 1, 0]) (a : Fin 3) :
    T a * S7x176x1024.size a + 1 * ((ix3 k (y 1) (y 2) : S7x176x1024.Idx) a).val = ((ix3 k (pos m hO t y 1) (pos m hO t y 2) : S7x704x1024.Idx) a).val := by
  subst h
  match a with
  | 0 => show 0 * 7 + 1 * k.val = k.val; omega
  | 1 => rfl
  | 2 => show _ = cc0_transform_7 (grid0.coords t) 2 * 1024 + 1 * (y 2).val; rw [(rows t).1]; rfl

theorem layer (t) (y : S1x176x1024.Idx) : (pos m hO t y 0).val = if t.val < 4 then 0 else 1 := by
  show cc0_transform_7 (grid0.coords t) 0 * 1 + 1 * (y 0).val = _
  have : (y 0).val < 1 := (y 0).isLt
  rw [(rows t).2.1]; omega

include hp

theorem gsumA (t : Fin (cfgM m hO).N) (ht : t.val < 4) (y) : gsum (iblk m hO c 3 t) (iblk m hO c 4 t) y = grad m c p (pos m hO t y) := by
  refine Eq.trans ?_ (if_pos ((layer m hO t y).trans (if_pos ht))).symm
  exact congrArg₂ (· + ·) (congrArg (m (c.tc.loc main_arg4)) (funext fun a => Fin.ext (key m hO p t y ((mine m p hp t).1 ht) a)))
    (Finset.sum_congr rfl fun k _ => congrArg (m (c.tc.loc main_arg5)) (funext fun a => Fin.ext (keyr m hO t k y ((rows t).2.2.1 ht) a)))

theorem gsumB (t : Fin (cfgM m hO).N) (ht : ¬t.val < 4) (y) : gsum (iblk m hO c 5 t) (iblk m hO c 6 t) y = grad m c p (pos m hO t y) := by
  refine Eq.trans ?_ (if_neg (by rw [layer, if_neg ht]; decide)).symm
  exact congrArg₂ (· + ·) (congrArg (m (c.tc.loc main_arg6)) (funext fun a => Fin.ext (key m hO p t y ((mine m p hp t).2 ht) a)))
    (Finset.sum_congr rfl fun k _ => congrArg (m (c.tc.loc main_arg7)) (funext fun a => Fin.ext (keyr m hO t k y ((rows t).2.2.2 ht) a)))

/-- Every point's blocks, in the arrays' terms. -/
theorem outs (t : Fin (cfgM m hO).N) (y : S1x176x1024.Idx) : let o := outsAt0 m hO c t.val t.isLt; let z := pos m hO t y
    o.1 y = grad m c p z
    ∧ o.2.1 y = step (m (c.tc.loc main_arg1) z) (mom (m (c.tc.loc main_arg2) z) (grad m c p z)) (sec (m (c.tc.loc main_arg3) z) (grad m c p z))
    ∧ o.2.2.1 y = mom (m (c.tc.loc main_arg2) z) (grad m c p z) ∧ o.2.2.2 y = sec (m (c.tc.loc main_arg3) z) (grad m c p z) := by
  dsimp only
  by_cases ht : t.val < 4
  · have g := gsumA m hO c p hp t ht y
    rw [outsAt0_A m hO c t ht (by omega)]
    dsimp only
    refine ⟨(outA c y).1.trans g, (outA c y).2.1.trans ?_, (outA c y).2.2.1.trans ?_, (outA c y).2.2.2.trans ?_⟩ <;> rw [g] <;> rfl
  · have g := gsumB m hO c p hp t ht y
    rw [outsAt0_B m hO c t ht (by omega)]
    dsimp only
    refine ⟨(outB c y).1.trans g, (outB c y).2.1.trans ?_, (outB c y).2.2.1.trans ?_, (outB c y).2.2.2.trans ?_⟩ <;> rw [g] <;> rfl

theorem arr7 : (dats m hO 0 c).arrAt 7 (cfgM m hO).N = grad m c p := by
  refine (dats m hO 0 c).arrAt_eq_of_covers 7 _ cov fun t hf y => ?_
  blk_simp
  rw [after0_7]
  exact (outs m hO c p hp t y).1

theorem arr8 : (dats m hO 0 c).arrAt 8 (cfgM m hO).N = fun z =>
    step (m (c.tc.loc main_arg1) z) (mom (m (c.tc.loc main_arg2) z) (grad m c p z)) (sec (m (c.tc.loc main_arg3) z) (grad m c p z)) := by
  refine (dats m hO 0 c).arrAt_eq_of_covers 8 _ cov fun t hf y => ?_
  blk_simp
  rw [after0_8]
  exact (outs m hO c p hp t y).2.1

theorem arr9 : (dats m hO 0 c).arrAt 9 (cfgM m hO).N = fun z => mom (m (c.tc.loc main_arg2) z) (grad m c p z) := by
  refine (dats m hO 0 c).arrAt_eq_of_covers 9 _ cov fun t hf y => ?_
  blk_simp
  rw [after0_9]
  exact (outs m hO c p hp t y).2.2.1

theorem arr10 : (dats m hO 0 c).arrAt 10 (cfgM m hO).N = fun z => sec (m (c.tc.loc main_arg3) z) (grad m c p z) := by
  refine (dats m hO 0 c).arrAt_eq_of_covers 10 _ cov fun t hf y => ?_
  blk_simp
  rw [after0_10]
  exact (outs m hO c p hp t y).2.2.2

end Cert.AdamFiKernelIdeal.Blocks

namespace Cert.AdamFiReferenceIdeal.Read
variable (x0 : (⟨S1, .i32⟩ : BufTy).Contents (Elt Ideal)) (x1 x2 x3 : (⟨S2x704x1024, .f32⟩ : BufTy).Contents (Elt Ideal))
  (x4 : (⟨S8x704x1024, .bf16⟩ : BufTy).Contents (Elt Ideal)) (x5 : (⟨S7x704x1024, .bf16⟩ : BufTy).Contents (Elt Ideal))
  (x6 : (⟨S8x704x1024, .bf16⟩ : BufTy).Contents (Elt Ideal)) (x7 : (⟨S7x704x1024, .bf16⟩ : BufTy).Contents (Elt Ideal)) (p : Fin 8)

/-- The two layers' gradients. -/
def grad (z : S2x704x1024.Idx) : EReal := two x4 x5 x6 x7 p (z 0) (z 1) (z 2)

variable (hp : ∀ j, x0 j = BitVec.ofNat 32 p.val) (z : S2x704x1024.Idx)
include hp

theorem part_eq (y : S704x1024.Idx) : val_main_v9 (F := Ideal) x0 x4 x5 y = part x4 x5 p (y 0) (y 1) := by
  rw [val_main_v9_apply, val_main_v6_apply, val_main_v8_apply]
  simp only [val_main_v5_apply, val_main_call0_v1_apply, val_main_v3_apply, val_main_v2_apply, val_main_v0_apply, val_main_v1_apply, hp,
    val_main_v4_apply, val_main_v7_apply]
  have e6 : ∀ k : Fin 8, idx_main_v6 y k = ix3 k (y 0) (y 1) := fun k => eq_ix3 _
  have e8 : ∀ k : Fin 7, idx_main_v8 y k = ix3 k (y 0) (y 1) := fun k => eq_ix3 _
  simp only [val_main_call0_v2_apply, val_main_call0_v0_apply, val_main_cst_apply, val_main_cst_0_apply, val_main_cst_1_apply,
    Ideal.ofBits_def, zero32, Ideal.extf_def, Ideal.addf_def, zero_add]
  simp only [e6, e8]
  exact congrArg (· + _) (pick p fun k => x4 (ix3 k (y 0) (y 1)))

theorem grad_eq : val_main_v22 (F := Ideal) x0 x4 x5 x6 x7 z = grad x4 x5 x6 x7 p z := by
  by_cases hz : (z 0).val = 0
  · refine (concatenate_pair_apply_left 0 (val_main_v20 (F := Ideal) x0 x4 x5) (val_main_v21 x0 x6 x7) _ z rfl (ix3 0 (z 1) (z 2)) fun b => match b with | 0 => hz.symm | 1 => rfl | 2 => rfl).trans ?_
    rw [val_main_v20_apply, part_eq x0 x4 x5 p hp]
    exact (if_pos hz).symm
  · refine (concatenate_pair_apply_right 0 (val_main_v20 (F := Ideal) x0 x4 x5) (val_main_v21 x0 x6 x7) _ z rfl rfl (ix3 0 (z 1) (z 2)) (fun b hb => match b with | 0 => absurd rfl hb | 1 => rfl | 2 => rfl) ?_).trans ?_
    · show 0 + 1 = (z 0).val
      have : (z 0).val < 2 := (z 0).isLt
      omega
    rw [val_main_v21_apply, show val_main_v19 (F := Ideal) x0 x6 x7 = val_main_v9 x0 x6 x7 from rfl, part_eq x0 x6 x7 p hp]
    exact (if_neg hz).symm

theorem mom_eq : val_main_v27 (F := Ideal) x0 x2 x4 x5 x6 x7 z = mom (x2 z) (grad x4 x5 x6 x7 p z) := by
  rw [← grad_eq x0 x4 x5 x6 x7 p hp]
  simp only [val_main_v27_apply, val_main_v24_apply, val_main_v26_apply, val_main_v23_apply, val_main_v25_apply]
  rfl

theorem sec_eq : val_main_v33 (F := Ideal) x0 x3 x4 x5 x6 x7 z = sec (x3 z) (grad x4 x5 x6 x7 p z) := by
  rw [← grad_eq x0 x4 x5 x6 x7 p hp]
  simp only [val_main_v33_apply, val_main_v29_apply, val_main_v32_apply, val_main_v28_apply, val_main_v31_apply, val_main_v30_apply]
  rfl

theorem step_eq : val_main_v46 (F := Ideal) x0 x1 x2 x3 x4 x5 x6 x7 z
    = step (x1 z) (mom (x2 z) (grad x4 x5 x6 x7 p z)) (sec (x3 z) (grad x4 x5 x6 x7 p z)) := by
  rw [← mom_eq x0 x2 x4 x5 x6 x7 p hp, ← sec_eq x0 x3 x4 x5 x6 x7 p hp]
  simp only [val_main_v46_apply, val_main_v45_apply, val_main_v44_apply, val_main_v41_apply, val_main_v35_apply, val_main_v34_apply,
    val_main_v40_apply, val_main_v38_apply, val_main_v37_apply, val_main_v36_apply, val_main_v39_apply, val_main_v43_apply, val_main_v42_apply]
  rfl

end Cert.AdamFiReferenceIdeal.Read

namespace Cert.Proof

/-- The shape relations the precondition's operations take. -/
theorem facts_placed_fi : Pre_placed_fi.Facts := ⟨by decide⟩

/-- The kernel ends with its arguments unchanged. -/
theorem frame_AdamFi : quiescent_AdamFiKernel (hAdamFiKernel := AdamFiKernel.Gen.facts) (hPre_placed_fi := facts_placed_fi) := fun m ρ h =>
  have ⟨p, hp⟩ := placed (tbl := AdamFiKernel.Gen.tbl m 0) fun j => place _ (congrFun (h 0) j)
  AdamFiKernel.Gen.frame m ρ (AdamFiKernel.Blocks.ok m p hp)

theorem frame_AdamFiIdeal : quiescent_AdamFiKernelIdeal (hAdamFiKernelIdeal := AdamFiKernelIdeal.Gen.facts) (hPre_placed_fi := facts_placed_fi) := fun m ρ h =>
  have ⟨p, hp⟩ := placed (tbl := AdamFiKernelIdeal.Gen.tbl m 0) fun j => place _ (congrFun (h 0) j)
  AdamFiKernelIdeal.Gen.frame m ρ (AdamFiKernelIdeal.Blocks.ok m p hp)

/-- The reference is a straight-line host program that declares no semaphore. -/
theorem frame_AdamFiReference : quiescent_AdamFiReferenceIdeal (hAdamFiReferenceIdeal := AdamFiReferenceIdeal.Gen.facts) :=
  fun m ρ _ => (θ_run (AdamFiReferenceIdeal.defs (F := Ideal)) _ _).mono
    (fun r h => ⟨fun c => (h c).2.2.2.2, funext fun sm => nomatch sm.2⟩)
    (AdamFiReferenceIdeal.Value.run (F := Ideal) m ρ)

open AdamFiKernelIdeal.Gen AdamFiKernelIdeal.Blocks AdamFiReferenceIdeal.Read in
/-- Kernel and reference leave equal arrays: the optimiser's step of a weight sharded over the devices, in both layers. -/
theorem algebraic_AdamFi : algebraic_AdamFiKernelIdeal_AdamFiReferenceIdeal (hAdamFiKernelIdeal := AdamFiKernelIdeal.Gen.facts)
    (hAdamFiReferenceIdeal := AdamFiReferenceIdeal.Gen.facts) (hPre_placed_fi := facts_placed_fi) := by
  intro m g m' g' h hargs
  obtain ⟨p, hp⟩ := placed (tbl := tbl m 0) fun j => place _ (congrFun (h 0) j)
  have hO := ok m p hp
  refine ⟨fun c => (dats m hO 0 c).arrAt 7 (cfgM m hO).N, fun c => (dats m hO 0 c).arrAt 8 (cfgM m hO).N,
    fun c => (dats m hO 0 c).arrAt 9 (cfgM m hO).N, fun c => (dats m hO 0 c).arrAt 10 (cfgM m hO).N, ?_, ?_⟩
  · exact (θ_run (AdamFiKernelIdeal.defs (F := Ideal)) _ _).mono
      (fun r h c => ⟨(h.1 c).1 7, (h.1 c).1 8, (h.1 c).1 9, (h.1 c).1 10, h.2 c⟩)
      (θ_run_and (run_main m g hO) (unchanged m g hO))
  · refine (θ_run (AdamFiReferenceIdeal.defs (F := Ideal)) _ _).mono (fun r h c => ?_)
      (AdamFiReferenceIdeal.Value.run (F := Ideal) m' g')
    obtain rfl : c = 0 := Subsingleton.elim _ _
    obtain ⟨r0, r1, r2, r3, ha⟩ := h 0
    obtain ⟨e0, e1, e2, e3, e4, e5, e6, e7⟩ := hargs 0
    refine ⟨r0.trans ?_, r1.trans ?_, r2.trans ?_, r3.trans ?_, ha⟩
    · rw [val_main_v22_eq, e0, e4, e5, e6, e7]
      exact (funext (grad_eq _ _ _ _ _ p hp)).trans (arr7 m hO 0 p hp).symm
    · rw [val_main_v46_eq, e0, e1, e2, e3, e4, e5, e6, e7]
      exact (funext (step_eq _ _ _ _ _ _ _ _ p hp)).trans (arr8 m hO 0 p hp).symm
    · rw [val_main_v27_eq, e0, e2, e4, e5, e6, e7]
      exact (funext (mom_eq _ _ _ _ _ _ p hp)).trans (arr9 m hO 0 p hp).symm
    · rw [val_main_v33_eq, e0, e3, e4, e5, e6, e7]
      exact (funext (sec_eq _ _ _ _ _ _ p hp)).trans (arr10 m hO 0 p hp).symm

end Cert.Proof
-- ==== Proof.ForgetDwArrays.lean ====
/- The gradient of the forget gate's weights, as the kernel computes it: two tiles of rows, the second added to the
   accumulator the first leaves. -/
module

public import proofs.«01_k».proof.Proof.Gen.ForgetDwKernelIdeal.Value
public import proofs.«01_k».proof.Proof.FfnMath

@[expose] public section

noncomputable section

namespace Cert.ForgetDwKernelIdeal.Blocks

open Gen Cert.Ffn Idealize.ShloMosaic Idealize.ShloMosaic.TcCoe
  Idealize.SL.Sem

set_option maxRecDepth 65536

local notation "𝕀" => Idealize.ShloMosaic.Ideal

theorem lt_N (t : Fin cfg0.N) : t.val < 2 := t.isLt

section
variable (x : Vec 𝕀 S1x2048x1024 .bf16) (y : Vec 𝕀 S1x2048x128 .bf16) (s : Vec 𝕀 S1024x128 .f32)

/-- What the first row half stores in the accumulator. -/
theorem first_apply (k : Fin 1024) (l : Fin 128) : k0_pay2 x y (ix2 k l) = ∑ r : Fin 2048, x (ix3 0 r k) * y (ix3 0 r l) := by
  unfold_payloads; pointwise

/-- What the second row half adds to it. -/
theorem next_apply (k : Fin 1024) (l : Fin 128) : k0_pay3 x y s (ix2 k l) = s (ix2 k l) + ∑ r : Fin 2048, x (ix3 0 r k) * y (ix3 0 r l) := by
  unfold_payloads; pointwise

/-- What leaves for the result is the accumulator. -/
theorem last_apply (k : Fin 1024) (l : Fin 128) : k0_pay4 s (ix4 0 0 k l) = s (ix2 k l) := by
  unfold_payloads; pointwise

end

section
variable (m : (ℓ : Loc nD τ sig) → Buf (Elt 𝕀) ℓ) (d : Dev nD)

/-- The normed input. -/
def lhs (n : Fin 4096) (k : Fin 1024) : EReal :=
  normed (fun l => (m (d.tc.loc main_arg1) : Vec 𝕀 S4096x1024 .f32) (ix2 n l))
    (fun l => (m (d.tc.loc main_arg2) : Vec 𝕀 S1024 .f32) (ix1 l)) k

/-- The gradient at the product. -/
def rhs (n : Fin 4096) (l : Fin 128) : EReal := (m (d.tc.loc main_arg0) : Vec 𝕀 S1x4096x128 .f32) (ix3 0 n l)

theorem V0 (n : Fin 4096) (k : Fin 1024) : (V m d main_v14 : Vec 𝕀 S1x4096x1024 .bf16) (ix3 0 n k) = lhs m d n k := by
  entry_read; pointwise; rfl

theorem V1 (n : Fin 4096) (l : Fin 128) : (V m d main_v15 : Vec 𝕀 S1x4096x128 .bf16) (ix3 0 n l) = rhs m d n l := by
  entry_read; pointwise; rfl

/-- The row of the array a row of the tile of point `t` is. -/
def row (t : Fin cfg0.N) (r : Fin 2048) : Fin 4096 := ⟨2048 * (t.val % 2) + r.val, by omega⟩

theorem blk0 (t : Fin cfg0.N) (r : Fin 2048) (k : Fin 1024) :
    (iblk m d 0 t : Vec 𝕀 S1x2048x1024 .bf16) (ix3 0 r k) = lhs m d (row t r) k := by
  have hi := (by decide +kernel : ∀ t : Fin grid0.N, win0_0.index t 0 = 0 ∧ win0_0.index t 1 = t.val % 2 ∧ win0_0.index t 2 = 0) t
  have b := lt_N t
  unfold iblk
  rw [View.read_apply]
  refine Eq.trans (congrArg (V m d main_v14 : Vec 𝕀 S1x4096x1024 .bf16) (?_ : _ = ix3 0 (row t r) k)) (V0 m d _ _)
  refine funext fun a => Fin.ext ?_
  match a with
  | ⟨0, _⟩ => show win0_0.index t 0 * 1 + 1 * 0 = _; rw [hi.1]; rfl
  | ⟨1, _⟩ => show win0_0.index t 1 * 2048 + 1 * r.val = 2048 * (t.val % 2) + r.val; rw [hi.2.1]; omega
  | ⟨2, _⟩ => show win0_0.index t 2 * 1024 + 1 * k.val = k.val; rw [hi.2.2]; omega

theorem blk1 (t : Fin cfg0.N) (r : Fin 2048) (k : Fin 128) :
    (iblk m d 1 t : Vec 𝕀 S1x2048x128 .bf16) (ix3 0 r k) = rhs m d (row t r) k := by
  have hi := (by decide +kernel : ∀ t : Fin grid0.N, win0_1.index t 0 = 0 ∧ win0_1.index t 1 = t.val % 2 ∧ win0_1.index t 2 = 0) t
  have b := lt_N t
  unfold iblk
  rw [View.read_apply]
  refine Eq.trans (congrArg (V m d main_v15 : Vec 𝕀 S1x4096x128 .bf16) (?_ : _ = ix3 0 (row t r) k)) (V1 m d _ _)
  refine funext fun a => Fin.ext ?_
  match a with
  | ⟨0, _⟩ => show win0_1.index t 0 * 1 + 1 * 0 = _; rw [hi.1]; rfl
  | ⟨1, _⟩ => show win0_1.index t 1 * 2048 + 1 * r.val = 2048 * (t.val % 2) + r.val; rw [hi.2.1]; omega
  | ⟨2, _⟩ => show win0_1.index t 2 * 128 + 1 * k.val = k.val; rw [hi.2.2]; omega

/-- What a tile adds to entry `k`, `l` of its block. -/
def tile (t : Fin cfg0.N) (k : Fin 1024) (l : Fin 128) : EReal :=
  ∑ r : Fin 2048, lhs m d (row t r) k * rhs m d (row t r) l

theorem tile_eq (t : Fin cfg0.N) (x : Vec 𝕀 S1x2048x1024 .bf16) (y : Vec 𝕀 S1x2048x128 .bf16) (hx : x = iblk m d 0 t)
    (hy : y = iblk m d 1 t) (k : Fin 1024) (l : Fin 128) : ∑ r : Fin 2048, x (ix3 0 r k) * y (ix3 0 r l) = tile m d t k l := by
  subst hx hy
  exact Finset.sum_congr rfl fun r _ => congrArg₂ (· * · : EReal → EReal → EReal) (blk0 m d t r k) (blk1 m d t r l)

/-- The accumulator after the first half. -/
theorem outs_A (t : Fin cfg0.N) (h : t.val % 2 = 0) (k : Fin 1024) (l : Fin 128) :
    (outsAt0 m d t.val t.isLt).2 (ix2 k l) = tile m d t k l := by
  rw [outsAt0_A m d t (by omega) (by omega) (by omega)]
  unfold sout0_A_0
  dsimp only
  rw [View.read_writes_eq_canon _ _ _ (fun _ => scover0_A_0 ..)]
  unfold kernelRun0_A
  dsimp only
  sl_unfold_words
  simp only [View.readAt_eq_ld, (hs0_0 t).read_unread, (hs0_1 t).read_unread,
    View.ld_unit_zero (S := S1x2048x1024) hz3, View.ld_unit_zero (S := S1x2048x128) hz3, View.canon_unit_zero (S := S1024x128) hz2]
  exact (first_apply _ _ k l).trans (tile_eq m d t _ _ rfl rfl k l)

/-- The block written at the second half. -/
theorem outs_B (t : Fin cfg0.N) (h : t.val % 2 = 1) (k : Fin 1024) (l : Fin 128) :
    (outsAt0 m d t.val t.isLt).1 (ix4 0 0 k l)
      = (outsAt0 m d (t.val - 1) (Nat.lt_of_le_of_lt (Nat.sub_le _ _) t.isLt)).2 (ix2 k l) + tile m d t k l := by
  rw [outsAt0_B m d t (by omega) (by omega) (by omega)]
  unfold out0_B_2
  dsimp only
  rw [View.read_writes_eq_canon _ _ _ (fun _ => cover0_B_2 ..)]
  unfold kernelRun0_B
  dsimp only
  sl_unfold_words
  simp only [View.readAt_eq_ld, (hs0_0 t).read_unread, (hs0_1 t).read_unread, (Memref.isWhole_whole _).read_unread,
    View.ld_unit_zero (S := S1x2048x1024) hz3, View.ld_unit_zero (S := S1x2048x128) hz3,
    View.ld_unit_zero (S := S1024x128) hz2, View.canon_unit_zero (S := S1024x128) hz2,
    View.canon_unit_zero (S := S1x1x1024x128) hz4]
  rw [View.readCov_unit_zero (S := S1024x128) _ hz2, last_apply]
  exact (next_apply _ _ _ k l).trans (congrArg _ (tile_eq m d t _ _ rfl rfl k l))

/-- An entry of the result: the product's sum over all rows. -/
def total (k : Fin 1024) (l : Fin 128) : EReal := ∑ n : Fin 4096, lhs m d n k * rhs m d n l

theorem outs_total (t : Fin cfg0.N) (h : t.val % 2 = 1) (k : Fin 1024) (l : Fin 128) :
    (outsAt0 m d t.val t.isLt).1 (ix4 0 0 k l) = total m d k l := by
  have b8 := lt_N t
  have r0 : ∀ r : Fin 2048, row ⟨t.val - 1, Nat.lt_of_le_of_lt (Nat.sub_le _ _) t.isLt⟩ r = ⟨r.val, by omega⟩ := fun r =>
    Fin.ext (by show 2048 * ((t.val - 1) % 2) + r.val = r.val; omega)
  have r1 : ∀ r : Fin 2048, row t r = ⟨2048 + r.val, by omega⟩ := fun r =>
    Fin.ext (by show 2048 * (t.val % 2) + r.val = 2048 + r.val; omega)
  rw [outs_B m d t h]
  have e := outs_A m d ⟨t.val - 1, Nat.lt_of_le_of_lt (Nat.sub_le _ _) t.isLt⟩ (by show (t.val - 1) % 2 = 0; omega) k l
  refine (congrArg (· + tile m d t k l) e).trans ?_
  unfold total tile
  rw [sum_halves]
  simp only [r0, r1]

/-- The result after the run. -/
theorem arr_result : (dats m 0 d).arrAt 2 cfg0.N = fun i : S1x1x1024x128.Idx => total m d (i 2) (i 3) := by
  have hi : ∀ t : Fin cfg0.N, win0_2.index t 2 = 0 ∧ win0_2.index t 3 = 0 :=
    (by decide +kernel : ∀ t : Fin grid0.N, win0_2.index t 2 = 0 ∧ win0_2.index t 3 = 0)
  have hf : ∀ t : Fin cfg0.N, (cfg0.win 2).flush t = true → t.val % 2 = 1 :=
    (by decide +kernel : ∀ t : Fin grid0.N, win0_2.flush t = true → t.val % 2 = 1)
  refine (dats m 0 d).arrAt_eq_of_cover 2 _ ?_ ?_
  · intro t ht
    rw [Value.flushed2]
    funext j
    rw [View.read_apply]
    change S1x1x1024x128.Idx at j
    obtain ⟨p, q, k, l, rfl⟩ := split4 j
    obtain rfl : p = 0 := Subsingleton.elim _ _
    obtain rfl : q = 0 := Subsingleton.elim _ _
    have a2 : (((cfg0.win 2).blk t).view.emb (ix4 0 0 k l) : S1x1x1024x128.Idx) 2 = k :=
      Fin.ext (by show win0_2.index t 2 * 1024 + 1 * k.val = k.val; rw [(hi t).1]; omega)
    have a3 : (((cfg0.win 2).blk t).view.emb (ix4 0 0 k l) : S1x1x1024x128.Idx) 3 = l :=
      Fin.ext (by show win0_2.index t 3 * 128 + 1 * l.val = l.val; rw [(hi t).2]; omega)
    exact (outs_total m d t (hf t ht) k l).trans (congrArg₂ (total m d · ·) a2.symm a3.symm)
  · exact (by decide +kernel : (cfg0.win 2).Covers).cover _ (Memref.isWhole_whole _)

end
end Cert.ForgetDwKernelIdeal.Blocks
end
-- ==== Proof.ForgetDwReference.lean ====
/- What the reference of the gradient of the forget gate's weights computes, entry by entry. -/
module

public import proofs.«01_k».proof.Proof.Gen.ForgetDwReferenceIdeal.Read
public import proofs.«01_k».proof.Proof.FfnMath

@[expose] public section

noncomputable section

namespace Cert.ForgetDwReferenceIdeal.Rows

open Gen Read Cert.Ffn Idealize.ShloMosaic Idealize.ShloMosaic.TcCoe
  Idealize.SL.Sem

set_option maxRecDepth 65536

local notation "𝕀" => Idealize.ShloMosaic.Ideal

section
variable (x0 : S1x4096x128.Idx → EReal) (x1 : S4096x1024.Idx → EReal) (x2 : S1024.Idx → EReal)

/-- The normed input at row `n`, lane `l`. -/
theorem normed_apply (n : Fin 4096) (l : Fin 1024) :
    val_main_v12 (F := 𝕀) x1 x2 (ix2 n l) = normed (fun l => x1 (ix2 n l)) (fun l => x2 (ix1 l)) l := by
  unfold val_main_v12 val_main_v11 val_main_v10 val_main_v9 val_main_v8 val_main_v7 val_main_v6 val_main_v5
    val_main_v4 val_main_v3 val_main_v2 val_main_v1 val_main_v0 val_main_cst val_main_cst_0 val_main_cst_1
  pointwise
  rfl

/-- The result at entry `k`, lane `l`. -/
theorem result_apply (p q : Fin 1) (k : Fin 1024) (l : Fin 128) :
    val_main_v19 (F := 𝕀) x0 x1 x2 (ix4 p q k l)
      = ∑ n : Fin 4096, normed (fun l => x1 (ix2 n l)) (fun l => x2 (ix1 l)) k * x0 (ix3 0 n l) := by
  have e := normed_apply x1 x2
  unfold val_main_v19 val_main_v18 val_main_v17 val_main_v16 val_main_v15
  generalize val_main_v12 (F := 𝕀) x1 x2 = G at e
  pointwise
  simp only [e]
  exact Finset.sum_congr rfl fun n _ => mul_comm _ _

end
end Cert.ForgetDwReferenceIdeal.Rows
end
-- ==== Proof.lean ====
/- The claims: each kernel, its idealization and its reference run to the end and leave their arguments as they were; the
   idealization rewrote nothing; and kernel and reference leave equal arrays. -/
module

public import proofs.«01_k».proof.Defs
public import proofs.«01_k».proof.Proof.Gen.ConvKernel.Frame
public import proofs.«01_k».proof.Proof.ConvArrays
public import proofs.«01_k».proof.Proof.ConvReference
public import proofs.«01_k».proof.Proof.Gen.InKernel.Frame
public import proofs.«01_k».proof.Proof.InArrays
public import proofs.«01_k».proof.Proof.InReference
public import proofs.«01_k».proof.Proof.Gen.OutKernel.Frame
public import proofs.«01_k».proof.Proof.OutArrays
public import proofs.«01_k».proof.Proof.OutReference
public import proofs.«01_k».proof.Proof.Gen.BwdOutKernel.Frame
public import proofs.«01_k».proof.Proof.BwdOutArrays
public import proofs.«01_k».proof.Proof.BwdOutReference
public import proofs.«01_k».proof.Proof.Gen.BwdInKernel.Frame
public import proofs.«01_k».proof.Proof.BwdInArrays
public import proofs.«01_k».proof.Proof.BwdInReference
public import proofs.«01_k».proof.Proof.Gen.DwOutKernel.Frame
public import proofs.«01_k».proof.Proof.DwOutArrays
public import proofs.«01_k».proof.Proof.DwOutReference
public import proofs.«01_k».proof.Proof.Gen.DwInKernel.Frame
public import proofs.«01_k».proof.Proof.DwInArrays
public import proofs.«01_k».proof.Proof.DwInReference
public import proofs.«01_k».proof.Proof.Gen.ConvInKernel.Frame
public import proofs.«01_k».proof.Proof.ConvInArrays
public import proofs.«01_k».proof.Proof.ConvInReference
public import proofs.«01_k».proof.Proof.Gen.QgInKernel.Frame
public import proofs.«01_k».proof.Proof.QgInArrays
public import proofs.«01_k».proof.Proof.QgInReference
public import proofs.«01_k».proof.Proof.Gen.KvInKernel.Frame
public import proofs.«01_k».proof.Proof.KvInArrays
public import proofs.«01_k».proof.Proof.KvInReference
public import proofs.«01_k».proof.Proof.Gen.ConvBwdInKernel.Frame
public import proofs.«01_k».proof.Proof.ConvBwdInArrays
public import proofs.«01_k».proof.Proof.ConvBwdInReference
public import proofs.«01_k».proof.Proof.Gen.QgBwdInKernel.Frame
public import proofs.«01_k».proof.Proof.QgBwdInArrays
public import proofs.«01_k».proof.Proof.QgBwdInReference
public import proofs.«01_k».proof.Proof.Gen.KvBwdInKernel.Frame
public import proofs.«01_k».proof.Proof.KvBwdInArrays
public import proofs.«01_k».proof.Proof.KvBwdInReference
public import proofs.«01_k».proof.Proof.Gen.ConvDwKernel.Frame
public import proofs.«01_k».proof.Proof.ConvDwArrays
public import proofs.«01_k».proof.Proof.ConvDwReference
public import proofs.«01_k».proof.Proof.Gen.QgDwKernel.Frame
public import proofs.«01_k».proof.Proof.QgDwArrays
public import proofs.«01_k».proof.Proof.QgDwReference
public import proofs.«01_k».proof.Proof.Gen.MixBwdKernel.Frame
public import proofs.«01_k».proof.Proof.MixBwdArrays
public import proofs.«01_k».proof.Proof.MixBwdReference
public import proofs.«01_k».proof.Proof.Gen.MixDwKernel.Frame
public import proofs.«01_k».proof.Proof.MixDwArrays
public import proofs.«01_k».proof.Proof.MixDwReference
public import proofs.«01_k».proof.Proof.Gen.GateOutKernel.Frame
public import proofs.«01_k».proof.Proof.GateOutArrays
public import proofs.«01_k».proof.Proof.GateOutReference
public import proofs.«01_k».proof.Proof.Gen.ConvOutKernel.Frame
public import proofs.«01_k».proof.Proof.ConvOutArrays
public import proofs.«01_k».proof.Proof.ConvOutReference
public import proofs.«01_k».proof.Proof.Gen.LossOutKernel.Frame
public import proofs.«01_k».proof.Proof.LossOutArrays
public import proofs.«01_k».proof.Proof.LossOutReference
public import proofs.«01_k».proof.Proof.AdamOw
public import proofs.«01_k».proof.Proof.AdamCi
public import proofs.«01_k».proof.Proof.AdamQg
public import proofs.«01_k».proof.Proof.AdamKv
public import proofs.«01_k».proof.Proof.AdamFo
public import proofs.«01_k».proof.Proof.AdamFi
public import proofs.«01_k».proof.Proof.Gen.ForgetDwKernel.Frame
public import proofs.«01_k».proof.Proof.ForgetDwArrays
public import proofs.«01_k».proof.Proof.ForgetDwReference
public import Idealize.ShloMosaic.Adequacy
public import Idealize.ShloMosaic.Init

@[expose] public section

noncomputable section

namespace Cert.Proof

open Idealize.ShloMosaic Idealize.SL.Sem Cert.ConvKernel Cert.Ffn

/-- Arrays are equal when their entries are, index by index. -/
theorem ext2 {a b : Nat} {f g : (⟨2, ![a, b]⟩ : Shape).Idx → EReal} (h : ∀ i j, f (ix2 i j) = g (ix2 i j)) : f = g :=
  funext fun y => (eq_ix2 y).symm ▸ h _ _
theorem ext3 {a b c : Nat} {f g : (⟨3, ![a, b, c]⟩ : Shape).Idx → EReal} (h : ∀ i j k, f (ix3 i j k) = g (ix3 i j k)) : f = g :=
  funext fun y => (eq_ix3 y).symm ▸ h _ _ _
theorem ext4 {a b c d : Nat} {f g : (⟨4, ![a, b, c, d]⟩ : Shape).Idx → EReal}
    (h : ∀ i j k l, f (ix4 i j k l) = g (ix4 i j k l)) : f = g :=
  funext fun y => (eq_ix4 y).symm ▸ h _ _ _ _

/-- Each reference is a straight-line host program that declares no semaphore. -/
theorem frame_convReference : quiescent_ConvReferenceIdeal (hConvReferenceIdeal := ConvReferenceIdeal.Gen.facts) :=
  fun m ρ _ => (θ_run (ConvReferenceIdeal.defs (F := Ideal)) _ _).mono
    (fun r h => ⟨fun c => ⟨(h c).2.2.1, (h c).2.2.2.1, (h c).2.2.2.2⟩, funext fun sm => nomatch sm.2⟩)
    (ConvReferenceIdeal.Value.run (F := Ideal) m ρ)

/-- The convolution's backward kernel and jax's derivative of the convolution leave equal arrays. -/
theorem algebraic_conv : algebraic_ConvKernelIdeal_ConvReferenceIdeal
    (hConvKernelIdeal := ConvKernelIdeal.Gen.facts) (hConvReferenceIdeal := ConvReferenceIdeal.Gen.facts) := by
  intro m g m' g' _ hargs
  refine ⟨fun c => (ConvKernelIdeal.Gen.dats m 0 c).arrAt 9 ConvKernelIdeal.cfg0.N,
    fun c => (ConvKernelIdeal.Gen.dats m 0 c).arrAt 10 ConvKernelIdeal.cfg0.N,
    ConvKernelIdeal.Value.run_blocks (F := Ideal) m g, ?_⟩
  refine (θ_run (ConvReferenceIdeal.defs (F := Ideal)) _ _).mono (fun r h c => ?_)
    (ConvReferenceIdeal.Value.run (F := Ideal) m' g')
  obtain ⟨hv, hw, h0, h1, h2⟩ := h c
  refine ⟨hv.trans ?_, hw.trans ?_, h0, h1, h2⟩
  · rw [ConvReferenceIdeal.Read.val_main_v84_eq, (hargs c).1, (hargs c).2.1, (hargs c).2.2]
    refine Eq.trans ?_ (ConvKernelIdeal.Blocks.arr_gates m c).symm
    funext i
    obtain ⟨p, n, l, rfl⟩ := split3 i
    exact ConvReferenceIdeal.Rows.dgates_apply _ _ _ p n l
  · rw [ConvReferenceIdeal.Read.val_main_v76_eq, (hargs c).1, (hargs c).2.1]
    refine Eq.trans ?_ (ConvKernelIdeal.Blocks.arr_taps m c).symm
    funext i
    obtain ⟨p, l, rfl⟩ := split2 i
    exact ConvReferenceIdeal.Rows.dtaps_apply _ _ p l

/-- The shape relations the precondition's operations take. -/
theorem facts_finite : Pre_finite.Facts :=
  ⟨by decide, by decide, by decide, by decide, by decide⟩

/-- An entry whose comparison with infinity came out as one is finite. -/
theorem fin_of_bit {a : EReal} (h : BitVec.ofBool (decide (max a (-a) < ⊤)) = 1#1) : IsFin a := by
  refine fin_of_lt ?_
  by_contra hn
  rw [decide_eq_false hn] at h
  exact absurd h (by decide)

theorem frame_InReference : quiescent_InReferenceIdeal (hInReferenceIdeal := InReferenceIdeal.Gen.facts) :=
  fun m ρ _ => (θ_run (InReferenceIdeal.defs (F := Ideal)) _ _).mono
    (fun r h => ⟨fun c => (h c).2.2, funext fun sm => nomatch sm.2⟩)
    (InReferenceIdeal.Value.run (F := Ideal) m ρ)

/-- Kernel and reference leave equal arrays: the input product of the feed-forward layer with the norm before it. -/
theorem algebraic_In : algebraic_InKernelIdeal_InReferenceIdeal
    (hInKernelIdeal := InKernelIdeal.Gen.facts) (hInReferenceIdeal := InReferenceIdeal.Gen.facts) := by
  intro m g m' g' _ hargs
  refine ⟨fun c => (InKernelIdeal.Gen.dats m 0 c).arrAt 3 InKernelIdeal.cfg0.N,
    fun c => (InKernelIdeal.Gen.dats m 0 c).arrAt 4 InKernelIdeal.cfg0.N,
    InKernelIdeal.Value.run_blocks (F := Ideal) m g, ?_⟩
  refine (θ_run (InReferenceIdeal.defs (F := Ideal)) _ _).mono (fun r h c => ?_)
    (InReferenceIdeal.Value.run (F := Ideal) m' g')
  obtain ⟨r0, r1, a0, a1, a2⟩ := h c
  obtain ⟨b0, b1, b2⟩ := hargs c
  refine ⟨r0.trans ?_, r1.trans ?_, a0, a1, a2⟩
  · rw [InReferenceIdeal.Read.val_main_v13_eq, b0, b1]
    refine Eq.trans (ext2 fun i j => ?_) (InKernelIdeal.Blocks.arr3 m c).symm
    exact InReferenceIdeal.Rows.xn_apply _ _ i j
  · rw [InReferenceIdeal.Read.val_main_v20_eq, b0, b1, b2]
    refine Eq.trans (ext3 fun p i j => ?_) (InKernelIdeal.Blocks.arr4 m c).symm
    exact InReferenceIdeal.Rows.gu_apply _ _ _ p i j

theorem frame_OutReference : quiescent_OutReferenceIdeal (hOutReferenceIdeal := OutReferenceIdeal.Gen.facts) :=
  fun m ρ _ => (θ_run (OutReferenceIdeal.defs (F := Ideal)) _ _).mono
    (fun r h => ⟨fun c => (h c).2.2.2, funext fun sm => nomatch sm.2⟩)
    (OutReferenceIdeal.Value.run (F := Ideal) m ρ)

/-- Kernel and reference leave equal arrays: the gate, the output product and the norm after it. -/
theorem algebraic_Out : algebraic_OutKernelIdeal_OutReferenceIdeal
    (hOutKernelIdeal := OutKernelIdeal.Gen.facts) (hOutReferenceIdeal := OutReferenceIdeal.Gen.facts) := by
  intro m g m' g' _ hargs
  refine ⟨fun c => (OutKernelIdeal.Gen.dats m 0 c).arrAt 4 OutKernelIdeal.cfg0.N,
    fun c => (OutKernelIdeal.Gen.dats m 0 c).arrAt 5 OutKernelIdeal.cfg0.N,
    fun c => (OutKernelIdeal.Gen.dats m 0 c).arrAt 6 OutKernelIdeal.cfg0.N,
    OutKernelIdeal.Value.run_blocks (F := Ideal) m g, ?_⟩
  refine (θ_run (OutReferenceIdeal.defs (F := Ideal)) _ _).mono (fun r h c => ?_)
    (OutReferenceIdeal.Value.run (F := Ideal) m' g')
  obtain ⟨r0, r1, r2, a0, a1, a2, a3⟩ := h c
  obtain ⟨b0, b1, b2, b3⟩ := hargs c
  refine ⟨r0.trans ?_, r1.trans ?_, r2.trans ?_, a0, a1, a2, a3⟩
  · rw [OutReferenceIdeal.Read.val_main_v9_eq, b1]
    refine Eq.trans (ext3 fun p i j => ?_) (OutKernelIdeal.Blocks.arr4 m c).symm
    exact OutReferenceIdeal.Rows.act_apply _ p i j
  · rw [OutReferenceIdeal.Read.val_main_v7_eq, b1, b3]
    refine Eq.trans (ext2 fun i j => ?_) (OutKernelIdeal.Blocks.arr5 m c).symm
    exact OutReferenceIdeal.Rows.h_apply _ _ i j
  · rw [OutReferenceIdeal.Read.val_main_v25_eq, b0, b1, b2, b3]
    refine Eq.trans (ext2 fun i j => ?_) (OutKernelIdeal.Blocks.arr6 m c).symm
    exact OutReferenceIdeal.Rows.y_apply _ _ _ _ i j

theorem frame_BwdOutReference : quiescent_BwdOutReferenceIdeal (hBwdOutReferenceIdeal := BwdOutReferenceIdeal.Gen.facts) :=
  fun m ρ _ => (θ_run (BwdOutReferenceIdeal.defs (F := Ideal)) _ _).mono
    (fun r h => ⟨fun c => (h c).2.2.2, funext fun sm => nomatch sm.2⟩)
    (BwdOutReferenceIdeal.Value.run (F := Ideal) m ρ)

/-- Kernel and reference leave equal arrays: the gradient of the output product, of its norm and of the gate, on finite arguments. -/
theorem algebraic_BwdOut : algebraic_BwdOutKernelIdeal_BwdOutReferenceIdeal_pre_finite
    (hBwdOutKernelIdeal := BwdOutKernelIdeal.Gen.facts) (hBwdOutReferenceIdeal := BwdOutReferenceIdeal.Gen.facts) (hPre_finite := facts_finite) := by
  intro m g m' g' hfin hargs
  refine ⟨fun c => (BwdOutKernelIdeal.Gen.dats m 0 c).arrAt 5 BwdOutKernelIdeal.cfg0.N,
    fun c => (BwdOutKernelIdeal.Gen.dats m 0 c).arrAt 6 BwdOutKernelIdeal.cfg0.N,
    fun c => (BwdOutKernelIdeal.Gen.dats m 0 c).arrAt 7 BwdOutKernelIdeal.cfg0.N,
    BwdOutKernelIdeal.Value.run_blocks (F := Ideal) m g, ?_⟩
  refine (θ_run (BwdOutReferenceIdeal.defs (F := Ideal)) _ _).mono (fun r h c => ?_)
    (BwdOutReferenceIdeal.Value.run (F := Ideal) m' g')
  obtain ⟨r0, r1, r2, a0, a1, a2, a3⟩ := h c
  obtain ⟨b0, b1, b2, b3⟩ := hargs c
  refine ⟨r0.trans ?_, r1.trans ?_, r2.trans ?_, a0, a1, a2, a3⟩
  · rw [BwdOutReferenceIdeal.Read.val_main_v52_eq, b0, b1, b2, b3]
    refine Eq.trans (ext2 fun i j => ?_) (BwdOutKernelIdeal.Blocks.arr5 m c).symm
    exact BwdOutReferenceIdeal.Rows.dh_result _ _ _ _ i j
  · rw [BwdOutReferenceIdeal.Read.val_main_v53_eq, b0, b1, b3]
    refine Eq.trans (ext2 fun i j => ?_) (BwdOutKernelIdeal.Blocks.arr6 m c).symm
    exact BwdOutReferenceIdeal.Rows.dg_apply _ _ _ i j
  · rw [BwdOutReferenceIdeal.Read.val_main_v57_eq, b0, b1, b2, b3]
    refine Eq.trans (ext3 fun p i j => ?_) (BwdOutKernelIdeal.Blocks.arr7 m c).symm
    obtain ⟨g0, g1, g2, g3⟩ := hfin c
    have f0 := fun i => fin_of_bit (congrFun g0 i)
    have f1 := fun i => fin_of_bit (congrFun g1 i)
    have f2 := fun i => fin_of_bit (congrFun g2 i)
    have f3 := fun i => fin_of_bit (congrFun g3 i)
    exact BwdOutReferenceIdeal.Rows.dgu_apply _ _ _ _ f0 f1 f2 f3 p i j

theorem frame_BwdInReference : quiescent_BwdInReferenceIdeal (hBwdInReferenceIdeal := BwdInReferenceIdeal.Gen.facts) :=
  fun m ρ _ => (θ_run (BwdInReferenceIdeal.defs (F := Ideal)) _ _).mono
    (fun r h => ⟨fun c => (h c).2.2, funext fun sm => nomatch sm.2⟩)
    (BwdInReferenceIdeal.Value.run (F := Ideal) m ρ)

/-- Kernel and reference leave equal arrays: the gradient of the input product and of its norm. -/
theorem algebraic_BwdIn : algebraic_BwdInKernelIdeal_BwdInReferenceIdeal
    (hBwdInKernelIdeal := BwdInKernelIdeal.Gen.facts) (hBwdInReferenceIdeal := BwdInReferenceIdeal.Gen.facts) := by
  intro m g m' g' _ hargs
  refine ⟨fun c => (BwdInKernelIdeal.Gen.dats m 0 c).arrAt 5 BwdInKernelIdeal.cfg0.N,
    fun c => (BwdInKernelIdeal.Gen.dats m 0 c).arrAt 6 BwdInKernelIdeal.cfg0.N,
    BwdInKernelIdeal.Value.run_blocks (F := Ideal) m g, ?_⟩
  refine (θ_run (BwdInReferenceIdeal.defs (F := Ideal)) _ _).mono (fun r h c => ?_)
    (BwdInReferenceIdeal.Value.run (F := Ideal) m' g')
  obtain ⟨r0, r1, a0, a1, a2, a3, a4⟩ := h c
  obtain ⟨b0, b1, b2, b3, b4⟩ := hargs c
  refine ⟨r0.trans ?_, r1.trans ?_, a0, a1, a2, a3, a4⟩
  · rw [BwdInReferenceIdeal.Read.val_main_v46_eq, b0, b1, b2, b3, b4]
    refine Eq.trans (ext2 fun i j => ?_) (BwdInKernelIdeal.Blocks.arr5 m c).symm
    exact BwdInReferenceIdeal.Rows.dx_apply _ _ _ _ _ i j
  · rw [BwdInReferenceIdeal.Read.val_main_v47_eq, b0, b1, b3]
    refine Eq.trans (ext2 fun i j => ?_) (BwdInKernelIdeal.Blocks.arr6 m c).symm
    exact BwdInReferenceIdeal.Rows.dg_apply _ _ _ i j

theorem frame_DwOutReference : quiescent_DwOutReferenceIdeal (hDwOutReferenceIdeal := DwOutReferenceIdeal.Gen.facts) :=
  fun m ρ _ => (θ_run (DwOutReferenceIdeal.defs (F := Ideal)) _ _).mono
    (fun r h => ⟨fun c => (h c).2, funext fun sm => nomatch sm.2⟩)
    (DwOutReferenceIdeal.Value.run (F := Ideal) m ρ)

/-- Kernel and reference leave equal arrays: the gradient of the output weights. -/
theorem algebraic_DwOut : algebraic_DwOutKernelIdeal_DwOutReferenceIdeal
    (hDwOutKernelIdeal := DwOutKernelIdeal.Gen.facts) (hDwOutReferenceIdeal := DwOutReferenceIdeal.Gen.facts) := by
  intro m g m' g' _ hargs
  refine ⟨fun c => (DwOutKernelIdeal.Gen.dats m 0 c).arrAt 2 DwOutKernelIdeal.cfg0.N,
    DwOutKernelIdeal.Value.run_blocks (F := Ideal) m g, ?_⟩
  refine (θ_run (DwOutReferenceIdeal.defs (F := Ideal)) _ _).mono (fun r h c => ?_)
    (DwOutReferenceIdeal.Value.run (F := Ideal) m' g')
  obtain ⟨r0, a0, a1⟩ := h c
  obtain ⟨b0, b1⟩ := hargs c
  refine ⟨r0.trans ?_, a0, a1⟩
  · rw [DwOutReferenceIdeal.Read.val_main_v13_eq, b0, b1]
    refine Eq.trans (ext4 fun p q i j => ?_) (DwOutKernelIdeal.Blocks.arr_result m c).symm
    exact DwOutReferenceIdeal.Rows.result_apply _ _ p q i j

theorem frame_DwInReference : quiescent_DwInReferenceIdeal (hDwInReferenceIdeal := DwInReferenceIdeal.Gen.facts) :=
  fun m ρ _ => (θ_run (DwInReferenceIdeal.defs (F := Ideal)) _ _).mono
    (fun r h => ⟨fun c => (h c).2, funext fun sm => nomatch sm.2⟩)
    (DwInReferenceIdeal.Value.run (F := Ideal) m ρ)

/-- Kernel and reference leave equal arrays: the gradient of the input weights. -/
theorem algebraic_DwIn : algebraic_DwInKernelIdeal_DwInReferenceIdeal
    (hDwInKernelIdeal := DwInKernelIdeal.Gen.facts) (hDwInReferenceIdeal := DwInReferenceIdeal.Gen.facts) := by
  intro m g m' g' _ hargs
  refine ⟨fun c => (DwInKernelIdeal.Gen.dats m 0 c).arrAt 2 DwInKernelIdeal.cfg0.N,
    DwInKernelIdeal.Value.run_blocks (F := Ideal) m g, ?_⟩
  refine (θ_run (DwInReferenceIdeal.defs (F := Ideal)) _ _).mono (fun r h c => ?_)
    (DwInReferenceIdeal.Value.run (F := Ideal) m' g')
  obtain ⟨r0, a0, a1, a2⟩ := h c
  obtain ⟨b0, b1, b2⟩ := hargs c
  refine ⟨r0.trans ?_, a0, a1, a2⟩
  · rw [DwInReferenceIdeal.Read.val_main_v25_eq, b0, b1, b2]
    refine Eq.trans (ext4 fun p q i j => ?_) (DwInKernelIdeal.Blocks.arr_result m c).symm
    exact DwInReferenceIdeal.Rows.result_apply _ _ _ p q i j

theorem frame_ConvInReference : quiescent_ConvInReferenceIdeal (hConvInReferenceIdeal := ConvInReferenceIdeal.Gen.facts) :=
  fun m ρ _ => (θ_run (ConvInReferenceIdeal.defs (F := Ideal)) _ _).mono
    (fun r h => ⟨fun c => (h c).2.2, funext fun sm => nomatch sm.2⟩)
    (ConvInReferenceIdeal.Value.run (F := Ideal) m ρ)

/-- Kernel and reference leave equal arrays: the norm before the convolution and its input product. -/
theorem algebraic_ConvIn : algebraic_ConvInKernelIdeal_ConvInReferenceIdeal
    (hConvInKernelIdeal := ConvInKernelIdeal.Gen.facts) (hConvInReferenceIdeal := ConvInReferenceIdeal.Gen.facts) := by
  intro m g m' g' _ hargs
  refine ⟨fun c => (ConvInKernelIdeal.Gen.dats m 0 c).arrAt 3 ConvInKernelIdeal.cfg0.N,
    fun c => (ConvInKernelIdeal.Gen.dats m 0 c).arrAt 4 ConvInKernelIdeal.cfg0.N,
    ConvInKernelIdeal.Value.run_blocks (F := Ideal) m g, ?_⟩
  refine (θ_run (ConvInReferenceIdeal.defs (F := Ideal)) _ _).mono (fun r h c => ?_)
    (ConvInReferenceIdeal.Value.run (F := Ideal) m' g')
  obtain ⟨r0, r1, a0, a1, a2⟩ := h c
  obtain ⟨b0, b1, b2⟩ := hargs c
  refine ⟨r0.trans ?_, r1.trans ?_, a0, a1, a2⟩
  · rw [ConvInReferenceIdeal.Read.val_main_v13_eq, b0, b1]
    refine Eq.trans (ext2 fun i j => ?_) (ConvInKernelIdeal.Blocks.arr3 m c).symm
    exact ConvInReferenceIdeal.Rows.xn_apply _ _ i j
  · rw [ConvInReferenceIdeal.Read.val_main_v22_eq, b0, b1, b2]
    refine Eq.trans (ext3 fun p i j => ?_) (ConvInKernelIdeal.Blocks.arr4 m c).symm
    exact ConvInReferenceIdeal.Rows.proj_apply _ _ _ p i j

theorem frame_QgInReference : quiescent_QgInReferenceIdeal (hQgInReferenceIdeal := QgInReferenceIdeal.Gen.facts) :=
  fun m ρ _ => (θ_run (QgInReferenceIdeal.defs (F := Ideal)) _ _).mono
    (fun r h => ⟨fun c => (h c).2.2, funext fun sm => nomatch sm.2⟩)
    (QgInReferenceIdeal.Value.run (F := Ideal) m ρ)

/-- Kernel and reference leave equal arrays: the norm before the attention and the products for its queries and gate. -/
theorem algebraic_QgIn : algebraic_QgInKernelIdeal_QgInReferenceIdeal
    (hQgInKernelIdeal := QgInKernelIdeal.Gen.facts) (hQgInReferenceIdeal := QgInReferenceIdeal.Gen.facts) := by
  intro m g m' g' _ hargs
  refine ⟨fun c => (QgInKernelIdeal.Gen.dats m 0 c).arrAt 3 QgInKernelIdeal.cfg0.N,
    fun c => (QgInKernelIdeal.Gen.dats m 0 c).arrAt 4 QgInKernelIdeal.cfg0.N,
    QgInKernelIdeal.Value.run_blocks (F := Ideal) m g, ?_⟩
  refine (θ_run (QgInReferenceIdeal.defs (F := Ideal)) _ _).mono (fun r h c => ?_)
    (QgInReferenceIdeal.Value.run (F := Ideal) m' g')
  obtain ⟨r0, r1, a0, a1, a2⟩ := h c
  obtain ⟨b0, b1, b2⟩ := hargs c
  refine ⟨r0.trans ?_, r1.trans ?_, a0, a1, a2⟩
  · rw [QgInReferenceIdeal.Read.val_main_v13_eq, b0, b1]
    refine Eq.trans (ext2 fun i j => ?_) (QgInKernelIdeal.Blocks.arr3 m c).symm
    exact QgInReferenceIdeal.Rows.xn_apply _ _ i j
  · rw [QgInReferenceIdeal.Read.val_main_v20_eq, b0, b1, b2]
    refine Eq.trans (ext3 fun p i j => ?_) (QgInKernelIdeal.Blocks.arr4 m c).symm
    exact QgInReferenceIdeal.Rows.proj_apply _ _ _ p i j

theorem frame_KvInReference : quiescent_KvInReferenceIdeal (hKvInReferenceIdeal := KvInReferenceIdeal.Gen.facts) :=
  fun m ρ _ => (θ_run (KvInReferenceIdeal.defs (F := Ideal)) _ _).mono
    (fun r h => ⟨fun c => (h c).2.2.2, funext fun sm => nomatch sm.2⟩)
    (KvInReferenceIdeal.Value.run (F := Ideal) m ρ)

/-- Kernel and reference leave equal arrays: the norm before the keys and the products for keys, values and forget gate. -/
theorem algebraic_KvIn : algebraic_KvInKernelIdeal_KvInReferenceIdeal
    (hKvInKernelIdeal := KvInKernelIdeal.Gen.facts) (hKvInReferenceIdeal := KvInReferenceIdeal.Gen.facts) := by
  intro m g m' g' _ hargs
  refine ⟨fun c => (KvInKernelIdeal.Gen.dats m 0 c).arrAt 4 KvInKernelIdeal.cfg0.N,
    fun c => (KvInKernelIdeal.Gen.dats m 0 c).arrAt 5 KvInKernelIdeal.cfg0.N,
    fun c => (KvInKernelIdeal.Gen.dats m 0 c).arrAt 6 KvInKernelIdeal.cfg0.N,
    KvInKernelIdeal.Value.run_blocks (F := Ideal) m g, ?_⟩
  refine (θ_run (KvInReferenceIdeal.defs (F := Ideal)) _ _).mono (fun r h c => ?_)
    (KvInReferenceIdeal.Value.run (F := Ideal) m' g')
  obtain ⟨r0, r1, r2, a0, a1, a2⟩ := h c
  obtain ⟨b0, b1, b2⟩ := hargs c
  refine ⟨r0.trans ?_, r1.trans ?_, r2.trans ?_, a0, a1, a2⟩
  · rw [KvInReferenceIdeal.Read.val_main_v17_eq, b0, b1]
    refine Eq.trans (ext2 fun i j => ?_) (KvInKernelIdeal.Blocks.arr4 m c).symm
    exact KvInReferenceIdeal.Rows.xn_apply _ _ i j
  · rw [KvInReferenceIdeal.Read.val_main_v21_eq, b0, b1, b2]
    refine Eq.trans (ext3 fun p i j => ?_) (KvInKernelIdeal.Blocks.arr5 m c).symm
    exact KvInReferenceIdeal.Rows.proj_apply _ _ _ p i j
  · rw [KvInReferenceIdeal.Read.val_main_v23_eq, b0, b1, b2]
    refine Eq.trans (ext3 fun q i j => ?_) (KvInKernelIdeal.Blocks.arr6 m c).symm
    exact KvInReferenceIdeal.Rows.fl_apply _ _ _ q i j

theorem frame_ConvBwdInReference : quiescent_ConvBwdInReferenceIdeal (hConvBwdInReferenceIdeal := ConvBwdInReferenceIdeal.Gen.facts) :=
  fun m ρ _ => (θ_run (ConvBwdInReferenceIdeal.defs (F := Ideal)) _ _).mono
    (fun r h => ⟨fun c => (h c).2.2, funext fun sm => nomatch sm.2⟩)
    (ConvBwdInReferenceIdeal.Value.run (F := Ideal) m ρ)

/-- Kernel and reference leave equal arrays: the gradient of the convolution's input product and of its norm. -/
theorem algebraic_ConvBwdIn : algebraic_ConvBwdInKernelIdeal_ConvBwdInReferenceIdeal
    (hConvBwdInKernelIdeal := ConvBwdInKernelIdeal.Gen.facts) (hConvBwdInReferenceIdeal := ConvBwdInReferenceIdeal.Gen.facts) := by
  intro m g m' g' _ hargs
  refine ⟨fun c => (ConvBwdInKernelIdeal.Gen.dats m 0 c).arrAt 5 ConvBwdInKernelIdeal.cfg0.N,
    fun c => (ConvBwdInKernelIdeal.Gen.dats m 0 c).arrAt 6 ConvBwdInKernelIdeal.cfg0.N,
    ConvBwdInKernelIdeal.Value.run_blocks (F := Ideal) m g, ?_⟩
  refine (θ_run (ConvBwdInReferenceIdeal.defs (F := Ideal)) _ _).mono (fun r h c => ?_)
    (ConvBwdInReferenceIdeal.Value.run (F := Ideal) m' g')
  obtain ⟨r0, r1, a0, a1, a2, a3, a4⟩ := h c
  obtain ⟨b0, b1, b2, b3, b4⟩ := hargs c
  refine ⟨r0.trans ?_, r1.trans ?_, a0, a1, a2, a3, a4⟩
  · rw [ConvBwdInReferenceIdeal.Read.val_main_v49_eq, b0, b1, b2, b3, b4]
    refine Eq.trans (ext2 fun i j => ?_) (ConvBwdInKernelIdeal.Blocks.arr5 m c).symm
    exact ConvBwdInReferenceIdeal.Rows.dx_apply _ _ _ _ _ i j
  · rw [ConvBwdInReferenceIdeal.Read.val_main_v50_eq, b0, b1, b3]
    refine Eq.trans (ext2 fun i j => ?_) (ConvBwdInKernelIdeal.Blocks.arr6 m c).symm
    exact ConvBwdInReferenceIdeal.Rows.dg_apply _ _ _ i j

theorem frame_QgBwdInReference : quiescent_QgBwdInReferenceIdeal (hQgBwdInReferenceIdeal := QgBwdInReferenceIdeal.Gen.facts) :=
  fun m ρ _ => (θ_run (QgBwdInReferenceIdeal.defs (F := Ideal)) _ _).mono
    (fun r h => ⟨fun c => (h c).2.2, funext fun sm => nomatch sm.2⟩)
    (QgBwdInReferenceIdeal.Value.run (F := Ideal) m ρ)

/-- Kernel and reference leave equal arrays: the gradient of the products for queries and gate and of their norm. -/
theorem algebraic_QgBwdIn : algebraic_QgBwdInKernelIdeal_QgBwdInReferenceIdeal
    (hQgBwdInKernelIdeal := QgBwdInKernelIdeal.Gen.facts) (hQgBwdInReferenceIdeal := QgBwdInReferenceIdeal.Gen.facts) := by
  intro m g m' g' _ hargs
  refine ⟨fun c => (QgBwdInKernelIdeal.Gen.dats m 0 c).arrAt 6 QgBwdInKernelIdeal.cfg0.N,
    fun c => (QgBwdInKernelIdeal.Gen.dats m 0 c).arrAt 7 QgBwdInKernelIdeal.cfg0.N,
    QgBwdInKernelIdeal.Value.run_blocks (F := Ideal) m g, ?_⟩
  refine (θ_run (QgBwdInReferenceIdeal.defs (F := Ideal)) _ _).mono (fun r h c => ?_)
    (QgBwdInReferenceIdeal.Value.run (F := Ideal) m' g')
  obtain ⟨r0, r1, a0, a1, a2, a3, a4, a5⟩ := h c
  obtain ⟨b0, b1, b2, b3, b4, b5⟩ := hargs c
  refine ⟨r0.trans ?_, r1.trans ?_, a0, a1, a2, a3, a4, a5⟩
  · rw [QgBwdInReferenceIdeal.Read.val_main_v45_eq, b0, b1, b2, b3, b4, b5]
    refine Eq.trans (ext2 fun i j => ?_) (QgBwdInKernelIdeal.Blocks.arr6 m c).symm
    exact QgBwdInReferenceIdeal.Rows.dx_apply _ _ _ _ _ _ i j
  · rw [QgBwdInReferenceIdeal.Read.val_main_v46_eq, b0, b1, b2, b4]
    refine Eq.trans (ext2 fun i j => ?_) (QgBwdInKernelIdeal.Blocks.arr7 m c).symm
    exact QgBwdInReferenceIdeal.Rows.dg_apply _ _ _ _ i j

theorem frame_KvBwdInReference : quiescent_KvBwdInReferenceIdeal (hKvBwdInReferenceIdeal := KvBwdInReferenceIdeal.Gen.facts) :=
  fun m ρ _ => (θ_run (KvBwdInReferenceIdeal.defs (F := Ideal)) _ _).mono
    (fun r h => ⟨fun c => (h c).2.2, funext fun sm => nomatch sm.2⟩)
    (KvBwdInReferenceIdeal.Value.run (F := Ideal) m ρ)

/-- Kernel and reference leave equal arrays: the gradient of the products for keys, values and forget gate and of their norm. -/
theorem algebraic_KvBwdIn : algebraic_KvBwdInKernelIdeal_KvBwdInReferenceIdeal
    (hKvBwdInKernelIdeal := KvBwdInKernelIdeal.Gen.facts) (hKvBwdInReferenceIdeal := KvBwdInReferenceIdeal.Gen.facts) := by
  intro m g m' g' _ hargs
  refine ⟨fun c => (KvBwdInKernelIdeal.Gen.dats m 0 c).arrAt 8 KvBwdInKernelIdeal.cfg0.N,
    fun c => (KvBwdInKernelIdeal.Gen.dats m 0 c).arrAt 9 KvBwdInKernelIdeal.cfg0.N,
    KvBwdInKernelIdeal.Value.run_blocks (F := Ideal) m g, ?_⟩
  refine (θ_run (KvBwdInReferenceIdeal.defs (F := Ideal)) _ _).mono (fun r h c => ?_)
    (KvBwdInReferenceIdeal.Value.run (F := Ideal) m' g')
  obtain ⟨r0, r1, a0, a1, a2, a3, a4, a5, a6⟩ := h c
  obtain ⟨b0, b1, b2, b3, b4, b5, b6⟩ := hargs c
  refine ⟨r0.trans ?_, r1.trans ?_, a0, a1, a2, a3, a4, a5, a6⟩
  · rw [KvBwdInReferenceIdeal.Read.val_main_v52_eq, b0, b1, b2, b3, b4, b5, b6]
    refine Eq.trans (ext2 fun i j => ?_) (KvBwdInKernelIdeal.Blocks.arr8 m c).symm
    exact KvBwdInReferenceIdeal.Rows.dx_apply _ _ _ _ _ _ _ i j
  · rw [KvBwdInReferenceIdeal.Read.val_main_v53_eq, b0, b1, b2, b3, b5]
    refine Eq.trans (ext2 fun i j => ?_) (KvBwdInKernelIdeal.Blocks.arr9 m c).symm
    exact KvBwdInReferenceIdeal.Rows.dg_apply _ _ _ _ _ i j

theorem frame_ConvDwReference : quiescent_ConvDwReferenceIdeal (hConvDwReferenceIdeal := ConvDwReferenceIdeal.Gen.facts) :=
  fun m ρ _ => (θ_run (ConvDwReferenceIdeal.defs (F := Ideal)) _ _).mono
    (fun r h => ⟨fun c => (h c).2, funext fun sm => nomatch sm.2⟩)
    (ConvDwReferenceIdeal.Value.run (F := Ideal) m ρ)

/-- Kernel and reference leave equal arrays: the gradient of the convolution's input weights. -/
theorem algebraic_ConvDw : algebraic_ConvDwKernelIdeal_ConvDwReferenceIdeal
    (hConvDwKernelIdeal := ConvDwKernelIdeal.Gen.facts) (hConvDwReferenceIdeal := ConvDwReferenceIdeal.Gen.facts) := by
  intro m g m' g' _ hargs
  refine ⟨fun c => (ConvDwKernelIdeal.Gen.dats m 0 c).arrAt 2 ConvDwKernelIdeal.cfg0.N,
    ConvDwKernelIdeal.Blocks.run_named m g, ?_⟩
  refine (θ_run (ConvDwReferenceIdeal.defs (F := Ideal)) _ _).mono (fun r h c => ?_)
    (ConvDwReferenceIdeal.Value.run (F := Ideal) m' g')
  obtain ⟨r0, a0, a1, a2⟩ := h c
  obtain ⟨b0, b1, b2⟩ := hargs c
  refine ⟨r0.trans ?_, a0, a1, a2⟩
  · rw [ConvDwReferenceIdeal.Read.val_main_v33_eq, b0, b1, b2]
    refine Eq.trans (ext4 fun p q i j => ?_) (ConvDwKernelIdeal.Blocks.arr_result m c).symm
    exact ConvDwReferenceIdeal.Rows.result_apply _ _ _ p q i j

theorem frame_QgDwReference : quiescent_QgDwReferenceIdeal (hQgDwReferenceIdeal := QgDwReferenceIdeal.Gen.facts) :=
  fun m ρ _ => (θ_run (QgDwReferenceIdeal.defs (F := Ideal)) _ _).mono
    (fun r h => ⟨fun c => (h c).2, funext fun sm => nomatch sm.2⟩)
    (QgDwReferenceIdeal.Value.run (F := Ideal) m ρ)

/-- Kernel and reference leave equal arrays: the gradient of the weights for queries and gate. -/
theorem algebraic_QgDw : algebraic_QgDwKernelIdeal_QgDwReferenceIdeal
    (hQgDwKernelIdeal := QgDwKernelIdeal.Gen.facts) (hQgDwReferenceIdeal := QgDwReferenceIdeal.Gen.facts) := by
  intro m g m' g' _ hargs
  refine ⟨fun c => (QgDwKernelIdeal.Gen.dats m 0 c).arrAt 3 QgDwKernelIdeal.cfg0.N,
    QgDwKernelIdeal.Blocks.run_named m g, ?_⟩
  refine (θ_run (QgDwReferenceIdeal.defs (F := Ideal)) _ _).mono (fun r h c => ?_)
    (QgDwReferenceIdeal.Value.run (F := Ideal) m' g')
  obtain ⟨r0, a0, a1, a2, a3⟩ := h c
  obtain ⟨b0, b1, b2, b3⟩ := hargs c
  refine ⟨r0.trans ?_, a0, a1, a2, a3⟩
  · rw [QgDwReferenceIdeal.Read.val_main_v28_eq, b0, b1, b2, b3]
    refine Eq.trans (ext4 fun p q i j => ?_) (QgDwKernelIdeal.Blocks.arr_result m c).symm
    exact QgDwReferenceIdeal.Rows.result_apply _ _ _ _ p q i j

theorem frame_MixBwdReference : quiescent_MixBwdReferenceIdeal (hMixBwdReferenceIdeal := MixBwdReferenceIdeal.Gen.facts) :=
  fun m ρ _ => (θ_run (MixBwdReferenceIdeal.defs (F := Ideal)) _ _).mono
    (fun r h => ⟨fun c => (h c).2.2.2, funext fun sm => nomatch sm.2⟩)
    (MixBwdReferenceIdeal.Value.run (F := Ideal) m ρ)

/-- Kernel and reference leave equal arrays: the gradient of the mixing layers' output product and of the norm after it. -/
theorem algebraic_MixBwd : algebraic_MixBwdKernelIdeal_MixBwdReferenceIdeal
    (hMixBwdKernelIdeal := MixBwdKernelIdeal.Gen.facts) (hMixBwdReferenceIdeal := MixBwdReferenceIdeal.Gen.facts) := by
  intro m g m' g' _ hargs
  refine ⟨fun c => (MixBwdKernelIdeal.Gen.dats m 0 c).arrAt 4 MixBwdKernelIdeal.cfg0.N,
    fun c => (MixBwdKernelIdeal.Gen.dats m 0 c).arrAt 5 MixBwdKernelIdeal.cfg0.N,
    fun c => (MixBwdKernelIdeal.Gen.dats m 0 c).arrAt 6 MixBwdKernelIdeal.cfg0.N,
    MixBwdKernelIdeal.Value.run_blocks (F := Ideal) m g, ?_⟩
  refine (θ_run (MixBwdReferenceIdeal.defs (F := Ideal)) _ _).mono (fun r h c => ?_)
    (MixBwdReferenceIdeal.Value.run (F := Ideal) m' g')
  obtain ⟨r0, r1, r2, a0, a1, a2, a3⟩ := h c
  obtain ⟨b0, b1, b2, b3⟩ := hargs c
  refine ⟨r0.trans ?_, r1.trans ?_, r2.trans ?_, a0, a1, a2, a3⟩
  · rw [MixBwdReferenceIdeal.Read.val_main_v39_eq, b0, b1, b2, b3]
    refine Eq.trans (ext2 fun i j => ?_) (MixBwdKernelIdeal.Blocks.arr4 m c).symm
    exact MixBwdReferenceIdeal.Rows.dm_result _ _ _ _ i j
  · rw [MixBwdReferenceIdeal.Read.val_main_v40_eq, b0, b1, b3]
    refine Eq.trans (ext2 fun i j => ?_) (MixBwdKernelIdeal.Blocks.arr5 m c).symm
    exact MixBwdReferenceIdeal.Rows.dg_apply _ _ _ i j
  · rw [MixBwdReferenceIdeal.Read.val_main_v43_eq, b0, b1, b2, b3]
    refine Eq.trans (ext3 fun q i j => ?_) (MixBwdKernelIdeal.Blocks.arr6 m c).symm
    exact MixBwdReferenceIdeal.Rows.dz_apply _ _ _ _ q i j

theorem frame_MixDwReference : quiescent_MixDwReferenceIdeal (hMixDwReferenceIdeal := MixDwReferenceIdeal.Gen.facts) :=
  fun m ρ _ => (θ_run (MixDwReferenceIdeal.defs (F := Ideal)) _ _).mono
    (fun r h => ⟨fun c => (h c).2, funext fun sm => nomatch sm.2⟩)
    (MixDwReferenceIdeal.Value.run (F := Ideal) m ρ)

/-- Kernel and reference leave equal arrays: the gradient of the output weights of convolution and attention. -/
theorem algebraic_MixDw : algebraic_MixDwKernelIdeal_MixDwReferenceIdeal
    (hMixDwKernelIdeal := MixDwKernelIdeal.Gen.facts) (hMixDwReferenceIdeal := MixDwReferenceIdeal.Gen.facts) := by
  intro m g m' g' _ hargs
  refine ⟨fun c => (MixDwKernelIdeal.Gen.dats m 0 c).arrAt 2 MixDwKernelIdeal.cfg0.N,
    MixDwKernelIdeal.Value.run_blocks (F := Ideal) m g, ?_⟩
  refine (θ_run (MixDwReferenceIdeal.defs (F := Ideal)) _ _).mono (fun r h c => ?_)
    (MixDwReferenceIdeal.Value.run (F := Ideal) m' g')
  obtain ⟨r0, a0, a1⟩ := h c
  obtain ⟨b0, b1⟩ := hargs c
  refine ⟨r0.trans ?_, a0, a1⟩
  · rw [MixDwReferenceIdeal.Read.val_main_v8_eq, b0, b1]
    refine Eq.trans (ext4 fun p q i j => ?_) (MixDwKernelIdeal.Blocks.arr_result m c).symm
    exact MixDwReferenceIdeal.Rows.result_apply _ _ p q i j

theorem frame_ForgetDwReference : quiescent_ForgetDwReferenceIdeal (hForgetDwReferenceIdeal := ForgetDwReferenceIdeal.Gen.facts) :=
  fun m ρ _ => (θ_run (ForgetDwReferenceIdeal.defs (F := Ideal)) _ _).mono
    (fun r h => ⟨fun c => (h c).2, funext fun sm => nomatch sm.2⟩)
    (ForgetDwReferenceIdeal.Value.run (F := Ideal) m ρ)

/-- Kernel and reference leave equal arrays: the gradient of the forget gate's weights. -/
theorem algebraic_ForgetDw : algebraic_ForgetDwKernelIdeal_ForgetDwReferenceIdeal
    (hForgetDwKernelIdeal := ForgetDwKernelIdeal.Gen.facts) (hForgetDwReferenceIdeal := ForgetDwReferenceIdeal.Gen.facts) := by
  intro m g m' g' _ hargs
  refine ⟨fun c => (ForgetDwKernelIdeal.Gen.dats m 0 c).arrAt 2 ForgetDwKernelIdeal.cfg0.N,
    ForgetDwKernelIdeal.Value.run_blocks (F := Ideal) m g, ?_⟩
  refine (θ_run (ForgetDwReferenceIdeal.defs (F := Ideal)) _ _).mono (fun r h c => ?_)
    (ForgetDwReferenceIdeal.Value.run (F := Ideal) m' g')
  obtain ⟨r0, a0, a1, a2⟩ := h c
  obtain ⟨b0, b1, b2⟩ := hargs c
  refine ⟨r0.trans ?_, a0, a1, a2⟩
  · rw [ForgetDwReferenceIdeal.Read.val_main_v19_eq, b0, b1, b2]
    refine Eq.trans (ext4 fun p q i j => ?_) (ForgetDwKernelIdeal.Blocks.arr_result m c).symm
    exact ForgetDwReferenceIdeal.Rows.result_apply _ _ _ p q i j

theorem frame_GateOutReference : quiescent_GateOutReferenceIdeal (hGateOutReferenceIdeal := GateOutReferenceIdeal.Gen.facts) :=
  fun m ρ _ => (θ_run (GateOutReferenceIdeal.defs (F := Ideal)) _ _).mono
    (fun r h => ⟨fun c => (h c).2.2.2, funext fun sm => nomatch sm.2⟩)
    (GateOutReferenceIdeal.Value.run (F := Ideal) m ρ)

/-- Kernel and reference leave equal arrays: the attention's output gate, its output product and the norm after it. -/
theorem algebraic_GateOut : algebraic_GateOutKernelIdeal_GateOutReferenceIdeal
    (hGateOutKernelIdeal := GateOutKernelIdeal.Gen.facts) (hGateOutReferenceIdeal := GateOutReferenceIdeal.Gen.facts) := by
  intro m g m' g' _ hargs
  refine ⟨fun c => (GateOutKernelIdeal.Gen.dats m 0 c).arrAt 5 GateOutKernelIdeal.cfg0.N,
    fun c => (GateOutKernelIdeal.Gen.dats m 0 c).arrAt 6 GateOutKernelIdeal.cfg0.N,
    fun c => (GateOutKernelIdeal.Gen.dats m 0 c).arrAt 7 GateOutKernelIdeal.cfg0.N,
    GateOutKernelIdeal.Value.run_blocks (F := Ideal) m g, ?_⟩
  refine (θ_run (GateOutReferenceIdeal.defs (F := Ideal)) _ _).mono (fun r h c => ?_)
    (GateOutReferenceIdeal.Value.run (F := Ideal) m' g')
  obtain ⟨r0, r1, r2, a0, a1, a2, a3, a4⟩ := h c
  obtain ⟨b0, b1, b2, b3, b4⟩ := hargs c
  refine ⟨r0.trans ?_, r1.trans ?_, r2.trans ?_, a0, a1, a2, a3, a4⟩
  · rw [GateOutReferenceIdeal.Read.val_main_v12_eq, b1, b2]
    refine Eq.trans (ext3 fun q i j => ?_) (GateOutKernelIdeal.Blocks.arr5 m c).symm
    exact GateOutReferenceIdeal.Rows.z_result _ _ q i j
  · rw [GateOutReferenceIdeal.Read.val_main_v10_eq, b1, b2, b4]
    refine Eq.trans (ext2 fun i j => ?_) (GateOutKernelIdeal.Blocks.arr6 m c).symm
    exact GateOutReferenceIdeal.Rows.h_apply _ _ _ i j
  · rw [GateOutReferenceIdeal.Read.val_main_v26_eq, b0, b1, b2, b3, b4]
    refine Eq.trans (ext2 fun i j => ?_) (GateOutKernelIdeal.Blocks.arr7 m c).symm
    exact GateOutReferenceIdeal.Rows.y_apply _ _ _ _ _ i j

theorem frame_ConvOutReference : quiescent_ConvOutReferenceIdeal (hConvOutReferenceIdeal := ConvOutReferenceIdeal.Gen.facts) :=
  fun m ρ _ => (θ_run (ConvOutReferenceIdeal.defs (F := Ideal)) _ _).mono
    (fun r h => ⟨fun c => (h c).2.2.2, funext fun sm => nomatch sm.2⟩)
    (ConvOutReferenceIdeal.Value.run (F := Ideal) m ρ)

/-- Kernel and reference leave equal arrays: the short convolution, its output product and the norm after it. -/
theorem algebraic_ConvOut : algebraic_ConvOutKernelIdeal_ConvOutReferenceIdeal
    (hConvOutKernelIdeal := ConvOutKernelIdeal.Gen.facts) (hConvOutReferenceIdeal := ConvOutReferenceIdeal.Gen.facts) := by
  intro m g m' g' _ hargs
  refine ⟨fun c => (ConvOutKernelIdeal.Gen.dats m 0 c).arrAt 9 ConvOutKernelIdeal.cfg0.N,
    fun c => (ConvOutKernelIdeal.Gen.dats m 0 c).arrAt 10 ConvOutKernelIdeal.cfg0.N,
    fun c => (ConvOutKernelIdeal.Gen.dats m 0 c).arrAt 11 ConvOutKernelIdeal.cfg0.N,
    ConvOutKernelIdeal.Value.run_blocks (F := Ideal) m g, ?_⟩
  refine (θ_run (ConvOutReferenceIdeal.defs (F := Ideal)) _ _).mono (fun r h c => ?_)
    (ConvOutReferenceIdeal.Value.run (F := Ideal) m' g')
  obtain ⟨r0, r1, r2, a0, a1, a2, a3, a4⟩ := h c
  obtain ⟨b0, b1, b2, b3, b4⟩ := hargs c
  refine ⟨r0.trans ?_, r1.trans ?_, r2.trans ?_, a0, a1, a2, a3, a4⟩
  · rw [ConvOutReferenceIdeal.Read.val_main_v40_eq, b1, b2]
    refine Eq.trans (ext3 fun q i j => ?_) (ConvOutKernelIdeal.Blocks.arr9 m c).symm
    exact ConvOutReferenceIdeal.Rows.z_result _ _ q i j
  · rw [ConvOutReferenceIdeal.Read.val_main_v38_eq, b1, b2, b4]
    refine Eq.trans (ext2 fun i j => ?_) (ConvOutKernelIdeal.Blocks.arr10 m c).symm
    exact ConvOutReferenceIdeal.Rows.h_apply _ _ _ i j
  · rw [ConvOutReferenceIdeal.Read.val_main_v54_eq, b0, b1, b2, b3, b4]
    refine Eq.trans (ext2 fun i j => ?_) (ConvOutKernelIdeal.Blocks.arr11 m c).symm
    exact ConvOutReferenceIdeal.Rows.y_apply _ _ _ _ _ i j

theorem frame_LossOutReference : quiescent_LossOutReferenceIdeal (hLossOutReferenceIdeal := LossOutReferenceIdeal.Gen.facts) :=
  fun m ρ _ => (θ_run (LossOutReferenceIdeal.defs (F := Ideal)) _ _).mono
    (fun r h => ⟨fun c => (h c).2.2.2.2, funext fun sm => nomatch sm.2⟩)
    (LossOutReferenceIdeal.Value.run (F := Ideal) m ρ)

/-- Kernel and reference leave equal arrays: the last feed-forward layer with the loss and its gradient. -/
theorem algebraic_LossOut : algebraic_LossOutKernelIdeal_LossOutReferenceIdeal
    (hLossOutKernelIdeal := LossOutKernelIdeal.Gen.facts) (hLossOutReferenceIdeal := LossOutReferenceIdeal.Gen.facts) := by
  intro m g m' g' _ hargs
  refine ⟨fun c => (LossOutKernelIdeal.Gen.dats m 0 c).arrAt 5 LossOutKernelIdeal.cfg0.N,
    fun c => (LossOutKernelIdeal.Gen.dats m 0 c).arrAt 6 LossOutKernelIdeal.cfg0.N,
    fun c => (LossOutKernelIdeal.Gen.dats m 0 c).arrAt 7 LossOutKernelIdeal.cfg0.N,
    fun c => (LossOutKernelIdeal.Gen.dats m 0 c).arrAt 8 LossOutKernelIdeal.cfg0.N,
    LossOutKernelIdeal.Value.run_blocks (F := Ideal) m g, ?_⟩
  refine (θ_run (LossOutReferenceIdeal.defs (F := Ideal)) _ _).mono (fun r h c => ?_)
    (LossOutReferenceIdeal.Value.run (F := Ideal) m' g')
  obtain ⟨r0, r1, r2, r3, a0, a1, a2, a3, a4⟩ := h c
  obtain ⟨b0, b1, b2, b3, b4⟩ := hargs c
  refine ⟨r0.trans ?_, r1.trans ?_, r2.trans ?_, r3.trans ?_, a0, a1, a2, a3, a4⟩
  · rw [LossOutReferenceIdeal.Read.val_main_v40_eq, b1]
    refine Eq.trans (ext3 fun p i j => ?_) (LossOutKernelIdeal.Blocks.arr5 m c).symm
    exact LossOutReferenceIdeal.Rows.act_apply _ p i j
  · rw [LossOutReferenceIdeal.Read.val_main_v7_eq, b1, b3]
    refine Eq.trans (ext2 fun i j => ?_) (LossOutKernelIdeal.Blocks.arr6 m c).symm
    exact LossOutReferenceIdeal.Rows.h_apply _ _ i j
  · rw [LossOutReferenceIdeal.Read.val_main_v38_eq, b0, b1, b2, b3, b4]
    refine Eq.trans (ext2 fun i j => ?_) (LossOutKernelIdeal.Blocks.arr7 m c).symm
    exact LossOutReferenceIdeal.Rows.grad_apply _ _ _ _ _ i j
  · rw [LossOutReferenceIdeal.Read.val_main_v41_eq, b0, b1, b2, b3, b4]
    refine Eq.trans (ext2 fun i j => ?_) (LossOutKernelIdeal.Blocks.arr8 m c).symm
    exact LossOutReferenceIdeal.Rows.loss_apply _ _ _ _ _ i j

theorem claim : Cert.Claim :=
  ⟨ConvKernel.Gen.facts,
    ConvKernelIdeal.Gen.facts,
    ConvReferenceIdeal.Gen.facts,
    InKernel.Gen.facts,
    InKernelIdeal.Gen.facts,
    InReferenceIdeal.Gen.facts,
    OutKernel.Gen.facts,
    OutKernelIdeal.Gen.facts,
    OutReferenceIdeal.Gen.facts,
    BwdOutKernel.Gen.facts,
    BwdOutKernelIdeal.Gen.facts,
    BwdOutReferenceIdeal.Gen.facts,
    BwdInKernel.Gen.facts,
    BwdInKernelIdeal.Gen.facts,
    BwdInReferenceIdeal.Gen.facts,
    DwOutKernel.Gen.facts,
    DwOutKernelIdeal.Gen.facts,
    DwOutReferenceIdeal.Gen.facts,
    DwInKernel.Gen.facts,
    DwInKernelIdeal.Gen.facts,
    DwInReferenceIdeal.Gen.facts,
    ConvInKernel.Gen.facts,
    ConvInKernelIdeal.Gen.facts,
    ConvInReferenceIdeal.Gen.facts,
    QgInKernel.Gen.facts,
    QgInKernelIdeal.Gen.facts,
    QgInReferenceIdeal.Gen.facts,
    KvInKernel.Gen.facts,
    KvInKernelIdeal.Gen.facts,
    KvInReferenceIdeal.Gen.facts,
    ConvBwdInKernel.Gen.facts,
    ConvBwdInKernelIdeal.Gen.facts,
    ConvBwdInReferenceIdeal.Gen.facts,
    QgBwdInKernel.Gen.facts,
    QgBwdInKernelIdeal.Gen.facts,
    QgBwdInReferenceIdeal.Gen.facts,
    KvBwdInKernel.Gen.facts,
    KvBwdInKernelIdeal.Gen.facts,
    KvBwdInReferenceIdeal.Gen.facts,
    ConvDwKernel.Gen.facts,
    ConvDwKernelIdeal.Gen.facts,
    ConvDwReferenceIdeal.Gen.facts,
    QgDwKernel.Gen.facts,
    QgDwKernelIdeal.Gen.facts,
    QgDwReferenceIdeal.Gen.facts,
    MixBwdKernel.Gen.facts,
    MixBwdKernelIdeal.Gen.facts,
    MixBwdReferenceIdeal.Gen.facts,
    MixDwKernel.Gen.facts,
    MixDwKernelIdeal.Gen.facts,
    MixDwReferenceIdeal.Gen.facts,
    GateOutKernel.Gen.facts,
    GateOutKernelIdeal.Gen.facts,
    GateOutReferenceIdeal.Gen.facts,
    ConvOutKernel.Gen.facts,
    ConvOutKernelIdeal.Gen.facts,
    ConvOutReferenceIdeal.Gen.facts,
    LossOutKernel.Gen.facts,
    LossOutKernelIdeal.Gen.facts,
    LossOutReferenceIdeal.Gen.facts,
    AdamOwKernel.Gen.facts,
    AdamOwKernelIdeal.Gen.facts,
    AdamOwReferenceIdeal.Gen.facts,
    AdamCiKernel.Gen.facts,
    AdamCiKernelIdeal.Gen.facts,
    AdamCiReferenceIdeal.Gen.facts,
    AdamQgKernel.Gen.facts,
    AdamQgKernelIdeal.Gen.facts,
    AdamQgReferenceIdeal.Gen.facts,
    AdamKvKernel.Gen.facts,
    AdamKvKernelIdeal.Gen.facts,
    AdamKvReferenceIdeal.Gen.facts,
    AdamFoKernel.Gen.facts,
    AdamFoKernelIdeal.Gen.facts,
    AdamFoReferenceIdeal.Gen.facts,
    AdamFiKernel.Gen.facts,
    AdamFiKernelIdeal.Gen.facts,
    AdamFiReferenceIdeal.Gen.facts,
    ForgetDwKernel.Gen.facts,
    ForgetDwKernelIdeal.Gen.facts,
    ForgetDwReferenceIdeal.Gen.facts,
    facts_finite,
    facts_placed_ow,
    facts_placed_ci,
    facts_placed_qg,
    facts_placed_kv,
    facts_placed_fo,
    facts_placed_fi,
    fun m g _ => ConvKernel.Gen.frame m g,
    fun m g _ => ConvKernelIdeal.Gen.frame m g,
    frame_convReference,
    fun m g _ => InKernel.Gen.frame m g,
    fun m g _ => InKernelIdeal.Gen.frame m g,
    frame_InReference,
    fun m g _ => OutKernel.Gen.frame m g,
    fun m g _ => OutKernelIdeal.Gen.frame m g,
    frame_OutReference,
    fun m g _ => BwdOutKernel.Gen.frame m g,
    fun m g _ => BwdOutKernelIdeal.Gen.frame m g,
    fun m g _ => BwdOutKernelIdeal.Gen.frame m g,
    frame_BwdOutReference,
    fun m ρ _ => frame_BwdOutReference m ρ trivial,
    fun m g _ => BwdInKernel.Gen.frame m g,
    fun m g _ => BwdInKernelIdeal.Gen.frame m g,
    frame_BwdInReference,
    fun m g _ => DwOutKernel.Gen.frame m g,
    fun m g _ => DwOutKernelIdeal.Gen.frame m g,
    frame_DwOutReference,
    fun m g _ => DwInKernel.Gen.frame m g,
    fun m g _ => DwInKernelIdeal.Gen.frame m g,
    frame_DwInReference,
    fun m g _ => ConvInKernel.Gen.frame m g,
    fun m g _ => ConvInKernelIdeal.Gen.frame m g,
    frame_ConvInReference,
    fun m g _ => QgInKernel.Gen.frame m g,
    fun m g _ => QgInKernelIdeal.Gen.frame m g,
    frame_QgInReference,
    fun m g _ => KvInKernel.Gen.frame m g,
    fun m g _ => KvInKernelIdeal.Gen.frame m g,
    frame_KvInReference,
    fun m g _ => ConvBwdInKernel.Gen.frame m g,
    fun m g _ => ConvBwdInKernelIdeal.Gen.frame m g,
    frame_ConvBwdInReference,
    fun m g _ => QgBwdInKernel.Gen.frame m g,
    fun m g _ => QgBwdInKernelIdeal.Gen.frame m g,
    frame_QgBwdInReference,
    fun m g _ => KvBwdInKernel.Gen.frame m g,
    fun m g _ => KvBwdInKernelIdeal.Gen.frame m g,
    frame_KvBwdInReference,
    fun m g _ => ConvDwKernel.Gen.frame m g,
    fun m g _ => ConvDwKernelIdeal.Gen.frame m g,
    frame_ConvDwReference,
    fun m g _ => QgDwKernel.Gen.frame m g,
    fun m g _ => QgDwKernelIdeal.Gen.frame m g,
    frame_QgDwReference,
    fun m g _ => MixBwdKernel.Gen.frame m g,
    fun m g _ => MixBwdKernelIdeal.Gen.frame m g,
    frame_MixBwdReference,
    fun m g _ => MixDwKernel.Gen.frame m g,
    fun m g _ => MixDwKernelIdeal.Gen.frame m g,
    frame_MixDwReference,
    fun m g _ => GateOutKernel.Gen.frame m g,
    fun m g _ => GateOutKernelIdeal.Gen.frame m g,
    frame_GateOutReference,
    fun m g _ => ConvOutKernel.Gen.frame m g,
    fun m g _ => ConvOutKernelIdeal.Gen.frame m g,
    frame_ConvOutReference,
    fun m g _ => LossOutKernel.Gen.frame m g,
    fun m g _ => LossOutKernelIdeal.Gen.frame m g,
    frame_LossOutReference,
    frame_AdamOw,
    frame_AdamOwIdeal,
    frame_AdamOwReference,
    fun m ρ _ => frame_AdamOwReference m ρ trivial,
    frame_AdamCi,
    frame_AdamCiIdeal,
    frame_AdamCiReference,
    fun m ρ _ => frame_AdamCiReference m ρ trivial,
    frame_AdamQg,
    frame_AdamQgIdeal,
    frame_AdamQgReference,
    fun m ρ _ => frame_AdamQgReference m ρ trivial,
    frame_AdamKv,
    frame_AdamKvIdeal,
    frame_AdamKvReference,
    fun m ρ _ => frame_AdamKvReference m ρ trivial,
    frame_AdamFo,
    frame_AdamFoIdeal,
    frame_AdamFoReference,
    fun m ρ _ => frame_AdamFoReference m ρ trivial,
    frame_AdamFi,
    frame_AdamFiIdeal,
    frame_AdamFiReference,
    fun m ρ _ => frame_AdamFiReference m ρ trivial,
    fun m g _ => ForgetDwKernel.Gen.frame m g,
    fun m g _ => ForgetDwKernelIdeal.Gen.frame m g,
    frame_ForgetDwReference,
    trivial,
    algebraic_conv,
    trivial,
    algebraic_In,
    trivial,
    algebraic_Out,
    trivial,
    algebraic_BwdOut,
    trivial,
    algebraic_BwdIn,
    trivial,
    algebraic_DwOut,
    trivial,
    algebraic_DwIn,
    trivial,
    algebraic_ConvIn,
    trivial,
    algebraic_QgIn,
    trivial,
    algebraic_KvIn,
    trivial,
    algebraic_ConvBwdIn,
    trivial,
    algebraic_QgBwdIn,
    trivial,
    algebraic_KvBwdIn,
    trivial,
    algebraic_ConvDw,
    trivial,
    algebraic_QgDw,
    trivial,
    algebraic_MixBwd,
    trivial,
    algebraic_MixDw,
    trivial,
    algebraic_GateOut,
    trivial,
    algebraic_ConvOut,
    trivial,
    algebraic_LossOut,
    trivial,
    algebraic_AdamOw,
    trivial,
    algebraic_AdamCi,
    trivial,
    algebraic_AdamQg,
    trivial,
    algebraic_AdamKv,
    trivial,
    algebraic_AdamFo,
    trivial,
    algebraic_AdamFi,
    trivial,
    algebraic_ForgetDw⟩

end Cert.Proof

end
